-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)) (v5 : (c : Dev Cert.Kernel4Ideal.nD) → Buf (Elt Ideal) ((c.tc : Thread Cert.Kernel4Ideal.nD Cert.Kernel4Ideal.τ).loc Cert.Kernel4Ideal.main_v3_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_v3_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_v66) = v1 c
          ∧ r.2.mem ((c.tc : Thread Cert.Reference4Ideal.nD Cert.Reference4Ideal.τ).loc Cert.Reference4Ideal.main_v67) = v2 c
          ∧ r.2.mem ((c.tc : Thread Cert.Reference4Ideal.nD Cert.Reference4Ideal.τ).loc Cert.Reference4Ideal.main_v74) = v3 c
          ∧ r.2.mem ((c.tc : Thread Cert.Reference4Ideal.nD Cert.Reference4Ideal.τ).loc Cert.Reference4Ideal.main_v76) = v4 c
          ∧ r.2.mem ((c.tc : Thread Cert.Reference4Ideal.nD Cert.Reference4Ideal.τ).loc Cert.Reference4Ideal.main_v78) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)) (v5 : (c : Dev Cert.Kernel5Ideal.nD) → Buf (Elt Ideal) ((c.tc : Thread Cert.Kernel5Ideal.nD Cert.Kernel5Ideal.τ).loc Cert.Kernel5Ideal.main_v3_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_v3_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v77) = v1 c
          ∧ r.2.mem ((c.tc : Thread Cert.Reference5Ideal.nD Cert.Reference5Ideal.τ).loc Cert.Reference5Ideal.main_v78) = v2 c
          ∧ r.2.mem ((c.tc : Thread Cert.Reference5Ideal.nD Cert.Reference5Ideal.τ).loc Cert.Reference5Ideal.main_v79) = v3 c
          ∧ r.2.mem ((c.tc : Thread Cert.Reference5Ideal.nD Cert.Reference5Ideal.τ).loc Cert.Reference5Ideal.main_v81) = v4 c
          ∧ r.2.mem ((c.tc : Thread Cert.Reference5Ideal.nD Cert.Reference5Ideal.τ).loc Cert.Reference5Ideal.main_v73) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S4x8192x512 : Shape := ⟨3, ![4, 8192, 512]⟩
abbrev S4x32x8x256 : Shape := ⟨4, ![4, 32, 8, 256]⟩
abbrev S_ : Shape := ⟨0, ![]⟩
abbrev S4x32x4x256 : Shape := ⟨4, ![4, 32, 4, 256]⟩

class Facts : Prop where
  bitsLt_bf16_f32 : FTy.bits .bf16 < FTy.bits .f32
  bcast_S_S4x8192x512 : S_.BroadcastsInDim S4x8192x512 (![] : Fin 0 → Fin S4x8192x512.rank)
  slices_S4x32x8x256_S4x32x4x256_0_0_0_0 : S4x32x8x256.Slices ![0, 0, 0, 0] S4x32x4x256
  bcast_S_S4x32x4x256 : S_.BroadcastsInDim S4x32x4x256 (![] : Fin 0 → Fin S4x32x4x256.rank)

variable [Facts]

def fn {F : FTy → Type} [FloatOps F] (main_arg0 : FVec F S4x8192x512 .bf16) (main_arg1 : FVec F S4x8192x512 .bf16) (main_arg2 : FVec F S4x8192x512 .bf16) (main_arg3 : FVec F S4x32x8x256 .f32) (main_arg4 : FVec F S4x8192x512 .bf16) : IVec S4x8192x512 1 × IVec S4x8192x512 1 × IVec S4x32x4x256 1 :=
  let main_v0 : FVec F S4x8192x512 .f32 := (extf .f32 · bitsLt_bf16_f32) main_arg0
  let main_cst : FVec F S_ .f32 := constant S_ .f32 0xFF800000#32
  let main_v1 : FVec F S4x8192x512 .f32 := broadcastInDim S4x8192x512 ![] bcast_S_S4x8192x512 main_cst
  let main_v2 : IVec S4x8192x512 1 := cmpf .ogt main_v0 main_v1
  let main_cst_0 : FVec F S_ .f32 := constant S_ .f32 0x7F800000#32
  let main_v3 : FVec F S4x8192x512 .f32 := broadcastInDim S4x8192x512 ![] bcast_S_S4x8192x512 main_cst_0
  let main_v4 : IVec S4x8192x512 1 := cmpf .olt main_v0 main_v3
  let main_v5 : IVec S4x8192x512 1 := andi main_v2 main_v4
  let main_v6 : FVec F S4x8192x512 .f32 := (extf .f32 · bitsLt_bf16_f32) main_arg1
  let main_cst_1 : FVec F S_ .f32 := constant S_ .f32 0xFF800000#32
  let main_v7 : FVec F S4x8192x512 .f32 := broadcastInDim S4x8192x512 ![] bcast_S_S4x8192x512 main_cst_1
  let main_v8 : IVec S4x8192x512 1 := cmpf .ogt main_v6 main_v7
  let main_cst_2 : FVec F S_ .f32 := constant S_ .f32 0x7F800000#32
  let main_v9 : FVec F S4x8192x512 .f32 := broadcastInDim S4x8192x512 ![] bcast_S_S4x8192x512 main_cst_2
  let main_v10 : IVec S4x8192x512 1 := cmpf .olt main_v6 main_v9
  let main_v11 : IVec S4x8192x512 1 := andi main_v8 main_v10
  let main_v12 : FVec F S4x32x4x256 .f32 := (extractStridedSlice S4x32x4x256 ![0, 0, 0, 0] · slices_S4x32x8x256_S4x32x4x256_0_0_0_0) main_arg3
  let main_cst_3 : FVec F S_ .f32 := constant S_ .f32 0xFF800000#32
  let main_v13 : FVec F S4x32x4x256 .f32 := broadcastInDim S4x32x4x256 ![] bcast_S_S4x32x4x256 main_cst_3
  let main_v14 : IVec S4x32x4x256 1 := cmpf .ogt main_v12 main_v13
  let main_cst_4 : FVec F S_ .f32 := constant S_ .f32 0x7F800000#32
  let main_v15 : FVec F S4x32x4x256 .f32 := broadcastInDim S4x32x4x256 ![] bcast_S_S4x32x4x256 main_cst_4
  let main_v16 : IVec S4x32x4x256 1 := cmpf .olt main_v12 main_v15
  let main_v17 : IVec S4x32x4x256 1 := andi main_v14 main_v16
  (main_v5, main_v11, main_v17)
-- ==== Pre_finite4.lean ====
abbrev S4x8192x1024 : Shape := ⟨3, ![4, 8192, 1024]⟩
abbrev S1024x2048 : Shape := ⟨2, ![1024, 2048]⟩
abbrev S8x1024 : Shape := ⟨2, ![8, 1024]⟩
abbrev S4x1024 : Shape := ⟨2, ![4, 1024]⟩
abbrev S1x1024 : Shape := ⟨2, ![1, 1024]⟩
abbrev S4 : Shape := ⟨1, ![4]⟩
abbrev S_ : Shape := ⟨0, ![]⟩
abbrev S1024x1024 : Shape := ⟨2, ![1024, 1024]⟩

class Facts : Prop where
  bcast_S_S4x8192x1024 : S_.BroadcastsInDim S4x8192x1024 (![] : Fin 0 → Fin S4x8192x1024.rank)
  slices_S1024x2048_S1024x1024_0_0 : S1024x2048.Slices ![0, 0] S1024x1024
  bitsLt_bf16_f32 : FTy.bits .bf16 < FTy.bits .f32
  bcast_S_S1024x1024 : S_.BroadcastsInDim S1024x1024 (![] : Fin 0 → Fin S1024x1024.rank)
  slices_S1024x2048_S1024x1024_0_1024 : S1024x2048.Slices ![0, 1024] S1024x1024
  bcast_S_S4x1024 : S_.BroadcastsInDim S4x1024 (![] : Fin 0 → Fin S4x1024.rank)
  bcast_S_S1x1024 : S_.BroadcastsInDim S1x1024 (![] : Fin 0 → Fin S1x1024.rank)

variable [Facts]

def fn_part1 {F : FTy → Type} [FloatOps F] (main_arg4 : FVec F S4x1024 .f32) (main_arg5 : FVec F S1x1024 .f32) (main_v4 : IVec S4x8192x1024 1) (main_v11 : IVec S1024x1024 1) (main_v15 : IVec S1024x1024 1) (main_v17 : IVec S1024x1024 1) : IVec S4x8192x1024 1 × IVec S1024x1024 1 × IVec S1024x1024 1 × IVec S4x1024 1 × IVec S1x1024 1 :=
  let main_v18 : IVec S1024x1024 1 := andi main_v15 main_v17
  let main_cst_5 : FVec F S_ .f32 := constant S_ .f32 0xFF800000#32
  let main_v19 : FVec F S4x1024 .f32 := broadcastInDim S4x1024 ![] bcast_S_S4x1024 main_cst_5
  let main_v20 : IVec S4x1024 1 := cmpf .ogt main_arg4 main_v19
  let main_cst_6 : FVec F S_ .f32 := constant S_ .f32 0x7F800000#32
  let main_v21 : FVec F S4x1024 .f32 := broadcastInDim S4x1024 ![] bcast_S_S4x1024 main_cst_6
  let main_v22 : IVec S4x1024 1 := cmpf .olt main_arg4 main_v21
  let main_v23 : IVec S4x1024 1 := andi main_v20 main_v22
  let main_cst_7 : FVec F S_ .f32 := constant S_ .f32 0xFF800000#32
  let main_v24 : FVec F S1x1024 .f32 := broadcastInDim S1x1024 ![] bcast_S_S1x1024 main_cst_7
  let main_v25 : IVec S1x1024 1 := cmpf .ogt main_arg5 main_v24
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_arg5 main_v26
  let main_v28 : IVec S1x1024 1 := andi main_v25 main_v27
  (main_v4, main_v11, main_v18, main_v23, main_v28)

def fn {F : FTy → Type} [FloatOps F] (main_arg0 : FVec F S4x8192x1024 .f32) (main_arg1 : FVec F S1024x2048 .bf16) (main_arg2 : FVec F S1024x2048 .bf16) (main_arg3 : FVec F S8x1024 .bf16) (main_arg4 : FVec F S4x1024 .f32) (main_arg5 : FVec F S1x1024 .f32) (main_arg6 : FVec F S4 .f32) (main_arg7 : FVec F S4 .f32) : IVec S4x8192x1024 1 × IVec S1024x1024 1 × IVec S1024x1024 1 × IVec S4x1024 1 × IVec S1x1024 1 :=
  let main_cst : FVec F S_ .f32 := constant S_ .f32 0xFF800000#32
  let main_v0 : FVec F S4x8192x1024 .f32 := broadcastInDim S4x8192x1024 ![] bcast_S_S4x8192x1024 main_cst
  let main_v1 : IVec S4x8192x1024 1 := cmpf .ogt main_arg0 main_v0
  let main_cst_0 : FVec F S_ .f32 := constant S_ .f32 0x7F800000#32
  let main_v2 : FVec F S4x8192x1024 .f32 := broadcastInDim S4x8192x1024 ![] bcast_S_S4x8192x1024 main_cst_0
  let main_v3 : IVec S4x8192x1024 1 := cmpf .olt main_arg0 main_v2
  let main_v4 : IVec S4x8192x1024 1 := andi main_v1 main_v3
  let main_v5 : FVec F S1024x1024 .bf16 := (extractStridedSlice S1024x1024 ![0, 0] · slices_S1024x2048_S1024x1024_0_0) main_arg1
  let main_v6 : FVec F S1024x1024 .f32 := (extf .f32 · bitsLt_bf16_f32) main_v5
  let main_cst_1 : FVec F S_ .f32 := constant S_ .f32 0xFF800000#32
  let main_v7 : FVec F S1024x1024 .f32 := broadcastInDim S1024x1024 ![] bcast_S_S1024x1024 main_cst_1
  let main_v8 : IVec S1024x1024 1 := cmpf .ogt main_v6 main_v7
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v6 main_v9
  let main_v11 : IVec S1024x1024 1 := andi main_v8 main_v10
  let main_v12 : FVec F S1024x1024 .bf16 := (extractStridedSlice S1024x1024 ![0, 1024] · slices_S1024x2048_S1024x1024_0_1024) main_arg2
  let main_v13 : FVec F S1024x1024 .f32 := (extf .f32 · bitsLt_bf16_f32) main_v12
  let main_cst_3 : FVec F S_ .f32 := constant S_ .f32 0xFF800000#32
  let main_v14 : FVec F S1024x1024 .f32 := broadcastInDim S1024x1024 ![] bcast_S_S1024x1024 main_cst_3
  let main_v15 : IVec S1024x1024 1 := cmpf .ogt main_v13 main_v14
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v13 main_v16
  fn_part1 (F := F) main_arg4 main_arg5 main_v4 main_v11 main_v15 main_v17
-- ==== Pre_finite5.lean ====
abbrev S4x8192x1024 : Shape := ⟨3, ![4, 8192, 1024]⟩
abbrev S1024x3584 : Shape := ⟨2, ![1024, 3584]⟩
abbrev S1024x512 : Shape := ⟨2, ![1024, 512]⟩
abbrev S8x1024 : Shape := ⟨2, ![8, 1024]⟩
abbrev S1x512 : Shape := ⟨2, ![1, 512]⟩
abbrev S4 : Shape := ⟨1, ![4]⟩
abbrev S_ : Shape := ⟨0, ![]⟩
abbrev S1024x2048 : Shape := ⟨2, ![1024, 2048]⟩

class Facts : Prop where
  bcast_S_S4x8192x1024 : S_.BroadcastsInDim S4x8192x1024 (![] : Fin 0 → Fin S4x8192x1024.rank)
  slices_S1024x3584_S1024x2048_0_0 : S1024x3584.Slices ![0, 0] S1024x2048
  bitsLt_bf16_f32 : FTy.bits .bf16 < FTy.bits .f32
  bcast_S_S1024x2048 : S_.BroadcastsInDim S1024x2048 (![] : Fin 0 → Fin S1024x2048.rank)
  bcast_S_S1024x512 : S_.BroadcastsInDim S1024x512 (![] : Fin 0 → Fin S1024x512.rank)
  bcast_S_S1x512 : S_.BroadcastsInDim S1x512 (![] : Fin 0 → Fin S1x512.rank)

variable [Facts]

def fn_part1 {F : FTy → Type} [FloatOps F] (main_arg4 : FVec F S1x512 .f32) (main_v4 : IVec S4x8192x1024 1) (main_v11 : IVec S1024x2048 1) (main_v17 : IVec S1024x512 1) : IVec S4x8192x1024 1 × IVec S1024x2048 1 × IVec S1024x512 1 × IVec S1x512 1 :=
  let main_cst_5 : FVec F S_ .f32 := constant S_ .f32 0x00000000#32
  let main_v18 : FVec F S1x512 .f32 := broadcastInDim S1x512 ![] bcast_S_S1x512 main_cst_5
  let main_v19 : IVec S1x512 1 := cmpf .oge main_arg4 main_v18
  (main_v4, main_v11, main_v17, main_v19)

def fn {F : FTy → Type} [FloatOps F] (main_arg0 : FVec F S4x8192x1024 .f32) (main_arg1 : FVec F S1024x3584 .bf16) (main_arg2 : FVec F S1024x512 .bf16) (main_arg3 : FVec F S8x1024 .bf16) (main_arg4 : FVec F S1x512 .f32) (main_arg5 : FVec F S4 .f32) (main_arg6 : FVec F S1x512 .f32) : IVec S4x8192x1024 1 × IVec S1024x2048 1 × IVec S1024x512 1 × IVec S1x512 1 :=
  let main_cst : FVec F S_ .f32 := constant S_ .f32 0xFF800000#32
  let main_v0 : FVec F S4x8192x1024 .f32 := broadcastInDim S4x8192x1024 ![] bcast_S_S4x8192x1024 main_cst
  let main_v1 : IVec S4x8192x1024 1 := cmpf .ogt main_arg0 main_v0
  let main_cst_0 : FVec F S_ .f32 := constant S_ .f32 0x7F800000#32
  let main_v2 : FVec F S4x8192x1024 .f32 := broadcastInDim S4x8192x1024 ![] bcast_S_S4x8192x1024 main_cst_0
  let main_v3 : IVec S4x8192x1024 1 := cmpf .olt main_arg0 main_v2
  let main_v4 : IVec S4x8192x1024 1 := andi main_v1 main_v3
  let main_v5 : FVec F S1024x2048 .bf16 := (extractStridedSlice S1024x2048 ![0, 0] · slices_S1024x3584_S1024x2048_0_0) main_arg1
  let main_v6 : FVec F S1024x2048 .f32 := (extf .f32 · bitsLt_bf16_f32) main_v5
  let main_cst_1 : FVec F S_ .f32 := constant S_ .f32 0xFF800000#32
  let main_v7 : FVec F S1024x2048 .f32 := broadcastInDim S1024x2048 ![] bcast_S_S1024x2048 main_cst_1
  let main_v8 : IVec S1024x2048 1 := cmpf .ogt main_v6 main_v7
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v6 main_v9
  let main_v11 : IVec S1024x2048 1 := andi main_v8 main_v10
  let main_v12 : FVec F S1024x512 .f32 := (extf .f32 · bitsLt_bf16_f32) main_arg2
  let main_cst_3 : FVec F S_ .f32 := constant S_ .f32 0xFF800000#32
  let main_v13 : FVec F S1024x512 .f32 := broadcastInDim S1024x512 ![] bcast_S_S1024x512 main_cst_3
  let main_v14 : IVec S1024x512 1 := cmpf .ogt main_v12 main_v13
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v12 main_v15
  let main_v17 : IVec S1024x512 1 := andi main_v14 main_v16
  fn_part1 (F := F) main_arg4 main_v4 main_v11 main_v17
-- ==== Kernel.lean ====
abbrev S4x8192x512 : Shape := ⟨3, ![4, 8192, 512]⟩
abbrev S4x32x8x256 : Shape := ⟨4, ![4, 32, 8, 256]⟩
abbrev S1x4096x128 : Shape := ⟨3, ![1, 4096, 128]⟩
abbrev S1x8192x128 : Shape := ⟨3, ![1, 8192, 128]⟩
abbrev S1x32x8x256 : Shape := ⟨4, ![1, 32, 8, 256]⟩
abbrev S8192x256 : Shape := ⟨2, ![8192, 256]⟩
abbrev S4096x128 : Shape := ⟨2, ![4096, 128]⟩
abbrev S4096x256 : Shape := ⟨2, ![4096, 256]⟩
abbrev S8192x128 : Shape := ⟨2, ![8192, 128]⟩
abbrev S1x1x1x256 : Shape := ⟨4, ![1, 1, 1, 256]⟩
abbrev S1x256 : Shape := ⟨2, ![1, 256]⟩
abbrev S1x1 : Shape := ⟨2, ![1, 1]⟩
abbrev S1x256x128 : Shape := ⟨3, ![1, 256, 128]⟩
abbrev S256x128 : Shape := ⟨2, ![256, 128]⟩
abbrev S4096 : Shape := ⟨1, ![4096]⟩
abbrev S4096x1 : Shape := ⟨2, ![4096, 1]⟩
abbrev S256x256 : Shape := ⟨2, ![256, 256]⟩
abbrev S1x3840x128 : Shape := ⟨3, ![1, 3840, 128]⟩
abbrev S3840x128 : Shape := ⟨2, ![3840, 128]⟩
abbrev S3840x256 : Shape := ⟨2, ![3840, 256]⟩
abbrev S3840 : Shape := ⟨1, ![3840]⟩
abbrev S3840x1 : Shape := ⟨2, ![3840, 1]⟩
abbrev S1x3584x128 : Shape := ⟨3, ![1, 3584, 128]⟩
abbrev S3584x128 : Shape := ⟨2, ![3584, 128]⟩
abbrev S3584x256 : Shape := ⟨2, ![3584, 256]⟩
abbrev S3584 : Shape := ⟨1, ![3584]⟩
abbrev S3584x1 : Shape := ⟨2, ![3584, 1]⟩
abbrev S1x3328x128 : Shape := ⟨3, ![1, 3328, 128]⟩
abbrev S3328x128 : Shape := ⟨2, ![3328, 128]⟩
abbrev S3328x256 : Shape := ⟨2, ![3328, 256]⟩
abbrev S3328 : Shape := ⟨1, ![3328]⟩
abbrev S3328x1 : Shape := ⟨2, ![3328, 1]⟩
abbrev S1x3072x128 : Shape := ⟨3, ![1, 3072, 128]⟩
abbrev S3072x128 : Shape := ⟨2, ![3072, 128]⟩
abbrev S3072x256 : Shape := ⟨2, ![3072, 256]⟩
abbrev S3072 : Shape := ⟨1, ![3072]⟩
abbrev S3072x1 : Shape := ⟨2, ![3072, 1]⟩
abbrev S1x2816x128 : Shape := ⟨3, ![1, 2816, 128]⟩
abbrev S2816x128 : Shape := ⟨2, ![2816, 128]⟩
abbrev S2816x256 : Shape := ⟨2, ![2816, 256]⟩
abbrev S2816 : Shape := ⟨1, ![2816]⟩
abbrev S2816x1 : Shape := ⟨2, ![2816, 1]⟩
abbrev S1x2560x128 : Shape := ⟨3, ![1, 2560, 128]⟩
abbrev S2560x128 : Shape := ⟨2, ![2560, 128]⟩
abbrev S2560x256 : Shape := ⟨2, ![2560, 256]⟩
abbrev S2560 : Shape := ⟨1, ![2560]⟩
abbrev S2560x1 : Shape := ⟨2, ![2560, 1]⟩
abbrev S1x2304x128 : Shape := ⟨3, ![1, 2304, 128]⟩
abbrev S2304x128 : Shape := ⟨2, ![2304, 128]⟩
abbrev S2304x256 : Shape := ⟨2, ![2304, 256]⟩
abbrev S2304 : Shape := ⟨1, ![2304]⟩
abbrev S2304x1 : Shape := ⟨2, ![2304, 1]⟩
abbrev S1x2048x128 : Shape := ⟨3, ![1, 2048, 128]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩
abbrev S1x1792x128 : Shape := ⟨3, ![1, 1792, 128]⟩
abbrev S1792x128 : Shape := ⟨2, ![1792, 128]⟩
abbrev S1792x256 : Shape := ⟨2, ![1792, 256]⟩
abbrev S1792 : Shape := ⟨1, ![1792]⟩
abbrev S1792x1 : Shape := ⟨2, ![1792, 1]⟩
abbrev S1x1536x128 : Shape := ⟨3, ![1, 1536, 128]⟩
abbrev S1536x128 : Shape := ⟨2, ![1536, 128]⟩
abbrev S1536x256 : Shape := ⟨2, ![1536, 256]⟩
abbrev S1536 : Shape := ⟨1, ![1536]⟩
abbrev S1536x1 : Shape := ⟨2, ![1536, 1]⟩
abbrev S1x1280x128 : Shape := ⟨3, ![1, 1280, 128]⟩
abbrev S1280x128 : Shape := ⟨2, ![1280, 128]⟩
abbrev S1280x256 : Shape := ⟨2, ![1280, 256]⟩
abbrev S1280 : Shape := ⟨1, ![1280]⟩
abbrev S1280x1 : Shape := ⟨2, ![1280, 1]⟩
abbrev S1x1024x128 : Shape := ⟨3, ![1, 1024, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1x768x128 : Shape := ⟨3, ![1, 768, 128]⟩
abbrev S768x128 : Shape := ⟨2, ![768, 128]⟩
abbrev S768x256 : Shape := ⟨2, ![768, 256]⟩
abbrev S768 : Shape := ⟨1, ![768]⟩
abbrev S768x1 : Shape := ⟨2, ![768, 1]⟩
abbrev S1x512x128 : Shape := ⟨3, ![1, 512, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 6
  | .vmem => 15
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x32x8x256, .f32⟩
  | .hbm, ⟨4, _⟩ => ⟨S4x8192x512, .bf16⟩
  | .hbm, ⟨5, _⟩ => ⟨S4x8192x512, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x32x8x256, .f32⟩
  | .local _ .vmem, ⟨7, _⟩ => ⟨S1x32x8x256, .f32⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S8192x256, .bf16⟩
  | .local _ .vmem, ⟨13, _⟩ => ⟨S4096x128, .f32⟩
  | .local _ .vmem, ⟨14, _⟩ => ⟨S4096x256, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 2], ![false, false, false]⟩

def k0_off1 (i : grid0.Coords) : Fin 4 → Nat :=
  let c0 : Index := 0#32
  let arg2 : BitVec 32 := BitVec.ofNat 32 (i 2).val
  let c16_i32 : BitVec 32 := 16#32
  let v3 : BitVec 32 := Scalar.muli arg2 c16_i32
  let v4 : Index := Scalar.indexCast v3
  let arg1 : BitVec 32 := BitVec.ofNat 32 (i 1).val
  let v5 : Index := Scalar.indexCast arg1
  let c0_1 : Index := 0#32
  ![0, v4.toNat, v5.toNat, 0]
@[reducible] def k0_t1_loop (i : grid0.Coords) : Scf.Loop 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_10 : BitVec 32 := 1#32
  ⟨c0_i32_9, v23, c1_i32_10⟩
def k0_mult1 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_374 : BitVec 32 := 16#32
  let v820 : BitVec 32 := Scalar.muli arg12 c16_i32_374
  let c0_i32_375 : BitVec 32 := 0#32
  let v821 : BitVec 32 := Scalar.addi v820 c0_i32_375
  let c256_i32_376 : BitVec 32 := 256#32
  let v822 : BitVec 32 := Scalar.muli v821 c256_i32_376
  v822
def k0_off2 (i : grid0.Coords) (k0_t1 : Fin (k0_t1_loop i).trips) (c0_i32_375 : BitVec 32) : Fin 3 → Nat :=
  let c0_380 : Index := 0#32
  let c0_i32_9 : BitVec 32 := 0#32
  let c1_i32_10 : BitVec 32 := 1#32
  let arg12 : BitVec 32 := Scf.iv c0_i32_9 c1_i32_10 k0_t1
  let c16_i32_374 : BitVec 32 := 16#32
  let v820 : BitVec 32 := Scalar.muli arg12 c16_i32_374
  let v821 : BitVec 32 := Scalar.addi v820 c0_i32_375
  let c256_i32_376 : BitVec 32 := 256#32
  let v822 : BitVec 32 := Scalar.muli v821 c256_i32_376
  let v823 : BitVec 32 := v822
  let v826 : Index := Scalar.indexCast v823
  let c0_381 : Index := 0#32
  ![0, v826.toNat, 0]
def k0_off3 (i : grid0.Coords) (k0_t1 : Fin (k0_t1_loop i).trips) (c0_i32_375 : BitVec 32) : Fin 4 → Nat :=
  let c0_383 : Index := 0#32
  let c0_i32_9 : BitVec 32 := 0#32
  let c1_i32_10 : BitVec 32 := 1#32
  let arg12 : BitVec 32 := Scf.iv c0_i32_9 c1_i32_10 k0_t1
  let c16_i32_374 : BitVec 32 := 16#32
  let v820 : BitVec 32 := Scalar.muli arg12 c16_i32_374
  let v821 : BitVec 32 := Scalar.addi v820 c0_i32_375
  let v830 : Index := Scalar.indexCast v821
  let arg1 : BitVec 32 := BitVec.ofNat 32 (i 1).val
  let v831 : Index := Scalar.indexCast arg1
  let c0_384 : Index := 0#32
  ![0, v830.toNat, v831.toNat, 0]
def k0_off4 (i : grid0.Coords) (k0_t1 : Fin (k0_t1_loop i).trips) (c0_i32_375 : BitVec 32) : Fin 2 → Nat :=
  let c0_i32_9 : BitVec 32 := 0#32
  let c1_i32_10 : BitVec 32 := 1#32
  let arg12 : BitVec 32 := Scf.iv c0_i32_9 c1_i32_10 k0_t1
  let c16_i32_374 : BitVec 32 := 16#32
  let v820 : BitVec 32 := Scalar.muli arg12 c16_i32_374
  let v821 : BitVec 32 := Scalar.addi v820 c0_i32_375
  let c256_i32_376 : BitVec 32 := 256#32
  let v822 : BitVec 32 := Scalar.muli v821 c256_i32_376
  let v823 : BitVec 32 := v822
  let v854 : Index := Scalar.indexCast v823
  let c0_391 : Index := 0#32
  ![v854.toNat, 0]
def k0_mult2 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_397 : BitVec 32 := 16#32
  let v864 : BitVec 32 := Scalar.muli arg12 c16_i32_397
  let c1_i32_398 : BitVec 32 := 1#32
  let v865 : BitVec 32 := Scalar.addi v864 c1_i32_398
  let c256_i32_399 : BitVec 32 := 256#32
  let v866 : BitVec 32 := Scalar.muli v865 c256_i32_399
  v866
def k0_mult3 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_420 : BitVec 32 := 16#32
  let v908 : BitVec 32 := Scalar.muli arg12 c16_i32_420
  let c2_i32_421 : BitVec 32 := 2#32
  let v909 : BitVec 32 := Scalar.addi v908 c2_i32_421
  let c256_i32_422 : BitVec 32 := 256#32
  let v910 : BitVec 32 := Scalar.muli v909 c256_i32_422
  v910
def k0_mult4 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_443 : BitVec 32 := 16#32
  let v952 : BitVec 32 := Scalar.muli arg12 c16_i32_443
  let c3_i32_444 : BitVec 32 := 3#32
  let v953 : BitVec 32 := Scalar.addi v952 c3_i32_444
  let c256_i32_445 : BitVec 32 := 256#32
  let v954 : BitVec 32 := Scalar.muli v953 c256_i32_445
  v954
def k0_mult5 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_466 : BitVec 32 := 16#32
  let v996 : BitVec 32 := Scalar.muli arg12 c16_i32_466
  let c4_i32_467 : BitVec 32 := 4#32
  let v997 : BitVec 32 := Scalar.addi v996 c4_i32_467
  let c256_i32_468 : BitVec 32 := 256#32
  let v998 : BitVec 32 := Scalar.muli v997 c256_i32_468
  v998
def k0_mult6 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_489 : BitVec 32 := 16#32
  let v1040 : BitVec 32 := Scalar.muli arg12 c16_i32_489
  let c5_i32_490 : BitVec 32 := 5#32
  let v1041 : BitVec 32 := Scalar.addi v1040 c5_i32_490
  let c256_i32_491 : BitVec 32 := 256#32
  let v1042 : BitVec 32 := Scalar.muli v1041 c256_i32_491
  v1042
def k0_mult7 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_512 : BitVec 32 := 16#32
  let v1084 : BitVec 32 := Scalar.muli arg12 c16_i32_512
  let c6_i32_513 : BitVec 32 := 6#32
  let v1085 : BitVec 32 := Scalar.addi v1084 c6_i32_513
  let c256_i32_514 : BitVec 32 := 256#32
  let v1086 : BitVec 32 := Scalar.muli v1085 c256_i32_514
  v1086
def k0_mult8 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_535 : BitVec 32 := 16#32
  let v1128 : BitVec 32 := Scalar.muli arg12 c16_i32_535
  let c7_i32_536 : BitVec 32 := 7#32
  let v1129 : BitVec 32 := Scalar.addi v1128 c7_i32_536
  let c256_i32_537 : BitVec 32 := 256#32
  let v1130 : BitVec 32 := Scalar.muli v1129 c256_i32_537
  v1130
def k0_mult9 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_558 : BitVec 32 := 16#32
  let v1172 : BitVec 32 := Scalar.muli arg12 c16_i32_558
  let c8_i32_559 : BitVec 32 := 8#32
  let v1173 : BitVec 32 := Scalar.addi v1172 c8_i32_559
  let c256_i32_560 : BitVec 32 := 256#32
  let v1174 : BitVec 32 := Scalar.muli v1173 c256_i32_560
  v1174
def k0_mult10 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_581 : BitVec 32 := 16#32
  let v1216 : BitVec 32 := Scalar.muli arg12 c16_i32_581
  let c9_i32_582 : BitVec 32 := 9#32
  let v1217 : BitVec 32 := Scalar.addi v1216 c9_i32_582
  let c256_i32_583 : BitVec 32 := 256#32
  let v1218 : BitVec 32 := Scalar.muli v1217 c256_i32_583
  v1218
def k0_mult11 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_604 : BitVec 32 := 16#32
  let v1260 : BitVec 32 := Scalar.muli arg12 c16_i32_604
  let c10_i32_605 : BitVec 32 := 10#32
  let v1261 : BitVec 32 := Scalar.addi v1260 c10_i32_605
  let c256_i32_606 : BitVec 32 := 256#32
  let v1262 : BitVec 32 := Scalar.muli v1261 c256_i32_606
  v1262
def k0_mult12 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_627 : BitVec 32 := 16#32
  let v1304 : BitVec 32 := Scalar.muli arg12 c16_i32_627
  let c11_i32_628 : BitVec 32 := 11#32
  let v1305 : BitVec 32 := Scalar.addi v1304 c11_i32_628
  let c256_i32_629 : BitVec 32 := 256#32
  let v1306 : BitVec 32 := Scalar.muli v1305 c256_i32_629
  v1306
def k0_mult13 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_650 : BitVec 32 := 16#32
  let v1348 : BitVec 32 := Scalar.muli arg12 c16_i32_650
  let c12_i32_651 : BitVec 32 := 12#32
  let v1349 : BitVec 32 := Scalar.addi v1348 c12_i32_651
  let c256_i32_652 : BitVec 32 := 256#32
  let v1350 : BitVec 32 := Scalar.muli v1349 c256_i32_652
  v1350
def k0_mult14 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_673 : BitVec 32 := 16#32
  let v1392 : BitVec 32 := Scalar.muli arg12 c16_i32_673
  let c13_i32_674 : BitVec 32 := 13#32
  let v1393 : BitVec 32 := Scalar.addi v1392 c13_i32_674
  let c256_i32_675 : BitVec 32 := 256#32
  let v1394 : BitVec 32 := Scalar.muli v1393 c256_i32_675
  v1394
def k0_mult15 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_696 : BitVec 32 := 16#32
  let v1436 : BitVec 32 := Scalar.muli arg12 c16_i32_696
  let c14_i32_697 : BitVec 32 := 14#32
  let v1437 : BitVec 32 := Scalar.addi v1436 c14_i32_697
  let c256_i32_698 : BitVec 32 := 256#32
  let v1438 : BitVec 32 := Scalar.muli v1437 c256_i32_698
  v1438
def k0_mult16 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c16_i32_719 : BitVec 32 := 16#32
  let v1480 : BitVec 32 := Scalar.muli arg12 c16_i32_719
  let c15_i32_720 : BitVec 32 := 15#32
  let v1481 : BitVec 32 := Scalar.addi v1480 c15_i32_720
  let c256_i32_721 : BitVec 32 := 256#32
  let v1482 : BitVec 32 := Scalar.muli v1481 c256_i32_721
  v1482
@[reducible] def k0_t2_loop (i : grid0.Coords) : Scf.Loop 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let v20 : BitVec 32 := Scalar.addi c0_i32_9 v19
  let c1_i32_11 : BitVec 32 := 1#32
  ⟨v23, v20, c1_i32_11⟩
def k0_mult17 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_374 : BitVec 32 := 16#32
  let v820 : BitVec 32 := Scalar.muli arg12 c16_i32_374
  let c0_i32_375 : BitVec 32 := 0#32
  let v821 : BitVec 32 := Scalar.addi v820 c0_i32_375
  let c256_i32_376 : BitVec 32 := 256#32
  let v822 : BitVec 32 := Scalar.muli v821 c256_i32_376
  v822
def k0_off5 (i : grid0.Coords) (k0_t2 : Fin (k0_t2_loop i).trips) (c0_i32_375 : BitVec 32) : Fin 3 → Nat :=
  let c0_380 : Index := 0#32
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_374 : BitVec 32 := 16#32
  let v820 : BitVec 32 := Scalar.muli arg12 c16_i32_374
  let v821 : BitVec 32 := Scalar.addi v820 c0_i32_375
  let c256_i32_376 : BitVec 32 := 256#32
  let v822 : BitVec 32 := Scalar.muli v821 c256_i32_376
  let v823 : BitVec 32 := v822
  let v826 : Index := Scalar.indexCast v823
  let c0_381 : Index := 0#32
  ![0, v826.toNat, 0]
def k0_off6 (i : grid0.Coords) (k0_t2 : Fin (k0_t2_loop i).trips) (c0_i32_375 : BitVec 32) : Fin 4 → Nat :=
  let c0_383 : Index := 0#32
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_374 : BitVec 32 := 16#32
  let v820 : BitVec 32 := Scalar.muli arg12 c16_i32_374
  let v821 : BitVec 32 := Scalar.addi v820 c0_i32_375
  let v830 : Index := Scalar.indexCast v821
  let arg1 : BitVec 32 := BitVec.ofNat 32 (i 1).val
  let v831 : Index := Scalar.indexCast arg1
  let c0_384 : Index := 0#32
  ![0, v830.toNat, v831.toNat, 0]
def k0_off7 (i : grid0.Coords) (k0_t2 : Fin (k0_t2_loop i).trips) (c0_i32_375 : BitVec 32) : Fin 2 → Nat :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_374 : BitVec 32 := 16#32
  let v820 : BitVec 32 := Scalar.muli arg12 c16_i32_374
  let v821 : BitVec 32 := Scalar.addi v820 c0_i32_375
  let c256_i32_376 : BitVec 32 := 256#32
  let v822 : BitVec 32 := Scalar.muli v821 c256_i32_376
  let v823 : BitVec 32 := v822
  let v854 : Index := Scalar.indexCast v823
  let c0_391 : Index := 0#32
  ![v854.toNat, 0]
def k0_mult18 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_397 : BitVec 32 := 16#32
  let v864 : BitVec 32 := Scalar.muli arg12 c16_i32_397
  let c1_i32_398 : BitVec 32 := 1#32
  let v865 : BitVec 32 := Scalar.addi v864 c1_i32_398
  let c256_i32_399 : BitVec 32 := 256#32
  let v866 : BitVec 32 := Scalar.muli v865 c256_i32_399
  v866
def k0_mult19 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_420 : BitVec 32 := 16#32
  let v908 : BitVec 32 := Scalar.muli arg12 c16_i32_420
  let c2_i32_421 : BitVec 32 := 2#32
  let v909 : BitVec 32 := Scalar.addi v908 c2_i32_421
  let c256_i32_422 : BitVec 32 := 256#32
  let v910 : BitVec 32 := Scalar.muli v909 c256_i32_422
  v910
def k0_mult20 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_443 : BitVec 32 := 16#32
  let v952 : BitVec 32 := Scalar.muli arg12 c16_i32_443
  let c3_i32_444 : BitVec 32 := 3#32
  let v953 : BitVec 32 := Scalar.addi v952 c3_i32_444
  let c256_i32_445 : BitVec 32 := 256#32
  let v954 : BitVec 32 := Scalar.muli v953 c256_i32_445
  v954
def k0_mult21 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_466 : BitVec 32 := 16#32
  let v996 : BitVec 32 := Scalar.muli arg12 c16_i32_466
  let c4_i32_467 : BitVec 32 := 4#32
  let v997 : BitVec 32 := Scalar.addi v996 c4_i32_467
  let c256_i32_468 : BitVec 32 := 256#32
  let v998 : BitVec 32 := Scalar.muli v997 c256_i32_468
  v998
def k0_mult22 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_489 : BitVec 32 := 16#32
  let v1040 : BitVec 32 := Scalar.muli arg12 c16_i32_489
  let c5_i32_490 : BitVec 32 := 5#32
  let v1041 : BitVec 32 := Scalar.addi v1040 c5_i32_490
  let c256_i32_491 : BitVec 32 := 256#32
  let v1042 : BitVec 32 := Scalar.muli v1041 c256_i32_491
  v1042
def k0_mult23 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_512 : BitVec 32 := 16#32
  let v1084 : BitVec 32 := Scalar.muli arg12 c16_i32_512
  let c6_i32_513 : BitVec 32 := 6#32
  let v1085 : BitVec 32 := Scalar.addi v1084 c6_i32_513
  let c256_i32_514 : BitVec 32 := 256#32
  let v1086 : BitVec 32 := Scalar.muli v1085 c256_i32_514
  v1086
def k0_mult24 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_535 : BitVec 32 := 16#32
  let v1128 : BitVec 32 := Scalar.muli arg12 c16_i32_535
  let c7_i32_536 : BitVec 32 := 7#32
  let v1129 : BitVec 32 := Scalar.addi v1128 c7_i32_536
  let c256_i32_537 : BitVec 32 := 256#32
  let v1130 : BitVec 32 := Scalar.muli v1129 c256_i32_537
  v1130
def k0_mult25 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_558 : BitVec 32 := 16#32
  let v1172 : BitVec 32 := Scalar.muli arg12 c16_i32_558
  let c8_i32_559 : BitVec 32 := 8#32
  let v1173 : BitVec 32 := Scalar.addi v1172 c8_i32_559
  let c256_i32_560 : BitVec 32 := 256#32
  let v1174 : BitVec 32 := Scalar.muli v1173 c256_i32_560
  v1174
def k0_mult26 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_581 : BitVec 32 := 16#32
  let v1216 : BitVec 32 := Scalar.muli arg12 c16_i32_581
  let c9_i32_582 : BitVec 32 := 9#32
  let v1217 : BitVec 32 := Scalar.addi v1216 c9_i32_582
  let c256_i32_583 : BitVec 32 := 256#32
  let v1218 : BitVec 32 := Scalar.muli v1217 c256_i32_583
  v1218
def k0_mult27 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_604 : BitVec 32 := 16#32
  let v1260 : BitVec 32 := Scalar.muli arg12 c16_i32_604
  let c10_i32_605 : BitVec 32 := 10#32
  let v1261 : BitVec 32 := Scalar.addi v1260 c10_i32_605
  let c256_i32_606 : BitVec 32 := 256#32
  let v1262 : BitVec 32 := Scalar.muli v1261 c256_i32_606
  v1262
def k0_mult28 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_627 : BitVec 32 := 16#32
  let v1304 : BitVec 32 := Scalar.muli arg12 c16_i32_627
  let c11_i32_628 : BitVec 32 := 11#32
  let v1305 : BitVec 32 := Scalar.addi v1304 c11_i32_628
  let c256_i32_629 : BitVec 32 := 256#32
  let v1306 : BitVec 32 := Scalar.muli v1305 c256_i32_629
  v1306
def k0_mult29 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_650 : BitVec 32 := 16#32
  let v1348 : BitVec 32 := Scalar.muli arg12 c16_i32_650
  let c12_i32_651 : BitVec 32 := 12#32
  let v1349 : BitVec 32 := Scalar.addi v1348 c12_i32_651
  let c256_i32_652 : BitVec 32 := 256#32
  let v1350 : BitVec 32 := Scalar.muli v1349 c256_i32_652
  v1350
def k0_mult30 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_673 : BitVec 32 := 16#32
  let v1392 : BitVec 32 := Scalar.muli arg12 c16_i32_673
  let c13_i32_674 : BitVec 32 := 13#32
  let v1393 : BitVec 32 := Scalar.addi v1392 c13_i32_674
  let c256_i32_675 : BitVec 32 := 256#32
  let v1394 : BitVec 32 := Scalar.muli v1393 c256_i32_675
  v1394
def k0_mult31 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_696 : BitVec 32 := 16#32
  let v1436 : BitVec 32 := Scalar.muli arg12 c16_i32_696
  let c14_i32_697 : BitVec 32 := 14#32
  let v1437 : BitVec 32 := Scalar.addi v1436 c14_i32_697
  let c256_i32_698 : BitVec 32 := 256#32
  let v1438 : BitVec 32 := Scalar.muli v1437 c256_i32_698
  v1438
def k0_mult32 (i : grid0.Coords) (k0_t2 : Fin (k0_t2_loop i).trips) : BitVec 32 :=
  let c0_i32_9 : BitVec 32 := 0#32
  let arg2 : BitVec 32 := BitVec.ofNat 32 (i 2).val
  let v19 : BitVec 32 := Scalar.subi arg2 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c16_i32_719 : BitVec 32 := 16#32
  let v1480 : BitVec 32 := Scalar.muli arg12 c16_i32_719
  let c15_i32_720 : BitVec 32 := 15#32
  let v1481 : BitVec 32 := Scalar.addi v1480 c15_i32_720
  let c256_i32_721 : BitVec 32 := 256#32
  let v1482 : BitVec 32 := Scalar.muli v1481 c256_i32_721
  v1482
def k0_mult33 (i : grid0.Coords) : BitVec 32 :=
  let arg2 : BitVec 32 := BitVec.ofNat 32 (i 2).val
  let c16_i32_12 : BitVec 32 := 16#32
  let v24 : BitVec 32 := Scalar.muli arg2 c16_i32_12
  let c0_i32_13 : BitVec 32 := 0#32
  let v25 : BitVec 32 := Scalar.addi v24 c0_i32_13
  let c256_i32 : BitVec 32 := 256#32
  let v26 : BitVec 32 := Scalar.muli v25 c256_i32
  v26
def k0_off8 (i : grid0.Coords) (c0_i32_13 : BitVec 32) : Fin 3 → Nat :=
  let c0_17 : Index := 0#32
  let arg2 : BitVec 32 := BitVec.ofNat 32 (i 2).val
  let c16_i32_12 : BitVec 32 := 16#32
  let v24 : BitVec 32 := Scalar.muli arg2 c16_i32_12
  let v25 : BitVec 32 := Scalar.addi v24 c0_i32_13
  let c256_i32 : BitVec 32 := 256#32
  let v26 : BitVec 32 := Scalar.muli v25 c256_i32
  let v27 : BitVec 32 := v26
  let v30 : Index := Scalar.indexCast v27
  let c0_18 : Index := 0#32
  ![0, v30.toNat, 0]
def k0_off9 (i : grid0.Coords) (c0_i32_13 : BitVec 32) : Fin 4 → Nat :=
  let c0_20 : Index := 0#32
  let arg2 : BitVec 32 := BitVec.ofNat 32 (i 2).val
  let c16_i32_12 : BitVec 32 := 16#32
  let v24 : BitVec 32 := Scalar.muli arg2 c16_i32_12
  let v25 : BitVec 32 := Scalar.addi v24 c0_i32_13
  let v34 : Index := Scalar.indexCast v25
  let arg1 : BitVec 32 := BitVec.ofNat 32 (i 1).val
  let v35 : Index := Scalar.indexCast arg1
  let c0_21 : Index := 0#32
  ![0, v34.toNat, v35.toNat, 0]
def k0_off10 (i : grid0.Coords) (c0_i32_13 : BitVec 32) : Fin 2 → Nat :=
  let arg2 : BitVec 32 := BitVec.ofNat 32 (i 2).val
  let c16_i32_12 : BitVec 32 := 16#32
  let v24 : BitVec 32 := Scalar.muli arg2 c16_i32_12
  let v25 : BitVec 32 := Scalar.addi v24 c0_i32_13
  let c256_i32 : BitVec 32 := 256#32
  let v26 : BitVec 32 := Scalar.muli v25 c256_i32
  let v27 : BitVec 32 := v26
  let v63 : Index := Scalar.indexCast v27
  let c0_29 : Index := 0#32
  ![v63.toNat, 0]
def k0_mult34 (i : grid0.Coords) : BitVec 32 :=
  let arg2 : BitVec 32 := BitVec.ofNat 32 (i 2).val
  let c16_i32_35 : BitVec 32 := 16#32
  let v73 : BitVec 32 := Scalar.muli arg2 c16_i32_35
  let c1_i32_36 : BitVec 32 := 1#32
  let v74 : BitVec 32 := Scalar.addi v73 c1_i32_36
  let c256_i32_37 : BitVec 32 := 256#32
  let v75 : BitVec 32 := Scalar.muli v74 c256_i32_37
  v75
def k0_mult35 (i : grid0.Coords) : BitVec 32 :=
  let arg2 : BitVec 32 := BitVec.ofNat 32 (i 2).val
  let c16_i32_58 : BitVec 32 := 16#32
  let v122 : BitVec 32 := Scalar.muli arg2 c16_i32_58
  let c2_i32 : BitVec 32 := 2#32
  let v123 : BitVec 32 := Scalar.addi v122 c2_i32
  let c256_i32_59 : BitVec 32 := 256#32
  let v124 : BitVec 32 := Scalar.muli v123 c256_i32_59
  v124
def k0_mult36 (i : grid0.Coords) : BitVec 32 :=
  let arg2 : BitVec 32 := BitVec.ofNat 32 (i 2).val
  let c16_i32_80 : BitVec 32 := 16#32
  let v171 : BitVec 32 := Scalar.muli arg2 c16_i32_80
  let c3_i32 : BitVec 32 := 3#32
  let v172 : BitVec 32 := Scalar.addi v171 c3_i32
  let c256_i32_81 : BitVec 32 := 256#32
  let v173 : BitVec 32 := Scalar.muli v172 c256_i32_81
  v173
def k0_mult37 (i : grid0.Coords) : BitVec 32 :=
  let arg2 : BitVec 32 := BitVec.ofNat 32 (i 2).val
  let c16_i32_102 : BitVec 32 := 16#32
  let v220 : BitVec 32 := Scalar.muli arg2 c16_i32_102
  let c4_i32 : BitVec 32 := 4#32
  let v221 : BitVec 32 := Scalar.addi v220 c4_i32
  let c256_i32_103 : BitVec 32 := 256#32
  let v222 : BitVec 32 := Scalar.muli v221 c256_i32_103
  v222
def k0_mult38 (i : grid0.Coords) : BitVec 32 :=
  let arg2 : BitVec 32 := BitVec.ofNat 32 (i 2).val
  let c16_i32_124 : BitVec 32 := 16#32
  let v269 : BitVec 32 := Scalar.muli arg2 c16_i32_124
  let c5_i32 : BitVec 32 := 5#32
  let v270 : BitVec 32 := Scalar.addi v269 c5_i32
  let c256_i32_125 : BitVec 32 := 256#32
  let v271 : BitVec 32 := Scalar.muli v270 c256_i32_125
  v271
def k0_mult39 (i : grid0.Coords) : BitVec 32 :=
  let arg2 : BitVec 32 := BitVec.ofNat 32 (i 2).val
  let c16_i32_146 : BitVec 32 := 16#32
  let v318 : BitVec 32 := Scalar.muli arg2 c16_i32_146
  let c6_i32 : BitVec 32 := 6#32
  let v319 : BitVec 32 := Scalar.addi v318 c6_i32
  let c256_i32_147 : BitVec 32 := 256#32
  let v320 : BitVec 32 := Scalar.muli v319 c256_i32_147
  v320
def k0_mult40 (i : grid0.Coords) : BitVec 32 :=
  let arg2 : BitVec 32 := BitVec.ofNat 32 (i 2).val
  let c16_i32_168 : BitVec 32 := 16#32
  let v367 : BitVec 32 := Scalar.muli arg2 c16_i32_168
  let c7_i32 : BitVec 32 := 7#32
  let v368 : BitVec 32 := Scalar.addi v367 c7_i32
  let c256_i32_169 : BitVec 32 := 256#32
  let v369 : BitVec 32 := Scalar.muli v368 c256_i32_169
  v369
def k0_mult41 (i : grid0.Coords) : BitVec 32 :=
  let arg2 : BitVec 32 := BitVec.ofNat 32 (i 2).val
  let c16_i32_190 : BitVec 32 := 16#32
  let v416 : BitVec 32 := Scalar.muli arg2 c16_i32_190
  let c8_i32 : BitVec 32 := 8#32
  let v417 : BitVec 32 := Scalar.addi v416 c8_i32
  let c256_i32_191 : BitVec 32 := 256#32
  let v418 : BitVec 32 := Scalar.muli v417 c256_i32_191
  v418
def k0_mult42 (i : grid0.Coords) : BitVec 32 :=
  let arg2 : BitVec 32 := BitVec.ofNat 32 (i 2).val
  let c16_i32_212 : BitVec 32 := 16#32
  let v465 : BitVec 32 := Scalar.muli arg2 c16_i32_212
  let c9_i32 : BitVec 32 := 9#32
  let v466 : BitVec 32 := Scalar.addi v465 c9_i32
  let c256_i32_213 : BitVec 32 := 256#32
  let v467 : BitVec 32 := Scalar.muli v466 c256_i32_213
  v467
def k0_mult43 (i : grid0.Coords) : BitVec 32 :=
  let arg2 : BitVec 32 := BitVec.ofNat 32 (i 2).val
  let c16_i32_234 : BitVec 32 := 16#32
  let v514 : BitVec 32 := Scalar.muli arg2 c16_i32_234
  let c10_i32 : BitVec 32 := 10#32
  let v515 : BitVec 32 := Scalar.addi v514 c10_i32
  let c256_i32_235 : BitVec 32 := 256#32
  let v516 : BitVec 32 := Scalar.muli v515 c256_i32_235
  v516
def k0_mult44 (i : grid0.Coords) : BitVec 32 :=
  let arg2 : BitVec 32 := BitVec.ofNat 32 (i 2).val
  let c16_i32_256 : BitVec 32 := 16#32
  let v563 : BitVec 32 := Scalar.muli arg2 c16_i32_256
  let c11_i32 : BitVec 32 := 11#32
  let v564 : BitVec 32 := Scalar.addi v563 c11_i32
  let c256_i32_257 : BitVec 32 := 256#32
  let v565 : BitVec 32 := Scalar.muli v564 c256_i32_257
  v565
def k0_mult45 (i : grid0.Coords) : BitVec 32 :=
  let arg2 : BitVec 32 := BitVec.ofNat 32 (i 2).val
  let c16_i32_278 : BitVec 32 := 16#32
  let v612 : BitVec 32 := Scalar.muli arg2 c16_i32_278
  let c12_i32 : BitVec 32 := 12#32
  let v613 : BitVec 32 := Scalar.addi v612 c12_i32
  let c256_i32_279 : BitVec 32 := 256#32
  let v614 : BitVec 32 := Scalar.muli v613 c256_i32_279
  v614
def k0_mult46 (i : grid0.Coords) : BitVec 32 :=
  let arg2 : BitVec 32 := BitVec.ofNat 32 (i 2).val
  let c16_i32_300 : BitVec 32 := 16#32
  let v661 : BitVec 32 := Scalar.muli arg2 c16_i32_300
  let c13_i32 : BitVec 32 := 13#32
  let v662 : BitVec 32 := Scalar.addi v661 c13_i32
  let c256_i32_301 : BitVec 32 := 256#32
  let v663 : BitVec 32 := Scalar.muli v662 c256_i32_301
  v663
def k0_mult47 (i : grid0.Coords) : BitVec 32 :=
  let arg2 : BitVec 32 := BitVec.ofNat 32 (i 2).val
  let c16_i32_322 : BitVec 32 := 16#32
  let v710 : BitVec 32 := Scalar.muli arg2 c16_i32_322
  let c14_i32 : BitVec 32 := 14#32
  let v711 : BitVec 32 := Scalar.addi v710 c14_i32
  let c256_i32_323 : BitVec 32 := 256#32
  let v712 : BitVec 32 := Scalar.muli v711 c256_i32_323
  v712
def k0_mult48 (i : grid0.Coords) : BitVec 32 :=
  let arg2 : BitVec 32 := BitVec.ofNat 32 (i 2).val
  let c16_i32_344 : BitVec 32 := 16#32
  let v759 : BitVec 32 := Scalar.muli arg2 c16_i32_344
  let c15_i32 : BitVec 32 := 15#32
  let v760 : BitVec 32 := Scalar.addi v759 c15_i32
  let c256_i32_345 : BitVec 32 := 256#32
  let v761 : BitVec 32 := Scalar.muli v760 c256_i32_345
  v761
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x8192x512 : Shape := ⟨3, ![4, 8192, 512]⟩
abbrev S4x32x8x256 : Shape := ⟨4, ![4, 32, 8, 256]⟩
abbrev S4x32x4x256 : Shape := ⟨4, ![4, 32, 4, 256]⟩
abbrev S4x4x32x256 : Shape := ⟨4, ![4, 4, 32, 256]⟩
abbrev S4x4x8192 : Shape := ⟨3, ![4, 4, 8192]⟩
abbrev S4x8192x4x128 : Shape := ⟨4, ![4, 8192, 4, 128]⟩
abbrev S4x4x8192x128 : Shape := ⟨4, ![4, 4, 8192, 128]⟩
abbrev S_ : Shape := ⟨0, ![]⟩
abbrev S4x4x8192x8192 : Shape := ⟨4, ![4, 4, 8192, 8192]⟩
abbrev S4x4x8192x1 : Shape := ⟨4, ![4, 4, 8192, 1]⟩
abbrev S4x4x1x8192 : Shape := ⟨4, ![4, 4, 1, 8192]⟩
abbrev S8192x8192 : Shape := ⟨2, ![8192, 8192]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x32x8x256, .f32⟩
  | .hbm, ⟨4, _⟩ => ⟨S4x8192x512, .bf16⟩
  | .hbm, ⟨5, _⟩ => ⟨S4x32x4x256, .f32⟩
  | .hbm, ⟨6, _⟩ => ⟨S4x4x32x256, .f32⟩
  | .hbm, ⟨7, _⟩ => ⟨S4x4x8192, .f32⟩
  | .hbm, ⟨8, _⟩ => ⟨S4x8192x512, .f32⟩
  | .hbm, ⟨9, _⟩ => ⟨S4x8192x4x128, .f32⟩
  | .hbm, ⟨10, _⟩ => ⟨S4x4x8192x128, .f32⟩
  | .hbm, ⟨11, _⟩ => ⟨S_, .f32⟩
  | .hbm, ⟨12, _⟩ => ⟨S_, .f32⟩
  | .hbm, ⟨13, _⟩ => ⟨S4x4x8192x128, .f32⟩
  | .hbm, ⟨14, _⟩ => ⟨S4x4x8192x128, .f32⟩
  | .hbm, ⟨15, _⟩ => ⟨S4x8192x512, .f32⟩
  | .hbm, ⟨16, _⟩ => ⟨S4x8192x4x128, .f32⟩
  | .hbm, ⟨17, _⟩ => ⟨S4x4x8192x128, .f32⟩
  | .hbm, ⟨18, _⟩ => ⟨S4x8192x512, .f32⟩
  | .hbm, ⟨19, _⟩ => ⟨S4x8192x4x128, .f32⟩
  | .hbm, ⟨20, _⟩ => ⟨S4x4x8192x128, .f32⟩
  | .hbm, ⟨21, _⟩ => ⟨S4x4x8192x8192, .f32⟩
  | .hbm, ⟨22, _⟩ => ⟨S4x4x8192x1, .f32⟩
  | .hbm, ⟨23, _⟩ => ⟨S4x4x8192x8192, .f32⟩
  | .hbm, ⟨24, _⟩ => ⟨S4x4x8192x8192, .f32⟩
  | .hbm, ⟨25, _⟩ => ⟨S4x4x1x8192, .f32⟩
  | .hbm, ⟨26, _⟩ => ⟨S4x4x8192x8192, .f32⟩
  | .hbm, ⟨27, _⟩ => ⟨S4x4x8192x8192, .f32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S4x4x8192x8192, .i1⟩
  | .hbm, ⟨34, _⟩ => ⟨S4x4x8192x8192, .f32⟩
  | .hbm, ⟨35, _⟩ => ⟨S4x4x8192x8192, .f32⟩
  | .hbm, ⟨36, _⟩ => ⟨S_, .f32⟩
  | .hbm, ⟨37, _⟩ => ⟨S4x4x8192, .f32⟩
  | .hbm, ⟨38, _⟩ => ⟨S_, .f32⟩
  | .hbm, ⟨39, _⟩ => ⟨S4x4x8192, .f32⟩
  | .hbm, ⟨40, _⟩ => ⟨S4x4x8192, .f32⟩
  | .hbm, ⟨41, _⟩ => ⟨S4x4x8192x1, .f32⟩
  | .hbm, ⟨42, _⟩ => ⟨S4x4x8192x8192, .f32⟩
  | .hbm, ⟨43, _⟩ => ⟨S4x4x8192x8192, .f32⟩
  | .hbm, ⟨44, _⟩ => ⟨S4x4x8192x8192, .f32⟩
  | .hbm, ⟨45, _⟩ => ⟨S_, .f32⟩
  | .hbm, ⟨46, _⟩ => ⟨S4x4x8192, .f32⟩
  | .hbm, ⟨47, _⟩ => ⟨S4x4x8192x1, .f32⟩
  | .hbm, ⟨48, _⟩ => ⟨S4x4x8192x8192, .f32⟩
  | .hbm, ⟨49, _⟩ => ⟨S4x4x8192x8192, .f32⟩
  | .hbm, ⟨50, _⟩ => ⟨S4x4x8192x128, .f32⟩
  | .hbm, ⟨51, _⟩ => ⟨S4x8192x4x128, .f32⟩
  | .hbm, ⟨52, _⟩ => ⟨S4x8192x512, .f32⟩
  | .hbm, ⟨53, _⟩ => ⟨S4x8192x512, .f32⟩
  | .hbm, ⟨54, _⟩ => ⟨S4x8192x512, .f32⟩
  | .hbm, ⟨55, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel2.lean ====
abbrev S32768x512 : Shape := ⟨2, ![32768, 512]⟩
abbrev S1024x1024 : Shape := ⟨2, ![1024, 1024]⟩
abbrev S32768x1024 : Shape := ⟨2, ![32768, 1024]⟩
abbrev S1x1024 : Shape := ⟨2, ![1, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .bf16⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x512 : Shape := ⟨2, ![32768, 512]⟩
abbrev S1024x1024 : Shape := ⟨2, ![1024, 1024]⟩
abbrev S32768x1024 : Shape := ⟨2, ![32768, 1024]⟩
abbrev S1x1024 : Shape := ⟨2, ![1, 1024]⟩
abbrev S_ : Shape := ⟨0, ![]⟩
abbrev S1024 : Shape := ⟨1, ![1024]⟩
abbrev S32768 : Shape := ⟨1, ![32768]⟩
abbrev S32768x1 : Shape := ⟨2, ![32768, 1]⟩

abbrev nBuf : Space → Nat
  | .hbm => 46
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .bf16⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x512, .f32⟩
  | .hbm, ⟨7, _⟩ => ⟨S32768x512, .f32⟩
  | .hbm, ⟨8, _⟩ => ⟨S32768x1024, .f32⟩
  | .hbm, ⟨9, _⟩ => ⟨S1024x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel3.lean ====
abbrev S32768x1024 : Shape := ⟨2, ![32768, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S1x1024, .f32⟩
  | .hbm, ⟨4, _⟩ => ⟨S1x1024, .f32⟩
  | .hbm, ⟨5, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S32768 : Shape := ⟨1, ![32768]⟩
abbrev S32768x1 : Shape := ⟨2, ![32768, 1]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S1x1024, .f32⟩
  | .hbm, ⟨4, _⟩ => ⟨S1x1024, .f32⟩
  | .hbm, ⟨5, _⟩ => ⟨S32768x1024, .f32⟩
  | .hbm, ⟨6, _⟩ => ⟨S1024x1024, .f32⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024x2048 : Shape := ⟨2, ![1024, 2048]⟩
abbrev S8x1024 : Shape := ⟨2, ![8, 1024]⟩
abbrev S4x1024 : Shape := ⟨2, ![4, 1024]⟩
abbrev S1x1024 : Shape := ⟨2, ![1, 1024]⟩
abbrev S4 : Shape := ⟨1, ![4]⟩
abbrev S8 : Shape := ⟨1, ![8]⟩
abbrev S8x1 : Shape := ⟨2, ![8, 1]⟩
abbrev S4x8192x512 : Shape := ⟨3, ![4, 8192, 512]⟩
abbrev S4x8x8192 : Shape := ⟨3, ![4, 8, 8192]⟩
abbrev S1x1024x1024 : Shape := ⟨3, ![1, 1024, 1024]⟩
abbrev S1x1024x512 : Shape := ⟨3, ![1, 1024, 512]⟩
abbrev S1x8x1024 : Shape := ⟨3, ![1, 8, 1024]⟩
abbrev S1032x1024 : Shape := ⟨2, ![1032, 1024]⟩
abbrev S1024x1024 : Shape := ⟨2, ![1024, 1024]⟩
abbrev S1024x256 : Shape := ⟨2, ![1024, 256]⟩
abbrev S1x256 : Shape := ⟨2, ![1, 256]⟩
abbrev S8x256 : Shape := ⟨2, ![8, 256]⟩
abbrev S1x1024x256 : Shape := ⟨3, ![1, 1024, 256]⟩

abbrev nBuf : Space → Nat
  | .hbm => 17
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S1024x2048, .bf16⟩
  | .hbm, ⟨2, _⟩ => ⟨S1024x2048, .bf16⟩
  | .hbm, ⟨3, _⟩ => ⟨S8x1024, .bf16⟩
  | .hbm, ⟨4, _⟩ => ⟨S4x1024, .f32⟩
  | .hbm, ⟨5, _⟩ => ⟨S1x1024, .f32⟩
  | .hbm, ⟨6, _⟩ => ⟨S4, .f32⟩
  | .hbm, ⟨7, _⟩ => ⟨S4, .f32⟩
  | .hbm, ⟨8, _⟩ => ⟨S8, .f32⟩
  | .hbm, ⟨9, _⟩ => ⟨S8x1, .f32⟩
  | .hbm, ⟨10, _⟩ => ⟨S8x1024, .f32⟩
  | .hbm, ⟨11, _⟩ => ⟨S4x8192x512, .bf16⟩
  | .hbm, ⟨12, _⟩ => ⟨S4x8192x512, .bf16⟩
  | .hbm, ⟨13, _⟩ => ⟨S4x8192x1024, .bf16⟩
  | .hbm, ⟨14, _⟩ => ⟨S4x8192x1024, .bf16⟩
  | .hbm, ⟨15, _⟩ => ⟨S4x8192x1024, .bf16⟩
  | .hbm, ⟨16, _⟩ => ⟨S4x8x8192, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S8x1024, .bf16⟩
  | .local _ .vmem, ⟨5, _⟩ => ⟨S4x1024, .f32⟩
  | .local _ .vmem, ⟨6, _⟩ => ⟨S1x1024, .f32⟩
  | .local _ .vmem, ⟨7, _⟩ => ⟨S8x1024, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x8x1024, .f32⟩
  | .local _ .vmem, ⟨19, _⟩ => ⟨S1x8x1024, .f32⟩
  | .local _ .vmem, ⟨20, _⟩ => ⟨S1032x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S4x8192x1024 : Shape := ⟨3, ![4, 8192, 1024]⟩
abbrev S1024x2048 : Shape := ⟨2, ![1024, 2048]⟩
abbrev S8x1024 : Shape := ⟨2, ![8, 1024]⟩
abbrev S4x1024 : Shape := ⟨2, ![4, 1024]⟩
abbrev S1x1024 : Shape := ⟨2, ![1, 1024]⟩
abbrev S4 : Shape := ⟨1, ![4]⟩
abbrev S4x8192x2048 : Shape := ⟨3, ![4, 8192, 2048]⟩
abbrev S4x8192x512 : Shape := ⟨3, ![4, 8192, 512]⟩
abbrev S4x8192x8 : Shape := ⟨3, ![4, 8192, 8]⟩
abbrev S4x8192x4 : Shape := ⟨3, ![4, 8192, 4]⟩
abbrev S_ : Shape := ⟨0, ![]⟩
abbrev S4x8195x1024 : Shape := ⟨3, ![4, 8195, 1024]⟩
abbrev S1024 : Shape := ⟨1, ![1024]⟩
abbrev S1x1x1024 : Shape := ⟨3, ![1, 1, 1024]⟩
abbrev S1x1x4 : Shape := ⟨3, ![1, 1, 4]⟩
abbrev S4x4x8192 : Shape := ⟨3, ![4, 4, 8192]⟩
abbrev S4x4x32x256 : Shape := ⟨4, ![4, 4, 32, 256]⟩
abbrev S4x8x8192 : Shape := ⟨3, ![4, 8, 8192]⟩

abbrev nBuf : Space → Nat
  | .hbm => 126
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x2048, .bf16⟩
  | .hbm, ⟨2, _⟩ => ⟨S1024x2048, .bf16⟩
  | .hbm, ⟨3, _⟩ => ⟨S8x1024, .bf16⟩
  | .hbm, ⟨4, _⟩ => ⟨S4x1024, .f32⟩
  | .hbm, ⟨5, _⟩ => ⟨S1x1024, .f32⟩
  | .hbm, ⟨6, _⟩ => ⟨S4, .f32⟩
  | .hbm, ⟨7, _⟩ => ⟨S4, .f32⟩
  | .hbm, ⟨8, _⟩ => ⟨S1024x2048, .f32⟩
  | .hbm, ⟨9, _⟩ => ⟨S4x8192x2048, .f32⟩
  | .hbm, ⟨10, _⟩ => ⟨S4x8192x512, .f32⟩
  | .hbm, ⟨11, _⟩ => ⟨S4x8192x512, .f32⟩
  | .hbm, ⟨12, _⟩ => ⟨S4x8192x1024, .f32⟩
  | .hbm, ⟨13, _⟩ => ⟨S1024x2048, .f32⟩
  | .hbm, ⟨14, _⟩ => ⟨S4x8192x2048, .f32⟩
  | .hbm, ⟨15, _⟩ => ⟨S4x8192x1024, .f32⟩
  | .hbm, ⟨16, _⟩ => ⟨S4x8192x1024, .f32⟩
  | .hbm, ⟨17, _⟩ => ⟨S8x1024, .f32⟩
  | .hbm, ⟨18, _⟩ => ⟨S4x8192x8, .f32⟩
  | .hbm, ⟨19, _⟩ => ⟨S4x8192x4, .f32⟩
  | .hbm, ⟨20, _⟩ => ⟨S4x8192x4, .f32⟩
  | .hbm, ⟨21, _⟩ => ⟨S4x8192x1024, .f32⟩
  | .hbm, ⟨22, _⟩ => ⟨S_, .i32⟩
  | .hbm, ⟨23, _⟩ => ⟨S_, .f32⟩
  | .hbm, ⟨24, _⟩ => ⟨S4x8195x1024, .f32⟩
  | .hbm, ⟨25, _⟩ => ⟨S4x8192x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S1x1024, .f32⟩
  | .hbm, ⟨36, _⟩ => ⟨S1024, .f32⟩
  | .hbm, ⟨37, _⟩ => ⟨S1x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S1x1024, .f32⟩
  | .hbm, ⟨43, _⟩ => ⟨S1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S_, .f32⟩
  | .hbm, ⟨62, _⟩ => ⟨S4x8192x1024, .f32⟩
  | .hbm, ⟨63, _⟩ => ⟨S4x8192x1024, .f32⟩
  | .hbm, ⟨64, _⟩ => ⟨S_, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x512, .f32⟩
  | .hbm, ⟨69, _⟩ => ⟨S4x8192x512, .f32⟩
  | .hbm, ⟨70, _⟩ => ⟨S1x1x4, .f32⟩
  | .hbm, ⟨71, _⟩ => ⟨S4x8192x4, .f32⟩
  | .hbm, ⟨72, _⟩ => ⟨S4x8192x4, .f32⟩
  | .hbm, ⟨73, _⟩ => ⟨S4x4x8192, .f32⟩
  | .hbm, ⟨74, _⟩ => ⟨S1x1x4, .f32⟩
  | .hbm, ⟨75, _⟩ => ⟨S4x8192x4, .f32⟩
  | .hbm, ⟨76, _⟩ => ⟨S4x8192x4, .f32⟩
  | .hbm, ⟨77, _⟩ => ⟨S4x8192x4, .f32⟩
  | .hbm, ⟨78, _⟩ => ⟨S_, .f32⟩
  | .hbm, ⟨79, _⟩ => ⟨S4x8192x4, .f32⟩
  | .hbm, ⟨80, _⟩ => ⟨S4x8192x4, .f32⟩
  | .hbm, ⟨81, _⟩ => ⟨S4x8192x4, .f32⟩
  | .hbm, ⟨82, _⟩ => ⟨S4x8192x4, .f32⟩
  | .hbm, ⟨83, _⟩ => ⟨S4x8192x4, .i1⟩
  | .hbm, ⟨84, _⟩ => ⟨S4x8192x4, .f32⟩
  | .hbm, ⟨85, _⟩ => ⟨S4x8192x4, .f32⟩
  | .hbm, ⟨86, _⟩ => ⟨S4x8192x4, .f32⟩
  | .hbm, ⟨87, _⟩ => ⟨S4x8192x4, .f32⟩
  | .hbm, ⟨88, _⟩ => ⟨S4x8192x4, .f32⟩
  | .hbm, ⟨89, _⟩ => ⟨S4x8192x4, .f32⟩
  | .hbm, ⟨90, _⟩ => ⟨S4x8192x4, .f32⟩
  | .hbm, ⟨91, _⟩ => ⟨S4x8192x4, .f32⟩
  | .hbm, ⟨92, _⟩ => ⟨S4x8192x4, .f32⟩
  | .hbm, ⟨93, _⟩ => ⟨S4x4x8192, .f32⟩
  | .hbm, ⟨94, _⟩ => ⟨S4x4x32x256, .f32⟩
  | .hbm, ⟨95, _⟩ => ⟨S_, .f32⟩
  | .hbm, ⟨96, _⟩ => ⟨S_, .f32⟩
  | .hbm, ⟨97, _⟩ => ⟨S4x4x32x256, .f32⟩
  | .hbm, ⟨98, _⟩ => ⟨S4x4x8192, .f32⟩
  | .hbm, ⟨99, _⟩ => ⟨S4x8192x512, .bf16⟩
  | .hbm, ⟨100, _⟩ => ⟨S_, .f32⟩
  | .hbm, ⟨101, _⟩ => ⟨S4x8192x512, .f32⟩
  | .hbm, ⟨102, _⟩ => ⟨S4x8192x512, .f32⟩
  | .hbm, ⟨103, _⟩ => ⟨S4x8192x512, .bf16⟩
  | .hbm, ⟨104, _⟩ => ⟨S4x8192x1024, .bf16⟩
  | .hbm, ⟨105, _⟩ => ⟨S4x8192x1024, .f32⟩
  | .hbm, ⟨106, _⟩ => ⟨S4x8192x1024, .f32⟩
  | .hbm, ⟨107, _⟩ => ⟨S_, .f32⟩
  | .hbm, ⟨108, _⟩ => ⟨S4x8192x1024, .f32⟩
  | .hbm, ⟨109, _⟩ => ⟨S4x8192x1024, .f32⟩
  | .hbm, ⟨110, _⟩ => ⟨S_, .f32⟩
  | .hbm, ⟨111, _⟩ => ⟨S4x8192x1024, .f32⟩
  | .hbm, ⟨112, _⟩ => ⟨S4x8192x1024, .f32⟩
  | .hbm, ⟨113, _⟩ => ⟨S4x8192x1024, .bf16⟩
  | .hbm, ⟨114, _⟩ => ⟨S4x8192x1024, .f32⟩
  | .hbm, ⟨115, _⟩ => ⟨S4x8192x1024, .f32⟩
  | .hbm, ⟨116, _⟩ => ⟨S_, .f32⟩
  | .hbm, ⟨117, _⟩ => ⟨S4x8192x1024, .f32⟩
  | .hbm, ⟨118, _⟩ => ⟨S4x8192x1024, .f32⟩
  | .hbm, ⟨119, _⟩ => ⟨S_, .f32⟩
  | .hbm, ⟨120, _⟩ => ⟨S4x8192x1024, .f32⟩
  | .hbm, ⟨121, _⟩ => ⟨S4x8192x1024, .f32⟩
  | .hbm, ⟨122, _⟩ => ⟨S4x8192x1024, .f32⟩
  | .hbm, ⟨123, _⟩ => ⟨S4x8192x1024, .bf16⟩
  | .hbm, ⟨124, _⟩ => ⟨S4x4x8192, .f32⟩
  | .hbm, ⟨125, _⟩ => ⟨S4x8x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call2_v0 : Ref sig .tc := ⟨.hbm, 77, rfl⟩
abbrev main_call2_call0_cst : Ref sig .tc := ⟨.hbm, 78, rfl⟩
abbrev main_call2_call0_v0 : Ref sig .tc := ⟨.hbm, 79, rfl⟩
abbrev main_call2_call0_v1 : Ref sig .tc := ⟨.hbm, 80, rfl⟩
abbrev main_call2_call0_v2 : Ref sig .tc := ⟨.hbm, 81, rfl⟩
abbrev main_call2_call0_v3 : Ref sig .tc := ⟨.hbm, 82, rfl⟩
abbrev main_call2_call0_v4 : Ref sig .tc := ⟨.hbm, 83, rfl⟩
abbrev main_call2_call0_v5 : Ref sig .tc := ⟨.hbm, 84, rfl⟩
abbrev main_call2_call0_v6 : Ref sig .tc := ⟨.hbm, 85, rfl⟩
abbrev main_call2_call0_v7 : Ref sig .tc := ⟨.hbm, 86, rfl⟩
abbrev main_call2_call0_v8 : Ref sig .tc := ⟨.hbm, 87, rfl⟩
abbrev main_call2_call0_v9 : Ref sig .tc := ⟨.hbm, 88, rfl⟩
abbrev main_call2_call0_v10 : Ref sig .tc := ⟨.hbm, 89, rfl⟩
abbrev main_call2_call0_v11 : Ref sig .tc := ⟨.hbm, 90, rfl⟩
abbrev main_call2_v1 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call3_call0_cst : Ref sig .tc := ⟨.hbm, 95, rfl⟩
abbrev main_call3_call0_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_0 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_1 : Ref sig .tc := ⟨.hbm, 107, rfl⟩
abbrev main_v70 : Ref sig .tc := ⟨.hbm, 108, rfl⟩
abbrev main_v71 : Ref sig .tc := ⟨.hbm, 109, rfl⟩
abbrev main_cst_2 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩

abbrev nD : Nat := 1
abbrev τ : Topo := Topo.v7x

variable {F : FTy → Type} [FloatOps F]
-- ==== Kernel5.lean ====
abbrev S4x8192x1024 : Shape := ⟨3, ![4, 8192, 1024]⟩
abbrev S1024x3584 : Shape := ⟨2, ![1024, 3584]⟩
abbrev S1024x512 : Shape := ⟨2, ![1024, 512]⟩
abbrev S8x1024 : Shape := ⟨2, ![8, 1024]⟩
abbrev S1x512 : Shape := ⟨2, ![1, 512]⟩
abbrev S4 : Shape := ⟨1, ![4]⟩
abbrev S_ : Shape := ⟨0, ![]⟩
abbrev S8 : Shape := ⟨1, ![8]⟩
abbrev S8x1 : Shape := ⟨2, ![8, 1]⟩
abbrev S4x8192x512 : Shape := ⟨3, ![4, 8192, 512]⟩
abbrev S4x32x8x256 : Shape := ⟨4, ![4, 32, 8, 256]⟩
abbrev S1x1024x1024 : Shape := ⟨3, ![1, 1024, 1024]⟩
abbrev S1x1024x512 : Shape := ⟨3, ![1, 1024, 512]⟩
abbrev S1x4x8x256 : Shape := ⟨4, ![1, 4, 8, 256]⟩
abbrev S8x128 : Shape := ⟨2, ![8, 128]⟩
abbrev S4x128x128 : Shape := ⟨3, ![4, 128, 128]⟩
abbrev S1024x1024 : Shape := ⟨2, ![1024, 1024]⟩
abbrev S8x256 : Shape := ⟨2, ![8, 256]⟩
abbrev S1x1x8x256 : Shape := ⟨4, ![1, 1, 8, 256]⟩
abbrev S256x256 : Shape := ⟨2, ![256, 256]⟩
abbrev S256x128 : Shape := ⟨2, ![256, 128]⟩
abbrev S1x256x512 : Shape := ⟨3, ![1, 256, 512]⟩
abbrev S256x512 : Shape := ⟨2, ![256, 512]⟩
abbrev S1x256x128 : Shape := ⟨3, ![1, 256, 128]⟩
abbrev S1x128x128 : Shape := ⟨3, ![1, 128, 128]⟩
abbrev S128x128 : Shape := ⟨2, ![128, 128]⟩
abbrev S64x128 : Shape := ⟨2, ![64, 128]⟩
abbrev S1x128 : Shape := ⟨2, ![1, 128]⟩
abbrev S256 : Shape := ⟨1, ![256]⟩
abbrev S256x1 : Shape := ⟨2, ![256, 1]⟩
abbrev S1024x256 : Shape := ⟨2, ![1024, 256]⟩
abbrev S1x1024x256 : Shape := ⟨3, ![1, 1024, 256]⟩

abbrev nBuf : Space → Nat
  | .hbm => 18
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S1024x3584, .bf16⟩
  | .hbm, ⟨2, _⟩ => ⟨S1024x512, .bf16⟩
  | .hbm, ⟨3, _⟩ => ⟨S8x1024, .bf16⟩
  | .hbm, ⟨4, _⟩ => ⟨S1x512, .f32⟩
  | .hbm, ⟨5, _⟩ => ⟨S4, .f32⟩
  | .hbm, ⟨6, _⟩ => ⟨S1x512, .f32⟩
  | .hbm, ⟨7, _⟩ => ⟨S_, .i32⟩
  | .hbm, ⟨8, _⟩ => ⟨S_, .f32⟩
  | .hbm, ⟨9, _⟩ => ⟨S8, .f32⟩
  | .hbm, ⟨10, _⟩ => ⟨S8x1, .f32⟩
  | .hbm, ⟨11, _⟩ => ⟨S8x1024, .f32⟩
  | .hbm, ⟨12, _⟩ => ⟨S4x8192x512, .bf16⟩
  | .hbm, ⟨13, _⟩ => ⟨S4x8192x512, .bf16⟩
  | .hbm, ⟨14, _⟩ => ⟨S4x8192x512, .bf16⟩
  | .hbm, ⟨15, _⟩ => ⟨S4x8192x512, .bf16⟩
  | .hbm, ⟨16, _⟩ => ⟨S4x8192x512, .bf16⟩
  | .hbm, ⟨17, _⟩ => ⟨S4x32x8x256, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x3584, .bf16⟩
  | .local _ .vmem, ⟨3, _⟩ => ⟨S1024x512, .bf16⟩
  | .local _ .vmem, ⟨4, _⟩ => ⟨S8x1024, .bf16⟩
  | .local _ .vmem, ⟨5, _⟩ => ⟨S1x512, .f32⟩
  | .local _ .vmem, ⟨6, _⟩ => ⟨S8x1024, .f32⟩
  | .local _ .vmem, ⟨7, _⟩ => ⟨S1x512, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x4x8x256, .f32⟩
  | .local _ .vmem, ⟨19, _⟩ => ⟨S1x4x8x256, .f32⟩
  | .local _ .vmem, ⟨20, _⟩ => ⟨S8x128, .f32⟩
  | .local _ .vmem, ⟨21, _⟩ => ⟨S4x128x128, .f32⟩
  | .local _ .vmem, ⟨22, _⟩ => ⟨S1024x1024, .bf16⟩
  | .local _ .vmem, ⟨23, _⟩ => ⟨S1x1024x512, .bf16⟩
  | .local _ .vmem, ⟨24, _⟩ => ⟨S1x1024x512, .f32⟩
  | .local _ .vmem, ⟨25, _⟩ => ⟨S1x1024x512, .bf16⟩
  | .local _ .vmem, ⟨26, _⟩ => ⟨S1x1024x512, .bf16⟩
  | .local _ .vmem, ⟨27, _⟩ => ⟨S1x1024x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S4x8192x1024 : Shape := ⟨3, ![4, 8192, 1024]⟩
abbrev S1024x3584 : Shape := ⟨2, ![1024, 3584]⟩
abbrev S1024x512 : Shape := ⟨2, ![1024, 512]⟩
abbrev S8x1024 : Shape := ⟨2, ![8, 1024]⟩
abbrev S1x512 : Shape := ⟨2, ![1, 512]⟩
abbrev S4 : Shape := ⟨1, ![4]⟩
abbrev S4x8192x3584 : Shape := ⟨3, ![4, 8192, 3584]⟩
abbrev S4x8192x512 : Shape := ⟨3, ![4, 8192, 512]⟩
abbrev S512 : Shape := ⟨1, ![512]⟩
abbrev S_ : Shape := ⟨0, ![]⟩
abbrev S1x1x512 : Shape := ⟨3, ![1, 1, 512]⟩
abbrev S4x8192x4x128 : Shape := ⟨4, ![4, 8192, 4, 128]⟩
abbrev S8192x8192 : Shape := ⟨2, ![8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S4x8192x8 : Shape := ⟨3, ![4, 8192, 8]⟩
abbrev S8 : Shape := ⟨1, ![8]⟩
abbrev S1x1x8 : Shape := ⟨3, ![1, 1, 8]⟩
abbrev S4x8x8192 : Shape := ⟨3, ![4, 8, 8192]⟩
abbrev S4x8x32x256 : Shape := ⟨4, ![4, 8, 32, 256]⟩
abbrev S4x32x8x256 : Shape := ⟨4, ![4, 32, 8, 256]⟩

abbrev nBuf : Space → Nat
  | .hbm => 138
  | .vmem => 0
  | .smem => 0
  | _ => 0

abbrev hbmTy0_0 (i : Nat) : BufTy := match i % 128 with
  | 0 => ⟨S4x8192x1024, .f32⟩
  | 1 => ⟨S1024x3584, .bf16⟩
  | 2 => ⟨S1024x512, .bf16⟩
  | 3 => ⟨S8x1024, .bf16⟩
  | 4 => ⟨S1x512, .f32⟩
  | 5 => ⟨S4, .f32⟩
  | 6 => ⟨S1x512, .f32⟩
  | 7 => ⟨S1024x3584, .f32⟩
  | 8 => ⟨S4x8192x3584, .f32⟩
  | 9 => ⟨S4x8192x512, .f32⟩
  | 10 => ⟨S4x8192x512, .f32⟩
  | 11 => ⟨S4x8192x512, .f32⟩
  | 12 => ⟨S4x8192x512, .f32⟩
  | 13 => ⟨S4x8192x512, .f32⟩
  | 14 => ⟨S4x8192x512, .f32⟩
  | 15 => ⟨S4x8192x512, .f32⟩
  | 16 => ⟨S1024x512, .f32⟩
  | 17 => ⟨S4x8192x512, .f32⟩
  | 18 => ⟨S512, .f32⟩
  | 19 => ⟨S512, .f32⟩
  | 20 => ⟨S_, .f32⟩
  | 21 => ⟨S512, .f32⟩
  | 22 => ⟨S512, .f32⟩
  | 23 => ⟨S4x8192x512, .f32⟩
  | 24 => ⟨S4x8192x512, .f32⟩
  | 25 => ⟨S_, .f32⟩
  | 26 => ⟨S4x8192x512, .f32⟩
  | 27 => ⟨S4x8192x512, .f32⟩
  | 28 => ⟨S_, .f32⟩
  | 29 => ⟨S4x8192x512, .f32⟩
  | 30 => ⟨S4x8192x512, .f32⟩
  | 31 => ⟨S1x1x512, .f32⟩
  | 32 => ⟨S4x8192x512, .f32⟩
  | 33 => ⟨S4x8192x512, .f32⟩
  | 34 => ⟨S1x1x512, .f32⟩
  | 35 => ⟨S4x8192x512, .f32⟩
  | 36 => ⟨S4x8192x512, .f32⟩
  | 37 => ⟨S4x8192x512, .f32⟩
  | 38 => ⟨S_, .f32⟩
  | 39 => ⟨S_, .f32⟩
  | 40 => ⟨S4x8192x512, .f32⟩
  | 41 => ⟨S4x8192x512, .f32⟩
  | 42 => ⟨S4x8192x512, .f32⟩
  | 43 => ⟨S4x8192x4x128, .f32⟩
  | 44 => ⟨S_, .f32⟩
  | 45 => ⟨S4x8192x512, .f32⟩
  | 46 => ⟨S4x8192x512, .f32⟩
  | 47 => ⟨S4x8192x512, .f32⟩
  | 48 => ⟨S4x8192x512, .f32⟩
  | 49 => ⟨S4x8192x512, .f32⟩
  | 50 => ⟨S4x8192x4x128, .f32⟩
  | 51 => ⟨S8192x8192, .i32⟩
  | 52 => ⟨S8192x8192, .i32⟩
  | 53 => ⟨S8192x8192, .i1⟩
  | 54 => ⟨S4x4x8192x8192, .f32⟩
  | 55 => ⟨S_, .f32⟩
  | 56 => ⟨S_, .f32⟩
  | 57 => ⟨S4x4x8192x8192, .i1⟩
  | 58 => ⟨S4x4x8192x8192, .f32⟩
  | 59 => ⟨S4x4x8192x8192, .f32⟩
  | 60 => ⟨S4x8192x4x128, .f32⟩
  | 61 => ⟨S4x4x128x8192, .f32⟩
  | 62 => ⟨S4x8192x4x128, .f32⟩
  | 63 => ⟨S4x8192x4x128, .f32⟩
  | 64 => ⟨S_, .f32⟩
  | 65 => ⟨S4x8192x4, .f32⟩
  | 66 => ⟨S4x8192x4x1, .f32⟩
  | 67 => ⟨S_, .f32⟩
  | 68 => ⟨S4x8192x4x1, .f32⟩
  | 69 => ⟨S4x8192x4x1, .f32⟩
  | 70 => ⟨S_, .f32⟩
  | 71 => ⟨S4x8192x4x1, .f32⟩
  | 72 => ⟨S4x8192x4x1, .f32⟩
  | 73 => ⟨S4x8192x4x1, .f32⟩
  | 74 => ⟨S4x8192x4x128, .f32⟩
  | 75 => ⟨S4x8192x4x128, .f32⟩
  | 76 => ⟨S4x8192x512, .f32⟩
  | 77 => ⟨S512, .f32⟩
  | 78 => ⟨S1x1x512, .f32⟩
  | 79 => ⟨S4x8192x512, .f32⟩
  | 80 => ⟨S4x8192x512, .f32⟩
  | 81 => ⟨S4x8192x512, .f32⟩
  | 82 => ⟨S4x8192x512, .f32⟩
  | 83 => ⟨S_, .f32⟩
  | 84 => ⟨S4x8192x512, .f32⟩
  | 85 => ⟨S4x8192x512, .f32⟩
  | 86 => ⟨S_, .f32⟩
  | 87 => ⟨S4x8192x512, .f32⟩
  | 88 => ⟨S4x8192x512, .f32⟩
  | 89 => ⟨S4x8192x512, .f32⟩
  | 90 => ⟨S4x8192x512, .f32⟩
  | 91 => ⟨S8x1024, .f32⟩
  | 92 => ⟨S4x8192x8, .f32⟩
  | 93 => ⟨S_, .i32⟩
  | 94 => ⟨S_, .f32⟩
  | 95 => ⟨S8, .f32⟩
  | 96 => ⟨S1x1x8, .f32⟩
  | 97 => ⟨S4x8192x8, .f32⟩
  | 98 => ⟨S4x8192x8, .f32⟩
  | 99 => ⟨S4x8192x8, .f32⟩
  | 100 => ⟨S_, .f32⟩
  | 101 => ⟨S4x8192x8, .f32⟩
  | 102 => ⟨S4x8192x8, .f32⟩
  | 103 => ⟨S4x8192x8, .f32⟩
  | 104 => ⟨S4x8192x8, .f32⟩
  | 105 => ⟨S4x8192x8, .i1⟩
  | 106 => ⟨S4x8192x8, .f32⟩
  | 107 => ⟨S4x8192x8, .f32⟩
  | 108 => ⟨S4x8192x8, .f32⟩
  | 109 => ⟨S4x8192x8, .f32⟩
  | 110 => ⟨S4x8192x8, .f32⟩
  | 111 => ⟨S4x8192x8, .f32⟩
  | 112 => ⟨S4x8192x8, .f32⟩
  | 113 => ⟨S4x8192x8, .f32⟩
  | 114 => ⟨S4x8192x8, .f32⟩
  | 115 => ⟨S4x8x8192, .f32⟩
  | 116 => ⟨S_, .f32⟩
  | 117 => ⟨S_, .f32⟩
  | 118 => ⟨S4x8x8192, .f32⟩
  | 119 => ⟨S4x8x32x256, .f32⟩
  | 120 => ⟨S4x32x8x256, .f32⟩
  | 121 => ⟨S4x8192x512, .bf16⟩
  | 122 => ⟨S_, .f32⟩
  | 123 => ⟨S4x8192x512, .f32⟩
  | 124 => ⟨S4x8192x512, .f32⟩
  | 125 => ⟨S4x8192x512, .bf16⟩
  | 126 => ⟨S4x8192x512, .bf16⟩
  | 127 => ⟨S4x8192x512, .bf16⟩
  | _ => ⟨S4x8192x1024, .f32⟩

abbrev hbmTy0_1 (i : Nat) : BufTy := match i % 128 with
  | 0 => ⟨S4x8192x512, .f32⟩
  | 1 => ⟨S4x8192x512, .f32⟩
  | 2 => ⟨S_, .f32⟩
  | 3 => ⟨S4x8192x512, .f32⟩
  | 4 => ⟨S4x8192x512, .f32⟩
  | 5 => ⟨S_, .f32⟩
  | 6 => ⟨S4x8192x512, .f32⟩
  | 7 => ⟨S4x8192x512, .f32⟩
  | 8 => ⟨S4x8192x512, .f32⟩
  | 9 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_call0_cst : Ref sig .tc := ⟨.hbm, 38, rfl⟩
abbrev main_call0_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_4 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c : Ref sig .tc := ⟨.hbm, 93, rfl⟩
abbrev main_call3_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call4_v0 : Ref sig .tc := ⟨.hbm, 99, rfl⟩
abbrev main_call4_call0_cst : Ref sig .tc := ⟨.hbm, 100, rfl⟩
abbrev main_call4_call0_v0 : Ref sig .tc := ⟨.hbm, 101, rfl⟩
abbrev main_call4_call0_v1 : Ref sig .tc := ⟨.hbm, 102, rfl⟩
abbrev main_call4_call0_v2 : Ref sig .tc := ⟨.hbm, 103, rfl⟩
abbrev main_call4_call0_v3 : Ref sig .tc := ⟨.hbm, 104, rfl⟩
abbrev main_call4_call0_v4 : Ref sig .tc := ⟨.hbm, 105, rfl⟩
abbrev main_call4_call0_v5 : Ref sig .tc := ⟨.hbm, 106, rfl⟩
abbrev main_call4_call0_v6 : Ref sig .tc := ⟨.hbm, 107, rfl⟩
abbrev main_call4_call0_v7 : Ref sig .tc := ⟨.hbm, 108, rfl⟩
abbrev main_call4_call0_v8 : Ref sig .tc := ⟨.hbm, 109, rfl⟩
abbrev main_call4_call0_v9 : Ref sig .tc := ⟨.hbm, 110, rfl⟩
abbrev main_call4_call0_v10 : Ref sig .tc := ⟨.hbm, 111, rfl⟩
abbrev main_call4_call0_v11 : Ref sig .tc := ⟨.hbm, 112, rfl⟩
abbrev main_call4_v1 : Ref sig .tc := ⟨.hbm, 113, rfl⟩
abbrev main_v69 : Ref sig .tc := ⟨.hbm, 114, rfl⟩
abbrev main_v70 : Ref sig .tc := ⟨.hbm, 115, rfl⟩
abbrev main_call5_call0_cst : Ref sig .tc := ⟨.hbm, 116, rfl⟩
abbrev main_call5_call0_v0 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_7 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_call6_v0 : Ref sig .tc := ⟨.hbm, 128, rfl⟩
abbrev main_call6_v1 : Ref sig .tc := ⟨.hbm, 129, rfl⟩
abbrev main_call6_cst : Ref sig .tc := ⟨.hbm, 130, rfl⟩
abbrev main_call6_v2 : Ref sig .tc := ⟨.hbm, 131, rfl⟩
abbrev main_call6_v3 : Ref sig .tc := ⟨.hbm, 132, rfl⟩
abbrev main_call6_cst_0 : Ref sig .tc := ⟨.hbm, 133, rfl⟩
abbrev main_call6_v4 : Ref sig .tc := ⟨.hbm, 134, rfl⟩
abbrev main_call6_v5 : Ref sig .tc := ⟨.hbm, 135, rfl⟩
abbrev main_v80 : Ref sig .tc := ⟨.hbm, 136, rfl⟩
abbrev main_v81 : Ref sig .tc := ⟨.hbm, 137, rfl⟩

abbrev nD : Nat := 1
abbrev τ : Topo := Topo.v7x

variable {F : FTy → Type} [FloatOps F]
-- ==== Proof.Fox.Online.lean ====
/-
  The arithmetic of a softmax built up a block of keys at a time, on extended reals and base-two
  exponentials: what a running maximum and a running weighted sum hold after some keys, and how they
  change when more keys are taken in.
-/
module

public import Idealize.ShloMosaic.Run
public import Idealize.ShloMosaic.PureOps.Ideal.Laws

@[expose] public section

open Idealize.ShloMosaic

namespace Cert.Fox

/-- A base-two exponential is not negative. -/
theorem exp2_nonneg (x : EReal) : 0 ≤ Ideal.exp2 x := by
  induction x with
  | bot => exact le_refl _
  | top => exact le_top
  | coe r =>
    show (0 : EReal) ≤ ((Real.rpow 2 r : ℝ) : EReal)
    exact_mod_cast Real.rpow_nonneg (by norm_num) r

/-- The base-two exponential of minus infinity is zero. -/
theorem exp2_bot : Ideal.exp2 ⊥ = 0 := rfl

/-- The base-two exponential of a real number. -/
theorem exp2_coe (r : ℝ) : Ideal.exp2 (r : EReal) = ((Real.rpow 2 r : ℝ) : EReal) := rfl

/-- The exponential of a difference that is not positive is a real number. -/
theorem exp2_sub_ne_top {a b : EReal} (h : a ≤ b) : Ideal.exp2 (a - b) ≠ ⊤ := by
  induction b with
  | bot =>
    rw [le_bot_iff.mp h]
    simp [exp2_bot]
  | top => simp [exp2_bot]
  | coe s =>
    induction a with
    | bot => simp [exp2_bot]
    | top => exact absurd h (by simp)
    | coe r =>
      rw [← EReal.coe_sub, exp2_coe]
      exact EReal.coe_ne_top _

/-- Moving the reference point of an exponential from `a` to a greater `b`. -/
theorem exp2_shift {s a b : EReal} (hs : s ≤ a) (hab : a ≤ b) :
    Ideal.exp2 (a - b) * Ideal.exp2 (s - a) = Ideal.exp2 (s - b) := by
  induction a with
  | bot =>
    rw [le_bot_iff.mp hs]
    simp [exp2_bot]
  | top =>
    rw [top_le_iff.mp hab]
    simp [exp2_bot]
  | coe r =>
    induction b with
    | bot => exact absurd hab (by simp)
    | top => simp [exp2_bot]
    | coe t =>
      induction s with
      | bot => simp [exp2_bot]
      | top => exact absurd hs (by simp)
      | coe u =>
        simp only [← EReal.coe_sub, exp2_coe, ← EReal.coe_mul]
        congr 1
        show (2 : ℝ) ^ (r - t) * (2 : ℝ) ^ (u - r) = (2 : ℝ) ^ (u - t)
        rw [← Real.rpow_add (by norm_num)]
        congr 1
        ring

/-- A real factor that is not negative goes into a sum from the left. -/
theorem mul_sum_left {ι : Type*} (t : Finset ι) {c : EReal} (h0 : 0 ≤ c) (h1 : c ≠ ⊤) (f : ι → EReal) :
    c * ∑ i ∈ t, f i = ∑ i ∈ t, c * f i := by
  classical
  induction t using Finset.induction_on with
  | empty => simp
  | insert a t ha ih =>
    rw [Finset.sum_insert ha, Finset.sum_insert ha, EReal.left_distrib_of_nonneg_of_ne_top h0 h1, ih]

/-- The greatest of the first `n` scores. -/
noncomputable def top (S : ℕ → EReal) (n : ℕ) : EReal := (Finset.range n).sup S

/-- The sum over the first `n` keys of the column `V`, each key weighted by the exponential of its
score less the greatest. -/
noncomputable def wsum (S V : ℕ → EReal) (n : ℕ) : EReal :=
  ∑ j ∈ Finset.range n, Ideal.exp2 (S j - top S n) * V j

/-- Before any key the greatest score is minus infinity. -/
theorem top_zero (S : ℕ → EReal) : top S 0 = ⊥ := rfl

/-- Before any key the weighted sum is zero. -/
theorem wsum_zero (S V : ℕ → EReal) : wsum S V 0 = 0 := rfl

/-- A score taken in is at most the greatest. -/
theorem le_top_of_lt (S : ℕ → EReal) {n j : ℕ} (h : j < n) : S j ≤ top S n :=
  Finset.le_sup (f := S) (Finset.mem_range.mpr h)

/-- The greatest score after `K` more keys. -/
theorem top_add (S : ℕ → EReal) (n K : ℕ) :
    top S (n + K) = max (top S n) (Finset.univ.sup fun c : Fin K => S (n + c.val)) := by
  apply le_antisymm
  · refine Finset.sup_le fun j hj => ?_
    rcases Nat.lt_or_ge j n with h | h
    · exact le_max_of_le_left (le_top_of_lt S h)
    · have hj' := Finset.mem_range.mp hj
      refine le_max_of_le_right ?_
      have := Finset.le_sup (f := fun c : Fin K => S (n + c.val)) (Finset.mem_univ ⟨j - n, by omega⟩)
      simpa [Nat.add_sub_cancel' h] using this
  · refine max_le (Finset.sup_le fun j hj => le_top_of_lt S ?_) (Finset.sup_le fun c _ => le_top_of_lt S ?_)
    · have := Finset.mem_range.mp hj
      omega
    · have := c.isLt
      omega

/-- The weighted sum after `K` more keys: the old one moved to the new greatest score, plus the new
keys' terms. -/
theorem wsum_add (S V : ℕ → EReal) (n K : ℕ) :
    wsum S V (n + K) = Ideal.exp2 (top S n - top S (n + K)) * wsum S V n
      + ∑ c : Fin K, Ideal.exp2 (S (n + c.val) - top S (n + K)) * V (n + c.val) := by
  have hle : top S n ≤ top S (n + K) := by rw [top_add]; exact le_max_left _ _
  unfold wsum
  rw [Finset.sum_range_add, mul_sum_left _ (exp2_nonneg _) (exp2_sub_ne_top hle),
    ← Fin.sum_univ_eq_sum_range (fun c => Ideal.exp2 (S (n + c) - top S (n + K)) * V (n + c))]
  congr 1
  refine Finset.sum_congr rfl fun j hj => ?_
  rw [← mul_assoc, exp2_shift (le_top_of_lt S (Finset.mem_range.mp hj)) hle]

/-- Keys whose score is minus infinity do not move the greatest score. -/
theorem top_add_of_bot (S : ℕ → EReal) (n K : ℕ) (h : ∀ c : Fin K, S (n + c.val) = ⊥) : top S (n + K) = top S n := by
  rw [top_add, show (fun c : Fin K => S (n + c.val)) = fun _ => ⊥ from funext h]
  simp

/-- Keys whose score is minus infinity add nothing to the weighted sum. -/
theorem wsum_add_of_bot (S V : ℕ → EReal) (n K : ℕ) (h : ∀ c : Fin K, S (n + c.val) = ⊥) :
    wsum S V (n + K) = wsum S V n := by
  unfold wsum
  rw [Finset.sum_range_add, top_add_of_bot S n K h]
  rw [← Fin.sum_univ_eq_sum_range (fun c => Ideal.exp2 (S (n + c) - top S n) * V (n + c))]
  simp [h, exp2_bot]

end Cert.Fox
-- ==== Proof.Fox.Chunk.lean ====
/-
  One chunk of 256 keys of the attention kernel, on `R` query rows: the operations the kernel runs on
  it, what they read at a row and a column, and the invariant of the running maximum and the running
  weighted sums.
-/
module

public import proofs.«01_k».proof.KernelIdeal
public import proofs.«01_k».proof.Proof.Fox.Online
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.Lib.Pointwise
public import Idealize.ShloMosaic.Lib.WordCmp
public import Idealize.ShloMosaic.PureOps.IdealRules

@[expose] public section

noncomputable section

open Idealize.ShloMosaic hiding ix1 ix2 ix3 ix4 eq_ix2
open Idealize.ShloMosaic.ValueIdx

namespace Cert.Fox

/-- The shape relations the chunk's operations need at `R` rows. -/
structure Geo (R : ℕ) : Prop where
  q : (⟨3, ![1, R, 128]⟩ : Shape).ShapeCasts ⟨2, ![R, 128]⟩
  k : (⟨3, ![1, 256, 128]⟩ : Shape).ShapeCasts ⟨2, ![256, 128]⟩
  c : (⟨4, ![1, 1, 1, 256]⟩ : Shape).ShapeCasts ⟨2, ![1, 256]⟩
  one : (⟨2, ![1, 1]⟩ : Shape).Broadcasts ⟨2, ![1, 256]⟩
  row : (⟨2, ![1, 256]⟩ : Shape).Broadcasts ⟨2, ![R, 256]⟩
  iota0 : (⟨2, ![R, 256]⟩ : Shape).Iotas .tc 32 [0]
  iota1 : (⟨2, ![R, 256]⟩ : Shape).Iotas .tc 32 [1]
  red : (⟨2, ![R, 256]⟩ : Shape).Reduces [1] ⟨1, ![R]⟩
  col : (⟨1, ![R]⟩ : Shape).ShapeCasts ⟨2, ![R, 1]⟩
  lanes : (⟨2, ![R, 1]⟩ : Shape).Broadcasts ⟨2, ![R, 128]⟩
  two : Shape.Concatenates [⟨2, ![R, 128]⟩, ⟨2, ![R, 128]⟩] ⟨2, ![R, 256]⟩ 1
  bits : FTy.bits .bf16 < FTy.bits .f32
  m : (⟨2, ![R, 128]⟩ : Shape).ShapeCasts ⟨2, ![R, 128]⟩
  a : (⟨2, ![R, 256]⟩ : Shape).ShapeCasts ⟨2, ![R, 256]⟩

variable {R : ℕ}

/-- The scores of a chunk: query by key, plus the reference gate less the key's gate, in units of the
logarithm of two. -/
def score (g : Geo R) (cr : FVec Ideal ⟨2, ![1, 1]⟩ .f32) (q : Vec Ideal ⟨3, ![1, R, 128]⟩ .bf16)
    (k : Vec Ideal ⟨3, ![1, 256, 128]⟩ .bf16) (c : Vec Ideal ⟨4, ![1, 1, 1, 256]⟩ .f32) :
    FVec Ideal ⟨2, ![R, 256]⟩ .f32 :=
  addf (matmul (φ₁ := .bf16) (φ₂ := .bf16) (DotDims.transposedRhs R 128 256) none (shapeCast ⟨2, ![R, 128]⟩ q g.q)
      (shapeCast ⟨2, ![256, 128]⟩ k g.k) (constant ⟨2, ![R, 256]⟩ .f32 0x00000000#32))
    (broadcastTo ⟨2, ![R, 256]⟩
      (subf (broadcastTo ⟨2, ![1, 256]⟩ cr g.one)
        (mulf (shapeCast ⟨2, ![1, 256]⟩ c g.c)
          (broadcast ⟨2, ![1, 256]⟩ (Named.named Cert.KernelIdeal.κ "log2e" 0x3FB8AA3B#32 : Ideal .f32)))) g.row)

/-- The scores with the keys after the query's own place set to minus infinity. -/
def masked (g : Geo R) (s : FVec Ideal ⟨2, ![R, 256]⟩ .f32) : FVec Ideal ⟨2, ![R, 256]⟩ .f32 :=
  select (cmpi .sle (iota .tc ⟨2, ![R, 256]⟩ 32 [1] g.iota1) (iota .tc ⟨2, ![R, 256]⟩ 32 [0] g.iota0)) s
    (broadcast ⟨2, ![R, 256]⟩ (Scalar.ofBits .f32 0xFF800000#32 : Ideal .f32))

/-- The running maximum after the chunk. -/
def newMax (g : Geo R) (s : FVec Ideal ⟨2, ![R, 256]⟩ .f32) (m : Vec Ideal ⟨2, ![R, 128]⟩ .f32) :
    FVec Ideal ⟨2, ![R, 128]⟩ .f32 :=
  maximumf m (broadcastTo ⟨2, ![R, 128]⟩
    (shapeCast ⟨2, ![R, 1]⟩
      (multiReduction .maximumf [1] ⟨1, ![R]⟩ s 0xFF800000#32 g.red (.inl rfl) rfl : FVec Ideal ⟨1, ![R]⟩ .f32) g.col)
    g.lanes)

/-- The running weighted sums after the chunk. -/
def newAcc (g : Geo R) (s : FVec Ideal ⟨2, ![R, 256]⟩ .f32) (m : Vec Ideal ⟨2, ![R, 128]⟩ .f32)
    (a : Vec Ideal ⟨2, ![R, 256]⟩ .f32) (v : Vec Ideal ⟨2, ![256, 256]⟩ .bf16) : FVec Ideal ⟨2, ![R, 256]⟩ .f32 :=
  addf
    (mulf (concatenate ⟨2, ![R, 256]⟩ 1 [⟨⟨2, ![R, 128]⟩, exp2 (subf m (newMax g s m))⟩,
      ⟨⟨2, ![R, 128]⟩, exp2 (subf m (newMax g s m))⟩] g.two) a)
    (matmul (φ₁ := .bf16) (φ₂ := .bf16) (DotDims.plain R 256 256) none
      (truncf .bf16 (exp2 (subf s (concatenate ⟨2, ![R, 256]⟩ 1
        [⟨⟨2, ![R, 128]⟩, newMax g s m⟩, ⟨⟨2, ![R, 128]⟩, newMax g s m⟩] g.two))) g.bits)
      v (constant ⟨2, ![R, 256]⟩ .f32 0x00000000#32))

/-- Two copies of an array side by side, read at a row and a column. -/
theorem concat_twice_apply (g : Geo R) (x : FVec Ideal ⟨2, ![R, 128]⟩ .f32) (r : Fin R) (d : Fin 256) :
    concatenate ⟨2, ![R, 256]⟩ 1 [⟨⟨2, ![R, 128]⟩, x⟩, ⟨⟨2, ![R, 128]⟩, x⟩] g.two (ix2 r d)
      = x (ix2 r ⟨d.val % 128, Nat.mod_lt _ (by norm_num)⟩) := by
  rw [concatenate_pair_apply]
  have hd : ((ix2 r d : (⟨2, ![R, 256]⟩ : Shape).Idx) 1).val = d.val := rfl
  split
  · rename_i h
    have h' : d.val < 128 := h
    congr 1
    rw [eq_ix2 (Shape.Idx.norm _)]
    congr 1
    apply Fin.ext
    show d.val = d.val % 128
    omega
  · rename_i h
    have h' : ¬ d.val < 128 := h
    congr 1
    rw [eq_ix2 (Shape.Idx.norm _)]
    congr 1
    apply Fin.ext
    show d.val - 128 = d.val % 128
    have := d.isLt
    omega

/-- The scores of a chunk at a row and a key. -/
theorem score_apply (g : Geo R) (cr : FVec Ideal ⟨2, ![1, 1]⟩ .f32) (q : Vec Ideal ⟨3, ![1, R, 128]⟩ .bf16)
    (k : Vec Ideal ⟨3, ![1, 256, 128]⟩ .bf16) (c : Vec Ideal ⟨4, ![1, 1, 1, 256]⟩ .f32) (r : Fin R) (j : Fin 256) :
    score g cr q k c (ix2 r j) = (∑ e : Fin 128, q (ix3 0 r e) * k (ix3 0 j e))
      + (cr (ix2 0 0) - c (ix4 0 0 0 j) * (((Real.log 2)⁻¹ : ℝ) : EReal)) := by
  have h1 : ∀ x : FVec Ideal ⟨2, ![1, 256]⟩ .f32, broadcastTo ⟨2, ![R, 256]⟩ x g.row (ix2 r j) = x (ix2 0 j) :=
    fun x => broadcastTo_1b_ab_apply x g.row r j
  have h2 : broadcastTo ⟨2, ![1, 256]⟩ cr g.one (ix2 0 j) = cr (ix2 0 0) :=
    broadcastTo_apply cr g.one _ _ fun a => by
      match a with
      | ⟨0, _⟩ => rfl
      | ⟨1, _⟩ => rfl
  have h3 : shapeCast ⟨2, ![1, 256]⟩ c g.c (ix2 0 j) = c (ix4 0 0 0 j) :=
    shapeCast_apply c g.c _ _ (by
      rw [Shape.rowMajor_val_four, Shape.rowMajor_val_two]
      simp)
  have hn : (Named.named Cert.KernelIdeal.κ "log2e" 0x3FB8AA3B#32 : Ideal .f32) = (((Real.log 2)⁻¹ : ℝ) : EReal) :=
    IdealRules.named_const.ideal_named_scalar _ _ _ _ rfl
  show FloatOps.matmul (F := Ideal) (DotDims.transposedRhs R 128 256) none _ _ _ (ix2 r j)
      + broadcastTo ⟨2, ![R, 256]⟩ _ g.row (ix2 r j) = _
  rw [Ideal.matmul_transposedRhs_apply, h1]
  show Ideal.ofBits .f32 0x00000000#32 + _ + (broadcastTo ⟨2, ![1, 256]⟩ cr g.one (ix2 0 j)
    - shapeCast ⟨2, ![1, 256]⟩ c g.c (ix2 0 j) * Named.named Cert.KernelIdeal.κ "log2e" 0x3FB8AA3B#32) = _
  rw [h2, h3, hn, Ideal.ofBits_zero_f32, zero_add]
  congr 1
  exact Finset.sum_congr rfl fun e _ => by
    rw [shapeCast_1ab_ab_apply, shapeCast_1ab_ab_apply]

/-- The masked scores at a row and a key. -/
theorem masked_apply (g : Geo R) (hR : R ≤ 4096) (s : FVec Ideal ⟨2, ![R, 256]⟩ .f32) (r : Fin R) (j : Fin 256) :
    masked g s (ix2 r j) = if j.val ≤ r.val then s (ix2 r j) else ⊥ := by
  show Scalar.select (IntOp.cmpi .sle (iota .tc ⟨2, ![R, 256]⟩ 32 [1] g.iota1 (ix2 r j))
    (iota .tc ⟨2, ![R, 256]⟩ 32 [0] g.iota0 (ix2 r j))) (s (ix2 r j)) (Ideal.ofBits .f32 0xFF800000#32) = _
  rw [iota_single_apply, iota_single_apply]
  have hj := j.isLt
  have hr := r.isLt
  have hb : Ideal.ofBits .f32 0xFF800000#32 = ⊥ := by
    simp [Ideal.ofBits_def, Ideal.ofBits, Ideal.ieee]
  rw [hb]
  show Scalar.select (BitVec.ofBool ((BitVec.ofNat 32 j.val).sle (BitVec.ofNat 32 r.val))) _ _ = _
  have hle : (BitVec.ofNat 32 j.val).sle (BitVec.ofNat 32 r.val) = decide (j.val ≤ r.val) := by
    rw [BitVec.sle_eq_decide]
    have e1 : (BitVec.ofNat 32 j.val).toInt = j.val := by
      exact WordCmp.toInt_ofNat_of_lt (by norm_num; omega)
    have e2 : (BitVec.ofNat 32 r.val).toInt = r.val := by
      exact WordCmp.toInt_ofNat_of_lt (by norm_num; omega)
    rw [e1, e2]
    simp
  rw [hle]
  by_cases h : j.val ≤ r.val <;> simp [h, Scalar.select]

/-- The running maximum after the chunk, at a row (the same in every lane). -/
theorem newMax_apply (g : Geo R) (s : FVec Ideal ⟨2, ![R, 256]⟩ .f32) (m : Vec Ideal ⟨2, ![R, 128]⟩ .f32)
    (r : Fin R) (l : Fin 128) :
    newMax g s m (ix2 r l) = max (m (ix2 r l)) (Finset.univ.sup fun j : Fin 256 => s (ix2 r j)) := by
  have h1 : ∀ x : FVec Ideal ⟨2, ![R, 1]⟩ .f32, broadcastTo ⟨2, ![R, 128]⟩ x g.lanes (ix2 r l) = x (ix2 r 0) := fun x =>
    broadcastTo_apply x g.lanes _ _ fun a => by
      match a with
      | ⟨0, _⟩ =>
        show r.val = if R = 1 then 0 else r.val
        have := r.isLt
        split <;> omega
      | ⟨1, _⟩ => rfl
  show max (m (ix2 r l)) (broadcastTo ⟨2, ![R, 128]⟩ _ g.lanes (ix2 r l)) = _
  rw [h1, shapeCast_a_a1_apply]
  refine congrArg (max (m (ix2 r l))) ((multiReduction_maximumf_eq_fold s 0xFF800000#32 g.red (.inl rfl) rfl (ix1 r)).trans ?_)
  have hb : (FloatOps.ofBits .f32 0xFF800000#32 : Ideal .f32) = ⊥ := by
    show Ideal.ofBits .f32 0xFF800000#32 = ⊥
    simp [Ideal.ofBits_def, Ideal.ofBits, Ideal.ieee]
  rw [hb]
  show (Finset.univ.filter fun i => g.red.drop i = ix1 r).sup s = _
  have hdrop : ∀ i : (⟨2, ![R, 256]⟩ : Shape).Idx, (g.red.drop i = ix1 r) ↔ (i 0).val = r.val := fun i => by
    simp [funext_iff, Fin.ext_iff, Fin.forall_fin_one, g.red.drop_apply_val_of_eq i 0 0 Nat.zero_lt_one rfl, ix1]
  apply le_antisymm
  · refine Finset.sup_le fun i hi => ?_
    have hi' := (hdrop i).mp (Finset.mem_filter.mp hi).2
    have : i = ix2 r (i 1) := by
      rw [eq_ix2 i]
      congr 1
      exact Fin.ext hi'
    rw [this]
    exact Finset.le_sup (f := fun j : Fin 256 => s (ix2 r j)) (Finset.mem_univ (i 1))
  · refine Finset.sup_le fun j _ => ?_
    exact Finset.le_sup (f := s) (Finset.mem_filter.mpr ⟨Finset.mem_univ _, (hdrop _).mpr rfl⟩)

/-- The running weighted sums after the chunk, at a row and a column. -/
theorem newAcc_apply (g : Geo R) (s : FVec Ideal ⟨2, ![R, 256]⟩ .f32) (m : Vec Ideal ⟨2, ![R, 128]⟩ .f32)
    (a : Vec Ideal ⟨2, ![R, 256]⟩ .f32) (v : Vec Ideal ⟨2, ![256, 256]⟩ .bf16) (r : Fin R) (d : Fin 256) :
    newAcc g s m a v (ix2 r d)
      = Ideal.exp2 (m (ix2 r ⟨d.val % 128, Nat.mod_lt _ (by norm_num)⟩)
          - newMax g s m (ix2 r ⟨d.val % 128, Nat.mod_lt _ (by norm_num)⟩)) * a (ix2 r d)
        + ∑ j : Fin 256, Ideal.exp2 (s (ix2 r j) - newMax g s m (ix2 r ⟨j.val % 128, Nat.mod_lt _ (by norm_num)⟩))
          * v (ix2 j d) := by
  have hc := fun x => concat_twice_apply g x r d
  refine (congrArg₂ (· + ·) (congrArg (· * a (ix2 r d)) (hc _)) (Ideal.matmul_plain_apply ..)).trans ?_
  show _ + (Ideal.ofBits .f32 0x00000000#32 + _) = _
  rw [Ideal.ofBits_zero_f32, zero_add]
  congr 1
  refine Finset.sum_congr rfl fun j _ => ?_
  exact congrArg (fun x => Ideal.exp2 (s (ix2 r j) - x) * v (ix2 j d)) (concat_twice_apply g _ r j)

/-- After `n` keys: `m` holds in every lane the greatest score of each row, `a` the weighted sums of
the columns of `V`; row `r` of the arrays is row `r0 + r` of the scores. -/
def Good (r0 : ℕ) (S : ℕ → ℕ → EReal) (V : ℕ → ℕ → EReal) (n : ℕ) (m : (⟨2, ![R, 128]⟩ : Shape).Idx → EReal)
    (a : (⟨2, ![R, 256]⟩ : Shape).Idx → EReal) : Prop :=
  ∀ r : Fin R, (∀ l : Fin 128, m (ix2 r l) = top (S (r0 + r.val)) n)
    ∧ ∀ d : Fin 256, a (ix2 r d) = wsum (S (r0 + r.val)) (fun j => V j d.val) n

/-- The chunk's step keeps the invariant. -/
theorem Good.step (g : Geo R) {r0 : ℕ} {S V : ℕ → ℕ → EReal} {n : ℕ} {m : Vec Ideal ⟨2, ![R, 128]⟩ .f32}
    {a : Vec Ideal ⟨2, ![R, 256]⟩ .f32} (h : Good r0 S V n m a) (s : FVec Ideal ⟨2, ![R, 256]⟩ .f32)
    (v : Vec Ideal ⟨2, ![256, 256]⟩ .bf16) (hs : ∀ (r : Fin R) (j : Fin 256), s (ix2 r j) = S (r0 + r.val) (n + j.val))
    (hv : ∀ j d : Fin 256, v (ix2 j d) = V (n + j.val) d.val) :
    Good r0 S V (n + 256) (newMax g s m) (newAcc g s m a v) := by
  intro r
  have hm : ∀ l : Fin 128, newMax g s m (ix2 r l) = top (S (r0 + r.val)) (n + 256) := fun l => by
    rw [newMax_apply, top_add, (h r).1 l]
    simp only [hs]
  refine ⟨hm, fun d => ?_⟩
  rw [newAcc_apply, wsum_add]
  simp only [hm, (h r).1, (h r).2, hs, hv]

end Cert.Fox
-- ==== Proof.Fox.Mem.lean ====
/-
  The chunk's step on the scratch buffers of the kernel: what its loads read, and what its stores of the
  running maximum and of the running weighted sums leave.
-/
module

public import proofs.«01_k».proof.Proof.Fox.Chunk
public import Idealize.ShloMosaic.Lib.WritesUnit
public import Idealize.ShloMosaic.Lib.WholeRead

@[expose] public section

noncomputable section

open Idealize.ShloMosaic hiding ix1 ix2 ix3 ix4 eq_ix2
open Idealize.ShloMosaic.ValueIdx
open Cert.KernelIdeal

namespace Cert.Fox

/-- The scores in units of the logarithm of two, by the query's row in its block and the key's place: minus
infinity after the query's own place `base + r`. -/
def scores (Q K : ℕ → ℕ → EReal) (C : ℕ → EReal) (cr : EReal) (base : ℕ) (r j : ℕ) : EReal :=
  if j ≤ base + r then (∑ e : Fin 128, Q r e.val * K j e.val) + (cr - C j * (((Real.log 2)⁻¹ : ℝ) : EReal)) else ⊥

/-- What the buffers the chunks load from hold: queries `Q`, keys `K`, gates `C` of head `h`, values and ones `V`. -/
structure Data (arg3 : Memref sig .tc .vmem S1x4096x128 .bf16) (arg4 : Memref sig .tc .vmem S1x8192x128 .bf16)
    (arg6 : Memref sig .tc .vmem S1x32x8x256 .f32) (arg9 : Memref sig .tc .vmem S8192x256 .bf16)
    (X3 : arg3.view.ty.Contents (Elt Ideal)) (X4 : arg4.view.ty.Contents (Elt Ideal))
    (X6 : arg6.view.ty.Contents (Elt Ideal)) (X9 : arg9.view.ty.Contents (Elt Ideal)) (h : Fin 8)
    (Q K : ℕ → ℕ → EReal) (C : ℕ → EReal) (V : ℕ → ℕ → EReal) : Prop where
  q : ∀ (r : Fin 4096) (e : Fin 128), arg3.view.read (Elt Ideal) X3 (ix3 0 r e) = Q r.val e.val
  k : ∀ (j : Fin 8192) (e : Fin 128), arg4.view.read (Elt Ideal) X4 (ix3 0 j e) = K j.val e.val
  c : ∀ (a : Fin 32) (b : Fin 256), arg6.view.read (Elt Ideal) X6 (ix4 0 a h b) = C (a.val * 256 + b.val)
  v : ∀ (j : Fin 8192) (d : Fin 256), arg9.view.read (Elt Ideal) X9 (ix2 j d) = V j.val d.val

section Loads

variable {arg3 : Memref sig .tc .vmem S1x4096x128 .bf16} {arg4 : Memref sig .tc .vmem S1x8192x128 .bf16}
  {arg6 : Memref sig .tc .vmem S1x32x8x256 .f32} {arg9 : Memref sig .tc .vmem S8192x256 .bf16}
  {X3 : arg3.view.ty.Contents (Elt Ideal)} {X4 : arg4.view.ty.Contents (Elt Ideal)}
  {X6 : arg6.view.ty.Contents (Elt Ideal)} {X9 : arg9.view.ty.Contents (Elt Ideal)} {h : Fin 8}
  {Q K : ℕ → ℕ → EReal} {C : ℕ → EReal} {V : ℕ → ℕ → EReal}

/-- A load of `R` query rows from row `o`. -/
theorem Data.loadQ (D : Data arg3 arg4 arg6 arg9 X3 X4 X6 X9 h Q K C V) {o R : ℕ} {off : Fin 3 → ℕ}
    (inb : ∀ a : Fin 3, off a + (![1, R, 128] : Fin 3 → ℕ) a ≤ S1x4096x128.size a) (hoff : off = ![0, o, 0])
    (r : Fin R) (e : Fin 128) :
    View.readAt (Elt Ideal) arg3.view (Rect.unit (s := S1x4096x128) off ![1, R, 128] inb).toLoadRect X3 (ix3 0 r e)
      = Q (o + r.val) e.val := by
  subst hoff
  have hb : o + R ≤ 4096 := inb 1
  refine Eq.trans ?_ (D.q ⟨o + r.val, by omega⟩ e)
  refine congrArg (arg3.view.read (Elt Ideal) X3) (funext fun a => Fin.ext ?_)
  match a with
  | ⟨0, _⟩ => rfl
  | ⟨1, _⟩ => show o + 1 * r.val = o + r.val; omega
  | ⟨2, _⟩ => show 0 + 1 * e.val = e.val; omega

/-- A load of 256 keys from place `n`. -/
theorem Data.loadK (D : Data arg3 arg4 arg6 arg9 X3 X4 X6 X9 h Q K C V) {n : ℕ} {off : Fin 3 → ℕ}
    (inb : ∀ a : Fin 3, off a + (![1, 256, 128] : Fin 3 → ℕ) a ≤ S1x8192x128.size a) (hoff : off = ![0, n, 0])
    (j : Fin 256) (e : Fin 128) :
    View.readAt (Elt Ideal) arg4.view (Rect.unit (s := S1x8192x128) off ![1, 256, 128] inb).toLoadRect X4 (ix3 0 j e)
      = K (n + j.val) e.val := by
  subst hoff
  have hb : n + 256 ≤ 8192 := inb 1
  refine Eq.trans ?_ (D.k ⟨n + j.val, by omega⟩ e)
  refine congrArg (arg4.view.read (Elt Ideal) X4) (funext fun a => Fin.ext ?_)
  match a with
  | ⟨0, _⟩ => rfl
  | ⟨1, _⟩ => show n + 1 * j.val = n + j.val; omega
  | ⟨2, _⟩ => show 0 + 1 * e.val = e.val; omega

/-- A load of the gates of 256 keys from place `256 * n`. -/
theorem Data.loadC (D : Data arg3 arg4 arg6 arg9 X3 X4 X6 X9 h Q K C V) {n : ℕ} {off : Fin 4 → ℕ}
    (inb : ∀ a : Fin 4, off a + (![1, 1, 1, 256] : Fin 4 → ℕ) a ≤ S1x32x8x256.size a) (hoff : off = ![0, n, h.val, 0])
    (j : Fin 256) :
    View.readAt (Elt Ideal) arg6.view (Rect.unit (s := S1x32x8x256) off ![1, 1, 1, 256] inb).toLoadRect X6 (ix4 0 0 0 j)
      = C (n * 256 + j.val) := by
  subst hoff
  have hb : n + 1 ≤ 32 := inb 1
  refine Eq.trans ?_ (D.c ⟨n, by omega⟩ j)
  refine congrArg (arg6.view.read (Elt Ideal) X6) (funext fun a => Fin.ext ?_)
  match a with
  | ⟨0, _⟩ => rfl
  | ⟨1, _⟩ => show n + 1 * 0 = n; omega
  | ⟨2, _⟩ => show h.val + 1 * 0 = h.val; omega
  | ⟨3, _⟩ => show 0 + 1 * j.val = j.val; omega

/-- A load of 256 rows of the values and ones from place `n`. -/
theorem Data.loadV (D : Data arg3 arg4 arg6 arg9 X3 X4 X6 X9 h Q K C V) {n : ℕ} {off : Fin 2 → ℕ}
    (inb : ∀ a : Fin 2, off a + (![256, 256] : Fin 2 → ℕ) a ≤ S8192x256.size a) (hoff : off = ![n, 0])
    (j d : Fin 256) :
    View.readAt (Elt Ideal) arg9.view (Rect.unit (s := S8192x256) off ![256, 256] inb).toLoadRect X9 (ix2 j d)
      = V (n + j.val) d.val := by
  subst hoff
  have hb : n + 256 ≤ 8192 := inb 0
  refine Eq.trans ?_ (D.v ⟨n + j.val, by omega⟩ d)
  refine congrArg (arg9.view.read (Elt Ideal) X9) (funext fun a => Fin.ext ?_)
  match a with
  | ⟨0, _⟩ => show n + 1 * j.val = n + j.val; omega
  | ⟨1, _⟩ => show 0 + 1 * d.val = d.val; omega

end Loads

section Steps

variable {arg10 : Memref sig .tc .vmem S4096x128 .f32} {arg11 : Memref sig .tc .vmem S4096x256 .f32}

/-- The invariant of the two scratch buffers after `n` keys. -/
def Held (arg10 : Memref sig .tc .vmem S4096x128 .f32) (arg11 : Memref sig .tc .vmem S4096x256 .f32)
    (S V : ℕ → ℕ → EReal) (n : ℕ) (f10 : arg10.view.ty.Contents (Elt Ideal))
    (f11 : arg11.view.ty.Contents (Elt Ideal)) : Prop :=
  Good (R := 4096) 0 S V n (arg10.view.read (Elt Ideal) f10) (arg11.view.read (Elt Ideal) f11)

/-- The rows from `o` on, loaded, keep the invariant. -/
theorem Held.load {S V : ℕ → ℕ → EReal} {n : ℕ} {f10 : arg10.view.ty.Contents (Elt Ideal)}
    {f11 : arg11.view.ty.Contents (Elt Ideal)} (H : Held arg10 arg11 S V n f10 f11) {o R : ℕ} {off10 off11 : Fin 2 → ℕ}
    (inb10 : ∀ a : Fin 2, off10 a + (![R, 128] : Fin 2 → ℕ) a ≤ S4096x128.size a)
    (inb11 : ∀ a : Fin 2, off11 a + (![R, 256] : Fin 2 → ℕ) a ≤ S4096x256.size a)
    (h10 : off10 = ![o, 0]) (h11 : off11 = ![o, 0]) :
    Good (R := R) o S V n
      (View.readAt (Elt Ideal) arg10.view (Rect.unit (s := S4096x128) off10 ![R, 128] inb10).toLoadRect f10)
      (View.readAt (Elt Ideal) arg11.view (Rect.unit (s := S4096x256) off11 ![R, 256] inb11).toLoadRect f11) := by
  subst h10 h11
  have hb : o + R ≤ 4096 := inb10 0
  intro r
  have h := H ⟨o + r.val, by omega⟩
  simp only [zero_add] at h
  refine ⟨fun l => Eq.trans ?_ (h.1 l), fun d => Eq.trans ?_ (h.2 d)⟩
  · refine congrArg (arg10.view.read (Elt Ideal) f10) (funext fun a => Fin.ext ?_)
    match a with
    | ⟨0, _⟩ => show o + 1 * r.val = o + r.val; omega
    | ⟨1, _⟩ => show 0 + 1 * l.val = l.val; omega
  · refine congrArg (arg11.view.read (Elt Ideal) f11) (funext fun a => Fin.ext ?_)
    match a with
    | ⟨0, _⟩ => show o + 1 * r.val = o + r.val; omega
    | ⟨1, _⟩ => show 0 + 1 * d.val = d.val; omega

/-- Storing the rows from `o` on leaves the invariant where the rows before `o` gain no key. -/
theorem Held.store {S V : ℕ → ℕ → EReal} {n : ℕ} {g10 : arg10.view.ty.Contents (Elt Ideal)}
    {g11 : arg11.view.ty.Contents (Elt Ideal)} {L10 : List (View.Piece (Elt Ideal) S4096x128 .f32)}
    {L11 : List (View.Piece (Elt Ideal) S4096x256 .f32)} {o R : ℕ} {off10 off11 : Fin 2 → ℕ}
    (inb10 : ∀ a : Fin 2, off10 a + (![R, 128] : Fin 2 → ℕ) a ≤ S4096x128.size a)
    (inb11 : ∀ a : Fin 2, off11 a + (![R, 256] : Fin 2 → ℕ) a ≤ S4096x256.size a)
    (h10 : off10 = ![o, 0]) (h11 : off11 = ![o, 0]) (hR : o + R = 4096)
    {p10 : FVec Ideal ⟨2, ![R, 128]⟩ .f32} {p11 : FVec Ideal ⟨2, ![R, 256]⟩ .f32}
    (hg : Good (R := R) o S V (n + 256) p10 p11)
    (H : o = 0 ∨ Held arg10 arg11 S V n (arg10.view.writes (Elt Ideal) g10 L10) (arg11.view.writes (Elt Ideal) g11 L11))
    (hbot : ∀ r < o, ∀ j : Fin 256, S r (n + j.val) = ⊥) :
    Held arg10 arg11 S V (n + 256)
      (arg10.view.writes (Elt Ideal) g10 ((⟨Rect.unit (s := S4096x128) off10 ![R, 128] inb10, p10⟩ : View.Piece (Elt Ideal) S4096x128 .f32) :: L10))
      (arg11.view.writes (Elt Ideal) g11 ((⟨Rect.unit (s := S4096x256) off11 ![R, 256] inb11, p11⟩ : View.Piece (Elt Ideal) S4096x256 .f32) :: L11)) := by
  intro r
  have hr := r.isLt
  simp only [zero_add]
  by_cases hro : o ≤ r.val
  · have h := hg ⟨r.val - o, by omega⟩
    have e : o + (r.val - o) = r.val := by omega
    simp only [e] at h
    refine ⟨fun l => Eq.trans ?_ (h.1 l), fun d => Eq.trans ?_ (h.2 d)⟩
    · exact View.read_writes_cons_rows_of_mem arg10.view g10 inb10 p10 L10 (ix2 r l) (ix2 ⟨r.val - o, by omega⟩ l) h10
        e.symm rfl
    · exact View.read_writes_cons_rows_of_mem arg11.view g11 inb11 p11 L11 (ix2 r d) (ix2 ⟨r.val - o, by omega⟩ d) h11
        e.symm rfl
  · have H' := (H.resolve_left (by omega)) r
    simp only [zero_add] at H'
    have hb : ∀ c : Fin 256, S r.val (n + c.val) = ⊥ := hbot r.val (by omega)
    refine ⟨fun l => ?_, fun d => ?_⟩
    · rw [top_add_of_bot _ _ _ hb, ← H'.1 l]
      exact View.read_writes_cons_rows_of_not_mem arg10.view g10 inb10 p10 L10 (ix2 r l) h10 rfl
        (.inl (by show r.val < o; omega))
    · rw [wsum_add_of_bot _ _ _ _ hb, ← H'.2 d]
      exact View.read_writes_cons_rows_of_not_mem arg11.view g11 inb11 p11 L11 (ix2 r d) h11 rfl
        (.inl (by show r.val < o; omega))

end Steps

section Values

variable {R : ℕ} {Q K : ℕ → ℕ → EReal} {C : ℕ → EReal} {V : ℕ → ℕ → EReal} {o n base : ℕ}

/-- A chunk of keys all before the block's queries: the step with its scores unmasked. -/
theorem Good.chunk (g : Geo R) {cr : FVec Ideal ⟨2, ![1, 1]⟩ .f32} {q : Vec Ideal ⟨3, ![1, R, 128]⟩ .bf16}
    {k : Vec Ideal ⟨3, ![1, 256, 128]⟩ .bf16} {c : Vec Ideal ⟨4, ![1, 1, 1, 256]⟩ .f32}
    {v : Vec Ideal ⟨2, ![256, 256]⟩ .bf16} {m : Vec Ideal ⟨2, ![R, 128]⟩ .f32} {a : Vec Ideal ⟨2, ![R, 256]⟩ .f32}
    (hq : ∀ (r : Fin R) (e : Fin 128), q (ix3 0 r e) = Q (o + r.val) e.val)
    (hk : ∀ (j : Fin 256) (e : Fin 128), k (ix3 0 j e) = K (n + j.val) e.val)
    (hc : ∀ j : Fin 256, c (ix4 0 0 0 j) = C (n + j.val)) (hv : ∀ j d : Fin 256, v (ix2 j d) = V (n + j.val) d.val)
    (hn : n + 256 ≤ base) (h : Good o (scores Q K C (cr (ix2 0 0)) base) V n m a) :
    Good o (scores Q K C (cr (ix2 0 0)) base) V (n + 256) (shapeCast ⟨2, ![R, 128]⟩ (newMax g (score g cr q k c) m) g.m)
      (shapeCast ⟨2, ![R, 256]⟩ (newAcc g (score g cr q k c) m a v) g.a) := by
  rw [shapeCast_self, shapeCast_self]
  refine h.step g _ _ (fun r j => ?_) hv
  have hj := j.isLt
  rw [score_apply, scores, if_pos (by omega)]
  simp only [hq, hk, hc]

/-- A chunk of 256 keys from the place of the rows' first query on: the step with its scores masked. -/
theorem Good.chunkMasked (g : Geo R) (hR : R ≤ 4096) {cr : FVec Ideal ⟨2, ![1, 1]⟩ .f32}
    {q : Vec Ideal ⟨3, ![1, R, 128]⟩ .bf16}
    {k : Vec Ideal ⟨3, ![1, 256, 128]⟩ .bf16} {c : Vec Ideal ⟨4, ![1, 1, 1, 256]⟩ .f32}
    {v : Vec Ideal ⟨2, ![256, 256]⟩ .bf16} {m : Vec Ideal ⟨2, ![R, 128]⟩ .f32} {a : Vec Ideal ⟨2, ![R, 256]⟩ .f32}
    (hq : ∀ (r : Fin R) (e : Fin 128), q (ix3 0 r e) = Q (o + r.val) e.val)
    (hk : ∀ (j : Fin 256) (e : Fin 128), k (ix3 0 j e) = K (n + j.val) e.val)
    (hc : ∀ j : Fin 256, c (ix4 0 0 0 j) = C (n + j.val)) (hv : ∀ j d : Fin 256, v (ix2 j d) = V (n + j.val) d.val)
    (hn : n = base + o) (h : Good o (scores Q K C (cr (ix2 0 0)) base) V n m a) :
    Good o (scores Q K C (cr (ix2 0 0)) base) V (n + 256)
      (shapeCast ⟨2, ![R, 128]⟩ (newMax g (masked g (score g cr q k c)) m) g.m)
      (shapeCast ⟨2, ![R, 256]⟩ (newAcc g (masked g (score g cr q k c)) m a v) g.a) := by
  rw [shapeCast_self, shapeCast_self]
  refine h.step g _ _ (fun r j => ?_) hv
  rw [masked_apply g hR, scores]
  by_cases hjr : j.val ≤ r.val
  · rw [if_pos hjr, if_pos (by omega), score_apply]
    simp only [hq, hk, hc]
  · rw [if_neg hjr, if_neg (by omega)]

end Values

end Cert.Fox
-- ==== Proof.Fox.Offsets.lean ====
/-
  The offsets of the kernel's loads as numbers, and how often its two loops run.
-/
module

public import proofs.«01_k».proof.KernelIdeal

@[expose] public section

noncomputable section

open Idealize.ShloMosaic
open Cert.KernelIdeal

namespace Cert.Fox

/-- The loop over the earlier blocks of keys runs once for each earlier query block. -/
theorem trips1 (i : grid0.Coords) : (k0_t1_loop i).trips = (i 2).val := by
  unfold k0_t1_loop
  have h : ∀ q : Fin 2, (⟨0#32, Scalar.addi 0#32 (Scalar.muli (Scalar.divsi (Scalar.subi (BitVec.ofNat 32 q.val) 0#32) 1#32) 1#32), 1#32⟩ : Scf.Loop 32).trips = q.val := by
    decide
  exact h (i 2)

/-- The second copy of that loop does not run. -/
theorem trips2 (i : grid0.Coords) : (k0_t2_loop i).trips = 0 := by
  unfold k0_t2_loop
  have h : ∀ q : Fin 2, (⟨Scalar.addi 0#32 (Scalar.muli (Scalar.divsi (Scalar.subi (BitVec.ofNat 32 q.val) 0#32) 1#32) 1#32), Scalar.addi 0#32 (Scalar.subi (BitVec.ofNat 32 q.val) 0#32), 1#32⟩ : Scf.Loop 32).trips = 0 := by
    decide
  exact h (i 2)

/-- A trip of the loop is the first. -/
theorem trip_eq (i : grid0.Coords) (k : Fin (k0_t1_loop i).trips) : k.val = 0 := by
  have h := k.isLt.trans_eq (trips1 i)
  have : (i 2).val < 2 := (i 2).isLt
  omega

/-- The gate row of the block's first query. -/
theorem off1 (i : grid0.Coords) : k0_off1 i = ![0, (i 2).val * 16, (i 1).val, 0] := by
  unfold k0_off1
  have h : ∀ (p : Fin 4) (q : Fin 2), (![0, (Scalar.muli (BitVec.ofNat 32 q.val) 16#32).toNat, (BitVec.ofNat 32 p.val).toNat, 0] : Fin 4 → ℕ)
      = ![0, q.val * 16, p.val, 0] := by decide
  exact h (i 1) (i 2)

/-- Chunk `u` of the first block of keys: its keys. -/
theorem off2 (i : grid0.Coords) (k : Fin (k0_t1_loop i).trips) (u : ℕ) (hu : u < 16) :
    k0_off2 i k (BitVec.ofNat 32 u) = ![0, u * 256, 0] := by
  unfold k0_off2
  rw [trip_eq i k]
  interval_cases u <;> rfl

/-- Chunk `u` of the first block of keys: its gates. -/
theorem off3 (i : grid0.Coords) (k : Fin (k0_t1_loop i).trips) (u : ℕ) (hu : u < 16) :
    k0_off3 i k (BitVec.ofNat 32 u) = ![0, u, (i 1).val, 0] := by
  unfold k0_off3
  rw [trip_eq i k]
  have h : ∀ p : Fin 4, (BitVec.ofNat 32 p.val).toNat = p.val := by decide
  have hp := h (i 1)
  interval_cases u <;> exact congrArg (fun x => (![0, _, x, 0] : Fin 4 → ℕ)) hp

/-- Chunk `u` of the first block of keys: its values. -/
theorem off4 (i : grid0.Coords) (k : Fin (k0_t1_loop i).trips) (u : ℕ) (hu : u < 16) :
    k0_off4 i k (BitVec.ofNat 32 u) = ![u * 256, 0] := by
  unfold k0_off4
  rw [trip_eq i k]
  interval_cases u <;> rfl

/-- Chunk `u` of the block's own keys: its keys. -/
theorem off8 (i : grid0.Coords) (u : ℕ) (hu : u < 16) :
    k0_off8 i (BitVec.ofNat 32 u) = ![0, ((i 2).val * 16 + u) * 256, 0] := by
  unfold k0_off8
  have h : ∀ (q : Fin 2) (u : Fin 16), (![(0#32 : BitVec 32).toNat, (Scalar.muli (Scalar.addi (Scalar.muli (BitVec.ofNat 32 q.val) 16#32) (BitVec.ofNat 32 u.val)) 256#32).toNat, (0#32 : BitVec 32).toNat] : Fin 3 → ℕ)
      = ![0, (q.val * 16 + u.val) * 256, 0] := by decide
  exact h (i 2) ⟨u, hu⟩

/-- Chunk `u` of the block's own keys: its gates. -/
theorem off9 (i : grid0.Coords) (u : ℕ) (hu : u < 16) :
    k0_off9 i (BitVec.ofNat 32 u) = ![0, (i 2).val * 16 + u, (i 1).val, 0] := by
  unfold k0_off9
  have h : ∀ (q : Fin 2) (u : Fin 16) (p : Fin 4), (![(0#32 : BitVec 32).toNat, (Scalar.addi (Scalar.muli (BitVec.ofNat 32 q.val) 16#32) (BitVec.ofNat 32 u.val)).toNat, (BitVec.ofNat 32 p.val).toNat, (0#32 : BitVec 32).toNat] : Fin 4 → ℕ)
      = ![0, q.val * 16 + u.val, p.val, 0] := by decide
  exact h (i 2) ⟨u, hu⟩ (i 1)

/-- Chunk `u` of the block's own keys: its values. -/
theorem off10 (i : grid0.Coords) (u : ℕ) (hu : u < 16) :
    k0_off10 i (BitVec.ofNat 32 u) = ![((i 2).val * 16 + u) * 256, 0] := by
  unfold k0_off10
  have h : ∀ (q : Fin 2) (u : Fin 16), (![(Scalar.muli (Scalar.addi (Scalar.muli (BitVec.ofNat 32 q.val) 16#32) (BitVec.ofNat 32 u.val)) 256#32).toNat, (0#32 : BitVec 32).toNat] : Fin 2 → ℕ)
      = ![(q.val * 16 + u.val) * 256, 0] := by decide
  exact h (i 2) ⟨u, hu⟩

end Cert.Fox
-- ==== Proof.Fox.Trip.lean ====
/-
  One trip of the loop over the earlier blocks of keys: its sixteen chunks keep the invariant of the
  two scratch buffers.
-/
module

public import proofs.«01_k».proof.Proof.Gen.KernelIdeal
public import proofs.«01_k».proof.Proof.Gen.KernelIdeal.Loops
public import proofs.«01_k».proof.Proof.Fox.Mem
public import proofs.«01_k».proof.Proof.Fox.Offsets

@[expose] public section

set_option maxRecDepth 16384

noncomputable section

open Idealize.ShloMosaic hiding ix1 ix2 ix3 ix4 eq_ix2
open Idealize.ShloMosaic.ValueIdx
open Cert.KernelIdeal Cert.KernelIdeal.Gen

namespace Cert.Fox

/-- The shape relations at all 4096 rows. -/
theorem geo4096 : Geo 4096 :=
  ⟨by decide, by decide, by decide, by decide, by decide, by decide, by decide, by decide, by decide, by decide,
    by decide, by decide, by decide, by decide⟩

/-- The head of a grid point, as a row of the gates' block. -/
def head (i : grid0.Coords) : Fin 8 := ⟨(i 1).val, by have : (i 1).val < 4 := (i 1).isLt; omega⟩

section

variable {i : grid0.Coords} {arg3 : Memref sig .tc .vmem S1x4096x128 .bf16} {arg4 : Memref sig .tc .vmem S1x8192x128 .bf16}
  {arg6 : Memref sig .tc .vmem S1x32x8x256 .f32} {arg9 : Memref sig .tc .vmem S8192x256 .bf16}
  {arg10 : Memref sig .tc .vmem S4096x128 .f32} {arg11 : Memref sig .tc .vmem S4096x256 .f32}
  {v6 : Vec Ideal S1x1x1x256 .f32}
  {X3 : arg3.view.ty.Contents (Elt Ideal)} {X4 : arg4.view.ty.Contents (Elt Ideal)}
  {X6 : arg6.view.ty.Contents (Elt Ideal)} {X9 : arg9.view.ty.Contents (Elt Ideal)}
  {Q K : ℕ → ℕ → EReal} {C : ℕ → EReal} {V : ℕ → ℕ → EReal} {base : ℕ}

/-- A chunk of the loop, on the buffers: all rows are loaded, advanced and stored. -/
theorem Held.chunk (D : Data arg3 arg4 arg6 arg9 X3 X4 X6 X9 (head i) Q K C V) (k : Fin (k0_t1_loop i).trips)
    (u n n' : ℕ) (hu : u < 16) (hn : u * 256 = n) (hn' : n + 256 = n') (hbase : n' ≤ base) {f10 : arg10.view.ty.Contents (Elt Ideal)}
    {f11 : arg11.view.ty.Contents (Elt Ideal)}
    (H : Held arg10 arg11 (scores Q K C (k0_pay166 v6 (ix2 0 0)) base) V n f10 f11)
    (g10 : arg10.view.ty.Contents (Elt Ideal)) (g11 : arg11.view.ty.Contents (Elt Ideal))
    (L10 : List (View.Piece (Elt Ideal) S4096x128 .f32)) (L11 : List (View.Piece (Elt Ideal) S4096x256 .f32))
    (i3 : ∀ a : Fin 3, (![0, 0, 0] : Fin 3 → ℕ) a + S1x4096x128.size a ≤ S1x4096x128.size a)
    (i4 : ∀ a : Fin 3, k0_off2 i k (BitVec.ofNat 32 u) a + S1x256x128.size a ≤ S1x8192x128.size a)
    (i6 : ∀ a : Fin 4, k0_off3 i k (BitVec.ofNat 32 u) a + S1x1x1x256.size a ≤ S1x32x8x256.size a)
    (i9 : ∀ a : Fin 2, k0_off4 i k (BitVec.ofNat 32 u) a + S256x256.size a ≤ S8192x256.size a)
    (i10 : ∀ a : Fin 2, (![0, 0] : Fin 2 → ℕ) a + S4096x128.size a ≤ S4096x128.size a)
    (i11 : ∀ a : Fin 2, (![0, 0] : Fin 2 → ℕ) a + S4096x256.size a ≤ S4096x256.size a)
    {p10 : FVec Ideal S4096x128 .f32} {p11 : FVec Ideal S4096x256 .f32}
    (e10 : p10 = shapeCast S4096x128 (newMax geo4096 (score geo4096 (k0_pay166 v6)
        (View.readAt (Elt Ideal) arg3.view (Rect.unit ![0, 0, 0] S1x4096x128.size i3).toLoadRect X3)
        (View.readAt (Elt Ideal) arg4.view (Rect.unit (s := S1x8192x128) (k0_off2 i k (BitVec.ofNat 32 u)) S1x256x128.size i4).toLoadRect X4)
        (View.readAt (Elt Ideal) arg6.view (Rect.unit (s := S1x32x8x256) (k0_off3 i k (BitVec.ofNat 32 u)) S1x1x1x256.size i6).toLoadRect X6))
      (View.readAt (Elt Ideal) arg10.view (Rect.unit ![0, 0] S4096x128.size i10).toLoadRect f10)) geo4096.m)
    (e11 : p11 = shapeCast S4096x256 (newAcc geo4096 (score geo4096 (k0_pay166 v6)
        (View.readAt (Elt Ideal) arg3.view (Rect.unit ![0, 0, 0] S1x4096x128.size i3).toLoadRect X3)
        (View.readAt (Elt Ideal) arg4.view (Rect.unit (s := S1x8192x128) (k0_off2 i k (BitVec.ofNat 32 u)) S1x256x128.size i4).toLoadRect X4)
        (View.readAt (Elt Ideal) arg6.view (Rect.unit (s := S1x32x8x256) (k0_off3 i k (BitVec.ofNat 32 u)) S1x1x1x256.size i6).toLoadRect X6))
      (View.readAt (Elt Ideal) arg10.view (Rect.unit ![0, 0] S4096x128.size i10).toLoadRect f10)
      (View.readAt (Elt Ideal) arg11.view (Rect.unit ![0, 0] S4096x256.size i11).toLoadRect f11)
      (View.readAt (Elt Ideal) arg9.view (Rect.unit (s := S8192x256) (k0_off4 i k (BitVec.ofNat 32 u)) S256x256.size i9).toLoadRect X9)) geo4096.a) :
    Held arg10 arg11 (scores Q K C (k0_pay166 v6 (ix2 0 0)) base) V n'
      (arg10.view.writes (Elt Ideal) g10 ((⟨Rect.unit ![0, 0] S4096x128.size i10, p10⟩ : View.Piece (Elt Ideal) S4096x128 .f32) :: L10))
      (arg11.view.writes (Elt Ideal) g11 ((⟨Rect.unit ![0, 0] S4096x256.size i11, p11⟩ : View.Piece (Elt Ideal) S4096x256 .f32) :: L11)) := by
  subst e10 e11 hn hn'
  refine Held.store (o := 0) (R := 4096) i10 i11 rfl rfl rfl ?_ (.inl rfl) (fun r hr => absurd hr (Nat.not_lt_zero r))
  exact Good.chunk geo4096 (D.loadQ i3 rfl) (D.loadK i4 (off2 i k u hu)) (D.loadC i6 (off3 i k u hu))
    (D.loadV i9 (off4 i k u hu)) hbase (H.load i10 i11 rfl rfl)

/-- The buffers after 1 chunk of a trip. -/
theorem trip_1 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 256
      (arg10.view.writes (Elt Ideal) arg10.view.junk (trip_k0_t1.sl.HW_arg10_1 i arg3 arg4 arg6 arg10 v6 X3 X4 X6 k f10))
      (arg11.view.writes (Elt Ideal) arg11.view.junk (trip_k0_t1.sl.HW_arg11_1 i arg3 arg4 arg6 arg9 arg10 arg11 v6 X3 X4 X6 X9 k f10 f11)) :=
  Held.chunk D k 0 0 256 (by norm_num) rfl rfl (by omega) H _ _ _ _ _ _ _ _ _ _ rfl rfl

/-- The buffers after 2 chunks of a trip. -/
theorem trip_2 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 512
      (arg10.view.writes (Elt Ideal) arg10.view.junk (trip_k0_t1.sl.HW_arg10_2 i arg3 arg4 arg6 arg10 v6 X3 X4 X6 k f10))
      (arg11.view.writes (Elt Ideal) arg11.view.junk (trip_k0_t1.sl.HW_arg11_2 i arg3 arg4 arg6 arg9 arg10 arg11 v6 X3 X4 X6 X9 k f10 f11)) :=
  Held.chunk D k 1 256 512 (by norm_num) rfl rfl (by omega) (trip_1 D k hbase H) _ _ _ _ _ _ _ _ _ _ rfl rfl

/-- The buffers after 3 chunks of a trip. -/
theorem trip_3 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 768
      (arg10.view.writes (Elt Ideal) arg10.view.junk (trip_k0_t1.sl.HW_arg10_3 i arg3 arg4 arg6 arg10 v6 X3 X4 X6 k f10))
      (arg11.view.writes (Elt Ideal) arg11.view.junk (trip_k0_t1.sl.HW_arg11_3 i arg3 arg4 arg6 arg9 arg10 arg11 v6 X3 X4 X6 X9 k f10 f11)) :=
  Held.chunk D k 2 512 768 (by norm_num) rfl rfl (by omega) (trip_2 D k hbase H) _ _ _ _ _ _ _ _ _ _ rfl rfl

/-- The buffers after 4 chunks of a trip. -/
theorem trip_4 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 1024
      (arg10.view.writes (Elt Ideal) arg10.view.junk (trip_k0_t1.sl.HW_arg10_4 i arg3 arg4 arg6 arg10 v6 X3 X4 X6 k f10))
      (arg11.view.writes (Elt Ideal) arg11.view.junk (trip_k0_t1.sl.HW_arg11_4 i arg3 arg4 arg6 arg9 arg10 arg11 v6 X3 X4 X6 X9 k f10 f11)) :=
  Held.chunk D k 3 768 1024 (by norm_num) rfl rfl (by omega) (trip_3 D k hbase H) _ _ _ _ _ _ _ _ _ _ rfl rfl

/-- The buffers after 5 chunks of a trip. -/
theorem trip_5 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 1280
      (arg10.view.writes (Elt Ideal) arg10.view.junk (trip_k0_t1.sl.HW_arg10_5 i arg3 arg4 arg6 arg10 v6 X3 X4 X6 k f10))
      (arg11.view.writes (Elt Ideal) arg11.view.junk (trip_k0_t1.sl.HW_arg11_5 i arg3 arg4 arg6 arg9 arg10 arg11 v6 X3 X4 X6 X9 k f10 f11)) :=
  Held.chunk D k 4 1024 1280 (by norm_num) rfl rfl (by omega) (trip_4 D k hbase H) _ _ _ _ _ _ _ _ _ _ rfl rfl

/-- The buffers after 6 chunks of a trip. -/
theorem trip_6 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 1536
      (arg10.view.writes (Elt Ideal) arg10.view.junk (trip_k0_t1.sl.HW_arg10_6 i arg3 arg4 arg6 arg10 v6 X3 X4 X6 k f10))
      (arg11.view.writes (Elt Ideal) arg11.view.junk (trip_k0_t1.sl.HW_arg11_6 i arg3 arg4 arg6 arg9 arg10 arg11 v6 X3 X4 X6 X9 k f10 f11)) :=
  Held.chunk D k 5 1280 1536 (by norm_num) rfl rfl (by omega) (trip_5 D k hbase H) _ _ _ _ _ _ _ _ _ _ rfl rfl

/-- The buffers after 7 chunks of a trip. -/
theorem trip_7 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 1792
      (arg10.view.writes (Elt Ideal) arg10.view.junk (trip_k0_t1.sl.HW_arg10_7 i arg3 arg4 arg6 arg10 v6 X3 X4 X6 k f10))
      (arg11.view.writes (Elt Ideal) arg11.view.junk (trip_k0_t1.sl.HW_arg11_7 i arg3 arg4 arg6 arg9 arg10 arg11 v6 X3 X4 X6 X9 k f10 f11)) :=
  Held.chunk D k 6 1536 1792 (by norm_num) rfl rfl (by omega) (trip_6 D k hbase H) _ _ _ _ _ _ _ _ _ _ rfl rfl

/-- The buffers after 8 chunks of a trip. -/
theorem trip_8 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 2048
      (arg10.view.writes (Elt Ideal) arg10.view.junk (trip_k0_t1.sl.HW_arg10_8 i arg3 arg4 arg6 arg10 v6 X3 X4 X6 k f10))
      (arg11.view.writes (Elt Ideal) arg11.view.junk (trip_k0_t1.sl.HW_arg11_8 i arg3 arg4 arg6 arg9 arg10 arg11 v6 X3 X4 X6 X9 k f10 f11)) :=
  Held.chunk D k 7 1792 2048 (by norm_num) rfl rfl (by omega) (trip_7 D k hbase H) _ _ _ _ _ _ _ _ _ _ rfl rfl

/-- The buffers after 9 chunks of a trip. -/
theorem trip_9 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 2304
      (arg10.view.writes (Elt Ideal) arg10.view.junk (trip_k0_t1.sl.HW_arg10_9 i arg3 arg4 arg6 arg10 v6 X3 X4 X6 k f10))
      (arg11.view.writes (Elt Ideal) arg11.view.junk (trip_k0_t1.sl.HW_arg11_9 i arg3 arg4 arg6 arg9 arg10 arg11 v6 X3 X4 X6 X9 k f10 f11)) :=
  Held.chunk D k 8 2048 2304 (by norm_num) rfl rfl (by omega) (trip_8 D k hbase H) _ _ _ _ _ _ _ _ _ _ rfl rfl

/-- The buffers after 10 chunks of a trip. -/
theorem trip_10 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 2560
      (arg10.view.writes (Elt Ideal) arg10.view.junk (trip_k0_t1.sl.HW_arg10_10 i arg3 arg4 arg6 arg10 v6 X3 X4 X6 k f10))
      (arg11.view.writes (Elt Ideal) arg11.view.junk (trip_k0_t1.sl.HW_arg11_10 i arg3 arg4 arg6 arg9 arg10 arg11 v6 X3 X4 X6 X9 k f10 f11)) :=
  by
  have h9 := trip_9 D k hbase H
  unfold trip_k0_t1.sl.HW_arg10_10 trip_k0_t1.sl.HW_arg11_10
  refine Held.chunk D k 9 2304 2560 (by norm_num) rfl rfl (by omega) h9 _ _ _ _ ?_ ?_ ?_ ?_ _ _ ?_ ?_
  · exact inb_S1x4096x128_S1x4096x128_0_0_0
  · exact k0_off2_inb i k 9
  · exact k0_off3_inb i k 9
  · exact k0_off4_inb i k 9
  · rfl
  · rfl

/-- The buffers after 11 chunks of a trip. -/
theorem trip_11 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 2816
      (arg10.view.writes (Elt Ideal) arg10.view.junk (trip_k0_t1.sl.HW_arg10_11 i arg3 arg4 arg6 arg10 v6 X3 X4 X6 k f10))
      (arg11.view.writes (Elt Ideal) arg11.view.junk (trip_k0_t1.sl.HW_arg11_11 i arg3 arg4 arg6 arg9 arg10 arg11 v6 X3 X4 X6 X9 k f10 f11)) :=
  Held.chunk D k 10 2560 2816 (by norm_num) rfl rfl (by omega) (trip_10 D k hbase H) _ _ _ _ _ _ _ _ _ _ rfl rfl

/-- The buffers after 12 chunks of a trip. -/
theorem trip_12 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 3072
      (arg10.view.writes (Elt Ideal) arg10.view.junk (trip_k0_t1.sl.HW_arg10_12 i arg3 arg4 arg6 arg10 v6 X3 X4 X6 k f10))
      (arg11.view.writes (Elt Ideal) arg11.view.junk (trip_k0_t1.sl.HW_arg11_12 i arg3 arg4 arg6 arg9 arg10 arg11 v6 X3 X4 X6 X9 k f10 f11)) :=
  Held.chunk D k 11 2816 3072 (by norm_num) rfl rfl (by omega) (trip_11 D k hbase H) _ _ _ _ _ _ _ _ _ _ rfl rfl

/-- The buffers after 13 chunks of a trip. -/
theorem trip_13 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 3328
      (arg10.view.writes (Elt Ideal) arg10.view.junk (trip_k0_t1.sl.HW_arg10_13 i arg3 arg4 arg6 arg10 v6 X3 X4 X6 k f10))
      (arg11.view.writes (Elt Ideal) arg11.view.junk (trip_k0_t1.sl.HW_arg11_13 i arg3 arg4 arg6 arg9 arg10 arg11 v6 X3 X4 X6 X9 k f10 f11)) :=
  Held.chunk D k 12 3072 3328 (by norm_num) rfl rfl (by omega) (trip_12 D k hbase H) _ _ _ _ _ _ _ _ _ _ rfl rfl

/-- The buffers after 14 chunks of a trip. -/
theorem trip_14 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 3584
      (arg10.view.writes (Elt Ideal) arg10.view.junk (trip_k0_t1.sl.HW_arg10_14 i arg3 arg4 arg6 arg10 v6 X3 X4 X6 k f10))
      (arg11.view.writes (Elt Ideal) arg11.view.junk (trip_k0_t1.sl.HW_arg11_14 i arg3 arg4 arg6 arg9 arg10 arg11 v6 X3 X4 X6 X9 k f10 f11)) :=
  Held.chunk D k 13 3328 3584 (by norm_num) rfl rfl (by omega) (trip_13 D k hbase H) _ _ _ _ _ _ _ _ _ _ rfl rfl

/-- The buffers after 15 chunks of a trip. -/
theorem trip_15 (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11) :
    Held arg10 arg11 (scores Q K C (k0_pay166 v6 (ix2 0 0)) base) V 3840
      (arg10.view.writes (Elt Ideal) arg10.view.junk (trip_k0_t1.sl.HW_arg10_15 i arg3 arg4 arg6 arg10 v6 X3 X4 X6 k f10))
      (arg11.view.writes (Elt Ideal) arg11.view.junk (trip_k0_t1.sl.HW_arg11_15 i arg3 arg4 arg6 arg9 arg10 arg11 v6 X3 X4 X6 X9 k f10 f11)) :=
  Held.chunk D k 14 3584 3840 (by norm_num) rfl rfl (by omega) (trip_14 D k hbase H) _ _ _ _ _ _ _ _ _ _ rfl rfl

variable (𝒱 : Variants) (c : Dev nD) (bd : Option 𝒱.V) (harg3 : arg3.IsWhole) (harg4 : arg4.IsWhole)
  (arg5 : Memref sig .tc .vmem S1x8192x128 .bf16) (harg5 : arg5.IsWhole) (harg6 : arg6.IsWhole)
  (arg7 : Memref sig .tc .vmem S1x4096x128 .bf16) (harg7 : arg7.IsWhole)
  (arg8 : Memref sig .tc .vmem S1x4096x128 .bf16) (harg8 : arg8.IsWhole) (harg9 : arg9.IsWhole)
  (harg10 : arg10.IsWhole) (harg11 : arg11.IsWhole) (arg1 : BitVec 32)

/-- The buffers after a whole trip: a block of 4096 keys later. -/
theorem trip_held (D : Data arg3 arg4 arg6 arg9 X3 X4 X6 X9 (head i) Q K C V) (k : Fin (k0_t1_loop i).trips)
    (hbase : 4096 ≤ base) {f10 : arg10.view.ty.Contents (Elt Ideal)} {f11 : arg11.view.ty.Contents (Elt Ideal)}
    (H : Held arg10 arg11 (scores Q K C (k0_pay166 v6 (ix2 0 0)) base) V 0 f10 f11)
    (g10 : arg10.view.ty.Contents (Elt Ideal)) (g11 : arg11.view.ty.Contents (Elt Ideal))
    (M10 : List (View.Piece (Elt Ideal) S4096x128 .f32)) (M11 : List (View.Piece (Elt Ideal) S4096x256 .f32)) :
    Held arg10 arg11 (scores Q K C (k0_pay166 v6 (ix2 0 0)) base) V 4096
      (arg10.view.writes (Elt Ideal) g10 ((tripL_k0_t1 (F := Ideal) 𝒱 c bd i arg3 harg3 arg4 harg4 arg5 harg5 arg6 harg6 arg7 harg7 arg8 harg8 arg9 harg9 arg10 harg10 arg11 harg11 arg1 v6 X3 X4 X6 X9 k f10 f11).1 ++ M10))
      (arg11.view.writes (Elt Ideal) g11 ((tripL_k0_t1 (F := Ideal) 𝒱 c bd i arg3 harg3 arg4 harg4 arg5 harg5 arg6 harg6 arg7 harg7 arg8 harg8 arg9 harg9 arg10 harg10 arg11 harg11 arg1 v6 X3 X4 X6 X9 k f10 f11).2 ++ M11)) := by
  unfold tripL_k0_t1 trip_k0_t1
  exact Held.chunk D k 15 3840 4096 (by norm_num) rfl rfl (by omega) (trip_15 D k hbase H) _ _ _ _ _ _ _ _ _ _ rfl rfl

/-- The buffers after the loop: all keys before the query block. -/
theorem loop_held (D : Data arg3 arg4 arg6 arg9 X3 X4 X6 X9 (head i) Q K C V) (hbase : (i 2).val * 4096 = base)
    {G10 : arg10.view.ty.Contents (Elt Ideal)} {G11 : arg11.view.ty.Contents (Elt Ideal)}
    (H : Held arg10 arg11 (scores Q K C (k0_pay166 v6 (ix2 0 0)) base) V 0 G10 G11) (n : ℕ) (hn : n = (i 2).val) :
    Held arg10 arg11 (scores Q K C (k0_pay166 v6 (ix2 0 0)) base) V base
      (arg10.view.writes (Elt Ideal) G10 (pb_k0_t1 (F := Ideal) 𝒱 c bd i arg3 harg3 arg4 harg4 arg5 harg5 arg6 harg6 arg7 harg7 arg8 harg8 arg9 harg9 arg10 harg10 arg11 harg11 arg1 v6 X3 X4 X6 X9 G10 G11 n).1)
      (arg11.view.writes (Elt Ideal) G11 (pb_k0_t1 (F := Ideal) 𝒱 c bd i arg3 harg3 arg4 harg4 arg5 harg5 arg6 harg6 arg7 harg7 arg8 harg8 arg9 harg9 arg10 harg10 arg11 harg11 arg1 v6 X3 X4 X6 X9 G10 G11 n).2) := by
  have h2 : (i 2).val < 2 := (i 2).isLt
  rcases Nat.lt_or_ge n 1 with h | h
  · obtain rfl : n = 0 := by omega
    obtain rfl : base = 0 := by omega
    exact H
  · obtain rfl : n = 1 := by omega
    obtain rfl : base = 4096 := by omega
    have hs := pb_k0_t1_succ (F := Ideal) 𝒱 c bd i arg3 harg3 arg4 harg4 arg5 harg5 arg6 harg6 arg7 harg7 arg8 harg8 arg9 harg9 arg10 harg10 arg11 harg11 arg1 v6 X3 X4 X6 X9 G10 G11 ⟨0, by rw [trips1]; omega⟩
    simp only [zero_add] at hs
    rw [hs]
    exact trip_held 𝒱 c bd harg3 harg4 arg5 harg5 harg6 arg7 harg7 arg8 harg8 harg9 harg10 harg11 arg1 D _ le_rfl H
      _ _ _ _

end

end Cert.Fox
-- ==== Proof.Fox.Diag.lean ====
/-
  A grid point of the kernel on its scratch buffers: their state before the block's own keys, and one of
  the sixteen masked chunks of those.
-/
module

public import proofs.«01_k».proof.Proof.Fox.Trip
public import Idealize.ShloMosaic.Lib.Writes

@[expose] public section

noncomputable section

open Idealize.ShloMosaic hiding ix1 ix2 ix3 ix4 eq_ix2
open Idealize.ShloMosaic.ValueIdx
open Cert.KernelIdeal Cert.KernelIdeal.Gen

namespace Cert.Fox

section

variable {i : grid0.Coords} {arg3 : Memref sig .tc .vmem S1x4096x128 .bf16} {arg4 : Memref sig .tc .vmem S1x8192x128 .bf16}
  {arg6 : Memref sig .tc .vmem S1x32x8x256 .f32} {arg9 : Memref sig .tc .vmem S8192x256 .bf16}
  {arg10 : Memref sig .tc .vmem S4096x128 .f32} {arg11 : Memref sig .tc .vmem S4096x256 .f32}
  {X3 : arg3.view.ty.Contents (Elt Ideal)} {X4 : arg4.view.ty.Contents (Elt Ideal)}
  {X6 : arg6.view.ty.Contents (Elt Ideal)} {X9 : arg9.view.ty.Contents (Elt Ideal)}
  {Q K : ℕ → ℕ → EReal} {C : ℕ → EReal} {V : ℕ → ℕ → EReal} {base : ℕ}

/-- A chunk of the block's own keys, on the buffers: the rows from its first key's on are loaded, advanced and stored. -/
theorem Held.diag {cr : FVec Ideal S1x1 .f32} (D : Data arg3 arg4 arg6 arg9 X3 X4 X6 X9 (head i) Q K C V)
    (hbase : (i 2).val * 4096 = base) (u o R o' : ℕ) (g : Geo R) (hu : u < 16) (ho : u * 256 = o) (hR : o + R = 4096)
    (ho' : o + 256 = o') {L10 : List (View.Piece (Elt Ideal) S4096x128 .f32)} {L11 : List (View.Piece (Elt Ideal) S4096x256 .f32)}
    (H : Held arg10 arg11 (scores Q K C (cr (ix2 0 0)) base) V (base + o)
      (arg10.view.writes (Elt Ideal) arg10.view.junk L10) (arg11.view.writes (Elt Ideal) arg11.view.junk L11))
    (i3 : ∀ a : Fin 3, (![0, o, 0] : Fin 3 → ℕ) a + (![1, R, 128] : Fin 3 → ℕ) a ≤ S1x4096x128.size a)
    (i4 : ∀ a : Fin 3, k0_off8 i (BitVec.ofNat 32 u) a + S1x256x128.size a ≤ S1x8192x128.size a)
    (i6 : ∀ a : Fin 4, k0_off9 i (BitVec.ofNat 32 u) a + S1x1x1x256.size a ≤ S1x32x8x256.size a)
    (i9 : ∀ a : Fin 2, k0_off10 i (BitVec.ofNat 32 u) a + S256x256.size a ≤ S8192x256.size a)
    (i10 : ∀ a : Fin 2, (![o, 0] : Fin 2 → ℕ) a + (![R, 128] : Fin 2 → ℕ) a ≤ S4096x128.size a)
    (i11 : ∀ a : Fin 2, (![o, 0] : Fin 2 → ℕ) a + (![R, 256] : Fin 2 → ℕ) a ≤ S4096x256.size a)
    {p10 : FVec Ideal ⟨2, ![R, 128]⟩ .f32} {p11 : FVec Ideal ⟨2, ![R, 256]⟩ .f32}
    (e10 : p10 = shapeCast ⟨2, ![R, 128]⟩ (newMax g (masked g (score g cr
        (View.readAt (Elt Ideal) arg3.view (Rect.unit (s := S1x4096x128) ![0, o, 0] ![1, R, 128] i3).toLoadRect X3)
        (View.readAt (Elt Ideal) arg4.view (Rect.unit (s := S1x8192x128) (k0_off8 i (BitVec.ofNat 32 u)) S1x256x128.size i4).toLoadRect X4)
        (View.readAt (Elt Ideal) arg6.view (Rect.unit (s := S1x32x8x256) (k0_off9 i (BitVec.ofNat 32 u)) S1x1x1x256.size i6).toLoadRect X6)))
      (arg10.view.readCov L10 (Rect.unit (s := S4096x128) ![o, 0] ![R, 128] i10).toLoadRect)) g.m)
    (e11 : p11 = shapeCast ⟨2, ![R, 256]⟩ (newAcc g (masked g (score g cr
        (View.readAt (Elt Ideal) arg3.view (Rect.unit (s := S1x4096x128) ![0, o, 0] ![1, R, 128] i3).toLoadRect X3)
        (View.readAt (Elt Ideal) arg4.view (Rect.unit (s := S1x8192x128) (k0_off8 i (BitVec.ofNat 32 u)) S1x256x128.size i4).toLoadRect X4)
        (View.readAt (Elt Ideal) arg6.view (Rect.unit (s := S1x32x8x256) (k0_off9 i (BitVec.ofNat 32 u)) S1x1x1x256.size i6).toLoadRect X6)))
      (arg10.view.readCov L10 (Rect.unit (s := S4096x128) ![o, 0] ![R, 128] i10).toLoadRect)
      (arg11.view.readCov L11 (Rect.unit (s := S4096x256) ![o, 0] ![R, 256] i11).toLoadRect)
      (View.readAt (Elt Ideal) arg9.view (Rect.unit (s := S8192x256) (k0_off10 i (BitVec.ofNat 32 u)) S256x256.size i9).toLoadRect X9)) g.a) :
    Held arg10 arg11 (scores Q K C (cr (ix2 0 0)) base) V (base + o')
      (arg10.view.writes (Elt Ideal) arg10.view.junk ((⟨Rect.unit (s := S4096x128) ![o, 0] ![R, 128] i10, p10⟩ : View.Piece (Elt Ideal) S4096x128 .f32) :: L10))
      (arg11.view.writes (Elt Ideal) arg11.view.junk ((⟨Rect.unit (s := S4096x256) ![o, 0] ![R, 256] i11, p11⟩ : View.Piece (Elt Ideal) S4096x256 .f32) :: L11)) := by
  subst e10 e11 ho'
  have hoff : ((i 2).val * 16 + u) * 256 = base + o := by omega
  refine Held.store (n := base + o) (o := o) (R := R) i10 i11 rfl rfl hR ?_ (.inr H) (fun r hr j => ?_)
  · refine Good.chunkMasked (n := base + o) g (by omega) (D.loadQ i3 rfl) (D.loadK i4 ((off8 i u hu).trans (by rw [hoff])))
      (fun j => (D.loadC i6 (off9 i u hu) j).trans (by rw [hoff])) (D.loadV i9 ((off10 i u hu).trans (by rw [hoff])))
      rfl (H.load i10 i11 rfl rfl)
  · rw [scores, if_neg (by omega)]

variable (𝒱 : Variants) (c : Dev nD) (bd : Option 𝒱.V) (harg3 : arg3.IsWhole) (harg4 : arg4.IsWhole)
  (arg5 : Memref sig .tc .vmem S1x8192x128 .bf16) (harg5 : arg5.IsWhole) (harg6 : arg6.IsWhole)
  (arg7 : Memref sig .tc .vmem S1x4096x128 .bf16) (harg7 : arg7.IsWhole)
  (arg8 : Memref sig .tc .vmem S1x4096x128 .bf16) (harg8 : arg8.IsWhole) (harg9 : arg9.IsWhole)
  (harg10 : arg10.IsWhole) (harg11 : arg11.IsWhole) (arg1 v23 : BitVec 32) (v6 : Vec Ideal S1x1x1x256 .f32)

/-- The buffers start with no key: the maximum at minus infinity, the sums at zero. -/
theorem init_held (S : ℕ → ℕ → EReal) (i10 : ∀ a : Fin 2, (![0, 0] : Fin 2 → ℕ) a + S4096x128.size a ≤ S4096x128.size a)
    (i11 : ∀ a : Fin 2, (![0, 0] : Fin 2 → ℕ) a + S4096x256.size a ≤ S4096x256.size a) :
    Held arg10 arg11 S V 0
      (arg10.view.writes (Elt Ideal) arg10.view.junk [(⟨Rect.unit ![0, 0] S4096x128.size i10, k0_pay167 (F := Ideal)⟩ : View.Piece (Elt Ideal) S4096x128 .f32)])
      (arg11.view.writes (Elt Ideal) arg11.view.junk [(⟨Rect.unit ![0, 0] S4096x256.size i11, k0_pay168 (F := Ideal)⟩ : View.Piece (Elt Ideal) S4096x256 .f32)]) := by
  intro r
  refine ⟨fun l => ?_, fun d => ?_⟩
  · refine (View.read_writes_cons_rows_of_mem arg10.view _ i10 _ [] (ix2 r l) (ix2 r l) rfl (zero_add _).symm rfl).trans ?_
    unfold k0_pay167
    rw [shapeCast_self, top_zero]
    show Ideal.ofBits .f32 0xFF800000#32 = ⊥
    simp [Ideal.ofBits_def, Ideal.ofBits, Ideal.ieee]
  · refine (View.read_writes_cons_rows_of_mem arg11.view _ i11 _ [] (ix2 r d) (ix2 r d) rfl (zero_add _).symm rfl).trans ?_
    unfold k0_pay168
    rw [shapeCast_self, wsum_zero]
    show Ideal.ofBits .f32 0x00000000#32 = 0
    exact Ideal.ofBits_zero_f32

/-- The buffers before the block's own keys: all the earlier keys are in. -/
theorem start_held (D : Data arg3 arg4 arg6 arg9 X3 X4 X6 X9 (head i) Q K C V) (hbase : (i 2).val * 4096 = base)
    (n1 n2 : ℕ) (hn1 : n1 = (i 2).val) (hn2 : n2 = 0) (G10 : arg10.view.ty.Contents (Elt Ideal))
    (G11 : arg11.view.ty.Contents (Elt Ideal)) (L10 : List (View.Piece (Elt Ideal) S4096x128 .f32))
    (L11 : List (View.Piece (Elt Ideal) S4096x256 .f32))
    (H : Held arg10 arg11 (scores Q K C (k0_pay166 v6 (ix2 0 0)) base) V 0
      (arg10.view.writes (Elt Ideal) arg10.view.junk L10) (arg11.view.writes (Elt Ideal) arg11.view.junk L11)) :
    Held arg10 arg11 (scores Q K C (k0_pay166 v6 (ix2 0 0)) base) V (base + 0)
      (arg10.view.writes (Elt Ideal) arg10.view.junk
        ((pb_k0_t2 (F := Ideal) 𝒱 c bd i arg3 harg3 arg4 harg4 arg5 harg5 arg6 harg6 arg7 harg7 arg8 harg8 arg9 harg9 arg10 harg10 arg11 harg11 arg1 v6 v23 X3 X4 X6 X9 G10 G11 n2).1 ++
          ((pb_k0_t1 (F := Ideal) 𝒱 c bd i arg3 harg3 arg4 harg4 arg5 harg5 arg6 harg6 arg7 harg7 arg8 harg8 arg9 harg9 arg10 harg10 arg11 harg11 arg1 v6 X3 X4 X6 X9 (arg10.view.writes (Elt Ideal) arg10.view.junk L10)
            (arg11.view.writes (Elt Ideal) arg11.view.junk L11) n1).1 ++ L10)))
      (arg11.view.writes (Elt Ideal) arg11.view.junk
        ((pb_k0_t2 (F := Ideal) 𝒱 c bd i arg3 harg3 arg4 harg4 arg5 harg5 arg6 harg6 arg7 harg7 arg8 harg8 arg9 harg9 arg10 harg10 arg11 harg11 arg1 v6 v23 X3 X4 X6 X9 G10 G11 n2).2 ++
          ((pb_k0_t1 (F := Ideal) 𝒱 c bd i arg3 harg3 arg4 harg4 arg5 harg5 arg6 harg6 arg7 harg7 arg8 harg8 arg9 harg9 arg10 harg10 arg11 harg11 arg1 v6 X3 X4 X6 X9 (arg10.view.writes (Elt Ideal) arg10.view.junk L10)
            (arg11.view.writes (Elt Ideal) arg11.view.junk L11) n1).2 ++ L11))) := by
  subst hn2
  show Held arg10 arg11 _ V base (arg10.view.writes (Elt Ideal) arg10.view.junk (_ ++ L10))
    (arg11.view.writes (Elt Ideal) arg11.view.junk (_ ++ L11))
  rw [View.writes_append, View.writes_append]
  exact loop_held 𝒱 c bd harg3 harg4 arg5 harg5 harg6 arg7 harg7 arg8 harg8 harg9 harg10 harg11 arg1 D hbase H n1 hn1

end

end Cert.Fox
-- ==== Proof.Fox.RunA.lean ====
/-
  The sixteen masked chunks at the first query block of a head (which also fills the values and ones), on the buffers of the run.
-/
module

public import proofs.«01_k».proof.Proof.Gen.KernelIdeal.Frame.RunA
public import proofs.«01_k».proof.Proof.Fox.Diag

@[expose] public section

set_option maxRecDepth 16384

noncomputable section

open Idealize.ShloMosaic hiding ix1 ix2 ix3 ix4 eq_ix2
open Idealize.ShloMosaic.ValueIdx
open Cert.KernelIdeal Cert.KernelIdeal.Gen

namespace Cert.Fox.RunA

variable {c : Dev nD} {i : grid0.Coords} {arg3 : Memref sig .tc .vmem S1x4096x128 .bf16} {harg3 : arg3.IsWhole}
  {arg4 : Memref sig .tc .vmem S1x8192x128 .bf16} {harg4 : arg4.IsWhole}
  {arg5 : Memref sig .tc .vmem S1x8192x128 .bf16} {harg5 : arg5.IsWhole}
  {arg6 : Memref sig .tc .vmem S1x32x8x256 .f32} {harg6 : arg6.IsWhole}
  {arg7 : Memref sig .tc .vmem S1x4096x128 .bf16} {harg7 : arg7.IsWhole}
  {arg8 : Memref sig .tc .vmem S1x4096x128 .bf16} {harg8 : arg8.IsWhole}
  {arg9 : Memref sig .tc .vmem S8192x256 .bf16} {harg9 : arg9.IsWhole}
  {arg10 : Memref sig .tc .vmem S4096x128 .f32} {harg10 : arg10.IsWhole}
  {arg11 : Memref sig .tc .vmem S4096x256 .f32} {harg11 : arg11.IsWhole}
  {x0 : Vec Ideal S1x4096x128 .bf16} {x1 : Vec Ideal S1x8192x128 .bf16} {x2 : Vec Ideal S1x8192x128 .bf16} {x3 : Vec Ideal S1x32x8x256 .f32}
  {Q K : ℕ → ℕ → EReal} {C : ℕ → EReal} {V : ℕ → ℕ → EReal} {base : ℕ}

/-- The buffers after 1 chunk of the block's own keys. -/
theorem masked_1 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 256)
      (arg10.view.writes (Elt Ideal) arg10.view.junk (kernelRun0_A.sl.HS1_1_1 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_1_1 c i arg3 harg3 arg4 harg4 arg5 harg5 arg6 harg6 arg7 harg7 arg8 harg8 arg9 harg9 arg10 harg10 arg11 harg11 x0 x1 x2 x3)) := by
  unfold kernelRun0_A.sl.HS1_1_1 kernelRun0_A.sl.HS2_1_1
  exact Held.diag D hbase 0 0 4096 256 ⟨by decide, by decide, by decide, by decide, by decide, by decide, by decide,
    by decide, by decide, by decide, by decide, by decide, by decide, by decide⟩ (by norm_num) rfl rfl rfl (start_held Variants.none c none harg3 harg4 arg5 harg5 harg6 arg7 harg7 arg8 harg8 harg9 harg10 harg11
      (BitVec.ofNat 32 (i 1).val) (kernelRun0_A.sl.v23 i) (View.readAt (Elt Ideal) arg6.view
        (Rect.unit (s := S1x32x8x256) (k0_off1 i) S1x1x1x256.size (k0_off1_inb i)).toLoadRect (harg6.unread x3)) D hbase
      (Scf.trips (k0_t1_loop i).lb (k0_t1_loop i).ub (k0_t1_loop i).st)
      (Scf.trips (k0_t2_loop i).lb (k0_t2_loop i).ub (k0_t2_loop i).st) (trips1 i) (trips2 i) _ _ _ _
      (init_held _ inb_S4096x128_S4096x128_0_0 inb_S4096x256_S4096x256_0_0))
    inb_S1x4096x128_S1x4096x128_0_0_0 (k0_off8_inb i 0) (k0_off9_inb i 0) (k0_off10_inb i 0) inb_S4096x128_S4096x128_0_0 inb_S4096x256_S4096x256_0_0 rfl rfl

/-- The buffers after 2 chunks of the block's own keys. -/
theorem masked_2 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 512)
      (arg10.view.writes (Elt Ideal) arg10.view.junk (kernelRun0_A.sl.HS1_2 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_2 c i arg3 harg3 arg4 harg4 arg5 harg5 arg6 harg6 arg7 harg7 arg8 harg8 arg9 harg9 arg10 harg10 arg11 harg11 x0 x1 x2 x3)) := by
  have hs := masked_1 (harg7 := harg7) (harg8 := harg8) (harg9 := harg9) (harg10 := harg10) (harg11 := harg11) (harg5 := harg5) (c := c) D hbase
  unfold kernelRun0_A.sl.HS1_2 kernelRun0_A.sl.HS2_2
  exact Held.diag D hbase 1 256 3840 512 ⟨by decide, by decide, by decide, by decide, by decide, by decide, by decide,
    by decide, by decide, by decide, by decide, by decide, by decide, by decide⟩ (by norm_num) rfl rfl rfl hs
    inb_S1x4096x128_S1x3840x128_0_256_0 (k0_off8_inb i 1) (k0_off9_inb i 1) (k0_off10_inb i 1) inb_S4096x128_S3840x128_256_0 inb_S4096x256_S3840x256_256_0 rfl rfl

/-- The buffers after 3 chunks of the block's own keys. -/
theorem masked_3 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 768)
      (arg10.view.writes (Elt Ideal) arg10.view.junk (kernelRun0_A.sl.HS1_3 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_3 c i arg3 harg3 arg4 harg4 arg5 harg5 arg6 harg6 arg7 harg7 arg8 harg8 arg9 harg9 arg10 harg10 arg11 harg11 x0 x1 x2 x3)) := by
  have hs := masked_2 (harg7 := harg7) (harg8 := harg8) (harg9 := harg9) (harg10 := harg10) (harg11 := harg11) (harg5 := harg5) (c := c) D hbase
  unfold kernelRun0_A.sl.HS1_3 kernelRun0_A.sl.HS2_3
  exact Held.diag D hbase 2 512 3584 768 ⟨by decide, by decide, by decide, by decide, by decide, by decide, by decide,
    by decide, by decide, by decide, by decide, by decide, by decide, by decide⟩ (by norm_num) rfl rfl rfl hs
    inb_S1x4096x128_S1x3584x128_0_512_0 (k0_off8_inb i 2) (k0_off9_inb i 2) (k0_off10_inb i 2) inb_S4096x128_S3584x128_512_0 inb_S4096x256_S3584x256_512_0 rfl rfl

/-- The buffers after 4 chunks of the block's own keys. -/
theorem masked_4 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 1024)
      (arg10.view.writes (Elt Ideal) arg10.view.junk (kernelRun0_A.sl.HS1_4 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_4 c i arg3 harg3 arg4 harg4 arg5 harg5 arg6 harg6 arg7 harg7 arg8 harg8 arg9 harg9 arg10 harg10 arg11 harg11 x0 x1 x2 x3)) := by
  have hs := masked_3 (harg7 := harg7) (harg8 := harg8) (harg9 := harg9) (harg10 := harg10) (harg11 := harg11) (harg5 := harg5) (c := c) D hbase
  unfold kernelRun0_A.sl.HS1_4 kernelRun0_A.sl.HS2_4
  exact Held.diag D hbase 3 768 3328 1024 ⟨by decide, by decide, by decide, by decide, by decide, by decide, by decide,
    by decide, by decide, by decide, by decide, by decide, by decide, by decide⟩ (by norm_num) rfl rfl rfl hs
    inb_S1x4096x128_S1x3328x128_0_768_0 (k0_off8_inb i 3) (k0_off9_inb i 3) (k0_off10_inb i 3) inb_S4096x128_S3328x128_768_0 inb_S4096x256_S3328x256_768_0 rfl rfl

/-- The buffers after 5 chunks of the block's own keys. -/
theorem masked_5 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 1280)
      (arg10.view.writes (Elt Ideal) arg10.view.junk (kernelRun0_A.sl.HS1_5 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_5 c i arg3 harg3 arg4 harg4 arg5 harg5 arg6 harg6 arg7 harg7 arg8 harg8 arg9 harg9 arg10 harg10 arg11 harg11 x0 x1 x2 x3)) := by
  have hs := masked_4 (harg7 := harg7) (harg8 := harg8) (harg9 := harg9) (harg10 := harg10) (harg11 := harg11) (harg5 := harg5) (c := c) D hbase
  unfold kernelRun0_A.sl.HS1_5 kernelRun0_A.sl.HS2_5
  exact Held.diag D hbase 4 1024 3072 1280 ⟨by decide, by decide, by decide, by decide, by decide, by decide, by decide,
    by decide, by decide, by decide, by decide, by decide, by decide, by decide⟩ (by norm_num) rfl rfl rfl hs
    inb_S1x4096x128_S1x3072x128_0_1024_0 (k0_off8_inb i 4) (k0_off9_inb i 4) (k0_off10_inb i 4) inb_S4096x128_S3072x128_1024_0 inb_S4096x256_S3072x256_1024_0 rfl rfl

/-- The buffers after 6 chunks of the block's own keys. -/
theorem masked_6 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 1536)
      (arg10.view.writes (Elt Ideal) arg10.view.junk (kernelRun0_A.sl.HS1_6 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_6 c i arg3 harg3 arg4 harg4 arg5 harg5 arg6 harg6 arg7 harg7 arg8 harg8 arg9 harg9 arg10 harg10 arg11 harg11 x0 x1 x2 x3)) := by
  have hs := masked_5 (harg7 := harg7) (harg8 := harg8) (harg9 := harg9) (harg10 := harg10) (harg11 := harg11) (harg5 := harg5) (c := c) D hbase
  unfold kernelRun0_A.sl.HS1_6 kernelRun0_A.sl.HS2_6
  exact Held.diag D hbase 5 1280 2816 1536 ⟨by decide, by decide, by decide, by decide, by decide, by decide, by decide,
    by decide, by decide, by decide, by decide, by decide, by decide, by decide⟩ (by norm_num) rfl rfl rfl hs
    inb_S1x4096x128_S1x2816x128_0_1280_0 (k0_off8_inb i 5) (k0_off9_inb i 5) (k0_off10_inb i 5) inb_S4096x128_S2816x128_1280_0 inb_S4096x256_S2816x256_1280_0 rfl rfl

/-- The buffers after 7 chunks of the block's own keys. -/
theorem masked_7 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 1792)
      (arg10.view.writes (Elt Ideal) arg10.view.junk (kernelRun0_A.sl.HS1_7 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_7 c i arg3 harg3 arg4 harg4 arg5 harg5 arg6 harg6 arg7 harg7 arg8 harg8 arg9 harg9 arg10 harg10 arg11 harg11 x0 x1 x2 x3)) := by
  have hs := masked_6 (harg7 := harg7) (harg8 := harg8) (harg9 := harg9) (harg10 := harg10) (harg11 := harg11) (harg5 := harg5) (c := c) D hbase
  unfold kernelRun0_A.sl.HS1_7 kernelRun0_A.sl.HS2_7
  exact Held.diag D hbase 6 1536 2560 1792 ⟨by decide, by decide, by decide, by decide, by decide, by decide, by decide,
    by decide, by decide, by decide, by decide, by decide, by decide, by decide⟩ (by norm_num) rfl rfl rfl hs
    inb_S1x4096x128_S1x2560x128_0_1536_0 (k0_off8_inb i 6) (k0_off9_inb i 6) (k0_off10_inb i 6) inb_S4096x128_S2560x128_1536_0 inb_S4096x256_S2560x256_1536_0 rfl rfl

/-- The buffers after 8 chunks of the block's own keys. -/
theorem masked_8 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 2048)
      (arg10.view.writes (Elt Ideal) arg10.view.junk (kernelRun0_A.sl.HS1_8 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_8 c i arg3 harg3 arg4 harg4 arg5 harg5 arg6 harg6 arg7 harg7 arg8 harg8 arg9 harg9 arg10 harg10 arg11 harg11 x0 x1 x2 x3)) := by
  have hs := masked_7 (harg7 := harg7) (harg8 := harg8) (harg9 := harg9) (harg10 := harg10) (harg11 := harg11) (harg5 := harg5) (c := c) D hbase
  unfold kernelRun0_A.sl.HS1_8 kernelRun0_A.sl.HS2_8
  exact Held.diag D hbase 7 1792 2304 2048 ⟨by decide, by decide, by decide, by decide, by decide, by decide, by decide,
    by decide, by decide, by decide, by decide, by decide, by decide, by decide⟩ (by norm_num) rfl rfl rfl hs
    inb_S1x4096x128_S1x2304x128_0_1792_0 (k0_off8_inb i 7) (k0_off9_inb i 7) (k0_off10_inb i 7) inb_S4096x128_S2304x128_1792_0 inb_S4096x256_S2304x256_1792_0 rfl rfl

/-- The buffers after 9 chunks of the block's own keys. -/
theorem masked_9 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 2304)
      (arg10.view.writes (Elt Ideal) arg10.view.junk (kernelRun0_A.sl.HS1_9 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_9 c i arg3 harg3 arg4 harg4 arg5 harg5 arg6 harg6 arg7 harg7 arg8 harg8 arg9 harg9 arg10 harg10 arg11 harg11 x0 x1 x2 x3)) := by
  have hs := masked_8 (harg7 := harg7) (harg8 := harg8) (harg9 := harg9) (harg10 := harg10) (harg11 := harg11) (harg5 := harg5) (c := c) D hbase
  unfold kernelRun0_A.sl.HS1_9 kernelRun0_A.sl.HS2_9
  exact Held.diag D hbase 8 2048 2048 2304 ⟨by decide, by decide, by decide, by decide, by decide, by decide, by decide,
    by decide, by decide, by decide, by decide, by decide, by decide, by decide⟩ (by norm_num) rfl rfl rfl hs
    inb_S1x4096x128_S1x2048x128_0_2048_0 (k0_off8_inb i 8) (k0_off9_inb i 8) (k0_off10_inb i 8) inb_S4096x128_S2048x128_2048_0 inb_S4096x256_S2048x256_2048_0 rfl rfl

/-- The buffers after 10 chunks of the block's own keys. -/
theorem masked_10 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 2560)
      (arg10.view.writes (Elt Ideal) arg10.view.junk (kernelRun0_A.sl.HS1_10 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_10 c i arg3 harg3 arg4 harg4 arg5 harg5 arg6 harg6 arg7 harg7 arg8 harg8 arg9 harg9 arg10 harg10 arg11 harg11 x0 x1 x2 x3)) := by
  have hs := masked_9 (harg7 := harg7) (harg8 := harg8) (harg9 := harg9) (harg10 := harg10) (harg11 := harg11) (harg5 := harg5) (c := c) D hbase
  unfold kernelRun0_A.sl.HS1_10 kernelRun0_A.sl.HS2_10
  exact Held.diag D hbase 9 2304 1792 2560 ⟨by decide, by decide, by decide, by decide, by decide, by decide, by decide,
    by decide, by decide, by decide, by decide, by decide, by decide, by decide⟩ (by norm_num) rfl rfl rfl hs
    inb_S1x4096x128_S1x1792x128_0_2304_0 (k0_off8_inb i 9) (k0_off9_inb i 9) (k0_off10_inb i 9) inb_S4096x128_S1792x128_2304_0 inb_S4096x256_S1792x256_2304_0 rfl rfl

/-- The buffers after 11 chunks of the block's own keys. -/
theorem masked_11 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 2816)
      (arg10.view.writes (Elt Ideal) arg10.view.junk (kernelRun0_A.sl.HS1_11 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_11 c i arg3 harg3 arg4 harg4 arg5 harg5 arg6 harg6 arg7 harg7 arg8 harg8 arg9 harg9 arg10 harg10 arg11 harg11 x0 x1 x2 x3)) := by
  have hs := masked_10 (harg7 := harg7) (harg8 := harg8) (harg9 := harg9) (harg10 := harg10) (harg11 := harg11) (harg5 := harg5) (c := c) D hbase
  unfold kernelRun0_A.sl.HS1_11 kernelRun0_A.sl.HS2_11
  exact Held.diag D hbase 10 2560 1536 2816 ⟨by decide, by decide, by decide, by decide, by decide, by decide, by decide,
    by decide, by decide, by decide, by decide, by decide, by decide, by decide⟩ (by norm_num) rfl rfl rfl hs
    inb_S1x4096x128_S1x1536x128_0_2560_0 (k0_off8_inb i 10) (k0_off9_inb i 10) (k0_off10_inb i 10) inb_S4096x128_S1536x128_2560_0 inb_S4096x256_S1536x256_2560_0 rfl rfl

/-- The buffers after 12 chunks of the block's own keys. -/
theorem masked_12 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 3072)
      (arg10.view.writes (Elt Ideal) arg10.view.junk (kernelRun0_A.sl.HS1_12 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_12 c i arg3 harg3 arg4 harg4 arg5 harg5 arg6 harg6 arg7 harg7 arg8 harg8 arg9 harg9 arg10 harg10 arg11 harg11 x0 x1 x2 x3)) := by
  have hs := masked_11 (harg7 := harg7) (harg8 := harg8) (harg9 := harg9) (harg10 := harg10) (harg11 := harg11) (harg5 := harg5) (c := c) D hbase
  unfold kernelRun0_A.sl.HS1_12 kernelRun0_A.sl.HS2_12
  exact Held.diag D hbase 11 2816 1280 3072 ⟨by decide, by decide, by decide, by decide, by decide, by decide, by decide,
    by decide, by decide, by decide, by decide, by decide, by decide, by decide⟩ (by norm_num) rfl rfl rfl hs
    inb_S1x4096x128_S1x1280x128_0_2816_0 (k0_off8_inb i 11) (k0_off9_inb i 11) (k0_off10_inb i 11) inb_S4096x128_S1280x128_2816_0 inb_S4096x256_S1280x256_2816_0 rfl rfl

/-- The buffers after 13 chunks of the block's own keys. -/
theorem masked_13 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 3328)
      (arg10.view.writes (Elt Ideal) arg10.view.junk (kernelRun0_A.sl.HS1_13 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_13 c i arg3 harg3 arg4 harg4 arg5 harg5 arg6 harg6 arg7 harg7 arg8 harg8 arg9 harg9 arg10 harg10 arg11 harg11 x0 x1 x2 x3)) := by
  have hs := masked_12 (harg7 := harg7) (harg8 := harg8) (harg9 := harg9) (harg10 := harg10) (harg11 := harg11) (harg5 := harg5) (c := c) D hbase
  unfold kernelRun0_A.sl.HS1_13 kernelRun0_A.sl.HS2_13
  exact Held.diag D hbase 12 3072 1024 3328 ⟨by decide, by decide, by decide, by decide, by decide, by decide, by decide,
    by decide, by decide, by decide, by decide, by decide, by decide, by decide⟩ (by norm_num) rfl rfl rfl hs
    inb_S1x4096x128_S1x1024x128_0_3072_0 (k0_off8_inb i 12) (k0_off9_inb i 12) (k0_off10_inb i 12) inb_S4096x128_S1024x128_3072_0 inb_S4096x256_S1024x256_3072_0 rfl rfl

/-- The buffers after 14 chunks of the block's own keys. -/
theorem masked_14 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 3584)
      (arg10.view.writes (Elt Ideal) arg10.view.junk (kernelRun0_A.sl.HS1_14 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_14 c i arg3 harg3 arg4 harg4 arg5 harg5 arg6 harg6 arg7 harg7 arg8 harg8 arg9 harg9 arg10 harg10 arg11 harg11 x0 x1 x2 x3)) := by
  have hs := masked_13 (harg7 := harg7) (harg8 := harg8) (harg9 := harg9) (harg10 := harg10) (harg11 := harg11) (harg5 := harg5) (c := c) D hbase
  unfold kernelRun0_A.sl.HS1_14 kernelRun0_A.sl.HS2_14
  exact Held.diag D hbase 13 3328 768 3584 ⟨by decide, by decide, by decide, by decide, by decide, by decide, by decide,
    by decide, by decide, by decide, by decide, by decide, by decide, by decide⟩ (by norm_num) rfl rfl rfl hs
    inb_S1x4096x128_S1x768x128_0_3328_0 (k0_off8_inb i 13) (k0_off9_inb i 13) (k0_off10_inb i 13) inb_S4096x128_S768x128_3328_0 inb_S4096x256_S768x256_3328_0 rfl rfl

/-- The buffers after 15 chunks of the block's own keys. -/
theorem masked_15 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    Held arg10 arg11 (scores Q K C (kernelRun0_A.sl.r c i arg6 harg6 x3 (ix2 0 0)) base) V (base + 3840)
      (arg10.view.writes (Elt Ideal) arg10.view.junk (kernelRun0_A.sl.HS1_15 c i arg3 harg3 arg4 harg4 arg5 harg5 arg6 harg6 arg7 harg7 arg8 harg8 arg9 harg9 arg10 harg10 arg11 harg11 x0 x1 x2 x3))
      (arg11.view.writes (Elt Ideal) arg11.view.junk (kernelRun0_A.sl.HS2_15 c i arg3 harg3 arg4 harg4 arg5 harg5 arg6 harg6 arg7 harg7 arg8 harg8 arg9 harg9 arg10 harg10 arg11 harg11 x0 x1 x2 x3)) := by
  have hs := masked_14 (harg7 := harg7) (harg8 := harg8) (harg9 := harg9) (harg10 := harg10) (harg11 := harg11) (harg5 := harg5) (c := c) D hbase
  unfold kernelRun0_A.sl.HS1_15 kernelRun0_A.sl.HS2_15
  exact Held.diag D hbase 14 3584 512 3840 ⟨by decide, by decide, by decide, by decide, by decide, by decide, by decide,
    by decide, by decide, by decide, by decide, by decide, by decide, by decide⟩ (by norm_num) rfl rfl rfl hs
    inb_S1x4096x128_S1x512x128_0_3584_0 (k0_off8_inb i 14) (k0_off9_inb i 14) (k0_off10_inb i 14) inb_S4096x128_S512x128_3584_0 inb_S4096x256_S512x256_3584_0 rfl rfl

/-- The buffers after 16 chunks of the block's own keys. -/
theorem masked_16 (D : Data arg3 arg4 arg6 arg9 (harg3.unread x0) (harg4.unread x1) (harg6.unread x3)
      (arg9.view.writes (Elt Ideal) arg9.view.junk (kernelRun0_A.sl.HS0_2 c arg5 harg5 x2)) (head i) Q K C V) (hbase : (i 2).val * 4096 = base) :
    ∃ L10, Held arg10 arg11 (scores Q K C (kernelRun0_A.sl.r c i arg6 harg6 x3 (ix2 0 0)) base) V (base + 4096)
      (arg10.view.writes (Elt Ideal) arg10.view.junk L10)
      (arg11.view.writes (Elt Ideal) arg11.view.junk (kernelRun0_A.sl.HS2_16 c i arg3 harg3 arg4 harg4 arg5 harg5 arg6 harg6 arg7 harg7 arg8 harg8 arg9 harg9 arg10 harg10 arg11 harg11 x0 x1 x2 x3)) := by
  have hs := masked_15 (harg7 := harg7) (harg8 := harg8) (harg9 := harg9) (harg10 := harg10) (harg11 := harg11) (harg5 := harg5) (c := c) D hbase
  unfold kernelRun0_A.sl.HS2_16
  exact ⟨_, Held.diag D hbase 15 3840 256 4096 ⟨by decide, by decide, by decide, by decide, by decide, by decide, by decide,
    by decide, by decide, by decide, by decide, by decide, by decide, by decide⟩ (by norm_num) rfl rfl rfl hs
    inb_S1x4096x128_S1x256x128_0_3840_0 (k0_off8_inb i 15) (k0_off9_inb i 15) (k0_off10_inb i 15) inb_S4096x128_S256x128_3840_0 inb_S4096x256_S256x256_3840_0 rfl rfl⟩

end Cert.Fox.RunA
-- ==== Proof.Fox.RunB.lean ====
/-
  The sixteen masked chunks at a later query block of a head (the values and ones already there), on the buffers of the run.
-/
module

public import proofs.«01_k».proof.Proof.Gen.KernelIdeal.Frame.RunB
public import proofs.«01_k».proof.Proof.Fox.Diag

@[expose] public section

set_option maxRecDepth 16384

noncomputable section

open Idealize.ShloMosaic hiding ix1 ix2 ix3 ix4 eq_ix2
open Idealize.ShloMosaic.ValueIdx
open Cert.KernelIdeal Cert.KernelIdeal.Gen

namespace Cert.Fox.RunB

variable {c : Dev nD} {i : grid0.Coords} {arg3 : Memref sig .tc .vmem S1x4096x128 .bf16} {harg3 : arg3.IsWhole}
  {arg4 : Memref sig .tc .vmem S1x8192x128 .bf16} {harg4 : arg4.IsWhole}
  {arg5 : Memref sig .tc .vmem S1x8192x128 .bf16} {harg5 : arg5.IsWhole}
  {arg6 : Memref sig .tc .vmem S1x32x8x256 .f32} {harg6 : arg6.IsWhole}
  {arg7 : Memref sig .tc .vmem S1x4096x128 .bf16} {harg7 : arg7.IsWhole}
  {arg8 : Memref sig .tc .vmem S1x4096x128 .bf16} {harg8 : arg8.IsWhole}
  {arg9 : Memref sig .tc .vmem S8192x256 .bf16} {harg9 : arg9.IsWhole}
  {arg10 : Memref sig .tc .vmem S4096x128 .f32} {harg10 : arg10.IsWhole}
  {arg11 : Memref sig .tc .vmem S4096x256 .f32} {harg11 : arg11.IsWhole}
  {x0 : Vec Ideal S1x4096x128 .bf16} {x1 : Vec Ideal S1x8192x128 .bf16} {xs0 : Vec Ideal S8192x256 .bf16} {x3 : Vec Ideal S1x32x8x256 .f32}
  {Q K : ℕ → ℕ → EReal} {C : ℕ → EReal} {V : ℕ → ℕ → EReal} {base : ℕ}

/-- The buffers after 1 chunk of the block's own keys. -/
theorem masked_1 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 256)
      (arg10.view.writes (Elt Ideal) arg10.view.junk (kernelRun0_B.sl.HS1_1_1 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_1_1 c i arg3 harg3 arg4 harg4 arg5 harg5 arg6 harg6 arg7 harg7 arg8 harg8 arg9 harg9 arg10 harg10 arg11 harg11 x0 x1 x3 xs0)) := by
  unfold kernelRun0_B.sl.HS1_1_1 kernelRun0_B.sl.HS2_1_1
  exact Held.diag D hbase 0 0 4096 256 ⟨by decide, by decide, by decide, by decide, by decide, by decide, by decide,
    by decide, by decide, by decide, by decide, by decide, by decide, by decide⟩ (by norm_num) rfl rfl rfl (start_held Variants.none c none harg3 harg4 arg5 harg5 harg6 arg7 harg7 arg8 harg8 harg9 harg10 harg11
      (BitVec.ofNat 32 (i 1).val) (kernelRun0_B.sl.v23 i) (View.readAt (Elt Ideal) arg6.view
        (Rect.unit (s := S1x32x8x256) (k0_off1 i) S1x1x1x256.size (k0_off1_inb i)).toLoadRect (harg6.unread x3)) D hbase
      (Scf.trips (k0_t1_loop i).lb (k0_t1_loop i).ub (k0_t1_loop i).st)
      (Scf.trips (k0_t2_loop i).lb (k0_t2_loop i).ub (k0_t2_loop i).st) (trips1 i) (trips2 i) _ _ _ _
      (init_held _ inb_S4096x128_S4096x128_0_0 inb_S4096x256_S4096x256_0_0))
    inb_S1x4096x128_S1x4096x128_0_0_0 (k0_off8_inb i 0) (k0_off9_inb i 0) (k0_off10_inb i 0) inb_S4096x128_S4096x128_0_0 inb_S4096x256_S4096x256_0_0 rfl rfl

/-- The buffers after 2 chunks of the block's own keys. -/
theorem masked_2 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 512)
      (arg10.view.writes (Elt Ideal) arg10.view.junk (kernelRun0_B.sl.HS1_2 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_2 c i arg3 harg3 arg4 harg4 arg5 harg5 arg6 harg6 arg7 harg7 arg8 harg8 arg9 harg9 arg10 harg10 arg11 harg11 x0 x1 x3 xs0)) := by
  have hs := masked_1 (harg7 := harg7) (harg8 := harg8) (harg9 := harg9) (harg10 := harg10) (harg11 := harg11) (harg5 := harg5) (c := c) D hbase
  unfold kernelRun0_B.sl.HS1_2 kernelRun0_B.sl.HS2_2
  exact Held.diag D hbase 1 256 3840 512 ⟨by decide, by decide, by decide, by decide, by decide, by decide, by decide,
    by decide, by decide, by decide, by decide, by decide, by decide, by decide⟩ (by norm_num) rfl rfl rfl hs
    inb_S1x4096x128_S1x3840x128_0_256_0 (k0_off8_inb i 1) (k0_off9_inb i 1) (k0_off10_inb i 1) inb_S4096x128_S3840x128_256_0 inb_S4096x256_S3840x256_256_0 rfl rfl

/-- The buffers after 3 chunks of the block's own keys. -/
theorem masked_3 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 768)
      (arg10.view.writes (Elt Ideal) arg10.view.junk (kernelRun0_B.sl.HS1_3 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_3 c i arg3 harg3 arg4 harg4 arg5 harg5 arg6 harg6 arg7 harg7 arg8 harg8 arg9 harg9 arg10 harg10 arg11 harg11 x0 x1 x3 xs0)) := by
  have hs := masked_2 (harg7 := harg7) (harg8 := harg8) (harg9 := harg9) (harg10 := harg10) (harg11 := harg11) (harg5 := harg5) (c := c) D hbase
  unfold kernelRun0_B.sl.HS1_3 kernelRun0_B.sl.HS2_3
  exact Held.diag D hbase 2 512 3584 768 ⟨by decide, by decide, by decide, by decide, by decide, by decide, by decide,
    by decide, by decide, by decide, by decide, by decide, by decide, by decide⟩ (by norm_num) rfl rfl rfl hs
    inb_S1x4096x128_S1x3584x128_0_512_0 (k0_off8_inb i 2) (k0_off9_inb i 2) (k0_off10_inb i 2) inb_S4096x128_S3584x128_512_0 inb_S4096x256_S3584x256_512_0 rfl rfl

/-- The buffers after 4 chunks of the block's own keys. -/
theorem masked_4 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 1024)
      (arg10.view.writes (Elt Ideal) arg10.view.junk (kernelRun0_B.sl.HS1_4 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_4 c i arg3 harg3 arg4 harg4 arg5 harg5 arg6 harg6 arg7 harg7 arg8 harg8 arg9 harg9 arg10 harg10 arg11 harg11 x0 x1 x3 xs0)) := by
  have hs := masked_3 (harg7 := harg7) (harg8 := harg8) (harg9 := harg9) (harg10 := harg10) (harg11 := harg11) (harg5 := harg5) (c := c) D hbase
  unfold kernelRun0_B.sl.HS1_4 kernelRun0_B.sl.HS2_4
  exact Held.diag D hbase 3 768 3328 1024 ⟨by decide, by decide, by decide, by decide, by decide, by decide, by decide,
    by decide, by decide, by decide, by decide, by decide, by decide, by decide⟩ (by norm_num) rfl rfl rfl hs
    inb_S1x4096x128_S1x3328x128_0_768_0 (k0_off8_inb i 3) (k0_off9_inb i 3) (k0_off10_inb i 3) inb_S4096x128_S3328x128_768_0 inb_S4096x256_S3328x256_768_0 rfl rfl

/-- The buffers after 5 chunks of the block's own keys. -/
theorem masked_5 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 1280)
      (arg10.view.writes (Elt Ideal) arg10.view.junk (kernelRun0_B.sl.HS1_5 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_5 c i arg3 harg3 arg4 harg4 arg5 harg5 arg6 harg6 arg7 harg7 arg8 harg8 arg9 harg9 arg10 harg10 arg11 harg11 x0 x1 x3 xs0)) := by
  have hs := masked_4 (harg7 := harg7) (harg8 := harg8) (harg9 := harg9) (harg10 := harg10) (harg11 := harg11) (harg5 := harg5) (c := c) D hbase
  unfold kernelRun0_B.sl.HS1_5 kernelRun0_B.sl.HS2_5
  exact Held.diag D hbase 4 1024 3072 1280 ⟨by decide, by decide, by decide, by decide, by decide, by decide, by decide,
    by decide, by decide, by decide, by decide, by decide, by decide, by decide⟩ (by norm_num) rfl rfl rfl hs
    inb_S1x4096x128_S1x3072x128_0_1024_0 (k0_off8_inb i 4) (k0_off9_inb i 4) (k0_off10_inb i 4) inb_S4096x128_S3072x128_1024_0 inb_S4096x256_S3072x256_1024_0 rfl rfl

/-- The buffers after 6 chunks of the block's own keys. -/
theorem masked_6 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 1536)
      (arg10.view.writes (Elt Ideal) arg10.view.junk (kernelRun0_B.sl.HS1_6 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_6 c i arg3 harg3 arg4 harg4 arg5 harg5 arg6 harg6 arg7 harg7 arg8 harg8 arg9 harg9 arg10 harg10 arg11 harg11 x0 x1 x3 xs0)) := by
  have hs := masked_5 (harg7 := harg7) (harg8 := harg8) (harg9 := harg9) (harg10 := harg10) (harg11 := harg11) (harg5 := harg5) (c := c) D hbase
  unfold kernelRun0_B.sl.HS1_6 kernelRun0_B.sl.HS2_6
  exact Held.diag D hbase 5 1280 2816 1536 ⟨by decide, by decide, by decide, by decide, by decide, by decide, by decide,
    by decide, by decide, by decide, by decide, by decide, by decide, by decide⟩ (by norm_num) rfl rfl rfl hs
    inb_S1x4096x128_S1x2816x128_0_1280_0 (k0_off8_inb i 5) (k0_off9_inb i 5) (k0_off10_inb i 5) inb_S4096x128_S2816x128_1280_0 inb_S4096x256_S2816x256_1280_0 rfl rfl

/-- The buffers after 7 chunks of the block's own keys. -/
theorem masked_7 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 1792)
      (arg10.view.writes (Elt Ideal) arg10.view.junk (kernelRun0_B.sl.HS1_7 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_7 c i arg3 harg3 arg4 harg4 arg5 harg5 arg6 harg6 arg7 harg7 arg8 harg8 arg9 harg9 arg10 harg10 arg11 harg11 x0 x1 x3 xs0)) := by
  have hs := masked_6 (harg7 := harg7) (harg8 := harg8) (harg9 := harg9) (harg10 := harg10) (harg11 := harg11) (harg5 := harg5) (c := c) D hbase
  unfold kernelRun0_B.sl.HS1_7 kernelRun0_B.sl.HS2_7
  exact Held.diag D hbase 6 1536 2560 1792 ⟨by decide, by decide, by decide, by decide, by decide, by decide, by decide,
    by decide, by decide, by decide, by decide, by decide, by decide, by decide⟩ (by norm_num) rfl rfl rfl hs
    inb_S1x4096x128_S1x2560x128_0_1536_0 (k0_off8_inb i 6) (k0_off9_inb i 6) (k0_off10_inb i 6) inb_S4096x128_S2560x128_1536_0 inb_S4096x256_S2560x256_1536_0 rfl rfl

/-- The buffers after 8 chunks of the block's own keys. -/
theorem masked_8 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 2048)
      (arg10.view.writes (Elt Ideal) arg10.view.junk (kernelRun0_B.sl.HS1_8 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_8 c i arg3 harg3 arg4 harg4 arg5 harg5 arg6 harg6 arg7 harg7 arg8 harg8 arg9 harg9 arg10 harg10 arg11 harg11 x0 x1 x3 xs0)) := by
  have hs := masked_7 (harg7 := harg7) (harg8 := harg8) (harg9 := harg9) (harg10 := harg10) (harg11 := harg11) (harg5 := harg5) (c := c) D hbase
  unfold kernelRun0_B.sl.HS1_8 kernelRun0_B.sl.HS2_8
  exact Held.diag D hbase 7 1792 2304 2048 ⟨by decide, by decide, by decide, by decide, by decide, by decide, by decide,
    by decide, by decide, by decide, by decide, by decide, by decide, by decide⟩ (by norm_num) rfl rfl rfl hs
    inb_S1x4096x128_S1x2304x128_0_1792_0 (k0_off8_inb i 7) (k0_off9_inb i 7) (k0_off10_inb i 7) inb_S4096x128_S2304x128_1792_0 inb_S4096x256_S2304x256_1792_0 rfl rfl

/-- The buffers after 9 chunks of the block's own keys. -/
theorem masked_9 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 2304)
      (arg10.view.writes (Elt Ideal) arg10.view.junk (kernelRun0_B.sl.HS1_9 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_9 c i arg3 harg3 arg4 harg4 arg5 harg5 arg6 harg6 arg7 harg7 arg8 harg8 arg9 harg9 arg10 harg10 arg11 harg11 x0 x1 x3 xs0)) := by
  have hs := masked_8 (harg7 := harg7) (harg8 := harg8) (harg9 := harg9) (harg10 := harg10) (harg11 := harg11) (harg5 := harg5) (c := c) D hbase
  unfold kernelRun0_B.sl.HS1_9 kernelRun0_B.sl.HS2_9
  exact Held.diag D hbase 8 2048 2048 2304 ⟨by decide, by decide, by decide, by decide, by decide, by decide, by decide,
    by decide, by decide, by decide, by decide, by decide, by decide, by decide⟩ (by norm_num) rfl rfl rfl hs
    inb_S1x4096x128_S1x2048x128_0_2048_0 (k0_off8_inb i 8) (k0_off9_inb i 8) (k0_off10_inb i 8) inb_S4096x128_S2048x128_2048_0 inb_S4096x256_S2048x256_2048_0 rfl rfl

/-- The buffers after 10 chunks of the block's own keys. -/
theorem masked_10 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 2560)
      (arg10.view.writes (Elt Ideal) arg10.view.junk (kernelRun0_B.sl.HS1_10 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_10 c i arg3 harg3 arg4 harg4 arg5 harg5 arg6 harg6 arg7 harg7 arg8 harg8 arg9 harg9 arg10 harg10 arg11 harg11 x0 x1 x3 xs0)) := by
  have hs := masked_9 (harg7 := harg7) (harg8 := harg8) (harg9 := harg9) (harg10 := harg10) (harg11 := harg11) (harg5 := harg5) (c := c) D hbase
  unfold kernelRun0_B.sl.HS1_10 kernelRun0_B.sl.HS2_10
  exact Held.diag D hbase 9 2304 1792 2560 ⟨by decide, by decide, by decide, by decide, by decide, by decide, by decide,
    by decide, by decide, by decide, by decide, by decide, by decide, by decide⟩ (by norm_num) rfl rfl rfl hs
    inb_S1x4096x128_S1x1792x128_0_2304_0 (k0_off8_inb i 9) (k0_off9_inb i 9) (k0_off10_inb i 9) inb_S4096x128_S1792x128_2304_0 inb_S4096x256_S1792x256_2304_0 rfl rfl

/-- The buffers after 11 chunks of the block's own keys. -/
theorem masked_11 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 2816)
      (arg10.view.writes (Elt Ideal) arg10.view.junk (kernelRun0_B.sl.HS1_11 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_11 c i arg3 harg3 arg4 harg4 arg5 harg5 arg6 harg6 arg7 harg7 arg8 harg8 arg9 harg9 arg10 harg10 arg11 harg11 x0 x1 x3 xs0)) := by
  have hs := masked_10 (harg7 := harg7) (harg8 := harg8) (harg9 := harg9) (harg10 := harg10) (harg11 := harg11) (harg5 := harg5) (c := c) D hbase
  unfold kernelRun0_B.sl.HS1_11 kernelRun0_B.sl.HS2_11
  exact Held.diag D hbase 10 2560 1536 2816 ⟨by decide, by decide, by decide, by decide, by decide, by decide, by decide,
    by decide, by decide, by decide, by decide, by decide, by decide, by decide⟩ (by norm_num) rfl rfl rfl hs
    inb_S1x4096x128_S1x1536x128_0_2560_0 (k0_off8_inb i 10) (k0_off9_inb i 10) (k0_off10_inb i 10) inb_S4096x128_S1536x128_2560_0 inb_S4096x256_S1536x256_2560_0 rfl rfl

/-- The buffers after 12 chunks of the block's own keys. -/
theorem masked_12 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 3072)
      (arg10.view.writes (Elt Ideal) arg10.view.junk (kernelRun0_B.sl.HS1_12 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_12 c i arg3 harg3 arg4 harg4 arg5 harg5 arg6 harg6 arg7 harg7 arg8 harg8 arg9 harg9 arg10 harg10 arg11 harg11 x0 x1 x3 xs0)) := by
  have hs := masked_11 (harg7 := harg7) (harg8 := harg8) (harg9 := harg9) (harg10 := harg10) (harg11 := harg11) (harg5 := harg5) (c := c) D hbase
  unfold kernelRun0_B.sl.HS1_12 kernelRun0_B.sl.HS2_12
  exact Held.diag D hbase 11 2816 1280 3072 ⟨by decide, by decide, by decide, by decide, by decide, by decide, by decide,
    by decide, by decide, by decide, by decide, by decide, by decide, by decide⟩ (by norm_num) rfl rfl rfl hs
    inb_S1x4096x128_S1x1280x128_0_2816_0 (k0_off8_inb i 11) (k0_off9_inb i 11) (k0_off10_inb i 11) inb_S4096x128_S1280x128_2816_0 inb_S4096x256_S1280x256_2816_0 rfl rfl

/-- The buffers after 13 chunks of the block's own keys. -/
theorem masked_13 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 3328)
      (arg10.view.writes (Elt Ideal) arg10.view.junk (kernelRun0_B.sl.HS1_13 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_13 c i arg3 harg3 arg4 harg4 arg5 harg5 arg6 harg6 arg7 harg7 arg8 harg8 arg9 harg9 arg10 harg10 arg11 harg11 x0 x1 x3 xs0)) := by
  have hs := masked_12 (harg7 := harg7) (harg8 := harg8) (harg9 := harg9) (harg10 := harg10) (harg11 := harg11) (harg5 := harg5) (c := c) D hbase
  unfold kernelRun0_B.sl.HS1_13 kernelRun0_B.sl.HS2_13
  exact Held.diag D hbase 12 3072 1024 3328 ⟨by decide, by decide, by decide, by decide, by decide, by decide, by decide,
    by decide, by decide, by decide, by decide, by decide, by decide, by decide⟩ (by norm_num) rfl rfl rfl hs
    inb_S1x4096x128_S1x1024x128_0_3072_0 (k0_off8_inb i 12) (k0_off9_inb i 12) (k0_off10_inb i 12) inb_S4096x128_S1024x128_3072_0 inb_S4096x256_S1024x256_3072_0 rfl rfl

/-- The buffers after 14 chunks of the block's own keys. -/
theorem masked_14 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 3584)
      (arg10.view.writes (Elt Ideal) arg10.view.junk (kernelRun0_B.sl.HS1_14 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_14 c i arg3 harg3 arg4 harg4 arg5 harg5 arg6 harg6 arg7 harg7 arg8 harg8 arg9 harg9 arg10 harg10 arg11 harg11 x0 x1 x3 xs0)) := by
  have hs := masked_13 (harg7 := harg7) (harg8 := harg8) (harg9 := harg9) (harg10 := harg10) (harg11 := harg11) (harg5 := harg5) (c := c) D hbase
  unfold kernelRun0_B.sl.HS1_14 kernelRun0_B.sl.HS2_14
  exact Held.diag D hbase 13 3328 768 3584 ⟨by decide, by decide, by decide, by decide, by decide, by decide, by decide,
    by decide, by decide, by decide, by decide, by decide, by decide, by decide⟩ (by norm_num) rfl rfl rfl hs
    inb_S1x4096x128_S1x768x128_0_3328_0 (k0_off8_inb i 13) (k0_off9_inb i 13) (k0_off10_inb i 13) inb_S4096x128_S768x128_3328_0 inb_S4096x256_S768x256_3328_0 rfl rfl

/-- The buffers after 15 chunks of the block's own keys. -/
theorem masked_15 (D : Data arg3 arg4 arg6 arg9 (harg3.unread x0) (harg4.unread x1) (harg6.unread x3)
      (harg9.unread xs0) (head i) Q K C V) (hbase : (i 2).val * 4096 = base) :
    Held arg10 arg11 (scores Q K C (kernelRun0_B.sl.r c i arg6 harg6 x3 (ix2 0 0)) base) V (base + 3840)
      (arg10.view.writes (Elt Ideal) arg10.view.junk (kernelRun0_B.sl.HS1_15 c i arg3 harg3 arg4 harg4 arg5 harg5 arg6 harg6 arg7 harg7 arg8 harg8 arg9 harg9 arg10 harg10 arg11 harg11 x0 x1 x3 xs0))
      (arg11.view.writes (Elt Ideal) arg11.view.junk (kernelRun0_B.sl.HS2_15 c i arg3 harg3 arg4 harg4 arg5 harg5 arg6 harg6 arg7 harg7 arg8 harg8 arg9 harg9 arg10 harg10 arg11 harg11 x0 x1 x3 xs0)) := by
  have hs := masked_14 (harg7 := harg7) (harg8 := harg8) (harg9 := harg9) (harg10 := harg10) (harg11 := harg11) (harg5 := harg5) (c := c) D hbase
  unfold kernelRun0_B.sl.HS1_15 kernelRun0_B.sl.HS2_15
  exact Held.diag D hbase 14 3584 512 3840 ⟨by decide, by decide, by decide, by decide, by decide, by decide, by decide,
    by decide, by decide, by decide, by decide, by decide, by decide, by decide⟩ (by norm_num) rfl rfl rfl hs
    inb_S1x4096x128_S1x512x128_0_3584_0 (k0_off8_inb i 14) (k0_off9_inb i 14) (k0_off10_inb i 14) inb_S4096x128_S512x128_3584_0 inb_S4096x256_S512x256_3584_0 rfl rfl

/-- The buffers after 16 chunks of the block's own keys. -/
theorem masked_16 (D : Data arg3 arg4 arg6 arg9 (harg3.unread x0) (harg4.unread x1) (harg6.unread x3)
      (harg9.unread xs0) (head i) Q K C V) (hbase : (i 2).val * 4096 = base) :
    ∃ L10, Held arg10 arg11 (scores Q K C (kernelRun0_B.sl.r c i arg6 harg6 x3 (ix2 0 0)) base) V (base + 4096)
      (arg10.view.writes (Elt Ideal) arg10.view.junk L10)
      (arg11.view.writes (Elt Ideal) arg11.view.junk (kernelRun0_B.sl.HS2_16 c i arg3 harg3 arg4 harg4 arg5 harg5 arg6 harg6 arg7 harg7 arg8 harg8 arg9 harg9 arg10 harg10 arg11 harg11 x0 x1 x3 xs0)) := by
  have hs := masked_15 (harg7 := harg7) (harg8 := harg8) (harg9 := harg9) (harg10 := harg10) (harg11 := harg11) (harg5 := harg5) (c := c) D hbase
  unfold kernelRun0_B.sl.HS2_16
  exact ⟨_, Held.diag D hbase 15 3840 256 4096 ⟨by decide, by decide, by decide, by decide, by decide, by decide, by decide,
    by decide, by decide, by decide, by decide, by decide, by decide, by decide⟩ (by norm_num) rfl rfl rfl hs
    inb_S1x4096x128_S1x256x128_0_3840_0 (k0_off8_inb i 15) (k0_off9_inb i 15) (k0_off10_inb i 15) inb_S4096x128_S256x128_3840_0 inb_S4096x256_S256x256_3840_0 rfl rfl⟩

end Cert.Fox.RunB
-- ==== Proof.Fox.Block.lean ====
/-
  What one point of the grid computes: a row of the block of results is the quotient of its two weighted sums over the
  keys up to the end of the block, times the gate's row.
-/
module

public import proofs.«01_k».proof.Proof.Gen.KernelIdeal.Frame
public import proofs.«01_k».proof.Proof.Fox.RunA
public import proofs.«01_k».proof.Proof.Fox.RunB

@[expose] public section

set_option maxRecDepth 16384

noncomputable section

open Idealize.ShloMosaic hiding ix1 ix2 ix3 ix4 eq_ix2
open Idealize.ShloMosaic.ValueIdx
open Cert.KernelIdeal Cert.KernelIdeal.Gen

namespace Cert.Fox

/-- Values in the first 128 columns, ones in the others. -/
def withOnes (W : ℕ → ℕ → EReal) (j d : ℕ) : EReal := if d < 128 then W j d else 1

/-- One entry of the attention's result: the weighted sum of the values over the sum of the weights, over `n` keys. -/
def attend (S : ℕ → EReal) (W : ℕ → EReal) (n : ℕ) : EReal := Ideal.div (wsum S W n) (wsum S (fun _ => 1) n)

/-- The blocks a point is given: queries `Q`, keys `K`, values `W`, gates `C` of head `h`. -/
structure Inputs (x0 : Vec Ideal S1x4096x128 .bf16) (x1 x2 : Vec Ideal S1x8192x128 .bf16)
    (x3 : Vec Ideal S1x32x8x256 .f32) (h : Fin 8) (Q K W : ℕ → ℕ → EReal) (C : ℕ → EReal) : Prop where
  q : ∀ (r : Fin 4096) (e : Fin 128), x0 (ix3 0 r e) = Q r.val e.val
  k : ∀ (j : Fin 8192) (e : Fin 128), x1 (ix3 0 j e) = K j.val e.val
  w : ∀ (j : Fin 8192) (d : Fin 128), x2 (ix3 0 j d) = W j.val d.val
  c : ∀ (a : Fin 32) (b : Fin 256), x3 (ix4 0 a h b) = C (a.val * 256 + b.val)

/-- The bits of one. -/
theorem one_bits : (Scalar.ofBits .bf16 0x3F80#16 : Ideal .bf16) = (1 : EReal) := by
  show Ideal.ofBits .bf16 0x3F80#16 = 1
  simp [Ideal.ofBits, Ideal.ieee, -EReal.coe_mul]; norm_num

section Point

variable {c : Dev nD} {i : grid0.Coords} {arg3 : Memref sig .tc .vmem S1x4096x128 .bf16} {harg3 : arg3.IsWhole}
  {arg4 : Memref sig .tc .vmem S1x8192x128 .bf16} {harg4 : arg4.IsWhole}
  {arg5 : Memref sig .tc .vmem S1x8192x128 .bf16} {harg5 : arg5.IsWhole}
  {arg6 : Memref sig .tc .vmem S1x32x8x256 .f32} {harg6 : arg6.IsWhole}
  {arg7 : Memref sig .tc .vmem S1x4096x128 .bf16} {harg7 : arg7.IsWhole}
  {arg8 : Memref sig .tc .vmem S1x4096x128 .bf16} {harg8 : arg8.IsWhole}
  {arg9 : Memref sig .tc .vmem S8192x256 .bf16} {harg9 : arg9.IsWhole}
  {arg10 : Memref sig .tc .vmem S4096x128 .f32} {harg10 : arg10.IsWhole}
  {arg11 : Memref sig .tc .vmem S4096x256 .f32} {harg11 : arg11.IsWhole}
  {x0 : Vec Ideal S1x4096x128 .bf16} {x1 : Vec Ideal S1x8192x128 .bf16} {x2 : Vec Ideal S1x8192x128 .bf16}
  {x3 : Vec Ideal S1x32x8x256 .f32} {x4 : Vec Ideal S1x4096x128 .bf16} {xs0 : Vec Ideal S8192x256 .bf16}
  {Q K W : ℕ → ℕ → EReal} {C : ℕ → EReal} {base : ℕ}

/-- The first query block's fill of the scratch: the values, then ones. -/
theorem filled {v : View sig .tc .vmem S8192x256 .bf16} (f : v.ty.Contents (Elt Ideal))
    (hw : ∀ (j : Fin 8192) (d : Fin 128), x2 (ix3 0 j d) = W j.val d.val) (j : Fin 8192) (d : Fin 256) :
    v.read (Elt Ideal) (v.writes (Elt Ideal) f (kernelRun0_A.sl.HS0_2 c arg5 harg5 x2)) (ix2 j d)
      = withOnes W j.val d.val := by
  unfold kernelRun0_A.sl.HS0_2 withOnes
  have hd := d.isLt
  split
  · rename_i h
    refine (View.read_writes_cons_unit_of_not_mem v f _ _ _ (ix2 j d) rfl 1 (.inl h)).trans ?_
    refine (View.read_writes_cons_unit_of_mem v f _ _ _ (ix2 j d)
      (ix2 j ⟨d.val, h⟩ : (⟨2, ![8192, 128]⟩ : Shape).Idx) rfl ?_).trans ?_
    · intro a
      match a with
      | ⟨0, _⟩ => show j.val = 0 + j.val; omega
      | ⟨1, _⟩ => show d.val = 0 + d.val; omega
    · unfold k0_pay164
      simp only [shapeCast_self]
      refine (shapeCast_1ab_ab_apply _ _ _ _).trans ?_
      refine Eq.trans ?_ (hw j ⟨d.val, h⟩)
      rw [View.readAt_apply, harg5.read_unread]
      refine congrArg x2 (funext fun a => Fin.ext ?_)
      match a with
      | ⟨0, _⟩ => rfl
      | ⟨1, _⟩ => show 0 + 1 * j.val = j.val; omega
      | ⟨2, _⟩ => show 0 + 1 * d.val = d.val; omega
  · rename_i h
    refine (View.read_writes_cons_unit_of_mem v f _ _ _ (ix2 j d)
      (ix2 j ⟨d.val - 128, by omega⟩ : (⟨2, ![8192, 128]⟩ : Shape).Idx) rfl ?_).trans ?_
    · intro a
      match a with
      | ⟨0, _⟩ => show j.val = 0 + j.val; omega
      | ⟨1, _⟩ => show d.val = 128 + (d.val - 128); omega
    · unfold k0_pay165
      simp only [shapeCast_self]
      exact one_bits

/-- The gate of the block's first query, in units of the logarithm of two. -/
theorem first_gate (X : arg6.view.ty.Contents (Elt Ideal))
    (hc : ∀ (a : Fin 32) (b : Fin 256), arg6.view.read (Elt Ideal) X (ix4 0 a (head i) b) = C (a.val * 256 + b.val))
    (hbase : (i 2).val * 4096 = base) :
    k0_pay166 (F := Ideal) (View.readAt (Elt Ideal) arg6.view
        (Rect.unit (s := S1x32x8x256) (k0_off1 i) S1x1x1x256.size (k0_off1_inb i)).toLoadRect X) (ix2 0 0)
      = C base * (((Real.log 2)⁻¹ : ℝ) : EReal) := by
  unfold k0_pay166
  have h2 : (i 2).val < 2 := (i 2).isLt
  have e : (View.readAt (Elt Ideal) arg6.view
      (Rect.unit (s := S1x32x8x256) (k0_off1 i) S1x1x1x256.size (k0_off1_inb i)).toLoadRect X) (ix4 0 0 0 0) = C base := by
    have := hc ⟨(i 2).val * 16, by omega⟩ 0
    rw [show (⟨(i 2).val * 16, by omega⟩ : Fin 32).val * 256 + (0 : Fin 256).val = base by
      show (i 2).val * 16 * 256 + 0 = base; omega] at this
    refine Eq.trans ?_ this
    refine congrArg (arg6.view.read (Elt Ideal) X) (funext fun a => Fin.ext ?_)
    have ho := off1 i
    match a with
    | ⟨0, _⟩ => show k0_off1 i 0 + 1 * 0 = 0; rw [ho]; rfl
    | ⟨1, _⟩ => show k0_off1 i 1 + 1 * 0 = (i 2).val * 16; rw [ho]; rfl
    | ⟨2, _⟩ => show k0_off1 i 2 + 1 * 0 = (head i).val; rw [ho]; rfl
    | ⟨3, _⟩ => show k0_off1 i 3 + 1 * 0 = 0; rw [ho]; rfl
  rw [← e]
  refine congrArg₂ (fun a b : EReal => a * b) ?_ (IdealRules.named_const.ideal_named_scalar _ _ _ _ rfl)
  refine shapeCast_apply _ _ _ _ ?_
  rw [Shape.rowMajor_val_four, Shape.rowMajor_val_two]
  rfl

/-- From the running weighted sums at the end of the block to the row of results. -/
theorem finish {S V : ℕ → ℕ → EReal} {n : ℕ} {f10 : arg10.view.ty.Contents (Elt Ideal)}
    {f11 : arg11.view.ty.Contents (Elt Ideal)} (H : Held arg10 arg11 S V n f10 f11)
    (inb : ∀ a : Fin 2, (![0, 0] : Fin 2 → ℕ) a + S4096x256.size a ≤ S4096x256.size a)
    (inb7 : ∀ a : Fin 3, (![0, 0, 0] : Fin 3 → ℕ) a + S1x4096x128.size a ≤ S1x4096x128.size a)
    (r : Fin 4096) (d : Fin 128) :
    k0_pay1 (F := Ideal) (k0_pay253 (View.readAt (Elt Ideal) arg11.view (Rect.unit (s := S4096x256) ![0, 0] S4096x256.size inb).toLoadRect f11))
        (k0_pay254 (View.readAt (Elt Ideal) arg7.view (Rect.unit (s := S1x4096x128) ![0, 0, 0] S1x4096x128.size inb7).toLoadRect (harg7.unread x4)))
        (ix3 0 r d)
      = Ideal.div (wsum (S r.val) (fun j => V j d.val) n) (wsum (S r.val) (fun j => V j (128 + d.val)) n) * x4 (ix3 0 r d) := by
  have hd := d.isLt
  have ha : ∀ e : Fin 256, View.readAt (Elt Ideal) arg11.view (Rect.unit (s := S4096x256) ![0, 0] S4096x256.size inb).toLoadRect f11 (ix2 r e)
      = wsum (S r.val) (fun j => V j e.val) n := by
    intro e
    have h := (H r).2 e
    rw [Nat.zero_add] at h
    refine Eq.trans ?_ h
    refine congrArg (arg11.view.read (Elt Ideal) f11) (funext fun a => Fin.ext ?_)
    match a with
    | ⟨0, _⟩ => show 0 + 1 * r.val = r.val; omega
    | ⟨1, _⟩ => show 0 + 1 * e.val = e.val; omega
  have hz : View.readAt (Elt Ideal) arg7.view (Rect.unit (s := S1x4096x128) ![0, 0, 0] S1x4096x128.size inb7).toLoadRect (harg7.unread x4) (ix3 0 r d)
      = x4 (ix3 0 r d) := by
    rw [View.readAt_apply, harg7.read_unread]
    refine congrArg x4 (funext fun a => Fin.ext ?_)
    match a with
    | ⟨0, _⟩ => rfl
    | ⟨1, _⟩ => show 0 + 1 * r.val = r.val; omega
    | ⟨2, _⟩ => show 0 + 1 * d.val = d.val; omega
  unfold k0_pay1 k0_pay253 k0_pay254
  refine (shapeCast_ab_1ab_apply _ _ _ _ _).trans ?_
  rw [← hz]
  have hz' := shapeCast_1ab_ab_apply (View.readAt (Elt Ideal) arg7.view
    (Rect.unit (s := S1x4096x128) ![0, 0, 0] S1x4096x128.size inb7).toLoadRect (harg7.unread x4)) shapeCasts_S1x4096x128_S4096x128 r d
  refine congrArg₂ (fun a b : EReal => a * b) ?_ hz'
  refine congrArg₂ Ideal.div ?_ ?_
  · refine Eq.trans ?_ (ha ⟨d.val, by omega⟩)
    exact slice2_axis1_apply _ _ _ _ _ _ (Nat.zero_add d.val).symm
  · refine Eq.trans ?_ (ha ⟨128 + d.val, by omega⟩)
    exact slice2_axis1_apply _ _ _ _ _ _ rfl

/-- The first query block of a head. -/
theorem out_A (hc0 : cond0_0 i) (I : Inputs x0 x1 x2 x3 (head i) Q K W C) (hbase : (i 2).val * 4096 = base)
    (r : Fin 4096) (d : Fin 128) :
    out0_A_5 c i arg3 harg3 arg4 harg4 arg5 harg5 arg6 harg6 arg7 harg7 arg8 harg8 arg9 harg9 arg10 harg10 arg11 harg11 hc0 x0 x1 x2 x3 x4 (ix3 0 r d)
      = attend (scores Q K C (C base * (((Real.log 2)⁻¹ : ℝ) : EReal)) base r.val) (fun j => W j d.val) (base + 4096)
        * x4 (ix3 0 r d) := by
  have hd := d.isLt
  have D : Data arg3 arg4 arg6 arg9 (harg3.unread x0) (harg4.unread x1) (harg6.unread x3)
      (arg9.view.writes (Elt Ideal) arg9.view.junk (kernelRun0_A.sl.HS0_2 c arg5 harg5 x2)) (head i) Q K C (withOnes W) :=
    ⟨fun r e => (congrFun (harg3.read_unread x0) _).trans (I.q r e), fun j e => (congrFun (harg4.read_unread x1) _).trans (I.k j e),
      fun a b => (congrFun (harg6.read_unread x3) _).trans (I.c a b), fun j d => filled _ I.w j d⟩
  obtain ⟨L10, H⟩ := RunA.masked_16 (c := c) (harg5 := harg5) (harg7 := harg7) (harg8 := harg8) (harg9 := harg9) (harg10 := harg10) (harg11 := harg11) D hbase
  have hr : kernelRun0_A.sl.r c i arg6 harg6 x3 (ix2 0 0) = C base * (((Real.log 2)⁻¹ : ℝ) : EReal) := by
    unfold kernelRun0_A.sl.r
    exact first_gate _ D.c hbase
  rw [hr] at H
  have hv : (fun j => withOnes W j d.val) = fun j => W j d.val := funext fun j => if_pos hd
  have ho : (fun j => withOnes W j (128 + d.val)) = fun _ => (1 : EReal) := funext fun j => if_neg (by omega)
  have key := finish (harg7 := harg7) (x4 := x4) H inb_S4096x256_S4096x256_0_0 inb_S1x4096x128_S1x4096x128_0_0_0 r d
  rw [hv, ho] at key
  refine Eq.trans ?_ key
  unfold out0_A_5 kernelRun0_A
  refine (View.read_writes_cons_unit_of_mem VO0_5 _ _ _ _ (ix3 0 r d) (ix3 0 r d : (⟨3, ![1, 4096, 128]⟩ : Shape).Idx) rfl ?_).trans ?_
  · intro a
    match a with
    | ⟨0, _⟩ => rfl
    | ⟨1, _⟩ => show r.val = 0 + r.val; omega
    | ⟨2, _⟩ => show d.val = 0 + d.val; omega
  · first | rfl | (unfold kernelRun0_A.sl.r_33 kernelRun0_A.sl.r_34; rfl) | (unfold kernelRun0_A.sl.r_33 kernelRun0_A.sl.r_34 kernelRun0_A.sl.v808; rfl)

/-- The second query block of a head, on the scratch the first one left. -/
theorem out_B (hc0 : ¬cond0_0 i) (I : Inputs x0 x1 x2 x3 (head i) Q K W C) (hs : ∀ (j : Fin 8192) (d : Fin 256), xs0 (ix2 j d) = withOnes W j.val d.val)
    (hbase : (i 2).val * 4096 = base)
    (r : Fin 4096) (d : Fin 128) :
    out0_B_5 c i arg3 harg3 arg4 harg4 arg5 harg5 arg6 harg6 arg7 harg7 arg8 harg8 arg9 harg9 arg10 harg10 arg11 harg11 hc0 x0 x1 x2 x3 x4 xs0 (ix3 0 r d)
      = attend (scores Q K C (C base * (((Real.log 2)⁻¹ : ℝ) : EReal)) base r.val) (fun j => W j d.val) (base + 4096)
        * x4 (ix3 0 r d) := by
  have hd := d.isLt
  have D : Data arg3 arg4 arg6 arg9 (harg3.unread x0) (harg4.unread x1) (harg6.unread x3)
      (harg9.unread xs0) (head i) Q K C (withOnes W) :=
    ⟨fun r e => (congrFun (harg3.read_unread x0) _).trans (I.q r e), fun j e => (congrFun (harg4.read_unread x1) _).trans (I.k j e),
      fun a b => (congrFun (harg6.read_unread x3) _).trans (I.c a b), fun j d => (congrFun (harg9.read_unread xs0) _).trans (hs j d)⟩
  obtain ⟨L10, H⟩ := RunB.masked_16 (c := c) (harg5 := harg5) (harg7 := harg7) (harg8 := harg8) (harg9 := harg9) (harg10 := harg10) (harg11 := harg11) D hbase
  have hr : kernelRun0_B.sl.r c i arg6 harg6 x3 (ix2 0 0) = C base * (((Real.log 2)⁻¹ : ℝ) : EReal) := by
    unfold kernelRun0_B.sl.r
    exact first_gate _ D.c hbase
  rw [hr] at H
  have hv : (fun j => withOnes W j d.val) = fun j => W j d.val := funext fun j => if_pos hd
  have ho : (fun j => withOnes W j (128 + d.val)) = fun _ => (1 : EReal) := funext fun j => if_neg (by omega)
  have key := finish (harg7 := harg7) (x4 := x4) H inb_S4096x256_S4096x256_0_0 inb_S1x4096x128_S1x4096x128_0_0_0 r d
  rw [hv, ho] at key
  refine Eq.trans ?_ key
  unfold out0_B_5 kernelRun0_B
  refine (View.read_writes_cons_unit_of_mem VO0_5 _ _ _ _ (ix3 0 r d) (ix3 0 r d : (⟨3, ![1, 4096, 128]⟩ : Shape).Idx) rfl ?_).trans ?_
  · intro a
    match a with
    | ⟨0, _⟩ => rfl
    | ⟨1, _⟩ => show r.val = 0 + r.val; omega
    | ⟨2, _⟩ => show d.val = 0 + d.val; omega
  · first | rfl | (unfold kernelRun0_B.sl.r_33 kernelRun0_B.sl.r_34; rfl) | (unfold kernelRun0_B.sl.r_33 kernelRun0_B.sl.r_34 kernelRun0_B.sl.v808; rfl)

/-- What the first query block of a head leaves in the scratch. -/
theorem sout_A (hc0 : cond0_0 i) (hw : ∀ (j : Fin 8192) (d : Fin 128), x2 (ix3 0 j d) = W j.val d.val)
    (j : Fin 8192) (d : Fin 256) :
    sout0_A_0 c i arg3 harg3 arg4 harg4 arg5 harg5 arg6 harg6 arg7 harg7 arg8 harg8 arg9 harg9 arg10 harg10 arg11 harg11 hc0 x0 x1 x2 x3 x4 (ix2 j d) = withOnes W j.val d.val := by
  unfold sout0_A_0 kernelRun0_A
  exact filled (c := c) (harg5 := harg5) _ hw j d

end Point

end Cert.Fox
-- ==== Proof.Fox.Array.lean ====
/-
  What the call's result array holds: each entry is the attention's entry of its row and head times the gate.
-/
module

public import proofs.«01_k».proof.Proof.Gen.KernelIdeal.Value
public import proofs.«01_k».proof.Proof.Fox.Block

@[expose] public section

set_option maxRecDepth 16384

noncomputable section

open Idealize.ShloMosaic hiding ix1 ix2 ix3 ix4 eq_ix2
open Idealize.ShloMosaic.ValueIdx Idealize.ShloMosaic.TcCoe Idealize.SL.Sem
open Idealize.ShloMosaic.Pipeline (Dat)
open Cert.KernelIdeal Cert.KernelIdeal.Gen

namespace Cert.Fox

/-- An entry of a batch of sequences of four heads of 128 lanes: batch `b`, head `h`, place `j`, lane `d`. -/
def lane (X : FVec Ideal S4x8192x512 .bf16) (b h j d : ℕ) : EReal :=
  X (ix3 (Fin.ofNat 4 b) (Fin.ofNat 8192 j) (Fin.ofNat 512 (h * 128 + d)))

/-- The cumulative log gate of batch `b` and head `h` at place `j`, from its tiles of 256 places. -/
def gate (X : FVec Ideal S4x32x8x256 .f32) (b h j : ℕ) : EReal :=
  X (ix4 (Fin.ofNat 4 b) (Fin.ofNat 32 (j / 256)) (Fin.ofNat 8 h) (Fin.ofNat 256 (j % 256)))

/-- The scores of row `base + r` against the keys, relative to the gate of the row `base`. -/
def rowScores (q k : FVec Ideal S4x8192x512 .bf16) (c : FVec Ideal S4x32x8x256 .f32) (b h base r : ℕ) : ℕ → EReal :=
  scores (fun r e => lane q b h (base + r) e) (lane k b h) (gate c b h)
    (gate c b h base * (((Real.log 2)⁻¹ : ℝ) : EReal)) base r

/-- The call's result. -/
def result (q k v : FVec Ideal S4x8192x512 .bf16) (c : FVec Ideal S4x32x8x256 .f32) (z : FVec Ideal S4x8192x512 .bf16) :
    FVec Ideal S4x8192x512 .bf16 := fun i =>
  attend (rowScores q k c (i 0).val ((i 2).val / 128) ((i 1).val / 4096 * 4096) ((i 1).val % 4096))
    (fun j => lane v (i 0).val ((i 2).val / 128) j ((i 2).val % 128)) ((i 1).val / 4096 * 4096 + 4096) * z i

/-- The grid's coordinates at point `t`. -/
theorem coords_eq : ∀ t : Fin cfg0.N, (grid0.coords t 0).val = t.val / 8 ∧ (grid0.coords t 1).val = t.val / 2 % 4
    ∧ (grid0.coords t 2).val = t.val % 2 :=
  (by decide +kernel : ∀ t : Fin grid0.N, (grid0.coords t 0).val = t.val / 8 ∧ (grid0.coords t 1).val = t.val / 2 % 4
    ∧ (grid0.coords t 2).val = t.val % 2)

/-- The block of a row window at point `t`. -/
theorem index0 : ∀ t : Fin cfg0.N, win0_0.index t 0 = t.val / 8 ∧ win0_0.index t 1 = t.val % 2
    ∧ win0_0.index t 2 = t.val / 2 % 4 :=
  (by decide +kernel : ∀ t : Fin grid0.N, win0_0.index t 0 = t.val / 8 ∧ win0_0.index t 1 = t.val % 2
    ∧ win0_0.index t 2 = t.val / 2 % 4)

/-- The block of the keys at point `t`. -/
theorem index1 : ∀ t : Fin cfg0.N, win0_1.index t 0 = t.val / 8 ∧ win0_1.index t 1 = 0
    ∧ win0_1.index t 2 = t.val / 2 % 4 :=
  (by decide +kernel : ∀ t : Fin grid0.N, win0_1.index t 0 = t.val / 8 ∧ win0_1.index t 1 = 0
    ∧ win0_1.index t 2 = t.val / 2 % 4)

/-- The block of the gates at point `t`. -/
theorem index3 : ∀ t : Fin cfg0.N, win0_3.index t 0 = t.val / 8 ∧ win0_3.index t 1 = 0
    ∧ win0_3.index t 2 = 0 ∧ win0_3.index t 3 = 0 :=
  (by decide +kernel : ∀ t : Fin grid0.N, win0_3.index t 0 = t.val / 8 ∧ win0_3.index t 1 = 0
    ∧ win0_3.index t 2 = 0 ∧ win0_3.index t 3 = 0)

variable (m : (ℓ : Loc nD τ sig) → Buf (Elt Ideal) ℓ) (ρ : Dev nD → PrngReg)

/-- Where a row window's block lies in its array. -/
theorem emb_rows (t : Fin cfg0.N) (r : Fin 4096) (d : Fin 128) :
    ((cfg0.win 0).blk t).view.emb (ix3 0 r d)
      = ix3 (Fin.ofNat 4 (t.val / 8)) (Fin.ofNat 8192 (t.val % 2 * 4096 + r.val)) (Fin.ofNat 512 (t.val / 2 % 4 * 128 + d.val)) := by
  have ht : t.val < 32 := t.isLt.trans_eq N_0
  obtain ⟨e0, e1, e2⟩ := index0 t
  funext a; apply Fin.ext
  match a with
  | ⟨0, _⟩ => show win0_0.index t 0 * 1 + 1 * 0 = t.val / 8 % 4; omega
  | ⟨1, _⟩ => show win0_0.index t 1 * 4096 + 1 * r.val = (t.val % 2 * 4096 + r.val) % 8192; omega
  | ⟨2, _⟩ => show win0_0.index t 2 * 128 + 1 * d.val = (t.val / 2 % 4 * 128 + d.val) % 512; omega

/-- Where a whole-sequence window's block lies in its array. -/
theorem emb_seq (t : Fin cfg0.N) (j : Fin 8192) (d : Fin 128) :
    ((cfg0.win 1).blk t).view.emb (ix3 0 j d)
      = ix3 (Fin.ofNat 4 (t.val / 8)) (Fin.ofNat 8192 j.val) (Fin.ofNat 512 (t.val / 2 % 4 * 128 + d.val)) := by
  have ht : t.val < 32 := t.isLt.trans_eq N_0
  obtain ⟨e0, e1, e2⟩ := index1 t
  funext a; apply Fin.ext
  match a with
  | ⟨0, _⟩ => show win0_1.index t 0 * 1 + 1 * 0 = t.val / 8 % 4; omega
  | ⟨1, _⟩ => show win0_1.index t 1 * 8192 + 1 * j.val = j.val % 8192; omega
  | ⟨2, _⟩ => show win0_1.index t 2 * 128 + 1 * d.val = (t.val / 2 % 4 * 128 + d.val) % 512; omega

/-- Where the gates' block lies in its array. -/
theorem emb_gates (t : Fin cfg0.N) (a : Fin 32) (h : Fin 8) (b : Fin 256) :
    ((cfg0.win 3).blk t).view.emb (ix4 0 a h b) = ix4 (Fin.ofNat 4 (t.val / 8)) a h b := by
  have ht : t.val < 32 := t.isLt.trans_eq N_0
  obtain ⟨e0, e1, e2, e3⟩ := index3 t
  funext x; apply Fin.ext
  match x with
  | ⟨0, _⟩ => show win0_3.index t 0 * 1 + 1 * 0 = t.val / 8 % 4; omega
  | ⟨1, _⟩ => show win0_3.index t 1 * 32 + 1 * a.val = a.val; omega
  | ⟨2, _⟩ => show win0_3.index t 2 * 8 + 1 * h.val = h.val; omega
  | ⟨3, _⟩ => show win0_3.index t 3 * 256 + 1 * b.val = b.val; omega

/-- The blocks point `t` is given. -/
theorem inputs (c : Dev nD) (t : Fin cfg0.N) :
    Inputs (iblk m c 0 t) (iblk m c 1 t) (iblk m c 2 t) (iblk m c 3 t) (head (grid0.coords t))
      (fun r e => lane (m ((c : Thread nD τ).loc main_arg0)) (t.val / 8) (t.val / 2 % 4) (t.val % 2 * 4096 + r) e)
      (lane (m ((c : Thread nD τ).loc main_arg1)) (t.val / 8) (t.val / 2 % 4))
      (lane (m ((c : Thread nD τ).loc main_arg2)) (t.val / 8) (t.val / 2 % 4))
      (gate (m ((c : Thread nD τ).loc main_arg3)) (t.val / 8) (t.val / 2 % 4)) where
  q r e := congrArg (m ((c : Thread nD τ).loc main_arg0)) (emb_rows t r e)
  k j e := congrArg (m ((c : Thread nD τ).loc main_arg1)) (emb_seq t j e)
  w j d := congrArg (m ((c : Thread nD τ).loc main_arg2)) (emb_seq t j d)
  c a b := by
    refine congrArg (m ((c : Thread nD τ).loc main_arg3)) ((emb_gates t a _ b).trans ?_)
    have h1 := (coords_eq t).2.1
    have ha := a.isLt
    have hb := b.isLt
    have e1 : a = Fin.ofNat 32 ((a.val * 256 + b.val) / 256) := Fin.ext (by show a.val = (a.val * 256 + b.val) / 256 % 32; omega)
    have e2 : head (grid0.coords t) = Fin.ofNat 8 (t.val / 2 % 4) := Fin.ext (by
      show (grid0.coords t 1).val = t.val / 2 % 4 % 8; omega)
    have e3 : b = Fin.ofNat 256 ((a.val * 256 + b.val) % 256) := Fin.ext (by show b.val = (a.val * 256 + b.val) % 256 % 256; omega)
    rw [← e1, ← e2, ← e3]

/-- What point `t` computes is its block of the result. -/
theorem flushed_eq (c : Dev nD) (t : Fin cfg0.N) :
    (dats m 0 c).flushed 5 t = ((cfg0.win 5).blk t).view.read (Elt Ideal)
      (result (m ((c : Thread nD τ).loc main_arg0)) (m ((c : Thread nD τ).loc main_arg1)) (m ((c : Thread nD τ).loc main_arg2))
        (m ((c : Thread nD τ).loc main_arg3)) (m ((c : Thread nD τ).loc main_arg4))) := by
  have ht : t.val < 32 := t.isLt.trans_eq N_0
  have hb : (grid0.coords t 2).val * 4096 = t.val % 2 * 4096 := by rw [(coords_eq t).2.2]
  have key : ∀ (r : Fin 4096) (d : Fin 128),
      attend (rowScores (m ((c : Thread nD τ).loc main_arg0)) (m ((c : Thread nD τ).loc main_arg1)) (m ((c : Thread nD τ).loc main_arg3))
            (t.val / 8) (t.val / 2 % 4) (t.val % 2 * 4096) r.val)
          (fun j => lane (m ((c : Thread nD τ).loc main_arg2)) (t.val / 8) (t.val / 2 % 4) j d.val) (t.val % 2 * 4096 + 4096)
        * iblk m c 4 t (ix3 0 r d)
      = ((cfg0.win 5).blk t).view.read (Elt Ideal)
      (result (m ((c : Thread nD τ).loc main_arg0)) (m ((c : Thread nD τ).loc main_arg1)) (m ((c : Thread nD τ).loc main_arg2))
        (m ((c : Thread nD τ).loc main_arg3)) (m ((c : Thread nD τ).loc main_arg4))) (ix3 0 r d) := by
    intro r d
    have hr := r.isLt
    have hd := d.isLt
    have ez : iblk m c 4 t (ix3 0 r d) = m ((c : Thread nD τ).loc main_arg4) (ix3 (Fin.ofNat 4 (t.val / 8))
        (Fin.ofNat 8192 (t.val % 2 * 4096 + r.val)) (Fin.ofNat 512 (t.val / 2 % 4 * 128 + d.val))) :=
      congrArg (m ((c : Thread nD τ).loc main_arg4)) (emb_rows t r d)
    have eo : ((cfg0.win 5).blk t).view.emb (ix3 0 r d) = ix3 (Fin.ofNat 4 (t.val / 8))
        (Fin.ofNat 8192 (t.val % 2 * 4096 + r.val)) (Fin.ofNat 512 (t.val / 2 % 4 * 128 + d.val)) := emb_rows t r d
    rw [ez]
    refine Eq.trans ?_ (congrArg (result (m ((c : Thread nD τ).loc main_arg0)) (m ((c : Thread nD τ).loc main_arg1))
      (m ((c : Thread nD τ).loc main_arg2)) (m ((c : Thread nD τ).loc main_arg3)) (m ((c : Thread nD τ).loc main_arg4))) eo).symm
    have f0 : t.val / 8 % 4 = t.val / 8 := by omega
    have f1 : (t.val % 2 * 4096 + r.val) % 8192 / 4096 * 4096 = t.val % 2 * 4096 := by omega
    have f2 : (t.val % 2 * 4096 + r.val) % 8192 % 4096 = r.val := by omega
    have f3 : (t.val / 2 % 4 * 128 + d.val) % 512 / 128 = t.val / 2 % 4 := by omega
    have f4 : (t.val / 2 % 4 * 128 + d.val) % 512 % 128 = d.val := by omega
    show _ = attend (rowScores _ _ _ (t.val / 8 % 4) ((t.val / 2 % 4 * 128 + d.val) % 512 / 128)
        ((t.val % 2 * 4096 + r.val) % 8192 / 4096 * 4096) ((t.val % 2 * 4096 + r.val) % 8192 % 4096))
      (fun j => lane _ (t.val / 8 % 4) ((t.val / 2 % 4 * 128 + d.val) % 512 / 128) j ((t.val / 2 % 4 * 128 + d.val) % 512 % 128))
      ((t.val % 2 * 4096 + r.val) % 8192 / 4096 * 4096 + 4096) * _
    rw [f0, f1, f2, f3, f4]
  have point : ∀ (r : Fin 4096) (d : Fin 128), (dats m 0 c).flushed 5 t (ix3 0 r d) = _ := fun r d => by
    refine Eq.trans ?_ (key r d)
    by_cases h0 : t.val % 2 = 0
    · rw [Value.flushed5_A m c t h0]
      exact out_A _ (inputs m c t) hb r d
    · rw [Value.flushed5_B m c t h0]
      have hprev : t.val - 1 < cfg0.N := by have := t.isLt; omega
      refine out_B _ (inputs m c t) (fun j d => ?_) hb r d
      have h0' : (⟨t.val - 1, hprev⟩ : Fin cfg0.N).val % 2 = 0 := by show (t.val - 1) % 2 = 0; omega
      rw [outsAt0_A m c ⟨t.val - 1, hprev⟩ h0']
      refine sout_A (c := c) (i := grid0.coords ⟨t.val - 1, hprev⟩) (arg3 := ms0_0 ⟨t.val - 1, hprev⟩) (harg3 := hs0_0 ⟨t.val - 1, hprev⟩) (arg4 := ms0_1 ⟨t.val - 1, hprev⟩) (harg4 := hs0_1 ⟨t.val - 1, hprev⟩) (arg5 := ms0_2 ⟨t.val - 1, hprev⟩) (harg5 := hs0_2 ⟨t.val - 1, hprev⟩) (arg6 := ms0_3 ⟨t.val - 1, hprev⟩) (harg6 := hs0_3 ⟨t.val - 1, hprev⟩) (arg7 := ms0_4 ⟨t.val - 1, hprev⟩) (harg7 := hs0_4 ⟨t.val - 1, hprev⟩) (arg8 := ms0_5 ⟨t.val - 1, hprev⟩) (harg8 := hs0_5 ⟨t.val - 1, hprev⟩) (arg9 := scM0_0) (harg9 := Memref.isWhole_whole _) (arg10 := scM0_1) (harg10 := Memref.isWhole_whole _) (arg11 := scM0_2) (harg11 := Memref.isWhole_whole _)
        (x0 := iblk m c 0 ⟨t.val - 1, hprev⟩) (x1 := iblk m c 1 ⟨t.val - 1, hprev⟩) (x2 := iblk m c 2 ⟨t.val - 1, hprev⟩) (x3 := iblk m c 3 ⟨t.val - 1, hprev⟩) (x4 := iblk m c 4 ⟨t.val - 1, hprev⟩)
        ((hcond0_0 ⟨t.val - 1, hprev⟩).mpr h0') (fun j d => ?_) j d
      have := (inputs m c ⟨t.val - 1, hprev⟩).w j d
      rw [this]
      have e1 : (t.val - 1) / 8 = t.val / 8 := by omega
      have e2 : (t.val - 1) / 2 = t.val / 2 := by omega
      show lane _ ((t.val - 1) / 8) ((t.val - 1) / 2 % 4) _ _ = _
      rw [e1, e2]
  funext y
  have hy : (y : S1x4096x128.Idx) = ix3 0 (y 1) (y 2) := by
    funext a
    match a with
    | ⟨0, _⟩ => exact Fin.ext (by have := (y 0).isLt; show (y 0).val = 0; have h1 : (y 0).val < 1 := this; omega)
    | ⟨1, _⟩ => rfl
    | ⟨2, _⟩ => rfl
  exact (congrArg ((dats m 0 c).flushed 5 t) hy).trans ((point (y 1) (y 2)).trans
    (congrArg (((cfg0.win 5).blk t).view.read (Elt Ideal) _) hy).symm)

/-- Every entry of the result is in some point's block. -/
theorem covered (i : S4x8192x512.Idx) :
    ∃ t : Fin cfg0.N, (cfg0.win 5).flush t = true ∧ i ∈ ((cfg0.win 5).blk t).view.set := by
  have h0 : (i 0).val < 4 := (i 0).isLt
  have h1 : (i 1).val < 8192 := (i 1).isLt
  have h2 : (i 2).val < 512 := (i 2).isLt
  have hN : cfg0.N = 32 := N_0
  refine ⟨⟨(i 0).val * 8 + (i 2).val / 128 * 2 + (i 1).val / 4096, lt_of_lt_of_eq (by omega) hN.symm⟩, flush0_5 _, ?_⟩
  have e := emb_rows ⟨(i 0).val * 8 + (i 2).val / 128 * 2 + (i 1).val / 4096, lt_of_lt_of_eq (by omega) hN.symm⟩
    ⟨(i 1).val % 4096, by omega⟩ ⟨(i 2).val % 128, by omega⟩
  have h := ((cfg0.win 5).blk ⟨(i 0).val * 8 + (i 2).val / 128 * 2 + (i 1).val / 4096, lt_of_lt_of_eq (by omega) hN.symm⟩).view.emb_mem_set
    (ix3 0 ⟨(i 1).val % 4096, by omega⟩ ⟨(i 2).val % 128, by omega⟩)
  refine Eq.mp (congrArg (· ∈ _) ?_) h
  refine Eq.trans (show _ = _ from e) ?_
  funext a; apply Fin.ext
  match a with
  | ⟨0, _⟩ => show ((i 0).val * 8 + (i 2).val / 128 * 2 + (i 1).val / 4096) / 8 % 4 = (i 0).val; omega
  | ⟨1, _⟩ => show (((i 0).val * 8 + (i 2).val / 128 * 2 + (i 1).val / 4096) % 2 * 4096 + (i 1).val % 4096) % 8192 = (i 1).val; omega
  | ⟨2, _⟩ => show (((i 0).val * 8 + (i 2).val / 128 * 2 + (i 1).val / 4096) / 2 % 4 * 128 + (i 2).val % 128) % 512 = (i 2).val; omega

/-- The result array after the run. -/
theorem final (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) covered

end Cert.Fox
-- ==== Proof.Fox.RefValue.lean ====
/-
  What the reference computes: a softmax over the keys of each query's scores, the weighted sum of the values, times
  the gate.
-/
module

public import proofs.«01_k».proof.Proof.Gen.ReferenceIdeal.Read
public import proofs.«01_k».proof.Proof.Fox.Array
public import Idealize.ShloMosaic.Lib.Pointwise
public import Idealize.ShloMosaic.Lib.IdealHost

@[expose] public section

noncomputable section

open Idealize.ShloMosaic hiding ix1 ix2 ix3 ix4 eq_ix2
open Idealize.ShloMosaic.ValueIdx
open Cert.ReferenceIdeal Cert.ReferenceIdeal.Gen Cert.ReferenceIdeal.Read

namespace Cert.Fox

/-- The reference's score of the key at `j` for the query at `t`: minus infinity after the query's own place. -/
def logit (q k : FVec Ideal S4x8192x512 .bf16) (c : FVec Ideal S4x32x8x256 .f32) (b h t j : ℕ) : EReal :=
  if j ≤ t then (∑ e : Fin 128, lane q b h t e.val * ((Real.log 2 : ℝ) : EReal) * lane k b h j e.val)
    + gate c b h t - gate c b h j else ⊥

/-- The weight of the key at `j`: the exponential of its score less the greatest score. -/
def weight (L : ℕ → EReal) (j : ℕ) : EReal := Ideal.exp (L j - top L 8192)

/-- One entry of a softmax-weighted sum of `W` over 8192 keys. -/
def softmaxSum (L W : ℕ → EReal) : EReal :=
  ∑ j : Fin 8192, Ideal.div (weight L j.val) (∑ i : Fin 8192, weight L i.val) * W j.val

/-- Minus infinity's bits. -/
theorem bot_bits : (FloatOps.ofBits .f32 0xFF800000#32 : Ideal .f32) = (⊥ : EReal) := by
  show Ideal.ofBits .f32 0xFF800000#32 = ⊥
  simp [Ideal.ofBits_def, Ideal.ofBits, Ideal.ieee]

/-- The logarithm of two as the reference writes it. -/
theorem log_two : (FloatOps.hostUnary .log (FloatOps.ofBits .f32 0x40000000#32 : Ideal .f32) : Ideal .f32)
    = (((Real.log 2 : ℝ)) : EReal) := by
  show Ideal.log (Ideal.ofBits .f32 0x40000000#32) = _
  have : Ideal.ofBits .f32 0x40000000#32 = ((2 : ℝ) : EReal) := by
    simp [Ideal.ofBits, Ideal.ieee, -EReal.coe_mul]; norm_num
  rw [this]
  show (if (2 : ℝ) ≤ 0 then (⊥ : EReal) else ((Real.log 2 : ℝ) : EReal)) = _
  rw [if_neg (by norm_num)]

/-- Comparing two places. -/
theorem place_le {a b : ℕ} (ha : a < 2 ^ 31) (hb : b < 2 ^ 31) :
    IntOp.cmpi .sle (BitVec.ofNat 32 a) (BitVec.ofNat 32 b) = if a ≤ b then 1#1 else 0#1 := by
  show BitVec.ofBool ((BitVec.ofNat 32 a).sle (BitVec.ofNat 32 b)) = _
  rw [BitVec.sle_eq_decide, WordCmp.toInt_ofNat_of_lt ha, WordCmp.toInt_ofNat_of_lt hb]
  by_cases h : a ≤ b <;> simp [h]

/-- A fold of the maximum is the greatest value. -/
theorem fold_max {n : ℕ} (f : Fin n → EReal) :
    Finset.univ.fold (FloatOps.maximumf (F := Ideal) (φ := .f32)) (⊥ : EReal) f = Finset.univ.sup f := rfl

/-- The greatest of the first `n` scores, over the index type. -/
theorem top_eq_sup (S : ℕ → EReal) (n : ℕ) : top S n = Finset.univ.sup fun j : Fin n => S j.val := by
  have h := top_add S 0 n
  rw [top_zero, max_eq_right bot_le] at h
  simpa only [Nat.zero_add] using h

section

variable (x0 x1 x2 : FVec Ideal S4x8192x512 .bf16) (x3 : FVec Ideal S4x32x8x256 .f32) (x4 : FVec Ideal S4x8192x512 .bf16)

/-- The queries, keys and values by head. -/
theorem heads_apply (X : FVec Ideal S4x8192x512 .bf16) (b h : Fin 4) (t : Fin 8192) (e : Fin 128) :
    X (idx_main_v4 (idx_main_v5 (ix4 b h t e))) = lane X b.val h.val t.val e.val := by
  refine congrArg X (funext fun a => Fin.ext ?_)
  have hb := b.isLt; have hh := h.isLt; have ht := t.isLt; have he := e.isLt
  match a with
  | ⟨0, _⟩ => show (((b.val * 8192 + t.val) * 4 + h.val) * 128 + e.val) / 4194304 = b.val % 4; omega
  | ⟨1, _⟩ => show (((b.val * 8192 + t.val) * 4 + h.val) * 128 + e.val) / 512 % 8192 = t.val % 8192; omega
  | ⟨2, _⟩ => show (((b.val * 8192 + t.val) * 4 + h.val) * 128 + e.val) % 512 = (h.val * 128 + e.val) % 512; omega

/-- The queries by head, not yet in natural units. -/
theorem v5_apply (b h : Fin 4) (t : Fin 8192) (e : Fin 128) :
    val_main_v5 (F := Ideal) x0 (ix4 b h t e) = lane x0 b.val h.val t.val e.val := by
  rw [val_main_v5_apply, val_main_v4_apply, val_main_v3_apply]
  exact heads_apply x0 b h t e

/-- The queries by head, in natural units. -/
theorem v8_apply (b h : Fin 4) (t : Fin 8192) (e : Fin 128) :
    val_main_v8 (F := Ideal) x0 (ix4 b h t e) = lane x0 b.val h.val t.val e.val * ((Real.log 2 : ℝ) : EReal) := by
  rw [val_main_v8_apply, v5_apply, val_main_v7_apply, val_main_v6_apply, val_main_cst_apply, log_two]
  rfl

/-- The keys by head. -/
theorem v11_apply (b h : Fin 4) (t : Fin 8192) (e : Fin 128) :
    val_main_v11 (F := Ideal) x1 (ix4 b h t e) = lane x1 b.val h.val t.val e.val := by
  rw [val_main_v11_apply, val_main_v10_apply, val_main_v9_apply]
  exact heads_apply x1 b h t e

/-- The values by head. -/
theorem v14_apply (b h : Fin 4) (t : Fin 8192) (e : Fin 128) :
    val_main_v14 (F := Ideal) x2 (ix4 b h t e) = lane x2 b.val h.val t.val e.val := by
  rw [val_main_v14_apply, val_main_v13_apply, val_main_v12_apply]
  exact heads_apply x2 b h t e

/-- The gates by head. -/
theorem v2_apply (b h : Fin 4) (t : Fin 8192) :
    val_main_v2 (F := Ideal) x3 (ix3 b h t) = gate x3 b.val h.val t.val := by
  rw [val_main_v2_apply, val_main_v1_apply, val_main_v0_apply]
  refine congrArg x3 (funext fun a => Fin.ext ?_)
  have hb := b.isLt; have hh := h.isLt; have ht := t.isLt
  match a with
  | ⟨0, _⟩ => show ((b.val * 4 + h.val) * 8192 + t.val) / 32768 = b.val % 4; omega
  | ⟨1, _⟩ => show ((b.val * 4 + h.val) * 8192 + t.val) / 256 % 32 = t.val / 256 % 32; omega
  | ⟨2, _⟩ => show ((b.val * 4 + h.val) * 8192 + t.val) / 8192 % 4 = h.val % 8; omega
  | ⟨3, _⟩ => show ((b.val * 4 + h.val) * 8192 + t.val) % 256 = t.val % 256 % 256; omega

/-- The product of a query and a key. -/
theorem v15_apply (b h : Fin 4) (t j : Fin 8192) :
    val_main_v15 (F := Ideal) x0 x1 (ix4 b h t j)
      = ∑ e : Fin 128, lane x0 b.val h.val t.val e.val * ((Real.log 2 : ℝ) : EReal) * lane x1 b.val h.val j.val e.val := by
  rw [val_main_v15_apply]
  refine Finset.sum_congr rfl fun e _ => ?_
  have e1 : lidx_main_v15 (ix4 b h t j) e = ix4 b h t e := funext fun a => by
    match a with
    | ⟨0, _⟩ => rfl
    | ⟨1, _⟩ => rfl
    | ⟨2, _⟩ => rfl
    | ⟨3, _⟩ => rfl
  have e2 : ridx_main_v15 (ix4 b h t j) e = ix4 b h j e := funext fun a => by
    match a with
    | ⟨0, _⟩ => rfl
    | ⟨1, _⟩ => rfl
    | ⟨2, _⟩ => rfl
    | ⟨3, _⟩ => rfl
  rw [e1, e2, v8_apply, v11_apply]

/-- The scores before the mask. -/
theorem v21_apply (b h : Fin 4) (t j : Fin 8192) :
    val_main_v21 (F := Ideal) x0 x1 x3 (ix4 b h t j)
      = (∑ e : Fin 128, lane x0 b.val h.val t.val e.val * ((Real.log 2 : ℝ) : EReal) * lane x1 b.val h.val j.val e.val)
        + gate x3 b.val h.val t.val - gate x3 b.val h.val j.val := by
  rw [val_main_v21_apply, val_main_v18_apply, v15_apply, val_main_v17_apply, val_main_v16_apply, val_main_v20_apply,
    val_main_v19_apply]
  have e3 : idx_main_v16 (idx_main_v17 (ix4 b h t j)) = ix3 b h t := funext fun a => by
    match a with
    | ⟨0, _⟩ => rfl
    | ⟨1, _⟩ => rfl
    | ⟨2, _⟩ => rfl
  have e4 : idx_main_v19 (idx_main_v20 (ix4 b h t j)) = ix3 b h j := funext fun a => by
    match a with
    | ⟨0, _⟩ => rfl
    | ⟨1, _⟩ => rfl
    | ⟨2, _⟩ => rfl
  rw [e3, e4, v2_apply, v2_apply]
  rfl

/-- The mask. -/
theorem mask_apply (b h : Fin 4) (t j : Fin 8192) :
    val_main_call0_v1 (F := Ideal) (ix4 b h t j) = if j.val ≤ t.val then 1#1 else 0#1 := by
  rw [val_main_call0_v1_apply, val_main_v24_apply, val_main_v23_apply, val_main_v22_apply]
  have hj := j.isLt
  have ht := t.isLt
  exact place_le (a := j.val) (b := t.val) (by omega) (by omega)

/-- The scores, masked. -/
theorem v25_apply (b h : Fin 4) (t j : Fin 8192) :
    val_main_v25 (F := Ideal) x0 x1 x3 (ix4 b h t j) = logit x0 x1 x3 b.val h.val t.val j.val := by
  rw [val_main_v25_apply, mask_apply, v21_apply, val_main_call0_v2_apply, val_main_call0_v0_apply, val_main_cst_0_apply, bot_bits]
  unfold logit
  by_cases hjt : j.val ≤ t.val
  · rw [if_pos hjt, if_pos hjt]; rfl
  · rw [if_neg hjt, if_neg hjt]; rfl

/-- The greatest score, before the comparison with minus infinity. -/
theorem v26_apply (b h : Fin 4) (t : Fin 8192) :
    val_main_v26 (F := Ideal) x0 x1 x3 (ix3 b h t) = top (logit x0 x1 x3 b.val h.val t.val) 8192 := by
  unfold val_main_v26
  rw [Host.reduce_eq_fold, Shape.ReducesTo.fold_fiber_r4_a3, val_main_cst_1_apply, bot_bits, top_eq_sup]
  refine (fold_max _).trans (congrArg _ (funext fun k => ?_))
  exact v25_apply x0 x1 x3 b h t k

/-- The greatest score. -/
theorem v28_apply (b h : Fin 4) (t : Fin 8192) :
    val_main_v28 (F := Ideal) x0 x1 x3 (ix3 b h t) = top (logit x0 x1 x3 b.val h.val t.val) 8192 := by
  rw [val_main_v28_apply, val_main_v27_apply, val_main_cst_2_apply, bot_bits, v26_apply]
  exact max_eq_right bot_le

/-- The weights. -/
theorem v32_apply (b h : Fin 4) (t j : Fin 8192) :
    val_main_v32 (F := Ideal) x0 x1 x3 (ix4 b h t j) = weight (logit x0 x1 x3 b.val h.val t.val) j.val := by
  rw [val_main_v32_apply, val_main_v31_apply, v25_apply, val_main_v30_apply, val_main_v29_apply]
  have e5 : idx_main_v29 (idx_main_v30 (ix4 b h t j)) = ix3 b h t := funext fun a => by
    match a with
    | ⟨0, _⟩ => rfl
    | ⟨1, _⟩ => rfl
    | ⟨2, _⟩ => rfl
  rw [e5, v28_apply]
  rfl

/-- The sum of the weights. -/
theorem v33_apply (b h : Fin 4) (t : Fin 8192) :
    val_main_v33 (F := Ideal) x0 x1 x3 (ix3 b h t) = ∑ i : Fin 8192, weight (logit x0 x1 x3 b.val h.val t.val) i.val := by
  rw [val_main_v33_apply, val_main_cst_3_apply]
  refine Eq.trans (congrArg (· + _) (Ideal.ofBits_zero_f32)) ?_
  rw [zero_add]
  refine Finset.sum_congr rfl fun i _ => ?_
  have e6 : idx_main_v33 (ix3 b h t) i = ix4 b h t i := funext fun a => by
    match a with
    | ⟨0, _⟩ => rfl
    | ⟨1, _⟩ => rfl
    | ⟨2, _⟩ => rfl
    | ⟨3, _⟩ => rfl
  rw [e6, v32_apply]

/-- The attention before the gate. -/
theorem v37_apply (b h : Fin 4) (t : Fin 8192) (d : Fin 128) :
    val_main_v37 (F := Ideal) x0 x1 x2 x3 (ix4 b h t d)
      = softmaxSum (logit x0 x1 x3 b.val h.val t.val) (fun j => lane x2 b.val h.val j d.val) := by
  rw [val_main_v37_apply]
  refine Finset.sum_congr rfl fun j _ => ?_
  have e7 : lidx_main_v37 (ix4 b h t d) j = ix4 b h t j := funext fun a => by
    match a with
    | ⟨0, _⟩ => rfl
    | ⟨1, _⟩ => rfl
    | ⟨2, _⟩ => rfl
    | ⟨3, _⟩ => rfl
  have e8 : ridx_main_v37 (ix4 b h t d) j = ix4 b h j d := funext fun a => by
    match a with
    | ⟨0, _⟩ => rfl
    | ⟨1, _⟩ => rfl
    | ⟨2, _⟩ => rfl
    | ⟨3, _⟩ => rfl
  rw [e7, e8, val_main_v36_apply, v32_apply, v14_apply, val_main_v35_apply, val_main_v34_apply]
  have e9 : idx_main_v34 (idx_main_v35 (ix4 b h t j)) = ix3 b h t := funext fun a => by
    match a with
    | ⟨0, _⟩ => rfl
    | ⟨1, _⟩ => rfl
    | ⟨2, _⟩ => rfl
  rw [e9, v33_apply]
  rfl

/-- The reference's result. -/
theorem reference_apply (i : S4x8192x512.Idx) :
    val_main_v42 (F := Ideal) x0 x1 x2 x3 x4 i
      = softmaxSum (logit x0 x1 x3 (i 0).val ((i 2).val / 128) (i 1).val)
          (fun j => lane x2 (i 0).val ((i 2).val / 128) j ((i 2).val % 128)) * x4 i := by
  rw [val_main_v42_apply, val_main_v41_apply, val_main_v40_apply, val_main_v39_apply, val_main_v38_apply]
  have h0 : (i 0).val < 4 := (i 0).isLt
  have h1 : (i 1).val < 8192 := (i 1).isLt
  have h2 : (i 2).val < 512 := (i 2).isLt
  have e : idx_main_v38 (idx_main_v39 i) = ix4 ⟨(i 0).val, h0⟩ ⟨(i 2).val / 128, by omega⟩ ⟨(i 1).val, h1⟩
      ⟨(i 2).val % 128, by omega⟩ := by
    funext a; apply Fin.ext
    match a with
    | ⟨0, _⟩ => show (((i 0).val * 8192 + (i 1).val) * 512 + (i 2).val) / 4194304 = (i 0).val; omega
    | ⟨1, _⟩ => show (((i 0).val * 8192 + (i 1).val) * 512 + (i 2).val) / 128 % 4 = (i 2).val / 128; omega
    | ⟨2, _⟩ => show (((i 0).val * 8192 + (i 1).val) * 512 + (i 2).val) / 512 % 8192 = (i 1).val; omega
    | ⟨3, _⟩ => show (((i 0).val * 8192 + (i 1).val) * 512 + (i 2).val) % 128 = (i 2).val % 128; omega
  rw [e, v37_apply]
  rfl

end

end Cert.Fox
-- ==== Proof.Fox.Equation.lean ====
/-
  The equation: with finite queries, keys and gates, the kernel's base-two softmax relative to the gate of a block's
  first row is the reference's softmax.
-/
module

public import proofs.«01_k».proof.Proof.Fox.RefValue

@[expose] public section

noncomputable section

open Idealize.ShloMosaic hiding ix1 ix2 ix3 ix4 eq_ix2
open Idealize.ShloMosaic.ValueIdx

namespace Cert.Fox

/-- A sum of real numbers, as extended reals. -/
theorem sum_real {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of scores that are real up to the place `t` and minus infinity after it is one of them. -/
theorem top_attained (s : ℕ → ℝ) (S : ℕ → EReal) (t n : ℕ) (htn : t < n)
    (hS : ∀ j, S j = if j ≤ t then (s j : EReal) else ⊥) :
    ∃ i, i ≤ t ∧ top S n = (s i : EReal) ∧ ∀ j, j ≤ t → s j ≤ s i := by
  obtain ⟨i, _, h⟩ := Finset.exists_mem_eq_sup (Finset.range n) ⟨0, Finset.mem_range.mpr (by omega)⟩ S
  have h0 : ∀ j, j ≤ t → (s j : EReal) ≤ S i := fun j hj => by
    have := le_top_of_lt S (n := n) (j := j) (by omega)
    rw [hS j, if_pos hj] at this
    exact this.trans (le_of_eq h)
  have hi : i ≤ t := by
    by_contra hi
    have := h0 0 (by omega)
    rw [hS i, if_neg hi] at this
    exact absurd (le_bot_iff.mp this) (EReal.coe_ne_bot _)
  have hSi : S i = (s i : EReal) := by rw [hS i, if_pos hi]
  exact ⟨i, hi, h.trans hSi, fun j hj => EReal.coe_le_coe_iff.mp (hSi ▸ h0 j hj)⟩

/-- Taking keys that are all after the place `t` changes nothing in a weighted sum. -/
theorem wsum_extend (S V : ℕ → EReal) (t n K : ℕ) (htn : t < n) (hS : ∀ j, t < j → S j = ⊥) :
    wsum S V (n + K) = wsum S V n :=
  wsum_add_of_bot S V n K fun c => hS _ (by omega)

/-- A weighted mean is the sum of the normalised weights' terms, for a sum of weights that is a positive number. -/
theorem div_wsum (N : ℕ) (w W : ℕ → EReal) (l : ℝ) (hl : 0 < l) :
    Ideal.div (∑ j ∈ Finset.range N, w j * W j) (l : EReal) = ∑ j ∈ Finset.range N, Ideal.div (w j) (l : EReal) * W j := by
  have hne : ((l : ℝ) : EReal) ≠ 0 := by exact_mod_cast hl.ne'
  have hdiv : ∀ x : EReal, Ideal.div x (l : EReal) = ((l⁻¹ : ℝ) : EReal) * x := fun x => by
    unfold Ideal.div
    rw [if_neg hne, mul_comm, EReal.coe_inv]
  rw [hdiv, mul_sum_left _ (by exact_mod_cast (inv_pos.mpr hl).le) (EReal.coe_ne_top _)]
  refine Finset.sum_congr rfl fun j _ => ?_
  rw [hdiv, mul_assoc]

/-- The softmax of scores that are real up to a place and minus infinity after it does not change when the scores are
taken in units of `log 2` and moved by a constant. -/
theorem softmax_eq (s : ℕ → ℝ) (κ : ℝ) (S L W : ℕ → EReal) (t n K : ℕ) (htn : t < n)
    (hS : ∀ j, S j = if j ≤ t then (s j : EReal) else ⊥)
    (hL : ∀ j, L j = if j ≤ t then ((Real.log 2 * s j + κ : ℝ) : EReal) else ⊥) :
    ∑ j ∈ Finset.range (n + K), Ideal.div (Ideal.exp (L j - top L (n + K)))
        (∑ i ∈ Finset.range (n + K), Ideal.exp (L i - top L (n + K))) * W j
      = attend S W n := by
  have hlog : 0 < Real.log 2 := Real.log_pos (by norm_num)
  have hbot : ∀ j, t < j → S j = ⊥ := fun j hj => by rw [hS j, if_neg (by omega)]
  obtain ⟨i, hi, hm, hmax⟩ := top_attained s S t (n + K) (by omega) hS
  obtain ⟨i', hi', hm', hmax'⟩ := top_attained (fun j => Real.log 2 * s j + κ) L t (n + K) (by omega) hL
  have hii : s i' = s i := by
    have h1 : Real.log 2 * s i + κ ≤ Real.log 2 * s i' + κ := hmax' i hi
    have h2 := hmax i' hi'
    have h3 : Real.log 2 * s i ≤ Real.log 2 * s i' := by linarith
    exact le_antisymm h2 (le_of_mul_le_mul_left h3 hlog)
  let ω : ℕ → ℝ := fun j => if j ≤ t then (2 : ℝ) ^ (s j - s i) else 0
  have hwS : ∀ j, Ideal.exp2 (S j - top S (n + K)) = (ω j : EReal) := fun j => by
    rw [hm, hS j]
    show _ = (((if j ≤ t then (2 : ℝ) ^ (s j - s i) else 0 : ℝ)) : EReal)
    by_cases hj : j ≤ t
    · rw [if_pos hj, if_pos hj, ← EReal.coe_sub, exp2_coe]
      rfl
    · rw [if_neg hj, if_neg hj, EReal.bot_sub, exp2_bot]
      rfl
  have hwL : ∀ j, Ideal.exp (L j - top L (n + K)) = (ω j : EReal) := fun j => by
    rw [hm', hL j]
    show _ = (((if j ≤ t then (2 : ℝ) ^ (s j - s i) else 0 : ℝ)) : EReal)
    by_cases hj : j ≤ t
    · rw [if_pos hj, if_pos hj, ← EReal.coe_sub]
      show ((Real.exp (Real.log 2 * s j + κ - (Real.log 2 * s i' + κ)) : ℝ) : EReal) = _
      rw [hii, Real.rpow_def_of_pos (by norm_num)]
      congr 2
      ring
    · rw [if_neg hj, if_neg hj, EReal.bot_sub]
      rfl
  have hω : ∀ j, 0 ≤ ω j := fun j => by
    show 0 ≤ if j ≤ t then (2 : ℝ) ^ (s j - s i) else 0
    by_cases hj : j ≤ t
    · rw [if_pos hj]; exact Real.rpow_nonneg (by norm_num) _
    · rw [if_neg hj]
  have hl : 0 < ∑ j ∈ Finset.range (n + K), ω j := by
    refine Finset.sum_pos' (fun j _ => hω j) ⟨i, Finset.mem_range.mpr (by omega), ?_⟩
    show 0 < if i ≤ t then (2 : ℝ) ^ (s i - s i) else 0
    rw [if_pos hi]
    exact Real.rpow_pos_of_pos (by norm_num) _
  have hden : wsum S (fun _ => 1) n = ((∑ j ∈ Finset.range (n + K), ω j : ℝ) : EReal) := by
    rw [← wsum_extend S _ t n K htn hbot, ← sum_real]
    refine Finset.sum_congr rfl fun j _ => ?_
    rw [hwS, mul_one]
  have hnum : wsum S W n = ∑ j ∈ Finset.range (n + K), (ω j : EReal) * W j := by
    rw [← wsum_extend S _ t n K htn hbot]
    refine Finset.sum_congr rfl fun j _ => ?_
    rw [hwS]
  unfold attend
  rw [hden, hnum, div_wsum (n + K) (fun j => (ω j : EReal)) W _ hl]
  simp only [hwL, sum_real]

/-- The reference's sum in the same form. -/
theorem softmaxSum_eq (L W : ℕ → EReal) (n K : ℕ) (h : n + K = 8192) :
    softmaxSum L W = ∑ j ∈ Finset.range (n + K), Ideal.div (Ideal.exp (L j - top L (n + K)))
        (∑ i ∈ Finset.range (n + K), Ideal.exp (L i - top L (n + K))) * W j := by
  unfold softmaxSum weight
  generalize 8192 = N at h
  subst h
  rw [Fin.sum_univ_eq_sum_range (fun i => Ideal.exp (L i - top L (n + K))),
    Fin.sum_univ_eq_sum_range (fun j => Ideal.div (Ideal.exp (L j - top L (n + K)))
        (∑ i ∈ Finset.range (n + K), Ideal.exp (L i - top L (n + K))) * W j)]

section

variable (q k : FVec Ideal Cert.KernelIdeal.S4x8192x512 .bf16) (c : FVec Ideal Cert.KernelIdeal.S4x32x8x256 .f32)

/-- Every entry of an array of extended reals is a real number. -/
def RealArray {s : Shape} (X : s.Idx → EReal) : Prop := ∀ i, X i ≠ ⊥ ∧ X i ≠ ⊤

/-- The gates of the four heads are real numbers. -/
def RealGates (c : FVec Ideal Cert.KernelIdeal.S4x32x8x256 .f32) : Prop :=
  ∀ b h j : ℕ, h < 4 → gate c b h j ≠ ⊥ ∧ gate c b h j ≠ ⊤

/-- A finite extended real is its real number. -/
theorem real_eq {x : EReal} (h : x ≠ ⊥ ∧ x ≠ ⊤) : ((x.toReal : ℝ) : EReal) = x := EReal.coe_toReal h.2 h.1

/-- The number a row's score is, in units of `log 2` and relative to the row `base`. -/
def number (b h base t j : ℕ) : ℝ :=
  (∑ e : Fin 128, (lane q b h t e.val).toReal * (lane k b h j e.val).toReal)
    + ((gate c b h base).toReal * (Real.log 2)⁻¹ - (gate c b h j).toReal * (Real.log 2)⁻¹)

variable {q k c} (hq : RealArray q) (hk : RealArray k) (hc : RealGates c)

include hq hk hc

/-- The kernel's scores are these numbers. -/
theorem rowScores_real (b h base r j : ℕ) (hh : h < 4) :
    rowScores q k c b h base r j = if j ≤ base + r then (number q k c b h base (base + r) j : EReal) else ⊥ := by
  unfold rowScores scores
  by_cases hj : j ≤ base + r
  · rw [if_pos hj, if_pos hj]
    have h1 : ∀ e : Fin 128, lane q b h (base + r) e.val * lane k b h j e.val
        = (((lane q b h (base + r) e.val).toReal * (lane k b h j e.val).toReal : ℝ) : EReal) := fun e => by
      rw [EReal.coe_mul, real_eq (x := lane q b h (base + r) e.val) (hq _), real_eq (x := lane k b h j e.val) (hk _)]
    unfold number
    rw [EReal.coe_add, EReal.coe_sub, EReal.coe_mul, EReal.coe_mul, real_eq (hc b h base hh), real_eq (hc b h j hh),
      ← sum_real]
    exact congrArg (· + _) (Finset.sum_congr rfl fun e _ => h1 e)
  · rw [if_neg hj, if_neg hj]

/-- The reference's scores are these numbers in natural units, moved by the difference of two gates. -/
theorem logit_real (b h base t j : ℕ) (hh : h < 4) :
    logit q k c b h t j = if j ≤ t then
      ((Real.log 2 * number q k c b h base t j + ((gate c b h t).toReal - (gate c b h base).toReal) : ℝ) : EReal) else ⊥ := by
  unfold logit
  by_cases hj : j ≤ t
  · rw [if_pos hj, if_pos hj]
    have h1 : ∀ e : Fin 128, lane q b h t e.val * ((Real.log 2 : ℝ) : EReal) * lane k b h j e.val
        = (((lane q b h t e.val).toReal * Real.log 2 * (lane k b h j e.val).toReal : ℝ) : EReal) := fun e => by
      rw [EReal.coe_mul, EReal.coe_mul, real_eq (x := lane q b h t e.val) (hq _), real_eq (x := lane k b h j e.val) (hk _)]
    rw [Finset.sum_congr rfl fun e _ => h1 e, sum_real, ← real_eq (hc b h t hh), ← real_eq (hc b h j hh),
      ← EReal.coe_add, ← EReal.coe_sub]
    simp only [EReal.toReal_coe]
    have hlog : Real.log 2 ≠ 0 := (Real.log_pos (by norm_num)).ne'
    congr 1
    unfold number
    rw [mul_add, Finset.mul_sum]
    have h2 : ∀ x y : ℝ, Real.log 2 * (x * (Real.log 2)⁻¹ - y * (Real.log 2)⁻¹) = x - y := fun x y => by
      field_simp
    rw [h2]
    have h3 : ∀ e : Fin 128, (lane q b h t e.val).toReal * Real.log 2 * (lane k b h j e.val).toReal
        = Real.log 2 * ((lane q b h t e.val).toReal * (lane k b h j e.val).toReal) := fun e => by ring
    rw [Finset.sum_congr rfl fun e _ => h3 e]
    ring
  · rw [if_neg hj, if_neg hj]

/-- The attention of the kernel is the attention of the reference. -/
theorem attend_eq (b h t : ℕ) (W : ℕ → EReal) (hh : h < 4) (ht : t < 8192) :
    attend (rowScores q k c b h (t / 4096 * 4096) (t % 4096)) W (t / 4096 * 4096 + 4096)
      = softmaxSum (logit q k c b h t) W := by
  have hsplit : t / 4096 * 4096 + t % 4096 = t := by omega
  have hS := fun j => rowScores_real hq hk hc b h (t / 4096 * 4096) (t % 4096) j hh
  rw [hsplit] at hS
  obtain ⟨K, hK⟩ : ∃ K, t / 4096 * 4096 + 4096 + K = 8192 := Nat.exists_eq_add_of_le (by omega) |>.imp fun _ h => h.symm
  rw [softmaxSum_eq (logit q k c b h t) W (t / 4096 * 4096 + 4096) K hK]
  exact (softmax_eq _ _ _ _ W t _ _ (by omega) hS (fun j => logit_real hq hk hc b h (t / 4096 * 4096) t j hh)).symm

/-- The kernel's result is the reference's. -/
theorem result_eq (v z : FVec Ideal Cert.KernelIdeal.S4x8192x512 .bf16) :
    result q k v c z = Cert.ReferenceIdeal.Read.val_main_v42 (F := Ideal) q k v c z := by
  funext i
  refine Eq.trans ?_ (reference_apply q k v c z i).symm
  have h1 : (i 1).val < 8192 := (i 1).isLt
  have h2 : (i 2).val < 512 := (i 2).isLt
  exact congrArg (fun x : EReal => x * z i) (attend_eq hq hk hc (i 0).val ((i 2).val / 128) (i 1).val _ (by omega) h1)

end

end Cert.Fox
-- ==== Proof.Fox.Finite.lean ====
/-
  What the precondition says: the queries, the keys and the four heads' gates are real numbers.
-/
module

public import proofs.«01_k».proof.Defs
public import proofs.«01_k».proof.Proof.Fox.Equation

@[expose] public section

noncomputable section

open Idealize.ShloMosaic hiding ix1 ix2 ix3 ix4 eq_ix2
open Idealize.ShloMosaic.ValueIdx

namespace Cert.Fox

/-- The precondition's side conditions. -/
instance finite_facts : Cert.Pre_finite.Facts where
  bitsLt_bf16_f32 := by decide
  bcast_S_S4x8192x512 := by decide
  slices_S4x32x8x256_S4x32x4x256_0_0_0_0 := by decide
  bcast_S_S4x32x4x256 := by decide

/-- Plus infinity's bits. -/
theorem infinity_bits : Ideal.ofBits .f32 0x7F800000#32 = ⊤ := by
  simp [Ideal.ofBits_def, Ideal.ofBits, Ideal.ieee]

/-- A value strictly between the infinities, as the precondition tests it. -/
theorem between {x lo hi : EReal} (hlo : lo = ⊥) (hhi : hi = ⊤)
    (h : (BitVec.ofBool (decide (lo < x)) &&& BitVec.ofBool (decide (x < hi))) = 1#1) : x ≠ ⊥ ∧ x ≠ ⊤ := by
  subst hlo hhi
  by_cases h1 : ⊥ < x
  · by_cases h2 : x < ⊤
    · exact ⟨h1.ne', h2.ne⟩
    · simp [h2] at h
  · simp [h1] at h

variable (q k v : FVec Ideal Cert.KernelIdeal.S4x8192x512 .bf16) (c : FVec Ideal Cert.KernelIdeal.S4x32x8x256 .f32)
  (z : FVec Ideal Cert.KernelIdeal.S4x8192x512 .bf16)

/-- The queries are real numbers. -/
theorem queries_real (h : (Cert.Pre_finite.fn q k v c z).1 = fun _ => 1#1) : RealArray q := fun i =>
  between (x := q i) bot_bits infinity_bits (congrFun h i)

/-- The keys are real numbers. -/
theorem keys_real (h : (Cert.Pre_finite.fn q k v c z).2.1 = fun _ => 1#1) : RealArray k := fun i =>
  between (x := k i) bot_bits infinity_bits (congrFun h i)

/-- The four heads' gates are real numbers. -/
theorem gates_real (h : (Cert.Pre_finite.fn q k v c z).2.2 = fun _ => 1#1) : RealGates c := fun b hd j hh => by
  have e : gate c b hd j = extractStridedSlice Cert.Pre_finite.S4x32x4x256 ![0, 0, 0, 0] c
      finite_facts.slices_S4x32x8x256_S4x32x4x256_0_0_0_0
      (ix4 (Fin.ofNat 4 b) (Fin.ofNat 32 (j / 256)) ⟨hd, hh⟩ (Fin.ofNat 256 (j % 256))) := by
    unfold gate extractStridedSlice
    refine congrArg c (funext fun a => Fin.ext ?_)
    match a with
    | ⟨0, _⟩ => show b % 4 = 0 + b % 4; omega
    | ⟨1, _⟩ => show j / 256 % 32 = 0 + j / 256 % 32; omega
    | ⟨2, _⟩ => show hd % 8 = 0 + hd; omega
    | ⟨3, _⟩ => show j % 256 % 256 = 0 + j % 256 % 256; omega
  rw [e]
  exact between bot_bits infinity_bits (congrFun h _)

end Cert.Fox
-- ==== Proof.Fox.Value.lean ====
/-
  The attention's value claim: from memories with equal arguments both programs run and end with the same result.
-/
module

public import proofs.«01_k».proof.Proof.Fox.Finite
public import proofs.«01_k».proof.Proof.Gen.ReferenceIdeal.Run

@[expose] public section

noncomputable section

open Idealize.ShloMosaic hiding ix1 ix2 ix3 ix4 eq_ix2
open Idealize.SL.Sem Idealize.ShloMosaic.TcCoe

namespace Cert.Fox

/-- With finite queries, keys and gates the kernel's result is the reference's. -/
theorem value : Cert.algebraic_KernelIdeal_ReferenceIdeal_pre_finite := by
  intro m g m' g' hpre hargs
  refine ⟨fun c => result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · refine (θ_run Cert.KernelIdeal.defs _ _).mono (fun r h c => ?_) (Cert.KernelIdeal.Value.run_blocks m g)
    exact ⟨(h c).1.trans (final m c), (h c).2⟩
  · refine (θ_run Cert.ReferenceIdeal.defs _ _).mono (fun r h c => ?_) (Cert.ReferenceIdeal.Value.run m' g')
    refine ⟨(h c).1.trans ((Cert.ReferenceIdeal.Read.val_main_v42_eq m' c).trans ?_), (h c).2⟩
    obtain ⟨h0, h1, h2, h3, h4⟩ := hargs c
    obtain ⟨p0, p1, p2⟩ := hpre c
    rw [h0, h1, h2, h3, h4]
    exact (result_eq (queries_real _ _ _ _ _ p0) (keys_real _ _ _ _ _ p1) (gates_real _ _ _ _ _ p2) _ _).symm

end Cert.Fox
-- ==== Proof.Norm.LayerNorm.lean ====
/-
  The layer normalisation of a row of 1024 numbers.
-/
module

public import Idealize.ShloMosaic.PureOps.Ideal.Laws

@[expose] public section

noncomputable section

open Idealize.ShloMosaic

namespace Cert.Norm

/-- The residual scale, the row's length and the variance's offset, as both programs write them. -/
def alpha : EReal := Ideal.ofBits .f32 0x3FB504F3#32
@[inherit_doc alpha] def len : EReal := Ideal.ofBits .f32 0x44800000#32
@[inherit_doc alpha] def eps : EReal := Ideal.ofBits .f32 0x3727C5AC#32

/-- The mean of a row. -/
def mean (Y : Fin 1024 → EReal) : EReal := Ideal.div (∑ k, Y k) len

/-- Entry `d` of the layer normalisation of the row `Y`, with scale `g` and shift `b` there. -/
def layerNorm (Y : Fin 1024 → EReal) (g b : EReal) (d : Fin 1024) : EReal :=
  (Y d - mean Y) * Ideal.rsqrt (mean (fun k => (Y k - mean Y) * (Y k - mean Y)) + eps) * g + b

end Cert.Norm
-- ==== Proof.Norm.Out2.lean ====
/-
  The output projection and layer normalisation of the first layer: what the call's result array holds, what the
  reference computes, and that they are equal.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Norm.LayerNorm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Norm.Out2

section

open Cert.Kernel2Ideal Cert.Kernel2Ideal.Gen

/-- Row `r` before it is normalised: the scaled residual plus the projection. -/
def row (x0 : FVec Ideal S32768x512 .bf16) (x1 : FVec Ideal S32768x512 .bf16) (x2 : FVec Ideal S1024x1024 .bf16) (x3 : FVec Ideal S32768x1024 .f32) (r : Fin 32768) (k : Fin 1024) : EReal :=
  alpha * x3 (ix2 r k) + ((∑ e : Fin 512, x0 (ix2 r e) * x2 (ix2 ⟨e.val, by omega⟩ k)) + ∑ e : Fin 512, x1 (ix2 r e) * x2 (ix2 ⟨512 + e.val, by omega⟩ k))

/-- The call's result. -/
def result (x0 : FVec Ideal S32768x512 .bf16) (x1 : FVec Ideal S32768x512 .bf16) (x2 : FVec Ideal S1024x1024 .bf16) (x3 : FVec Ideal S32768x1024 .f32) (x4 : FVec Ideal S1x1024 .f32) (x5 : FVec Ideal S1x1024 .f32) :
    FVec Ideal S32768x1024 .f32 := fun i =>
  layerNorm (row x0 x1 x2 x3 (i 0)) (x4 (ix2 0 (i 1))) (x5 (ix2 0 (i 1))) (i 1)

/-- What the body computes at a row and a column, from the blocks it loads. -/
theorem payload_apply (v0 : Vec Ideal S1024x1024 .f32) (v3 : Vec Ideal S1024x512 .bf16) (v4 : Vec Ideal S512x1024 .bf16)
    (v7 : Vec Ideal S1024x512 .bf16) (v8 : Vec Ideal S512x1024 .bf16) (v27 v30 : Vec Ideal S1x1024 .f32) (r d : Fin 1024) :
    k0_pay1 v0 v3 v4 v7 v8 v27 v30 (ix2 r d)
      = layerNorm (fun k => alpha * v0 (ix2 r k) + ((∑ e : Fin 512, v3 (ix2 r e) * v4 (ix2 e k))
          + ∑ e : Fin 512, v7 (ix2 r e) * v8 (ix2 e k))) (v27 (ix2 0 d)) (v30 (ix2 0 d)) d := by
  simp only [← add_assoc]
  pointwise [k0_pay1]
  rfl

/-- The block of window 0 at point `t`. -/
theorem index0 : ∀ t : Fin cfg0.N, win0_0.index t 0 = t.val ∧ win0_0.index t 1 = 0 :=
  (by decide +kernel : ∀ t : Fin grid0.N, win0_0.index t 0 = t.val ∧ win0_0.index t 1 = 0)

/-- The block of window 1 at point `t`. -/
theorem index1 : ∀ t : Fin cfg0.N, win0_1.index t 0 = t.val ∧ win0_1.index t 1 = 0 :=
  (by decide +kernel : ∀ t : Fin grid0.N, win0_1.index t 0 = t.val ∧ win0_1.index t 1 = 0)

/-- The block of window 2 at point `t`. -/
theorem index2 : ∀ t : Fin cfg0.N, win0_2.index t 0 = 0 ∧ win0_2.index t 1 = 0 :=
  (by decide +kernel : ∀ t : Fin grid0.N, win0_2.index t 0 = 0 ∧ win0_2.index t 1 = 0)

/-- The block of window 3 at point `t`. -/
theorem index3 : ∀ t : Fin cfg0.N, win0_3.index t 0 = t.val ∧ win0_3.index t 1 = 0 :=
  (by decide +kernel : ∀ t : Fin grid0.N, win0_3.index t 0 = t.val ∧ win0_3.index t 1 = 0)

/-- The block of window 4 at point `t`. -/
theorem index4 : ∀ t : Fin cfg0.N, win0_4.index t 0 = 0 ∧ win0_4.index t 1 = 0 :=
  (by decide +kernel : ∀ t : Fin grid0.N, win0_4.index t 0 = 0 ∧ win0_4.index t 1 = 0)

/-- The block of window 5 at point `t`. -/
theorem index5 : ∀ t : Fin cfg0.N, win0_5.index t 0 = 0 ∧ win0_5.index t 1 = 0 :=
  (by decide +kernel : ∀ t : Fin grid0.N, win0_5.index t 0 = 0 ∧ win0_5.index t 1 = 0)

/-- The block of window 6 at point `t`. -/
theorem index6 : ∀ t : Fin cfg0.N, win0_6.index t 0 = t.val ∧ win0_6.index t 1 = 0 :=
  (by decide +kernel : ∀ t : Fin grid0.N, win0_6.index t 0 = t.val ∧ win0_6.index t 1 = 0)

/-- The place in the sequence of row `r` of point `t`. -/
def at_ (t : Fin cfg0.N) (r : Fin 1024) : Fin 32768 :=
  ⟨t.val * 1024 + r.val, by have := t.isLt.trans_eq N_0; omega⟩

/-- Where window 0's block lies in its array. -/
theorem emb0 (t : Fin cfg0.N) (r : Fin 1024) (d : Fin 512) :
    ((cfg0.win 0).blk t).view.emb (ix2 r d) = ix2 (at_ t r) d := by
  obtain ⟨e0, e1⟩ := index0 t
  funext a; apply Fin.ext
  match a with
  | ⟨0, _⟩ => show win0_0.index t 0 * 1024 + 1 * r.val = t.val * 1024 + r.val; omega
  | ⟨1, _⟩ => show win0_0.index t 1 * 512 + 1 * d.val = d.val; omega

/-- Where window 1's block lies in its array. -/
theorem emb1 (t : Fin cfg0.N) (r : Fin 1024) (d : Fin 512) :
    ((cfg0.win 1).blk t).view.emb (ix2 r d) = ix2 (at_ t r) d := by
  obtain ⟨e0, e1⟩ := index1 t
  funext a; apply Fin.ext
  match a with
  | ⟨0, _⟩ => show win0_1.index t 0 * 1024 + 1 * r.val = t.val * 1024 + r.val; omega
  | ⟨1, _⟩ => show win0_1.index t 1 * 512 + 1 * d.val = d.val; omega

/-- Where window 2's block lies in its array. -/
theorem emb2 (t : Fin cfg0.N) (r : Fin 1024) (d : Fin 1024) :
    ((cfg0.win 2).blk t).view.emb (ix2 r d) = ix2 r d := by
  obtain ⟨e0, e1⟩ := index2 t
  funext a; apply Fin.ext
  match a with
  | ⟨0, _⟩ => show win0_2.index t 0 * 1024 + 1 * r.val = r.val; omega
  | ⟨1, _⟩ => show win0_2.index t 1 * 1024 + 1 * d.val = d.val; omega

/-- Where window 3's block lies in its array. -/
theorem emb3 (t : Fin cfg0.N) (r : Fin 1024) (d : Fin 1024) :
    ((cfg0.win 3).blk t).view.emb (ix2 r d) = ix2 (at_ t r) d := by
  obtain ⟨e0, e1⟩ := index3 t
  funext a; apply Fin.ext
  match a with
  | ⟨0, _⟩ => show win0_3.index t 0 * 1024 + 1 * r.val = t.val * 1024 + r.val; omega
  | ⟨1, _⟩ => show win0_3.index t 1 * 1024 + 1 * d.val = d.val; omega

/-- Where window 4's block lies in its array. -/
theorem emb4 (t : Fin cfg0.N) (r : Fin 1) (d : Fin 1024) :
    ((cfg0.win 4).blk t).view.emb (ix2 r d) = ix2 r d := by
  obtain ⟨e0, e1⟩ := index4 t
  funext a; apply Fin.ext
  match a with
  | ⟨0, _⟩ => show win0_4.index t 0 * 1 + 1 * r.val = r.val; omega
  | ⟨1, _⟩ => show win0_4.index t 1 * 1024 + 1 * d.val = d.val; omega

/-- Where window 5's block lies in its array. -/
theorem emb5 (t : Fin cfg0.N) (r : Fin 1) (d : Fin 1024) :
    ((cfg0.win 5).blk t).view.emb (ix2 r d) = ix2 r d := by
  obtain ⟨e0, e1⟩ := index5 t
  funext a; apply Fin.ext
  match a with
  | ⟨0, _⟩ => show win0_5.index t 0 * 1 + 1 * r.val = r.val; omega
  | ⟨1, _⟩ => show win0_5.index t 1 * 1024 + 1 * d.val = d.val; omega

/-- Where window 6's block lies in its array. -/
theorem emb6 (t : Fin cfg0.N) (r : Fin 1024) (d : Fin 1024) :
    ((cfg0.win 6).blk t).view.emb (ix2 r d) = ix2 (at_ t r) d := by
  obtain ⟨e0, e1⟩ := index6 t
  funext a; apply Fin.ext
  match a with
  | ⟨0, _⟩ => show win0_6.index t 0 * 1024 + 1 * r.val = t.val * 1024 + r.val; omega
  | ⟨1, _⟩ => show win0_6.index t 1 * 1024 + 1 * d.val = d.val; omega

variable (m : (ℓ : Loc nD τ sig) → Buf (Elt Ideal) ℓ)

/-- What point `t` computes is its block of the result. -/
theorem flushed_eq (c : Dev nD) (t : Fin cfg0.N) :
    (dats m 0 c).flushed 6 t = ((cfg0.win 6).blk t).view.read (Elt Ideal)
      (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed6]
  have whole : out0_6 (iblk m c 0 t) (iblk m c 1 t) (iblk m c 2 t) (iblk m c 3 t) (iblk m c 4 t) (iblk m c 5 t) = k0_pay1 (View.ld (iblk m c 3 t) r0_0) (View.ld (iblk m c 0 t) r0_1) (View.ld (iblk m c 2 t) r0_2) (View.ld (iblk m c 1 t) r0_1) (View.ld (iblk m c 2 t) r0_3) (View.ld (iblk m c 4 t) r0_4) (View.ld (iblk m c 5 t) r0_4) :=
    View.canon_cons_unit_lit _ _ [] (by decide)
  have point : ∀ (r d : Fin 1024), out0_6 (iblk m c 0 t) (iblk m c 1 t) (iblk m c 2 t) (iblk m c 3 t) (iblk m c 4 t) (iblk m c 5 t) (ix2 r d)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (at_ t r) d) := fun r d => by
    refine (congrFun whole _).trans ((payload_apply _ _ _ _ _ _ _ r d).trans ?_)
    refine congr (congr (congr (congrArg layerNorm (funext fun k => ?_)) ?_) ?_) rfl
    · refine congrArg₂ (· + ·) (congrArg (alpha * ·) ?_) ?_
      · exact (View.ld_unit_apply_of _ _ _ _ _ (ix2 r k) (fun a => match a with | ⟨0, _⟩ => (Nat.zero_add _).symm | ⟨1, _⟩ => (Nat.zero_add _).symm)).trans (congrArg (m ((c : Thread nD τ).loc main_arg3)) (emb3 t r k))
      · refine congrArg₂ (· + ·) ?_ ?_
        · refine Finset.sum_congr rfl fun e _ => congrArg₂ (· * ·) ?_ ?_
          · exact (View.ld_unit_apply_of _ _ _ _ _ (ix2 r e) (fun a => match a with | ⟨0, _⟩ => (Nat.zero_add _).symm | ⟨1, _⟩ => (Nat.zero_add _).symm)).trans (congrArg (m ((c : Thread nD τ).loc main_arg0)) (emb0 t r e))
          · exact (View.ld_unit_apply_of _ _ _ _ _ (ix2 ⟨e.val, by omega⟩ k) (fun a => match a with | ⟨0, _⟩ => (Nat.zero_add _).symm | ⟨1, _⟩ => (Nat.zero_add _).symm)).trans (congrArg (m ((c : Thread nD τ).loc main_arg2)) (emb2 t ⟨e.val, by omega⟩ k))
        · refine Finset.sum_congr rfl fun e _ => congrArg₂ (· * ·) ?_ ?_
          · exact (View.ld_unit_apply_of _ _ _ _ _ (ix2 r e) (fun a => match a with | ⟨0, _⟩ => (Nat.zero_add _).symm | ⟨1, _⟩ => (Nat.zero_add _).symm)).trans (congrArg (m ((c : Thread nD τ).loc main_arg1)) (emb1 t r e))
          · exact (View.ld_unit_apply_of _ _ _ _ _ (ix2 ⟨512 + e.val, by omega⟩ k) (fun a => match a with | ⟨0, _⟩ => rfl | ⟨1, _⟩ => (Nat.zero_add _).symm)).trans (congrArg (m ((c : Thread nD τ).loc main_arg2)) (emb2 t ⟨512 + e.val, by omega⟩ k))
    · exact (View.ld_unit_apply_of _ _ _ _ _ (ix2 0 d) (fun a => match a with | ⟨0, _⟩ => (Nat.zero_add _).symm | ⟨1, _⟩ => (Nat.zero_add _).symm)).trans (congrArg (m ((c : Thread nD τ).loc main_arg4)) (emb4 t 0 d))
    · exact (View.ld_unit_apply_of _ _ _ _ _ (ix2 0 d) (fun a => match a with | ⟨0, _⟩ => (Nat.zero_add _).symm | ⟨1, _⟩ => (Nat.zero_add _).symm)).trans (congrArg (m ((c : Thread nD τ).loc main_arg5)) (emb5 t 0 d))
  funext y
  have hy : (y : S1024x1024.Idx) = ix2 (y 0) (y 1) := eq_ix2 y
  refine Eq.trans ?_ (congrArg (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) ((congrArg _ hy).trans (emb6 t (y 0) (y 1)))).symm
  exact (congrArg (out0_6 (iblk m c 0 t) (iblk m c 1 t) (iblk m c 2 t) (iblk m c 3 t) (iblk m c 4 t) (iblk m c 5 t)) hy).trans (point (y 0) (y 1))

/-- Every entry of the result is in some point's block. -/
theorem covered (i : S32768x1024.Idx) :
    ∃ t : Fin cfg0.N, (cfg0.win 6).flush t = true ∧ i ∈ ((cfg0.win 6).blk t).view.set := by
  have h0 : (i 0).val < 32768 := (i 0).isLt
  have hN : cfg0.N = 32 := N_0
  refine ⟨⟨(i 0).val / 1024, lt_of_lt_of_eq (by omega) hN.symm⟩, flush0_6 _, ?_⟩
  have h := ((cfg0.win 6).blk ⟨(i 0).val / 1024, lt_of_lt_of_eq (by omega) hN.symm⟩).view.emb_mem_set
    (ix2 ⟨(i 0).val % 1024, by omega⟩ (i 1))
  refine Eq.mp (congrArg (· ∈ _) ?_) h
  refine (emb6 _ _ _).trans ?_
  funext a; apply Fin.ext
  match a with
  | ⟨0, _⟩ => show (i 0).val / 1024 * 1024 + (i 0).val % 1024 = (i 0).val; omega
  | ⟨1, _⟩ => rfl

/-- The result array after the run. -/
theorem final (c : Dev nD) : (dats m 0 c).arrAt 6 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m c t) covered

end

section

open Cert.Reference2Ideal Cert.Reference2Ideal.Gen Cert.Reference2Ideal.Read

/-- The reference's result is the call's. -/
theorem reference_eq (x0 : FVec Ideal S32768x512 .bf16) (x1 : FVec Ideal S32768x512 .bf16) (x2 : FVec Ideal S1024x1024 .bf16) (x3 : FVec Ideal S32768x1024 .f32) (x4 : FVec Ideal S1x1024 .f32) (x5 : FVec Ideal S1x1024 .f32) :
    val_main_v33 (F := Ideal) x0 x1 x2 x3 x4 x5 = result x0 x1 x2 x3 x4 x5 := by
  funext i
  have hi : i = ix2 (i 0) (i 1) := eq_ix2 i
  have key : ∀ (r : Fin 32768) (d : Fin 1024), val_main_v33 (F := Ideal) x0 x1 x2 x3 x4 x5 (ix2 r d) = result x0 x1 x2 x3 x4 x5 (ix2 r d) := fun r d => by
    pointwise [val_main_v0, val_main_v1, val_main_v2, val_main_v3, val_main_v4, val_main_cst, val_main_v5, val_main_v6, val_main_v7, val_main_v8, val_main_v9, val_main_cst_0, val_main_v10, val_main_v11, val_main_cst_1, val_main_v12, val_main_v13, val_main_v14, val_main_v15, val_main_v16, val_main_cst_2, val_main_v17, val_main_v18, val_main_cst_3, val_main_v19, val_main_v20, val_main_v21, val_main_v22, val_main_cst_4, val_main_v23, val_main_v24, val_main_v25, val_main_v26, val_main_v27, val_main_v28, val_main_v29, val_main_v30, val_main_v31, val_main_v32, val_main_v33]
    rfl
  exact (congrArg (val_main_v33 (F := Ideal) x0 x1 x2 x3 x4 x5) hi).trans ((key (i 0) (i 1)).trans (congrArg (result x0 x1 x2 x3 x4 x5) hi).symm)

end

/-- The two programs end with the same result. -/
theorem value : Cert.algebraic_Kernel2Ideal_Reference2Ideal := by
  intro m g m' g' _ hargs
  refine ⟨fun c => result (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)), ?_, ?_⟩
  · refine (θ_run Cert.Kernel2Ideal.defs _ _).mono (fun r h c => ?_) (Cert.Kernel2Ideal.Value.run_blocks m g)
    exact ⟨(h c).1.trans (final m c), (h c).2⟩
  · refine (θ_run Cert.Reference2Ideal.defs _ _).mono (fun r h c => ?_) (Cert.Reference2Ideal.Value.run m' g')
    refine ⟨(h c).1.trans ((Cert.Reference2Ideal.Read.val_main_v33_eq m' c).trans ?_), (h c).2⟩
    obtain ⟨h0, h1, h2, h3, h4, h5⟩ := hargs c
    rw [h0, h1, h2, h3, h4, h5]
    exact reference_eq _ _ _ _ _ _

end Cert.Norm.Out2
-- ==== Proof.Norm.Out3.lean ====
/-
  The output projection and layer normalisation of the second layer: what the call's result array holds, what the
  reference computes, and that they are equal.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Norm.LayerNorm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Norm.Out3

section

open Cert.Kernel3Ideal Cert.Kernel3Ideal.Gen

/-- Row `r` before it is normalised: the scaled residual plus the projection. -/
def row (x0 : FVec Ideal S32768x1024 .bf16) (x1 : FVec Ideal S1024x1024 .bf16) (x2 : FVec Ideal S32768x1024 .f32) (r : Fin 32768) (k : Fin 1024) : EReal :=
  alpha * x2 (ix2 r k) + ∑ e : Fin 1024, x0 (ix2 r e) * x1 (ix2 e k)

/-- The call's result. -/
def result (x0 : FVec Ideal S32768x1024 .bf16) (x1 : FVec Ideal S1024x1024 .bf16) (x2 : FVec Ideal S32768x1024 .f32) (x3 : FVec Ideal S1x1024 .f32) (x4 : FVec Ideal S1x1024 .f32) :
    FVec Ideal S32768x1024 .f32 := fun i =>
  layerNorm (row x0 x1 x2 (i 0)) (x3 (ix2 0 (i 1))) (x4 (ix2 0 (i 1))) (i 1)

/-- What the body computes at a row and a column, from the blocks it loads. -/
theorem payload_apply (v0 : Vec Ideal S1024x1024 .f32) (v3 : Vec Ideal S1024x1024 .bf16) (v4 : Vec Ideal S1024x1024 .bf16)
    (g b : Vec Ideal S1x1024 .f32) (r d : Fin 1024) :
    k0_pay1 v0 v3 v4 g b (ix2 r d)
      = layerNorm (fun k => alpha * v0 (ix2 r k) + ∑ e : Fin 1024, v3 (ix2 r e) * v4 (ix2 e k)) (g (ix2 0 d)) (b (ix2 0 d)) d := by
  pointwise [k0_pay1]
  rfl

/-- The block of window 0 at point `t`. -/
theorem index0 : ∀ t : Fin cfg0.N, win0_0.index t 0 = t.val ∧ win0_0.index t 1 = 0 :=
  (by decide +kernel : ∀ t : Fin grid0.N, win0_0.index t 0 = t.val ∧ win0_0.index t 1 = 0)

/-- The block of window 1 at point `t`. -/
theorem index1 : ∀ t : Fin cfg0.N, win0_1.index t 0 = 0 ∧ win0_1.index t 1 = 0 :=
  (by decide +kernel : ∀ t : Fin grid0.N, win0_1.index t 0 = 0 ∧ win0_1.index t 1 = 0)

/-- The block of window 2 at point `t`. -/
theorem index2 : ∀ t : Fin cfg0.N, win0_2.index t 0 = t.val ∧ win0_2.index t 1 = 0 :=
  (by decide +kernel : ∀ t : Fin grid0.N, win0_2.index t 0 = t.val ∧ win0_2.index t 1 = 0)

/-- The block of window 3 at point `t`. -/
theorem index3 : ∀ t : Fin cfg0.N, win0_3.index t 0 = 0 ∧ win0_3.index t 1 = 0 :=
  (by decide +kernel : ∀ t : Fin grid0.N, win0_3.index t 0 = 0 ∧ win0_3.index t 1 = 0)

/-- The block of window 4 at point `t`. -/
theorem index4 : ∀ t : Fin cfg0.N, win0_4.index t 0 = 0 ∧ win0_4.index t 1 = 0 :=
  (by decide +kernel : ∀ t : Fin grid0.N, win0_4.index t 0 = 0 ∧ win0_4.index t 1 = 0)

/-- The block of window 5 at point `t`. -/
theorem index5 : ∀ t : Fin cfg0.N, win0_5.index t 0 = t.val ∧ win0_5.index t 1 = 0 :=
  (by decide +kernel : ∀ t : Fin grid0.N, win0_5.index t 0 = t.val ∧ win0_5.index t 1 = 0)

/-- The place in the sequence of row `r` of point `t`. -/
def at_ (t : Fin cfg0.N) (r : Fin 1024) : Fin 32768 :=
  ⟨t.val * 1024 + r.val, by have := t.isLt.trans_eq N_0; omega⟩

/-- Where window 0's block lies in its array. -/
theorem emb0 (t : Fin cfg0.N) (r : Fin 1024) (d : Fin 1024) :
    ((cfg0.win 0).blk t).view.emb (ix2 r d) = ix2 (at_ t r) d := by
  obtain ⟨e0, e1⟩ := index0 t
  funext a; apply Fin.ext
  match a with
  | ⟨0, _⟩ => show win0_0.index t 0 * 1024 + 1 * r.val = t.val * 1024 + r.val; omega
  | ⟨1, _⟩ => show win0_0.index t 1 * 1024 + 1 * d.val = d.val; omega

/-- Where window 1's block lies in its array. -/
theorem emb1 (t : Fin cfg0.N) (r : Fin 1024) (d : Fin 1024) :
    ((cfg0.win 1).blk t).view.emb (ix2 r d) = ix2 r d := by
  obtain ⟨e0, e1⟩ := index1 t
  funext a; apply Fin.ext
  match a with
  | ⟨0, _⟩ => show win0_1.index t 0 * 1024 + 1 * r.val = r.val; omega
  | ⟨1, _⟩ => show win0_1.index t 1 * 1024 + 1 * d.val = d.val; omega

/-- Where window 2's block lies in its array. -/
theorem emb2 (t : Fin cfg0.N) (r : Fin 1024) (d : Fin 1024) :
    ((cfg0.win 2).blk t).view.emb (ix2 r d) = ix2 (at_ t r) d := by
  obtain ⟨e0, e1⟩ := index2 t
  funext a; apply Fin.ext
  match a with
  | ⟨0, _⟩ => show win0_2.index t 0 * 1024 + 1 * r.val = t.val * 1024 + r.val; omega
  | ⟨1, _⟩ => show win0_2.index t 1 * 1024 + 1 * d.val = d.val; omega

/-- Where window 3's block lies in its array. -/
theorem emb3 (t : Fin cfg0.N) (r : Fin 1) (d : Fin 1024) :
    ((cfg0.win 3).blk t).view.emb (ix2 r d) = ix2 r d := by
  obtain ⟨e0, e1⟩ := index3 t
  funext a; apply Fin.ext
  match a with
  | ⟨0, _⟩ => show win0_3.index t 0 * 1 + 1 * r.val = r.val; omega
  | ⟨1, _⟩ => show win0_3.index t 1 * 1024 + 1 * d.val = d.val; omega

/-- Where window 4's block lies in its array. -/
theorem emb4 (t : Fin cfg0.N) (r : Fin 1) (d : Fin 1024) :
    ((cfg0.win 4).blk t).view.emb (ix2 r d) = ix2 r d := by
  obtain ⟨e0, e1⟩ := index4 t
  funext a; apply Fin.ext
  match a with
  | ⟨0, _⟩ => show win0_4.index t 0 * 1 + 1 * r.val = r.val; omega
  | ⟨1, _⟩ => show win0_4.index t 1 * 1024 + 1 * d.val = d.val; omega

/-- Where window 5's block lies in its array. -/
theorem emb5 (t : Fin cfg0.N) (r : Fin 1024) (d : Fin 1024) :
    ((cfg0.win 5).blk t).view.emb (ix2 r d) = ix2 (at_ t r) d := by
  obtain ⟨e0, e1⟩ := index5 t
  funext a; apply Fin.ext
  match a with
  | ⟨0, _⟩ => show win0_5.index t 0 * 1024 + 1 * r.val = t.val * 1024 + r.val; omega
  | ⟨1, _⟩ => show win0_5.index t 1 * 1024 + 1 * d.val = d.val; omega

variable (m : (ℓ : Loc nD τ sig) → Buf (Elt Ideal) ℓ)

/-- What point `t` computes is its block of the result. -/
theorem flushed_eq (c : Dev nD) (t : Fin cfg0.N) :
    (dats m 0 c).flushed 5 t = ((cfg0.win 5).blk t).view.read (Elt Ideal)
      (result (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5]
  have whole : out0_5 (iblk m c 0 t) (iblk m c 1 t) (iblk m c 2 t) (iblk m c 3 t) (iblk m c 4 t) = k0_pay1 (View.ld (iblk m c 2 t) r0_0) (View.ld (iblk m c 0 t) r0_0) (View.ld (iblk m c 1 t) r0_0) (View.ld (iblk m c 3 t) r0_1) (View.ld (iblk m c 4 t) r0_1) :=
    View.canon_cons_unit_lit _ _ [] (by decide)
  have point : ∀ (r d : Fin 1024), out0_5 (iblk m c 0 t) (iblk m c 1 t) (iblk m c 2 t) (iblk m c 3 t) (iblk m c 4 t) (ix2 r d)
      = result (m ((c : Thread nD τ).loc main_arg0)) (m ((c : Thread nD τ).loc main_arg1)) (m ((c : Thread nD τ).loc main_arg2)) (m ((c : Thread nD τ).loc main_arg3)) (m ((c : Thread nD τ).loc main_arg4)) (ix2 (at_ t r) d) := fun r d => by
    refine (congrFun whole _).trans ((payload_apply _ _ _ _ _ r d).trans ?_)
    refine congr (congr (congr (congrArg layerNorm (funext fun k => ?_)) ?_) ?_) rfl
    · refine congrArg₂ (· + ·) (congrArg (alpha * ·) ?_) ?_
      · exact (View.ld_unit_apply_of _ _ _ _ _ (ix2 r k) (fun a => match a with | ⟨0, _⟩ => (Nat.zero_add _).symm | ⟨1, _⟩ => (Nat.zero_add _).symm)).trans (congrArg (m ((c : Thread nD τ).loc main_arg2)) (emb2 t r k))
      · refine Finset.sum_congr rfl fun e _ => congrArg₂ (· * ·) ?_ ?_
        · exact (View.ld_unit_apply_of _ _ _ _ _ (ix2 r e) (fun a => match a with | ⟨0, _⟩ => (Nat.zero_add _).symm | ⟨1, _⟩ => (Nat.zero_add _).symm)).trans (congrArg (m ((c : Thread nD τ).loc main_arg0)) (emb0 t r e))
        · exact (View.ld_unit_apply_of _ _ _ _ _ (ix2 e k) (fun a => match a with | ⟨0, _⟩ => (Nat.zero_add _).symm | ⟨1, _⟩ => (Nat.zero_add _).symm)).trans (congrArg (m ((c : Thread nD τ).loc main_arg1)) (emb1 t e k))
    · exact (View.ld_unit_apply_of _ _ _ _ _ (ix2 0 d) (fun a => match a with | ⟨0, _⟩ => (Nat.zero_add _).symm | ⟨1, _⟩ => (Nat.zero_add _).symm)).trans (congrArg (m ((c : Thread nD τ).loc main_arg3)) (emb3 t 0 d))
    · exact (View.ld_unit_apply_of _ _ _ _ _ (ix2 0 d) (fun a => match a with | ⟨0, _⟩ => (Nat.zero_add _).symm | ⟨1, _⟩ => (Nat.zero_add _).symm)).trans (congrArg (m ((c : Thread nD τ).loc main_arg4)) (emb4 t 0 d))
  funext y
  have hy : (y : S1024x1024.Idx) = ix2 (y 0) (y 1) := eq_ix2 y
  refine Eq.trans ?_ (congrArg (result (m ((c : Thread nD τ).loc main_arg0)) (m ((c : Thread nD τ).loc main_arg1)) (m ((c : Thread nD τ).loc main_arg2)) (m ((c : Thread nD τ).loc main_arg3)) (m ((c : Thread nD τ).loc main_arg4))) ((congrArg _ hy).trans (emb5 t (y 0) (y 1)))).symm
  exact (congrArg (out0_5 (iblk m c 0 t) (iblk m c 1 t) (iblk m c 2 t) (iblk m c 3 t) (iblk m c 4 t)) hy).trans (point (y 0) (y 1))

/-- Every entry of the result is in some point's block. -/
theorem covered (i : S32768x1024.Idx) :
    ∃ t : Fin cfg0.N, (cfg0.win 5).flush t = true ∧ i ∈ ((cfg0.win 5).blk t).view.set := by
  have h0 : (i 0).val < 32768 := (i 0).isLt
  have hN : cfg0.N = 32 := N_0
  refine ⟨⟨(i 0).val / 1024, lt_of_lt_of_eq (by omega) hN.symm⟩, flush0_5 _, ?_⟩
  have h := ((cfg0.win 5).blk ⟨(i 0).val / 1024, lt_of_lt_of_eq (by omega) hN.symm⟩).view.emb_mem_set
    (ix2 ⟨(i 0).val % 1024, by omega⟩ (i 1))
  refine Eq.mp (congrArg (· ∈ _) ?_) h
  refine (emb5 _ _ _).trans ?_
  funext a; apply Fin.ext
  match a with
  | ⟨0, _⟩ => show (i 0).val / 1024 * 1024 + (i 0).val % 1024 = (i 0).val; omega
  | ⟨1, _⟩ => rfl

/-- The result array after the run. -/
theorem final (c : Dev nD) : (dats m 0 c).arrAt 5 cfg0.N = result (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) covered

end

section

open Cert.Reference3Ideal Cert.Reference3Ideal.Gen Cert.Reference3Ideal.Read

/-- The reference's result is the call's. -/
theorem reference_eq (x0 : FVec Ideal S32768x1024 .bf16) (x1 : FVec Ideal S1024x1024 .bf16) (x2 : FVec Ideal S32768x1024 .f32) (x3 : FVec Ideal S1x1024 .f32) (x4 : FVec Ideal S1x1024 .f32) :
    val_main_v31 (F := Ideal) x0 x1 x2 x3 x4 = result x0 x1 x2 x3 x4 := by
  funext i
  have hi : i = ix2 (i 0) (i 1) := eq_ix2 i
  have key : ∀ (r : Fin 32768) (d : Fin 1024), val_main_v31 (F := Ideal) x0 x1 x2 x3 x4 (ix2 r d) = result x0 x1 x2 x3 x4 (ix2 r d) := fun r d => by
    pointwise [val_main_v0, val_main_v1, val_main_v2, val_main_cst, val_main_v3, val_main_v4, val_main_v5, val_main_v6, val_main_v7, val_main_cst_0, val_main_v8, val_main_v9, val_main_cst_1, val_main_v10, val_main_v11, val_main_v12, val_main_v13, val_main_v14, val_main_cst_2, val_main_v15, val_main_v16, val_main_cst_3, val_main_v17, val_main_v18, val_main_v19, val_main_v20, val_main_cst_4, val_main_v21, val_main_v22, val_main_v23, val_main_v24, val_main_v25, val_main_v26, val_main_v27, val_main_v28, val_main_v29, val_main_v30, val_main_v31]
    rfl
  exact (congrArg (val_main_v31 (F := Ideal) x0 x1 x2 x3 x4) hi).trans ((key (i 0) (i 1)).trans (congrArg (result x0 x1 x2 x3 x4) hi).symm)

end

/-- The two programs end with the same result. -/
theorem value : Cert.algebraic_Kernel3Ideal_Reference3Ideal := by
  intro m g m' g' _ hargs
  refine ⟨fun c => result (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)), ?_, ?_⟩
  · refine (θ_run Cert.Kernel3Ideal.defs _ _).mono (fun r h c => ?_) (Cert.Kernel3Ideal.Value.run_blocks m g)
    exact ⟨(h c).1.trans (final m c), (h c).2⟩
  · refine (θ_run Cert.Reference3Ideal.defs _ _).mono (fun r h c => ?_) (Cert.Reference3Ideal.Value.run m' g')
    refine ⟨(h c).1.trans ((Cert.Reference3Ideal.Read.val_main_v31_eq _ _ _ _ _ ).trans ?_), (h c).2⟩
    obtain ⟨h0, h1, h2, h3, h4⟩ := hargs c
    rw [h0, h1, h2, h3, h4]
    exact reference_eq _ _ _ _ _

end Cert.Norm.Out3
-- ==== Proof.Inproj.Payloads.lean ====
/-
  What the body of the second layer's input projection computes at a row and a column, store by store, from the values
  it loads: products of a row with a column, the four-tap convolution, the activations.
-/
module

public import proofs.«01_k».proof.Proof.Gen.Kernel4Ideal.Frame
public import Idealize.ShloMosaic.Lib.Pointwise

@[expose] public section

set_option maxRecDepth 16384

noncomputable section

open Idealize.ShloMosaic
open Cert.Kernel4Ideal Cert.Kernel4Ideal.Gen

namespace Cert.Inproj

/-- One half, as the body spells it. -/
def half : EReal := Ideal.ofBits .f32 1056964608#32

/-- The keys' scale, as the body spells it. -/
def scale : EReal := Ideal.ofBits .f32 1035273459#32

/-- The body's SiLU, through the hyperbolic tangent. -/
def siluT (z : EReal) : EReal := half * z + half * z * Ideal.tanh (half * z)

/-- The body's sigmoid, through the hyperbolic tangent. -/
def sigmoidT (z : EReal) : EReal := half + half * Ideal.tanh (half * z)

/-- A row times a column. -/
def dot (x w : Fin 1024 → EReal) : EReal := ∑ e : Fin 1024, x e * w e

/-- The four-tap convolution with its bias. -/
def taps (b c0 c1 c2 c3 u0 u1 u2 u3 : EReal) : EReal := b + c0 * u0 + c1 * u1 + c2 * u2 + c3 * u3

variable (v : FVec Ideal S1024x1024 .bf16) (w : Vec Ideal S1024x256 .bf16) (r : Fin 1024) (d : Fin 256)
  (b c0 c1 c2 c3 : Vec Ideal S1x256 .f32) (u0 u1 u2 u3 : Vec Ideal S1024x256 .f32)

/-- The block of tokens, without its unit axis. -/
theorem tokens_apply (x0 : Vec Ideal S1x1024x1024 .f32) (e : Fin 1024) : k0_pay2 x0 (ix2 r e) = x0 (ix3 0 r e) := by
  pointwise [k0_pay2]

/-- Chunk 0 of the convolution's input. -/
theorem conv_in0 : k0_pay12 v w (ix2 r d) = dot (fun e => v (ix2 r e)) (fun e => w (ix2 e d)) := by
  pointwise [k0_pay12]
  rfl

/-- Chunk 1 of the convolution's input. -/
theorem conv_in1 : k0_pay20 v w (ix2 r d) = dot (fun e => v (ix2 r e)) (fun e => w (ix2 e d)) := by
  pointwise [k0_pay20]
  rfl

/-- Chunk 2 of the convolution's input. -/
theorem conv_in2 : k0_pay28 v w (ix2 r d) = dot (fun e => v (ix2 r e)) (fun e => w (ix2 e d)) := by
  pointwise [k0_pay28]
  rfl

/-- Chunk 3 of the convolution's input. -/
theorem conv_in3 : k0_pay35 v w (ix2 r d) = dot (fun e => v (ix2 r e)) (fun e => w (ix2 e d)) := by
  pointwise [k0_pay35]
  rfl

/-- Chunk 0 of the values. -/
theorem values0 : k0_pay16 v w (ix3 0 r d) = dot (fun e => v (ix2 r e)) (fun e => w (ix2 e d)) := by
  pointwise [k0_pay16]
  rfl

/-- Chunk 1 of the values. -/
theorem values1 : k0_pay25 (k0_pay24 v w) (ix3 0 r d) = dot (fun e => v (ix2 r e)) (fun e => w (ix2 e d)) := by
  pointwise [k0_pay25, k0_pay24]
  rfl

/-- Chunk 2 of the values. -/
theorem values2 : k0_pay32 v w (ix3 0 r d) = dot (fun e => v (ix2 r e)) (fun e => w (ix2 e d)) := by
  pointwise [k0_pay32]
  rfl

/-- Chunk 3 of the values. -/
theorem values3 : k0_pay39 v w (ix3 0 r d) = dot (fun e => v (ix2 r e)) (fun e => w (ix2 e d)) := by
  pointwise [k0_pay39]
  rfl

/-- Chunk 0 of the memory's output gate. -/
theorem ogate0 : k0_pay18 (k0_pay17 v w) (Ideal.ofBits .f32 1056964608#32) (ix3 0 r d) = sigmoidT (dot (fun e => v (ix2 r e)) (fun e => w (ix2 e d))) := by
  pointwise [k0_pay18, k0_pay17]
  rfl

/-- Chunk 1 of the memory's output gate. -/
theorem ogate1 : k0_pay26 v w (ix3 0 r d) = sigmoidT (dot (fun e => v (ix2 r e)) (fun e => w (ix2 e d))) := by
  pointwise [k0_pay26]
  rfl

/-- Chunk 2 of the memory's output gate. -/
theorem ogate2 : k0_pay33 v w (ix3 0 r d) = sigmoidT (dot (fun e => v (ix2 r e)) (fun e => w (ix2 e d))) := by
  pointwise [k0_pay33]
  rfl

/-- Chunk 3 of the memory's output gate. -/
theorem ogate3 : k0_pay40 v w (ix3 0 r d) = sigmoidT (dot (fun e => v (ix2 r e)) (fun e => w (ix2 e d))) := by
  pointwise [k0_pay40]
  rfl

/-- Chunk 0 of the last gate. -/
theorem zgate0 : k0_pay19 v w (ix3 0 r d) = siluT (dot (fun e => v (ix2 r e)) (fun e => w (ix2 e d))) := by
  pointwise [k0_pay19]
  rfl

/-- Chunk 1 of the last gate. -/
theorem zgate1 : k0_pay27 v w (ix3 0 r d) = siluT (dot (fun e => v (ix2 r e)) (fun e => w (ix2 e d))) := by
  pointwise [k0_pay27]
  rfl

/-- Chunk 2 of the last gate. -/
theorem zgate2 : k0_pay34 v w (ix3 0 r d) = siluT (dot (fun e => v (ix2 r e)) (fun e => w (ix2 e d))) := by
  pointwise [k0_pay34]
  rfl

/-- Chunk 3 of the last gate. -/
theorem zgate3 : k0_pay1 (k0_pay41 v w) (k0_pay42 v w) (ix3 0 r d) = siluT (dot (fun e => v (ix2 r e)) (fun e => w (ix2 e d))) := by
  pointwise [k0_pay1, k0_pay41, k0_pay42]
  rfl

/-- Chunk 0 of the queries. -/
theorem query0 : k0_pay15 (k0_pay13 b c0 u0 c1 u1) c2 u2 c3 u3 (ix3 0 r d)
    = siluT (taps (b (ix2 0 d)) (c0 (ix2 0 d)) (c1 (ix2 0 d)) (c2 (ix2 0 d)) (c3 (ix2 0 d)) (u0 (ix2 r d)) (u1 (ix2 r d)) (u2 (ix2 r d)) (u3 (ix2 r d))) := by
  pointwise [k0_pay15, k0_pay13]
  rfl

/-- Chunk 1 of the queries. -/
theorem query1 : k0_pay23 (k0_pay21 b c0 u0) c1 u1 c2 u2 c3 u3 (ix3 0 r d)
    = siluT (taps (b (ix2 0 d)) (c0 (ix2 0 d)) (c1 (ix2 0 d)) (c2 (ix2 0 d)) (c3 (ix2 0 d)) (u0 (ix2 r d)) (u1 (ix2 r d)) (u2 (ix2 r d)) (u3 (ix2 r d))) := by
  pointwise [k0_pay23, k0_pay21]
  rfl

/-- Chunk 0 of the keys. -/
theorem key0 : k0_pay31 (k0_pay30 b c0 u0 c1 u1 c2 u2 c3 u3) (ix3 0 r d)
    = siluT (taps (b (ix2 0 d)) (c0 (ix2 0 d)) (c1 (ix2 0 d)) (c2 (ix2 0 d)) (c3 (ix2 0 d)) (u0 (ix2 r d)) (u1 (ix2 r d)) (u2 (ix2 r d)) (u3 (ix2 r d))) * scale := by
  pointwise [k0_pay31, k0_pay30]
  rfl

/-- Chunk 1 of the keys. -/
theorem key1 : k0_pay38 (k0_pay37 b c0 u0 c1 u1 c2 u2 c3 u3) (ix3 0 r d)
    = siluT (taps (b (ix2 0 d)) (c0 (ix2 0 d)) (c1 (ix2 0 d)) (c2 (ix2 0 d)) (c3 (ix2 0 d)) (u0 (ix2 r d)) (u1 (ix2 r d)) (u2 (ix2 r d)) (u3 (ix2 r d))) * scale := by
  pointwise [k0_pay38, k0_pay37]
  rfl

/-- The rows kept for the next tile, chunk 0. -/
theorem keep0 (x : Vec Ideal S8x256 .f32) (y : S8x256.Idx) : k0_pay14 x y = x y := by
  unfold k0_pay14
  simp only [shapeCast_self]

/-- The rows kept for the next tile, chunk 1. -/
theorem keep1 (x : Vec Ideal S8x256 .f32) (y : S8x256.Idx) : k0_pay22 x y = x y := by
  unfold k0_pay22
  simp only [shapeCast_self]

/-- The rows kept for the next tile, chunk 2. -/
theorem keep2 (x : Vec Ideal S8x256 .f32) (y : S8x256.Idx) : k0_pay29 x y = x y := by
  unfold k0_pay29
  simp only [shapeCast_self]

/-- The rows kept for the next tile, chunk 3. -/
theorem keep3 (x : Vec Ideal S8x256 .f32) (y : S8x256.Idx) : k0_pay36 x y = x y := by
  unfold k0_pay36
  simp only [shapeCast_self]

/-- The rows before the sequence are zeros. -/
theorem zeros (y : S8x1024.Idx) : k0_pay11 (F := Ideal) y = 0 := by
  have hy : y = ix2 (y 0) (y 1) := eq_ix2 y
  rw [hy]
  pointwise [k0_pay11]

end Cert.Inproj
-- ==== Proof.Inproj.Buffer.lean ====
/-
  The scratch buffer of the second layer's input projection: eight rows kept from the tile before, then the tile's own
  rows, filled, read and kept for the next tile in chunks of 256 columns.
-/
module

public import proofs.«01_k».proof.Proof.Gen.Kernel4Ideal.Frame
public import Idealize.ShloMosaic.Lib.WritesUnit
public import Idealize.ShloMosaic.Lib.Pointwise

@[expose] public section

set_option maxRecDepth 16384

noncomputable section

open Idealize.ShloMosaic
open Cert.Kernel4Ideal Cert.Kernel4Ideal.Gen

namespace Cert.Inproj

variable {v : View sig .tc .vmem S1032x1024 .f32} {f : v.ty.Contents (Elt Ideal)} {U : ℕ → ℕ → EReal} {c0 : ℕ}
  {L : List (View.Piece (Elt Ideal) S1032x1024 .f32)}

/-- From column `c0` on the first eight rows are those the tile starts with. -/
def Fresh (v : View sig .tc .vmem S1032x1024 .f32) (f : v.ty.Contents (Elt Ideal)) (U : ℕ → ℕ → EReal) (c0 : ℕ) : Prop :=
  ∀ (r : Fin 1032) (d : Fin 1024), r.val < 8 → c0 ≤ d.val → v.read (Elt Ideal) f (ix2 r d) = U r.val d.val

/-- Before column `c0` the first eight rows are those the next tile starts with. -/
def Kept (v : View sig .tc .vmem S1032x1024 .f32) (f : v.ty.Contents (Elt Ideal)) (U : ℕ → ℕ → EReal) (c0 : ℕ) : Prop :=
  ∀ (r : Fin 1032) (d : Fin 1024), r.val < 8 → d.val < c0 → v.read (Elt Ideal) f (ix2 r d) = U (1024 + r.val) d.val

/-- In the chunk from column `c0` the other rows are the tile's own. -/
def Filled (v : View sig .tc .vmem S1032x1024 .f32) (f : v.ty.Contents (Elt Ideal)) (U : ℕ → ℕ → EReal) (c0 : ℕ) : Prop :=
  ∀ (r : Fin 1032) (d : Fin 1024), 8 ≤ r.val → c0 ≤ d.val → d.val < c0 + 256 → v.read (Elt Ideal) f (ix2 r d) = U r.val d.val

/-- No column is kept yet. -/
theorem kept_zero : Kept v f U 0 := fun _ _ _ h => absurd h (Nat.not_lt_zero _)

/-- Storing a chunk of the tile fills its rows. -/
theorem filled_store (inb : ∀ a, (![8, c0] : Fin 2 → ℕ) a + S1024x256.size a ≤ S1032x1024.size a)
    (p : FVec Ideal S1024x256 .f32) (hp : ∀ (r : Fin 1024) (d : Fin 256), p (ix2 r d) = U (8 + r.val) (c0 + d.val)) :
    Filled v (v.writes (Elt Ideal) f (⟨Rect.unit ![8, c0] S1024x256.size inb, p⟩ :: L)) U c0 := by
  intro r d hr h0 h1
  have := r.isLt
  refine (View.read_writes_cons_unit_of_mem v f _ _ _ (ix2 r d)
    (ix2 ⟨r.val - 8, by omega⟩ ⟨d.val - c0, by omega⟩ : (⟨2, ![1024, 256]⟩ : Shape).Idx) rfl ?_).trans ?_
  · intro a
    match a with
    | ⟨0, _⟩ => show r.val = 8 + (r.val - 8); omega
    | ⟨1, _⟩ => show d.val = c0 + (d.val - c0); omega
  · refine (hp _ _).trans ?_
    show U (8 + (r.val - 8)) (c0 + (d.val - c0)) = _
    rw [Nat.add_sub_cancel' hr, Nat.add_sub_cancel' h0]

/-- Storing a chunk of the tile leaves the first rows. -/
theorem fresh_store (inb : ∀ a, (![8, c0] : Fin 2 → ℕ) a + S1024x256.size a ≤ S1032x1024.size a)
    (p : FVec Ideal S1024x256 .f32) (H : Fresh v (v.writes (Elt Ideal) f L) U c0) :
    Fresh v (v.writes (Elt Ideal) f (⟨Rect.unit ![8, c0] S1024x256.size inb, p⟩ :: L)) U c0 := fun r d hr h0 =>
  (View.read_writes_cons_unit_of_not_mem v f _ _ _ (ix2 r d) rfl 0 (.inl hr)).trans (H r d hr h0)

/-- Storing a chunk of the tile leaves the rows kept. -/
theorem kept_store (inb : ∀ a, (![8, c0] : Fin 2 → ℕ) a + S1024x256.size a ≤ S1032x1024.size a)
    (p : FVec Ideal S1024x256 .f32) (H : Kept v (v.writes (Elt Ideal) f L) U c0) :
    Kept v (v.writes (Elt Ideal) f (⟨Rect.unit ![8, c0] S1024x256.size inb, p⟩ :: L)) U c0 := fun r d hr h0 =>
  (View.read_writes_cons_unit_of_not_mem v f _ _ _ (ix2 r d) rfl 0 (.inl hr)).trans (H r d hr h0)

/-- Keeping a chunk's last rows leaves the later columns' first rows. -/
theorem fresh_keep (inb : ∀ a, (![0, c0] : Fin 2 → ℕ) a + S8x256.size a ≤ S1032x1024.size a)
    (p : FVec Ideal S8x256 .f32) (H : Fresh v (v.writes (Elt Ideal) f L) U c0) :
    Fresh v (v.writes (Elt Ideal) f (⟨Rect.unit ![0, c0] S8x256.size inb, p⟩ :: L)) U (c0 + 256) := fun r d hr h0 =>
  (View.read_writes_cons_unit_of_not_mem v f _ _ _ (ix2 r d) rfl 1 (.inr h0)).trans (H r d hr (by omega))

/-- Keeping a chunk's last rows. -/
theorem kept_keep (inb : ∀ a, (![0, c0] : Fin 2 → ℕ) a + S8x256.size a ≤ S1032x1024.size a)
    (p : FVec Ideal S8x256 .f32) (hp : ∀ (r : Fin 8) (d : Fin 256), p (ix2 r d) = U (1024 + r.val) (c0 + d.val))
    (H : Kept v (v.writes (Elt Ideal) f L) U c0) :
    Kept v (v.writes (Elt Ideal) f (⟨Rect.unit ![0, c0] S8x256.size inb, p⟩ :: L)) U (c0 + 256) := by
  intro r d hr h1
  by_cases h0 : c0 ≤ d.val
  · refine (View.read_writes_cons_unit_of_mem v f _ _ _ (ix2 r d)
      (ix2 ⟨r.val, hr⟩ ⟨d.val - c0, by omega⟩ : (⟨2, ![8, 256]⟩ : Shape).Idx) rfl ?_).trans ?_
    · intro a
      match a with
      | ⟨0, _⟩ => show r.val = 0 + r.val; omega
      | ⟨1, _⟩ => show d.val = c0 + (d.val - c0); omega
    · refine (hp _ _).trans ?_
      show U (1024 + r.val) (c0 + (d.val - c0)) = _
      rw [Nat.add_sub_cancel' h0]
  · exact (View.read_writes_cons_unit_of_not_mem v f _ _ _ (ix2 r d) rfl 1 (.inl (show d.val < c0 by omega))).trans (H r d hr (by omega))

/-- The first tile starts with zeros. -/
theorem fresh_zeros (inb : ∀ a, (![0, 0] : Fin 2 → ℕ) a + S8x1024.size a ≤ S1032x1024.size a)
    (p : FVec Ideal S8x1024 .f32) (hp : ∀ (r : Fin 8) (d : Fin 1024), p (ix2 r d) = U r.val d.val) :
    Fresh v (v.writes (Elt Ideal) f (⟨Rect.unit ![0, 0] S8x1024.size inb, p⟩ :: L)) U 0 := by
  intro r d hr _
  refine (View.read_writes_cons_unit_of_mem v f _ _ _ (ix2 r d)
    (ix2 ⟨r.val, hr⟩ d : (⟨2, ![8, 1024]⟩ : Shape).Idx) rfl ?_).trans (hp _ _)
  intro a
  match a with
  | ⟨0, _⟩ => show r.val = 0 + r.val; omega
  | ⟨1, _⟩ => show d.val = 0 + d.val; omega

/-- A load of the convolution's rows that reach before the tile. -/
theorem load_rows (H : Filled v f U c0) (G : Fresh v f U c0) {st : ℕ}
    (inb : ∀ a, (![st, c0] : Fin 2 → ℕ) a + S1024x256.size a ≤ S1032x1024.size a) (r : Fin 1024) (d : Fin 256) :
    View.readAt (Elt Ideal) v (Rect.unit (s := S1032x1024) ![st, c0] S1024x256.size inb).toLoadRect f (ix2 r d)
      = U (st + r.val) (c0 + d.val) := by
  have h0 : st + 1024 ≤ 1032 := inb 0
  have h1 : c0 + 256 ≤ 1024 := inb 1
  have e : View.readAt (Elt Ideal) v (Rect.unit (s := S1032x1024) ![st, c0] S1024x256.size inb).toLoadRect f (ix2 r d)
      = v.read (Elt Ideal) f (ix2 ⟨st + r.val, by omega⟩ ⟨c0 + d.val, by omega⟩) := by
    refine congrArg (v.read (Elt Ideal) f) (funext fun a => Fin.ext ?_)
    match a with
    | ⟨0, _⟩ => show st + 1 * r.val = st + r.val; omega
    | ⟨1, _⟩ => show c0 + 1 * d.val = c0 + d.val; omega
  rw [e]
  by_cases h : st + r.val < 8
  · exact G ⟨st + r.val, by omega⟩ ⟨c0 + d.val, by omega⟩ h (Nat.le_add_right _ _)
  · exact H ⟨st + r.val, by omega⟩ ⟨c0 + d.val, by omega⟩ (Nat.le_of_not_lt h) (Nat.le_add_right _ _) (Nat.add_lt_add_left d.isLt _)

/-- A load of the tile's own rows. -/
theorem load_own (H : Filled v f U c0) (inb : ∀ a, (![8, c0] : Fin 2 → ℕ) a + S1024x256.size a ≤ S1032x1024.size a)
    (r : Fin 1024) (d : Fin 256) :
    View.readAt (Elt Ideal) v (Rect.unit (s := S1032x1024) ![8, c0] S1024x256.size inb).toLoadRect f (ix2 r d)
      = U (8 + r.val) (c0 + d.val) := by
  have h1 : c0 + 256 ≤ 1024 := inb 1
  have e : View.readAt (Elt Ideal) v (Rect.unit (s := S1032x1024) ![8, c0] S1024x256.size inb).toLoadRect f (ix2 r d)
      = v.read (Elt Ideal) f (ix2 ⟨8 + r.val, by omega⟩ ⟨c0 + d.val, by omega⟩) := by
    refine congrArg (v.read (Elt Ideal) f) (funext fun a => Fin.ext ?_)
    match a with
    | ⟨0, _⟩ => show 8 + 1 * r.val = 8 + r.val; omega
    | ⟨1, _⟩ => show c0 + 1 * d.val = c0 + d.val; omega
  rw [e]
  exact H ⟨8 + r.val, by omega⟩ ⟨c0 + d.val, by omega⟩ (Nat.le_add_right _ _) (Nat.le_add_right _ _) (Nat.add_lt_add_left d.isLt _)

/-- A load of the tile's last eight rows. -/
theorem load_last (H : Filled v f U c0) (inb : ∀ a, (![1024, c0] : Fin 2 → ℕ) a + S8x256.size a ≤ S1032x1024.size a)
    (r : Fin 8) (d : Fin 256) :
    View.readAt (Elt Ideal) v (Rect.unit (s := S1032x1024) ![1024, c0] S8x256.size inb).toLoadRect f (ix2 r d)
      = U (1024 + r.val) (c0 + d.val) := by
  have h1 : c0 + 256 ≤ 1024 := inb 1
  have e : View.readAt (Elt Ideal) v (Rect.unit (s := S1032x1024) ![1024, c0] S8x256.size inb).toLoadRect f (ix2 r d)
      = v.read (Elt Ideal) f (ix2 ⟨1024 + r.val, by omega⟩ ⟨c0 + d.val, by omega⟩) := by
    refine congrArg (v.read (Elt Ideal) f) (funext fun a => Fin.ext ?_)
    match a with
    | ⟨0, _⟩ => show 1024 + 1 * r.val = 1024 + r.val; omega
    | ⟨1, _⟩ => show c0 + 1 * d.val = c0 + d.val; omega
  rw [e]
  exact H ⟨1024 + r.val, by omega⟩ ⟨c0 + d.val, by omega⟩ (by show 8 ≤ 1024 + r.val; omega) (Nat.le_add_right _ _) (Nat.add_lt_add_left d.isLt _)

/-- A load of 256 columns of a projection's weights. -/
theorem load_cols {m : Memref sig .tc .vmem S1024x2048 .bf16} (h : m.IsWhole) (x : Vec Ideal S1024x2048 .bf16)
    (inb : ∀ a, (![0, c0] : Fin 2 → ℕ) a + S1024x256.size a ≤ S1024x2048.size a) (e : Fin 1024) (d : Fin 256) (hd : c0 + d.val < 2048) :
    View.readAt (Elt Ideal) m.view (Rect.unit (s := S1024x2048) ![0, c0] S1024x256.size inb).toLoadRect (h.unread x) (ix2 e d)
      = x (ix2 e ⟨c0 + d.val, hd⟩) := by
  rw [View.readAt_apply, h.read_unread]
  refine congrArg x (funext fun a => Fin.ext ?_)
  match a with
  | ⟨0, _⟩ => show 0 + 1 * e.val = e.val; omega
  | ⟨1, _⟩ => show c0 + 1 * d.val = c0 + d.val; omega

/-- A load of one tap of the convolution. -/
theorem load_tap {m : Memref sig .tc .vmem S4x1024 .f32} (h : m.IsWhole) (x : Vec Ideal S4x1024 .f32) {j : ℕ} (hj : j < 4)
    (inb : ∀ a, (![j, c0] : Fin 2 → ℕ) a + S1x256.size a ≤ S4x1024.size a) (d : Fin 256) (hd : c0 + d.val < 1024) :
    View.readAt (Elt Ideal) m.view (Rect.unit (s := S4x1024) ![j, c0] S1x256.size inb).toLoadRect (h.unread x) (ix2 0 d)
      = x (ix2 ⟨j, hj⟩ ⟨c0 + d.val, hd⟩) := by
  rw [View.readAt_apply, h.read_unread]
  refine congrArg x (funext fun a => Fin.ext ?_)
  match a with
  | ⟨0, _⟩ => show j + 1 * 0 = j; omega
  | ⟨1, _⟩ => show c0 + 1 * d.val = c0 + d.val; omega

/-- A load of the convolution's bias. -/
theorem load_bias {m : Memref sig .tc .vmem S1x1024 .f32} (h : m.IsWhole) (x : Vec Ideal S1x1024 .f32)
    (inb : ∀ a, (![0, c0] : Fin 2 → ℕ) a + S1x256.size a ≤ S1x1024.size a) (d : Fin 256) (hd : c0 + d.val < 1024) :
    View.readAt (Elt Ideal) m.view (Rect.unit (s := S1x1024) ![0, c0] S1x256.size inb).toLoadRect (h.unread x) (ix2 0 d)
      = x (ix2 0 ⟨c0 + d.val, hd⟩) := by
  rw [View.readAt_apply, h.read_unread]
  refine congrArg x (funext fun a => Fin.ext ?_)
  match a with
  | ⟨0, _⟩ => rfl
  | ⟨1, _⟩ => show c0 + 1 * d.val = c0 + d.val; omega

/-- A load of the whole block of tokens. -/
theorem load_tokens {m : Memref sig .tc .vmem S1x1024x1024 .f32} (h : m.IsWhole) (x : Vec Ideal S1x1024x1024 .f32)
    (inb : ∀ a, (![0, 0, 0] : Fin 3 → ℕ) a + S1x1024x1024.size a ≤ S1x1024x1024.size a) :
    View.readAt (Elt Ideal) m.view (Rect.unit (s := S1x1024x1024) ![0, 0, 0] S1x1024x1024.size inb).toLoadRect (h.unread x) = x := by
  funext y
  rw [View.readAt_apply, h.read_unread]
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A load of the gates' weights. -/
theorem load_gates {m : Memref sig .tc .vmem S8x1024 .bf16} (h : m.IsWhole) (x : Vec Ideal S8x1024 .bf16)
    (inb : ∀ a, (![0, 0] : Fin 2 → ℕ) a + S8x1024.size a ≤ S8x1024.size a) :
    View.readAt (Elt Ideal) m.view (Rect.unit (s := S8x1024) ![0, 0] S8x1024.size inb).toLoadRect (h.unread x) = x := by
  funext y
  rw [View.readAt_apply, h.read_unread]
  refine congrArg x (funext fun a => Fin.ext ?_)
  match a with
  | ⟨0, _⟩ => show 0 + 1 * (y 0).val = (y 0).val; omega
  | ⟨1, _⟩ => show 0 + 1 * (y 1).val = (y 1).val; omega

/-- A load of the gates' biases. -/
theorem load_gate_bias {m : Memref sig .tc .vmem S8x1024 .f32} (h : m.IsWhole) (x : Vec Ideal S8x1024 .f32)
    (inb : ∀ a, (![0, 0] : Fin 2 → ℕ) a + S8x1024.size a ≤ S8x1024.size a) :
    View.readAt (Elt Ideal) m.view (Rect.unit (s := S8x1024) ![0, 0] S8x1024.size inb).toLoadRect (h.unread x) = x := by
  funext y
  rw [View.readAt_apply, h.read_unread]
  refine congrArg x (funext fun a => Fin.ext ?_)
  match a with
  | ⟨0, _⟩ => show 0 + 1 * (y 0).val = (y 0).val; omega
  | ⟨1, _⟩ => show 0 + 1 * (y 1).val = (y 1).val; omega

end Cert.Inproj
-- ==== Proof.Inproj.Common.lean ====
/-
  The second layer's input projection, one tile: the convolution at a row and a column, the products at the columns of
  the weights, and the gates' block, in terms of the blocks the tile is given.
-/
module

public import proofs.«01_k».proof.Proof.Inproj.Payloads
public import proofs.«01_k».proof.Proof.Inproj.Buffer

@[expose] public section

set_option maxRecDepth 16384

noncomputable section

open Idealize.ShloMosaic
open Cert.Kernel4Ideal Cert.Kernel4Ideal.Gen

namespace Cert.Inproj

/-- The convolution at row `r` of the tile and column `d`, of the buffer's rows `U`. -/
def convAt (x4 : Vec Ideal S4x1024 .f32) (x5 : Vec Ideal S1x1024 .f32) (U : ℕ → ℕ → EReal) (r : ℕ) (d : Fin 1024) : EReal :=
  taps (x5 (ix2 0 d)) (x4 (ix2 0 d)) (x4 (ix2 1 d)) (x4 (ix2 2 d)) (x4 (ix2 3 d))
    (U (5 + r) d.val) (U (6 + r) d.val) (U (7 + r) d.val) (U (8 + r) d.val)

/-- Row `r` of the tokens times column `d` of the weights. -/
def project (x0 : Vec Ideal S1x1024x1024 .f32) (w : Vec Ideal S1024x2048 .bf16) (r : Fin 1024) (d : Fin 2048) : EReal :=
  dot (fun e => x0 (ix3 0 r e)) (fun e => w (ix2 e d))

/-- The buffer's rows from the eighth on are the tile's. -/
def Own (x0 : Vec Ideal S1x1024x1024 .f32) (x1 : Vec Ideal S1024x2048 .bf16) (U : ℕ → ℕ → EReal) : Prop :=
  ∀ (r d : Fin 1024), U (8 + r.val) d.val = project x0 x1 r ⟨d.val, Nat.lt_trans d.isLt (by decide)⟩

/-- The gates' block, from the tokens, the gates' weights and their biases. -/
def gateBlock (x0 : Vec Ideal S1x1024x1024 .f32) (x3 : Vec Ideal S8x1024 .bf16) (x6 : Vec Ideal S8x1024 .f32) : Vec Ideal S1x8x1024 .f32 :=
  k0_pay10 (k0_pay3 x0 x3 x6) (iota Kind.tc S8x1024 32 [0] iota_S8x1024_d0_w32) k0_pay5
    (k0_pay8 (k0_pay4 x0 x3 x6) k0_pay5 k0_pay6 (k0_pay7 x0 x3 x6)) k0_pay9

/-- Equal taps. -/
theorem taps_congr {b b' c0 c0' c1 c1' c2 c2' c3 c3' u0 u0' u1 u1' u2 u2' u3 u3' : EReal} (hb : b = b') (h0 : c0 = c0') (h1 : c1 = c1')
    (h2 : c2 = c2') (h3 : c3 = c3') (g0 : u0 = u0') (g1 : u1 = u1') (g2 : u2 = u2') (g3 : u3 = u3') :
    taps b c0 c1 c2 c3 u0 u1 u2 u3 = taps b' c0' c1' c2' c3' u0' u1' u2' u3' := by
  rw [hb, h0, h1, h2, h3, g0, g1, g2, g3]

variable {arg2 : Memref sig .tc .vmem S1x1024x1024 .f32} {harg2 : arg2.IsWhole} {m : Memref sig .tc .vmem S1024x2048 .bf16} {hm : m.IsWhole}
  {x0 : Vec Ideal S1x1024x1024 .f32} {x1 w : Vec Ideal S1024x2048 .bf16} {U : ℕ → ℕ → EReal} {c0 : ℕ}

/-- The product of the loaded row and the loaded column. -/
theorem project_loads (inb2 : ∀ a, (![0, 0, 0] : Fin 3 → ℕ) a + S1x1024x1024.size a ≤ S1x1024x1024.size a)
    (inb : ∀ a, (![0, c0] : Fin 2 → ℕ) a + S1024x256.size a ≤ S1024x2048.size a) (r : Fin 1024) (d : Fin 256) (hd : c0 + d.val < 2048) :
    dot (fun e => k0_pay2 (View.readAt (Elt Ideal) arg2.view (Rect.unit (s := S1x1024x1024) ![0, 0, 0] S1x1024x1024.size inb2).toLoadRect (harg2.unread x0)) (ix2 r e))
        (fun e => View.readAt (Elt Ideal) m.view (Rect.unit (s := S1024x2048) ![0, c0] S1024x256.size inb).toLoadRect (hm.unread w) (ix2 e d))
      = project x0 w r ⟨c0 + d.val, hd⟩ := by
  refine congrArg₂ dot (funext fun e => ?_) (funext fun e => load_cols hm w inb e d hd)
  rw [load_tokens]
  exact tokens_apply _ _ _

/-- The tile's own rows, as they are stored. -/
theorem own_loads (H : Own x0 x1 U) (inb2 : ∀ a, (![0, 0, 0] : Fin 3 → ℕ) a + S1x1024x1024.size a ≤ S1x1024x1024.size a)
    (inb : ∀ a, (![0, c0] : Fin 2 → ℕ) a + S1024x256.size a ≤ S1024x2048.size a) (hc : c0 + 256 ≤ 1024) (r : Fin 1024) (d : Fin 256) :
    dot (fun e => k0_pay2 (View.readAt (Elt Ideal) arg2.view (Rect.unit (s := S1x1024x1024) ![0, 0, 0] S1x1024x1024.size inb2).toLoadRect (harg2.unread x0)) (ix2 r e))
        (fun e => View.readAt (Elt Ideal) m.view (Rect.unit (s := S1024x2048) ![0, c0] S1024x256.size inb).toLoadRect (hm.unread x1) (ix2 e d))
      = U (8 + r.val) (c0 + d.val) :=
  (project_loads inb2 inb r d (by have := d.isLt; omega)).trans (H r ⟨c0 + d.val, by have := d.isLt; omega⟩).symm

end Cert.Inproj
-- ==== Proof.Inproj.Gates.lean ====
/-
  The gates' block: running sums of the forget gates' logarithms over segments of 256 lanes by doubling steps, then the
  input gates less those sums.
-/
module

public import proofs.«01_k».proof.Proof.Inproj.Common

@[expose] public section

set_option maxRecDepth 16384

noncomputable section

open Idealize.ShloMosaic
open Cert.Kernel4Ideal Cert.Kernel4Ideal.Gen

namespace Cert.Inproj

/-- The sum of the `k` entries up to `d` that lie in the segment of `d`. -/
def runs (X : ℕ → EReal) (k d : ℕ) : EReal := ∑ i ∈ Finset.range (min k (d % 256 + 1)), X (d - i)

/-- A run of one entry. -/
theorem runs_one (X : ℕ → EReal) (d : ℕ) : runs X 1 d = X d := by
  unfold runs
  rw [Nat.min_eq_left (by omega)]
  simp

/-- A doubling step. -/
theorem runs_double (X : ℕ → EReal) (k d : ℕ) (hk : k < 256) :
    runs X (k + k) d = runs X k d + if k ≤ d % 256 then runs X k (d - k) else 0 := by
  unfold runs
  split
  · rename_i h
    have hm : (d - k) % 256 = d % 256 - k := by omega
    rw [hm, Nat.min_eq_left (by omega : k ≤ d % 256 + 1), show min (k + k) (d % 256 + 1) = k + min k (d % 256 - k + 1) by omega,
      Finset.sum_range_add]
    refine congrArg (_ + ·) (Finset.sum_congr rfl fun i _ => congrArg X ?_)
    omega
  · rename_i h
    rw [add_zero, Nat.min_eq_right (by omega : d % 256 + 1 ≤ k), Nat.min_eq_right (by omega : d % 256 + 1 ≤ k + k)]

/-- A run of a whole segment's length. -/
theorem runs_segment (X : ℕ → EReal) (d : ℕ) : runs X 256 d = ∑ i ∈ Finset.range (d % 256 + 1), X (d - i) := by
  unfold runs
  rw [Nat.min_eq_right (by omega)]

/-- A lane's place in its segment. -/
theorem lane (r : Fin 8) (d : Fin 1024) : k0_pay5 (ix2 r d) = BitVec.ofNat 32 (d.val % 256) := by
  pointwise [k0_pay5]
  revert d
  decide +kernel

/-- One doubling step of the body. -/
def stepV (n : BitVec 32) (x : FVec Ideal S8x1024 .f32) : FVec Ideal S8x1024 .f32 :=
  addf x (select (cmpi .sge k0_pay5 (broadcast S8x1024 n)) (dynamicRotate 1 n none x rotates_S8x1024_d1)
    (broadcast S8x1024 (Scalar.ofBits .f32 0x00000000#32)))

/-- The comparison of a lane with a step. -/
theorem sge_lane : ∀ (k : Fin 9) (d : Fin 256), (IntOp.cmpi CmpIPredicate.sge (BitVec.ofNat 32 d.val) (BitVec.ofNat 32 (2 ^ k.val)) = 1#1) ↔ 2 ^ k.val ≤ d.val := by
  decide +kernel

/-- One doubling step at a row and a lane. -/
theorem stepV_apply (k : ℕ) (hk : k < 8) (x : FVec Ideal S8x1024 .f32) (X : ℕ → ℕ → EReal)
    (hx : ∀ (r : Fin 8) (d : Fin 1024), x (ix2 r d) = X r.val d.val) (r : Fin 8) (d : Fin 1024) :
    stepV (BitVec.ofNat 32 (2 ^ k)) x (ix2 r d) = X r.val d.val + if 2 ^ k ≤ d.val % 256 then X r.val (d.val - 2 ^ k) else 0 := by
  have hp : 2 ^ k < 256 := Nat.pow_lt_pow_right (by decide) hk
  unfold stepV
  pointwise
  have hn : (BitVec.ofNat 32 (2 ^ k)).toNat % 1024 = 2 ^ k := by
    rw [BitVec.toNat_ofNat, Nat.mod_eq_of_lt (a := 2 ^ k) (b := 2 ^ 32) (by omega), Nat.mod_eq_of_lt (by omega)]
  have hc := sge_lane ⟨k, by omega⟩ ⟨d.val % 256, Nat.mod_lt _ (by decide)⟩
  dsimp only at hc
  have hd := d.isLt
  rw [lane, hx, hx]
  refine congrArg (_ + ·) ?_
  by_cases h : 2 ^ k ≤ d.val % 256
  · rw [if_pos h]
    refine (if_pos (hc.mpr h)).trans (congrArg (X r.val) ?_)
    dsimp only
    rw [hn]
    omega
  · rw [if_neg h]
    exact if_neg fun e => h (hc.mp e)

/-- A doubling step turns runs of `2 ^ k` into runs of `2 ^ (k + 1)`. -/
theorem stepV_runs (k : ℕ) (hk : k < 8) (x : FVec Ideal S8x1024 .f32) (X : ℕ → ℕ → EReal)
    (hx : ∀ (r : Fin 8) (d : Fin 1024), x (ix2 r d) = runs (X r.val) (2 ^ k) d.val) (r : Fin 8) (d : Fin 1024) :
    stepV (BitVec.ofNat 32 (2 ^ k)) x (ix2 r d) = runs (X r.val) (2 ^ (k + 1)) d.val := by
  have hp : 2 ^ k < 256 := Nat.pow_lt_pow_right (by decide) hk
  rw [stepV_apply k hk x (fun r d => runs (X r) (2 ^ k) d) hx r d, pow_succ, mul_two, runs_double _ _ _ hp]

/-- The body's chain of seven doubling steps. -/
theorem chain_eq (x0 : FVec Ideal S1x1024x1024 .f32) (x3 : FVec Ideal S8x1024 .f32) (x6 : FVec Ideal S8x1024 .f32) :
    k0_pay8 (k0_pay4 x0 x3 x6) k0_pay5 k0_pay6 (k0_pay7 x0 x3 x6)
      = stepV 64#32 (stepV 32#32 (stepV 16#32 (stepV 8#32 (stepV 4#32 (stepV 2#32 (stepV 1#32 (k0_pay4 x0 x3 x6))))))) := rfl

/-- The gates before their running sums: row `g` of the gates' weights times token `r`, and the bias. -/
def gatePre (x0 : Vec Ideal S1x1024x1024 .f32) (x3 : Vec Ideal S8x1024 .bf16) (x6 : Vec Ideal S8x1024 .f32) (g : Fin 8) (r : Fin 1024) : EReal :=
  (∑ e, x3 (ix2 g e) * x0 (ix3 0 r e)) + x6 (ix2 g r)

/-- The logarithm of the sigmoid, as the kernel writes it. -/
def logSig (z : EReal) : EReal := min z 0 - Ideal.log (1 + Ideal.exp (0 - FloatOps.absf (F := Ideal) (φ := .f32) z))

/-- The logarithms of the forget gates, at all natural places. -/
def gateLog (x0 : Vec Ideal S1x1024x1024 .f32) (x3 : Vec Ideal S8x1024 .bf16) (x6 : Vec Ideal S8x1024 .f32) (g d : ℕ) : EReal :=
  logSig (gatePre x0 x3 x6 ⟨g % 8, Nat.mod_lt _ (by decide)⟩ ⟨d % 1024, Nat.mod_lt _ (by decide)⟩)

/-- The body's gates before their running sums. -/
theorem gatePre_eq (x0 : FVec Ideal S1x1024x1024 .f32) (x3 : FVec Ideal S8x1024 .bf16) (x6 : FVec Ideal S8x1024 .f32) (g : Fin 8) (r : Fin 1024) :
    k0_pay3 (F := Ideal) x0 x3 x6 (ix2 g r) = gatePre x0 x3 x6 g r := by
  pointwise [k0_pay3, k0_pay2]
  rfl

/-- The body's logarithms. -/
theorem gateLog_eq (x0 : FVec Ideal S1x1024x1024 .f32) (x3 : FVec Ideal S8x1024 .bf16) (x6 : FVec Ideal S8x1024 .f32) (g : Fin 8) (r : Fin 1024) :
    k0_pay4 (F := Ideal) x0 x3 x6 (ix2 g r) = runs (gateLog x0 x3 x6 g.val) (2 ^ 0) r.val := by
  have h : k0_pay4 (F := Ideal) x0 x3 x6 (ix2 g r) = logSig (k0_pay3 (F := Ideal) x0 x3 x6 (ix2 g r)) := by
    unfold k0_pay4
    generalize k0_pay3 (F := Ideal) x0 x3 x6 = y
    pointwise
    rfl
  rw [h, gatePre_eq, pow_zero, runs_one]
  unfold gateLog
  simp only [Nat.mod_eq_of_lt g.isLt, Nat.mod_eq_of_lt r.isLt]

/-- The body's eight doubling steps. -/
theorem scan_eq (x0 : FVec Ideal S1x1024x1024 .f32) (x3 : FVec Ideal S8x1024 .bf16) (x6 : FVec Ideal S8x1024 .f32) (g : Fin 8) (r : Fin 1024) :
    stepV 128#32 (k0_pay8 (k0_pay4 x0 x3 x6) k0_pay5 k0_pay6 (k0_pay7 x0 x3 x6)) (ix2 g r) = runs (gateLog x0 x3 x6 g.val) 256 r.val := by
  rw [chain_eq]
  have h0 := gateLog_eq x0 x3 x6
  have h1 := stepV_runs 0 (by decide) _ _ h0
  have h2 := stepV_runs 1 (by decide) _ _ h1
  have h3 := stepV_runs 2 (by decide) _ _ h2
  have h4 := stepV_runs 3 (by decide) _ _ h3
  have h5 := stepV_runs 4 (by decide) _ _ h4
  have h6 := stepV_runs 5 (by decide) _ _ h5
  have h7 := stepV_runs 6 (by decide) _ _ h6
  exact stepV_runs 7 (by decide) _ _ h7 g r

/-- The last part of the body: the sums of the lower rows are taken from the upper rows. -/
theorem last_eq (y : FVec Ideal S8x1024 .f32) (s : FVec Ideal S8x1024 .f32) (g : Fin 8) (r : Fin 1024) :
    k0_pay10 y (iota Kind.tc S8x1024 32 [0] iota_S8x1024_d0_w32) k0_pay5 s k0_pay9 (ix3 0 g r)
      = if g.val < 4 then y (ix2 g r) - stepV 128#32 s (ix2 ⟨(g.val + 4) % 8, Nat.mod_lt _ (by decide)⟩ r) else stepV 128#32 s (ix2 g r) := by
  have h : k0_pay10 y (iota Kind.tc S8x1024 32 [0] iota_S8x1024_d0_w32) k0_pay5 s k0_pay9
      = shapeCast S1x8x1024 (select (cmpi .slt (iota Kind.tc S8x1024 32 [0] iota_S8x1024_d0_w32) (broadcast S8x1024 4#32))
          (subf y (dynamicRotate 0 4#32 none (stepV 128#32 s) rotates_S8x1024_d0)) (stepV 128#32 s)) shapeCasts_S8x1024_S1x8x1024 := rfl
  rw [h]
  generalize stepV 128#32 s = t
  pointwise
  have hs : ∀ g : Fin 8, (IntOp.cmpi CmpIPredicate.slt (BitVec.ofNat 32 g.val) 4#32 = 1#1) ↔ g.val < 4 := by decide +kernel
  by_cases hg : g.val < 4
  · rw [if_pos hg]
    refine (if_pos ((hs g).mpr hg)).trans ?_
    rfl
  · rw [if_neg hg]
    exact if_neg fun e => hg ((hs g).mp e)

/-- The gates' block at a gate and a row: in the upper rows the input gate less the running sum of the forget gate's
    logarithm, in the lower rows the running sum. -/
theorem gateBlock_eq (x0 : FVec Ideal S1x1024x1024 .f32) (x3 : FVec Ideal S8x1024 .bf16) (x6 : FVec Ideal S8x1024 .f32) (g : Fin 8) (r : Fin 1024) :
    gateBlock x0 x3 x6 (ix3 0 g r)
      = if g.val < 4 then gatePre x0 x3 x6 g r - runs (gateLog x0 x3 x6 ((g.val + 4) % 8)) 256 r.val
        else runs (gateLog x0 x3 x6 g.val) 256 r.val := by
  unfold gateBlock
  rw [last_eq, scan_eq, scan_eq, gatePre_eq]

end Cert.Inproj
-- ==== Proof.Inproj.Place.lean ====
/-
  The second layer's input projection, all tiles: the projections, the convolution's rows and the gates at a place of the
  whole arrays, and where each tile's blocks lie.
-/
module

public import proofs.«01_k».proof.Proof.Gen.Kernel4Ideal.Value
public import proofs.«01_k».proof.Proof.Inproj.Gates
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.Inproj

/-- Token `s` of batch `b` times column `d` of the weights. -/
def proj (x : FVec Ideal S4x8192x1024 .f32) (w : FVec Ideal S1024x2048 .bf16) (b : Fin 4) (s : Fin 8192) (d : Fin 2048) : EReal :=
  dot (fun e => x (ix3 b s e)) (fun e => w (ix2 e d))

/-- The convolution's input: eight rows of zeros, then the batch's rows. -/
def before (x : FVec Ideal S4x8192x1024 .f32) (w : FVec Ideal S1024x2048 .bf16) (b : Fin 4) (n d : ℕ) : EReal :=
  if h : 8 ≤ n ∧ n < 8200 ∧ d < 2048 then proj x w b ⟨n - 8, by omega⟩ ⟨d, by omega⟩ else 0

/-- The convolution at token `s` and column `d`. -/
def conv (x : FVec Ideal S4x8192x1024 .f32) (w : FVec Ideal S1024x2048 .bf16) (cw : FVec Ideal S4x1024 .f32) (cb : FVec Ideal S1x1024 .f32)
    (b : Fin 4) (s : Fin 8192) (d : Fin 1024) : EReal :=
  taps (cb (ix2 0 d)) (cw (ix2 0 d)) (cw (ix2 1 d)) (cw (ix2 2 d)) (cw (ix2 3 d))
    (before x w b (5 + s.val) d.val) (before x w b (6 + s.val) d.val) (before x w b (7 + s.val) d.val) (before x w b (8 + s.val) d.val)

/-- The gates' biases, the input gates' before the forget gates'. -/
def bias (bi bf : FVec Ideal S4 .f32) (g : Fin 8) : EReal :=
  if h : g.val < 4 then bi (ix1 ⟨g.val, h⟩) else bf (ix1 ⟨g.val - 4, by omega⟩)

/-- Gate `g` at token `s`. -/
def gate (x : FVec Ideal S4x8192x1024 .f32) (wg : FVec Ideal S8x1024 .bf16) (bi bf : FVec Ideal S4 .f32) (b : Fin 4) (g : Fin 8) (s : Fin 8192) : EReal :=
  (∑ e, wg (ix2 g e) * x (ix3 b s e)) + bias bi bf g

/-- The sum of the logarithms of gate `g` from the start of the segment of token `s`. -/
def gateSum (x : FVec Ideal S4x8192x1024 .f32) (wg : FVec Ideal S8x1024 .bf16) (bi bf : FVec Ideal S4 .f32) (b : Fin 4) (g : Fin 8) (s : Fin 8192) : EReal :=
  ∑ i ∈ Finset.range (s.val % 256 + 1), logSig (gate x wg bi bf b g ⟨s.val - i, by omega⟩)

/-- The queries. -/
def resultQ (x : FVec Ideal S4x8192x1024 .f32) (w : FVec Ideal S1024x2048 .bf16) (cw : FVec Ideal S4x1024 .f32) (cb : FVec Ideal S1x1024 .f32) :
    FVec Ideal S4x8192x512 .bf16 := fun i => siluT (conv x w cw cb (i 0) (i 1) ⟨0 + (i 2).val, by have : (i 2).val < 512 := (i 2).isLt; omega⟩)

/-- The keys. -/
def resultK (x : FVec Ideal S4x8192x1024 .f32) (w : FVec Ideal S1024x2048 .bf16) (cw : FVec Ideal S4x1024 .f32) (cb : FVec Ideal S1x1024 .f32) :
    FVec Ideal S4x8192x512 .bf16 := fun i => siluT (conv x w cw cb (i 0) (i 1) ⟨512 + (i 2).val, by have : (i 2).val < 512 := (i 2).isLt; omega⟩) * scale

/-- The values. -/
def resultV (x : FVec Ideal S4x8192x1024 .f32) (w : FVec Ideal S1024x2048 .bf16) : FVec Ideal S4x8192x1024 .bf16 := fun i =>
  proj x w (i 0) (i 1) ⟨1024 + (i 2).val, by have : (i 2).val < 1024 := (i 2).isLt; omega⟩

/-- The sigmoid gates. -/
def resultO (x : FVec Ideal S4x8192x1024 .f32) (wb : FVec Ideal S1024x2048 .bf16) : FVec Ideal S4x8192x1024 .bf16 := fun i =>
  sigmoidT (proj x wb (i 0) (i 1) ⟨0 + (i 2).val, by have : (i 2).val < 1024 := (i 2).isLt; omega⟩)

/-- The SiLU gates. -/
def resultZ (x : FVec Ideal S4x8192x1024 .f32) (wb : FVec Ideal S1024x2048 .bf16) : FVec Ideal S4x8192x1024 .bf16 := fun i =>
  siluT (proj x wb (i 0) (i 1) ⟨1024 + (i 2).val, by have : (i 2).val < 1024 := (i 2).isLt; omega⟩)

/-- The gates. -/
def resultG (x : FVec Ideal S4x8192x1024 .f32) (wg : FVec Ideal S8x1024 .bf16) (bi bf : FVec Ideal S4 .f32) : FVec Ideal S4x8x8192 .f32 := fun i =>
  if (i 1).val < 4 then gate x wg bi bf (i 0) (i 1) (i 2) - gateSum x wg bi bf (i 0) ⟨((i 1).val + 4) % 8, Nat.mod_lt _ (by decide)⟩ (i 2)
  else gateSum x wg bi bf (i 0) (i 1) (i 2)

/-- The batch of point `t`. -/
def batch (t : Fin cfg0.N) : Fin 4 := ⟨t.val / 8, by have := t.isLt.trans_eq N_0; omega⟩

/-- The place in the sequence of row `r` of point `t`. -/
def place (t : Fin cfg0.N) (r : Fin 1024) : Fin 8192 :=
  ⟨t.val % 8 * 1024 + r.val, by have := t.isLt.trans_eq N_0; omega⟩

/-- The block of window 0 at point `t`. -/
theorem index0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

/-- Where window 0's block lies in its array. -/
theorem emb0 (t : Fin cfg0.N) (r : Fin 1024) (d : Fin 1024) :
    ((cfg0.win 0).blk t).view.emb (ix3 0 r d) = ix3 (batch t) (place t r) d := by
  obtain ⟨e0, e1, e2⟩ := index0 t
  funext a; apply Fin.ext
  match a with
  | ⟨0, _⟩ => show win0_0.index t 0 * 1 + 1 * 0 = t.val / 8; omega
  | ⟨1, _⟩ => show win0_0.index t 1 * 1024 + 1 * r.val = t.val % 8 * 1024 + r.val; omega
  | ⟨2, _⟩ => show win0_0.index t 2 * 1024 + 1 * d.val = d.val; omega

/-- The block of window 1 at point `t`. -/
theorem index1 : ∀ t : Fin cfg0.N, win0_1.index t 0 = 0 ∧ win0_1.index t 1 = 0 :=
  (by decide +kernel : ∀ t : Fin grid0.N, win0_1.index t 0 = 0 ∧ win0_1.index t 1 = 0)

/-- Where window 1's block lies in its array. -/
theorem emb1 (t : Fin cfg0.N) (r : Fin 1024) (d : Fin 2048) :
    ((cfg0.win 1).blk t).view.emb (ix2 r d) = ix2 r d := by
  obtain ⟨e0, e1⟩ := index1 t
  funext a; apply Fin.ext
  match a with
  | ⟨0, _⟩ => show win0_1.index t 0 * 1024 + 1 * r.val = r.val; omega
  | ⟨1, _⟩ => show win0_1.index t 1 * 2048 + 1 * d.val = d.val; omega

/-- The block of window 2 at point `t`. -/
theorem index2 : ∀ t : Fin cfg0.N, win0_2.index t 0 = 0 ∧ win0_2.index t 1 = 0 :=
  (by decide +kernel : ∀ t : Fin grid0.N, win0_2.index t 0 = 0 ∧ win0_2.index t 1 = 0)

/-- Where window 2's block lies in its array. -/
theorem emb2 (t : Fin cfg0.N) (r : Fin 1024) (d : Fin 2048) :
    ((cfg0.win 2).blk t).view.emb (ix2 r d) = ix2 r d := by
  obtain ⟨e0, e1⟩ := index2 t
  funext a; apply Fin.ext
  match a with
  | ⟨0, _⟩ => show win0_2.index t 0 * 1024 + 1 * r.val = r.val; omega
  | ⟨1, _⟩ => show win0_2.index t 1 * 2048 + 1 * d.val = d.val; omega

/-- The block of window 3 at point `t`. -/
theorem index3 : ∀ t : Fin cfg0.N, win0_3.index t 0 = 0 ∧ win0_3.index t 1 = 0 :=
  (by decide +kernel : ∀ t : Fin grid0.N, win0_3.index t 0 = 0 ∧ win0_3.index t 1 = 0)

/-- Where window 3's block lies in its array. -/
theorem emb3 (t : Fin cfg0.N) (r : Fin 8) (d : Fin 1024) :
    ((cfg0.win 3).blk t).view.emb (ix2 r d) = ix2 r d := by
  obtain ⟨e0, e1⟩ := index3 t
  funext a; apply Fin.ext
  match a with
  | ⟨0, _⟩ => show win0_3.index t 0 * 8 + 1 * r.val = r.val; omega
  | ⟨1, _⟩ => show win0_3.index t 1 * 1024 + 1 * d.val = d.val; omega

/-- The block of window 4 at point `t`. -/
theorem index4 : ∀ t : Fin cfg0.N, win0_4.index t 0 = 0 ∧ win0_4.index t 1 = 0 :=
  (by decide +kernel : ∀ t : Fin grid0.N, win0_4.index t 0 = 0 ∧ win0_4.index t 1 = 0)

/-- Where window 4's block lies in its array. -/
theorem emb4 (t : Fin cfg0.N) (r : Fin 4) (d : Fin 1024) :
    ((cfg0.win 4).blk t).view.emb (ix2 r d) = ix2 r d := by
  obtain ⟨e0, e1⟩ := index4 t
  funext a; apply Fin.ext
  match a with
  | ⟨0, _⟩ => show win0_4.index t 0 * 4 + 1 * r.val = r.val; omega
  | ⟨1, _⟩ => show win0_4.index t 1 * 1024 + 1 * d.val = d.val; omega

/-- The block of window 5 at point `t`. -/
theorem index5 : ∀ t : Fin cfg0.N, win0_5.index t 0 = 0 ∧ win0_5.index t 1 = 0 :=
  (by decide +kernel : ∀ t : Fin grid0.N, win0_5.index t 0 = 0 ∧ win0_5.index t 1 = 0)

/-- Where window 5's block lies in its array. -/
theorem emb5 (t : Fin cfg0.N) (r : Fin 1) (d : Fin 1024) :
    ((cfg0.win 5).blk t).view.emb (ix2 r d) = ix2 r d := by
  obtain ⟨e0, e1⟩ := index5 t
  funext a; apply Fin.ext
  match a with
  | ⟨0, _⟩ => show win0_5.index t 0 * 1 + 1 * r.val = r.val; omega
  | ⟨1, _⟩ => show win0_5.index t 1 * 1024 + 1 * d.val = d.val; omega

/-- The block of window 6 at point `t`. -/
theorem index6 : ∀ t : Fin cfg0.N, win0_6.index t 0 = 0 ∧ win0_6.index t 1 = 0 :=
  (by decide +kernel : ∀ t : Fin grid0.N, win0_6.index t 0 = 0 ∧ win0_6.index t 1 = 0)

/-- Where window 6's block lies in its array. -/
theorem emb6 (t : Fin cfg0.N) (r : Fin 8) (d : Fin 1024) :
    ((cfg0.win 6).blk t).view.emb (ix2 r d) = ix2 r d := by
  obtain ⟨e0, e1⟩ := index6 t
  funext a; apply Fin.ext
  match a with
  | ⟨0, _⟩ => show win0_6.index t 0 * 8 + 1 * r.val = r.val; omega
  | ⟨1, _⟩ => show win0_6.index t 1 * 1024 + 1 * d.val = d.val; omega

/-- The block of window 7 at point `t`. -/
theorem index7 : ∀ t : Fin cfg0.N, win0_7.index t 0 = t.val / 8 ∧ win0_7.index t 1 = t.val % 8 ∧ win0_7.index t 2 = 0 :=
  (by decide +kernel : ∀ t : Fin grid0.N, win0_7.index t 0 = t.val / 8 ∧ win0_7.index t 1 = t.val % 8 ∧ win0_7.index t 2 = 0)

/-- Where window 7's block lies in its array. -/
theorem emb7 (t : Fin cfg0.N) (r : Fin 1024) (d : Fin 512) :
    ((cfg0.win 7).blk t).view.emb (ix3 0 r d) = ix3 (batch t) (place t r) d := by
  obtain ⟨e0, e1, e2⟩ := index7 t
  funext a; apply Fin.ext
  match a with
  | ⟨0, _⟩ => show win0_7.index t 0 * 1 + 1 * 0 = t.val / 8; omega
  | ⟨1, _⟩ => show win0_7.index t 1 * 1024 + 1 * r.val = t.val % 8 * 1024 + r.val; omega
  | ⟨2, _⟩ => show win0_7.index t 2 * 512 + 1 * d.val = d.val; omega

/-- The block of window 8 at point `t`. -/
theorem index8 : ∀ t : Fin cfg0.N, win0_8.index t 0 = t.val / 8 ∧ win0_8.index t 1 = t.val % 8 ∧ win0_8.index t 2 = 0 :=
  (by decide +kernel : ∀ t : Fin grid0.N, win0_8.index t 0 = t.val / 8 ∧ win0_8.index t 1 = t.val % 8 ∧ win0_8.index t 2 = 0)

/-- Where window 8's block lies in its array. -/
theorem emb8 (t : Fin cfg0.N) (r : Fin 1024) (d : Fin 512) :
    ((cfg0.win 8).blk t).view.emb (ix3 0 r d) = ix3 (batch t) (place t r) d := by
  obtain ⟨e0, e1, e2⟩ := index8 t
  funext a; apply Fin.ext
  match a with
  | ⟨0, _⟩ => show win0_8.index t 0 * 1 + 1 * 0 = t.val / 8; omega
  | ⟨1, _⟩ => show win0_8.index t 1 * 1024 + 1 * r.val = t.val % 8 * 1024 + r.val; omega
  | ⟨2, _⟩ => show win0_8.index t 2 * 512 + 1 * d.val = d.val; omega

/-- The block of window 9 at point `t`. -/
theorem index9 : ∀ t : Fin cfg0.N, win0_9.index t 0 = t.val / 8 ∧ win0_9.index t 1 = t.val % 8 ∧ win0_9.index t 2 = 0 :=
  (by decide +kernel : ∀ t : Fin grid0.N, win0_9.index t 0 = t.val / 8 ∧ win0_9.index t 1 = t.val % 8 ∧ win0_9.index t 2 = 0)

/-- Where window 9's block lies in its array. -/
theorem emb9 (t : Fin cfg0.N) (r : Fin 1024) (d : Fin 1024) :
    ((cfg0.win 9).blk t).view.emb (ix3 0 r d) = ix3 (batch t) (place t r) d := by
  obtain ⟨e0, e1, e2⟩ := index9 t
  funext a; apply Fin.ext
  match a with
  | ⟨0, _⟩ => show win0_9.index t 0 * 1 + 1 * 0 = t.val / 8; omega
  | ⟨1, _⟩ => show win0_9.index t 1 * 1024 + 1 * r.val = t.val % 8 * 1024 + r.val; omega
  | ⟨2, _⟩ => show win0_9.index t 2 * 1024 + 1 * d.val = d.val; omega

/-- The block of window 10 at point `t`. -/
theorem index10 : ∀ t : Fin cfg0.N, win0_10.index t 0 = t.val / 8 ∧ win0_10.index t 1 = t.val % 8 ∧ win0_10.index t 2 = 0 :=
  (by decide +kernel : ∀ t : Fin grid0.N, win0_10.index t 0 = t.val / 8 ∧ win0_10.index t 1 = t.val % 8 ∧ win0_10.index t 2 = 0)

/-- Where window 10's block lies in its array. -/
theorem emb10 (t : Fin cfg0.N) (r : Fin 1024) (d : Fin 1024) :
    ((cfg0.win 10).blk t).view.emb (ix3 0 r d) = ix3 (batch t) (place t r) d := by
  obtain ⟨e0, e1, e2⟩ := index10 t
  funext a; apply Fin.ext
  match a with
  | ⟨0, _⟩ => show win0_10.index t 0 * 1 + 1 * 0 = t.val / 8; omega
  | ⟨1, _⟩ => show win0_10.index t 1 * 1024 + 1 * r.val = t.val % 8 * 1024 + r.val; omega
  | ⟨2, _⟩ => show win0_10.index t 2 * 1024 + 1 * d.val = d.val; omega

/-- The block of window 11 at point `t`. -/
theorem index11 : ∀ t : Fin cfg0.N, win0_11.index t 0 = t.val / 8 ∧ win0_11.index t 1 = t.val % 8 ∧ win0_11.index t 2 = 0 :=
  (by decide +kernel : ∀ t : Fin grid0.N, win0_11.index t 0 = t.val / 8 ∧ win0_11.index t 1 = t.val % 8 ∧ win0_11.index t 2 = 0)

/-- Where window 11's block lies in its array. -/
theorem emb11 (t : Fin cfg0.N) (r : Fin 1024) (d : Fin 1024) :
    ((cfg0.win 11).blk t).view.emb (ix3 0 r d) = ix3 (batch t) (place t r) d := by
  obtain ⟨e0, e1, e2⟩ := index11 t
  funext a; apply Fin.ext
  match a with
  | ⟨0, _⟩ => show win0_11.index t 0 * 1 + 1 * 0 = t.val / 8; omega
  | ⟨1, _⟩ => show win0_11.index t 1 * 1024 + 1 * r.val = t.val % 8 * 1024 + r.val; omega
  | ⟨2, _⟩ => show win0_11.index t 2 * 1024 + 1 * d.val = d.val; omega

/-- The block of window 12 at point `t`. -/
theorem index12 : ∀ t : Fin cfg0.N, win0_12.index t 0 = t.val / 8 ∧ win0_12.index t 1 = 0 ∧ win0_12.index t 2 = t.val % 8 :=
  (by decide +kernel : ∀ t : Fin grid0.N, win0_12.index t 0 = t.val / 8 ∧ win0_12.index t 1 = 0 ∧ win0_12.index t 2 = t.val % 8)

/-- Where window 12's block lies in its array. -/
theorem emb12 (t : Fin cfg0.N) (g : Fin 8) (r : Fin 1024) :
    ((cfg0.win 12).blk t).view.emb (ix3 0 g r) = ix3 (batch t) g (place t r) := by
  obtain ⟨e0, e1, e2⟩ := index12 t
  funext a; apply Fin.ext
  match a with
  | ⟨0, _⟩ => show win0_12.index t 0 * 1 + 1 * 0 = t.val / 8; omega
  | ⟨1, _⟩ => show win0_12.index t 1 * 8 + 1 * g.val = g.val; omega
  | ⟨2, _⟩ => show win0_12.index t 2 * 1024 + 1 * r.val = t.val % 8 * 1024 + r.val; omega

variable (m : (ℓ : Loc nD τ sig) → Buf (Elt Ideal) ℓ)

/-- The block of the tokens. -/
theorem block0 (c : Dev nD) (t : Fin cfg0.N) (r d : Fin 1024) :
    iblk m c 0 t (ix3 0 r d) = m ((c : Thread nD τ).loc main_arg0) (ix3 (batch t) (place t r) d) := by
  have h : iblk m c 0 t (ix3 0 r d) = V m c main_arg0 (((cfg0.win 0).blk t).view.emb (ix3 0 r d)) := rfl
  rw [h, emb0, V_main_arg0]

/-- The block of the weights. -/
theorem block1 (c : Dev nD) (t : Fin cfg0.N) (r : Fin 1024) (d : Fin 2048) :
    iblk m c 1 t (ix2 r d) = m ((c : Thread nD τ).loc main_arg1) (ix2 r d) := by
  have h : iblk m c 1 t (ix2 r d) = V m c main_arg1 (((cfg0.win 1).blk t).view.emb (ix2 r d)) := rfl
  rw [h, emb1, V_main_arg1]

/-- The block of the gate weights. -/
theorem block2 (c : Dev nD) (t : Fin cfg0.N) (r : Fin 1024) (d : Fin 2048) :
    iblk m c 2 t (ix2 r d) = m ((c : Thread nD τ).loc main_arg2) (ix2 r d) := by
  have h : iblk m c 2 t (ix2 r d) = V m c main_arg2 (((cfg0.win 2).blk t).view.emb (ix2 r d)) := rfl
  rw [h, emb2, V_main_arg2]

/-- The block of the small gates' weights. -/
theorem block3 (c : Dev nD) (t : Fin cfg0.N) (r : Fin 8) (d : Fin 1024) :
    iblk m c 3 t (ix2 r d) = m ((c : Thread nD τ).loc main_arg3) (ix2 r d) := by
  have h : iblk m c 3 t (ix2 r d) = V m c main_arg3 (((cfg0.win 3).blk t).view.emb (ix2 r d)) := rfl
  rw [h, emb3, V_main_arg3]

/-- The block of the convolution's weights. -/
theorem block4 (c : Dev nD) (t : Fin cfg0.N) (r : Fin 4) (d : Fin 1024) :
    iblk m c 4 t (ix2 r d) = m ((c : Thread nD τ).loc main_arg4) (ix2 r d) := by
  have h : iblk m c 4 t (ix2 r d) = V m c main_arg4 (((cfg0.win 4).blk t).view.emb (ix2 r d)) := rfl
  rw [h, emb4, V_main_arg4]

/-- The block of the convolution's bias. -/
theorem block5 (c : Dev nD) (t : Fin cfg0.N) (r : Fin 1) (d : Fin 1024) :
    iblk m c 5 t (ix2 r d) = m ((c : Thread nD τ).loc main_arg5) (ix2 r d) := by
  have h : iblk m c 5 t (ix2 r d) = V m c main_arg5 (((cfg0.win 5).blk t).view.emb (ix2 r d)) := rfl
  rw [h, emb5, V_main_arg5]

/-- The biases' array, spread over the lanes. -/
theorem biases_eq (c : Dev nD) (g : Fin 8) (r : Fin 1024) :
    V m c main_v2 (ix2 g r) = bias (m ((c : Thread nD τ).loc main_arg6)) (m ((c : Thread nD τ).loc main_arg7)) g := by
  have h : (V m c main_v2 : FVec Ideal S8x1024 .f32) = broadcastInDim S8x1024 ![0, 1] bcast_S8x1_S8x1024_0_1 (broadcastInDim S8x1 ![0] bcast_S8_S8x1_0
      (concatenate S8 0 [⟨S4, (m ((c : Thread nD τ).loc main_arg6) : FVec Ideal S4 .f32)⟩, ⟨S4, (m ((c : Thread nD τ).loc main_arg7) : FVec Ideal S4 .f32)⟩] concatenates_S4_S4_S8_d0)) := by
    unfold_abbrev_sides
    after_results
  rw [h]
  pointwise
  rfl

/-- The block of the gates' biases. -/
theorem block6 (c : Dev nD) (t : Fin cfg0.N) (g : Fin 8) (r : Fin 1024) :
    iblk m c 6 t (ix2 g r) = bias (m ((c : Thread nD τ).loc main_arg6)) (m ((c : Thread nD τ).loc main_arg7)) g := by
  have h : iblk m c 6 t (ix2 g r) = V m c main_v2 (((cfg0.win 6).blk t).view.emb (ix2 g r)) := rfl
  rw [h, emb6, biases_eq]

end Cert.Inproj
-- ==== Proof.Inproj.Finite.lean ====
/-
  What the precondition says, and that with it the arguments of the SiLUs are real numbers.
-/
module

public import proofs.«01_k».proof.Defs
public import proofs.«01_k».proof.Proof.Fox.Finite
public import proofs.«01_k».proof.Proof.Inproj.Place

@[expose] public section

noncomputable section

open Idealize.ShloMosaic
open Cert.Kernel4Ideal

namespace Cert.Inproj

/-- The precondition's side conditions. -/
instance finite_facts : Cert.Pre_finite4.Facts where
  bcast_S_S4x8192x1024 := by decide
  slices_S1024x2048_S1024x1024_0_0 := by decide
  bitsLt_bf16_f32 := by decide
  bcast_S_S1024x1024 := by decide
  slices_S1024x2048_S1024x1024_0_1024 := by decide
  bcast_S_S4x1024 := by decide
  bcast_S_S1x1024 := by decide

/-- An extended real that is a real number. -/
def IsReal (z : EReal) : Prop := ∃ r : ℝ, z = r

theorem IsReal.ne {z : EReal} (h : IsReal z) : z ≠ ⊥ ∧ z ≠ ⊤ := by
  obtain ⟨r, rfl⟩ := h
  exact ⟨EReal.coe_ne_bot r, EReal.coe_ne_top r⟩

theorem isReal_of_ne {z : EReal} (h : z ≠ ⊥ ∧ z ≠ ⊤) : IsReal z := by
  lift z to ℝ using ⟨h.2, h.1⟩
  exact ⟨z, rfl⟩

theorem IsReal.zero : IsReal 0 := ⟨0, rfl⟩

theorem IsReal.add {a b : EReal} (ha : IsReal a) (hb : IsReal b) : IsReal (a + b) := by
  obtain ⟨a, rfl⟩ := ha
  obtain ⟨b, rfl⟩ := hb
  exact ⟨a + b, (EReal.coe_add a b).symm⟩

theorem IsReal.mul {a b : EReal} (ha : IsReal a) (hb : IsReal b) : IsReal (a * b) := by
  obtain ⟨a, rfl⟩ := ha
  obtain ⟨b, rfl⟩ := hb
  exact ⟨a * b, (EReal.coe_mul a b).symm⟩

theorem IsReal.sum {n : ℕ} {f : Fin n → EReal} (h : ∀ i, IsReal (f i)) : IsReal (∑ i, f i) := by
  choose g hg using h
  refine ⟨∑ i, g i, ?_⟩
  rw [show f = fun i => (g i : EReal) from funext hg]
  exact (map_sum (⟨⟨fun r : ℝ => (r : EReal), EReal.coe_zero⟩, EReal.coe_add⟩ : ℝ →+ EReal) g Finset.univ).symm

section

variable (x0 : FVec Ideal S4x8192x1024 .f32) (x1 x2 : FVec Ideal S1024x2048 .bf16) (x3 : FVec Ideal S8x1024 .bf16) (x4 : FVec Ideal S4x1024 .f32) (x5 : FVec Ideal S1x1024 .f32) (x6 x7 : FVec Ideal S4 .f32)

/-- The tokens are real numbers. -/
theorem tokens_real (h : (Cert.Pre_finite4.fn x0 x1 x2 x3 x4 x5 x6 x7).1 = fun _ => 1#1) (i : S4x8192x1024.Idx) : IsReal (x0 i) :=
  isReal_of_ne (Cert.Fox.between (x := x0 i) Cert.Fox.bot_bits Cert.Fox.infinity_bits (congrFun h i))

/-- The weights of the queries and the keys are real numbers. -/
theorem weights_real (h : (Cert.Pre_finite4.fn x0 x1 x2 x3 x4 x5 x6 x7).2.1 = fun _ => 1#1) (e d : Fin 1024) : IsReal (x1 (ix2 e ⟨d.val, by omega⟩)) := by
  have k : x1 (ix2 e ⟨d.val, by omega⟩) = extractStridedSlice Cert.Pre_finite4.S1024x1024 ![0, 0] x1 finite_facts.slices_S1024x2048_S1024x1024_0_0 (ix2 e d) := by
    refine congrArg x1 (funext fun a => Fin.ext ?_)
    match a with
    | ⟨0, _⟩ => show e.val = 0 + e.val; omega
    | ⟨1, _⟩ => show d.val = 0 + d.val; omega
  rw [k]
  exact isReal_of_ne (Cert.Fox.between Cert.Fox.bot_bits Cert.Fox.infinity_bits (congrFun h (ix2 e d)))

/-- The weights of the SiLU gates are real numbers. -/
theorem gate_weights_real (h : (Cert.Pre_finite4.fn x0 x1 x2 x3 x4 x5 x6 x7).2.2.1 = fun _ => 1#1) (e d : Fin 1024) : IsReal (x2 (ix2 e ⟨1024 + d.val, by omega⟩)) := by
  have k : x2 (ix2 e ⟨1024 + d.val, by omega⟩) = extractStridedSlice Cert.Pre_finite4.S1024x1024 ![0, 1024] x2 finite_facts.slices_S1024x2048_S1024x1024_0_1024 (ix2 e d) := by
    refine congrArg x2 (funext fun a => Fin.ext ?_)
    match a with
    | ⟨0, _⟩ => show e.val = 0 + e.val; omega
    | ⟨1, _⟩ => show 1024 + d.val = 1024 + d.val; rfl
  rw [k]
  exact isReal_of_ne (Cert.Fox.between Cert.Fox.bot_bits Cert.Fox.infinity_bits (congrFun h (ix2 e d)))

/-- The convolution's weights are real numbers. -/
theorem taps_real (h : (Cert.Pre_finite4.fn x0 x1 x2 x3 x4 x5 x6 x7).2.2.2.1 = fun _ => 1#1) (i : S4x1024.Idx) : IsReal (x4 i) :=
  isReal_of_ne (Cert.Fox.between (x := x4 i) Cert.Fox.bot_bits Cert.Fox.infinity_bits (congrFun h i))

/-- The convolution's bias is real numbers. -/
theorem bias_real (h : (Cert.Pre_finite4.fn x0 x1 x2 x3 x4 x5 x6 x7).2.2.2.2 = fun _ => 1#1) (i : S1x1024.Idx) : IsReal (x5 i) :=
  isReal_of_ne (Cert.Fox.between (x := x5 i) Cert.Fox.bot_bits Cert.Fox.infinity_bits (congrFun h i))

end

/-- A projection of real tokens by real weights is a real number. -/
theorem proj_real {x : FVec Ideal S4x8192x1024 .f32} {w : FVec Ideal S1024x2048 .bf16} {d : Fin 2048} (hx : ∀ i, IsReal (x i)) (hw : ∀ e, IsReal (w (ix2 e d)))
    (b : Fin 4) (s : Fin 8192) : IsReal (proj x w b s d) :=
  IsReal.sum fun e => (hx _).mul (hw e)

/-- The convolution's input is real numbers. -/
theorem before_real {x : FVec Ideal S4x8192x1024 .f32} {w : FVec Ideal S1024x2048 .bf16} (hx : ∀ i, IsReal (x i))
    (hw : ∀ e d : Fin 1024, IsReal (w (ix2 e ⟨d.val, by omega⟩))) (b : Fin 4) (n : ℕ) (d : Fin 1024) : IsReal (before x w b n d.val) := by
  unfold before
  split
  · exact proj_real hx (fun e => hw e d) b _
  · exact IsReal.zero

/-- The convolution is real numbers. -/
theorem conv_real {x : FVec Ideal S4x8192x1024 .f32} {w : FVec Ideal S1024x2048 .bf16} {cw : FVec Ideal S4x1024 .f32} {cb : FVec Ideal S1x1024 .f32} (hx : ∀ i, IsReal (x i))
    (hw : ∀ e d : Fin 1024, IsReal (w (ix2 e ⟨d.val, by omega⟩))) (hcw : ∀ i, IsReal (cw i)) (hcb : ∀ i, IsReal (cb i)) (b : Fin 4) (s : Fin 8192) (d : Fin 1024) :
    IsReal (conv x w cw cb b s d) :=
  ((((hcb _).add ((hcw _).mul (before_real hx hw b _ d))).add ((hcw _).mul (before_real hx hw b _ d))).add ((hcw _).mul (before_real hx hw b _ d))).add
    ((hcw _).mul (before_real hx hw b _ d))

end Cert.Inproj
-- ==== Proof.Inproj.RunA.lean ====
/-
  The second layer's input projection: the first tile of a sequence, which starts with zeros.
  What the tile leaves in each output's block and in the scratch buffer.
-/
module

public import proofs.«01_k».proof.Proof.Inproj.Common

@[expose] public section

set_option maxRecDepth 16384

noncomputable section

open Idealize.ShloMosaic
open Cert.Kernel4Ideal Cert.Kernel4Ideal.Gen

namespace Cert.Inproj.RunA

variable {c : Dev nD} {i : grid0.Coords}
  {arg2 : Memref sig .tc .vmem S1x1024x1024 .f32} {harg2 : arg2.IsWhole}
  {arg3 : Memref sig .tc .vmem S1024x2048 .bf16} {harg3 : arg3.IsWhole}
  {arg4 : Memref sig .tc .vmem S1024x2048 .bf16} {harg4 : arg4.IsWhole}
  {arg5 : Memref sig .tc .vmem S8x1024 .bf16} {harg5 : arg5.IsWhole}
  {arg6 : Memref sig .tc .vmem S4x1024 .f32} {harg6 : arg6.IsWhole}
  {arg7 : Memref sig .tc .vmem S1x1024 .f32} {harg7 : arg7.IsWhole}
  {arg8 : Memref sig .tc .vmem S8x1024 .f32} {harg8 : arg8.IsWhole}
  {arg9 : Memref sig .tc .vmem S1x1024x512 .bf16} {harg9 : arg9.IsWhole}
  {arg10 : Memref sig .tc .vmem S1x1024x512 .bf16} {harg10 : arg10.IsWhole}
  {arg11 : Memref sig .tc .vmem S1x1024x1024 .bf16} {harg11 : arg11.IsWhole}
  {arg12 : Memref sig .tc .vmem S1x1024x1024 .bf16} {harg12 : arg12.IsWhole}
  {arg13 : Memref sig .tc .vmem S1x1024x1024 .bf16} {harg13 : arg13.IsWhole}
  {arg14 : Memref sig .tc .vmem S1x8x1024 .f32} {harg14 : arg14.IsWhole}
  {arg15 : Memref sig .tc .vmem S1032x1024 .f32} {harg15 : arg15.IsWhole}
  {x0 : Vec Ideal S1x1024x1024 .f32} {x1 : Vec Ideal S1024x2048 .bf16} {x2 : Vec Ideal S1024x2048 .bf16} {x3 : Vec Ideal S8x1024 .bf16} {x4 : Vec Ideal S4x1024 .f32} {x5 : Vec Ideal S1x1024 .f32} {x6 : Vec Ideal S8x1024 .f32}
  {U : ℕ → ℕ → EReal}
  {v : View sig .tc .vmem S1032x1024 .f32} {f : v.ty.Contents (Elt Ideal)}

/-- Chunk 0's rows are stored. -/
theorem filled0 (H : Own x0 x1 U) (f : v.ty.Contents (Elt Ideal)) : Filled v (v.writes (Elt Ideal) f (kernelRun0_A.sl.HS0_2 (F := Ideal) c arg2 harg2 arg3 harg3 x0 x1)) U 0 := by
  unfold kernelRun0_A.sl.HS0_2
  exact filled_store _ _ (fun r d => (conv_in0 _ _ r d).trans (own_loads H _ _ (by decide) r d))

/-- Chunk 1's rows are stored. -/
theorem filled1 (H : Own x0 x1 U) (f : v.ty.Contents (Elt Ideal)) : Filled v (v.writes (Elt Ideal) f (kernelRun0_A.sl.HS0_4 (F := Ideal) c arg2 harg2 arg3 harg3 arg15 x0 x1)) U 256 := by
  unfold kernelRun0_A.sl.HS0_4
  exact filled_store _ _ (fun r d => (conv_in1 _ _ r d).trans (own_loads H _ _ (by decide) r d))

/-- Chunk 2's rows are stored. -/
theorem filled2 (H : Own x0 x1 U) (f : v.ty.Contents (Elt Ideal)) : Filled v (v.writes (Elt Ideal) f (kernelRun0_A.sl.HS0_6 (F := Ideal) c arg2 harg2 arg3 harg3 arg15 x0 x1)) U 512 := by
  unfold kernelRun0_A.sl.HS0_6
  exact filled_store _ _ (fun r d => (conv_in2 _ _ r d).trans (own_loads H _ _ (by decide) r d))

/-- Chunk 3's rows are stored. -/
theorem filled3 (H : Own x0 x1 U) (f : v.ty.Contents (Elt Ideal)) : Filled v (v.writes (Elt Ideal) f (kernelRun0_A.sl.HS0_8 (F := Ideal) c arg2 harg2 arg3 harg3 arg15 x0 x1)) U 768 := by
  unfold kernelRun0_A.sl.HS0_8
  exact filled_store _ _ (fun r d => (conv_in3 _ _ r d).trans (own_loads H _ _ (by decide) r d))

/-- After chunk 0 is stored, the rows before the tile, in the columns not yet kept. -/
theorem fresh0 (hz : ∀ (r : Fin 8) (d : Fin 1024), U r.val d.val = 0) : Fresh v (v.writes (Elt Ideal) f (kernelRun0_A.sl.HS0_2 (F := Ideal) c arg2 harg2 arg3 harg3 x0 x1)) U 0 := by
  unfold kernelRun0_A.sl.HS0_2
  exact fresh_store _ _ (fresh_zeros _ _ (fun r d => (zeros _).trans (hz r d).symm))

/-- After chunk 1 is stored, the rows before the tile, in the columns not yet kept. -/
theorem fresh1 (hz : ∀ (r : Fin 8) (d : Fin 1024), U r.val d.val = 0) : Fresh v (v.writes (Elt Ideal) f (kernelRun0_A.sl.HS0_4 (F := Ideal) c arg2 harg2 arg3 harg3 arg15 x0 x1)) U 256 := by
  unfold kernelRun0_A.sl.HS0_4
  exact fresh_store _ _ (fresh_keep _ _ (fresh0 hz))

/-- After chunk 2 is stored, the rows before the tile, in the columns not yet kept. -/
theorem fresh2 (hz : ∀ (r : Fin 8) (d : Fin 1024), U r.val d.val = 0) : Fresh v (v.writes (Elt Ideal) f (kernelRun0_A.sl.HS0_6 (F := Ideal) c arg2 harg2 arg3 harg3 arg15 x0 x1)) U 512 := by
  unfold kernelRun0_A.sl.HS0_6
  exact fresh_store _ _ (fresh_keep _ _ (fresh1 hz))

/-- After chunk 3 is stored, the rows before the tile, in the columns not yet kept. -/
theorem fresh3 (hz : ∀ (r : Fin 8) (d : Fin 1024), U r.val d.val = 0) : Fresh v (v.writes (Elt Ideal) f (kernelRun0_A.sl.HS0_8 (F := Ideal) c arg2 harg2 arg3 harg3 arg15 x0 x1)) U 768 := by
  unfold kernelRun0_A.sl.HS0_8
  exact fresh_store _ _ (fresh_keep _ _ (fresh2 hz))

/-- After chunk 0 is stored, the rows kept so far. -/
theorem kept0 (H : Own x0 x1 U) (f : v.ty.Contents (Elt Ideal)) : Kept v (v.writes (Elt Ideal) f (kernelRun0_A.sl.HS0_2 (F := Ideal) c arg2 harg2 arg3 harg3 x0 x1)) U 0 := by
  unfold kernelRun0_A.sl.HS0_2
  exact kept_store _ _ kept_zero

/-- After chunk 1 is stored, the rows kept so far. -/
theorem kept1 (H : Own x0 x1 U) (f : v.ty.Contents (Elt Ideal)) : Kept v (v.writes (Elt Ideal) f (kernelRun0_A.sl.HS0_4 (F := Ideal) c arg2 harg2 arg3 harg3 arg15 x0 x1)) U 256 := by
  unfold kernelRun0_A.sl.HS0_4
  exact kept_store _ _ (kept_keep _ _ (fun r d => (keep0 _ _).trans (load_last (filled0 H _) _ r d)) (kept0 H f))

/-- After chunk 2 is stored, the rows kept so far. -/
theorem kept2 (H : Own x0 x1 U) (f : v.ty.Contents (Elt Ideal)) : Kept v (v.writes (Elt Ideal) f (kernelRun0_A.sl.HS0_6 (F := Ideal) c arg2 harg2 arg3 harg3 arg15 x0 x1)) U 512 := by
  unfold kernelRun0_A.sl.HS0_6
  exact kept_store _ _ (kept_keep _ _ (fun r d => (keep1 _ _).trans (load_last (filled1 H _) _ r d)) (kept1 H f))

/-- After chunk 3 is stored, the rows kept so far. -/
theorem kept3 (H : Own x0 x1 U) (f : v.ty.Contents (Elt Ideal)) : Kept v (v.writes (Elt Ideal) f (kernelRun0_A.sl.HS0_8 (F := Ideal) c arg2 harg2 arg3 harg3 arg15 x0 x1)) U 768 := by
  unfold kernelRun0_A.sl.HS0_8
  exact kept_store _ _ (kept_keep _ _ (fun r d => (keep2 _ _).trans (load_last (filled2 H _) _ r d)) (kept2 H f))

/-- The scratch buffer's first rows after the tile are the last rows of the tile. -/
theorem scratch (hc0 : cond0_0 i) (H : Own x0 x1 U) (r : Fin 1032) (d : Fin 1024) (hr : r.val < 8) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix2 r d) = U (1024 + r.val) d.val := by
  unfold sout0_A_0 kernelRun0_A
  exact kept_keep _ _ (fun r d => (keep3 _ _).trans (load_last (filled3 H _) _ r d)) (kept3 H _) r d hr d.isLt

/-- The queries' block. -/
theorem queries (hc0 : cond0_0 i) (H : Own x0 x1 U) (hz : ∀ (r : Fin 8) (d : Fin 1024), U r.val d.val = 0) (r : Fin 1024) (d : Fin 512) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix3 0 r d) = siluT (convAt x4 x5 U r.val ⟨0 + d.val, by have := d.isLt; omega⟩) := by
  have hdd := d.isLt
  unfold out0_A_7 kernelRun0_A
  by_cases h : 256 ≤ d.val
  · refine Eq.trans ?_ (congrArg (fun n : Fin 1024 => siluT (convAt x4 x5 U r.val n)) (Fin.ext (show 256 + (d.val - 256) = 0 + d.val by omega) : (⟨256 + (d.val - 256), by omega⟩ : Fin 1024) = _))
    refine (View.read_writes_cons_unit_of_mem VO0_7 _ _ _ _ (ix3 0 r d)
      (ix3 0 r ⟨d.val - 256, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 256 + (d.val - 256); omega
    · have hd : 256 + (⟨d.val - 256, by omega⟩ : Fin 256).val < 1024 := show 256 + (d.val - 256) < 1024 by omega
      refine (query1 r ⟨d.val - 256, by omega⟩ _ _ _ _ _ _ _ _ _).trans (congrArg (fun z => siluT (z)) ?_)
      exact taps_congr (load_bias _ _ _ ⟨d.val - 256, by omega⟩ hd)
        (load_tap _ _ (by decide : 0 < 4) _ ⟨d.val - 256, by omega⟩ hd) (load_tap _ _ (by decide : 1 < 4) _ ⟨d.val - 256, by omega⟩ hd) (load_tap _ _ (by decide : 2 < 4) _ ⟨d.val - 256, by omega⟩ hd) (load_tap _ _ (by decide : 3 < 4) _ ⟨d.val - 256, by omega⟩ hd)
        (load_rows (filled1 H _) (fresh1 hz) _ r ⟨d.val - 256, by omega⟩) (load_rows (filled1 H _) (fresh1 hz) _ r ⟨d.val - 256, by omega⟩) (load_rows (filled1 H _) (fresh1 hz) _ r ⟨d.val - 256, by omega⟩) (load_own (filled1 H _) _ r ⟨d.val - 256, by omega⟩)
  · refine (View.read_writes_cons_unit_of_not_mem VO0_7 _ _ _ _ (ix3 0 r d) rfl 2 (.inl (show d.val < 256 by omega))).trans ?_
    refine Eq.trans ?_ (congrArg (fun n : Fin 1024 => siluT (convAt x4 x5 U r.val n)) (Fin.ext (show 0 + (d.val - 0) = 0 + d.val by omega) : (⟨0 + (d.val - 0), by omega⟩ : Fin 1024) = _))
    refine (View.read_writes_cons_unit_of_mem VO0_7 _ _ _ _ (ix3 0 r d)
      (ix3 0 r ⟨d.val - 0, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 0 + (d.val - 0); omega
    · have hd : 0 + (⟨d.val - 0, by omega⟩ : Fin 256).val < 1024 := show 0 + (d.val - 0) < 1024 by omega
      refine (query0 r ⟨d.val - 0, by omega⟩ _ _ _ _ _ _ _ _ _).trans (congrArg (fun z => siluT (z)) ?_)
      exact taps_congr (load_bias _ _ _ ⟨d.val - 0, by omega⟩ hd)
        (load_tap _ _ (by decide : 0 < 4) _ ⟨d.val - 0, by omega⟩ hd) (load_tap _ _ (by decide : 1 < 4) _ ⟨d.val - 0, by omega⟩ hd) (load_tap _ _ (by decide : 2 < 4) _ ⟨d.val - 0, by omega⟩ hd) (load_tap _ _ (by decide : 3 < 4) _ ⟨d.val - 0, by omega⟩ hd)
        (load_rows (filled0 H _) (fresh0 hz) _ r ⟨d.val - 0, by omega⟩) (load_rows (filled0 H _) (fresh0 hz) _ r ⟨d.val - 0, by omega⟩) (load_rows (filled0 H _) (fresh0 hz) _ r ⟨d.val - 0, by omega⟩) (load_own (filled0 H _) _ r ⟨d.val - 0, by omega⟩)

/-- The keys' block. -/
theorem keys (hc0 : cond0_0 i) (H : Own x0 x1 U) (hz : ∀ (r : Fin 8) (d : Fin 1024), U r.val d.val = 0) (r : Fin 1024) (d : Fin 512) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix3 0 r d) = siluT (convAt x4 x5 U r.val ⟨512 + d.val, by have := d.isLt; omega⟩) * scale := by
  have hdd := d.isLt
  unfold out0_A_8 kernelRun0_A
  by_cases h : 256 ≤ d.val
  · refine Eq.trans ?_ (congrArg (fun n : Fin 1024 => siluT (convAt x4 x5 U r.val n) * scale) (Fin.ext (show 768 + (d.val - 256) = 512 + d.val by omega) : (⟨768 + (d.val - 256), by omega⟩ : Fin 1024) = _))
    refine (View.read_writes_cons_unit_of_mem VO0_8 _ _ _ _ (ix3 0 r d)
      (ix3 0 r ⟨d.val - 256, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 256 + (d.val - 256); omega
    · have hd : 768 + (⟨d.val - 256, by omega⟩ : Fin 256).val < 1024 := show 768 + (d.val - 256) < 1024 by omega
      refine (key1 r ⟨d.val - 256, by omega⟩ _ _ _ _ _ _ _ _ _).trans (congrArg (fun z => siluT (z) * scale) ?_)
      exact taps_congr (load_bias _ _ _ ⟨d.val - 256, by omega⟩ hd)
        (load_tap _ _ (by decide : 0 < 4) _ ⟨d.val - 256, by omega⟩ hd) (load_tap _ _ (by decide : 1 < 4) _ ⟨d.val - 256, by omega⟩ hd) (load_tap _ _ (by decide : 2 < 4) _ ⟨d.val - 256, by omega⟩ hd) (load_tap _ _ (by decide : 3 < 4) _ ⟨d.val - 256, by omega⟩ hd)
        (load_rows (filled3 H _) (fresh3 hz) _ r ⟨d.val - 256, by omega⟩) (load_rows (filled3 H _) (fresh3 hz) _ r ⟨d.val - 256, by omega⟩) (load_rows (filled3 H _) (fresh3 hz) _ r ⟨d.val - 256, by omega⟩) (load_own (filled3 H _) _ r ⟨d.val - 256, by omega⟩)
  · refine (View.read_writes_cons_unit_of_not_mem VO0_8 _ _ _ _ (ix3 0 r d) rfl 2 (.inl (show d.val < 256 by omega))).trans ?_
    refine Eq.trans ?_ (congrArg (fun n : Fin 1024 => siluT (convAt x4 x5 U r.val n) * scale) (Fin.ext (show 512 + (d.val - 0) = 512 + d.val by omega) : (⟨512 + (d.val - 0), by omega⟩ : Fin 1024) = _))
    refine (View.read_writes_cons_unit_of_mem VO0_8 _ _ _ _ (ix3 0 r d)
      (ix3 0 r ⟨d.val - 0, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 0 + (d.val - 0); omega
    · have hd : 512 + (⟨d.val - 0, by omega⟩ : Fin 256).val < 1024 := show 512 + (d.val - 0) < 1024 by omega
      refine (key0 r ⟨d.val - 0, by omega⟩ _ _ _ _ _ _ _ _ _).trans (congrArg (fun z => siluT (z) * scale) ?_)
      exact taps_congr (load_bias _ _ _ ⟨d.val - 0, by omega⟩ hd)
        (load_tap _ _ (by decide : 0 < 4) _ ⟨d.val - 0, by omega⟩ hd) (load_tap _ _ (by decide : 1 < 4) _ ⟨d.val - 0, by omega⟩ hd) (load_tap _ _ (by decide : 2 < 4) _ ⟨d.val - 0, by omega⟩ hd) (load_tap _ _ (by decide : 3 < 4) _ ⟨d.val - 0, by omega⟩ hd)
        (load_rows (filled2 H _) (fresh2 hz) _ r ⟨d.val - 0, by omega⟩) (load_rows (filled2 H _) (fresh2 hz) _ r ⟨d.val - 0, by omega⟩) (load_rows (filled2 H _) (fresh2 hz) _ r ⟨d.val - 0, by omega⟩) (load_own (filled2 H _) _ r ⟨d.val - 0, by omega⟩)

/-- The values' block. -/
theorem valuesOut (hc0 : cond0_0 i) (r d : Fin 1024) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix3 0 r d) = (project x0 x1 r ⟨1024 + d.val, by have := d.isLt; omega⟩ : EReal) := by
  have hdd := d.isLt
  unfold out0_A_9 kernelRun0_A
  by_cases h768 : 768 ≤ d.val
  · refine Eq.trans ?_ (congrArg (fun n : Fin 2048 => (project x0 x1 r n : EReal)) (Fin.ext (show 1792 + (d.val - 768) = 1024 + d.val by omega) : (⟨1792 + (d.val - 768), by omega⟩ : Fin 2048) = _))
    refine (View.read_writes_cons_unit_of_mem VO0_9 _ _ _ _ (ix3 0 r d)
      (ix3 0 r ⟨d.val - 768, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 768 + (d.val - 768); omega
    · exact (values3 _ _ r ⟨d.val - 768, by omega⟩).trans (congrArg (fun z => (z : EReal)) (project_loads _ _ r ⟨d.val - 768, by omega⟩ (show 1792 + (d.val - 768) < 2048 by omega)))
  refine (View.read_writes_cons_unit_of_not_mem VO0_9 _ _ _ _ (ix3 0 r d) rfl 2 (.inl (show d.val < 768 by omega))).trans ?_
  by_cases h512 : 512 ≤ d.val
  · refine Eq.trans ?_ (congrArg (fun n : Fin 2048 => (project x0 x1 r n : EReal)) (Fin.ext (show 1536 + (d.val - 512) = 1024 + d.val by omega) : (⟨1536 + (d.val - 512), by omega⟩ : Fin 2048) = _))
    refine (View.read_writes_cons_unit_of_mem VO0_9 _ _ _ _ (ix3 0 r d)
      (ix3 0 r ⟨d.val - 512, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 512 + (d.val - 512); omega
    · exact (values2 _ _ r ⟨d.val - 512, by omega⟩).trans (congrArg (fun z => (z : EReal)) (project_loads _ _ r ⟨d.val - 512, by omega⟩ (show 1536 + (d.val - 512) < 2048 by omega)))
  refine (View.read_writes_cons_unit_of_not_mem VO0_9 _ _ _ _ (ix3 0 r d) rfl 2 (.inl (show d.val < 512 by omega))).trans ?_
  by_cases h256 : 256 ≤ d.val
  · refine Eq.trans ?_ (congrArg (fun n : Fin 2048 => (project x0 x1 r n : EReal)) (Fin.ext (show 1280 + (d.val - 256) = 1024 + d.val by omega) : (⟨1280 + (d.val - 256), by omega⟩ : Fin 2048) = _))
    refine (View.read_writes_cons_unit_of_mem VO0_9 _ _ _ _ (ix3 0 r d)
      (ix3 0 r ⟨d.val - 256, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 256 + (d.val - 256); omega
    · exact (values1 _ _ r ⟨d.val - 256, by omega⟩).trans (congrArg (fun z => (z : EReal)) (project_loads _ _ r ⟨d.val - 256, by omega⟩ (show 1280 + (d.val - 256) < 2048 by omega)))
  refine (View.read_writes_cons_unit_of_not_mem VO0_9 _ _ _ _ (ix3 0 r d) rfl 2 (.inl (show d.val < 256 by omega))).trans ?_
  · refine Eq.trans ?_ (congrArg (fun n : Fin 2048 => (project x0 x1 r n : EReal)) (Fin.ext (show 1024 + (d.val - 0) = 1024 + d.val by omega) : (⟨1024 + (d.val - 0), by omega⟩ : Fin 2048) = _))
    refine (View.read_writes_cons_unit_of_mem VO0_9 _ _ _ _ (ix3 0 r d)
      (ix3 0 r ⟨d.val - 0, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 0 + (d.val - 0); omega
    · exact (values0 _ _ r ⟨d.val - 0, by omega⟩).trans (congrArg (fun z => (z : EReal)) (project_loads _ _ r ⟨d.val - 0, by omega⟩ (show 1024 + (d.val - 0) < 2048 by omega)))

/-- The memory's output gate's block. -/
theorem ogateOut (hc0 : cond0_0 i) (r d : Fin 1024) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix3 0 r d) = sigmoidT (project x0 x2 r ⟨0 + d.val, by have := d.isLt; omega⟩) := by
  have hdd := d.isLt
  unfold out0_A_10 kernelRun0_A
  by_cases h768 : 768 ≤ d.val
  · refine Eq.trans ?_ (congrArg (fun n : Fin 2048 => sigmoidT (project x0 x2 r n)) (Fin.ext (show 768 + (d.val - 768) = 0 + d.val by omega) : (⟨768 + (d.val - 768), by omega⟩ : Fin 2048) = _))
    refine (View.read_writes_cons_unit_of_mem VO0_10 _ _ _ _ (ix3 0 r d)
      (ix3 0 r ⟨d.val - 768, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 768 + (d.val - 768); omega
    · exact (ogate3 _ _ r ⟨d.val - 768, by omega⟩).trans (congrArg (fun z => sigmoidT (z)) (project_loads _ _ r ⟨d.val - 768, by omega⟩ (show 768 + (d.val - 768) < 2048 by omega)))
  refine (View.read_writes_cons_unit_of_not_mem VO0_10 _ _ _ _ (ix3 0 r d) rfl 2 (.inl (show d.val < 768 by omega))).trans ?_
  by_cases h512 : 512 ≤ d.val
  · refine Eq.trans ?_ (congrArg (fun n : Fin 2048 => sigmoidT (project x0 x2 r n)) (Fin.ext (show 512 + (d.val - 512) = 0 + d.val by omega) : (⟨512 + (d.val - 512), by omega⟩ : Fin 2048) = _))
    refine (View.read_writes_cons_unit_of_mem VO0_10 _ _ _ _ (ix3 0 r d)
      (ix3 0 r ⟨d.val - 512, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 512 + (d.val - 512); omega
    · exact (ogate2 _ _ r ⟨d.val - 512, by omega⟩).trans (congrArg (fun z => sigmoidT (z)) (project_loads _ _ r ⟨d.val - 512, by omega⟩ (show 512 + (d.val - 512) < 2048 by omega)))
  refine (View.read_writes_cons_unit_of_not_mem VO0_10 _ _ _ _ (ix3 0 r d) rfl 2 (.inl (show d.val < 512 by omega))).trans ?_
  by_cases h256 : 256 ≤ d.val
  · refine Eq.trans ?_ (congrArg (fun n : Fin 2048 => sigmoidT (project x0 x2 r n)) (Fin.ext (show 256 + (d.val - 256) = 0 + d.val by omega) : (⟨256 + (d.val - 256), by omega⟩ : Fin 2048) = _))
    refine (View.read_writes_cons_unit_of_mem VO0_10 _ _ _ _ (ix3 0 r d)
      (ix3 0 r ⟨d.val - 256, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 256 + (d.val - 256); omega
    · exact (ogate1 _ _ r ⟨d.val - 256, by omega⟩).trans (congrArg (fun z => sigmoidT (z)) (project_loads _ _ r ⟨d.val - 256, by omega⟩ (show 256 + (d.val - 256) < 2048 by omega)))
  refine (View.read_writes_cons_unit_of_not_mem VO0_10 _ _ _ _ (ix3 0 r d) rfl 2 (.inl (show d.val < 256 by omega))).trans ?_
  · refine Eq.trans ?_ (congrArg (fun n : Fin 2048 => sigmoidT (project x0 x2 r n)) (Fin.ext (show 0 + (d.val - 0) = 0 + d.val by omega) : (⟨0 + (d.val - 0), by omega⟩ : Fin 2048) = _))
    refine (View.read_writes_cons_unit_of_mem VO0_10 _ _ _ _ (ix3 0 r d)
      (ix3 0 r ⟨d.val - 0, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 0 + (d.val - 0); omega
    · exact (ogate0 _ _ r ⟨d.val - 0, by omega⟩).trans (congrArg (fun z => sigmoidT (z)) (project_loads _ _ r ⟨d.val - 0, by omega⟩ (show 0 + (d.val - 0) < 2048 by omega)))

/-- The last gate's block. -/
theorem zgateOut (hc0 : cond0_0 i) (r d : Fin 1024) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix3 0 r d) = siluT (project x0 x2 r ⟨1024 + d.val, by have := d.isLt; omega⟩) := by
  have hdd := d.isLt
  unfold out0_A_11 kernelRun0_A
  by_cases h768 : 768 ≤ d.val
  · refine Eq.trans ?_ (congrArg (fun n : Fin 2048 => siluT (project x0 x2 r n)) (Fin.ext (show 1792 + (d.val - 768) = 1024 + d.val by omega) : (⟨1792 + (d.val - 768), by omega⟩ : Fin 2048) = _))
    refine (View.read_writes_cons_unit_of_mem VO0_11 _ _ _ _ (ix3 0 r d)
      (ix3 0 r ⟨d.val - 768, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 768 + (d.val - 768); omega
    · exact (zgate3 _ _ r ⟨d.val - 768, by omega⟩).trans (congrArg (fun z => siluT (z)) (project_loads _ _ r ⟨d.val - 768, by omega⟩ (show 1792 + (d.val - 768) < 2048 by omega)))
  refine (View.read_writes_cons_unit_of_not_mem VO0_11 _ _ _ _ (ix3 0 r d) rfl 2 (.inl (show d.val < 768 by omega))).trans ?_
  by_cases h512 : 512 ≤ d.val
  · refine Eq.trans ?_ (congrArg (fun n : Fin 2048 => siluT (project x0 x2 r n)) (Fin.ext (show 1536 + (d.val - 512) = 1024 + d.val by omega) : (⟨1536 + (d.val - 512), by omega⟩ : Fin 2048) = _))
    refine (View.read_writes_cons_unit_of_mem VO0_11 _ _ _ _ (ix3 0 r d)
      (ix3 0 r ⟨d.val - 512, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 512 + (d.val - 512); omega
    · exact (zgate2 _ _ r ⟨d.val - 512, by omega⟩).trans (congrArg (fun z => siluT (z)) (project_loads _ _ r ⟨d.val - 512, by omega⟩ (show 1536 + (d.val - 512) < 2048 by omega)))
  refine (View.read_writes_cons_unit_of_not_mem VO0_11 _ _ _ _ (ix3 0 r d) rfl 2 (.inl (show d.val < 512 by omega))).trans ?_
  by_cases h256 : 256 ≤ d.val
  · refine Eq.trans ?_ (congrArg (fun n : Fin 2048 => siluT (project x0 x2 r n)) (Fin.ext (show 1280 + (d.val - 256) = 1024 + d.val by omega) : (⟨1280 + (d.val - 256), by omega⟩ : Fin 2048) = _))
    refine (View.read_writes_cons_unit_of_mem VO0_11 _ _ _ _ (ix3 0 r d)
      (ix3 0 r ⟨d.val - 256, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 256 + (d.val - 256); omega
    · exact (zgate1 _ _ r ⟨d.val - 256, by omega⟩).trans (congrArg (fun z => siluT (z)) (project_loads _ _ r ⟨d.val - 256, by omega⟩ (show 1280 + (d.val - 256) < 2048 by omega)))
  refine (View.read_writes_cons_unit_of_not_mem VO0_11 _ _ _ _ (ix3 0 r d) rfl 2 (.inl (show d.val < 256 by omega))).trans ?_
  · refine Eq.trans ?_ (congrArg (fun n : Fin 2048 => siluT (project x0 x2 r n)) (Fin.ext (show 1024 + (d.val - 0) = 1024 + d.val by omega) : (⟨1024 + (d.val - 0), by omega⟩ : Fin 2048) = _))
    refine (View.read_writes_cons_unit_of_mem VO0_11 _ _ _ _ (ix3 0 r d)
      (ix3 0 r ⟨d.val - 0, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 0 + (d.val - 0); omega
    · exact (zgate0 _ _ r ⟨d.val - 0, by omega⟩).trans (congrArg (fun z => siluT (z)) (project_loads _ _ r ⟨d.val - 0, by omega⟩ (show 1024 + (d.val - 0) < 2048 by omega)))

/-- The gates' block. -/
theorem gatesOut (hc0 : cond0_0 i) (g : Fin 8) (r : Fin 1024) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix3 0 g r) = gateBlock x0 x3 x6 (ix3 0 g r) := by
  unfold out0_A_12 kernelRun0_A
  refine (View.read_writes_cons_unit_of_mem VO0_12 _ _ _ _ (ix3 0 g r)
      (ix3 0 g r : (⟨3, ![1, 8, 1024]⟩ : Shape).Idx) rfl ?_).trans ?_
  · intro a
    match a with
    | ⟨0, _⟩ => rfl
    | ⟨1, _⟩ => show g.val = 0 + g.val; omega
    | ⟨2, _⟩ => show r.val = 0 + r.val; omega
  · unfold kernelRun0_A.sl.r_1 kernelRun0_A.sl.r_4 kernelRun0_A.sl.r_2 kernelRun0_A.sl.r_3 gateBlock
    rw [load_tokens, load_gates, load_gate_bias]
    rfl

end Cert.Inproj.RunA
-- ==== Proof.Inproj.RunB.lean ====
/-
  The second layer's input projection: a later tile, which starts with the rows the tile before kept.
  What the tile leaves in each output's block and in the scratch buffer.
-/
module

public import proofs.«01_k».proof.Proof.Inproj.Common

@[expose] public section

set_option maxRecDepth 16384

noncomputable section

open Idealize.ShloMosaic
open Cert.Kernel4Ideal Cert.Kernel4Ideal.Gen

namespace Cert.Inproj.RunB

variable {c : Dev nD} {i : grid0.Coords}
  {arg2 : Memref sig .tc .vmem S1x1024x1024 .f32} {harg2 : arg2.IsWhole}
  {arg3 : Memref sig .tc .vmem S1024x2048 .bf16} {harg3 : arg3.IsWhole}
  {arg4 : Memref sig .tc .vmem S1024x2048 .bf16} {harg4 : arg4.IsWhole}
  {arg5 : Memref sig .tc .vmem S8x1024 .bf16} {harg5 : arg5.IsWhole}
  {arg6 : Memref sig .tc .vmem S4x1024 .f32} {harg6 : arg6.IsWhole}
  {arg7 : Memref sig .tc .vmem S1x1024 .f32} {harg7 : arg7.IsWhole}
  {arg8 : Memref sig .tc .vmem S8x1024 .f32} {harg8 : arg8.IsWhole}
  {arg9 : Memref sig .tc .vmem S1x1024x512 .bf16} {harg9 : arg9.IsWhole}
  {arg10 : Memref sig .tc .vmem S1x1024x512 .bf16} {harg10 : arg10.IsWhole}
  {arg11 : Memref sig .tc .vmem S1x1024x1024 .bf16} {harg11 : arg11.IsWhole}
  {arg12 : Memref sig .tc .vmem S1x1024x1024 .bf16} {harg12 : arg12.IsWhole}
  {arg13 : Memref sig .tc .vmem S1x1024x1024 .bf16} {harg13 : arg13.IsWhole}
  {arg14 : Memref sig .tc .vmem S1x8x1024 .f32} {harg14 : arg14.IsWhole}
  {arg15 : Memref sig .tc .vmem S1032x1024 .f32} {harg15 : arg15.IsWhole}
  {x0 : Vec Ideal S1x1024x1024 .f32} {x1 : Vec Ideal S1024x2048 .bf16} {x2 : Vec Ideal S1024x2048 .bf16} {x3 : Vec Ideal S8x1024 .bf16} {x4 : Vec Ideal S4x1024 .f32} {x5 : Vec Ideal S1x1024 .f32} {x6 : Vec Ideal S8x1024 .f32} {xs0 : Vec Ideal S1032x1024 .f32}
  {U : ℕ → ℕ → EReal}
  {v : View sig .tc .vmem S1032x1024 .f32} {f : v.ty.Contents (Elt Ideal)}

/-- Chunk 0's rows are stored. -/
theorem filled0 (H : Own x0 x1 U) (f : v.ty.Contents (Elt Ideal)) : Filled v (v.writes (Elt Ideal) f (kernelRun0_B.sl.HS0_1 (F := Ideal) c arg2 harg2 arg3 harg3 x0 x1)) U 0 := by
  unfold kernelRun0_B.sl.HS0_1
  exact filled_store _ _ (fun r d => (conv_in0 _ _ r d).trans (own_loads H _ _ (by decide) r d))

/-- Chunk 1's rows are stored. -/
theorem filled1 (H : Own x0 x1 U) (f : v.ty.Contents (Elt Ideal)) : Filled v (v.writes (Elt Ideal) f (kernelRun0_B.sl.HS0_3 (F := Ideal) c arg2 harg2 arg3 harg3 arg15 x0 x1)) U 256 := by
  unfold kernelRun0_B.sl.HS0_3
  exact filled_store _ _ (fun r d => (conv_in1 _ _ r d).trans (own_loads H _ _ (by decide) r d))

/-- Chunk 2's rows are stored. -/
theorem filled2 (H : Own x0 x1 U) (f : v.ty.Contents (Elt Ideal)) : Filled v (v.writes (Elt Ideal) f (kernelRun0_B.sl.HS0_5 (F := Ideal) c arg2 harg2 arg3 harg3 arg15 x0 x1)) U 512 := by
  unfold kernelRun0_B.sl.HS0_5
  exact filled_store _ _ (fun r d => (conv_in2 _ _ r d).trans (own_loads H _ _ (by decide) r d))

/-- Chunk 3's rows are stored. -/
theorem filled3 (H : Own x0 x1 U) (f : v.ty.Contents (Elt Ideal)) : Filled v (v.writes (Elt Ideal) f (kernelRun0_B.sl.HS0_7 (F := Ideal) c arg2 harg2 arg3 harg3 arg15 x0 x1)) U 768 := by
  unfold kernelRun0_B.sl.HS0_7
  exact filled_store _ _ (fun r d => (conv_in3 _ _ r d).trans (own_loads H _ _ (by decide) r d))

/-- After chunk 0 is stored, the rows before the tile, in the columns not yet kept. -/
theorem fresh0 (G : Fresh v f U 0) : Fresh v (v.writes (Elt Ideal) f (kernelRun0_B.sl.HS0_1 (F := Ideal) c arg2 harg2 arg3 harg3 x0 x1)) U 0 := by
  unfold kernelRun0_B.sl.HS0_1
  exact fresh_store _ _ G

/-- After chunk 1 is stored, the rows before the tile, in the columns not yet kept. -/
theorem fresh1 (G : Fresh v f U 0) : Fresh v (v.writes (Elt Ideal) f (kernelRun0_B.sl.HS0_3 (F := Ideal) c arg2 harg2 arg3 harg3 arg15 x0 x1)) U 256 := by
  unfold kernelRun0_B.sl.HS0_3
  exact fresh_store _ _ (fresh_keep _ _ (fresh0 G))

/-- After chunk 2 is stored, the rows before the tile, in the columns not yet kept. -/
theorem fresh2 (G : Fresh v f U 0) : Fresh v (v.writes (Elt Ideal) f (kernelRun0_B.sl.HS0_5 (F := Ideal) c arg2 harg2 arg3 harg3 arg15 x0 x1)) U 512 := by
  unfold kernelRun0_B.sl.HS0_5
  exact fresh_store _ _ (fresh_keep _ _ (fresh1 G))

/-- After chunk 3 is stored, the rows before the tile, in the columns not yet kept. -/
theorem fresh3 (G : Fresh v f U 0) : Fresh v (v.writes (Elt Ideal) f (kernelRun0_B.sl.HS0_7 (F := Ideal) c arg2 harg2 arg3 harg3 arg15 x0 x1)) U 768 := by
  unfold kernelRun0_B.sl.HS0_7
  exact fresh_store _ _ (fresh_keep _ _ (fresh2 G))

/-- After chunk 0 is stored, the rows kept so far. -/
theorem kept0 (H : Own x0 x1 U) (f : v.ty.Contents (Elt Ideal)) : Kept v (v.writes (Elt Ideal) f (kernelRun0_B.sl.HS0_1 (F := Ideal) c arg2 harg2 arg3 harg3 x0 x1)) U 0 := by
  unfold kernelRun0_B.sl.HS0_1
  exact kept_store _ _ kept_zero

/-- After chunk 1 is stored, the rows kept so far. -/
theorem kept1 (H : Own x0 x1 U) (f : v.ty.Contents (Elt Ideal)) : Kept v (v.writes (Elt Ideal) f (kernelRun0_B.sl.HS0_3 (F := Ideal) c arg2 harg2 arg3 harg3 arg15 x0 x1)) U 256 := by
  unfold kernelRun0_B.sl.HS0_3
  exact kept_store _ _ (kept_keep _ _ (fun r d => (keep0 _ _).trans (load_last (filled0 H _) _ r d)) (kept0 H f))

/-- After chunk 2 is stored, the rows kept so far. -/
theorem kept2 (H : Own x0 x1 U) (f : v.ty.Contents (Elt Ideal)) : Kept v (v.writes (Elt Ideal) f (kernelRun0_B.sl.HS0_5 (F := Ideal) c arg2 harg2 arg3 harg3 arg15 x0 x1)) U 512 := by
  unfold kernelRun0_B.sl.HS0_5
  exact kept_store _ _ (kept_keep _ _ (fun r d => (keep1 _ _).trans (load_last (filled1 H _) _ r d)) (kept1 H f))

/-- After chunk 3 is stored, the rows kept so far. -/
theorem kept3 (H : Own x0 x1 U) (f : v.ty.Contents (Elt Ideal)) : Kept v (v.writes (Elt Ideal) f (kernelRun0_B.sl.HS0_7 (F := Ideal) c arg2 harg2 arg3 harg3 arg15 x0 x1)) U 768 := by
  unfold kernelRun0_B.sl.HS0_7
  exact kept_store _ _ (kept_keep _ _ (fun r d => (keep2 _ _).trans (load_last (filled2 H _) _ r d)) (kept2 H f))

/-- The scratch buffer's first rows after the tile are the last rows of the tile. -/
theorem scratch (hc0 : ¬cond0_0 i) (H : Own x0 x1 U) (r : Fin 1032) (d : Fin 1024) (hr : r.val < 8) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 (ix2 r d) = U (1024 + r.val) d.val := by
  unfold sout0_B_0 kernelRun0_B
  exact kept_keep _ _ (fun r d => (keep3 _ _).trans (load_last (filled3 H _) _ r d)) (kept3 H _) r d hr d.isLt

/-- What the buffer holds when the tile starts. -/
theorem start (hs : ∀ (r : Fin 1032) (d : Fin 1024), r.val < 8 → xs0 (ix2 r d) = U r.val d.val) :
    Fresh arg15.view (harg15.unread xs0) U 0 := fun r d hr _ =>
  (congrFun (harg15.read_unread xs0) _).trans (hs r d hr)

/-- The queries' block. -/
theorem queries (hc0 : ¬cond0_0 i) (H : Own x0 x1 U) (hs : ∀ (r : Fin 1032) (d : Fin 1024), r.val < 8 → xs0 (ix2 r d) = U r.val d.val) (r : Fin 1024) (d : Fin 512) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 (ix3 0 r d) = siluT (convAt x4 x5 U r.val ⟨0 + d.val, by have := d.isLt; omega⟩) := by
  have hdd := d.isLt
  unfold out0_B_7 kernelRun0_B
  by_cases h : 256 ≤ d.val
  · refine Eq.trans ?_ (congrArg (fun n : Fin 1024 => siluT (convAt x4 x5 U r.val n)) (Fin.ext (show 256 + (d.val - 256) = 0 + d.val by omega) : (⟨256 + (d.val - 256), by omega⟩ : Fin 1024) = _))
    refine (View.read_writes_cons_unit_of_mem VO0_7 _ _ _ _ (ix3 0 r d)
      (ix3 0 r ⟨d.val - 256, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 256 + (d.val - 256); omega
    · have hd : 256 + (⟨d.val - 256, by omega⟩ : Fin 256).val < 1024 := show 256 + (d.val - 256) < 1024 by omega
      refine (query1 r ⟨d.val - 256, by omega⟩ _ _ _ _ _ _ _ _ _).trans (congrArg (fun z => siluT (z)) ?_)
      exact taps_congr (load_bias _ _ _ ⟨d.val - 256, by omega⟩ hd)
        (load_tap _ _ (by decide : 0 < 4) _ ⟨d.val - 256, by omega⟩ hd) (load_tap _ _ (by decide : 1 < 4) _ ⟨d.val - 256, by omega⟩ hd) (load_tap _ _ (by decide : 2 < 4) _ ⟨d.val - 256, by omega⟩ hd) (load_tap _ _ (by decide : 3 < 4) _ ⟨d.val - 256, by omega⟩ hd)
        (load_rows (filled1 H _) (fresh1 (start hs)) _ r ⟨d.val - 256, by omega⟩) (load_rows (filled1 H _) (fresh1 (start hs)) _ r ⟨d.val - 256, by omega⟩) (load_rows (filled1 H _) (fresh1 (start hs)) _ r ⟨d.val - 256, by omega⟩) (load_own (filled1 H _) _ r ⟨d.val - 256, by omega⟩)
  · refine (View.read_writes_cons_unit_of_not_mem VO0_7 _ _ _ _ (ix3 0 r d) rfl 2 (.inl (show d.val < 256 by omega))).trans ?_
    refine Eq.trans ?_ (congrArg (fun n : Fin 1024 => siluT (convAt x4 x5 U r.val n)) (Fin.ext (show 0 + (d.val - 0) = 0 + d.val by omega) : (⟨0 + (d.val - 0), by omega⟩ : Fin 1024) = _))
    refine (View.read_writes_cons_unit_of_mem VO0_7 _ _ _ _ (ix3 0 r d)
      (ix3 0 r ⟨d.val - 0, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 0 + (d.val - 0); omega
    · have hd : 0 + (⟨d.val - 0, by omega⟩ : Fin 256).val < 1024 := show 0 + (d.val - 0) < 1024 by omega
      refine (query0 r ⟨d.val - 0, by omega⟩ _ _ _ _ _ _ _ _ _).trans (congrArg (fun z => siluT (z)) ?_)
      exact taps_congr (load_bias _ _ _ ⟨d.val - 0, by omega⟩ hd)
        (load_tap _ _ (by decide : 0 < 4) _ ⟨d.val - 0, by omega⟩ hd) (load_tap _ _ (by decide : 1 < 4) _ ⟨d.val - 0, by omega⟩ hd) (load_tap _ _ (by decide : 2 < 4) _ ⟨d.val - 0, by omega⟩ hd) (load_tap _ _ (by decide : 3 < 4) _ ⟨d.val - 0, by omega⟩ hd)
        (load_rows (filled0 H _) (fresh0 (start hs)) _ r ⟨d.val - 0, by omega⟩) (load_rows (filled0 H _) (fresh0 (start hs)) _ r ⟨d.val - 0, by omega⟩) (load_rows (filled0 H _) (fresh0 (start hs)) _ r ⟨d.val - 0, by omega⟩) (load_own (filled0 H _) _ r ⟨d.val - 0, by omega⟩)

/-- The keys' block. -/
theorem keys (hc0 : ¬cond0_0 i) (H : Own x0 x1 U) (hs : ∀ (r : Fin 1032) (d : Fin 1024), r.val < 8 → xs0 (ix2 r d) = U r.val d.val) (r : Fin 1024) (d : Fin 512) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 (ix3 0 r d) = siluT (convAt x4 x5 U r.val ⟨512 + d.val, by have := d.isLt; omega⟩) * scale := by
  have hdd := d.isLt
  unfold out0_B_8 kernelRun0_B
  by_cases h : 256 ≤ d.val
  · refine Eq.trans ?_ (congrArg (fun n : Fin 1024 => siluT (convAt x4 x5 U r.val n) * scale) (Fin.ext (show 768 + (d.val - 256) = 512 + d.val by omega) : (⟨768 + (d.val - 256), by omega⟩ : Fin 1024) = _))
    refine (View.read_writes_cons_unit_of_mem VO0_8 _ _ _ _ (ix3 0 r d)
      (ix3 0 r ⟨d.val - 256, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 256 + (d.val - 256); omega
    · have hd : 768 + (⟨d.val - 256, by omega⟩ : Fin 256).val < 1024 := show 768 + (d.val - 256) < 1024 by omega
      refine (key1 r ⟨d.val - 256, by omega⟩ _ _ _ _ _ _ _ _ _).trans (congrArg (fun z => siluT (z) * scale) ?_)
      exact taps_congr (load_bias _ _ _ ⟨d.val - 256, by omega⟩ hd)
        (load_tap _ _ (by decide : 0 < 4) _ ⟨d.val - 256, by omega⟩ hd) (load_tap _ _ (by decide : 1 < 4) _ ⟨d.val - 256, by omega⟩ hd) (load_tap _ _ (by decide : 2 < 4) _ ⟨d.val - 256, by omega⟩ hd) (load_tap _ _ (by decide : 3 < 4) _ ⟨d.val - 256, by omega⟩ hd)
        (load_rows (filled3 H _) (fresh3 (start hs)) _ r ⟨d.val - 256, by omega⟩) (load_rows (filled3 H _) (fresh3 (start hs)) _ r ⟨d.val - 256, by omega⟩) (load_rows (filled3 H _) (fresh3 (start hs)) _ r ⟨d.val - 256, by omega⟩) (load_own (filled3 H _) _ r ⟨d.val - 256, by omega⟩)
  · refine (View.read_writes_cons_unit_of_not_mem VO0_8 _ _ _ _ (ix3 0 r d) rfl 2 (.inl (show d.val < 256 by omega))).trans ?_
    refine Eq.trans ?_ (congrArg (fun n : Fin 1024 => siluT (convAt x4 x5 U r.val n) * scale) (Fin.ext (show 512 + (d.val - 0) = 512 + d.val by omega) : (⟨512 + (d.val - 0), by omega⟩ : Fin 1024) = _))
    refine (View.read_writes_cons_unit_of_mem VO0_8 _ _ _ _ (ix3 0 r d)
      (ix3 0 r ⟨d.val - 0, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 0 + (d.val - 0); omega
    · have hd : 512 + (⟨d.val - 0, by omega⟩ : Fin 256).val < 1024 := show 512 + (d.val - 0) < 1024 by omega
      refine (key0 r ⟨d.val - 0, by omega⟩ _ _ _ _ _ _ _ _ _).trans (congrArg (fun z => siluT (z) * scale) ?_)
      exact taps_congr (load_bias _ _ _ ⟨d.val - 0, by omega⟩ hd)
        (load_tap _ _ (by decide : 0 < 4) _ ⟨d.val - 0, by omega⟩ hd) (load_tap _ _ (by decide : 1 < 4) _ ⟨d.val - 0, by omega⟩ hd) (load_tap _ _ (by decide : 2 < 4) _ ⟨d.val - 0, by omega⟩ hd) (load_tap _ _ (by decide : 3 < 4) _ ⟨d.val - 0, by omega⟩ hd)
        (load_rows (filled2 H _) (fresh2 (start hs)) _ r ⟨d.val - 0, by omega⟩) (load_rows (filled2 H _) (fresh2 (start hs)) _ r ⟨d.val - 0, by omega⟩) (load_rows (filled2 H _) (fresh2 (start hs)) _ r ⟨d.val - 0, by omega⟩) (load_own (filled2 H _) _ r ⟨d.val - 0, by omega⟩)

/-- The values' block. -/
theorem valuesOut (hc0 : ¬cond0_0 i) (r d : Fin 1024) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 (ix3 0 r d) = (project x0 x1 r ⟨1024 + d.val, by have := d.isLt; omega⟩ : EReal) := by
  have hdd := d.isLt
  unfold out0_B_9 kernelRun0_B
  by_cases h768 : 768 ≤ d.val
  · refine Eq.trans ?_ (congrArg (fun n : Fin 2048 => (project x0 x1 r n : EReal)) (Fin.ext (show 1792 + (d.val - 768) = 1024 + d.val by omega) : (⟨1792 + (d.val - 768), by omega⟩ : Fin 2048) = _))
    refine (View.read_writes_cons_unit_of_mem VO0_9 _ _ _ _ (ix3 0 r d)
      (ix3 0 r ⟨d.val - 768, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 768 + (d.val - 768); omega
    · exact (values3 _ _ r ⟨d.val - 768, by omega⟩).trans (congrArg (fun z => (z : EReal)) (project_loads _ _ r ⟨d.val - 768, by omega⟩ (show 1792 + (d.val - 768) < 2048 by omega)))
  refine (View.read_writes_cons_unit_of_not_mem VO0_9 _ _ _ _ (ix3 0 r d) rfl 2 (.inl (show d.val < 768 by omega))).trans ?_
  by_cases h512 : 512 ≤ d.val
  · refine Eq.trans ?_ (congrArg (fun n : Fin 2048 => (project x0 x1 r n : EReal)) (Fin.ext (show 1536 + (d.val - 512) = 1024 + d.val by omega) : (⟨1536 + (d.val - 512), by omega⟩ : Fin 2048) = _))
    refine (View.read_writes_cons_unit_of_mem VO0_9 _ _ _ _ (ix3 0 r d)
      (ix3 0 r ⟨d.val - 512, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 512 + (d.val - 512); omega
    · exact (values2 _ _ r ⟨d.val - 512, by omega⟩).trans (congrArg (fun z => (z : EReal)) (project_loads _ _ r ⟨d.val - 512, by omega⟩ (show 1536 + (d.val - 512) < 2048 by omega)))
  refine (View.read_writes_cons_unit_of_not_mem VO0_9 _ _ _ _ (ix3 0 r d) rfl 2 (.inl (show d.val < 512 by omega))).trans ?_
  by_cases h256 : 256 ≤ d.val
  · refine Eq.trans ?_ (congrArg (fun n : Fin 2048 => (project x0 x1 r n : EReal)) (Fin.ext (show 1280 + (d.val - 256) = 1024 + d.val by omega) : (⟨1280 + (d.val - 256), by omega⟩ : Fin 2048) = _))
    refine (View.read_writes_cons_unit_of_mem VO0_9 _ _ _ _ (ix3 0 r d)
      (ix3 0 r ⟨d.val - 256, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 256 + (d.val - 256); omega
    · exact (values1 _ _ r ⟨d.val - 256, by omega⟩).trans (congrArg (fun z => (z : EReal)) (project_loads _ _ r ⟨d.val - 256, by omega⟩ (show 1280 + (d.val - 256) < 2048 by omega)))
  refine (View.read_writes_cons_unit_of_not_mem VO0_9 _ _ _ _ (ix3 0 r d) rfl 2 (.inl (show d.val < 256 by omega))).trans ?_
  · refine Eq.trans ?_ (congrArg (fun n : Fin 2048 => (project x0 x1 r n : EReal)) (Fin.ext (show 1024 + (d.val - 0) = 1024 + d.val by omega) : (⟨1024 + (d.val - 0), by omega⟩ : Fin 2048) = _))
    refine (View.read_writes_cons_unit_of_mem VO0_9 _ _ _ _ (ix3 0 r d)
      (ix3 0 r ⟨d.val - 0, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 0 + (d.val - 0); omega
    · exact (values0 _ _ r ⟨d.val - 0, by omega⟩).trans (congrArg (fun z => (z : EReal)) (project_loads _ _ r ⟨d.val - 0, by omega⟩ (show 1024 + (d.val - 0) < 2048 by omega)))

/-- The memory's output gate's block. -/
theorem ogateOut (hc0 : ¬cond0_0 i) (r d : Fin 1024) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 (ix3 0 r d) = sigmoidT (project x0 x2 r ⟨0 + d.val, by have := d.isLt; omega⟩) := by
  have hdd := d.isLt
  unfold out0_B_10 kernelRun0_B
  by_cases h768 : 768 ≤ d.val
  · refine Eq.trans ?_ (congrArg (fun n : Fin 2048 => sigmoidT (project x0 x2 r n)) (Fin.ext (show 768 + (d.val - 768) = 0 + d.val by omega) : (⟨768 + (d.val - 768), by omega⟩ : Fin 2048) = _))
    refine (View.read_writes_cons_unit_of_mem VO0_10 _ _ _ _ (ix3 0 r d)
      (ix3 0 r ⟨d.val - 768, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 768 + (d.val - 768); omega
    · exact (ogate3 _ _ r ⟨d.val - 768, by omega⟩).trans (congrArg (fun z => sigmoidT (z)) (project_loads _ _ r ⟨d.val - 768, by omega⟩ (show 768 + (d.val - 768) < 2048 by omega)))
  refine (View.read_writes_cons_unit_of_not_mem VO0_10 _ _ _ _ (ix3 0 r d) rfl 2 (.inl (show d.val < 768 by omega))).trans ?_
  by_cases h512 : 512 ≤ d.val
  · refine Eq.trans ?_ (congrArg (fun n : Fin 2048 => sigmoidT (project x0 x2 r n)) (Fin.ext (show 512 + (d.val - 512) = 0 + d.val by omega) : (⟨512 + (d.val - 512), by omega⟩ : Fin 2048) = _))
    refine (View.read_writes_cons_unit_of_mem VO0_10 _ _ _ _ (ix3 0 r d)
      (ix3 0 r ⟨d.val - 512, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 512 + (d.val - 512); omega
    · exact (ogate2 _ _ r ⟨d.val - 512, by omega⟩).trans (congrArg (fun z => sigmoidT (z)) (project_loads _ _ r ⟨d.val - 512, by omega⟩ (show 512 + (d.val - 512) < 2048 by omega)))
  refine (View.read_writes_cons_unit_of_not_mem VO0_10 _ _ _ _ (ix3 0 r d) rfl 2 (.inl (show d.val < 512 by omega))).trans ?_
  by_cases h256 : 256 ≤ d.val
  · refine Eq.trans ?_ (congrArg (fun n : Fin 2048 => sigmoidT (project x0 x2 r n)) (Fin.ext (show 256 + (d.val - 256) = 0 + d.val by omega) : (⟨256 + (d.val - 256), by omega⟩ : Fin 2048) = _))
    refine (View.read_writes_cons_unit_of_mem VO0_10 _ _ _ _ (ix3 0 r d)
      (ix3 0 r ⟨d.val - 256, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 256 + (d.val - 256); omega
    · exact (ogate1 _ _ r ⟨d.val - 256, by omega⟩).trans (congrArg (fun z => sigmoidT (z)) (project_loads _ _ r ⟨d.val - 256, by omega⟩ (show 256 + (d.val - 256) < 2048 by omega)))
  refine (View.read_writes_cons_unit_of_not_mem VO0_10 _ _ _ _ (ix3 0 r d) rfl 2 (.inl (show d.val < 256 by omega))).trans ?_
  · refine Eq.trans ?_ (congrArg (fun n : Fin 2048 => sigmoidT (project x0 x2 r n)) (Fin.ext (show 0 + (d.val - 0) = 0 + d.val by omega) : (⟨0 + (d.val - 0), by omega⟩ : Fin 2048) = _))
    refine (View.read_writes_cons_unit_of_mem VO0_10 _ _ _ _ (ix3 0 r d)
      (ix3 0 r ⟨d.val - 0, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 0 + (d.val - 0); omega
    · exact (ogate0 _ _ r ⟨d.val - 0, by omega⟩).trans (congrArg (fun z => sigmoidT (z)) (project_loads _ _ r ⟨d.val - 0, by omega⟩ (show 0 + (d.val - 0) < 2048 by omega)))

/-- The last gate's block. -/
theorem zgateOut (hc0 : ¬cond0_0 i) (r d : Fin 1024) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 (ix3 0 r d) = siluT (project x0 x2 r ⟨1024 + d.val, by have := d.isLt; omega⟩) := by
  have hdd := d.isLt
  unfold out0_B_11 kernelRun0_B
  by_cases h768 : 768 ≤ d.val
  · refine Eq.trans ?_ (congrArg (fun n : Fin 2048 => siluT (project x0 x2 r n)) (Fin.ext (show 1792 + (d.val - 768) = 1024 + d.val by omega) : (⟨1792 + (d.val - 768), by omega⟩ : Fin 2048) = _))
    refine (View.read_writes_cons_unit_of_mem VO0_11 _ _ _ _ (ix3 0 r d)
      (ix3 0 r ⟨d.val - 768, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 768 + (d.val - 768); omega
    · exact (zgate3 _ _ r ⟨d.val - 768, by omega⟩).trans (congrArg (fun z => siluT (z)) (project_loads _ _ r ⟨d.val - 768, by omega⟩ (show 1792 + (d.val - 768) < 2048 by omega)))
  refine (View.read_writes_cons_unit_of_not_mem VO0_11 _ _ _ _ (ix3 0 r d) rfl 2 (.inl (show d.val < 768 by omega))).trans ?_
  by_cases h512 : 512 ≤ d.val
  · refine Eq.trans ?_ (congrArg (fun n : Fin 2048 => siluT (project x0 x2 r n)) (Fin.ext (show 1536 + (d.val - 512) = 1024 + d.val by omega) : (⟨1536 + (d.val - 512), by omega⟩ : Fin 2048) = _))
    refine (View.read_writes_cons_unit_of_mem VO0_11 _ _ _ _ (ix3 0 r d)
      (ix3 0 r ⟨d.val - 512, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 512 + (d.val - 512); omega
    · exact (zgate2 _ _ r ⟨d.val - 512, by omega⟩).trans (congrArg (fun z => siluT (z)) (project_loads _ _ r ⟨d.val - 512, by omega⟩ (show 1536 + (d.val - 512) < 2048 by omega)))
  refine (View.read_writes_cons_unit_of_not_mem VO0_11 _ _ _ _ (ix3 0 r d) rfl 2 (.inl (show d.val < 512 by omega))).trans ?_
  by_cases h256 : 256 ≤ d.val
  · refine Eq.trans ?_ (congrArg (fun n : Fin 2048 => siluT (project x0 x2 r n)) (Fin.ext (show 1280 + (d.val - 256) = 1024 + d.val by omega) : (⟨1280 + (d.val - 256), by omega⟩ : Fin 2048) = _))
    refine (View.read_writes_cons_unit_of_mem VO0_11 _ _ _ _ (ix3 0 r d)
      (ix3 0 r ⟨d.val - 256, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 256 + (d.val - 256); omega
    · exact (zgate1 _ _ r ⟨d.val - 256, by omega⟩).trans (congrArg (fun z => siluT (z)) (project_loads _ _ r ⟨d.val - 256, by omega⟩ (show 1280 + (d.val - 256) < 2048 by omega)))
  refine (View.read_writes_cons_unit_of_not_mem VO0_11 _ _ _ _ (ix3 0 r d) rfl 2 (.inl (show d.val < 256 by omega))).trans ?_
  · refine Eq.trans ?_ (congrArg (fun n : Fin 2048 => siluT (project x0 x2 r n)) (Fin.ext (show 1024 + (d.val - 0) = 1024 + d.val by omega) : (⟨1024 + (d.val - 0), by omega⟩ : Fin 2048) = _))
    refine (View.read_writes_cons_unit_of_mem VO0_11 _ _ _ _ (ix3 0 r d)
      (ix3 0 r ⟨d.val - 0, by omega⟩ : (⟨3, ![1, 1024, 256]⟩ : Shape).Idx) rfl ?_).trans ?_
    · intro a
      match a with
      | ⟨0, _⟩ => rfl
      | ⟨1, _⟩ => show r.val = 0 + r.val; omega
      | ⟨2, _⟩ => show d.val = 0 + (d.val - 0); omega
    · exact (zgate0 _ _ r ⟨d.val - 0, by omega⟩).trans (congrArg (fun z => siluT (z)) (project_loads _ _ r ⟨d.val - 0, by omega⟩ (show 1024 + (d.val - 0) < 2048 by omega)))

/-- The gates' block. -/
theorem gatesOut (hc0 : ¬cond0_0 i) (g : Fin 8) (r : Fin 1024) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 (ix3 0 g r) = gateBlock x0 x3 x6 (ix3 0 g r) := by
  unfold out0_B_12 kernelRun0_B
  refine (View.read_writes_cons_unit_of_mem VO0_12 _ _ _ _ (ix3 0 g r)
      (ix3 0 g r : (⟨3, ![1, 8, 1024]⟩ : Shape).Idx) rfl ?_).trans ?_
  · intro a
    match a with
    | ⟨0, _⟩ => rfl
    | ⟨1, _⟩ => show g.val = 0 + g.val; omega
    | ⟨2, _⟩ => show r.val = 0 + r.val; omega
  · unfold kernelRun0_B.sl.r_1 kernelRun0_B.sl.r_4 kernelRun0_B.sl.r_2 kernelRun0_B.sl.r_3 gateBlock
    rw [load_tokens, load_gates, load_gate_bias]
    rfl

end Cert.Inproj.RunB
-- ==== Proof.Inproj.Arrays.lean ====
/-
  The second layer's input projection, all tiles: what each result array holds after the run.
-/
module

public import proofs.«01_k».proof.Proof.Inproj.Place
public import proofs.«01_k».proof.Proof.Inproj.RunA
public import proofs.«01_k».proof.Proof.Inproj.RunB

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.Inproj

variable (m : (ℓ : Loc nD τ sig) → Buf (Elt Ideal) ℓ)

/-- The tokens. -/
abbrev a0 (c : Dev nD) := m ((c : Thread nD τ).loc main_arg0)

/-- The weights. -/
abbrev a1 (c : Dev nD) := m ((c : Thread nD τ).loc main_arg1)

/-- The gates' weights. -/
abbrev a2 (c : Dev nD) := m ((c : Thread nD τ).loc main_arg2)

/-- The input and forget gates' weights. -/
abbrev a3 (c : Dev nD) := m ((c : Thread nD τ).loc main_arg3)

/-- The convolution's weights. -/
abbrev a4 (c : Dev nD) := m ((c : Thread nD τ).loc main_arg4)

/-- The convolution's bias. -/
abbrev a5 (c : Dev nD) := m ((c : Thread nD τ).loc main_arg5)

/-- The input gates' biases. -/
abbrev a6 (c : Dev nD) := m ((c : Thread nD τ).loc main_arg6)

/-- The forget gates' biases. -/
abbrev a7 (c : Dev nD) := m ((c : Thread nD τ).loc main_arg7)

/-- The rows point `t` reads: the eight before its tile, then its tile's. -/
def rows (c : Dev nD) (t : Fin cfg0.N) (n d : ℕ) : EReal :=
  before (a0 m c) (a1 m c) (batch t) (t.val % 8 * 1024 + n) d

/-- A tile's projection is the array's. -/
theorem project_w (c : Dev nD) (t : Fin cfg0.N) (r : Fin 1024) (d : Fin 2048) :
    project (iblk m c 0 t) (iblk m c 1 t) r d
      = proj (a0 m c) (a1 m c) (batch t) (place t r) d :=
  congrArg₂ dot (funext fun e => block0 m c t r e) (funext fun e => block1 m c t e d)

/-- A tile's projection onto the gates is the array's. -/
theorem project_wb (c : Dev nD) (t : Fin cfg0.N) (r : Fin 1024) (d : Fin 2048) :
    project (iblk m c 0 t) (iblk m c 2 t) r d
      = proj (a0 m c) (a2 m c) (batch t) (place t r) d :=
  congrArg₂ dot (funext fun e => block0 m c t r e) (funext fun e => block2 m c t e d)

/-- The rows from the eighth on are the tile's. -/
theorem own (c : Dev nD) (t : Fin cfg0.N) : Own (iblk m c 0 t) (iblk m c 1 t) (rows m c t) := by
  intro r d
  have hr := r.isLt
  have hd := d.isLt
  unfold rows before
  rw [dif_pos ⟨by omega, by omega, by omega⟩, project_w]
  refine congrArg₂ (proj _ _ (batch t)) (Fin.ext ?_) (Fin.ext rfl)
  show t.val % 8 * 1024 + (8 + r.val) - 8 = t.val % 8 * 1024 + r.val
  omega

/-- A batch's first tile starts with zeros. -/
theorem rows_zero (c : Dev nD) (t : Fin cfg0.N) (h0 : t.val % 8 = 0) (r : Fin 8) (d : Fin 1024) : rows m c t r.val d.val = 0 := by
  have hr := r.isLt
  unfold rows before
  exact dif_neg (by omega)

/-- The scratch buffer after point `t`. -/
theorem kept_rows (c : Dev nD) (t : Fin cfg0.N) (r : Fin 1032) (d : Fin 1024) (hr : r.val < 8) :
    (outsAt0 m c t.val t.isLt).2.2.2.2.2.2 (ix2 r d) = rows m c t (1024 + r.val) d.val := by
  by_cases h0 : t.val % 8 = 0
  · rw [outsAt0_A m c t h0]
    dsimp only
    exact RunA.scratch ((hcond0_0 t).mpr h0) (own m c t) r d hr
  · rw [outsAt0_B m c t h0]
    dsimp only
    exact RunB.scratch (fun h => h0 ((hcond0_0 t).mp h)) (own m c t) r d hr

/-- The scratch buffer before a later tile holds the rows before it. -/
theorem start_rows (c : Dev nD) (t : Fin cfg0.N) (h0 : ¬t.val % 8 = 0) (r : Fin 1032) (d : Fin 1024) (hr : r.val < 8) :
    (outsAt0 m c (t.val - 1) (Nat.lt_of_le_of_lt (Nat.sub_le _ _) t.isLt)).2.2.2.2.2.2 (ix2 r d) = rows m c t r.val d.val := by
  refine (kept_rows m c ⟨t.val - 1, Nat.lt_of_le_of_lt (Nat.sub_le _ _) t.isLt⟩ r d hr).trans ?_
  unfold rows
  refine congr (congrArg₂ (before _ _) (Fin.ext ?_) ?_) rfl
  · show (t.val - 1) / 8 = t.val / 8
    omega
  · show (t.val - 1) % 8 * 1024 + (1024 + r.val) = t.val % 8 * 1024 + r.val
    omega

/-- A tile's convolution is the array's. -/
theorem convAt_eq (c : Dev nD) (t : Fin cfg0.N) (r d : Fin 1024) :
    convAt (iblk m c 4 t) (iblk m c 5 t) (rows m c t) r.val d
      = conv (a0 m c) (a1 m c) (a4 m c) (a5 m c) (batch t) (place t r) d := by
  have e : ∀ k : ℕ, rows m c t (k + r.val) d.val = before (a0 m c) (a1 m c) (batch t) (k + (place t r).val) d.val := fun k =>
    congrArg (fun n => before _ _ (batch t) n d.val) (show t.val % 8 * 1024 + (k + r.val) = k + (t.val % 8 * 1024 + r.val) by omega)
  exact taps_congr (block5 m c t 0 d) (block4 m c t 0 d) (block4 m c t 1 d) (block4 m c t 2 d) (block4 m c t 3 d) (e 5) (e 6) (e 7) (e 8)

/-- A tile's gate is the array's. -/
theorem gatePre_place (c : Dev nD) (t : Fin cfg0.N) (g : Fin 8) (r : Fin 1024) :
    gatePre (iblk m c 0 t) (iblk m c 3 t) (iblk m c 6 t) g r
      = gate (a0 m c) (a3 m c) (a6 m c) (a7 m c) (batch t) g (place t r) :=
  congrArg₂ (· + ·) (Finset.sum_congr rfl fun e _ => congrArg₂ (· * ·) (block3 m c t g e) (block0 m c t r e)) (block6 m c t g r)

/-- A tile's running sum is the array's: a segment lies in one tile. -/
theorem runs_place (c : Dev nD) (t : Fin cfg0.N) (g : Fin 8) (r : Fin 1024) :
    runs (gateLog (iblk m c 0 t) (iblk m c 3 t) (iblk m c 6 t) g.val) 256 r.val
      = gateSum (a0 m c) (a3 m c) (a6 m c) (a7 m c) (batch t) g (place t r) := by
  have hg := g.isLt
  have hr := r.isLt
  have hm : (place t r).val % 256 = r.val % 256 := show (t.val % 8 * 1024 + r.val) % 256 = r.val % 256 by omega
  unfold gateSum
  rw [runs_segment, hm]
  refine Finset.sum_congr rfl fun i hi => ?_
  have h := Finset.mem_range.mp hi
  unfold gateLog
  rw [gatePre_place]
  refine congrArg logSig (congrArg₂ (gate _ _ _ _ (batch t)) (Fin.ext ?_) (Fin.ext ?_))
  · show g.val % 8 = g.val
    omega
  · show t.val % 8 * 1024 + (r.val - i) % 1024 = t.val % 8 * 1024 + r.val - i
    omega

/-- The queries and the keys. -/
abbrev rQ (c : Dev nD) := resultQ (a0 m c) (a1 m c) (a4 m c) (a5 m c)
abbrev rK (c : Dev nD) := resultK (a0 m c) (a1 m c) (a4 m c) (a5 m c)

/-- A place of a block is its row and its column. -/
theorem row512_ix (y : S1x1024x512.Idx) : y = ix3 0 (y 1) (y 2) :=
  (eq_ix3 y).trans (congrArg (fun k : Fin 1 => ix3 k (y 1) (y 2)) (Subsingleton.elim _ _))

theorem row1024_ix (y : S1x1024x1024.Idx) : y = ix3 0 (y 1) (y 2) :=
  (eq_ix3 y).trans (congrArg (fun k : Fin 1 => ix3 k (y 1) (y 2)) (Subsingleton.elim _ _))

/-- The queries of point `t`. -/
theorem point7 (c : Dev nD) (t : Fin cfg0.N) (r : Fin 1024) (d : Fin 512) :
    (outsAt0 m c t.val t.isLt).1 (ix3 0 r d) = rQ m c (ix3 (batch t) (place t r) d) := by
  by_cases h0 : t.val % 8 = 0
  · rw [outsAt0_A m c t h0]
    dsimp only
    exact (RunA.queries ((hcond0_0 t).mpr h0) (own m c t) (rows_zero m c t h0) r d).trans (congrArg siluT (convAt_eq m c t r _))
  · rw [outsAt0_B m c t h0]
    dsimp only
    exact (RunB.queries (fun h => h0 ((hcond0_0 t).mp h)) (own m c t) (start_rows m c t h0) r d).trans (congrArg siluT (convAt_eq m c t r _))

/-- What point `t` writes of the queries is its block of the result. -/
theorem flushed7 (c : Dev nD) (t : Fin cfg0.N) :
    (dats m 0 c).flushed 7 t = ((cfg0.win 7).blk t).view.read (Elt Ideal) (rQ m c) := by
  rw [Value.flushed7]
  funext y
  have hy := row512_ix y
  refine Eq.trans ?_ (congrArg (rQ m c) ((congrArg _ hy).trans (emb7 t (y 1) (y 2)))).symm
  exact (congrArg ((outsAt0 m c t.val t.isLt).1) hy).trans (point7 m c t (y 1) (y 2))

/-- Every entry of the queries is in some point's block. -/
theorem covered7 (i : S4x8192x512.Idx) :
    ∃ t : Fin cfg0.N, (cfg0.win 7).flush t = true ∧ i ∈ ((cfg0.win 7).blk t).view.set := by
  have h0 : (i 0).val < 4 := (i 0).isLt
  have hS : (i 1).val < 8192 := (i 1).isLt
  have hN : cfg0.N = 32 := N_0
  have ht : (i 0).val * 8 + (i 1).val / 1024 < cfg0.N := lt_of_lt_of_eq (by omega) hN.symm
  refine ⟨⟨(i 0).val * 8 + (i 1).val / 1024, ht⟩, flush0_7 _, ?_⟩
  have h := ((cfg0.win 7).blk ⟨(i 0).val * 8 + (i 1).val / 1024, ht⟩).view.emb_mem_set
    (ix3 0 ⟨(i 1).val % 1024, by omega⟩ (i 2))
  refine Eq.mp (congrArg (· ∈ _) ?_) h
  refine (emb7 _ _ _).trans ?_
  funext a; apply Fin.ext
  match a with
  | ⟨0, _⟩ => show ((i 0).val * 8 + (i 1).val / 1024) / 8 = (i 0).val; omega
  | ⟨1, _⟩ => show ((i 0).val * 8 + (i 1).val / 1024) % 8 * 1024 + (i 1).val % 1024 = (i 1).val; omega
  | ⟨2, _⟩ => rfl

/-- The queries after the run. -/
theorem final7 (c : Dev nD) : (dats m 0 c).arrAt 7 cfg0.N = rQ m c :=
  (dats m 0 c).arrAt_eq_of_cover 7 _ (fun t _ => flushed7 m c t) covered7

/-- The keys of point `t`. -/
theorem point8 (c : Dev nD) (t : Fin cfg0.N) (r : Fin 1024) (d : Fin 512) :
    (outsAt0 m c t.val t.isLt).2.1 (ix3 0 r d) = rK m c (ix3 (batch t) (place t r) d) := by
  by_cases h0 : t.val % 8 = 0
  · rw [outsAt0_A m c t h0]
    dsimp only
    exact (RunA.keys ((hcond0_0 t).mpr h0) (own m c t) (rows_zero m c t h0) r d).trans (congrArg (fun z => siluT z * scale) (convAt_eq m c t r _))
  · rw [outsAt0_B m c t h0]
    dsimp only
    exact (RunB.keys (fun h => h0 ((hcond0_0 t).mp h)) (own m c t) (start_rows m c t h0) r d).trans (congrArg (fun z => siluT z * scale) (convAt_eq m c t r _))

/-- What point `t` writes of the keys is its block of the result. -/
theorem flushed8 (c : Dev nD) (t : Fin cfg0.N) :
    (dats m 0 c).flushed 8 t = ((cfg0.win 8).blk t).view.read (Elt Ideal) (rK m c) := by
  rw [Value.flushed8]
  funext y
  have hy := row512_ix y
  refine Eq.trans ?_ (congrArg (rK m c) ((congrArg _ hy).trans (emb8 t (y 1) (y 2)))).symm
  exact (congrArg ((outsAt0 m c t.val t.isLt).2.1) hy).trans (point8 m c t (y 1) (y 2))

/-- Every entry of the keys is in some point's block. -/
theorem covered8 (i : S4x8192x512.Idx) :
    ∃ t : Fin cfg0.N, (cfg0.win 8).flush t = true ∧ i ∈ ((cfg0.win 8).blk t).view.set := by
  have h0 : (i 0).val < 4 := (i 0).isLt
  have hS : (i 1).val < 8192 := (i 1).isLt
  have hN : cfg0.N = 32 := N_0
  have ht : (i 0).val * 8 + (i 1).val / 1024 < cfg0.N := lt_of_lt_of_eq (by omega) hN.symm
  refine ⟨⟨(i 0).val * 8 + (i 1).val / 1024, ht⟩, flush0_8 _, ?_⟩
  have h := ((cfg0.win 8).blk ⟨(i 0).val * 8 + (i 1).val / 1024, ht⟩).view.emb_mem_set
    (ix3 0 ⟨(i 1).val % 1024, by omega⟩ (i 2))
  refine Eq.mp (congrArg (· ∈ _) ?_) h
  refine (emb8 _ _ _).trans ?_
  funext a; apply Fin.ext
  match a with
  | ⟨0, _⟩ => show ((i 0).val * 8 + (i 1).val / 1024) / 8 = (i 0).val; omega
  | ⟨1, _⟩ => show ((i 0).val * 8 + (i 1).val / 1024) % 8 * 1024 + (i 1).val % 1024 = (i 1).val; omega
  | ⟨2, _⟩ => rfl

/-- The keys after the run. -/
theorem final8 (c : Dev nD) : (dats m 0 c).arrAt 8 cfg0.N = rK m c :=
  (dats m 0 c).arrAt_eq_of_cover 8 _ (fun t _ => flushed8 m c t) covered8

/-- The values of point `t`. -/
theorem point9 (c : Dev nD) (t : Fin cfg0.N) (r : Fin 1024) (d : Fin 1024) :
    (outsAt0 m c t.val t.isLt).2.2.1 (ix3 0 r d) = resultV (a0 m c) (a1 m c) (ix3 (batch t) (place t r) d) := by
  by_cases h0 : t.val % 8 = 0
  · rw [outsAt0_A m c t h0]
    dsimp only
    exact (RunA.valuesOut ((hcond0_0 t).mpr h0) r d).trans (project_w m c t r _)
  · rw [outsAt0_B m c t h0]
    dsimp only
    exact (RunB.valuesOut (fun h => h0 ((hcond0_0 t).mp h)) r d).trans (project_w m c t r _)

/-- What point `t` writes of the values is its block of the result. -/
theorem flushed9 (c : Dev nD) (t : Fin cfg0.N) :
    (dats m 0 c).flushed 9 t = ((cfg0.win 9).blk t).view.read (Elt Ideal) (resultV (a0 m c) (a1 m c)) := by
  rw [Value.flushed9]
  funext y
  have hy := row1024_ix y
  refine Eq.trans ?_ (congrArg (resultV (a0 m c) (a1 m c)) ((congrArg _ hy).trans (emb9 t (y 1) (y 2)))).symm
  exact (congrArg ((outsAt0 m c t.val t.isLt).2.2.1) hy).trans (point9 m c t (y 1) (y 2))

/-- Every entry of the values is in some point's block. -/
theorem covered9 (i : S4x8192x1024.Idx) :
    ∃ t : Fin cfg0.N, (cfg0.win 9).flush t = true ∧ i ∈ ((cfg0.win 9).blk t).view.set := by
  have h0 : (i 0).val < 4 := (i 0).isLt
  have hS : (i 1).val < 8192 := (i 1).isLt
  have hN : cfg0.N = 32 := N_0
  have ht : (i 0).val * 8 + (i 1).val / 1024 < cfg0.N := lt_of_lt_of_eq (by omega) hN.symm
  refine ⟨⟨(i 0).val * 8 + (i 1).val / 1024, ht⟩, flush0_9 _, ?_⟩
  have h := ((cfg0.win 9).blk ⟨(i 0).val * 8 + (i 1).val / 1024, ht⟩).view.emb_mem_set
    (ix3 0 ⟨(i 1).val % 1024, by omega⟩ (i 2))
  refine Eq.mp (congrArg (· ∈ _) ?_) h
  refine (emb9 _ _ _).trans ?_
  funext a; apply Fin.ext
  match a with
  | ⟨0, _⟩ => show ((i 0).val * 8 + (i 1).val / 1024) / 8 = (i 0).val; omega
  | ⟨1, _⟩ => show ((i 0).val * 8 + (i 1).val / 1024) % 8 * 1024 + (i 1).val % 1024 = (i 1).val; omega
  | ⟨2, _⟩ => rfl

/-- The values after the run. -/
theorem final9 (c : Dev nD) : (dats m 0 c).arrAt 9 cfg0.N = resultV (a0 m c) (a1 m c) :=
  (dats m 0 c).arrAt_eq_of_cover 9 _ (fun t _ => flushed9 m c t) covered9

/-- The sigmoid gates of point `t`. -/
theorem point10 (c : Dev nD) (t : Fin cfg0.N) (r : Fin 1024) (d : Fin 1024) :
    (outsAt0 m c t.val t.isLt).2.2.2.1 (ix3 0 r d) = resultO (a0 m c) (a2 m c) (ix3 (batch t) (place t r) d) := by
  by_cases h0 : t.val % 8 = 0
  · rw [outsAt0_A m c t h0]
    dsimp only
    exact (RunA.ogateOut ((hcond0_0 t).mpr h0) r d).trans (congrArg sigmoidT (project_wb m c t r _))
  · rw [outsAt0_B m c t h0]
    dsimp only
    exact (RunB.ogateOut (fun h => h0 ((hcond0_0 t).mp h)) r d).trans (congrArg sigmoidT (project_wb m c t r _))

/-- What point `t` writes of the sigmoid gates is its block of the result. -/
theorem flushed10 (c : Dev nD) (t : Fin cfg0.N) :
    (dats m 0 c).flushed 10 t = ((cfg0.win 10).blk t).view.read (Elt Ideal) (resultO (a0 m c) (a2 m c)) := by
  rw [Value.flushed10]
  funext y
  have hy := row1024_ix y
  refine Eq.trans ?_ (congrArg (resultO (a0 m c) (a2 m c)) ((congrArg _ hy).trans (emb10 t (y 1) (y 2)))).symm
  exact (congrArg ((outsAt0 m c t.val t.isLt).2.2.2.1) hy).trans (point10 m c t (y 1) (y 2))

/-- Every entry of the sigmoid gates is in some point's block. -/
theorem covered10 (i : S4x8192x1024.Idx) :
    ∃ t : Fin cfg0.N, (cfg0.win 10).flush t = true ∧ i ∈ ((cfg0.win 10).blk t).view.set := by
  have h0 : (i 0).val < 4 := (i 0).isLt
  have hS : (i 1).val < 8192 := (i 1).isLt
  have hN : cfg0.N = 32 := N_0
  have ht : (i 0).val * 8 + (i 1).val / 1024 < cfg0.N := lt_of_lt_of_eq (by omega) hN.symm
  refine ⟨⟨(i 0).val * 8 + (i 1).val / 1024, ht⟩, flush0_10 _, ?_⟩
  have h := ((cfg0.win 10).blk ⟨(i 0).val * 8 + (i 1).val / 1024, ht⟩).view.emb_mem_set
    (ix3 0 ⟨(i 1).val % 1024, by omega⟩ (i 2))
  refine Eq.mp (congrArg (· ∈ _) ?_) h
  refine (emb10 _ _ _).trans ?_
  funext a; apply Fin.ext
  match a with
  | ⟨0, _⟩ => show ((i 0).val * 8 + (i 1).val / 1024) / 8 = (i 0).val; omega
  | ⟨1, _⟩ => show ((i 0).val * 8 + (i 1).val / 1024) % 8 * 1024 + (i 1).val % 1024 = (i 1).val; omega
  | ⟨2, _⟩ => rfl

/-- The sigmoid gates after the run. -/
theorem final10 (c : Dev nD) : (dats m 0 c).arrAt 10 cfg0.N = resultO (a0 m c) (a2 m c) :=
  (dats m 0 c).arrAt_eq_of_cover 10 _ (fun t _ => flushed10 m c t) covered10

/-- The SiLU gates of point `t`. -/
theorem point11 (c : Dev nD) (t : Fin cfg0.N) (r : Fin 1024) (d : Fin 1024) :
    (outsAt0 m c t.val t.isLt).2.2.2.2.1 (ix3 0 r d) = resultZ (a0 m c) (a2 m c) (ix3 (batch t) (place t r) d) := by
  by_cases h0 : t.val % 8 = 0
  · rw [outsAt0_A m c t h0]
    dsimp only
    exact (RunA.zgateOut ((hcond0_0 t).mpr h0) r d).trans (congrArg siluT (project_wb m c t r _))
  · rw [outsAt0_B m c t h0]
    dsimp only
    exact (RunB.zgateOut (fun h => h0 ((hcond0_0 t).mp h)) r d).trans (congrArg siluT (project_wb m c t r _))

/-- What point `t` writes of the SiLU gates is its block of the result. -/
theorem flushed11 (c : Dev nD) (t : Fin cfg0.N) :
    (dats m 0 c).flushed 11 t = ((cfg0.win 11).blk t).view.read (Elt Ideal) (resultZ (a0 m c) (a2 m c)) := by
  rw [Value.flushed11]
  funext y
  have hy := row1024_ix y
  refine Eq.trans ?_ (congrArg (resultZ (a0 m c) (a2 m c)) ((congrArg _ hy).trans (emb11 t (y 1) (y 2)))).symm
  exact (congrArg ((outsAt0 m c t.val t.isLt).2.2.2.2.1) hy).trans (point11 m c t (y 1) (y 2))

/-- Every entry of the SiLU gates is in some point's block. -/
theorem covered11 (i : S4x8192x1024.Idx) :
    ∃ t : Fin cfg0.N, (cfg0.win 11).flush t = true ∧ i ∈ ((cfg0.win 11).blk t).view.set := by
  have h0 : (i 0).val < 4 := (i 0).isLt
  have hS : (i 1).val < 8192 := (i 1).isLt
  have hN : cfg0.N = 32 := N_0
  have ht : (i 0).val * 8 + (i 1).val / 1024 < cfg0.N := lt_of_lt_of_eq (by omega) hN.symm
  refine ⟨⟨(i 0).val * 8 + (i 1).val / 1024, ht⟩, flush0_11 _, ?_⟩
  have h := ((cfg0.win 11).blk ⟨(i 0).val * 8 + (i 1).val / 1024, ht⟩).view.emb_mem_set
    (ix3 0 ⟨(i 1).val % 1024, by omega⟩ (i 2))
  refine Eq.mp (congrArg (· ∈ _) ?_) h
  refine (emb11 _ _ _).trans ?_
  funext a; apply Fin.ext
  match a with
  | ⟨0, _⟩ => show ((i 0).val * 8 + (i 1).val / 1024) / 8 = (i 0).val; omega
  | ⟨1, _⟩ => show ((i 0).val * 8 + (i 1).val / 1024) % 8 * 1024 + (i 1).val % 1024 = (i 1).val; omega
  | ⟨2, _⟩ => rfl

/-- The SiLU gates after the run. -/
theorem final11 (c : Dev nD) : (dats m 0 c).arrAt 11 cfg0.N = resultZ (a0 m c) (a2 m c) :=
  (dats m 0 c).arrAt_eq_of_cover 11 _ (fun t _ => flushed11 m c t) covered11

/-- A tile's gates are the array's. -/
theorem gates_place (c : Dev nD) (t : Fin cfg0.N) (g : Fin 8) (r : Fin 1024) :
    gateBlock (iblk m c 0 t) (iblk m c 3 t) (iblk m c 6 t) (ix3 0 g r) = resultG (a0 m c) (a3 m c) (a6 m c) (a7 m c) (ix3 (batch t) g (place t r)) := by
  rw [gateBlock_eq, gatePre_place, runs_place m c t g r, runs_place m c t ⟨(g.val + 4) % 8, Nat.mod_lt _ (by decide)⟩ r]
  rfl

/-- The gates of point `t`. -/
theorem point12 (c : Dev nD) (t : Fin cfg0.N) (g : Fin 8) (r : Fin 1024) :
    (outsAt0 m c t.val t.isLt).2.2.2.2.2.1 (ix3 0 g r) = resultG (a0 m c) (a3 m c) (a6 m c) (a7 m c) (ix3 (batch t) g (place t r)) := by
  by_cases h0 : t.val % 8 = 0
  · rw [outsAt0_A m c t h0]
    dsimp only
    exact (RunA.gatesOut ((hcond0_0 t).mpr h0) g r).trans (gates_place m c t g r)
  · rw [outsAt0_B m c t h0]
    dsimp only
    exact (RunB.gatesOut (fun h => h0 ((hcond0_0 t).mp h)) g r).trans (gates_place m c t g r)

/-- What point `t` writes of the gates is its block of the result. -/
theorem flushed12 (c : Dev nD) (t : Fin cfg0.N) :
    (dats m 0 c).flushed 12 t = ((cfg0.win 12).blk t).view.read (Elt Ideal) (resultG (a0 m c) (a3 m c) (a6 m c) (a7 m c)) := by
  rw [Value.flushed12]
  funext y
  have hy : (y : S1x8x1024.Idx) = ix3 0 (y 1) (y 2) := (eq_ix3 y).trans (congrArg (fun k : Fin 1 => ix3 k (y 1) (y 2)) (Subsingleton.elim _ _))
  refine Eq.trans ?_ (congrArg (resultG (a0 m c) (a3 m c) (a6 m c) (a7 m c)) ((congrArg _ hy).trans (emb12 t (y 1) (y 2)))).symm
  exact (congrArg ((outsAt0 m c t.val t.isLt).2.2.2.2.2.1) hy).trans (point12 m c t (y 1) (y 2))

/-- Every entry of the gates is in some point's block. -/
theorem covered12 (i : S4x8x8192.Idx) :
    ∃ t : Fin cfg0.N, (cfg0.win 12).flush t = true ∧ i ∈ ((cfg0.win 12).blk t).view.set := by
  have h0 : (i 0).val < 4 := (i 0).isLt
  have hS : (i 2).val < 8192 := (i 2).isLt
  have hN : cfg0.N = 32 := N_0
  have ht : (i 0).val * 8 + (i 2).val / 1024 < cfg0.N := lt_of_lt_of_eq (by omega) hN.symm
  refine ⟨⟨(i 0).val * 8 + (i 2).val / 1024, ht⟩, flush0_12 _, ?_⟩
  have h := ((cfg0.win 12).blk ⟨(i 0).val * 8 + (i 2).val / 1024, ht⟩).view.emb_mem_set
    (ix3 0 (i 1) ⟨(i 2).val % 1024, by omega⟩)
  refine Eq.mp (congrArg (· ∈ _) ?_) h
  refine (emb12 _ _ _).trans ?_
  funext a; apply Fin.ext
  match a with
  | ⟨0, _⟩ => show ((i 0).val * 8 + (i 2).val / 1024) / 8 = (i 0).val; omega
  | ⟨1, _⟩ => rfl
  | ⟨2, _⟩ => show ((i 0).val * 8 + (i 2).val / 1024) % 8 * 1024 + (i 2).val % 1024 = (i 2).val; omega

/-- The gates after the run. -/
theorem final12 (c : Dev nD) : (dats m 0 c).arrAt 12 cfg0.N = resultG (a0 m c) (a3 m c) (a6 m c) (a7 m c) :=
  (dats m 0 c).arrAt_eq_of_cover 12 _ (fun t _ => flushed12 m c t) covered12

end Cert.Inproj
-- ==== Proof.Inproj.RefConv.lean ====
/-
  The second layer's input projection as the reference writes it: the projections, the convolution and the products that
  end in a sigmoid or a SiLU, at an index.
-/
module

public import proofs.«01_k».proof.Proof.Gen.Reference4Ideal.Read
public import proofs.«01_k».proof.Proof.Inproj.Place
public import Idealize.ShloMosaic.Lib.Pointwise

@[expose] public section

set_option maxRecDepth 16384

noncomputable section

open Idealize.ShloMosaic
open Cert.Reference4Ideal Cert.Reference4Ideal.Gen Cert.Reference4Ideal.Read

namespace Cert.Inproj

/-- The reference's sigmoid. -/
def sigmoidH (z : EReal) : EReal := Ideal.div 1 (1 + Ideal.exp (-z))

/-- The reference's projection. -/
theorem ref_project (x0 : FVec Ideal S4x8192x1024 .f32) (x1 : FVec Ideal S1024x2048 .bf16) (b : Fin 4) (s : Fin 8192) (d : Fin 2048) :
    val_main_v1 (F := Ideal) x0 x1 (ix3 b s d) = proj x0 x1 b s d := by
  pointwise [val_main_v0, val_main_v1]
  rfl

/-- The reference's projection onto the gates. -/
theorem ref_project_b (x0 : FVec Ideal S4x8192x1024 .f32) (x2 : FVec Ideal S1024x2048 .bf16) (b : Fin 4) (s : Fin 8192) (d : Fin 2048) :
    val_main_v6 (F := Ideal) x0 x2 (ix3 b s d) = proj x0 x2 b s d := by
  pointwise [val_main_v5, val_main_v6]
  rfl

/-- The reference's values. -/
theorem ref_values (x0 : FVec Ideal S4x8192x1024 .f32) (x1 : FVec Ideal S1024x2048 .bf16) (b : Fin 4) (s : Fin 8192) (d : Fin 1024) :
    val_main_v67 (F := Ideal) x0 x1 (ix3 b s d) = proj x0 x1 b s ⟨1024 + d.val, by omega⟩ := by
  have h : val_main_v67 (F := Ideal) x0 x1 (ix3 b s d) = val_main_v1 (F := Ideal) x0 x1 (ix3 b s ⟨1024 + d.val, by omega⟩) := by
    unfold val_main_v67 val_main_v4
    generalize val_main_v1 (F := Ideal) x0 x1 = y
    pointwise
  rw [h, ref_project]

/-- The reference's sigmoid gates. -/
theorem ref_ogate (x0 : FVec Ideal S4x8192x1024 .f32) (x2 : FVec Ideal S1024x2048 .bf16) (b : Fin 4) (s : Fin 8192) (d : Fin 1024) :
    val_main_v74 (F := Ideal) x0 x2 (ix3 b s d) = sigmoidH (proj x0 x2 b s ⟨0 + d.val, by omega⟩) := by
  have h : val_main_v74 (F := Ideal) x0 x2 (ix3 b s d) = sigmoidH (val_main_v6 (F := Ideal) x0 x2 (ix3 b s ⟨0 + d.val, by omega⟩)) := by
    unfold val_main_v74 val_main_v73 val_main_v72 val_main_cst_2 val_main_v71 val_main_v70 val_main_cst_1 val_main_v69 val_main_v68 val_main_v7
    generalize val_main_v6 (F := Ideal) x0 x2 = y
    pointwise
    rfl
  rw [h, ref_project_b]

/-- The reference's SiLU gates. -/
theorem ref_zgate (x0 : FVec Ideal S4x8192x1024 .f32) (x2 : FVec Ideal S1024x2048 .bf16) (b : Fin 4) (s : Fin 8192) (d : Fin 1024) :
    val_main_v76 (F := Ideal) x0 x2 (ix3 b s d) = proj x0 x2 b s ⟨1024 + d.val, by omega⟩ * sigmoidH (proj x0 x2 b s ⟨1024 + d.val, by omega⟩) := by
  have h : val_main_v76 (F := Ideal) x0 x2 (ix3 b s d) = val_main_v6 (F := Ideal) x0 x2 (ix3 b s ⟨1024 + d.val, by omega⟩) * sigmoidH (val_main_v6 (F := Ideal) x0 x2 (ix3 b s ⟨1024 + d.val, by omega⟩)) := by
    unfold val_main_v76 val_main_v75 val_main_call4_v5 val_main_call4_v4 val_main_call4_cst_0 val_main_call4_v3 val_main_call4_v2 val_main_call4_cst val_main_call4_v1 val_main_call4_v0 val_main_v8
    generalize val_main_v6 (F := Ideal) x0 x2 = y
    pointwise
    rfl
  rw [h, ref_project_b]

/-- The reference's convolution input. -/
theorem ref_padded (x0 : FVec Ideal S4x8192x1024 .f32) (x1 : FVec Ideal S1024x2048 .bf16) (b : Fin 4) (n : Fin 8195) (d : Fin 1024) :
    val_main_v14 (F := Ideal) x0 x1 (ix3 b n d) = before x0 x1 b (5 + n.val) d.val := by
  have h : ∀ y : FVec Ideal S4x8192x2048 .f32, val_main_v1 (F := Ideal) x0 x1 = y → val_main_v14 (F := Ideal) x0 x1 (ix3 b n d)
      = if h : 3 ≤ n.val then y (ix3 b ⟨n.val - 3, by omega⟩ ⟨d.val, by omega⟩) else 0 := by
    intro y hy
    unfold val_main_v14 val_main_v13 val_main_v2 val_main_v3 val_main_call0_v0 val_main_c
    rw [hy]
    pointwise
    by_cases h3 : 3 ≤ n.val
    · rw [dif_pos ⟨h3, by omega⟩, dif_pos h3]
      split
      · rfl
      · refine congrArg (fun k : Fin 2048 => y (ix3 b _ k)) (Fin.ext ?_)
        show 512 + (d.val - 512) = d.val
        omega
    · rw [dif_neg fun e => h3 e.1, dif_neg h3]
      show (((0#32).toInt : ℝ) : EReal) = 0
      simp
  rw [h _ rfl]
  unfold before
  by_cases h3 : 3 ≤ n.val
  · rw [dif_pos h3, dif_pos ⟨by omega, by omega, by omega⟩, ref_project]
    refine congrArg (fun k : Fin 8192 => proj x0 x1 b k _) (Fin.ext ?_)
    show n.val - 3 = 5 + n.val - 8
    omega
  · rw [dif_neg h3, dif_neg fun e => h3 (by omega)]

/-- The reference's convolution. -/
theorem ref_conv (x0 : FVec Ideal S4x8192x1024 .f32) (x1 : FVec Ideal S1024x2048 .bf16) (x4 : FVec Ideal S4x1024 .f32) (x5 : FVec Ideal S1x1024 .f32)
    (b : Fin 4) (s : Fin 8192) (d : Fin 1024) :
    val_main_v47 (F := Ideal) x0 x1 x4 x5 (ix3 b s d) = conv x0 x1 x4 x5 b s d := by
  have h : ∀ y : FVec Ideal S4x8195x1024 .f32, val_main_v14 (F := Ideal) x0 x1 = y → val_main_v47 (F := Ideal) x0 x1 x4 x5 (ix3 b s d)
      = 0 + y (ix3 b ⟨0 + s.val, by omega⟩ d) * x4 (ix2 0 d) + y (ix3 b ⟨1 + s.val, by omega⟩ d) * x4 (ix2 1 d)
        + y (ix3 b ⟨2 + s.val, by omega⟩ d) * x4 (ix2 2 d) + y (ix3 b ⟨3 + s.val, by omega⟩ d) * x4 (ix2 3 d) + x5 (ix2 0 d) := by
    intro y hy
    unfold val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_cst val_main_v20 val_main_v19 val_main_v18 val_main_v17 val_main_v16 val_main_v15
    rw [hy]
    pointwise
  rw [h _ rfl, ref_padded, ref_padded, ref_padded, ref_padded]
  unfold conv taps
  have e : ∀ k : ℕ, k ≤ 3 → before x0 x1 b (5 + (k + s.val)) d.val = before x0 x1 b (k + 5 + s.val) d.val := fun k _ =>
    congrArg (fun n => before x0 x1 b n d.val) (by omega)
  show 0 + before x0 x1 b (5 + (0 + s.val)) d.val * _ + before x0 x1 b (5 + (1 + s.val)) d.val * _ + before x0 x1 b (5 + (2 + s.val)) d.val * _ + before x0 x1 b (5 + (3 + s.val)) d.val * _ + _ = _
  rw [e 0 (by decide), e 1 (by decide), e 2 (by decide), e 3 (by decide), zero_add, add_comm _ (x5 (ix2 0 d)), mul_comm (before x0 x1 b (0 + 5 + s.val) d.val),
    mul_comm (before x0 x1 b (1 + 5 + s.val) d.val), mul_comm (before x0 x1 b (2 + 5 + s.val) d.val), mul_comm (before x0 x1 b (3 + 5 + s.val) d.val)]
  simp only [← add_assoc, Nat.reduceAdd]

/-- The reference's SiLU of the convolution. -/
theorem ref_silu (x0 : FVec Ideal S4x8192x1024 .f32) (x1 : FVec Ideal S1024x2048 .bf16) (x4 : FVec Ideal S4x1024 .f32) (x5 : FVec Ideal S1x1024 .f32)
    (b : Fin 4) (s : Fin 8192) (d : Fin 1024) :
    val_main_v48 (F := Ideal) x0 x1 x4 x5 (ix3 b s d) = conv x0 x1 x4 x5 b s d * sigmoidH (conv x0 x1 x4 x5 b s d) := by
  have h : val_main_v48 (F := Ideal) x0 x1 x4 x5 (ix3 b s d)
      = val_main_v47 (F := Ideal) x0 x1 x4 x5 (ix3 b s d) * sigmoidH (val_main_v47 (F := Ideal) x0 x1 x4 x5 (ix3 b s d)) := by
    unfold val_main_v48 val_main_call1_v5 val_main_call1_v4 val_main_call1_cst_0 val_main_call1_v3 val_main_call1_v2 val_main_call1_cst val_main_call1_v1 val_main_call1_v0
    generalize val_main_v47 (F := Ideal) x0 x1 x4 x5 = y
    pointwise
    rfl
  rw [h, ref_conv]

/-- The reference's queries. -/
theorem ref_queries (x0 : FVec Ideal S4x8192x1024 .f32) (x1 : FVec Ideal S1024x2048 .bf16) (x4 : FVec Ideal S4x1024 .f32) (x5 : FVec Ideal S1x1024 .f32)
    (b : Fin 4) (s : Fin 8192) (d : Fin 512) :
    val_main_v63 (F := Ideal) x0 x1 x4 x5 (ix3 b s d) = conv x0 x1 x4 x5 b s ⟨0 + d.val, by omega⟩ * sigmoidH (conv x0 x1 x4 x5 b s ⟨0 + d.val, by omega⟩) := by
  have h : val_main_v63 (F := Ideal) x0 x1 x4 x5 (ix3 b s d) = val_main_v48 (F := Ideal) x0 x1 x4 x5 (ix3 b s ⟨0 + d.val, by omega⟩) := by
    unfold val_main_v63 val_main_v49
    generalize val_main_v48 (F := Ideal) x0 x1 x4 x5 = y
    pointwise
  rw [h, ref_silu]

/-- The reference's keys. -/
theorem ref_keys (x0 : FVec Ideal S4x8192x1024 .f32) (x1 : FVec Ideal S1024x2048 .bf16) (x4 : FVec Ideal S4x1024 .f32) (x5 : FVec Ideal S1x1024 .f32)
    (b : Fin 4) (s : Fin 8192) (d : Fin 512) :
    val_main_v66 (F := Ideal) x0 x1 x4 x5 (ix3 b s d) = conv x0 x1 x4 x5 b s ⟨512 + d.val, by omega⟩ * sigmoidH (conv x0 x1 x4 x5 b s ⟨512 + d.val, by omega⟩) * scale := by
  have h : val_main_v66 (F := Ideal) x0 x1 x4 x5 (ix3 b s d) = val_main_v48 (F := Ideal) x0 x1 x4 x5 (ix3 b s ⟨512 + d.val, by omega⟩) * scale := by
    unfold val_main_v66 val_main_v65 val_main_v64 val_main_cst_0 val_main_v50
    generalize val_main_v48 (F := Ideal) x0 x1 x4 x5 = y
    pointwise
    rfl
  rw [h, ref_silu]

end Cert.Inproj
-- ==== Proof.Inproj.Scalars.lean ====
/-
  The kernel's sigmoid, SiLU and logarithm of the sigmoid are the reference's.
-/
module

public import proofs.«01_k».proof.Proof.Inproj.RefConv
public import Mathlib.Analysis.SpecialFunctions.Trigonometric.DerivHyp

@[expose] public section

noncomputable section

open Idealize.ShloMosaic

namespace Cert.Inproj

/-- One half. -/
theorem half_eq : half = ((1 / 2 : ℝ) : EReal) := by
  unfold half
  simp [Ideal.ofBits_def, Ideal.ofBits, Ideal.ieee]
  rw [← EReal.coe_mul]
  norm_num

/-- The sigmoid by the hyperbolic tangent, on the real numbers. -/
theorem sigmoid_real (z : ℝ) : 1 / 2 + 1 / 2 * Real.tanh (1 / 2 * z) = (1 + Real.exp (-z))⁻¹ := by
  rw [Real.tanh_eq_sinh_div_cosh, Real.sinh_eq, Real.cosh_eq]
  have h1 : Real.exp (-z) = Real.exp (-(1 / 2 * z)) * Real.exp (-(1 / 2 * z)) := by rw [← Real.exp_add]; congr 1; ring
  have h2 : Real.exp (1 / 2 * z) * Real.exp (-(1 / 2 * z)) = 1 := by rw [← Real.exp_add]; simp
  have p := Real.exp_pos (1 / 2 * z)
  have q := Real.exp_pos (-(1 / 2 * z))
  rw [h1]
  generalize Real.exp (1 / 2 * z) = a at *
  generalize Real.exp (-(1 / 2 * z)) = b at *
  field_simp
  linear_combination 2 * b * h2

/-- The reference's sigmoid of a real number. -/
theorem sigmoidH_real (z : ℝ) : sigmoidH (z : EReal) = (((1 + Real.exp (-z))⁻¹ : ℝ) : EReal) := by
  have p := Real.exp_pos (-z)
  unfold sigmoidH
  rw [← EReal.coe_neg, Ideal.exp_coe, ← EReal.coe_one, ← EReal.coe_add, Ideal.div, if_neg (by exact_mod_cast (by positivity : (1 + Real.exp (-z)) ≠ 0)),
    ← EReal.coe_inv, ← EReal.coe_mul, one_mul]

/-- The two sigmoids agree. -/
theorem sigmoid_eq (z : EReal) : sigmoidT z = sigmoidH z := by
  induction z with
  | bot =>
    have h : ((1 / 2 : ℝ) : EReal) * ⊥ = ⊥ := EReal.coe_mul_bot_of_pos (by norm_num)
    unfold sigmoidT sigmoidH
    rw [half_eq, h, Ideal.tanh_bot, EReal.neg_bot, Ideal.exp_top, show (1 : EReal) + ⊤ = ⊤ from rfl, Ideal.div, if_neg (by decide), EReal.inv_top, mul_zero,
      ← EReal.coe_one, ← EReal.coe_neg, ← EReal.coe_mul, ← EReal.coe_add, ← EReal.coe_zero]
    norm_num
  | top =>
    have h : ((1 / 2 : ℝ) : EReal) * ⊤ = ⊤ := EReal.coe_mul_top_of_pos (by norm_num)
    unfold sigmoidT sigmoidH
    rw [half_eq, h, Ideal.tanh_top, EReal.neg_top, Ideal.exp_bot, add_zero, Ideal.div, if_neg one_ne_zero, ← EReal.coe_one, ← EReal.coe_inv, ← EReal.coe_mul,
      ← EReal.coe_mul, ← EReal.coe_add]
    norm_num
  | coe z =>
    rw [sigmoidH_real, ← sigmoid_real]
    unfold sigmoidT
    rw [half_eq, ← EReal.coe_mul, Ideal.tanh_coe, ← EReal.coe_mul, ← EReal.coe_add]

/-- The two SiLUs agree on the real numbers. -/
theorem silu_eq {z : EReal} (hb : z ≠ ⊥) (ht : z ≠ ⊤) : siluT z = z * sigmoidH z := by
  lift z to ℝ using ⟨ht, hb⟩
  rw [sigmoidH_real, ← sigmoid_real]
  unfold siluT
  rw [half_eq, ← EReal.coe_mul, Ideal.tanh_coe, ← EReal.coe_mul, ← EReal.coe_add, ← EReal.coe_mul]
  refine congrArg Real.toEReal ?_
  ring

/-- The reference's logarithm of the sigmoid. -/
def logSigH (z : EReal) : EReal := -(max (-z) 0 + Ideal.log1p (Ideal.exp (-FloatOps.absf (F := Ideal) (φ := .f32) (-z))))

/-- The logarithm of one. -/
theorem log_one : Ideal.log 1 = 0 := by
  rw [← EReal.coe_one]
  show (if (1 : ℝ) ≤ 0 then (⊥ : EReal) else (Real.log 1 : EReal)) = 0
  rw [if_neg (by norm_num), Real.log_one]
  rfl

/-- The correction of the logarithm of the sigmoid is a real number. -/
theorem log_coe (z : ℝ) : Ideal.log (1 + Ideal.exp (-((|z| : ℝ) : EReal))) = ((Real.log (1 + Real.exp (-|z|)) : ℝ) : EReal) := by
  have p := Real.exp_pos (-|z|)
  rw [← EReal.coe_neg, Ideal.exp_coe, ← EReal.coe_one, ← EReal.coe_add]
  exact if_neg (by linarith)

/-- The absolute value of a real number. -/
theorem abs_coe (z : ℝ) : FloatOps.absf (F := Ideal) (φ := .f32) ((z : EReal)) = ((|z| : ℝ) : EReal) := by
  show max (z : EReal) (-(z : EReal)) = _
  rw [← EReal.coe_neg]
  exact (EReal.coe_strictMono.monotone.map_max (a := z) (b := -z)).symm

/-- The two logarithms of the sigmoid agree. -/
theorem logSig_eq (z : EReal) : logSig z = logSigH z := by
  induction z with
  | bot =>
    have h : FloatOps.absf (F := Ideal) (φ := .f32) ((⊥ : EReal)) = (⊤ : EReal) := show max ⊥ (-⊥) = (⊤ : EReal) by simp
    have h' : FloatOps.absf (F := Ideal) (φ := .f32) ((⊤ : EReal)) = (⊤ : EReal) := show max ⊤ (-⊤) = (⊤ : EReal) by simp
    unfold logSig logSigH Ideal.log1p
    rw [EReal.neg_bot, h, h', EReal.neg_top, show (0 : EReal) - ⊤ = ⊥ from rfl, Ideal.exp_bot, add_zero, log_one]
    simp
  | top =>
    have h : FloatOps.absf (F := Ideal) (φ := .f32) ((⊥ : EReal)) = (⊤ : EReal) := show max ⊥ (-⊥) = (⊤ : EReal) by simp
    have h' : FloatOps.absf (F := Ideal) (φ := .f32) ((⊤ : EReal)) = (⊤ : EReal) := show max ⊤ (-⊤) = (⊤ : EReal) by simp
    unfold logSig logSigH Ideal.log1p
    rw [EReal.neg_top, h, h', EReal.neg_top, show (0 : EReal) - ⊤ = ⊥ from rfl, Ideal.exp_bot, add_zero, log_one]
    simp
  | coe z =>
    unfold logSig logSigH Ideal.log1p
    rw [zero_sub, ← EReal.coe_neg z, abs_coe, abs_coe, abs_neg, log_coe, ← EReal.coe_zero, ← EReal.coe_strictMono.monotone.map_min, ← EReal.coe_strictMono.monotone.map_max, ← EReal.coe_sub, ← EReal.coe_add, ← EReal.coe_neg]
    refine congrArg Real.toEReal ?_
    have h : max (-z) 0 = -min z 0 := by rw [← neg_zero, ← max_neg_neg, neg_zero, neg_zero]
    rw [h]
    ring

end Cert.Inproj
-- ==== Proof.Inproj.Window.lean ====
/-
  The host's running sum over segments of 256 entries, as a sum.
-/
module

public import proofs.«01_k».proof.Proof.Gen.Reference4Ideal.Read
public import Idealize.ShloMosaic.Lib.Pointwise

@[expose] public section

set_option maxRecDepth 16384

noncomputable section

open Idealize.ShloMosaic
open Cert.Reference4Ideal Cert.Reference4Ideal.Gen

namespace Cert.Inproj

/-- A fold of additions is a sum. -/
theorem foldl_add {n : ℕ} (f : Fin n → EReal) : (List.finRange n).foldl (fun a i => a + f i) 0 = ∑ i, f i := by
  have h : ∀ (l : List (Fin n)) (a : EReal), l.foldl (fun a i => a + f i) a = a + (l.map f).sum := by
    intro l
    induction l with
    | nil => intro a; simp
    | cons i l ih => intro a; rw [List.foldl_cons, ih, List.map_cons, List.sum_cons, add_assoc]
  rw [h, zero_add, Fin.sum_univ_def]

/-- The positions of a window that lie in the array. -/
theorem window_sum (f : ℕ → EReal) (j : ℕ) (hj : j < 256) :
    (∑ n : Fin 256, if 255 ≤ j + n.val then f (j + n.val - 255) else 0) = ∑ i ∈ Finset.range (j + 1), f (j - i) := by
  rw [← Finset.sum_range (fun n => if 255 ≤ j + n then f (j + n - 255) else 0), ← Finset.sum_range_reflect]
  symm
  rw [← Finset.sum_subset (Finset.range_subset_range.mpr (by omega : j + 1 ≤ 256))]
  · refine Finset.sum_congr rfl fun i hi => ?_
    have h := Finset.mem_range.mp hi
    rw [if_pos (by omega)]
    exact congrArg f (by omega)
  · intro i hi hn
    have h := Finset.mem_range.mp hi
    have hn' : ¬ i < j + 1 := fun e => hn (Finset.mem_range.mpr e)
    exact if_neg (by omega)

/-- A window's only long axis. -/
theorem window_place : ∀ n : Fin (⟨4, ![1, 1, 1, 256]⟩ : Shape).numel, ((⟨4, ![1, 1, 1, 256]⟩ : Shape).rowMajor.symm n 3).val = n.val := by
  decide +kernel

/-- A window's short axes. -/
theorem window_short : ∀ n : Fin (⟨4, ![1, 1, 1, 256]⟩ : Shape).numel, ((⟨4, ![1, 1, 1, 256]⟩ : Shape).rowMajor.symm n 0).val = 0
    ∧ ((⟨4, ![1, 1, 1, 256]⟩ : Shape).rowMajor.symm n 1).val = 0 ∧ ((⟨4, ![1, 1, 1, 256]⟩ : Shape).rowMajor.symm n 2).val = 0 := by
  decide +kernel

/-- The host's running sum over the last axis. -/
theorem running_sum (x : FVec Ideal S4x4x32x256 .f32) (init : FVec Ideal S_ .f32) (hinit : ∀ i, init i = (0 : EReal))
    (b h : Fin 4) (c : Fin 32) (f : ℕ → EReal) (hx : ∀ j : Fin 256, x (ix4 b h c j) = f j.val) (j : Fin 256) :
    Host.reduceWindowAdd ![1, 1, 1, 256] ![1, 1, 1, 1] ![0, 0, 0, 255] ![0, 0, 0, 0] x init
        reduceWindows_S4x4x32x256_S4x4x32x256_w1s1p0_0_w1s1p0_0_w1s1p0_0_w256s1p255_0 h_S_ (ix4 b h c j)
      = ∑ i ∈ Finset.range (j.val + 1), f (j.val - i) := by
  have hj := j.isLt
  unfold Host.reduceWindowAdd
  rw [Ideal.hostReduceWindowAdd_def, hinit]
  unfold Ideal.hostReduceWindowAdd Host.reduceWindow
  refine (foldl_add _).trans ((Finset.sum_congr rfl fun n _ => ?_).trans (window_sum f j.val hj))
  have hn := window_place n
  have hs := window_short n
  have hb := b.isLt
  have hh := h.isLt
  have hc := c.isLt
  have hm : n.val < 256 := n.isLt
  split
  · rename_i hin
    have h3 := hin 3
    change 255 ≤ j.val * 1 + ((⟨4, ![1, 1, 1, 256]⟩ : Shape).rowMajor.symm n 3).val ∧ _ at h3
    rw [hn] at h3
    rw [if_pos (by omega)]
    refine (congrArg x (funext fun a => Fin.ext ?_)).trans (hx ⟨j.val + n.val - 255, by omega⟩)
    match a with
    | ⟨0, _⟩ =>
      show b.val * 1 + ((⟨4, ![1, 1, 1, 256]⟩ : Shape).rowMajor.symm n 0).val - 0 = b.val
      rw [hs.1]; omega
    | ⟨1, _⟩ =>
      show h.val * 1 + ((⟨4, ![1, 1, 1, 256]⟩ : Shape).rowMajor.symm n 1).val - 0 = h.val
      rw [hs.2.1]; omega
    | ⟨2, _⟩ =>
      show c.val * 1 + ((⟨4, ![1, 1, 1, 256]⟩ : Shape).rowMajor.symm n 2).val - 0 = c.val
      rw [hs.2.2]; omega
    | ⟨3, _⟩ =>
      show j.val * 1 + ((⟨4, ![1, 1, 1, 256]⟩ : Shape).rowMajor.symm n 3).val - 255 = j.val + n.val - 255
      rw [hn]; omega
  · rename_i hin
    rw [if_neg fun hle => hin fun a => by
      match a with
      | ⟨0, _⟩ =>
        show 0 ≤ b.val * 1 + ((⟨4, ![1, 1, 1, 256]⟩ : Shape).rowMajor.symm n 0).val
          ∧ b.val * 1 + ((⟨4, ![1, 1, 1, 256]⟩ : Shape).rowMajor.symm n 0).val - 0 < 4
        rw [hs.1]; omega
      | ⟨1, _⟩ =>
        show 0 ≤ h.val * 1 + ((⟨4, ![1, 1, 1, 256]⟩ : Shape).rowMajor.symm n 1).val
          ∧ h.val * 1 + ((⟨4, ![1, 1, 1, 256]⟩ : Shape).rowMajor.symm n 1).val - 0 < 4
        rw [hs.2.1]; omega
      | ⟨2, _⟩ =>
        show 0 ≤ c.val * 1 + ((⟨4, ![1, 1, 1, 256]⟩ : Shape).rowMajor.symm n 2).val
          ∧ c.val * 1 + ((⟨4, ![1, 1, 1, 256]⟩ : Shape).rowMajor.symm n 2).val - 0 < 32
        rw [hs.2.2]; omega
      | ⟨3, _⟩ =>
        show 255 ≤ j.val * 1 + ((⟨4, ![1, 1, 1, 256]⟩ : Shape).rowMajor.symm n 3).val
          ∧ j.val * 1 + ((⟨4, ![1, 1, 1, 256]⟩ : Shape).rowMajor.symm n 3).val - 255 < 256
        rw [hn]; omega]

end Cert.Inproj
-- ==== Proof.Inproj.RefGates.lean ====
/-
  The second layer's gates as the reference writes them: the gates, their logarithms and the running sums.
-/
module

public import proofs.«01_k».proof.Proof.Inproj.Scalars
public import proofs.«01_k».proof.Proof.Inproj.Window

@[expose] public section

set_option maxRecDepth 16384

noncomputable section

open Idealize.ShloMosaic
open Cert.Reference4Ideal Cert.Reference4Ideal.Gen Cert.Reference4Ideal.Read

namespace Cert.Inproj

/-- The reference's input gates. -/
theorem ref_input (x0 : FVec Ideal S4x8192x1024 .f32) (x3 : FVec Ideal S8x1024 .bf16) (x6 x7 : FVec Ideal S4 .f32) (b : Fin 4) (g : Fin 4) (s : Fin 8192) :
    val_main_v54 (F := Ideal) x0 x3 x6 (ix3 b g s) = gate x0 x3 x6 x7 b ⟨g.val, by omega⟩ s := by
  pointwise [val_main_v54, val_main_v53, val_main_v52, val_main_v51, val_main_v11, val_main_v10, val_main_v9]
  unfold gate bias
  rw [dif_pos (show g.val < 4 from g.isLt)]
  exact congrArg₂ (· + ·) (Finset.sum_congr rfl fun e _ => mul_comm _ _) rfl

/-- The reference's forget gates. -/
theorem ref_forget (x0 : FVec Ideal S4x8192x1024 .f32) (x3 : FVec Ideal S8x1024 .bf16) (x6 x7 : FVec Ideal S4 .f32) (b : Fin 4) (g : Fin 4) (s : Fin 8192) :
    val_main_v57 (F := Ideal) x0 x3 x7 (ix3 b s g) = gate x0 x3 x6 x7 b ⟨g.val + 4, by omega⟩ s := by
  pointwise [val_main_v57, val_main_v56, val_main_v55, val_main_v12, val_main_v10, val_main_v9]
  unfold gate bias
  rw [dif_neg (show ¬ g.val + 4 < 4 by omega)]
  refine congrArg₂ (· + ·) (Finset.sum_congr rfl fun e _ => (mul_comm _ _).trans (congrArg (fun k : Fin 8 => x3 (ix2 k e) * x0 (ix3 b s e)) (Fin.ext ?_))) rfl
  show 4 + g.val = g.val + 4
  omega

/-- The reference's logarithms. -/
theorem ref_log (x0 : FVec Ideal S4x8192x1024 .f32) (x3 : FVec Ideal S8x1024 .bf16) (x6 x7 : FVec Ideal S4 .f32) (b : Fin 4) (g : Fin 4) (s : Fin 8192) :
    val_main_v59 (F := Ideal) x0 x3 x7 (ix3 b g s) = logSig (gate x0 x3 x6 x7 b ⟨g.val + 4, by omega⟩ s) := by
  have h : val_main_v59 (F := Ideal) x0 x3 x7 (ix3 b g s) = logSigH (val_main_v57 (F := Ideal) x0 x3 x7 (ix3 b s g)) := by
    unfold val_main_v59 val_main_v58 val_main_call2_v1 val_main_call2_call0_v11 val_main_call2_call0_v10 val_main_call2_call0_v9 val_main_call2_call0_v8 val_main_call2_call0_v7 val_main_call2_call0_v6 val_main_call2_call0_v5 val_main_call2_call0_v4 val_main_call2_call0_v3 val_main_call2_call0_v2 val_main_call2_call0_v1 val_main_call2_call0_v0 val_main_call2_call0_cst val_main_call2_v0
    generalize val_main_v57 (F := Ideal) x0 x3 x7 = y
    pointwise
    rw [if_neg (not_not.mpr rfl)]
    rfl
  rw [h, ref_forget x0 x3 x6 x7, logSig_eq]

/-- The reference's running sums. -/
theorem ref_sum (x0 : FVec Ideal S4x8192x1024 .f32) (x3 : FVec Ideal S8x1024 .bf16) (x6 x7 : FVec Ideal S4 .f32) (b : Fin 4) (g : Fin 4) (s : Fin 8192) :
    val_main_v62 (F := Ideal) x0 x3 x7 (ix3 b g s) = gateSum x0 x3 x6 x7 b ⟨g.val + 4, by omega⟩ s := by
  have hs := s.isLt
  have hg := g.isLt
  have hb := b.isLt
  have hv : ∀ (h : Fin 32) (j : Fin 256), val_main_v60 (F := Ideal) x0 x3 x7 (ix4 b g h j)
      = logSig (gate x0 x3 x6 x7 b ⟨g.val + 4, by omega⟩ ⟨h.val * 256 + j.val, by omega⟩) := fun h j => by
    rw [val_main_v60_apply, ← ref_log]
    refine congrArg (val_main_v59 (F := Ideal) x0 x3 x7) (funext fun a => Fin.ext ?_)
    have hh := h.isLt
    have hj := j.isLt
    match a with
    | ⟨0, _⟩ => show (((b.val * 4 + g.val) * 32 + h.val) * 256 + j.val) / 32768 = b.val; omega
    | ⟨1, _⟩ => show (((b.val * 4 + g.val) * 32 + h.val) * 256 + j.val) / 8192 % 4 = g.val; omega
    | ⟨2, _⟩ => show (((b.val * 4 + g.val) * 32 + h.val) * 256 + j.val) % 8192 = h.val * 256 + j.val; omega
  have hi : idx_main_v62 (ix3 b g s) = ix4 b g ⟨s.val / 256, by omega⟩ ⟨s.val % 256, by omega⟩ := by
    funext a; apply Fin.ext
    match a with
    | ⟨0, _⟩ => show ((b.val * 4 + g.val) * 8192 + s.val) / 32768 = b.val; omega
    | ⟨1, _⟩ => show ((b.val * 4 + g.val) * 8192 + s.val) / 8192 % 4 = g.val; omega
    | ⟨2, _⟩ => show ((b.val * 4 + g.val) * 8192 + s.val) / 256 % 32 = s.val / 256; omega
    | ⟨3, _⟩ => show ((b.val * 4 + g.val) * 8192 + s.val) % 256 = s.val % 256; omega
  rw [val_main_v62_apply, hi]
  unfold val_main_v61
  refine (running_sum _ _ (fun i => ?_) b g _ (fun j => logSig (gate x0 x3 x6 x7 b ⟨g.val + 4, by omega⟩ ⟨(s.val / 256 * 256 + j) % 8192, Nat.mod_lt _ (by decide)⟩)) (fun j => ?_) _).trans ?_
  · pointwise [val_main_call3_call0_v0, val_main_call3_call0_cst]
  · rw [hv]
    refine congrArg (fun k => logSig (gate x0 x3 x6 x7 b _ k)) (Fin.ext ?_)
    have hj := j.isLt
    show s.val / 256 * 256 + j.val = (s.val / 256 * 256 + j.val) % 8192
    omega
  · unfold gateSum
    refine Finset.sum_congr rfl fun i hi => congrArg (fun k => logSig (gate x0 x3 x6 x7 b _ k)) (Fin.ext ?_)
    have h := Finset.mem_range.mp hi
    show (s.val / 256 * 256 + (s.val % 256 - i)) % 8192 = s.val - i
    have h' : i < s.val % 256 + 1 := h
    omega

/-- The reference's gates. -/
theorem ref_gates (x0 : FVec Ideal S4x8192x1024 .f32) (x3 : FVec Ideal S8x1024 .bf16) (x6 x7 : FVec Ideal S4 .f32) (b : Fin 4) (g : Fin 8) (s : Fin 8192) :
    val_main_v78 (F := Ideal) x0 x3 x6 x7 (ix3 b g s) = resultG x0 x3 x6 x7 (ix3 b g s) := by
  have hg := g.isLt
  have h : ∀ u v : FVec Ideal S4x4x8192 .f32, val_main_v54 (F := Ideal) x0 x3 x6 = u → val_main_v62 (F := Ideal) x0 x3 x7 = v →
      val_main_v78 (F := Ideal) x0 x3 x6 x7 (ix3 b g s) = if h : g.val < 4 then u (ix3 b ⟨g.val, h⟩ s) - v (ix3 b ⟨g.val, h⟩ s) else v (ix3 b ⟨g.val - 4, by omega⟩ s) := by
    intro u v hu hv
    unfold val_main_v78 val_main_v77
    rw [hu, hv]
    pointwise
  rw [h _ _ rfl rfl]
  show _ = if g.val < 4 then _ else _
  by_cases h4 : g.val < 4
  · rw [dif_pos h4, if_pos h4, ref_input x0 x3 x6 x7, ref_sum x0 x3 x6 x7]
    refine congrArg₂ (· - ·) rfl (congrArg (fun k => gateSum x0 x3 x6 x7 b k s) (Fin.ext ?_))
    show g.val + 4 = (g.val + 4) % 8
    omega
  · rw [dif_neg h4, if_neg h4, ref_sum x0 x3 x6 x7]
    refine congrArg (fun k => gateSum x0 x3 x6 x7 b k s) (Fin.ext ?_)
    show g.val - 4 + 4 = g.val
    omega

end Cert.Inproj
-- ==== Proof.Inproj.Value.lean ====
/-
  The second layer's input projection: its value claim.
-/
module

public import proofs.«01_k».proof.Proof.Inproj.Finite
public import proofs.«01_k».proof.Proof.Inproj.Arrays
public import proofs.«01_k».proof.Proof.Inproj.RefGates
public import proofs.«01_k».proof.Proof.Gen.Reference4Ideal.Run

@[expose] public section

set_option maxRecDepth 16384

noncomputable section

open Idealize.ShloMosaic Idealize.ShloMosaic.TcCoe Idealize.SL.Sem
open Cert.Kernel4Ideal (S4x8192x1024 S1024x2048 S8x1024 S4x1024 S1x1024 S4)
open Cert.Reference4Ideal.Read

namespace Cert.Inproj

section

variable {x0 : FVec Ideal S4x8192x1024 .f32} {x1 : FVec Ideal S1024x2048 .bf16} {x2 : FVec Ideal S1024x2048 .bf16} {x3 : FVec Ideal S8x1024 .bf16}
  {x4 : FVec Ideal S4x1024 .f32} {x5 : FVec Ideal S1x1024 .f32} {x6 x7 : FVec Ideal S4 .f32}

/-- With real arguments the reference's queries are the kernel's. -/
theorem queries_eq (h0 : ∀ i, IsReal (x0 i)) (h1 : ∀ e d : Fin 1024, IsReal (x1 (ix2 e ⟨d.val, by omega⟩))) (h4 : ∀ i, IsReal (x4 i)) (h5 : ∀ i, IsReal (x5 i)) :
    val_main_v63 (F := Ideal) x0 x1 x4 x5 = resultQ x0 x1 x4 x5 := by
  funext i
  obtain ⟨b, s, d, rfl⟩ : ∃ (b : Fin 4) (s : Fin 8192) (d : Fin 512), i = ix3 b s d := ⟨i 0, i 1, i 2, eq_ix3 i⟩
  rw [ref_queries]
  exact (silu_eq (conv_real h0 h1 h4 h5 _ _ _).ne.1 (conv_real h0 h1 h4 h5 _ _ _).ne.2).symm

/-- With real arguments the reference's keys are the kernel's. -/
theorem keys_eq (h0 : ∀ i, IsReal (x0 i)) (h1 : ∀ e d : Fin 1024, IsReal (x1 (ix2 e ⟨d.val, by omega⟩))) (h4 : ∀ i, IsReal (x4 i)) (h5 : ∀ i, IsReal (x5 i)) :
    val_main_v66 (F := Ideal) x0 x1 x4 x5 = resultK x0 x1 x4 x5 := by
  funext i
  obtain ⟨b, s, d, rfl⟩ : ∃ (b : Fin 4) (s : Fin 8192) (d : Fin 512), i = ix3 b s d := ⟨i 0, i 1, i 2, eq_ix3 i⟩
  rw [ref_keys]
  exact congrArg (· * scale) (silu_eq (conv_real h0 h1 h4 h5 _ _ _).ne.1 (conv_real h0 h1 h4 h5 _ _ _).ne.2).symm

/-- The reference's values are the kernel's. -/
theorem values_eq : val_main_v67 (F := Ideal) x0 x1 = resultV x0 x1 := by
  funext i
  obtain ⟨b, s, d, rfl⟩ : ∃ (b : Fin 4) (s : Fin 8192) (d : Fin 1024), i = ix3 b s d := ⟨i 0, i 1, i 2, eq_ix3 i⟩
  rw [ref_values]
  rfl

/-- The reference's sigmoid gates are the kernel's. -/
theorem ogate_eq : val_main_v74 (F := Ideal) x0 x2 = resultO x0 x2 := by
  funext i
  obtain ⟨b, s, d, rfl⟩ : ∃ (b : Fin 4) (s : Fin 8192) (d : Fin 1024), i = ix3 b s d := ⟨i 0, i 1, i 2, eq_ix3 i⟩
  rw [ref_ogate, ← sigmoid_eq]
  rfl

/-- With real arguments the reference's SiLU gates are the kernel's. -/
theorem zgate_eq (h0 : ∀ i, IsReal (x0 i)) (h2 : ∀ e d : Fin 1024, IsReal (x2 (ix2 e ⟨1024 + d.val, by omega⟩))) :
    val_main_v76 (F := Ideal) x0 x2 = resultZ x0 x2 := by
  funext i
  obtain ⟨b, s, d, rfl⟩ : ∃ (b : Fin 4) (s : Fin 8192) (d : Fin 1024), i = ix3 b s d := ⟨i 0, i 1, i 2, eq_ix3 i⟩
  rw [ref_zgate]
  exact (silu_eq (proj_real h0 (fun e => h2 e _) _ _).ne.1 (proj_real h0 (fun e => h2 e _) _ _).ne.2).symm

/-- The reference's gates are the kernel's. -/
theorem gates_eq : val_main_v78 (F := Ideal) x0 x3 x6 x7 = resultG x0 x3 x6 x7 := by
  funext i
  obtain ⟨b, s, d, rfl⟩ : ∃ (b : Fin 4) (s : Fin 8) (d : Fin 8192), i = ix3 b s d := ⟨i 0, i 1, i 2, eq_ix3 i⟩
  exact ref_gates x0 x3 x6 x7 _ _ _

end

/-- With real tokens, weights and convolution the kernel's six results are the reference's. -/
theorem value : Cert.algebraic_Kernel4Ideal_Reference4Ideal_pre_finite4 := by
  intro m g m' g' hpre hargs
  refine ⟨fun c => resultQ (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)),
      fun c => resultK (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)),
      fun c => resultV (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)),
      fun c => resultO (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg2)),
      fun c => resultZ (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg2)),
      fun c => resultG (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg6)) (m ((c : Thread Cert.Kernel4Ideal.nD Cert.Kernel4Ideal.τ).loc Cert.Kernel4Ideal.main_arg7)), ?_, ?_⟩
  · refine (θ_run Cert.Kernel4Ideal.defs _ _).mono (fun r h c => ?_) (Cert.Kernel4Ideal.Value.run_blocks m g)
    obtain ⟨q, k, v, o, z, w, rest⟩ := h c
    exact ⟨q.trans (final7 m c), k.trans (final8 m c), v.trans (final9 m c), o.trans (final10 m c), z.trans (final11 m c), w.trans (final12 m c), rest⟩
  · refine (θ_run Cert.Reference4Ideal.defs _ _).mono (fun r h c => ?_) (Cert.Reference4Ideal.Value.run m' g')
    obtain ⟨q, k, v, o, z, w, rest⟩ := h c
    obtain ⟨h0, h1, h2, h3, h4, h5, h6, h7⟩ := hargs c
    obtain ⟨p0, p1, p2, p4, p5⟩ := hpre c
    have r0 := tokens_real _ _ _ _ _ _ _ _ p0
    have r1 := weights_real _ _ _ _ _ _ _ _ p1
    have r2 := gate_weights_real _ _ _ _ _ _ _ _ p2
    have r4 := taps_real _ _ _ _ _ _ _ _ p4
    have r5 := bias_real _ _ _ _ _ _ _ _ p5
    refine ⟨q.trans ((val_main_v63_eq m' c).trans ?_), k.trans ((val_main_v66_eq m' c).trans ?_), v.trans ((val_main_v67_eq _ _).trans ?_),
      o.trans ((val_main_v74_eq _ _).trans ?_), z.trans ((val_main_v76_eq _ _).trans ?_), w.trans ((val_main_v78_eq m' c).trans ?_), rest⟩
    · rw [h0, h1, h4, h5]
      exact queries_eq r0 r1 r4 r5
    · rw [h0, h1, h4, h5]
      exact keys_eq r0 r1 r4 r5
    · rw [h0, h1]
      exact values_eq
    · rw [h0, h2]
      exact ogate_eq
    · rw [h0, h2]
      exact zgate_eq r0 r2
    · rw [h0, h3, h6, h7]
      exact gates_eq

end Cert.Inproj
-- ==== Proof.Hgrn.Payloads.lean ====
/-
  What the body of the first layer's input projection computes at a row and a column, store by store, from the values it
  loads, and what its loads of the weights and of its own scratch buffers give.
-/
module

public import proofs.«01_k».proof.Proof.Gen.Kernel5Ideal.Frame
public import proofs.«01_k».proof.Proof.Inproj.Payloads
public import Idealize.ShloMosaic.Lib.Pointwise
public import Idealize.ShloMosaic.Lib.Pipeline.ReadBack

@[expose] public section

set_option maxRecDepth 16384

noncomputable section

open Idealize.ShloMosaic
open Cert.Kernel5Ideal Cert.Kernel5Ideal.Gen
open Cert.Inproj (dot half siluT sigmoidT)

namespace Cert.Hgrn

/-- The queries' scale, as the body spells it. -/
def qScale : EReal := Ideal.ofBits .f32 1040356334#32

section
variable (v : FVec Ideal S1024x1024 .bf16) (w : Vec Ideal S1024x512 .bf16) (u : Vec Ideal S1024x256 .bf16) (r : Fin 1024)

/-- The block of tokens, without its unit axis. -/
theorem tokens_apply (x0 : Vec Ideal S1x1024x1024 .f32) (e : Fin 1024) : k0_pay3 x0 (ix2 r e) = x0 (ix3 0 r e) := by
  pointwise [k0_pay3]

/-- The queries of the recurrence. -/
theorem pay_q (d : Fin 512) : k0_pay21 v w (ix3 0 r d) = dot (fun e => v (ix2 r e)) (fun e => w (ix2 e d)) := by
  pointwise [k0_pay21]
  rfl

/-- The values of the recurrence. -/
theorem pay_v (d : Fin 512) : k0_pay27 v w (ix3 0 r d) = dot (fun e => v (ix2 r e)) (fun e => w (ix2 e d)) := by
  pointwise [k0_pay27]
  rfl

/-- The output gates of the recurrence. -/
theorem pay_z (d : Fin 512) : k0_pay30 (k0_pay28 v w) (k0_pay29 v w) (ix3 0 r d) = siluT (dot (fun e => v (ix2 r e)) (fun e => w (ix2 e d))) := by
  pointwise [k0_pay30, k0_pay29, k0_pay28]
  rfl

/-- The forget gates. -/
theorem pay_f (b : Vec Ideal S1x512 .f32) (d : Fin 512) :
    k0_pay24 b (k0_pay22 b) (k0_pay23 v w) (Scalar.ofBits .f32 0x3F000000#32) (ix2 r d)
      = b (ix2 0 d) + (1 - b (ix2 0 d)) * sigmoidT (dot (fun e => v (ix2 r e)) (fun e => w (ix2 e d))) := by
  pointwise [k0_pay24, k0_pay22, k0_pay23]
  rfl

/-- The logarithms of the forget gates. -/
theorem pay_l (b : Vec Ideal S1x512 .f32) (d : Fin 512) :
    k0_pay25 b (k0_pay22 b) (k0_pay23 v w) (Scalar.ofBits .f32 0x3F000000#32) (ix3 0 r d)
      = Ideal.log (b (ix2 0 d) + (1 - b (ix2 0 d)) * sigmoidT (dot (fun e => v (ix2 r e)) (fun e => w (ix2 e d)))) := by
  rw [← pay_f]
  unfold k0_pay25
  generalize k0_pay24 b (k0_pay22 b) (k0_pay23 v w) (Scalar.ofBits .f32 0x3F000000#32) = y
  pointwise

/-- The keys of the recurrence. -/
theorem pay_k (b : Vec Ideal S1x512 .f32) (d : Fin 512) :
    k0_pay26 b (k0_pay22 b) (k0_pay23 v w) (Scalar.ofBits .f32 0x3F000000#32) (ix3 0 r d)
      = 1 - (b (ix2 0 d) + (1 - b (ix2 0 d)) * sigmoidT (dot (fun e => v (ix2 r e)) (fun e => w (ix2 e d)))) := by
  rw [← pay_f]
  unfold k0_pay26
  generalize k0_pay24 b (k0_pay22 b) (k0_pay23 v w) (Scalar.ofBits .f32 0x3F000000#32) = y
  pointwise

/-- The first half of the queries. -/
theorem pay_fq0 (d : Fin 256) : k0_pay96 v u (ix3 0 r d) = dot (fun e => v (ix2 r e)) (fun e => u (ix2 e d)) * qScale := by
  pointwise [k0_pay96]
  rfl

/-- The second half of the queries. -/
theorem pay_fq1 (d : Fin 256) : k0_pay140 v u (ix3 0 r d) = dot (fun e => v (ix2 r e)) (fun e => u (ix2 e d)) * qScale := by
  pointwise [k0_pay140]
  rfl

/-- The first half of the keys. -/
theorem pay_fk0 (d : Fin 256) : k0_pay205 v u (ix3 0 r d) = dot (fun e => v (ix2 r e)) (fun e => u (ix2 e d)) := by
  pointwise [k0_pay205]
  rfl

/-- The second half of the keys. -/
theorem pay_fk1 (d : Fin 256) : k0_pay255 v u (ix3 0 r d) = dot (fun e => v (ix2 r e)) (fun e => u (ix2 e d)) := by
  pointwise [k0_pay255]
  rfl

/-- The first half of the values. -/
theorem pay_fv0 (d : Fin 256) : k0_pay323 v u (ix3 0 r d) = dot (fun e => v (ix2 r e)) (fun e => u (ix2 e d)) := by
  pointwise [k0_pay323]
  rfl

/-- The second half of the values. -/
theorem pay_fv1 (d : Fin 256) : shapeCast S1x1024x256 (k0_pay375 v u) shapeCasts_S1024x256_S1x1024x256 (ix3 0 r d) = dot (fun e => v (ix2 r e)) (fun e => u (ix2 e d)) := by
  pointwise [k0_pay375]
  rfl

/-- The first half of the output gates. -/
theorem pay_fz0 (d : Fin 256) : k0_pay445 v u (ix3 0 r d) = siluT (dot (fun e => v (ix2 r e)) (fun e => u (ix2 e d))) := by
  pointwise [k0_pay445]
  rfl

/-- The second half of the output gates. -/
theorem pay_fz1 (d : Fin 256) : k0_pay2 v u (ix3 0 r d) = siluT (dot (fun e => v (ix2 r e)) (fun e => u (ix2 e d))) := by
  pointwise [k0_pay2]
  rfl

end

/-- A load of 512 columns of the weights. -/
theorem load_w512 {m : Memref sig .tc .vmem S1024x3584 .bf16} (h : m.IsWhole) (x : Vec Ideal S1024x3584 .bf16) {c0 : ℕ}
    (inb : ∀ a, (![0, c0] : Fin 2 → ℕ) a + S1024x512.size a ≤ S1024x3584.size a) (e : Fin 1024) (d : Fin 512) (hd : c0 + d.val < 3584) :
    View.readAt (Elt Ideal) m.view (Rect.unit (s := S1024x3584) ![0, c0] S1024x512.size inb).toLoadRect (h.unread x) (ix2 e d)
      = x (ix2 e ⟨c0 + d.val, hd⟩) := by
  rw [View.readAt_apply, h.read_unread]
  refine congrArg x (funext fun a => Fin.ext ?_)
  match a with
  | ⟨0, _⟩ => show 0 + 1 * e.val = e.val; omega
  | ⟨1, _⟩ => show c0 + 1 * d.val = c0 + d.val; omega

/-- A load of 256 columns of the weights. -/
theorem load_w256 {m : Memref sig .tc .vmem S1024x3584 .bf16} (h : m.IsWhole) (x : Vec Ideal S1024x3584 .bf16) {c0 : ℕ}
    (inb : ∀ a, (![0, c0] : Fin 2 → ℕ) a + S1024x256.size a ≤ S1024x3584.size a) (e : Fin 1024) (d : Fin 256) (hd : c0 + d.val < 3584) :
    View.readAt (Elt Ideal) m.view (Rect.unit (s := S1024x3584) ![0, c0] S1024x256.size inb).toLoadRect (h.unread x) (ix2 e d)
      = x (ix2 e ⟨c0 + d.val, hd⟩) := by
  rw [View.readAt_apply, h.read_unread]
  refine congrArg x (funext fun a => Fin.ext ?_)
  match a with
  | ⟨0, _⟩ => show 0 + 1 * e.val = e.val; omega
  | ⟨1, _⟩ => show c0 + 1 * d.val = c0 + d.val; omega

/-- A load of 256 columns of the output gates' weights. -/
theorem load_wb256 {m : Memref sig .tc .vmem S1024x512 .bf16} (h : m.IsWhole) (x : Vec Ideal S1024x512 .bf16) {c0 : ℕ}
    (inb : ∀ a, (![0, c0] : Fin 2 → ℕ) a + S1024x256.size a ≤ S1024x512.size a) (e : Fin 1024) (d : Fin 256) (hd : c0 + d.val < 512) :
    View.readAt (Elt Ideal) m.view (Rect.unit (s := S1024x512) ![0, c0] S1024x256.size inb).toLoadRect (h.unread x) (ix2 e d)
      = x (ix2 e ⟨c0 + d.val, hd⟩) := by
  rw [View.readAt_apply, h.read_unread]
  refine congrArg x (funext fun a => Fin.ext ?_)
  match a with
  | ⟨0, _⟩ => show 0 + 1 * e.val = e.val; omega
  | ⟨1, _⟩ => show c0 + 1 * d.val = c0 + d.val; omega

/-- A load of a head's norm weights. -/
theorem load_norm {m : Memref sig .tc .vmem S1x512 .f32} (h : m.IsWhole) (x : Vec Ideal S1x512 .f32) {c0 : ℕ}
    (inb : ∀ a, (![0, c0] : Fin 2 → ℕ) a + S1x128.size a ≤ S1x512.size a) (d : Fin 128) (hd : c0 + d.val < 512) :
    View.readAt (Elt Ideal) m.view (Rect.unit (s := S1x512) ![0, c0] S1x128.size inb).toLoadRect (h.unread x) (ix2 0 d)
      = x (ix2 0 ⟨c0 + d.val, hd⟩) := by
  rw [View.readAt_apply, h.read_unread]
  refine congrArg x (funext fun a => Fin.ext ?_)
  match a with
  | ⟨0, _⟩ => rfl
  | ⟨1, _⟩ => show c0 + 1 * d.val = c0 + d.val; omega

/-- A load of the whole block of tokens. -/
theorem load_tokens {m : Memref sig .tc .vmem S1x1024x1024 .f32} (h : m.IsWhole) (x : Vec Ideal S1x1024x1024 .f32)
    (inb : ∀ a, (![0, 0, 0] : Fin 3 → ℕ) a + S1x1024x1024.size a ≤ S1x1024x1024.size a) :
    View.readAt (Elt Ideal) m.view (Rect.unit (s := S1x1024x1024) ![0, 0, 0] S1x1024x1024.size inb).toLoadRect (h.unread x) = x := by
  funext y
  rw [View.readAt_apply, h.read_unread]
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A load of the gates' weights. -/
theorem load_gates {m : Memref sig .tc .vmem S8x1024 .bf16} (h : m.IsWhole) (x : Vec Ideal S8x1024 .bf16)
    (inb : ∀ a, (![0, 0] : Fin 2 → ℕ) a + S8x1024.size a ≤ S8x1024.size a) :
    View.readAt (Elt Ideal) m.view (Rect.unit (s := S8x1024) ![0, 0] S8x1024.size inb).toLoadRect (h.unread x) = x := by
  funext y
  rw [View.readAt_apply, h.read_unread]
  refine congrArg x (funext fun a => Fin.ext ?_)
  match a with
  | ⟨0, _⟩ => show 0 + 1 * (y 0).val = (y 0).val; omega
  | ⟨1, _⟩ => show 0 + 1 * (y 1).val = (y 1).val; omega

/-- A load of the gates' biases. -/
theorem load_gate_bias {m : Memref sig .tc .vmem S8x1024 .f32} (h : m.IsWhole) (x : Vec Ideal S8x1024 .f32)
    (inb : ∀ a, (![0, 0] : Fin 2 → ℕ) a + S8x1024.size a ≤ S8x1024.size a) :
    View.readAt (Elt Ideal) m.view (Rect.unit (s := S8x1024) ![0, 0] S8x1024.size inb).toLoadRect (h.unread x) = x := by
  funext y
  rw [View.readAt_apply, h.read_unread]
  refine congrArg x (funext fun a => Fin.ext ?_)
  match a with
  | ⟨0, _⟩ => show 0 + 1 * (y 0).val = (y 0).val; omega
  | ⟨1, _⟩ => show 0 + 1 * (y 1).val = (y 1).val; omega

/-- A load of the lower bounds. -/
theorem load_bound {m : Memref sig .tc .vmem S1x512 .f32} (h : m.IsWhole) (x : Vec Ideal S1x512 .f32)
    (inb : ∀ a, (![0, 0] : Fin 2 → ℕ) a + S1x512.size a ≤ S1x512.size a) :
    View.readAt (Elt Ideal) m.view (Rect.unit (s := S1x512) ![0, 0] S1x512.size inb).toLoadRect (h.unread x) = x := by
  funext y
  rw [View.readAt_apply, h.read_unread]
  refine congrArg x (funext fun a => Fin.ext ?_)
  match a with
  | ⟨0, _⟩ => show 0 + 1 * (y 0).val = (y 0).val; omega
  | ⟨1, _⟩ => show 0 + 1 * (y 1).val = (y 1).val; omega

/-- The tokens as the scratch buffer holds them. -/
theorem load_kept {m : Memref sig .tc .vmem S1x1024x1024 .f32} (h : m.IsWhole) (x : Vec Ideal S1x1024x1024 .f32)
    {m' : Memref sig .tc .vmem S1024x1024 .bf16}
    (inb : ∀ a, (![0, 0, 0] : Fin 3 → ℕ) a + S1x1024x1024.size a ≤ S1x1024x1024.size a)
    (inb' inb'' : ∀ a, (![0, 0] : Fin 2 → ℕ) a + S1024x1024.size a ≤ S1024x1024.size a) (r e : Fin 1024) :
    m'.view.readCov (Val := Elt Ideal) [⟨Rect.unit ![0, 0] S1024x1024.size inb', k0_pay3 (F := Ideal) (View.readAt (Elt Ideal) m.view
        (Rect.unit (s := S1x1024x1024) ![0, 0, 0] S1x1024x1024.size inb).toLoadRect (h.unread x))⟩]
      (Rect.unit (s := S1024x1024) ![0, 0] S1024x1024.size inb'').toLoadRect (ix2 r e) = (show EReal from x (ix3 0 r e)) := by
  have e0 := View.readCov_fill (Val := Elt Ideal) m'.view inb' (k0_pay3 (F := Ideal) (View.readAt (Elt Ideal) m.view
        (Rect.unit (s := S1x1024x1024) ![0, 0, 0] S1x1024x1024.size inb).toLoadRect (h.unread x))) [] (Rect.unit (s := S1024x1024) ![0, 0] S1024x1024.size inb'')
    fun a => by match a with | ⟨0, _⟩ => rfl | ⟨1, _⟩ => rfl
  rw [e0, load_tokens]
  refine Eq.trans (congrArg (k0_pay3 (F := Ideal) x) (funext fun a => Fin.ext ?_)) (tokens_apply r x e)
  match a with
  | ⟨0, _⟩ => show 0 + 1 * r.val = r.val; omega
  | ⟨1, _⟩ => show 0 + 1 * e.val = e.val; omega

/-- A head's columns of 256 rows of a scratch buffer. -/
theorem load_head {m : Memref sig .tc .vmem S1x1024x512 .bf16} (p : Vec Ideal S1x1024x512 .bf16) (L : List (View.Piece (Elt Ideal) S1x1024x512 .bf16))
    {o1 o2 : ℕ} (inb : ∀ a, (![0, 0, 0] : Fin 3 → ℕ) a + S1x1024x512.size a ≤ S1x1024x512.size a)
    (inb' : ∀ a, (![0, o1, o2] : Fin 3 → ℕ) a + S1x256x128.size a ≤ S1x1024x512.size a) (r : Fin 256) (d : Fin 128)
    (hr : o1 + r.val < 1024) (hd : o2 + d.val < 512) :
    m.view.readCov (⟨Rect.unit ![0, 0, 0] S1x1024x512.size inb, p⟩ :: L) (Rect.unit (s := S1x1024x512) ![0, o1, o2] S1x256x128.size inb').toLoadRect (ix3 0 r d)
      = p (ix3 0 ⟨o1 + r.val, hr⟩ ⟨o2 + d.val, hd⟩) := by
  have e : m.view.readCov (⟨Rect.unit ![0, 0, 0] S1x1024x512.size inb, p⟩ :: L) (Rect.unit (s := S1x1024x512) ![0, o1, o2] S1x256x128.size inb').toLoadRect
      = View.ld p (Rect.unit (s := S1x1024x512) ![0, o1, o2] S1x256x128.size inb') :=
    View.readCov_fill _ _ _ _ _ fun a => by match a with | ⟨0, _⟩ => rfl | ⟨1, _⟩ => rfl | ⟨2, _⟩ => rfl
  rw [e]
  refine congrArg p (funext fun a => Fin.ext ?_)
  match a with
  | ⟨0, _⟩ => rfl
  | ⟨1, _⟩ => show o1 + 1 * r.val = o1 + r.val; omega
  | ⟨2, _⟩ => show o2 + 1 * d.val = o2 + d.val; omega

/-- 256 rows of a scratch buffer. -/
theorem load_rows {m : Memref sig .tc .vmem S1x1024x512 .f32} (p : Vec Ideal S1x1024x512 .f32) (L : List (View.Piece (Elt Ideal) S1x1024x512 .f32))
    {o1 o2 : ℕ} (inb : ∀ a, (![0, 0, 0] : Fin 3 → ℕ) a + S1x1024x512.size a ≤ S1x1024x512.size a)
    (inb' : ∀ a, (![0, o1, o2] : Fin 3 → ℕ) a + S1x256x512.size a ≤ S1x1024x512.size a) (r : Fin 256) (d : Fin 512)
    (hr : o1 + r.val < 1024) (hd : o2 + d.val < 512) :
    m.view.readCov (⟨Rect.unit ![0, 0, 0] S1x1024x512.size inb, p⟩ :: L) (Rect.unit (s := S1x1024x512) ![0, o1, o2] S1x256x512.size inb').toLoadRect (ix3 0 r d)
      = p (ix3 0 ⟨o1 + r.val, hr⟩ ⟨o2 + d.val, hd⟩) := by
  have e : m.view.readCov (⟨Rect.unit ![0, 0, 0] S1x1024x512.size inb, p⟩ :: L) (Rect.unit (s := S1x1024x512) ![0, o1, o2] S1x256x512.size inb').toLoadRect
      = View.ld p (Rect.unit (s := S1x1024x512) ![0, o1, o2] S1x256x512.size inb') :=
    View.readCov_fill _ _ _ _ _ fun a => by match a with | ⟨0, _⟩ => rfl | ⟨1, _⟩ => rfl | ⟨2, _⟩ => rfl
  rw [e]
  refine congrArg p (funext fun a => Fin.ext ?_)
  match a with
  | ⟨0, _⟩ => rfl
  | ⟨1, _⟩ => show o1 + 1 * r.val = o1 + r.val; omega
  | ⟨2, _⟩ => show o2 + 1 * d.val = o2 + d.val; omega

end Cert.Hgrn
-- ==== Proof.Hgrn.Tile.lean ====
/-
  One head of one tile of 256 rows of the gated recurrence, as the body computes it: the running sums of the forget gates'
  logarithms inside chunks of 32 rows, the products inside a block of two chunks, and the state carried from block to block.
-/
module

public import proofs.«01_k».proof.Proof.Gen.Kernel5Ideal.Frame
public import Idealize.ShloMosaic.Lib.WritesUnit
public import Idealize.ShloMosaic.Lib.Pointwise

@[expose] public section

set_option maxRecDepth 16384

noncomputable section

open Idealize.ShloMosaic
open Cert.Kernel5Ideal Cert.Kernel5Ideal.Gen

namespace Cert.Hgrn

/-- The rows' numbers. -/
def rowsI : IVec S256x256 32 := iota .tc S256x256 32 [0] iota_S256x256_d0_w32

/-- The columns' numbers. -/
def colsI : IVec S256x256 32 := iota .tc S256x256 32 [1] iota_S256x256_d1_w32

/-- Row and column are in the same chunk. -/
def sameM : IVec S256x256 1 := k0_pay35 colsI k0_pay31 32#32 k0_pay32 k0_pay33 1#32 0#1

/-- Row and column are in the same chunk and the column is not after the row. -/
def causM : IVec S256x256 1 := k0_pay36 rowsI colsI k0_pay31 32#32 k0_pay32 k0_pay33 1#32 0#1

/-- The column is in the first chunk of a block and the row in the second. -/
def prevM : IVec S256x256 1 := k0_pay37 colsI k0_pay31 32#32 k0_pay32 k0_pay33 1#32 0#1

/-- The row is in the second chunk of a block. -/
def oddM : IVec S256x128 1 := k0_pay40 (iota .tc S256x128 32 [0] iota_S256x128_d0_w32)

/-- One for the columns of the row's chunk that are not after the row. -/
def tri : FVec Ideal S256x256 .bf16 := k0_pay38 rowsI colsI k0_pay31 32#32 k0_pay32 k0_pay33 1#32 0#1

/-- One for the columns of the row's chunk. -/
def lastM : FVec Ideal S256x256 .bf16 := k0_pay39 colsI k0_pay31 32#32 k0_pay32 k0_pay33 1#32 0#1

/-- The running sums inside the chunks. -/
def bAll (lf : Vec Ideal S1x256x512 .f32) : FVec Ideal S256x512 .f32 := k0_pay44 tri lf

/-- The chunks' sums. -/
def tAll (lf : Vec Ideal S1x256x512 .f32) : FVec Ideal S256x512 .f32 := k0_pay45 lastM lf

/-- One head's columns. -/
def cut (o : Fin 2 → ℕ) (ho : S256x512.Slices o S256x128) (x : FVec Ideal S256x512 .f32) : FVec Ideal S256x128 .f32 :=
  extractStridedSlice S256x128 o x ho

variable (b t : FVec Ideal S256x128 .f32) (q k v : Vec Ideal S1x256x128 .bf16) (st : FVec Ideal S128x128 .f32)

/-- The queries, decayed from their chunk's start. -/
def qDec : FVec Ideal S256x128 .f32 := mulf (extf .f32 (shapeCast S256x128 q shapeCasts_S1x256x128_S256x128) bitsLt_bf16_f32) (exp b)

/-- The keys. -/
def keys : FVec Ideal S256x128 .f32 := extf .f32 (shapeCast S256x128 k shapeCasts_S1x256x128_S256x128) bitsLt_bf16_f32

/-- The keys, decayed to their chunk's end. -/
def kEnd : FVec Ideal S256x128 .f32 := mulf (keys k) (exp (subf t b))

/-- The keys, with the decay from their chunk's start undone. -/
def kInv : FVec Ideal S256x128 .f32 :=
  mulf (keys k) (exp (subf (broadcast S256x128 (Scalar.ofBits .f32 0x00000000#32)) b))

/-- The decay of the chunk before. -/
def decPrev : FVec Ideal S256x128 .f32 := dynamicRotate 0 32#32 none (exp t) rotates_S256x128_d0

/-- The decay of the chunk after. -/
def decNext : FVec Ideal S256x128 .f32 := dynamicRotate 0 224#32 none (exp t) rotates_S256x128_d0

/-- The queries, decayed from their block's start. -/
def qBlk : FVec Ideal S256x128 .bf16 :=
  truncf .bf16 (select oddM (mulf (qDec b q) (decPrev t)) (qDec b q)) bitsLt_bf16_f32

/-- The keys, decayed to their block's end. -/
def kBlk : FVec Ideal S256x128 .bf16 :=
  truncf .bf16 (select oddM (kEnd b t k) (mulf (kEnd b t k) (decNext t))) bitsLt_bf16_f32

/-- The decay of a block. -/
def decBlk : FVec Ideal S256x128 .f32 := mulf (exp t) (decNext t)

/-- The products inside the blocks. -/
def inner : FVec Ideal S256x128 .f32 :=
  k0_pay60 causM prevM (k0_pay49 v) (truncf .bf16 (qDec b q) bitsLt_bf16_f32) (truncf .bf16 (kInv b k) bitsLt_bf16_f32)
    (truncf .bf16 (kEnd b t k) bitsLt_bf16_f32) (constant S256x256 .f32 0x00000000#32)

/-- What the queries of a block read from the state. -/
def inter (o : Fin 2 → ℕ) (ho : S256x128.Slices o S64x128) : FVec Ideal S64x128 .f32 :=
  matmul dot_S64x128_S128x128_S64x128_1_1_0_0_n_n none (extractStridedSlice S64x128 o (qBlk b t q) ho)
    (truncf .bf16 st bitsLt_bf16_f32) (constant S64x128 .f32 0x00000000#32)

/-- The state after a block. -/
def next (o : Fin 2 → ℕ) (ho : S256x128.Slices o S64x128) (ho1 : S256x128.Slices o S1x128) : FVec Ideal S128x128 .f32 :=
  addf (mulf st (broadcastTo S128x128 (extractStridedSlice S1x128 o (decBlk t) ho1) broadcasts_S1x128_S128x128))
    (matmul dot_S64x128_S64x128_S128x128_0_0_1_1_n_n none (extractStridedSlice S64x128 o (k0_pay49 (F := Ideal) v) ho)
      (extractStridedSlice S64x128 o (kBlk b t k) ho) (constant S128x128 .f32 0x00000000#32))

/-- The state after the first block. -/
def st1 : FVec Ideal S128x128 .f32 := next b t k v st ![0, 0] slices_S256x128_o0_0_S64x128 slices_S256x128_o0_0_S1x128

/-- The state after the second block. -/
def st2 : FVec Ideal S128x128 .f32 :=
  next b t k v (st1 b t k v st) ![64, 0] slices_S256x128_o64_0_S64x128 slices_S256x128_o64_0_S1x128

/-- The state after the third block. -/
def st3 : FVec Ideal S128x128 .f32 :=
  next b t k v (st2 b t k v st) ![128, 0] slices_S256x128_o128_0_S64x128 slices_S256x128_o128_0_S1x128

/-- The state after the fourth block. -/
def st4 : FVec Ideal S128x128 .f32 :=
  next b t k v (st3 b t k v st) ![192, 0] slices_S256x128_o192_0_S64x128 slices_S256x128_o192_0_S1x128

/-- A head's state as it is stored. -/
def headState (b t : FVec Ideal S256x128 .f32) (k v : Vec Ideal S1x256x128 .bf16) (s : Vec Ideal S1x128x128 .f32) :
    FVec Ideal S1x128x128 .f32 :=
  shapeCast S1x128x128 (st4 b t k v (k0_pay61 s)) shapeCasts_S128x128_S1x128x128

/-- A head's output as it is stored. -/
def headOut (b t : FVec Ideal S256x128 .f32) (q k v z : Vec Ideal S1x256x128 .bf16) (g : Vec Ideal S1x128 .f32)
    (s : Vec Ideal S1x128x128 .f32) : FVec Ideal S1x256x128 .bf16 :=
  k0_pay72 (inner b t q k v)
    (inter b t q (k0_pay61 s) ![0, 0] slices_S256x128_o0_0_S64x128)
    (inter b t q (st1 b t k v (k0_pay61 s)) ![64, 0] slices_S256x128_o64_0_S64x128)
    (inter b t q (st2 b t k v (k0_pay61 s)) ![128, 0] slices_S256x128_o128_0_S64x128)
    (inter b t q (st3 b t k v (k0_pay61 s)) ![192, 0] slices_S256x128_o192_0_S64x128) g z

end Cert.Hgrn

end
-- ==== Proof.Hgrn.Masks.lean ====
/-
  The masks of a tile at a row and a column, and the running sums inside the chunks on real logarithms.
-/
module

public import proofs.«01_k».proof.Proof.Hgrn.Tile

@[expose] public section

set_option maxRecDepth 16384

noncomputable section

open Idealize.ShloMosaic
open Cert.Kernel5Ideal Cert.Kernel5Ideal.Gen

namespace Cert.Hgrn

/-- The chunk of a row. -/
theorem rowChunk (r c : Fin 256) : k0_pay31 (ix2 r c) = BitVec.ofNat 32 (r.val / 32) := by
  pointwise [k0_pay31]
  revert r
  decide +kernel

/-- The chunk of a column. -/
theorem colChunk (r c : Fin 256) :
    k0_pay34 colsI 32#32 k0_pay32 k0_pay33 1#32 0#1 (ix2 r c) = BitVec.ofNat 32 (c.val / 32) := by
  pointwise [k0_pay34, colsI, k0_pay32, k0_pay33]
  revert c
  decide +kernel

/-- Chunk numbers are equal when their words are. -/
theorem chunk_eq (a b : ℕ) (ha : a < 16) (hb : b < 16) : (IntOp.cmpi CmpIPredicate.eq (BitVec.ofNat 32 a) (BitVec.ofNat 32 b) = 1#1) ↔ a = b := by
  have h : ∀ a b : Fin 16, (IntOp.cmpi CmpIPredicate.eq (BitVec.ofNat 32 a.val) (BitVec.ofNat 32 b.val) = 1#1) ↔ a.val = b.val := by
    decide +kernel
  exact h ⟨a, ha⟩ ⟨b, hb⟩

/-- Row numbers compare as their words do. -/
theorem row_sle (a b : Fin 256) : (IntOp.cmpi CmpIPredicate.sle (BitVec.ofNat 32 a.val) (BitVec.ofNat 32 b.val) = 1#1) ↔ a.val ≤ b.val := by
  revert a b
  decide +kernel

/-- Conjunction of truth values. -/
theorem and_one : ∀ a b : BitVec 1, (a &&& b = 1#1) ↔ (a = 1#1 ∧ b = 1#1) := by decide

/-- A truth value that is not one is zero. -/
theorem eq_zero_of_ne_one {a : BitVec 1} (h : a ≠ 1#1) : a = 0#1 := by
  revert a
  decide

/-- A choice is the first when its condition holds, the second otherwise. -/
theorem select_eq {α : Type} {m : BitVec 1} {p : Prop} [Decidable p] (h : m = 1#1 ↔ p) (x y : α) :
    Scalar.select m x y = if p then x else y := by
  by_cases hm : m = 1#1
  · rw [if_pos (h.1 hm), hm]; rfl
  · rw [if_neg fun hp => hm (h.2 hp), eq_zero_of_ne_one hm]; rfl

/-- The same chunk. -/
theorem sameM_iff (r c : Fin 256) : sameM (ix2 r c) = 1#1 ↔ r.val / 32 = c.val / 32 := by
  have h := chunk_eq (r.val / 32) (c.val / 32) (by omega) (by omega)
  rw [← h, ← rowChunk r c, ← colChunk r c]
  exact Iff.rfl

/-- The same chunk, and the column not after the row. -/
theorem causM_iff (r c : Fin 256) : causM (ix2 r c) = 1#1 ↔ (r.val / 32 = c.val / 32 ∧ c.val ≤ r.val) := by
  have e : causM (ix2 r c) = sameM (ix2 r c) &&& IntOp.cmpi CmpIPredicate.sle (colsI (ix2 r c)) (rowsI (ix2 r c)) := rfl
  have hc : colsI (ix2 r c) = BitVec.ofNat 32 c.val := by pointwise [colsI]
  have hr : rowsI (ix2 r c) = BitVec.ofNat 32 r.val := by pointwise [rowsI]
  rw [e, and_one, sameM_iff, hc, hr, row_sle]

/-- The column in a block's first chunk and the row in its second. -/
theorem prevM_iff (r c : Fin 256) : prevM (ix2 r c) = 1#1 ↔ (r.val / 32 = c.val / 32 + 1 ∧ r.val / 32 % 2 = 1) := by
  have hr := rowChunk r c
  have hc := colChunk r c
  unfold prevM k0_pay37
  generalize k0_pay34 colsI 32#32 k0_pay32 k0_pay33 1#32 0#1 = y at hc ⊢
  generalize k0_pay31 = x at hr ⊢
  pointwise
  rw [hr, hc]
  obtain ⟨a, ha⟩ : ∃ a : Fin 8, a.val = r.val / 32 := ⟨⟨r.val / 32, by omega⟩, rfl⟩
  obtain ⟨b, hb⟩ : ∃ b : Fin 8, b.val = c.val / 32 := ⟨⟨c.val / 32, by omega⟩, rfl⟩
  rw [← ha, ← hb]
  revert a b
  intro a _ b _
  clear * -
  revert a b
  decide +kernel

/-- The row in a block's second chunk. -/
theorem oddM_iff (r : Fin 256) (d : Fin 128) : oddM (ix2 r d) = 1#1 ↔ r.val / 32 % 2 = 1 := by
  pointwise [oddM, k0_pay40]
  revert r
  decide +kernel

/-- The weights of the running sums. -/
theorem tri_apply (r c : Fin 256) : tri (ix2 r c) = if r.val / 32 = c.val / 32 ∧ c.val ≤ r.val then 1 else 0 := by
  have e : tri (ix2 r c) = Scalar.select (causM (ix2 r c)) 1 0 := by
    unfold tri k0_pay38
    pointwise
    rfl
  rw [e]
  by_cases h : causM (ix2 r c) = 1#1
  · rw [h, if_pos ((causM_iff r c).1 h)]; rfl
  · rw [eq_zero_of_ne_one h, if_neg fun hh => h ((causM_iff r c).2 hh)]; rfl

/-- The weights of the chunks' sums. -/
theorem lastM_apply (r c : Fin 256) : lastM (ix2 r c) = if r.val / 32 = c.val / 32 then 1 else 0 := by
  have e : lastM (ix2 r c) = Scalar.select (sameM (ix2 r c)) 1 0 := by
    unfold lastM k0_pay39
    pointwise
    rfl
  rw [e]
  by_cases h : sameM (ix2 r c) = 1#1
  · rw [h, if_pos ((sameM_iff r c).1 h)]; rfl
  · rw [eq_zero_of_ne_one h, if_neg fun hh => h ((sameM_iff r c).2 hh)]; rfl

end Cert.Hgrn

end
-- ==== Proof.Hgrn.Chunks.lean ====
/-
  A tile of a head on real numbers: the running sums inside its chunks, the products inside its blocks, what its blocks
  read from the state, and the state after each of them.
-/
module

public import proofs.«01_k».proof.Proof.Hgrn.Masks

@[expose] public section

set_option maxRecDepth 16384

noncomputable section

open Idealize.ShloMosaic
open Cert.Kernel5Ideal Cert.Kernel5Ideal.Gen

namespace Cert.Hgrn

/-- A finite sum of reals, among the extended reals. -/
theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- A number's place is a real number, or minus infinity when `e` holds. -/
def Lg (e : Prop) (x : EReal) (r : ℝ) : Prop := (¬e → x = r) ∧ (e → x = ⊥)

/-- A number's place is a real number, or zero when `e` holds. -/
def Zr (e : Prop) (x : EReal) (r : ℝ) : Prop := (¬e → x = r) ∧ (e → x = 0)

theorem Lg.exp {e : Prop} {x : EReal} {r : ℝ} (h : Lg e x r) : Zr e (Ideal.exp x) (Real.exp r) :=
  ⟨fun n => by rw [h.1 n, Ideal.exp_coe], fun n => by rw [h.2 n]; rfl⟩

theorem Zr.coe_mul {e : Prop} {x : EReal} {r : ℝ} (h : Zr e x r) (a : ℝ) : Zr e (a * x) (a * r) :=
  ⟨fun n => by rw [h.1 n, EReal.coe_mul], fun n => by rw [h.2 n, mul_zero]⟩

/-- A sum with a term of minus infinity. -/
theorem sum_bot {f : Fin 256 → EReal} (r : Fin 256) (h : f r = ⊥) (y : EReal) : ∑ x, f x + y = ⊥ := by
  rw [← Finset.add_sum_erase _ _ (Finset.mem_univ r), h, EReal.bot_add, EReal.bot_add]

/-- A sum of differences. -/
theorem sum_steps (p ℓ : ℕ → ℝ) (hp : ∀ m, p (m + 1) = p m + ℓ m) {a b : ℕ} (h : a ≤ b) :
    ∑ i ∈ Finset.Ico a b, ℓ i = p b - p a := by
  induction b, h using Nat.le_induction with
  | base => simp
  | succ n hn ih => rw [Finset.sum_Ico_succ_top hn, ih, hp]; ring

/-- A sum over a tile's rows under a condition that names an interval. -/
theorem sum_interval (f : ℕ → ℝ) (a b : ℕ) (hb : b ≤ 256) (c : ℕ → Prop) [DecidablePred c]
    (hc : ∀ x, x < 256 → (c x ↔ a ≤ x ∧ x < b)) :
    ∑ x : Fin 256, (if c x.val then f x.val else 0) = ∑ x ∈ Finset.Ico a b, f x := by
  rw [Fin.sum_univ_eq_sum_range (fun x => if c x then f x else 0), ← Finset.sum_filter]
  congr 1
  ext x
  rw [Finset.mem_filter, Finset.mem_range, Finset.mem_Ico]
  constructor
  · rintro ⟨h1, h2⟩
    exact (hc x h1).1 h2
  · rintro ⟨h1, h2⟩
    have h3 : x < 256 := by omega
    exact ⟨h3, (hc x h3).2 ⟨h1, h2⟩⟩

section

variable (lf : Vec Ideal S1x256x512 .f32) (ℓ p : ℕ → ℕ → ℝ) {E : Fin 512 → Prop}
  (hlf : ∀ (r : Fin 256) (d : Fin 512), Lg (E d) (lf (ix3 0 r d)) (ℓ r.val d.val))
  (hp : ∀ m d, p (m + 1) d = p m d + ℓ m d)

include hlf hp

/-- The running sums inside the chunks. -/
theorem bAll_apply (r : Fin 256) (d : Fin 512) :
    Lg (E d) (bAll lf (ix2 r d)) (p (r.val + 1) d.val - p (32 * (r.val / 32)) d.val) := by
  have e : bAll lf (ix2 r d) = ∑ x, tri (ix2 r x) * lf (ix3 0 x d) + ∑ x, tri (ix2 r x) * (lf (ix3 0 x d) - lf (ix3 0 x d)) := by
    unfold bAll k0_pay44
    pointwise [k0_pay42, k0_pay43, k0_pay41]
  refine ⟨fun n => ?_, fun n => by rw [e]; exact sum_bot r (by rw [tri_apply, if_pos ⟨rfl, le_rfl⟩, (hlf r d).2 n, one_mul]) _⟩
  rw [e, ← sum_steps (fun m => p m d.val) (fun m => ℓ m d.val) (fun m => hp m d.val) (show 32 * (r.val / 32) ≤ r.val + 1 by omega),
    ← sum_interval (fun m => ℓ m d.val) _ _ (by omega) (fun x => r.val / 32 = x / 32 ∧ x ≤ r.val) (fun x _ => by omega), coe_sum]
  have h2 : ∀ x : Fin 256, tri (ix2 r x) * (lf (ix3 0 x d) - lf (ix3 0 x d)) = 0 := fun x => by
    rw [(hlf x d).1 n, ← EReal.coe_sub, sub_self, EReal.coe_zero, mul_zero]
  rw [Finset.sum_congr rfl fun x _ => h2 x, Finset.sum_const_zero, add_zero]
  refine Finset.sum_congr rfl fun x _ => ?_
  rw [tri_apply, (hlf x d).1 n]
  split_ifs
  · rw [one_mul]
  · rw [zero_mul, EReal.coe_zero]

/-- The chunks' sums. -/
theorem tAll_apply (r : Fin 256) (d : Fin 512) :
    Lg (E d) (tAll lf (ix2 r d)) (p (32 * (r.val / 32) + 32) d.val - p (32 * (r.val / 32)) d.val) := by
  have e : tAll lf (ix2 r d) = ∑ x, lastM (ix2 r x) * lf (ix3 0 x d) + ∑ x, lastM (ix2 r x) * (lf (ix3 0 x d) - lf (ix3 0 x d)) := by
    unfold tAll k0_pay45
    pointwise [k0_pay42, k0_pay43, k0_pay41]
  refine ⟨fun n => ?_, fun n => by rw [e]; exact sum_bot r (by rw [lastM_apply, if_pos rfl, (hlf r d).2 n, one_mul]) _⟩
  rw [e, ← sum_steps (fun m => p m d.val) (fun m => ℓ m d.val) (fun m => hp m d.val) (show 32 * (r.val / 32) ≤ 32 * (r.val / 32) + 32 by omega),
    ← sum_interval (fun m => ℓ m d.val) _ _ (by omega) (fun x => r.val / 32 = x / 32) (fun x _ => by omega), coe_sum]
  have h2 : ∀ x : Fin 256, lastM (ix2 r x) * (lf (ix3 0 x d) - lf (ix3 0 x d)) = 0 := fun x => by
    rw [(hlf x d).1 n, ← EReal.coe_sub, sub_self, EReal.coe_zero, mul_zero]
  rw [Finset.sum_congr rfl fun x _ => h2 x, Finset.sum_const_zero, add_zero]
  refine Finset.sum_congr rfl fun x _ => ?_
  rw [lastM_apply, (hlf x d).1 n]
  split_ifs
  · rw [one_mul]
  · rw [zero_mul, EReal.coe_zero]

end

section

variable (b t : FVec Ideal S256x128 .f32) (q k v : Vec Ideal S1x256x128 .bf16) (st : FVec Ideal S128x128 .f32)
  (p Q K V : ℕ → ℕ → ℝ) (S : ℕ → ℕ → ℕ → ℝ) {E : Fin 128 → Prop}

/-- The product of a query and a key, decayed over the rows between. -/
def pairW (r c : ℕ) : ℝ := ∑ x ∈ Finset.range 128, Q r x * K c x * Real.exp (p (r + 1) x - p (c + 1) x)

/-- What a row reads inside its block. -/
def innerW (r j : ℕ) : ℝ := ∑ c ∈ Finset.Ico (64 * (r / 64)) (r + 1), pairW p Q K r c * V c j

/-- What a row reads from the state before its block. -/
def interW (r j : ℕ) : ℝ :=
  ∑ x ∈ Finset.range 128, Q r x * Real.exp (p (r + 1) x - p (64 * (r / 64)) x) * S (64 * (r / 64)) j x

variable
  (hb : ∀ (r : Fin 256) (d : Fin 128), Lg (E d) (b (ix2 r d)) (p (r.val + 1) d.val - p (32 * (r.val / 32)) d.val))
  (ht : ∀ (r : Fin 256) (d : Fin 128), Lg (E d) (t (ix2 r d)) (p (32 * (r.val / 32) + 32) d.val - p (32 * (r.val / 32)) d.val))
  (hq : ∀ (r : Fin 256) (d : Fin 128), q (ix3 0 r d) = ((Q r.val d.val : ℝ) : EReal))
  (hk : ∀ (r : Fin 256) (d : Fin 128), ¬E d → k (ix3 0 r d) = ((K r.val d.val : ℝ) : EReal))
  (hK : ∀ n (d : Fin 128), E d → K n d.val = 0) (hS0 : ∀ n j (d : Fin 128), E d → S n j d.val = 0)
  (hv : ∀ (r : Fin 256) (d : Fin 128), v (ix3 0 r d) = ((V r.val d.val : ℝ) : EReal))

include hb hq in
theorem qDec_apply (r : Fin 256) (d : Fin 128) :
    Zr (E d) (qDec b q (ix2 r d)) (Q r.val d.val * Real.exp (p (r.val + 1) d.val - p (32 * (r.val / 32)) d.val)) := by
  have e : qDec b q (ix2 r d) = q (ix3 0 r d) * Ideal.exp (b (ix2 r d)) := by
    unfold qDec
    pointwise
  rw [e, hq]
  exact (hb r d).exp.coe_mul _

include hb ht hk in
theorem kEnd_apply (r : Fin 256) (d : Fin 128) :
    Zr (E d) (kEnd b t k (ix2 r d)) (K r.val d.val * Real.exp (p (32 * (r.val / 32) + 32) d.val - p (r.val + 1) d.val)) := by
  have e : kEnd b t k (ix2 r d) = k (ix3 0 r d) * Ideal.exp (t (ix2 r d) - b (ix2 r d)) := by
    unfold kEnd keys
    pointwise
  refine ⟨fun n => ?_, fun n => by rw [e, (ht r d).2 n, (hb r d).2 n, sub_eq_add_neg, EReal.bot_add]; exact mul_zero _⟩
  rw [e, (hb r d).1 n, hk r d n, (ht r d).1 n, ← EReal.coe_sub, Ideal.exp_coe, EReal.coe_mul]
  congr 3
  ring

include hb hk in
theorem kInv_apply (r : Fin 256) (d : Fin 128) (n : ¬E d) :
    kInv b k (ix2 r d) = ((K r.val d.val * Real.exp (p (32 * (r.val / 32)) d.val - p (r.val + 1) d.val) : ℝ) : EReal) := by
  unfold kInv keys
  pointwise
  rw [(hb r d).1 n, hk r d n, ← EReal.coe_zero, ← EReal.coe_sub, Ideal.exp_coe, EReal.coe_mul]
  congr 3
  ring

include ht in
/-- A decay of a chunk. -/
theorem exp_t (r : Fin 256) (d : Fin 128) :
    Zr (E d) (Ideal.exp (t (ix2 r d))) (Real.exp (p (32 * (r.val / 32) + 32) d.val - p (32 * (r.val / 32)) d.val)) := by
  exact (ht r d).exp

include hb ht hq in
/-- The queries, decayed from their block's start. -/
theorem qBlk_apply (r : Fin 256) (d : Fin 128) :
    Zr (E d) (qBlk b t q (ix2 r d)) (Q r.val d.val * Real.exp (p (r.val + 1) d.val - p (64 * (r.val / 64)) d.val)) := by
  refine ⟨fun n => ?_, fun n => ?_⟩ <;> unfold qBlk decPrev <;> pointwise <;> rw [select_eq (oddM_iff r d)]
  on_goal 2 => rw [(qDec_apply b q p Q hb hq r d).2 n, zero_mul, ite_self]
  rw [(qDec_apply b q p Q hb hq r d).1 n, (exp_t t p ht _ d).1 n]
  split_ifs with h
  · rw [← EReal.coe_mul, mul_assoc, ← Real.exp_add]
    have e1 : 64 * (r.val / 64) + 32 = 32 * (r.val / 32) := by omega
    have e2 : 32 * ((r.val + 256 - 32) % 256 / 32) = 64 * (r.val / 64) := by omega
    simp only [e2, e1]
    congr 3
    ring
  · rw [show 32 * (r.val / 32) = 64 * (r.val / 64) by omega]

include hb ht hk in
/-- The keys, decayed to their block's end. -/
theorem kBlk_apply (r : Fin 256) (d : Fin 128) :
    Zr (E d) (kBlk b t k (ix2 r d)) (K r.val d.val * Real.exp (p (64 * (r.val / 64) + 64) d.val - p (r.val + 1) d.val)) := by
  refine ⟨fun n => ?_, fun n => ?_⟩ <;> unfold kBlk decNext <;> pointwise <;> rw [select_eq (oddM_iff r d)]
  on_goal 2 => rw [(kEnd_apply b t k p K hb ht hk r d).2 n, zero_mul, ite_self]
  rw [(kEnd_apply b t k p K hb ht hk r d).1 n, (exp_t t p ht _ d).1 n]
  split_ifs with h
  · rw [show 32 * (r.val / 32) + 32 = 64 * (r.val / 64) + 64 by omega]
  · rw [← EReal.coe_mul, mul_assoc, ← Real.exp_add]
    have e1 : 32 * (r.val / 32) + 32 + 32 = 64 * (r.val / 64) + 64 := by omega
    have e2 : 32 * ((r.val + 256 - 224) % 256 / 32) = 32 * (r.val / 32) + 32 := by omega
    simp only [e2, e1]
    congr 3
    ring

include ht in
/-- The decay of a block, at its first row. -/
theorem decBlk_apply (r : Fin 256) (d : Fin 128) (h : r.val % 64 = 0) :
    Zr (E d) (decBlk t (ix2 r d)) (Real.exp (p (r.val + 64) d.val - p r.val d.val)) := by
  refine ⟨fun n => ?_, fun n => ?_⟩ <;> unfold decBlk decNext <;> pointwise
  on_goal 2 => rw [(exp_t t p ht r d).2 n, zero_mul]
  rw [(exp_t t p ht r d).1 n, (exp_t t p ht _ d).1 n, ← EReal.coe_mul, ← Real.exp_add]
  have e1 : 32 * ((r.val + 256 - 224) % 256 / 32) + 32 = r.val + 64 := by omega
  have e2 : 32 * ((r.val + 256 - 224) % 256 / 32) = r.val + 32 := by omega
  have e3 : 32 * (r.val / 32) = r.val := by omega
  simp only [e1, e2, e3]
  congr 2
  ring

include hb ht hq hk hK hv in
/-- The products inside the blocks. -/
theorem inner_apply (r : Fin 256) (j : Fin 128) : inner b t q k v (ix2 r j) = ((innerW p Q K V r.val j.val : ℝ) : EReal) := by
  unfold inner k0_pay60
  pointwise [k0_pay49]
  unfold innerW
  rw [← sum_interval (fun c => pairW p Q K r.val c * V c j.val) _ _ (by omega) (fun c => r.val / 64 = c / 64 ∧ c ≤ r.val) (fun x _ => by omega),
    coe_sum]
  refine Finset.sum_congr rfl fun c _ => ?_
  rw [select_eq (causM_iff r c), select_eq (prevM_iff r c), hv]
  have s1 : r.val / 32 = c.val / 32 → ∑ x : Fin 128, qDec b q (ix2 r x) * kInv b k (ix2 c x) = ((pairW p Q K r.val c.val : ℝ) : EReal) := fun h => by
    unfold pairW
    rw [← Fin.sum_univ_eq_sum_range (fun x => Q r.val x * K c.val x * Real.exp (p (r.val + 1) x - p (c.val + 1) x)), coe_sum]
    refine Finset.sum_congr rfl fun x _ => ?_
    by_cases n : E x
    · rw [(qDec_apply b q p Q hb hq r x).2 n, zero_mul]
      show (0 : EReal) = ((Q r.val x.val * K c.val x.val * Real.exp (p (r.val + 1) x.val - p (c.val + 1) x.val) : ℝ) : EReal)
      rw [hK _ x n, mul_zero, zero_mul, EReal.coe_zero]
    rw [(qDec_apply b q p Q hb hq r x).1 n, kInv_apply b k p K hb hk c x n, ← EReal.coe_mul, mul_mul_mul_comm, ← Real.exp_add, h]
    congr 3
    ring
  have s2 : r.val / 32 = c.val / 32 + 1 → ∑ x : Fin 128, qDec b q (ix2 r x) * kEnd b t k (ix2 c x) = ((pairW p Q K r.val c.val : ℝ) : EReal) := fun h => by
    unfold pairW
    rw [← Fin.sum_univ_eq_sum_range (fun x => Q r.val x * K c.val x * Real.exp (p (r.val + 1) x - p (c.val + 1) x)), coe_sum]
    refine Finset.sum_congr rfl fun x _ => ?_
    by_cases n : E x
    · rw [(qDec_apply b q p Q hb hq r x).2 n, zero_mul]
      show (0 : EReal) = ((Q r.val x.val * K c.val x.val * Real.exp (p (r.val + 1) x.val - p (c.val + 1) x.val) : ℝ) : EReal)
      rw [hK _ x n, mul_zero, zero_mul, EReal.coe_zero]
    rw [(qDec_apply b q p Q hb hq r x).1 n, (kEnd_apply b t k p K hb ht hk c x).1 n, ← EReal.coe_mul, mul_mul_mul_comm, ← Real.exp_add,
      show 32 * (r.val / 32) = 32 * (c.val / 32) + 32 by omega]
    congr 3
    ring
  by_cases h1 : r.val / 32 = c.val / 32 ∧ c.val ≤ r.val
  · rw [if_pos h1, if_pos ⟨by omega, h1.2⟩, s1 h1.1, EReal.coe_mul]
  · rw [if_neg h1]
    by_cases h2 : r.val / 32 = c.val / 32 + 1 ∧ r.val / 32 % 2 = 1
    · rw [if_pos h2, if_pos ⟨by omega, by omega⟩, s2 h2.1, EReal.coe_mul]
    · rw [if_neg h2, if_neg (by omega), zero_mul, EReal.coe_zero]

include hb ht hq hS0 in
/-- What a block reads from the state before it. -/
theorem inter_apply (B : ℕ) (hB : B % 64 = 0) (ho : S256x128.Slices ![B, 0] S64x128) (hB' : B ≤ 192)
    (hst : ∀ j x : Fin 128, st (ix2 j x) = ((S B j.val x.val : ℝ) : EReal)) (r : Fin 64) (j : Fin 128) :
    inter b t q st ![B, 0] ho (ix2 r j) = ((interW p Q S (B + r.val) j.val : ℝ) : EReal) := by
  unfold inter interW
  pointwise
  rw [← Fin.sum_univ_eq_sum_range (fun x => Q (B + r.val) x * Real.exp (p (B + r.val + 1) x - p (64 * ((B + r.val) / 64)) x) * S (64 * ((B + r.val) / 64)) j.val x), coe_sum]
  refine Finset.sum_congr rfl fun x _ => ?_
  by_cases n : E x
  · rw [(qBlk_apply b t q p Q hb ht hq _ x).2 n, zero_mul, hS0 _ _ x n, mul_zero, EReal.coe_zero]
  rw [(qBlk_apply b t q p Q hb ht hq _ x).1 n, hst, ← EReal.coe_mul]
  have e : 64 * ((B + r.val) / 64) = B := by omega
  simp only [Matrix.cons_val_zero, Matrix.cons_val_one, Matrix.cons_val_fin_one, zero_add, e]

include hb ht hk hv hS0 in
/-- The state after a block. -/
theorem next_apply (B : ℕ) (hB : B % 64 = 0) (ho : S256x128.Slices ![B, 0] S64x128) (ho1 : S256x128.Slices ![B, 0] S1x128) (hB' : B ≤ 192)
    (hst : ∀ j x : Fin 128, st (ix2 j x) = ((S B j.val x.val : ℝ) : EReal))
    (hS : ∀ j x, S (B + 64) j x = S B j x * Real.exp (p (B + 64) x - p B x)
      + ∑ i ∈ Finset.range 64, V (B + i) j * (K (B + i) x * Real.exp (p (B + 64) x - p (B + i + 1) x))) (j x : Fin 128) :
    next b t k v st ![B, 0] ho ho1 (ix2 j x) = ((S (B + 64) j.val x.val : ℝ) : EReal) := by
  unfold next
  pointwise [k0_pay49]
  by_cases n : E x
  · rw [(decBlk_apply t p ht _ x (by simpa using hB)).2 n, mul_zero, zero_add, hS0 _ _ x n, EReal.coe_zero]
    exact Finset.sum_eq_zero fun i _ => by rw [(kBlk_apply b t k p K hb ht hk _ x).2 n, mul_zero]
  rw [hS, EReal.coe_add, ← Fin.sum_univ_eq_sum_range (fun i => V (B + i) j.val * (K (B + i) x.val * Real.exp (p (B + 64) x.val - p (B + i + 1) x.val))), coe_sum,
    hst, (decBlk_apply t p ht _ x (by simpa using hB)).1 n, ← EReal.coe_mul]
  simp only [Matrix.cons_val_zero, Matrix.cons_val_one, Matrix.cons_val_fin_one, zero_add]
  congr 1
  refine Finset.sum_congr rfl fun i _ => ?_
  rw [(kBlk_apply b t k p K hb ht hk _ x).1 n, hv, ← EReal.coe_mul]
  have e : 64 * ((B + i.val) / 64) = B := by omega
  simp only [Matrix.cons_val_zero, Matrix.cons_val_one, Matrix.cons_val_fin_one, zero_add, e]

end

end Cert.Hgrn

end
-- ==== Proof.Hgrn.Spec.lean ====
/-
  The recurrence as sums over the rows before: the state after any number of rows, what a row reads from it, and how both
  split at a block's start.
-/
module

public import proofs.«01_k».proof.Proof.Hgrn.Chunks

@[expose] public section

set_option maxRecDepth 16384

noncomputable section

open Idealize.ShloMosaic
open Cert.Kernel5Ideal Cert.Kernel5Ideal.Gen

namespace Cert.Hgrn

variable (ℓ Q K V : ℕ → ℕ → ℝ) (h : ℕ)

/-- A head's columns of a sequence. -/
def ofHead (f : ℕ → ℕ → ℝ) (h n x : ℕ) : ℝ := f n (128 * h + x)

/-- The running sums of the logarithms. -/
def decay (n x : ℕ) : ℝ := ∑ i ∈ Finset.range n, ofHead ℓ h i x

/-- A head's state after some rows. -/
def stateW (n j x : ℕ) : ℝ :=
  ∑ s ∈ Finset.range n, ofHead V h s j * (ofHead K h s x * Real.exp (decay ℓ h n x - decay ℓ h (s + 1) x))

/-- What a head's row reads from the rows up to it. -/
def outW (n j : ℕ) : ℝ :=
  ∑ s ∈ Finset.range (n + 1), pairW (decay ℓ h) (ofHead Q h) (ofHead K h) n s * ofHead V h s j

theorem decay_succ (n x : ℕ) : decay ℓ h (n + 1) x = decay ℓ h n x + ofHead ℓ h n x := Finset.sum_range_succ _ _

/-- The state after a block. -/
theorem stateW_block (n j x : ℕ) :
    stateW ℓ K V h (n + 64) j x = stateW ℓ K V h n j x * Real.exp (decay ℓ h (n + 64) x - decay ℓ h n x)
      + ∑ i ∈ Finset.range 64, ofHead V h (n + i) j * (ofHead K h (n + i) x * Real.exp (decay ℓ h (n + 64) x - decay ℓ h (n + i + 1) x)) := by
  unfold stateW
  rw [Finset.sum_range_add, Finset.sum_mul]
  congr 1
  refine Finset.sum_congr rfl fun s _ => ?_
  rw [mul_assoc, mul_assoc, ← Real.exp_add]
  congr 3
  ring

/-- What a row reads, split at its block's start. -/
theorem outW_split (N r j : ℕ) :
    innerW (fun m => decay ℓ h (N + m)) (fun m => ofHead Q h (N + m)) (fun m => ofHead K h (N + m)) (fun m => ofHead V h (N + m)) r j
      + interW (fun m => decay ℓ h (N + m)) (fun m => ofHead Q h (N + m)) (fun m => stateW ℓ K V h (N + m)) r j
      = outW ℓ Q K V h (N + r) j := by
  have hB : 64 * (r / 64) ≤ r + 1 := by omega
  generalize hb : 64 * (r / 64) = B at hB
  unfold outW
  rw [← Finset.sum_range_add_sum_Ico _ (show N + B ≤ N + r + 1 by omega), add_comm]
  congr 1
  · unfold interW stateW pairW
    rw [hb]
    simp only [Finset.sum_mul, Finset.mul_sum]
    rw [Finset.sum_comm]
    refine Finset.sum_congr rfl fun s _ => Finset.sum_congr rfl fun x _ => ?_
    rw [show decay ℓ h (N + r + 1) x - decay ℓ h (s + 1) x
      = (decay ℓ h (N + (r + 1)) x - decay ℓ h (N + B) x) + (decay ℓ h (N + B) x - decay ℓ h (s + 1) x) by rw [← add_assoc]; ring, Real.exp_add]
    ring
  · unfold innerW
    rw [hb, show N + r + 1 = r + 1 + N by omega, show N + B = B + N by omega,
      ← Finset.sum_Ico_add (fun s => pairW (decay ℓ h) (ofHead Q h) (ofHead K h) (N + r) s * ofHead V h s j) B (r + 1) N]
    rfl

end Cert.Hgrn

end
-- ==== Proof.Hgrn.Head.lean ====
/-
  What a head of a tile of 256 rows stores: its rows of the recurrence, normalised and gated, and its state.
-/
module

public import proofs.«01_k».proof.Proof.Hgrn.Spec

@[expose] public section

set_option maxRecDepth 16384

noncomputable section

open Idealize.ShloMosaic
open Cert.Kernel5Ideal Cert.Kernel5Ideal.Gen

namespace Cert.Hgrn

/-- A head's column among the four heads'. -/
def headCol {h : ℕ} (hh : h < 4) (d : Fin 128) : Fin 512 := ⟨128 * h + d.val, by omega⟩

/-- A row of a head over its root mean square, times a weight and a gate. -/
def normed (O : Fin 128 → EReal) (j : Fin 128) (g z : EReal) : EReal :=
  O j * Ideal.rsqrt (Ideal.div (∑ x, O x * O x) (Ideal.ofBits FTy.f32 1124073472#32) + Ideal.ofBits FTy.f32 897988541#32) * g * z

/-- The sum of the products inside the blocks and of what the four blocks read from the state, normalised and gated. -/
theorem pay72_apply (a : FVec Ideal S256x128 .f32) (b c d e : FVec Ideal S64x128 .f32) (g : Vec Ideal S1x128 .f32)
    (z : Vec Ideal S1x256x128 .bf16) (O : ℕ → Fin 128 → EReal)
    (h0 : ∀ (r : Fin 64) i, a (ix2 ⟨0 + r.val, by omega⟩ i) + b (ix2 r i) = O (0 + r.val) i)
    (h1 : ∀ (r : Fin 64) i, a (ix2 ⟨64 + r.val, by omega⟩ i) + c (ix2 r i) = O (64 + r.val) i)
    (h2 : ∀ (r : Fin 64) i, a (ix2 ⟨128 + r.val, by omega⟩ i) + d (ix2 r i) = O (128 + r.val) i)
    (h3 : ∀ (r : Fin 64) i, a (ix2 ⟨192 + r.val, by omega⟩ i) + e (ix2 r i) = O (192 + r.val) i) (r : Fin 256) (i : Fin 128) :
    k0_pay72 (F := Ideal) a b c d e g z (ix3 0 r i) = normed (O r.val) i (g (ix2 0 i)) (z (ix3 0 r i)) := by
  unfold k0_pay72 normed
  pointwise
  have key : ∀ x : Fin 128, (a (ix2 r x) +
      if h : r.val < 64 then b (ix2 ⟨r.val, h⟩ x)
      else if h : r.val - 64 < 64 then c (ix2 ⟨r.val - 64, h⟩ x)
      else if h : r.val - 64 - 64 < 64 then d (ix2 ⟨r.val - 64 - 64, h⟩ x)
      else e (ix2 ⟨r.val - 64 - 64 - 64, by omega⟩ x)) = O r.val x := by
    intro x
    split_ifs with q0 q1 q2
    · have := h0 ⟨r.val, q0⟩ x
      simpa only [zero_add] using this
    · have := h1 ⟨r.val - 64, q1⟩ x
      have e1 : 64 + (r.val - 64) = r.val := by omega
      simpa only [e1] using this
    · have := h2 ⟨r.val - 64 - 64, q2⟩ x
      have e1 : 128 + (r.val - 64 - 64) = r.val := by omega
      simpa only [e1] using this
    · have := h3 ⟨r.val - 64 - 64 - 64, by omega⟩ x
      have e1 : 192 + (r.val - 64 - 64 - 64) = r.val := by omega
      simpa only [e1] using this
  simp only [key]

section

variable (lf : Vec Ideal S1x256x512 .f32) (q k v z : Vec Ideal S1x256x128 .bf16) (g : Vec Ideal S1x128 .f32) (st : Vec Ideal S1x128x128 .f32)
  (ℓ Q K V : ℕ → ℕ → ℝ) (h N : ℕ) (hh : h < 4) (o : S256x512.Slices ![0, 128 * h] S256x128)
  {E : Fin 512 → Prop}
  (hlf : ∀ (r : Fin 256) (d : Fin 512), Lg (E d) (lf (ix3 0 r d)) (ℓ (N + r.val) d.val)) (hK : ∀ n (d : Fin 512), E d → K n d.val = 0)
  (hq : ∀ (r : Fin 256) (d : Fin 128), q (ix3 0 r d) = ((ofHead Q h (N + r.val) d.val : ℝ) : EReal))
  (hk : ∀ (r : Fin 256) (d : Fin 128), ¬E (headCol hh d) → k (ix3 0 r d) = ((ofHead K h (N + r.val) d.val : ℝ) : EReal))
  (hv : ∀ (r : Fin 256) (d : Fin 128), v (ix3 0 r d) = ((ofHead V h (N + r.val) d.val : ℝ) : EReal))
  (hst : ∀ j x : Fin 128, st (ix3 0 j x) = ((stateW ℓ K V h N j.val x.val : ℝ) : EReal))

include hlf hh in
theorem cut_b (r : Fin 256) (d : Fin 128) :
    Lg (E (headCol hh d)) (cut ![0, 128 * h] o (bAll lf) (ix2 r d)) (decay ℓ h (N + (r.val + 1)) d.val - decay ℓ h (N + 32 * (r.val / 32)) d.val) := by
  have := bAll_apply lf (fun m d => ℓ (N + m) d) (fun m d => ∑ i ∈ Finset.range (N + m), ℓ i d) hlf
    (fun m d => Finset.sum_range_succ _ _) r ⟨128 * h + d.val, by omega⟩
  have e : cut ![0, 128 * h] o (bAll lf) (ix2 r d) = bAll lf (ix2 r ⟨128 * h + d.val, by omega⟩) := by
    unfold cut
    pointwise
  rw [e]
  exact this

include hlf hh in
theorem cut_t (r : Fin 256) (d : Fin 128) :
    Lg (E (headCol hh d)) (cut ![0, 128 * h] o (tAll lf) (ix2 r d)) (decay ℓ h (N + (32 * (r.val / 32) + 32)) d.val - decay ℓ h (N + 32 * (r.val / 32)) d.val) := by
  have := tAll_apply lf (fun m d => ℓ (N + m) d) (fun m d => ∑ i ∈ Finset.range (N + m), ℓ i d) hlf
    (fun m d => Finset.sum_range_succ _ _) r ⟨128 * h + d.val, by omega⟩
  have e : cut ![0, 128 * h] o (tAll lf) (ix2 r d) = tAll lf (ix2 r ⟨128 * h + d.val, by omega⟩) := by
    unfold cut
    pointwise
  rw [e]
  exact this

/-- The recurrence's step, from any row on. -/
theorem step (B j x : ℕ) :
    (fun m => stateW ℓ K V h (N + m)) (B + 64) j x
      = (fun m => stateW ℓ K V h (N + m)) B j x * Real.exp ((fun m => decay ℓ h (N + m)) (B + 64) x - (fun m => decay ℓ h (N + m)) B x)
      + ∑ i ∈ Finset.range 64, (fun m => ofHead V h (N + m)) (B + i) j * ((fun m => ofHead K h (N + m)) (B + i) x
        * Real.exp ((fun m => decay ℓ h (N + m)) (B + 64) x - (fun m => decay ℓ h (N + m)) (B + i + 1) x)) :=
  stateW_block ℓ K V h (N + B) j x

include hK hh in
/-- A place whose keys are zero holds no state. -/
theorem state_zero (n j : ℕ) (d : Fin 128) (e : E (headCol hh d)) : stateW ℓ K V h n j d.val = 0 :=
  Finset.sum_eq_zero fun s _ => by rw [show ofHead K h s d.val = 0 from hK s _ e, zero_mul, mul_zero]

include hst in
theorem pay61_apply (j x : Fin 128) : k0_pay61 st (ix2 j x) = ((stateW ℓ K V h (N + 0) j.val x.val : ℝ) : EReal) := by
  unfold k0_pay61
  pointwise
  exact hst j x

include hlf hK hh hk hv hst

theorem st1_apply (j x : Fin 128) :
    st1 (cut ![0, 128 * h] o (bAll lf)) (cut ![0, 128 * h] o (tAll lf)) k v (k0_pay61 st) (ix2 j x) = ((stateW ℓ K V h (N + 64) j.val x.val : ℝ) : EReal) :=
  next_apply _ _ k v _ (fun m => decay ℓ h (N + m)) (fun m => ofHead K h (N + m)) (fun m => ofHead V h (N + m)) (fun m => stateW ℓ K V h (N + m))
    (cut_b lf ℓ h N hh o hlf) (cut_t lf ℓ h N hh o hlf) hk (fun n => state_zero ℓ K V h hh hK (N + n)) hv 0 (by omega) _ _ (by omega)
    (pay61_apply st ℓ K V h N hst) (fun j x => step ℓ K V h N 0 j x) j x

theorem st2_apply (j x : Fin 128) :
    st2 (cut ![0, 128 * h] o (bAll lf)) (cut ![0, 128 * h] o (tAll lf)) k v (k0_pay61 st) (ix2 j x) = ((stateW ℓ K V h (N + 128) j.val x.val : ℝ) : EReal) :=
  next_apply _ _ k v _ (fun m => decay ℓ h (N + m)) (fun m => ofHead K h (N + m)) (fun m => ofHead V h (N + m)) (fun m => stateW ℓ K V h (N + m))
    (cut_b lf ℓ h N hh o hlf) (cut_t lf ℓ h N hh o hlf) hk (fun n => state_zero ℓ K V h hh hK (N + n)) hv 64 (by omega) _ _ (by omega)
    (st1_apply lf k v st ℓ K V h N hh o hlf hK hk hv hst) (fun j x => step ℓ K V h N 64 j x) j x

theorem st3_apply (j x : Fin 128) :
    st3 (cut ![0, 128 * h] o (bAll lf)) (cut ![0, 128 * h] o (tAll lf)) k v (k0_pay61 st) (ix2 j x) = ((stateW ℓ K V h (N + 192) j.val x.val : ℝ) : EReal) :=
  next_apply _ _ k v _ (fun m => decay ℓ h (N + m)) (fun m => ofHead K h (N + m)) (fun m => ofHead V h (N + m)) (fun m => stateW ℓ K V h (N + m))
    (cut_b lf ℓ h N hh o hlf) (cut_t lf ℓ h N hh o hlf) hk (fun n => state_zero ℓ K V h hh hK (N + n)) hv 128 (by omega) _ _ (by omega)
    (st2_apply lf k v st ℓ K V h N hh o hlf hK hk hv hst) (fun j x => step ℓ K V h N 128 j x) j x

/-- The state a head stores. -/
theorem headState_apply (j x : Fin 128) :
    headState (cut ![0, 128 * h] o (bAll lf)) (cut ![0, 128 * h] o (tAll lf)) k v st (ix3 0 j x) = ((stateW ℓ K V h (N + 256) j.val x.val : ℝ) : EReal) := by
  unfold headState
  pointwise
  exact next_apply _ _ k v _ (fun m => decay ℓ h (N + m)) (fun m => ofHead K h (N + m)) (fun m => ofHead V h (N + m)) (fun m => stateW ℓ K V h (N + m))
    (cut_b lf ℓ h N hh o hlf) (cut_t lf ℓ h N hh o hlf) hk (fun n => state_zero ℓ K V h hh hK (N + n)) hv 192 (by omega) _ _ (by omega)
    (st3_apply lf k v st ℓ K V h N hh o hlf hK hk hv hst) (fun j x => step ℓ K V h N 192 j x) j x

include hq

/-- The rows a head stores. -/
theorem headOut_apply (r : Fin 256) (j : Fin 128) :
    headOut (cut ![0, 128 * h] o (bAll lf)) (cut ![0, 128 * h] o (tAll lf)) q k v z g st (ix3 0 r j)
      = normed (fun x => ((outW ℓ Q K V h (N + r.val) x.val : ℝ) : EReal)) j (g (ix2 0 j)) (z (ix3 0 r j)) := by
  have hb := cut_b lf ℓ h N hh o hlf
  have ht := cut_t lf ℓ h N hh o hlf
  have hi := inner_apply _ _ q k v (fun m => decay ℓ h (N + m)) (fun m => ofHead Q h (N + m)) (fun m => ofHead K h (N + m))
    (fun m => ofHead V h (N + m)) hb ht hq hk (fun n d e => hK (N + n) _ e) hv
  have hx := fun s B hB ho hB' hs => inter_apply _ _ q s (fun m => decay ℓ h (N + m)) (fun m => ofHead Q h (N + m))
    (fun m => stateW ℓ K V h (N + m)) hb ht hq (fun n => state_zero ℓ K V h hh hK (N + n)) B hB ho hB' hs
  unfold headOut
  refine pay72_apply _ _ _ _ _ g z (fun r x => ((outW ℓ Q K V h (N + r) x.val : ℝ) : EReal)) ?_ ?_ ?_ ?_ r j
  · intro r i
    rw [hi, hx _ 0 (by omega) _ (by omega) (pay61_apply st ℓ K V h N hst), ← EReal.coe_add, ← outW_split]
  · intro r i
    rw [hi, hx _ 64 (by omega) _ (by omega) (st1_apply lf k v st ℓ K V h N hh o hlf hK hk hv hst), ← EReal.coe_add, ← outW_split]
  · intro r i
    rw [hi, hx _ 128 (by omega) _ (by omega) (st2_apply lf k v st ℓ K V h N hh o hlf hK hk hv hst), ← EReal.coe_add, ← outW_split]
  · intro r i
    rw [hi, hx _ 192 (by omega) _ (by omega) (st3_apply lf k v st ℓ K V h N hh o hlf hK hk hv hst), ← EReal.coe_add, ← outW_split]

end

end Cert.Hgrn

end
-- ==== Proof.Hgrn.State.lean ====
/-
  The buffer of the four heads' states, while a tile of 1024 rows writes one head's state after another.
-/
module

public import proofs.«01_k».proof.Proof.Hgrn.Payloads
public import proofs.«01_k».proof.Proof.Hgrn.Head

@[expose] public section

set_option maxRecDepth 16384

noncomputable section

open Idealize.ShloMosaic
open Cert.Kernel5Ideal Cert.Kernel5Ideal.Gen
open Cert.Inproj (dot half siluT sigmoidT)

namespace Cert.Hgrn

/-- A row of the tokens times a column of the weights. -/
def prod (x0 : Vec Ideal S1x1024x1024 .f32) (w : Vec Ideal S1024x3584 .bf16) (r : Fin 1024) (d : ℕ) : EReal :=
  dot (fun e => x0 (ix3 0 r e)) (fun e => w (ix2 e ⟨d % 3584, Nat.mod_lt _ (by decide)⟩))

/-- A forget gate. -/
def forget (x0 : Vec Ideal S1x1024x1024 .f32) (w : Vec Ideal S1024x3584 .bf16) (b : Vec Ideal S1x512 .f32) (r : Fin 1024) (d : Fin 512) : EReal :=
  b (ix2 0 d) + (1 - b (ix2 0 d)) * sigmoidT (prod x0 w r (512 + d.val))

/-- The tile's queries, logarithms of the forget gates, keys and values are the real sequences' from row `N` on. -/
structure Tile (x0 : Vec Ideal S1x1024x1024 .f32) (w : Vec Ideal S1024x3584 .bf16) (b : Vec Ideal S1x512 .f32)
    (ℓ Q K V : ℕ → ℕ → ℝ) (N : ℕ) : Prop where
  q : ∀ (r : Fin 1024) (d : Fin 512), prod x0 w r d.val = ((Q (N + r.val) d.val : ℝ) : EReal)
  l : ∀ (r : Fin 1024) (d : Fin 512), Lg (b (ix2 0 d) = ⊤) (Ideal.log (forget x0 w b r d)) (ℓ (N + r.val) d.val)
  z : ∀ n (d : Fin 512), b (ix2 0 d) = ⊤ → K n d.val = 0
  k : ∀ (r : Fin 1024) (d : Fin 512), ¬b (ix2 0 d) = ⊤ → 1 - forget x0 w b r d = ((K (N + r.val) d.val : ℝ) : EReal)
  v : ∀ (r : Fin 1024) (d : Fin 512), prod x0 w r (1024 + d.val) = ((V (N + r.val) d.val : ℝ) : EReal)

/-- A product of loaded values, 512 columns at a time. -/
theorem prod_512 {m : Memref sig .tc .vmem S1024x3584 .bf16} (h : m.IsWhole) {v : FVec Ideal S1024x1024 .bf16} {x0 : Vec Ideal S1x1024x1024 .f32}
    (hv : ∀ r e : Fin 1024, v (ix2 r e) = (show EReal from x0 (ix3 0 r e))) (w : Vec Ideal S1024x3584 .bf16) {c0 : ℕ}
    (inb : ∀ a, (![0, c0] : Fin 2 → ℕ) a + S1024x512.size a ≤ S1024x3584.size a) (r : Fin 1024) (d : Fin 512) (hd : c0 + d.val < 3584) :
    dot (fun e => v (ix2 r e)) (fun e => View.readAt (Elt Ideal) m.view (Rect.unit (s := S1024x3584) ![0, c0] S1024x512.size inb).toLoadRect (h.unread w) (ix2 e d))
      = prod x0 w r (c0 + d.val) := by
  refine congrArg₂ dot (funext fun e => hv r e) (funext fun e => (load_w512 h w inb e d hd).trans ?_)
  simp only [Nat.mod_eq_of_lt hd]

/-- A product of loaded values, 256 columns at a time. -/
theorem prod_256 {m : Memref sig .tc .vmem S1024x3584 .bf16} (h : m.IsWhole) {v : FVec Ideal S1024x1024 .bf16} {x0 : Vec Ideal S1x1024x1024 .f32}
    (hv : ∀ r e : Fin 1024, v (ix2 r e) = (show EReal from x0 (ix3 0 r e))) (w : Vec Ideal S1024x3584 .bf16) {c0 : ℕ}
    (inb : ∀ a, (![0, c0] : Fin 2 → ℕ) a + S1024x256.size a ≤ S1024x3584.size a) (r : Fin 1024) (d : Fin 256) (hd : c0 + d.val < 3584) :
    dot (fun e => v (ix2 r e)) (fun e => View.readAt (Elt Ideal) m.view (Rect.unit (s := S1024x3584) ![0, c0] S1024x256.size inb).toLoadRect (h.unread w) (ix2 e d))
      = prod x0 w r (c0 + d.val) := by
  refine congrArg₂ dot (funext fun e => hv r e) (funext fun e => (load_w256 h w inb e d hd).trans ?_)
  simp only [Nat.mod_eq_of_lt hd]

/-- A row of the tokens times a column of the output gates' weights. -/
def prodB (x0 : Vec Ideal S1x1024x1024 .f32) (w : Vec Ideal S1024x512 .bf16) (r : Fin 1024) (d : ℕ) : EReal :=
  dot (fun e => x0 (ix3 0 r e)) (fun e => w (ix2 e ⟨d % 512, Nat.mod_lt _ (by decide)⟩))

/-- A product of loaded values, with the output gates' weights. -/
theorem prodB_256 {m : Memref sig .tc .vmem S1024x512 .bf16} (h : m.IsWhole) {v : FVec Ideal S1024x1024 .bf16} {x0 : Vec Ideal S1x1024x1024 .f32}
    (hv : ∀ r e : Fin 1024, v (ix2 r e) = (show EReal from x0 (ix3 0 r e))) (w : Vec Ideal S1024x512 .bf16) {c0 : ℕ}
    (inb : ∀ a, (![0, c0] : Fin 2 → ℕ) a + S1024x256.size a ≤ S1024x512.size a) (r : Fin 1024) (d : Fin 256) (hd : c0 + d.val < 512) :
    dot (fun e => v (ix2 r e)) (fun e => View.readAt (Elt Ideal) m.view (Rect.unit (s := S1024x512) ![0, c0] S1024x256.size inb).toLoadRect (h.unread w) (ix2 e d))
      = prodB x0 w r (c0 + d.val) := by
  refine congrArg₂ dot (funext fun e => hv r e) (funext fun e => (load_wb256 h w inb e d hd).trans ?_)
  simp only [Nat.mod_eq_of_lt hd]

section
variable (ℓ K V : ℕ → ℕ → ℝ)

/-- Head `h` of the buffer holds its state after `n` rows. -/
def At (L : List (View.Piece (Elt Ideal) S4x128x128 .f32)) (h : Fin 4) (n : ℕ) : Prop :=
  ∀ j x : Fin 128, View.canon L (ix3 h j x) = ((stateW ℓ K V h.val n j.val x.val : ℝ) : EReal)

/-- An array holds the four heads' states after `n` rows. -/
abbrev Held (n : ℕ) (X : Vec Ideal S4x128x128 .f32) : Prop :=
  ∀ (h : Fin 4) (j x : Fin 128), X (ix3 h j x) = ((stateW ℓ K V h.val n j.val x.val : ℝ) : EReal)

variable {ℓ K V}

/-- A head's state is stored. -/
theorem at_store {h' : ℕ} (h : Fin 4) (e : h' = h.val) {n : ℕ} {inb : ∀ a, (![h', 0, 0] : Fin 3 → ℕ) a + S1x128x128.size a ≤ S4x128x128.size a}
    {p : Vec Ideal S1x128x128 .f32} {L : List (View.Piece (Elt Ideal) S4x128x128 .f32)}
    (hp : ∀ j x : Fin 128, p (ix3 0 j x) = ((stateW ℓ K V h.val n j.val x.val : ℝ) : EReal)) :
    At ℓ K V (⟨Rect.unit ![h', 0, 0] S1x128x128.size inb, p⟩ :: L) h n := fun j x => by
  subst e
  rw [← hp, ← View.canon_cons_emb (Rect.unit (s := S4x128x128) ![h.val, 0, 0] S1x128x128.size inb) p L (ix3 0 j x)]
  refine congrArg _ (funext fun a => Fin.ext ?_)
  match a with
  | ⟨0, _⟩ => rfl
  | ⟨1, _⟩ => show j.val = 0 + 1 * j.val; omega
  | ⟨2, _⟩ => show x.val = 0 + 1 * x.val; omega

/-- A store of another head's state. -/
theorem at_skip {h' : ℕ} {h : Fin 4} {n : ℕ} {inb : ∀ a, (![h', 0, 0] : Fin 3 → ℕ) a + S1x128x128.size a ≤ S4x128x128.size a}
    {p : Vec Ideal S1x128x128 .f32} {L : List (View.Piece (Elt Ideal) S4x128x128 .f32)} (hne : h.val ≠ h') (H : At ℓ K V L h n) :
    At ℓ K V (⟨Rect.unit ![h', 0, 0] S1x128x128.size inb, p⟩ :: L) h n := fun j x => by
  rw [← H j x]
  refine View.canon_cons_of_not_mem _ L ?_
  rw [Rect.mem_set_unit]
  intro hy
  have e : h' ≤ h.val ∧ h.val < h' + 1 := hy 0
  omega

/-- A load of a head's state. -/
theorem at_load {m : Memref sig .tc .vmem S4x128x128 .f32} {h' : ℕ} (h : Fin 4) (e : h' = h.val) {n : ℕ}
    {inb : ∀ a, (![h', 0, 0] : Fin 3 → ℕ) a + S1x128x128.size a ≤ S4x128x128.size a}
    {L : List (View.Piece (Elt Ideal) S4x128x128 .f32)} (H : At ℓ K V L h n) (j x : Fin 128) :
    m.view.readCov L (Rect.unit (s := S4x128x128) ![h', 0, 0] S1x128x128.size inb).toLoadRect (ix3 0 j x)
      = ((stateW ℓ K V h.val n j.val x.val : ℝ) : EReal) := by
  subst e
  rw [View.readCov_eq_canon', ← H j x]
  refine congrArg _ (funext fun a => Fin.ext ?_)
  match a with
  | ⟨0, _⟩ => rfl
  | ⟨1, _⟩ => show 0 + 1 * j.val = j.val; omega
  | ⟨2, _⟩ => show 0 + 1 * x.val = x.val; omega

/-- A load of a head's state as the tile before left it. -/
theorem at_start {m : Memref sig .tc .vmem S4x128x128 .f32} (hm : m.IsWhole) {X : Vec Ideal S4x128x128 .f32} {h' : ℕ} (h : Fin 4) (e : h' = h.val) {n : ℕ}
    {inb : ∀ a, (![h', 0, 0] : Fin 3 → ℕ) a + S1x128x128.size a ≤ S4x128x128.size a}
    (H : Held ℓ K V n X) (j x : Fin 128) :
    View.readAt (Elt Ideal) m.view (Rect.unit (s := S4x128x128) ![h', 0, 0] S1x128x128.size inb).toLoadRect (hm.unread X) (ix3 0 j x)
      = ((stateW ℓ K V h.val n j.val x.val : ℝ) : EReal) := by
  subst e
  rw [View.readAt_apply, hm.read_unread, ← H h j x]
  refine congrArg _ (funext fun a => Fin.ext ?_)
  match a with
  | ⟨0, _⟩ => rfl
  | ⟨1, _⟩ => show 0 + 1 * j.val = j.val; omega
  | ⟨2, _⟩ => show 0 + 1 * x.val = x.val; omega

/-- All four heads hold their states. -/
theorem at_four {L : List (View.Piece (Elt Ideal) S4x128x128 .f32)} {n : ℕ} (h0 : At ℓ K V L 0 n) (h1 : At ℓ K V L 1 n) (h2 : At ℓ K V L 2 n)
    (h3 : At ℓ K V L 3 n) (h : Fin 4) : At ℓ K V L h n := by
  match h with
  | ⟨0, _⟩ => exact h0
  | ⟨1, _⟩ => exact h1
  | ⟨2, _⟩ => exact h2
  | ⟨3, _⟩ => exact h3

/-- The buffer filled with zeros, before the first row. -/
theorem at_zero {h : Fin 4} {inb : ∀ a, (![0, 0, 0] : Fin 3 → ℕ) a + S4x128x128.size a ≤ S4x128x128.size a} :
    At ℓ K V [⟨Rect.unit ![0, 0, 0] S4x128x128.size inb, k0_pay6 (F := Ideal)⟩] h 0 := fun j x => by
  rw [View.canon_cons_unit_lit inb _ _ (fun a => by match a with | ⟨0, _⟩ => rfl | ⟨1, _⟩ => rfl | ⟨2, _⟩ => rfl)]
  have hs : stateW ℓ K V h.val 0 j.val x.val = 0 := Finset.sum_range_zero _
  rw [hs]
  pointwise [k0_pay6]
  rfl

end

/-- The rows of the first layer's output: the rows read from the recurrence, normed and gated. -/
def hgRow (x0 : Vec Ideal S1x1024x1024 .f32) (w : Vec Ideal S1024x3584 .bf16) (g : Vec Ideal S1x512 .f32) (ℓ Q K V : ℕ → ℕ → ℝ) (N : ℕ) (r : Fin 1024) (d : Fin 512) : EReal :=
  normed (fun x => ((outW ℓ Q K V (d.val / 128) (N + r.val) x.val : ℝ) : EReal)) ⟨d.val % 128, Nat.mod_lt _ (by decide)⟩ (g (ix2 0 d)) (siluT (prod x0 w r (1536 + d.val)))

/-- A row of a block, its number taken modulo the block's size. -/
theorem row_zs {x0 : Vec Ideal S1x1024x1024 .f32} {w : Vec Ideal S1024x3584 .bf16} {n d : ℕ} {z : EReal} (hn : n < 1024)
    (h : z = siluT (prod x0 w ⟨n % 1024, Nat.mod_lt _ (by decide)⟩ d)) : z = siluT (prod x0 w ⟨n, hn⟩ d) := by
  rw [h]
  simp only [Nat.mod_eq_of_lt hn]

/-- Rows of a head are rows of the output. -/
theorem hgRow_eq {x0 : Vec Ideal S1x1024x1024 .f32} {w : Vec Ideal S1024x3584 .bf16} {g : Vec Ideal S1x512 .f32} {ℓ Q K V : ℕ → ℕ → ℝ} {N : ℕ}
    {p : Vec Ideal S1x256x128 .bf16} {g' : Vec Ideal S1x128 .f32} {z : Vec Ideal S1x256x128 .bf16} {o1 o2 : ℕ} (h : ℕ) (e : o2 = 128 * h)
    (inb : ∀ a, (![0, o1, o2] : Fin 3 → ℕ) a + S1x256x128.size a ≤ S1x1024x512.size a)
    (hp : ∀ (r : Fin 256) (j : Fin 128), p (ix3 0 r j) = normed (fun x => ((outW ℓ Q K V h (N + o1 + r.val) x.val : ℝ) : EReal)) j (g' (ix2 0 j)) (z (ix3 0 r j)))
    (hg : ∀ (j : Fin 128) (hd : o2 + j.val < 512), g' (ix2 0 j) = g (ix2 0 ⟨o2 + j.val, hd⟩))
    (hz : ∀ (r : Fin 256) (j : Fin 128) (hr : o1 + r.val < 1024) (hd : o2 + j.val < 512), z (ix3 0 r j) = siluT (prod x0 w ⟨o1 + r.val, hr⟩ (1536 + (o2 + j.val)))) :
    ∀ y : (Rect.unit (s := S1x1024x512) ![0, o1, o2] S1x256x128.size inb).shape.Idx,
      p y = (fun i : S1x1024x512.Idx => hgRow x0 w g ℓ Q K V N (i 1) (i 2)) ((Rect.unit (s := S1x1024x512) ![0, o1, o2] S1x256x128.size inb).emb y) := fun y => by
  have h1 : o1 + 256 ≤ 1024 := inb 1
  have h2 : o2 + 128 ≤ 512 := inb 2
  obtain ⟨b, r, j, rfl⟩ : ∃ (b : Fin 1) (r : Fin 256) (j : Fin 128), y = ix3 b r j := ⟨y 0, y 1, y 2, eq_ix3 y⟩
  have hb : b = 0 := Subsingleton.elim _ _
  have hr := r.isLt
  have hj := j.isLt
  rw [hb, hp, hg j (by omega), hz r j (by omega) (by omega)]
  have e1 : (⟨o1 + r.val, by omega⟩ : Fin 1024) = (Rect.unit (s := S1x1024x512) ![0, o1, o2] S1x256x128.size inb).emb (ix3 0 r j) 1 := Fin.ext (show o1 + r.val = o1 + 1 * r.val by omega)
  have e2 : (⟨o2 + j.val, by omega⟩ : Fin 512) = (Rect.unit (s := S1x1024x512) ![0, o1, o2] S1x256x128.size inb).emb (ix3 0 r j) 2 := Fin.ext (show o2 + j.val = o2 + 1 * j.val by omega)
  dsimp only
  rw [← e1, ← e2]
  unfold hgRow
  have a1 : (o2 + j.val) / 128 = h := by omega
  have a2 : (⟨(o2 + j.val) % 128, Nat.mod_lt _ (by decide)⟩ : Fin 128) = j := Fin.ext (by show (o2 + j.val) % 128 = j.val; omega)
  dsimp only
  rw [a1, a2, Nat.add_assoc N o1]

end Cert.Hgrn
-- ==== Proof.Hgrn.Scan.lean ====
/-
  The forget gates' running sums of the first layer, one tile of 1024 rows: ten doubling steps along the lanes, to which
  the sum of the tiles before is added.
-/
module

public import proofs.«01_k».proof.Proof.Hgrn.Payloads
public import proofs.«01_k».proof.Proof.Inproj.Gates

@[expose] public section

set_option maxRecDepth 16384

noncomputable section

open Idealize.ShloMosaic
open Cert.Kernel5Ideal Cert.Kernel5Ideal.Gen
open Cert.Inproj (logSig)

namespace Cert.Hgrn

/-- The sum of the last `k` entries up to `d`. -/
def upTo (X : ℕ → EReal) (k d : ℕ) : EReal := ∑ i ∈ Finset.range (min k (d + 1)), X (d - i)

/-- A doubling step. -/
theorem upTo_double (X : ℕ → EReal) (k d : ℕ) : upTo X (k + k) d = upTo X k d + if k ≤ d then upTo X k (d - k) else 0 := by
  unfold upTo
  split
  · rename_i h
    rw [Nat.min_eq_left (by omega : k ≤ d + 1), show min (k + k) (d + 1) = k + min k (d - k + 1) by omega, Finset.sum_range_add]
    refine congrArg (_ + ·) (Finset.sum_congr rfl fun i _ => congrArg X ?_)
    omega
  · rename_i h
    rw [add_zero, Nat.min_eq_right (by omega : d + 1 ≤ k), Nat.min_eq_right (by omega : d + 1 ≤ k + k)]

/-- A run of one entry. -/
theorem upTo_one (X : ℕ → EReal) (d : ℕ) : upTo X 1 d = X d := by
  unfold upTo
  rw [Nat.min_eq_left (by omega)]
  simp

/-- A run of a whole tile's length. -/
theorem upTo_tile (X : ℕ → EReal) (d : ℕ) (hd : d < 1024) : upTo X 1024 d = ∑ i ∈ Finset.range (d + 1), X i := by
  unfold upTo
  rw [Nat.min_eq_right (by omega), ← Finset.sum_range_reflect X]
  refine Finset.sum_congr rfl fun i _ => congrArg X ?_
  omega

/-- The lane numbers, as the body computes them. -/
def lanes : IVec S8x1024 32 := k0_pay10 1024#32 k0_pay7 k0_pay8 k0_pay9

/-- A lane's number. -/
theorem lanes_apply (r : Fin 8) (d : Fin 1024) : lanes (ix2 r d) = BitVec.ofNat 32 d.val := by
  pointwise [lanes, k0_pay10, k0_pay9, k0_pay8, k0_pay7]
  revert d
  decide +kernel

/-- One doubling step of the body. -/
def stepV (n : BitVec 32) (x : FVec Ideal S8x1024 .f32) : FVec Ideal S8x1024 .f32 :=
  addf x (select (cmpi .sge lanes (broadcast S8x1024 n)) (dynamicRotate 1 n none x rotates_S8x1024_d1)
    (broadcast S8x1024 (Scalar.ofBits .f32 0x00000000#32)))

/-- The comparison of a lane with a step. -/
theorem sge_lane : ∀ (k : Fin 10) (d : Fin 1024), (IntOp.cmpi CmpIPredicate.sge (BitVec.ofNat 32 d.val) (BitVec.ofNat 32 (2 ^ k.val)) = 1#1) ↔ 2 ^ k.val ≤ d.val := by
  decide +kernel

/-- A doubling step turns runs of `2 ^ k` into runs of `2 ^ (k + 1)`. -/
theorem stepV_upTo (k : ℕ) (hk : k < 10) (x : FVec Ideal S8x1024 .f32) (X : ℕ → ℕ → EReal)
    (hx : ∀ (r : Fin 8) (d : Fin 1024), x (ix2 r d) = upTo (X r.val) (2 ^ k) d.val) (r : Fin 8) (d : Fin 1024) :
    stepV (BitVec.ofNat 32 (2 ^ k)) x (ix2 r d) = upTo (X r.val) (2 ^ (k + 1)) d.val := by
  have hp : 2 ^ k < 1024 := Nat.pow_lt_pow_right (by decide) hk
  rw [pow_succ, mul_two, upTo_double]
  unfold stepV
  pointwise
  have hn : (BitVec.ofNat 32 (2 ^ k)).toNat % 1024 = 2 ^ k := by
    rw [BitVec.toNat_ofNat, Nat.mod_eq_of_lt (a := 2 ^ k) (b := 2 ^ 32) (by omega), Nat.mod_eq_of_lt (by omega)]
  have hc := sge_lane ⟨k, by omega⟩ d
  dsimp only at hc
  have hd := d.isLt
  rw [lanes_apply, hx, hx]
  refine congrArg (_ + ·) ?_
  by_cases h : 2 ^ k ≤ d.val
  · rw [if_pos h]
    refine (if_pos (hc.mpr h)).trans (congrArg (upTo (X r.val) (2 ^ k)) ?_)
    dsimp only
    rw [hn]
    omega
  · rw [if_neg h]
    exact if_neg fun e => h (hc.mp e)

/-- The body's running sums of some rows, with the sums of the tiles before. -/
def sums (y : FVec Ideal S8x1024 .f32) (a : Vec Ideal S8x1 .f32) : FVec Ideal S8x1024 .f32 :=
  k0_pay14 lanes (k0_pay11 y 1024#32 k0_pay7 k0_pay8 k0_pay9) (k0_pay12 1024#32 k0_pay7 k0_pay8 k0_pay9)
    (k0_pay13 y 1024#32 k0_pay7 k0_pay8 k0_pay9) (FloatOps.ofBits FTy.f32 0#32) a

/-- The body's running sums as ten doubling steps. -/
theorem sums_eq (y : FVec Ideal S8x1024 .f32) (a : Vec Ideal S8x1 .f32) :
    sums y a = addf (stepV 512#32 (stepV 256#32 (stepV 128#32 (stepV 64#32 (stepV 32#32 (stepV 16#32 (stepV 8#32 (stepV 4#32 (stepV 2#32 (stepV 1#32 y))))))))))
      (broadcastTo S8x1024 a broadcasts_S8x1_S8x1024) := rfl

/-- The running sums at a row and a lane. -/
theorem sums_apply (y : FVec Ideal S8x1024 .f32) (a : Vec Ideal S8x1 .f32) (X : ℕ → ℕ → EReal)
    (hy : ∀ (g : Fin 8) (d : Fin 1024), y (ix2 g d) = X g.val d.val) (g : Fin 8) (d : Fin 1024) :
    sums y a (ix2 g d) = ∑ i ∈ Finset.range (d.val + 1), X g.val i + a (ix2 g 0) := by
  have h0 : ∀ (g : Fin 8) (d : Fin 1024), y (ix2 g d) = upTo (X g.val) (2 ^ 0) d.val := fun g d => by rw [pow_zero, upTo_one, hy]
  have h1 := stepV_upTo 0 (by decide) _ _ h0
  have h2 := stepV_upTo 1 (by decide) _ _ h1
  have h3 := stepV_upTo 2 (by decide) _ _ h2
  have h4 := stepV_upTo 3 (by decide) _ _ h3
  have h5 := stepV_upTo 4 (by decide) _ _ h4
  have h6 := stepV_upTo 5 (by decide) _ _ h5
  have h7 := stepV_upTo 6 (by decide) _ _ h6
  have h8 := stepV_upTo 7 (by decide) _ _ h7
  have h9 := stepV_upTo 8 (by decide) _ _ h8
  have h10 := (stepV_upTo 9 (by decide) _ _ h9 g d).trans (upTo_tile _ _ d.isLt)
  rw [sums_eq, ← h10]
  pointwise
  rfl

/-- The logarithm of a forget gate's sigmoid, at all natural places. -/
def gateLog (x0 : Vec Ideal S1x1024x1024 .f32) (x3 : Vec Ideal S8x1024 .bf16) (x5 : Vec Ideal S8x1024 .f32) (g d : ℕ) : EReal :=
  logSig ((∑ e : Fin 1024, x3 (ix2 ⟨g % 8, Nat.mod_lt _ (by decide)⟩ e) * x0 (ix3 0 ⟨d % 1024, Nat.mod_lt _ (by decide)⟩ e))
    + x5 (ix2 ⟨g % 8, Nat.mod_lt _ (by decide)⟩ ⟨d % 1024, Nat.mod_lt _ (by decide)⟩))

/-- The body's logarithms. -/
theorem gateLog_eq (v : FVec Ideal S1024x1024 .bf16) (x0 : Vec Ideal S1x1024x1024 .f32) (hv : ∀ r e : Fin 1024, v (ix2 r e) = (show EReal from x0 (ix3 0 r e)))
    (x3 : Vec Ideal S8x1024 .bf16) (x5 : Vec Ideal S8x1024 .f32) (g : Fin 8) (r : Fin 1024) :
    k0_pay4 (F := Ideal) v x3 x5 (ix2 g r) = gateLog x0 x3 x5 g.val r.val := by
  have e : k0_pay4 (F := Ideal) v x3 x5 (ix2 g r) = logSig ((∑ e : Fin 1024, x3 (ix2 g e) * v (ix2 r e)) + x5 (ix2 g r)) := by
    pointwise [k0_pay4]
    rfl
  rw [e]
  unfold gateLog
  simp only [hv, Nat.mod_eq_of_lt g.isLt, Nat.mod_eq_of_lt r.isLt]

/-- A quarter of the running sums, as it is stored. -/
theorem pay_c0 (y : FVec Ideal S8x1024 .f32) (a : Vec Ideal S8x1 .f32) (g : Fin 8) (l : Fin 256) :
    k0_pay15 lanes (k0_pay11 y 1024#32 k0_pay7 k0_pay8 k0_pay9) (k0_pay12 1024#32 k0_pay7 k0_pay8 k0_pay9)
      (k0_pay13 y 1024#32 k0_pay7 k0_pay8 k0_pay9) (FloatOps.ofBits FTy.f32 0#32) a (ix4 0 0 g l) = sums y a (ix2 g ⟨0 + l.val, by omega⟩) := by
  have e : k0_pay15 lanes (k0_pay11 y 1024#32 k0_pay7 k0_pay8 k0_pay9) (k0_pay12 1024#32 k0_pay7 k0_pay8 k0_pay9)
      (k0_pay13 y 1024#32 k0_pay7 k0_pay8 k0_pay9) (FloatOps.ofBits FTy.f32 0#32) a
    = shapeCast S1x1x8x256 (extractStridedSlice S8x256 ![0, 0] (sums y a) slices_S8x1024_o0_0_S8x256) shapeCasts_S8x256_S1x1x8x256 := rfl
  rw [e]
  generalize sums y a = s
  pointwise

/-- The second quarter. -/
theorem pay_c1 (y : FVec Ideal S8x1024 .f32) (a : Vec Ideal S8x1 .f32) (g : Fin 8) (l : Fin 256) :
    k0_pay17 (k0_pay16 lanes (k0_pay11 y 1024#32 k0_pay7 k0_pay8 k0_pay9) (k0_pay12 1024#32 k0_pay7 k0_pay8 k0_pay9)
      (k0_pay13 y 1024#32 k0_pay7 k0_pay8 k0_pay9) (FloatOps.ofBits FTy.f32 0#32) a) (ix4 0 0 g l) = sums y a (ix2 g ⟨256 + l.val, by omega⟩) := by
  have e : k0_pay17 (k0_pay16 lanes (k0_pay11 y 1024#32 k0_pay7 k0_pay8 k0_pay9) (k0_pay12 1024#32 k0_pay7 k0_pay8 k0_pay9)
      (k0_pay13 y 1024#32 k0_pay7 k0_pay8 k0_pay9) (FloatOps.ofBits FTy.f32 0#32) a)
    = shapeCast S1x1x8x256 (extractStridedSlice S8x256 ![0, 256] (sums y a) slices_S8x1024_o0_256_S8x256) shapeCasts_S8x256_S1x1x8x256 := rfl
  rw [e]
  generalize sums y a = s
  pointwise

/-- The third quarter. -/
theorem pay_c2 (s : FVec Ideal S8x1024 .f32) (g : Fin 8) (l : Fin 256) : k0_pay18 s (ix4 0 0 g l) = s (ix2 g ⟨512 + l.val, by omega⟩) := by
  pointwise [k0_pay18]

/-- The fourth quarter. -/
theorem pay_c3 (s : FVec Ideal S8x1024 .f32) (g : Fin 8) (l : Fin 256) : k0_pay19 s (ix4 0 0 g l) = s (ix2 g ⟨768 + l.val, by omega⟩) := by
  pointwise [k0_pay19]

/-- The sums after the last lane, kept for the next tile. -/
theorem pay_carry (s : FVec Ideal S8x1024 .f32) (g : Fin 8) (l : Fin 128) : k0_pay20 s (ix2 g l) = s (ix2 g ⟨1023, by decide⟩) := by
  pointwise [k0_pay20]

end Cert.Hgrn
-- ==== Proof.Hgrn.Place.lean ====
/-
  The first layer's input projection, all tiles: the projections, the recurrence's sequences and the gates at a place of
  the whole arrays, and where each tile's blocks lie.
-/
module

public import proofs.«01_k».proof.Proof.Gen.Kernel5Ideal.Value
public import proofs.«01_k».proof.Proof.Hgrn.State
public import proofs.«01_k».proof.Proof.Hgrn.Scan
public import proofs.«01_k».proof.Proof.Inproj.Finite
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen
open Cert.Inproj (dot siluT sigmoidT logSig IsReal)

namespace Cert.Hgrn

/-- The tokens, as an array. -/
abbrev Tokens := FVec Ideal S4x8192x1024 .f32

/-- The projection's weights, as an array. -/
abbrev Weights := FVec Ideal S1024x3584 .bf16

/-- Token `s` of batch `b` times column `d` of the weights. -/
def proj (x : Tokens) (w : Weights) (b : Fin 4) (s : Fin 8192) (d : ℕ) : EReal :=
  dot (fun e => x (ix3 b s e)) (fun e => w (ix2 e ⟨d % 3584, Nat.mod_lt _ (by decide)⟩))

/-- Token `s` of batch `b` times column `d` of the output gates' weights. -/
def projB (x : Tokens) (w : FVec Ideal S1024x512 .bf16) (b : Fin 4) (s : Fin 8192) (d : ℕ) : EReal :=
  dot (fun e => x (ix3 b s e)) (fun e => w (ix2 e ⟨d % 512, Nat.mod_lt _ (by decide)⟩))

/-- The forget gate at token `s` and column `d`. -/
def fgate (x : Tokens) (w : Weights) (lb : FVec Ideal S1x512 .f32) (b : Fin 4) (s : Fin 8192) (d : Fin 512) : EReal :=
  lb (ix2 0 d) + (1 - lb (ix2 0 d)) * sigmoidT (proj x w b s (512 + d.val))

/-- The real numbers of an array of tokens and columns. -/
def seq (f : Fin 8192 → Fin 512 → EReal) (n d : ℕ) : ℝ :=
  if h : n < 8192 ∧ d < 512 then (f ⟨n, h.1⟩ ⟨d, h.2⟩).toReal else 0

theorem seq_coe {f : Fin 8192 → Fin 512 → EReal} {s : Fin 8192} {d : Fin 512} (h : IsReal (f s d)) : f s d = ((seq f s.val d.val : ℝ) : EReal) := by
  unfold seq
  rw [dif_pos ⟨s.isLt, d.isLt⟩]
  obtain ⟨r, hr⟩ := h
  show f s d = ((f s d).toReal : EReal)
  rw [hr]
  rfl

section
variable (x : Tokens) (w : Weights) (lb g : FVec Ideal S1x512 .f32) (b : Fin 4)

/-- The logarithms of the forget gates. -/
def seqL : ℕ → ℕ → ℝ := seq fun s d => Ideal.log (fgate x w lb b s d)

/-- The recurrence's queries. -/
def seqQ : ℕ → ℕ → ℝ := seq fun s d => proj x w b s d.val

/-- The recurrence's keys. -/
def seqK : ℕ → ℕ → ℝ := seq fun s d => 1 - fgate x w lb b s d

/-- The recurrence's values. -/
def seqV : ℕ → ℕ → ℝ := seq fun s d => proj x w b s (1024 + d.val)

/-- What the recurrence reads is real numbers, but for the places with an infinite bound, which have logarithms of minus infinity. -/
structure RealArgs : Prop where
  q : ∀ b s (d : Fin 512), IsReal (proj x w b s d.val)
  l : ∀ b (s : Fin 8192) d, Lg (lb (ix2 0 d) = ⊤) (Ideal.log (fgate x w lb b s d)) (seqL x w lb b s.val d.val)
  z : ∀ b n (d : Fin 512), lb (ix2 0 d) = ⊤ → seqK x w lb b n d.val = 0
  k : ∀ b (s : Fin 8192) d, ¬lb (ix2 0 d) = ⊤ → 1 - fgate x w lb b s d = ((seqK x w lb b s.val d.val : ℝ) : EReal)
  v : ∀ b s (d : Fin 512), IsReal (proj x w b s (1024 + d.val))

/-- The first layer's output: what each token reads from the recurrence, normed over its head and gated. -/
def resultH : FVec Ideal S4x8192x512 .bf16 := fun i =>
  normed (fun j => ((outW (seqL x w lb (i 0)) (seqQ x w (i 0)) (seqK x w lb (i 0)) (seqV x w (i 0)) ((i 2).val / 128) (i 1).val j.val : ℝ) : EReal))
    ⟨(i 2).val % 128, Nat.mod_lt _ (by decide)⟩ (g (ix2 0 (i 2))) (siluT (proj x w (i 0) (i 1) (1536 + (i 2).val)))

/-- The queries of the second part. -/
def resultQ : FVec Ideal S4x8192x512 .bf16 := fun i => proj x w (i 0) (i 1) (2048 + (i 2).val) * qScale

/-- The keys of the second part. -/
def resultK : FVec Ideal S4x8192x512 .bf16 := fun i => proj x w (i 0) (i 1) (2560 + (i 2).val)

/-- The values of the second part. -/
def resultV : FVec Ideal S4x8192x512 .bf16 := fun i => proj x w (i 0) (i 1) (3072 + (i 2).val)

/-- The output gates of the second part. -/
def resultZ (wb : FVec Ideal S1024x512 .bf16) : FVec Ideal S4x8192x512 .bf16 := fun i => siluT (projB x wb (i 0) (i 1) (0 + (i 2).val))

/-- The forget gates' biases, then four zeros. -/
def bias (bf : FVec Ideal S4 .f32) (j : Fin 8) : EReal := if h : j.val < 4 then bf (ix1 ⟨j.val, h⟩) else 0

/-- The logarithms of the sigmoids of gate `j`, by place in the sequence. -/
def gateSeq (wg : FVec Ideal S8x1024 .bf16) (bf : FVec Ideal S4 .f32) (j : Fin 8) (n : ℕ) : EReal :=
  logSig ((∑ e, wg (ix2 j e) * x (ix3 b ⟨n % 8192, Nat.mod_lt _ (by decide)⟩ e)) + bias bf j)

/-- The running sums of the gates, in blocks of 256 tokens. -/
def resultC (wg : FVec Ideal S8x1024 .bf16) (bf : FVec Ideal S4 .f32) : FVec Ideal S4x32x8x256 .f32 := fun i =>
  ∑ n ∈ Finset.range (256 * (i 1).val + (i 3).val + 1), gateSeq x (i 0) wg bf (i 2) n

end

/-- The batch of point `t`. -/
def batch (t : Fin cfg0.N) : Fin 4 := ⟨t.val / 8, by have := t.isLt.trans_eq N_0; omega⟩

/-- The place in the sequence of row `r` of point `t`. -/
def place (t : Fin cfg0.N) (r : Fin 1024) : Fin 8192 := ⟨1024 * (t.val % 8) + r.val, by have := t.isLt.trans_eq N_0; omega⟩

/-- The block of window 0 at point `t`. -/
theorem index0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

/-- Where window 0's block lies in its array. -/
theorem emb0 (t : Fin cfg0.N) (r : Fin 1024) (d : Fin 1024) :
    ((cfg0.win 0).blk t).view.emb (ix3 0 r d) = ix3 (batch t) (place t r) d := by
  obtain ⟨e0, e1, e2⟩ := index0 t
  funext a; apply Fin.ext
  match a with
  | ⟨0, _⟩ => show win0_0.index t 0 * 1 + 1 * 0 = t.val / 8; omega
  | ⟨1, _⟩ => show win0_0.index t 1 * 1024 + 1 * r.val = 1024 * (t.val % 8) + r.val; omega
  | ⟨2, _⟩ => show win0_0.index t 2 * 1024 + 1 * d.val = d.val; omega

/-- The block of window 1 at point `t`. -/
theorem index1 : ∀ t : Fin cfg0.N, win0_1.index t 0 = 0 ∧ win0_1.index t 1 = 0 :=
  (by decide +kernel : ∀ t : Fin grid0.N, win0_1.index t 0 = 0 ∧ win0_1.index t 1 = 0)

/-- Where window 1's block lies in its array. -/
theorem emb1 (t : Fin cfg0.N) (r : Fin 1024) (d : Fin 3584) : ((cfg0.win 1).blk t).view.emb (ix2 r d) = ix2 r d := by
  obtain ⟨e0, e1⟩ := index1 t
  funext a; apply Fin.ext
  match a with
  | ⟨0, _⟩ => show win0_1.index t 0 * 1024 + 1 * r.val = r.val; omega
  | ⟨1, _⟩ => show win0_1.index t 1 * 3584 + 1 * d.val = d.val; omega

/-- The block of window 2 at point `t`. -/
theorem index2 : ∀ t : Fin cfg0.N, win0_2.index t 0 = 0 ∧ win0_2.index t 1 = 0 :=
  (by decide +kernel : ∀ t : Fin grid0.N, win0_2.index t 0 = 0 ∧ win0_2.index t 1 = 0)

/-- Where window 2's block lies in its array. -/
theorem emb2 (t : Fin cfg0.N) (r : Fin 1024) (d : Fin 512) : ((cfg0.win 2).blk t).view.emb (ix2 r d) = ix2 r d := by
  obtain ⟨e0, e1⟩ := index2 t
  funext a; apply Fin.ext
  match a with
  | ⟨0, _⟩ => show win0_2.index t 0 * 1024 + 1 * r.val = r.val; omega
  | ⟨1, _⟩ => show win0_2.index t 1 * 512 + 1 * d.val = d.val; omega

/-- The block of window 3 at point `t`. -/
theorem index3 : ∀ t : Fin cfg0.N, win0_3.index t 0 = 0 ∧ win0_3.index t 1 = 0 :=
  (by decide +kernel : ∀ t : Fin grid0.N, win0_3.index t 0 = 0 ∧ win0_3.index t 1 = 0)

/-- Where window 3's block lies in its array. -/
theorem emb3 (t : Fin cfg0.N) (r : Fin 8) (d : Fin 1024) : ((cfg0.win 3).blk t).view.emb (ix2 r d) = ix2 r d := by
  obtain ⟨e0, e1⟩ := index3 t
  funext a; apply Fin.ext
  match a with
  | ⟨0, _⟩ => show win0_3.index t 0 * 8 + 1 * r.val = r.val; omega
  | ⟨1, _⟩ => show win0_3.index t 1 * 1024 + 1 * d.val = d.val; omega

/-- The block of window 4 at point `t`. -/
theorem index4 : ∀ t : Fin cfg0.N, win0_4.index t 0 = 0 ∧ win0_4.index t 1 = 0 :=
  (by decide +kernel : ∀ t : Fin grid0.N, win0_4.index t 0 = 0 ∧ win0_4.index t 1 = 0)

/-- Where window 4's block lies in its array. -/
theorem emb4 (t : Fin cfg0.N) (r : Fin 1) (d : Fin 512) : ((cfg0.win 4).blk t).view.emb (ix2 r d) = ix2 r d := by
  obtain ⟨e0, e1⟩ := index4 t
  funext a; apply Fin.ext
  match a with
  | ⟨0, _⟩ => show win0_4.index t 0 * 1 + 1 * r.val = r.val; omega
  | ⟨1, _⟩ => show win0_4.index t 1 * 512 + 1 * d.val = d.val; omega

/-- The block of window 5 at point `t`. -/
theorem index5 : ∀ t : Fin cfg0.N, win0_5.index t 0 = 0 ∧ win0_5.index t 1 = 0 :=
  (by decide +kernel : ∀ t : Fin grid0.N, win0_5.index t 0 = 0 ∧ win0_5.index t 1 = 0)

/-- Where window 5's block lies in its array. -/
theorem emb5 (t : Fin cfg0.N) (r : Fin 8) (d : Fin 1024) : ((cfg0.win 5).blk t).view.emb (ix2 r d) = ix2 r d := by
  obtain ⟨e0, e1⟩ := index5 t
  funext a; apply Fin.ext
  match a with
  | ⟨0, _⟩ => show win0_5.index t 0 * 8 + 1 * r.val = r.val; omega
  | ⟨1, _⟩ => show win0_5.index t 1 * 1024 + 1 * d.val = d.val; omega

/-- The block of window 6 at point `t`. -/
theorem index6 : ∀ t : Fin cfg0.N, win0_6.index t 0 = 0 ∧ win0_6.index t 1 = 0 :=
  (by decide +kernel : ∀ t : Fin grid0.N, win0_6.index t 0 = 0 ∧ win0_6.index t 1 = 0)

/-- Where window 6's block lies in its array. -/
theorem emb6 (t : Fin cfg0.N) (r : Fin 1) (d : Fin 512) : ((cfg0.win 6).blk t).view.emb (ix2 r d) = ix2 r d := by
  obtain ⟨e0, e1⟩ := index6 t
  funext a; apply Fin.ext
  match a with
  | ⟨0, _⟩ => show win0_6.index t 0 * 1 + 1 * r.val = r.val; omega
  | ⟨1, _⟩ => show win0_6.index t 1 * 512 + 1 * d.val = d.val; omega

/-- The block of window 7 at point `t`. -/
theorem index7 : ∀ t : Fin cfg0.N, win0_7.index t 0 = t.val / 8 ∧ win0_7.index t 1 = t.val % 8 ∧ win0_7.index t 2 = 0 :=
  (by decide +kernel : ∀ t : Fin grid0.N, win0_7.index t 0 = t.val / 8 ∧ win0_7.index t 1 = t.val % 8 ∧ win0_7.index t 2 = 0)

/-- Where window 7's block lies in its array. -/
theorem emb7 (t : Fin cfg0.N) (r : Fin 1024) (d : Fin 512) :
    ((cfg0.win 7).blk t).view.emb (ix3 0 r d) = ix3 (batch t) (place t r) d := by
  obtain ⟨e0, e1, e2⟩ := index7 t
  funext a; apply Fin.ext
  match a with
  | ⟨0, _⟩ => show win0_7.index t 0 * 1 + 1 * 0 = t.val / 8; omega
  | ⟨1, _⟩ => show win0_7.index t 1 * 1024 + 1 * r.val = 1024 * (t.val % 8) + r.val; omega
  | ⟨2, _⟩ => show win0_7.index t 2 * 512 + 1 * d.val = d.val; omega

/-- The block of window 8 at point `t`. -/
theorem index8 : ∀ t : Fin cfg0.N, win0_8.index t 0 = t.val / 8 ∧ win0_8.index t 1 = t.val % 8 ∧ win0_8.index t 2 = 0 :=
  (by decide +kernel : ∀ t : Fin grid0.N, win0_8.index t 0 = t.val / 8 ∧ win0_8.index t 1 = t.val % 8 ∧ win0_8.index t 2 = 0)

/-- Where window 8's block lies in its array. -/
theorem emb8 (t : Fin cfg0.N) (r : Fin 1024) (d : Fin 512) :
    ((cfg0.win 8).blk t).view.emb (ix3 0 r d) = ix3 (batch t) (place t r) d := by
  obtain ⟨e0, e1, e2⟩ := index8 t
  funext a; apply Fin.ext
  match a with
  | ⟨0, _⟩ => show win0_8.index t 0 * 1 + 1 * 0 = t.val / 8; omega
  | ⟨1, _⟩ => show win0_8.index t 1 * 1024 + 1 * r.val = 1024 * (t.val % 8) + r.val; omega
  | ⟨2, _⟩ => show win0_8.index t 2 * 512 + 1 * d.val = d.val; omega

/-- The block of window 9 at point `t`. -/
theorem index9 : ∀ t : Fin cfg0.N, win0_9.index t 0 = t.val / 8 ∧ win0_9.index t 1 = t.val % 8 ∧ win0_9.index t 2 = 0 :=
  (by decide +kernel : ∀ t : Fin grid0.N, win0_9.index t 0 = t.val / 8 ∧ win0_9.index t 1 = t.val % 8 ∧ win0_9.index t 2 = 0)

/-- Where window 9's block lies in its array. -/
theorem emb9 (t : Fin cfg0.N) (r : Fin 1024) (d : Fin 512) :
    ((cfg0.win 9).blk t).view.emb (ix3 0 r d) = ix3 (batch t) (place t r) d := by
  obtain ⟨e0, e1, e2⟩ := index9 t
  funext a; apply Fin.ext
  match a with
  | ⟨0, _⟩ => show win0_9.index t 0 * 1 + 1 * 0 = t.val / 8; omega
  | ⟨1, _⟩ => show win0_9.index t 1 * 1024 + 1 * r.val = 1024 * (t.val % 8) + r.val; omega
  | ⟨2, _⟩ => show win0_9.index t 2 * 512 + 1 * d.val = d.val; omega

/-- The block of window 10 at point `t`. -/
theorem index10 : ∀ t : Fin cfg0.N, win0_10.index t 0 = t.val / 8 ∧ win0_10.index t 1 = t.val % 8 ∧ win0_10.index t 2 = 0 :=
  (by decide +kernel : ∀ t : Fin grid0.N, win0_10.index t 0 = t.val / 8 ∧ win0_10.index t 1 = t.val % 8 ∧ win0_10.index t 2 = 0)

/-- Where window 10's block lies in its array. -/
theorem emb10 (t : Fin cfg0.N) (r : Fin 1024) (d : Fin 512) :
    ((cfg0.win 10).blk t).view.emb (ix3 0 r d) = ix3 (batch t) (place t r) d := by
  obtain ⟨e0, e1, e2⟩ := index10 t
  funext a; apply Fin.ext
  match a with
  | ⟨0, _⟩ => show win0_10.index t 0 * 1 + 1 * 0 = t.val / 8; omega
  | ⟨1, _⟩ => show win0_10.index t 1 * 1024 + 1 * r.val = 1024 * (t.val % 8) + r.val; omega
  | ⟨2, _⟩ => show win0_10.index t 2 * 512 + 1 * d.val = d.val; omega

/-- The block of window 11 at point `t`. -/
theorem index11 : ∀ t : Fin cfg0.N, win0_11.index t 0 = t.val / 8 ∧ win0_11.index t 1 = t.val % 8 ∧ win0_11.index t 2 = 0 :=
  (by decide +kernel : ∀ t : Fin grid0.N, win0_11.index t 0 = t.val / 8 ∧ win0_11.index t 1 = t.val % 8 ∧ win0_11.index t 2 = 0)

/-- Where window 11's block lies in its array. -/
theorem emb11 (t : Fin cfg0.N) (r : Fin 1024) (d : Fin 512) :
    ((cfg0.win 11).blk t).view.emb (ix3 0 r d) = ix3 (batch t) (place t r) d := by
  obtain ⟨e0, e1, e2⟩ := index11 t
  funext a; apply Fin.ext
  match a with
  | ⟨0, _⟩ => show win0_11.index t 0 * 1 + 1 * 0 = t.val / 8; omega
  | ⟨1, _⟩ => show win0_11.index t 1 * 1024 + 1 * r.val = 1024 * (t.val % 8) + r.val; omega
  | ⟨2, _⟩ => show win0_11.index t 2 * 512 + 1 * d.val = d.val; omega

/-- The block of window 12 at point `t`. -/
theorem index12 : ∀ t : Fin cfg0.N, win0_12.index t 0 = t.val / 8 ∧ win0_12.index t 1 = t.val % 8 ∧ win0_12.index t 2 = 0 ∧ win0_12.index t 3 = 0 :=
  (by decide +kernel : ∀ t : Fin grid0.N, win0_12.index t 0 = t.val / 8 ∧ win0_12.index t 1 = t.val % 8 ∧ win0_12.index t 2 = 0 ∧ win0_12.index t 3 = 0)

/-- Where window 12's block lies in its array. -/
theorem emb12 (t : Fin cfg0.N) (j : Fin 4) (g : Fin 8) (l : Fin 256) :
    ((cfg0.win 12).blk t).view.emb (ix4 0 j g l) = ix4 (batch t) ⟨4 * (t.val % 8) + j.val, by omega⟩ g l := by
  obtain ⟨e0, e1, e2, e3⟩ := index12 t
  funext a; apply Fin.ext
  match a with
  | ⟨0, _⟩ => show win0_12.index t 0 * 1 + 1 * 0 = t.val / 8; omega
  | ⟨1, _⟩ => show win0_12.index t 1 * 4 + 1 * j.val = 4 * (t.val % 8) + j.val; omega
  | ⟨2, _⟩ => show win0_12.index t 2 * 8 + 1 * g.val = g.val; omega
  | ⟨3, _⟩ => show win0_12.index t 3 * 256 + 1 * l.val = l.val; omega

variable (m : (ℓ : Loc nD τ sig) → Buf (Elt Ideal) ℓ)

/-- The block of the tokens. -/
theorem block0 (c : Dev nD) (t : Fin cfg0.N) (r d : Fin 1024) :
    iblk m c 0 t (ix3 0 r d) = m ((c : Thread nD τ).loc main_arg0) (ix3 (batch t) (place t r) d) := by
  have h : iblk m c 0 t (ix3 0 r d) = V m c main_arg0 (((cfg0.win 0).blk t).view.emb (ix3 0 r d)) := rfl
  rw [h, emb0, V_main_arg0]

/-- The block of argument 1. -/
theorem block1 (c : Dev nD) (t : Fin cfg0.N) (r : Fin 1024) (d : Fin 3584) :
    iblk m c 1 t (ix2 r d) = m ((c : Thread nD τ).loc main_arg1) (ix2 r d) := by
  have h : iblk m c 1 t (ix2 r d) = V m c main_arg1 (((cfg0.win 1).blk t).view.emb (ix2 r d)) := rfl
  rw [h, emb1, V_main_arg1]

/-- The block of argument 2. -/
theorem block2 (c : Dev nD) (t : Fin cfg0.N) (r : Fin 1024) (d : Fin 512) :
    iblk m c 2 t (ix2 r d) = m ((c : Thread nD τ).loc main_arg2) (ix2 r d) := by
  have h : iblk m c 2 t (ix2 r d) = V m c main_arg2 (((cfg0.win 2).blk t).view.emb (ix2 r d)) := rfl
  rw [h, emb2, V_main_arg2]

/-- The block of argument 3. -/
theorem block3 (c : Dev nD) (t : Fin cfg0.N) (r : Fin 8) (d : Fin 1024) :
    iblk m c 3 t (ix2 r d) = m ((c : Thread nD τ).loc main_arg3) (ix2 r d) := by
  have h : iblk m c 3 t (ix2 r d) = V m c main_arg3 (((cfg0.win 3).blk t).view.emb (ix2 r d)) := rfl
  rw [h, emb3, V_main_arg3]

/-- The block of argument 4. -/
theorem block4 (c : Dev nD) (t : Fin cfg0.N) (r : Fin 1) (d : Fin 512) :
    iblk m c 4 t (ix2 r d) = m ((c : Thread nD τ).loc main_arg4) (ix2 r d) := by
  have h : iblk m c 4 t (ix2 r d) = V m c main_arg4 (((cfg0.win 4).blk t).view.emb (ix2 r d)) := rfl
  rw [h, emb4, V_main_arg4]

/-- The block of argument 6. -/
theorem block6 (c : Dev nD) (t : Fin cfg0.N) (r : Fin 1) (d : Fin 512) :
    iblk m c 6 t (ix2 r d) = m ((c : Thread nD τ).loc main_arg6) (ix2 r d) := by
  have h : iblk m c 6 t (ix2 r d) = V m c main_arg6 (((cfg0.win 6).blk t).view.emb (ix2 r d)) := rfl
  rw [h, emb6, V_main_arg6]

/-- Four numbers padded to eight and spread over the lanes. -/
theorem padded_apply (y : FVec Ideal S4 .f32) (j : Fin 8) (r : Fin 1024) :
    broadcastInDim S8x1024 ![0, 1] bcast_S8x1_S8x1024_0_1 (broadcastInDim S8x1 ![0] bcast_S8_S8x1_0
      (pad S8 ![0] ![4] ![0] y (sitofp (F := Ideal) .f32 (constantI S_ 32 0#32)) pads_S4_S8_040 h_S_)) (ix2 j r) = bias y j := by
  pointwise
  unfold bias
  by_cases h4 : j.val < 4
  · rw [dif_pos h4, dif_pos h4]
  · rw [dif_neg h4, dif_neg h4]
    show (((0#32).toInt : ℝ) : EReal) = 0
    simp

/-- The biases' array, spread over the lanes. -/
theorem biases_eq (c : Dev nD) (j : Fin 8) (r : Fin 1024) : V m c main_v2 (ix2 j r) = bias (m ((c : Thread nD τ).loc main_arg5)) j := by
  have h : (V m c main_v2 : FVec Ideal S8x1024 .f32) = broadcastInDim S8x1024 ![0, 1] bcast_S8x1_S8x1024_0_1 (broadcastInDim S8x1 ![0] bcast_S8_S8x1_0
      (pad S8 ![0] ![4] ![0] (m ((c : Thread nD τ).loc main_arg5) : FVec Ideal S4 .f32) (sitofp (F := Ideal) .f32 (constantI S_ 32 0#32)) pads_S4_S8_040 h_S_)) := by
    unfold_abbrev_sides
    simp only [hostOps0, hostOps0_1, hostOps0_2, List.flatten_cons, List.flatten_nil, List.append_nil, List.cons_append, List.nil_append]
    after_results
    rfl
  rw [h]
  exact padded_apply _ j r

/-- The block of the gates' biases. -/
theorem block5 (c : Dev nD) (t : Fin cfg0.N) (j : Fin 8) (r : Fin 1024) : iblk m c 5 t (ix2 j r) = bias (m ((c : Thread nD τ).loc main_arg5)) j := by
  have h : iblk m c 5 t (ix2 j r) = V m c main_v2 (((cfg0.win 5).blk t).view.emb (ix2 j r)) := rfl
  rw [h, emb5, biases_eq]

end Cert.Hgrn
-- ==== Proof.Hgrn.Finite.lean ====
/-
  What the precondition says, and what the recurrence reads with it.
-/
module

public import proofs.«01_k».proof.Defs
public import proofs.«01_k».proof.Proof.Fox.Finite
public import proofs.«01_k».proof.Proof.Inproj.Scalars
public import proofs.«01_k».proof.Proof.Hgrn.Place

@[expose] public section

noncomputable section

open Idealize.ShloMosaic
open Cert.Kernel5Ideal
open Cert.Inproj (IsReal isReal_of_ne sigmoidT sigmoidH sigmoid_eq sigmoidH_real)

namespace Cert.Hgrn

/-- The precondition's side conditions. -/
instance finite_facts : Cert.Pre_finite5.Facts where
  bcast_S_S4x8192x1024 := by decide
  slices_S1024x3584_S1024x2048_0_0 := by decide
  bitsLt_bf16_f32 := by decide
  bcast_S_S1024x2048 := by decide
  bcast_S_S1024x512 := by decide
  bcast_S_S1x512 := by decide

/-- The constant zero. -/
theorem zero_bits : (Ideal.ofBits FTy.f32 0x00000000#32 : EReal) = 0 := by
  simp [Ideal.ofBits, Ideal.ieee]

/-- A value from zero on, as the precondition tests it. -/
theorem nonneg {x lo : EReal} (hlo : lo = 0) (h : BitVec.ofBool (decide (lo ≤ x)) = 1#1) : 0 ≤ x := by
  subst hlo
  by_contra hx
  simp [hx] at h

section
variable (x0 : FVec Ideal S4x8192x1024 .f32) (x1 : FVec Ideal S1024x3584 .bf16) (x2 : FVec Ideal S1024x512 .bf16) (x3 : FVec Ideal S8x1024 .bf16) (x4 : FVec Ideal S1x512 .f32) (x5 : FVec Ideal S4 .f32) (x6 : FVec Ideal S1x512 .f32)

/-- The tokens are real numbers. -/
theorem tokens_real (h : (Cert.Pre_finite5.fn x0 x1 x2 x3 x4 x5 x6).1 = fun _ => 1#1) (i : S4x8192x1024.Idx) : IsReal (x0 i) :=
  isReal_of_ne (Cert.Fox.between (x := x0 i) Cert.Fox.bot_bits Cert.Fox.infinity_bits (congrFun h i))

/-- The weights of the recurrence and of its gates are real numbers. -/
theorem weights_real (h : (Cert.Pre_finite5.fn x0 x1 x2 x3 x4 x5 x6).2.1 = fun _ => 1#1) (e : Fin 1024) (d : Fin 3584) (hd : d.val < 2048) : IsReal (x1 (ix2 e d)) := by
  have k : x1 (ix2 e d) = extractStridedSlice Cert.Pre_finite5.S1024x2048 ![0, 0] x1 finite_facts.slices_S1024x3584_S1024x2048_0_0 (ix2 e ⟨d.val, hd⟩) := by
    refine congrArg x1 (funext fun a => Fin.ext ?_)
    match a with
    | ⟨0, _⟩ => show e.val = 0 + e.val; omega
    | ⟨1, _⟩ => show d.val = 0 + d.val; omega
  rw [k]
  exact isReal_of_ne (Cert.Fox.between Cert.Fox.bot_bits Cert.Fox.infinity_bits (congrFun h (ix2 e ⟨d.val, hd⟩)))

/-- The output gates' weights are real numbers. -/
theorem gate_weights_real (h : (Cert.Pre_finite5.fn x0 x1 x2 x3 x4 x5 x6).2.2.1 = fun _ => 1#1) (i : S1024x512.Idx) : IsReal (x2 i) :=
  isReal_of_ne (Cert.Fox.between (x := x2 i) Cert.Fox.bot_bits Cert.Fox.infinity_bits (congrFun h i))

/-- The lower bounds of the forget gates are not negative. -/
theorem bounds_nonneg (h : (Cert.Pre_finite5.fn x0 x1 x2 x3 x4 x5 x6).2.2.2 = fun _ => 1#1) (i : S1x512.Idx) : 0 ≤ x4 i :=
  nonneg (x := x4 i) zero_bits (congrFun h i)

end

section
variable {x : Tokens} {w : Weights} (hx : ∀ i, IsReal (x i)) (hw : ∀ e (d : Fin 3584), d.val < 2048 → IsReal (w (ix2 e d)))
include hx hw

/-- The projections onto the first 2048 columns are real numbers. -/
theorem proj_real (b : Fin 4) (s : Fin 8192) (d : ℕ) (hd : d < 2048) : IsReal (proj x w b s d) :=
  IsReal.sum fun e => (hx _).mul (hw e _ (by show d % 3584 < 2048; omega))

/-- The forget gates are positive real numbers where the bound is finite. -/
theorem fgate_real {lb : FVec Ideal S1x512 .f32} (hl : ∀ i, 0 ≤ lb i) (b : Fin 4) (s : Fin 8192) (d : Fin 512) (n : ¬lb (ix2 0 d) = ⊤) :
    ∃ r : ℝ, 0 < r ∧ fgate x w lb b s d = r := by
  obtain ⟨l, e⟩ := isReal_of_ne ⟨(lt_of_lt_of_le EReal.bot_lt_zero (hl (ix2 0 d))).ne', n⟩
  have hl0 : 0 ≤ l := EReal.coe_nonneg.mp (e ▸ hl (ix2 0 d))
  obtain ⟨z, hz⟩ := proj_real hx hw b s (512 + d.val) (by omega)
  have p := Real.exp_pos (-z)
  have hσ : 0 < (1 + Real.exp (-z))⁻¹ := by positivity
  have hσ1 : (1 + Real.exp (-z))⁻¹ ≤ 1 := inv_le_one_of_one_le₀ (by linarith)
  refine ⟨l + (1 - l) * (1 + Real.exp (-z))⁻¹, ?_, ?_⟩
  · nlinarith [mul_nonneg hl0 (sub_nonneg.mpr hσ1)]
  · unfold fgate
    rw [e, hz, sigmoid_eq, sigmoidH_real, EReal.coe_add, EReal.coe_mul, EReal.coe_sub, EReal.coe_one]

/-- The forget gates are minus infinity where the bound is infinite. -/
theorem fgate_bot {lb : FVec Ideal S1x512 .f32} (b : Fin 4) (s : Fin 8192) (d : Fin 512) (n : lb (ix2 0 d) = ⊤) : fgate x w lb b s d = ⊥ := by
  obtain ⟨z, hz⟩ := proj_real hx hw b s (512 + d.val) (by omega)
  have p := Real.exp_pos (-z)
  have hσ : 0 < (1 + Real.exp (-z))⁻¹ := by positivity
  unfold fgate
  rw [n, hz, sigmoid_eq, sigmoidH_real, show (1 : EReal) - ⊤ = ⊥ from rfl, EReal.bot_mul_coe_of_pos hσ, EReal.add_bot]

/-- With the precondition everything the recurrence reads is real numbers, but for the places with an infinite bound. -/
theorem realArgs {lb : FVec Ideal S1x512 .f32} (hl : ∀ i, 0 ≤ lb i) : RealArgs x w lb where
  q b s d := proj_real hx hw b s _ (by omega)
  l b s d := ⟨fun n => seq_coe (f := fun s d => Ideal.log (fgate x w lb b s d)) (by
      obtain ⟨r, hr, e⟩ := fgate_real hx hw hl b s d n
      exact ⟨Real.log r, (congrArg Ideal.log e).trans (if_neg (by linarith))⟩),
    fun n => by rw [fgate_bot hx hw b s d n]; rfl⟩
  z b n d e := by
    unfold seqK seq
    split_ifs with h
    · show (1 - fgate x w lb b ⟨n, h.1⟩ d).toReal = 0
      rw [fgate_bot hx hw b _ d e]; rfl
    · rfl
  k b s d n := seq_coe (f := fun s d => 1 - fgate x w lb b s d) (by
    obtain ⟨r, hr, e⟩ := fgate_real hx hw hl b s d n
    exact ⟨1 - r, (congrArg (fun z => 1 - z) e).trans (by rw [EReal.coe_sub, EReal.coe_one])⟩)
  v b s d := proj_real hx hw b s _ (by omega)

end

/-- The projections onto the output gates are real numbers. -/
theorem projB_real {x : Tokens} {w : FVec Ideal S1024x512 .bf16} (hx : ∀ i, IsReal (x i)) (hw : ∀ i, IsReal (w i)) (b : Fin 4) (s : Fin 8192) (d : ℕ) :
    IsReal (projB x w b s d) :=
  IsReal.sum fun _ => (hx _).mul (hw _)

end Cert.Hgrn
-- ==== Proof.Hgrn.RunA.lean ====
/-
  What the body leaves in its outputs and in its scratch buffers, in a sequence's first tile of 1024
  rows: the state it keeps and the rows of the recurrence.
-/
module

public import proofs.«01_k».proof.Proof.Hgrn.Tile
public import proofs.«01_k».proof.Proof.Hgrn.State

@[expose] public section

set_option maxRecDepth 16384

noncomputable section

open Idealize.ShloMosaic
open Cert.Kernel5Ideal Cert.Kernel5Ideal.Gen
open Cert.Inproj (dot half siluT sigmoidT)

namespace Cert.Hgrn.RunA

variable {c : Dev nD} {i : grid0.Coords} {ℓ Q K V : ℕ → ℕ → ℝ}
  {arg2 : Memref sig .tc .vmem S1x1024x1024 .f32} {harg2 : arg2.IsWhole}
  {arg3 : Memref sig .tc .vmem S1024x3584 .bf16} {harg3 : arg3.IsWhole}
  {arg4 : Memref sig .tc .vmem S1024x512 .bf16} {harg4 : arg4.IsWhole}
  {arg5 : Memref sig .tc .vmem S8x1024 .bf16} {harg5 : arg5.IsWhole}
  {arg6 : Memref sig .tc .vmem S1x512 .f32} {harg6 : arg6.IsWhole}
  {arg7 : Memref sig .tc .vmem S8x1024 .f32} {harg7 : arg7.IsWhole}
  {arg8 : Memref sig .tc .vmem S1x512 .f32} {harg8 : arg8.IsWhole}
  {arg9 : Memref sig .tc .vmem S1x1024x512 .bf16} {harg9 : arg9.IsWhole}
  {arg10 : Memref sig .tc .vmem S1x1024x512 .bf16} {harg10 : arg10.IsWhole}
  {arg11 : Memref sig .tc .vmem S1x1024x512 .bf16} {harg11 : arg11.IsWhole}
  {arg12 : Memref sig .tc .vmem S1x1024x512 .bf16} {harg12 : arg12.IsWhole}
  {arg13 : Memref sig .tc .vmem S1x1024x512 .bf16} {harg13 : arg13.IsWhole}
  {arg14 : Memref sig .tc .vmem S1x4x8x256 .f32} {harg14 : arg14.IsWhole}
  {arg15 : Memref sig .tc .vmem S8x128 .f32} {harg15 : arg15.IsWhole}
  {arg16 : Memref sig .tc .vmem S4x128x128 .f32} {harg16 : arg16.IsWhole}
  {arg17 : Memref sig .tc .vmem S1024x1024 .bf16} {harg17 : arg17.IsWhole}
  {arg18 : Memref sig .tc .vmem S1x1024x512 .bf16} {harg18 : arg18.IsWhole}
  {arg19 : Memref sig .tc .vmem S1x1024x512 .f32} {harg19 : arg19.IsWhole}
  {arg20 : Memref sig .tc .vmem S1x1024x512 .bf16} {harg20 : arg20.IsWhole}
  {arg21 : Memref sig .tc .vmem S1x1024x512 .bf16} {harg21 : arg21.IsWhole}
  {arg22 : Memref sig .tc .vmem S1x1024x512 .bf16} {harg22 : arg22.IsWhole}
  {x0 : Vec Ideal S1x1024x1024 .f32} {x1 : Vec Ideal S1024x3584 .bf16} {x2 : Vec Ideal S1024x512 .bf16} {x3 : Vec Ideal S8x1024 .bf16} {x4 : Vec Ideal S1x512 .f32} {x5 : Vec Ideal S8x1024 .f32} {x6 : Vec Ideal S1x512 .f32}

/-- The tokens the scratch buffer holds. -/
theorem tok (r e : Fin 1024) : kernelRun0_A.sl.v6 (F := Ideal) c arg2 harg2 arg17 x0 (ix2 r e) = (show EReal from x0 (ix3 0 r e)) :=
  load_kept harg2 x0 _ _ _ r e

section
variable {o1 o2 : ℕ} (inb : ∀ a, (![0, o1, o2] : Fin 3 → ℕ) a + S1x256x128.size a ≤ S1x1024x512.size a) (r : Fin 256) (d : Fin 128)

/-- The queries of a head's 256 rows. -/
theorem qs (H : Tile x0 x1 x4 ℓ Q K V 0) :
    arg18.view.readCov (kernelRun0_A.sl.HS3_1 c arg2 harg2 arg3 harg3 arg17 x0 x1) (Rect.unit (s := S1x1024x512) ![0, o1, o2] S1x256x128.size inb).toLoadRect (ix3 0 r d) = ((Q (0 + o1 + r.val) (o2 + d.val) : ℝ) : EReal) := by
  have h1 : o1 + 256 ≤ 1024 := inb 1
  have h2 : o2 + 128 ≤ 512 := inb 2
  have hr := r.isLt
  have hd := d.isLt
  refine (load_head _ [] _ inb r d (by omega) (by omega)).trans ?_
  refine (pay_q _ _ ⟨o1 + r.val, by omega⟩ ⟨o2 + d.val, by omega⟩).trans ?_
  exact (prod_512 harg3 tok x1 _ ⟨o1 + r.val, by omega⟩ ⟨o2 + d.val, by omega⟩ (by show 0 + (o2 + d.val) < 3584; omega)).trans ((congrArg (prod x0 x1 ⟨o1 + r.val, by omega⟩) (Nat.zero_add _)).trans ((H.q ⟨o1 + r.val, by omega⟩ ⟨o2 + d.val, by omega⟩).trans (by rw [Nat.add_assoc])))

/-- The values of a head's 256 rows. -/
theorem vs (H : Tile x0 x1 x4 ℓ Q K V 0) :
    arg21.view.readCov (kernelRun0_A.sl.HS6_1 c arg2 harg2 arg3 harg3 arg17 x0 x1) (Rect.unit (s := S1x1024x512) ![0, o1, o2] S1x256x128.size inb).toLoadRect (ix3 0 r d) = ((V (0 + o1 + r.val) (o2 + d.val) : ℝ) : EReal) := by
  have h1 : o1 + 256 ≤ 1024 := inb 1
  have h2 : o2 + 128 ≤ 512 := inb 2
  have hr := r.isLt
  have hd := d.isLt
  refine (load_head _ [] _ inb r d (by omega) (by omega)).trans ?_
  refine (pay_v _ _ ⟨o1 + r.val, by omega⟩ ⟨o2 + d.val, by omega⟩).trans ?_
  exact (prod_512 harg3 tok x1 _ ⟨o1 + r.val, by omega⟩ ⟨o2 + d.val, by omega⟩ (by show 1024 + (o2 + d.val) < 3584; omega)).trans ((H.v ⟨o1 + r.val, by omega⟩ ⟨o2 + d.val, by omega⟩).trans (by rw [Nat.add_assoc]))

/-- The output gates of a head's 256 rows. -/
theorem zs :
    arg22.view.readCov (kernelRun0_A.sl.HS7_1 c arg2 harg2 arg3 harg3 arg17 x0 x1) (Rect.unit (s := S1x1024x512) ![0, o1, o2] S1x256x128.size inb).toLoadRect (ix3 0 r d) = siluT (prod x0 x1 ⟨(o1 + r.val) % 1024, Nat.mod_lt _ (by decide)⟩ (1536 + (o2 + d.val))) := by
  have h1 : o1 + 256 ≤ 1024 := inb 1
  have h2 : o2 + 128 ≤ 512 := inb 2
  have hr := r.isLt
  have hd := d.isLt
  refine (load_head _ [] _ inb r d (by omega) (by omega)).trans ?_
  refine (pay_z _ _ ⟨o1 + r.val, by omega⟩ ⟨o2 + d.val, by omega⟩).trans ?_
  have e : (⟨(o1 + r.val) % 1024, Nat.mod_lt _ (by decide)⟩ : Fin 1024) = ⟨o1 + r.val, by omega⟩ := Fin.ext (Nat.mod_eq_of_lt (by omega))
  rw [e]
  exact congrArg siluT (prod_512 harg3 tok x1 _ ⟨o1 + r.val, by omega⟩ ⟨o2 + d.val, by omega⟩ (by show 1536 + (o2 + d.val) < 3584; omega))

/-- The keys of a head's 256 rows. -/
theorem ks (H : Tile x0 x1 x4 ℓ Q K V 0) (n : ¬x4 (ix2 0 ⟨o2 + d.val, lt_of_lt_of_le (Nat.add_lt_add_left d.isLt o2) (inb 2)⟩) = ⊤) :
    arg20.view.readCov (kernelRun0_A.sl.HS5_1 c arg2 harg2 arg3 harg3 arg6 harg6 arg17 x0 x1 x4) (Rect.unit (s := S1x1024x512) ![0, o1, o2] S1x256x128.size inb).toLoadRect (ix3 0 r d) = ((K (0 + o1 + r.val) (o2 + d.val) : ℝ) : EReal) := by
  have h1 : o1 + 256 ≤ 1024 := inb 1
  have h2 : o2 + 128 ≤ 512 := inb 2
  have hr := r.isLt
  have hd := d.isLt
  refine (load_head _ [] _ inb r d (by omega) (by omega)).trans ?_
  refine (pay_k _ _ ⟨o1 + r.val, by omega⟩ _ ⟨o2 + d.val, by omega⟩).trans ?_
  unfold kernelRun0_A.sl.r_7
  rw [load_bound]
  exact (congrArg (fun z => 1 - (x4 (ix2 0 ⟨o2 + d.val, by omega⟩) + (1 - x4 (ix2 0 ⟨o2 + d.val, by omega⟩)) * sigmoidT z)) (prod_512 harg3 tok x1 _ ⟨o1 + r.val, by omega⟩ ⟨o2 + d.val, by omega⟩ (by show 512 + (o2 + d.val) < 3584; omega))).trans ((H.k ⟨o1 + r.val, by omega⟩ ⟨o2 + d.val, by omega⟩ n).trans (by rw [Nat.add_assoc]))

end

/-- The logarithms of the forget gates of 256 rows. -/
theorem ls (H : Tile x0 x1 x4 ℓ Q K V 0) {o1 : ℕ} (inb : ∀ a, (![0, o1, 0] : Fin 3 → ℕ) a + S1x256x512.size a ≤ S1x1024x512.size a) (r : Fin 256) (d : Fin 512) :
    Lg (x4 (ix2 0 d) = ⊤) (arg19.view.readCov (kernelRun0_A.sl.HS4_1 c arg2 harg2 arg3 harg3 arg6 harg6 arg17 x0 x1 x4) (Rect.unit (s := S1x1024x512) ![0, o1, 0] S1x256x512.size inb).toLoadRect (ix3 0 r d)) (ℓ (0 + o1 + r.val) d.val) := by
  have h1 : o1 + 256 ≤ 1024 := inb 1
  have hr := r.isLt
  have hd := d.isLt
  have e : arg19.view.readCov (kernelRun0_A.sl.HS4_1 c arg2 harg2 arg3 harg3 arg6 harg6 arg17 x0 x1 x4) (Rect.unit (s := S1x1024x512) ![0, o1, 0] S1x256x512.size inb).toLoadRect (ix3 0 r d) = Ideal.log (forget x0 x1 x4 ⟨o1 + r.val, by omega⟩ ⟨0 + d.val, by omega⟩) := by
    refine (load_rows _ [] _ inb r d (by omega) (by omega)).trans ?_
    refine (pay_l _ _ ⟨o1 + r.val, by omega⟩ _ ⟨0 + d.val, by omega⟩).trans ?_
    unfold kernelRun0_A.sl.r_7
    rw [load_bound]
    exact congrArg (fun z => Ideal.log (x4 (ix2 0 ⟨0 + d.val, by omega⟩) + (1 - x4 (ix2 0 ⟨0 + d.val, by omega⟩)) * sigmoidT z)) (prod_512 harg3 tok x1 _ ⟨o1 + r.val, by omega⟩ ⟨0 + d.val, by omega⟩ (by show 512 + (0 + d.val) < 3584; omega))
  rw [e]
  simpa only [Nat.add_assoc, Nat.zero_add] using H.l ⟨o1 + r.val, by omega⟩ ⟨0 + d.val, by omega⟩

/-- The first head's state after 256 rows, when the next rows read it. -/
theorem at_0_0 (H : Tile x0 x1 x4 ℓ Q K V 0) :
    At ℓ K V (kernelRun0_A.sl.HS1_5 (F := Ideal) c arg2 harg2 arg3 harg3 arg6 harg6 arg16 arg17 arg19 arg20 arg21 x0 x1 x4) 0 (0 + 256) :=
  at_skip (h' := 3) (by decide) (at_skip (h' := 2) (by decide) (at_skip (h' := 1) (by decide) (at_store 0 rfl (fun j x => (headState_apply _ _ _ _ ℓ K V 0 (0 + 0) (by decide) (by decide) (ls H _) H.z (ks _ · · H) (vs _ · · H) (at_load 0 rfl at_zero) j x)))))

/-- The second head's state after 256 rows, when the next rows read it. -/
theorem at_0_1 (H : Tile x0 x1 x4 ℓ Q K V 0) :
    At ℓ K V (kernelRun0_A.sl.HS1_6 (F := Ideal) c arg2 harg2 arg3 harg3 arg6 harg6 arg16 arg17 arg19 arg20 arg21 x0 x1 x4) 1 (0 + 256) :=
  at_skip (h' := 0) (by decide) (at_skip (h' := 3) (by decide) (at_skip (h' := 2) (by decide) (at_store 1 rfl (fun j x => (headState_apply _ _ _ _ ℓ K V 1 (0 + 0) (by decide) (by decide) (ls H _) H.z (ks _ · · H) (vs _ · · H) (at_load 1 rfl (at_skip (h' := 0) (by decide) at_zero)) j x)))))

/-- The third head's state after 256 rows, when the next rows read it. -/
theorem at_0_2 (H : Tile x0 x1 x4 ℓ Q K V 0) :
    At ℓ K V (kernelRun0_A.sl.HS1_7 (F := Ideal) c arg2 harg2 arg3 harg3 arg6 harg6 arg16 arg17 arg19 arg20 arg21 x0 x1 x4) 2 (0 + 256) :=
  at_skip (h' := 1) (by decide) (at_skip (h' := 0) (by decide) (at_skip (h' := 3) (by decide) (at_store 2 rfl (fun j x => (headState_apply _ _ _ _ ℓ K V 2 (0 + 0) (by decide) (by decide) (ls H _) H.z (ks _ · · H) (vs _ · · H) (at_load 2 rfl (at_skip (h' := 1) (by decide) (at_skip (h' := 0) (by decide) at_zero))) j x)))))

/-- The fourth head's state after 256 rows, when the next rows read it. -/
theorem at_0_3 (H : Tile x0 x1 x4 ℓ Q K V 0) :
    At ℓ K V (kernelRun0_A.sl.HS1_8 (F := Ideal) c arg2 harg2 arg3 harg3 arg6 harg6 arg16 arg17 arg19 arg20 arg21 x0 x1 x4) 3 (0 + 256) :=
  at_skip (h' := 2) (by decide) (at_skip (h' := 1) (by decide) (at_skip (h' := 0) (by decide) (at_store 3 rfl (fun j x => (headState_apply _ _ _ _ ℓ K V 3 (0 + 0) (by decide) (by decide) (ls H _) H.z (ks _ · · H) (vs _ · · H) (at_load 3 rfl (at_skip (h' := 2) (by decide) (at_skip (h' := 1) (by decide) (at_skip (h' := 0) (by decide) at_zero)))) j x)))))

/-- The first head's state after 512 rows, when the next rows read it. -/
theorem at_1_0 (H : Tile x0 x1 x4 ℓ Q K V 0) :
    At ℓ K V (kernelRun0_A.sl.HS1_9 (F := Ideal) c arg2 harg2 arg3 harg3 arg6 harg6 arg16 arg17 arg19 arg20 arg21 x0 x1 x4) 0 (0 + 512) :=
  at_skip (h' := 3) (by decide) (at_skip (h' := 2) (by decide) (at_skip (h' := 1) (by decide) (at_store 0 rfl (fun j x => (headState_apply _ _ _ _ ℓ K V 0 (0 + 256) (by decide) (by decide) (ls H _) H.z (ks _ · · H) (vs _ · · H) (at_load 0 rfl (at_0_0 H)) j x)))))

/-- The second head's state after 512 rows, when the next rows read it. -/
theorem at_1_1 (H : Tile x0 x1 x4 ℓ Q K V 0) :
    At ℓ K V (kernelRun0_A.sl.HS1_10 (F := Ideal) c arg2 harg2 arg3 harg3 arg6 harg6 arg16 arg17 arg19 arg20 arg21 x0 x1 x4) 1 (0 + 512) :=
  at_skip (h' := 0) (by decide) (at_skip (h' := 3) (by decide) (at_skip (h' := 2) (by decide) (at_store 1 rfl (fun j x => (headState_apply _ _ _ _ ℓ K V 1 (0 + 256) (by decide) (by decide) (ls H _) H.z (ks _ · · H) (vs _ · · H) (at_load 1 rfl (at_0_1 H)) j x)))))

/-- The third head's state after 512 rows, when the next rows read it. -/
theorem at_1_2 (H : Tile x0 x1 x4 ℓ Q K V 0) :
    At ℓ K V (kernelRun0_A.sl.HS1_11 (F := Ideal) c arg2 harg2 arg3 harg3 arg6 harg6 arg16 arg17 arg19 arg20 arg21 x0 x1 x4) 2 (0 + 512) :=
  at_skip (h' := 1) (by decide) (at_skip (h' := 0) (by decide) (at_skip (h' := 3) (by decide) (at_store 2 rfl (fun j x => (headState_apply _ _ _ _ ℓ K V 2 (0 + 256) (by decide) (by decide) (ls H _) H.z (ks _ · · H) (vs _ · · H) (at_load 2 rfl (at_0_2 H)) j x)))))

/-- The fourth head's state after 512 rows, when the next rows read it. -/
theorem at_1_3 (H : Tile x0 x1 x4 ℓ Q K V 0) :
    At ℓ K V (kernelRun0_A.sl.HS1_12 (F := Ideal) c arg2 harg2 arg3 harg3 arg6 harg6 arg16 arg17 arg19 arg20 arg21 x0 x1 x4) 3 (0 + 512) :=
  at_skip (h' := 2) (by decide) (at_skip (h' := 1) (by decide) (at_skip (h' := 0) (by decide) (at_store 3 rfl (fun j x => (headState_apply _ _ _ _ ℓ K V 3 (0 + 256) (by decide) (by decide) (ls H _) H.z (ks _ · · H) (vs _ · · H) (at_load 3 rfl (at_0_3 H)) j x)))))

/-- The first head's state after 768 rows, when the next rows read it. -/
theorem at_2_0 (H : Tile x0 x1 x4 ℓ Q K V 0) :
    At ℓ K V (kernelRun0_A.sl.HS1_13 (F := Ideal) c arg2 harg2 arg3 harg3 arg6 harg6 arg16 arg17 arg19 arg20 arg21 x0 x1 x4) 0 (0 + 768) :=
  at_skip (h' := 3) (by decide) (at_skip (h' := 2) (by decide) (at_skip (h' := 1) (by decide) (at_store 0 rfl (fun j x => (headState_apply _ _ _ _ ℓ K V 0 (0 + 512) (by decide) (by decide) (ls H _) H.z (ks _ · · H) (vs _ · · H) (at_load 0 rfl (at_1_0 H)) j x)))))

/-- The second head's state after 768 rows, when the next rows read it. -/
theorem at_2_1 (H : Tile x0 x1 x4 ℓ Q K V 0) :
    At ℓ K V (kernelRun0_A.sl.HS1_14 (F := Ideal) c arg2 harg2 arg3 harg3 arg6 harg6 arg16 arg17 arg19 arg20 arg21 x0 x1 x4) 1 (0 + 768) :=
  at_skip (h' := 0) (by decide) (at_skip (h' := 3) (by decide) (at_skip (h' := 2) (by decide) (at_store 1 rfl (fun j x => (headState_apply _ _ _ _ ℓ K V 1 (0 + 512) (by decide) (by decide) (ls H _) H.z (ks _ · · H) (vs _ · · H) (at_load 1 rfl (at_1_1 H)) j x)))))

/-- The third head's state after 768 rows, when the next rows read it. -/
theorem at_2_2 (H : Tile x0 x1 x4 ℓ Q K V 0) :
    At ℓ K V (kernelRun0_A.sl.HS1_15 (F := Ideal) c arg2 harg2 arg3 harg3 arg6 harg6 arg16 arg17 arg19 arg20 arg21 x0 x1 x4) 2 (0 + 768) :=
  at_skip (h' := 1) (by decide) (at_skip (h' := 0) (by decide) (at_skip (h' := 3) (by decide) (at_store 2 rfl (fun j x => (headState_apply _ _ _ _ ℓ K V 2 (0 + 512) (by decide) (by decide) (ls H _) H.z (ks _ · · H) (vs _ · · H) (at_load 2 rfl (at_1_2 H)) j x)))))

/-- The fourth head's state after 768 rows, when the next rows read it. -/
theorem at_2_3 (H : Tile x0 x1 x4 ℓ Q K V 0) :
    At ℓ K V (kernelRun0_A.sl.HS1_16 (F := Ideal) c arg2 harg2 arg3 harg3 arg6 harg6 arg16 arg17 arg19 arg20 arg21 x0 x1 x4) 3 (0 + 768) :=
  at_skip (h' := 2) (by decide) (at_skip (h' := 1) (by decide) (at_skip (h' := 0) (by decide) (at_store 3 rfl (fun j x => (headState_apply _ _ _ _ ℓ K V 3 (0 + 512) (by decide) (by decide) (ls H _) H.z (ks _ · · H) (vs _ · · H) (at_load 3 rfl (at_1_3 H)) j x)))))

/-- The first head's state after all 1024 rows. -/
theorem at_3_0 (H : Tile x0 x1 x4 ℓ Q K V 0) :
    At ℓ K V (⟨Rect.unit ![3, 0, 0] S1x128x128.size inb_S4x128x128_S1x128x128_3_0_0, k0_pay486 (F := Ideal) (kernelRun0_A.sl.r_252 c arg2 harg2 arg3 harg3 arg17 arg21 x0 x1) (kernelRun0_A.sl.r_254 c arg2 harg2 arg3 harg3 arg6 harg6 arg17 arg19 arg20 x0 x1 x4) (kernelRun0_A.sl.r_255 c arg2 harg2 arg3 harg3 arg6 harg6 arg17 arg19 x0 x1 x4) (kernelRun0_A.sl.v2434 c arg2 harg2 arg3 harg3 arg6 harg6 arg16 arg17 arg19 arg20 arg21 x0 x1 x4)⟩
      :: kernelRun0_A.sl.HS1_16 (F := Ideal) c arg2 harg2 arg3 harg3 arg6 harg6 arg16 arg17 arg19 arg20 arg21 x0 x1 x4) 0 (0 + 1024) :=
  at_skip (h' := 3) (by decide) (at_skip (h' := 2) (by decide) (at_skip (h' := 1) (by decide) (at_store 0 rfl (fun j x => (headState_apply _ _ _ _ ℓ K V 0 (0 + 768) (by decide) (by decide) (ls H _) H.z (ks _ · · H) (vs _ · · H) (at_load 0 rfl (at_2_0 H)) j x)))))

/-- The second head's state after all 1024 rows. -/
theorem at_3_1 (H : Tile x0 x1 x4 ℓ Q K V 0) :
    At ℓ K V (⟨Rect.unit ![3, 0, 0] S1x128x128.size inb_S4x128x128_S1x128x128_3_0_0, k0_pay486 (F := Ideal) (kernelRun0_A.sl.r_252 c arg2 harg2 arg3 harg3 arg17 arg21 x0 x1) (kernelRun0_A.sl.r_254 c arg2 harg2 arg3 harg3 arg6 harg6 arg17 arg19 arg20 x0 x1 x4) (kernelRun0_A.sl.r_255 c arg2 harg2 arg3 harg3 arg6 harg6 arg17 arg19 x0 x1 x4) (kernelRun0_A.sl.v2434 c arg2 harg2 arg3 harg3 arg6 harg6 arg16 arg17 arg19 arg20 arg21 x0 x1 x4)⟩
      :: kernelRun0_A.sl.HS1_16 (F := Ideal) c arg2 harg2 arg3 harg3 arg6 harg6 arg16 arg17 arg19 arg20 arg21 x0 x1 x4) 1 (0 + 1024) :=
  at_skip (h' := 3) (by decide) (at_skip (h' := 2) (by decide) (at_store 1 rfl (fun j x => (headState_apply _ _ _ _ ℓ K V 1 (0 + 768) (by decide) (by decide) (ls H _) H.z (ks _ · · H) (vs _ · · H) (at_load 1 rfl (at_2_1 H)) j x))))

/-- The third head's state after all 1024 rows. -/
theorem at_3_2 (H : Tile x0 x1 x4 ℓ Q K V 0) :
    At ℓ K V (⟨Rect.unit ![3, 0, 0] S1x128x128.size inb_S4x128x128_S1x128x128_3_0_0, k0_pay486 (F := Ideal) (kernelRun0_A.sl.r_252 c arg2 harg2 arg3 harg3 arg17 arg21 x0 x1) (kernelRun0_A.sl.r_254 c arg2 harg2 arg3 harg3 arg6 harg6 arg17 arg19 arg20 x0 x1 x4) (kernelRun0_A.sl.r_255 c arg2 harg2 arg3 harg3 arg6 harg6 arg17 arg19 x0 x1 x4) (kernelRun0_A.sl.v2434 c arg2 harg2 arg3 harg3 arg6 harg6 arg16 arg17 arg19 arg20 arg21 x0 x1 x4)⟩
      :: kernelRun0_A.sl.HS1_16 (F := Ideal) c arg2 harg2 arg3 harg3 arg6 harg6 arg16 arg17 arg19 arg20 arg21 x0 x1 x4) 2 (0 + 1024) :=
  at_skip (h' := 3) (by decide) (at_store 2 rfl (fun j x => (headState_apply _ _ _ _ ℓ K V 2 (0 + 768) (by decide) (by decide) (ls H _) H.z (ks _ · · H) (vs _ · · H) (at_load 2 rfl (at_2_2 H)) j x)))

/-- The fourth head's state after all 1024 rows. -/
theorem at_3_3 (H : Tile x0 x1 x4 ℓ Q K V 0) :
    At ℓ K V (⟨Rect.unit ![3, 0, 0] S1x128x128.size inb_S4x128x128_S1x128x128_3_0_0, k0_pay486 (F := Ideal) (kernelRun0_A.sl.r_252 c arg2 harg2 arg3 harg3 arg17 arg21 x0 x1) (kernelRun0_A.sl.r_254 c arg2 harg2 arg3 harg3 arg6 harg6 arg17 arg19 arg20 x0 x1 x4) (kernelRun0_A.sl.r_255 c arg2 harg2 arg3 harg3 arg6 harg6 arg17 arg19 x0 x1 x4) (kernelRun0_A.sl.v2434 c arg2 harg2 arg3 harg3 arg6 harg6 arg16 arg17 arg19 arg20 arg21 x0 x1 x4)⟩
      :: kernelRun0_A.sl.HS1_16 (F := Ideal) c arg2 harg2 arg3 harg3 arg6 harg6 arg16 arg17 arg19 arg20 arg21 x0 x1 x4) 3 (0 + 1024) :=
  at_store 3 rfl (fun j x => (headState_apply _ _ _ _ ℓ K V 3 (0 + 768) (by decide) (by decide) (ls H _) H.z (ks _ · · H) (vs _ · · H) (at_load 3 rfl (at_2_3 H)) j x))

/-- The four heads' states after the tile. -/
theorem states (hc0 : cond0_0 i) (H : Tile x0 x1 x4 ℓ Q K V 0) (h : Fin 4) (j x : Fin 128) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix3 h j x) = ((stateW ℓ K V h.val (0 + 1024) j.val x.val : ℝ) : EReal) := by
  unfold sout0_A_1 kernelRun0_A
  refine (View.read_writes_junk_apply_eq_canon _ _ _).trans ?_
  exact at_four (at_3_0 H) (at_3_1 H) (at_3_2 H) (at_3_3 H) h j x

set_option maxHeartbeats 4000000 in
/-- The block of the first layer's output. -/
theorem rows (hc0 : cond0_0 i) (H : Tile x0 x1 x4 ℓ Q K V 0) (r : Fin 1024) (d : Fin 512) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix3 0 r d) = hgRow x0 x1 x6 ℓ Q K V 0 r d := by
  have hc := cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix3 0 r d)
  revert hc
  unfold out0_A_7 kernelRun0_A
  intro hc
  refine (View.read_writes_junk_apply_eq_canon _ _ _).trans ?_
  refine View.canon_append_of_piecesOf (fun i : S1x1024x512.Idx => hgRow x0 x1 x6 ℓ Q K V 0 (i 1) (i 2)) [] _ ?_ _ hc
  refine ⟨?_, ?_, ?_, ?_, ?_, ?_, ?_, ?_, ?_, ?_, ?_, ?_, ?_, ?_, ?_, ?_, trivial⟩
  · exact hgRow_eq (o1 := 768) (o2 := 384) 3 rfl (by decide) (fun r j => (headOut_apply _ _ _ _ _ _ _ ℓ Q K V 3 (0 + 768) (by decide) (by decide) (ls H _) H.z (qs _ · · H) (ks _ · · H) (vs _ · · H) (at_load 3 rfl (at_2_3 H)) r j))
      (load_norm harg8 x6 _) (fun r j hr _ => row_zs hr (zs _ r j))
  · exact hgRow_eq (o1 := 768) (o2 := 256) 2 rfl (by decide) (fun r j => (headOut_apply _ _ _ _ _ _ _ ℓ Q K V 2 (0 + 768) (by decide) (by decide) (ls H _) H.z (qs _ · · H) (ks _ · · H) (vs _ · · H) (at_load 2 rfl (at_2_2 H)) r j))
      (load_norm harg8 x6 _) (fun r j hr _ => row_zs hr (zs _ r j))
  · exact hgRow_eq (o1 := 768) (o2 := 128) 1 rfl (by decide) (fun r j => (headOut_apply _ _ _ _ _ _ _ ℓ Q K V 1 (0 + 768) (by decide) (by decide) (ls H _) H.z (qs _ · · H) (ks _ · · H) (vs _ · · H) (at_load 1 rfl (at_2_1 H)) r j))
      (load_norm harg8 x6 _) (fun r j hr _ => row_zs hr (zs _ r j))
  · exact hgRow_eq (o1 := 768) (o2 := 0) 0 rfl (by decide) (fun r j => (headOut_apply _ _ _ _ _ _ _ ℓ Q K V 0 (0 + 768) (by decide) (by decide) (ls H _) H.z (qs _ · · H) (ks _ · · H) (vs _ · · H) (at_load 0 rfl (at_2_0 H)) r j))
      (load_norm harg8 x6 _) (fun r j hr _ => row_zs hr (zs _ r j))
  · exact hgRow_eq (o1 := 512) (o2 := 384) 3 rfl (by decide) (fun r j => (headOut_apply _ _ _ _ _ _ _ ℓ Q K V 3 (0 + 512) (by decide) (by decide) (ls H _) H.z (qs _ · · H) (ks _ · · H) (vs _ · · H) (at_load 3 rfl (at_1_3 H)) r j))
      (load_norm harg8 x6 _) (fun r j hr _ => row_zs hr (zs _ r j))
  · exact hgRow_eq (o1 := 512) (o2 := 256) 2 rfl (by decide) (fun r j => (headOut_apply _ _ _ _ _ _ _ ℓ Q K V 2 (0 + 512) (by decide) (by decide) (ls H _) H.z (qs _ · · H) (ks _ · · H) (vs _ · · H) (at_load 2 rfl (at_1_2 H)) r j))
      (load_norm harg8 x6 _) (fun r j hr _ => row_zs hr (zs _ r j))
  · exact hgRow_eq (o1 := 512) (o2 := 128) 1 rfl (by decide) (fun r j => (headOut_apply _ _ _ _ _ _ _ ℓ Q K V 1 (0 + 512) (by decide) (by decide) (ls H _) H.z (qs _ · · H) (ks _ · · H) (vs _ · · H) (at_load 1 rfl (at_1_1 H)) r j))
      (load_norm harg8 x6 _) (fun r j hr _ => row_zs hr (zs _ r j))
  · exact hgRow_eq (o1 := 512) (o2 := 0) 0 rfl (by decide) (fun r j => (headOut_apply _ _ _ _ _ _ _ ℓ Q K V 0 (0 + 512) (by decide) (by decide) (ls H _) H.z (qs _ · · H) (ks _ · · H) (vs _ · · H) (at_load 0 rfl (at_1_0 H)) r j))
      (load_norm harg8 x6 _) (fun r j hr _ => row_zs hr (zs _ r j))
  · exact hgRow_eq (o1 := 256) (o2 := 384) 3 rfl (by decide) (fun r j => (headOut_apply _ _ _ _ _ _ _ ℓ Q K V 3 (0 + 256) (by decide) (by decide) (ls H _) H.z (qs _ · · H) (ks _ · · H) (vs _ · · H) (at_load 3 rfl (at_0_3 H)) r j))
      (load_norm harg8 x6 _) (fun r j hr _ => row_zs hr (zs _ r j))
  · exact hgRow_eq (o1 := 256) (o2 := 256) 2 rfl (by decide) (fun r j => (headOut_apply _ _ _ _ _ _ _ ℓ Q K V 2 (0 + 256) (by decide) (by decide) (ls H _) H.z (qs _ · · H) (ks _ · · H) (vs _ · · H) (at_load 2 rfl (at_0_2 H)) r j))
      (load_norm harg8 x6 _) (fun r j hr _ => row_zs hr (zs _ r j))
  · exact hgRow_eq (o1 := 256) (o2 := 128) 1 rfl (by decide) (fun r j => (headOut_apply _ _ _ _ _ _ _ ℓ Q K V 1 (0 + 256) (by decide) (by decide) (ls H _) H.z (qs _ · · H) (ks _ · · H) (vs _ · · H) (at_load 1 rfl (at_0_1 H)) r j))
      (load_norm harg8 x6 _) (fun r j hr _ => row_zs hr (zs _ r j))
  · exact hgRow_eq (o1 := 256) (o2 := 0) 0 rfl (by decide) (fun r j => (headOut_apply _ _ _ _ _ _ _ ℓ Q K V 0 (0 + 256) (by decide) (by decide) (ls H _) H.z (qs _ · · H) (ks _ · · H) (vs _ · · H) (at_load 0 rfl (at_0_0 H)) r j))
      (load_norm harg8 x6 _) (fun r j hr _ => row_zs hr (zs _ r j))
  · exact hgRow_eq (o1 := 0) (o2 := 384) 3 rfl (by decide) (fun r j => (headOut_apply _ _ _ _ _ _ _ ℓ Q K V 3 (0 + 0) (by decide) (by decide) (ls H _) H.z (qs _ · · H) (ks _ · · H) (vs _ · · H) (at_load 3 rfl (at_skip (h' := 2) (by decide) (at_skip (h' := 1) (by decide) (at_skip (h' := 0) (by decide) at_zero)))) r j))
      (load_norm harg8 x6 _) (fun r j hr _ => row_zs hr (zs _ r j))
  · exact hgRow_eq (o1 := 0) (o2 := 256) 2 rfl (by decide) (fun r j => (headOut_apply _ _ _ _ _ _ _ ℓ Q K V 2 (0 + 0) (by decide) (by decide) (ls H _) H.z (qs _ · · H) (ks _ · · H) (vs _ · · H) (at_load 2 rfl (at_skip (h' := 1) (by decide) (at_skip (h' := 0) (by decide) at_zero))) r j))
      (load_norm harg8 x6 _) (fun r j hr _ => row_zs hr (zs _ r j))
  · exact hgRow_eq (o1 := 0) (o2 := 128) 1 rfl (by decide) (fun r j => (headOut_apply _ _ _ _ _ _ _ ℓ Q K V 1 (0 + 0) (by decide) (by decide) (ls H _) H.z (qs _ · · H) (ks _ · · H) (vs _ · · H) (at_load 1 rfl (at_skip (h' := 0) (by decide) at_zero)) r j))
      (load_norm harg8 x6 _) (fun r j hr _ => row_zs hr (zs _ r j))
  · exact hgRow_eq (o1 := 0) (o2 := 0) 0 rfl (by decide) (fun r j => (headOut_apply _ _ _ _ _ _ _ ℓ Q K V 0 (0 + 0) (by decide) (by decide) (ls H _) H.z (qs _ · · H) (ks _ · · H) (vs _ · · H) (at_load 0 rfl at_zero) r j))
      (load_norm harg8 x6 _) (fun r j hr _ => row_zs hr (zs _ r j))

end Cert.Hgrn.RunA
-- ==== Proof.Hgrn.Pieces.lean ====
/-
  The stores of the products and of the running sums, as parts of their blocks.
-/
module

public import proofs.«01_k».proof.Proof.Hgrn.State
public import proofs.«01_k».proof.Proof.Hgrn.Scan

@[expose] public section

set_option maxRecDepth 16384

noncomputable section

open Idealize.ShloMosaic
open Cert.Kernel5Ideal Cert.Kernel5Ideal.Gen

namespace Cert.Hgrn

/-- A store of 256 columns is a part of the block. -/
theorem part_eq {p : Vec Ideal S1x1024x256 .bf16} {c0 : ℕ} (G : Fin 1024 → ℕ → EReal)
    (inb : ∀ a, (![0, 0, c0] : Fin 3 → ℕ) a + S1x1024x256.size a ≤ S1x1024x512.size a)
    (hp : ∀ (r : Fin 1024) (d : Fin 256), c0 + d.val < 512 → p (ix3 0 r d) = G r (c0 + d.val)) :
    ∀ y : (Rect.unit (s := S1x1024x512) ![0, 0, c0] S1x1024x256.size inb).shape.Idx,
      p y = (fun i : S1x1024x512.Idx => G (i 1) (i 2).val) ((Rect.unit (s := S1x1024x512) ![0, 0, c0] S1x1024x256.size inb).emb y) := fun y => by
  have h2 : c0 + 256 ≤ 512 := inb 2
  obtain ⟨b, r, d, rfl⟩ : ∃ (b : Fin 1) (r : Fin 1024) (d : Fin 256), y = ix3 b r d := ⟨y 0, y 1, y 2, eq_ix3 y⟩
  have hb : b = 0 := Subsingleton.elim _ _
  have hd := d.isLt
  rw [hb, hp r d (by omega)]
  have e1 : r = (Rect.unit (s := S1x1024x512) ![0, 0, c0] S1x1024x256.size inb).emb (ix3 0 r d) 1 := Fin.ext (show r.val = 0 + 1 * r.val by omega)
  have e2 : c0 + d.val = ((Rect.unit (s := S1x1024x512) ![0, 0, c0] S1x1024x256.size inb).emb (ix3 0 r d) 2).val := show c0 + d.val = c0 + 1 * d.val by omega
  dsimp only
  rw [← e1, ← e2]

/-- A store of a quarter of the running sums is a part of the block. -/
theorem quarter_eq {p : Vec Ideal S1x1x8x256 .f32} {j : ℕ} (G : Fin 8 → ℕ → EReal)
    (inb : ∀ a, (![0, j, 0, 0] : Fin 4 → ℕ) a + S1x1x8x256.size a ≤ S1x4x8x256.size a)
    (hp : ∀ (g : Fin 8) (l : Fin 256), 256 * j + l.val < 1024 → p (ix4 0 0 g l) = G g (256 * j + l.val)) :
    ∀ y : (Rect.unit (s := S1x4x8x256) ![0, j, 0, 0] S1x1x8x256.size inb).shape.Idx,
      p y = (fun i : S1x4x8x256.Idx => G (i 2) (256 * (i 1).val + (i 3).val)) ((Rect.unit (s := S1x4x8x256) ![0, j, 0, 0] S1x1x8x256.size inb).emb y) := fun y => by
  have h1 : j + 1 ≤ 4 := inb 1
  obtain ⟨b, z, g, l, rfl⟩ : ∃ (b z : Fin 1) (g : Fin 8) (l : Fin 256), y = ix4 b z g l := ⟨y 0, y 1, y 2, y 3, eq_ix4 y⟩
  have hb : b = 0 := Subsingleton.elim _ _
  have hz : z = 0 := Subsingleton.elim _ _
  have hl := l.isLt
  rw [hb, hz, hp g l (by omega)]
  have e1 : g = (Rect.unit (s := S1x4x8x256) ![0, j, 0, 0] S1x1x8x256.size inb).emb (ix4 0 0 g l) 2 := Fin.ext (show g.val = 0 + 1 * g.val by omega)
  have e2 : 256 * j + l.val = 256 * ((Rect.unit (s := S1x4x8x256) ![0, j, 0, 0] S1x1x8x256.size inb).emb (ix4 0 0 g l) 1).val
      + ((Rect.unit (s := S1x4x8x256) ![0, j, 0, 0] S1x1x8x256.size inb).emb (ix4 0 0 g l) 3).val := show 256 * j + l.val = 256 * (j + 1 * 0) + (0 + 1 * l.val) by omega
  dsimp only
  rw [← e1, ← e2]

/-- A load of the sums of the tiles before. -/
theorem load_carry {m : Memref sig .tc .vmem S8x128 .f32} (h : m.IsWhole) (x : Vec Ideal S8x128 .f32)
    (inb : ∀ a, (![0, 0] : Fin 2 → ℕ) a + S8x1.size a ≤ S8x128.size a) (g : Fin 8) :
    View.readAt (Elt Ideal) m.view (Rect.unit (s := S8x128) ![0, 0] S8x1.size inb).toLoadRect (h.unread x) (ix2 g 0) = x (ix2 g 0) := by
  rw [View.readAt_apply, h.read_unread]
  refine congrArg x (funext fun a => Fin.ext ?_)
  match a with
  | ⟨0, _⟩ => show 0 + 1 * g.val = g.val; omega
  | ⟨1, _⟩ => rfl

/-- A load of the sums before the first tile. -/
theorem load_zero {m : Memref sig .tc .vmem S8x128 .f32} (inb : ∀ a, (![0, 0] : Fin 2 → ℕ) a + S8x128.size a ≤ S8x128.size a)
    (inb' : ∀ a, (![0, 0] : Fin 2 → ℕ) a + S8x1.size a ≤ S8x128.size a) (g : Fin 8) :
    m.view.readCov (Val := Elt Ideal) [⟨Rect.unit ![0, 0] S8x128.size inb, k0_pay5 (F := Ideal)⟩] (Rect.unit (s := S8x128) ![0, 0] S8x1.size inb').toLoadRect (ix2 g 0)
      = (0 : EReal) := by
  have e0 := View.readCov_fill (Val := Elt Ideal) m.view inb (k0_pay5 (F := Ideal)) [] (Rect.unit (s := S8x128) ![0, 0] S8x1.size inb')
    fun a => by match a with | ⟨0, _⟩ => rfl | ⟨1, _⟩ => rfl
  rw [e0]
  show k0_pay5 (F := Ideal) _ = _
  generalize (Rect.unit (s := S8x128) ![0, 0] S8x1.size inb').idx (ix2 g 0) = i
  obtain ⟨a, b, rfl⟩ : ∃ (a : Fin 8) (b : Fin 128), i = ix2 a b := ⟨i 0, i 1, eq_ix2 i⟩
  pointwise [k0_pay5]

/-- The sums that are kept fill their buffer. -/
theorem carry_eq {p : Vec Ideal S8x128 .f32} {L : List (View.Piece (Elt Ideal) S8x128 .f32)}
    (inb : ∀ a, (![0, 0] : Fin 2 → ℕ) a + S8x128.size a ≤ S8x128.size a) : View.canon (⟨Rect.unit ![0, 0] S8x128.size inb, p⟩ :: L) = p := by
  rw [View.canon_cons_unit_lit inb _ _ (fun a => by match a with | ⟨0, _⟩ => rfl | ⟨1, _⟩ => rfl)]

end Cert.Hgrn
-- ==== Proof.Hgrn.OutA.lean ====
/-
  What the body leaves in its outputs, in a sequence's first tile of 1024 rows: the attention's queries, keys,
  values and gate, and the forget gates' running sums.
-/
module

public import proofs.«01_k».proof.Proof.Hgrn.RunA
public import proofs.«01_k».proof.Proof.Hgrn.Pieces

@[expose] public section

set_option maxRecDepth 16384

noncomputable section

open Idealize.ShloMosaic
open Cert.Kernel5Ideal Cert.Kernel5Ideal.Gen
open Cert.Inproj (dot half siluT sigmoidT)

namespace Cert.Hgrn.RunA

variable {c : Dev nD} {i : grid0.Coords}
  {arg2 : Memref sig .tc .vmem S1x1024x1024 .f32} {harg2 : arg2.IsWhole}
  {arg3 : Memref sig .tc .vmem S1024x3584 .bf16} {harg3 : arg3.IsWhole}
  {arg4 : Memref sig .tc .vmem S1024x512 .bf16} {harg4 : arg4.IsWhole}
  {arg5 : Memref sig .tc .vmem S8x1024 .bf16} {harg5 : arg5.IsWhole}
  {arg6 : Memref sig .tc .vmem S1x512 .f32} {harg6 : arg6.IsWhole}
  {arg7 : Memref sig .tc .vmem S8x1024 .f32} {harg7 : arg7.IsWhole}
  {arg8 : Memref sig .tc .vmem S1x512 .f32} {harg8 : arg8.IsWhole}
  {arg9 : Memref sig .tc .vmem S1x1024x512 .bf16} {harg9 : arg9.IsWhole}
  {arg10 : Memref sig .tc .vmem S1x1024x512 .bf16} {harg10 : arg10.IsWhole}
  {arg11 : Memref sig .tc .vmem S1x1024x512 .bf16} {harg11 : arg11.IsWhole}
  {arg12 : Memref sig .tc .vmem S1x1024x512 .bf16} {harg12 : arg12.IsWhole}
  {arg13 : Memref sig .tc .vmem S1x1024x512 .bf16} {harg13 : arg13.IsWhole}
  {arg14 : Memref sig .tc .vmem S1x4x8x256 .f32} {harg14 : arg14.IsWhole}
  {arg15 : Memref sig .tc .vmem S8x128 .f32} {harg15 : arg15.IsWhole}
  {arg16 : Memref sig .tc .vmem S4x128x128 .f32} {harg16 : arg16.IsWhole}
  {arg17 : Memref sig .tc .vmem S1024x1024 .bf16} {harg17 : arg17.IsWhole}
  {arg18 : Memref sig .tc .vmem S1x1024x512 .bf16} {harg18 : arg18.IsWhole}
  {arg19 : Memref sig .tc .vmem S1x1024x512 .f32} {harg19 : arg19.IsWhole}
  {arg20 : Memref sig .tc .vmem S1x1024x512 .bf16} {harg20 : arg20.IsWhole}
  {arg21 : Memref sig .tc .vmem S1x1024x512 .bf16} {harg21 : arg21.IsWhole}
  {arg22 : Memref sig .tc .vmem S1x1024x512 .bf16} {harg22 : arg22.IsWhole}
  {x0 : Vec Ideal S1x1024x1024 .f32} {x1 : Vec Ideal S1024x3584 .bf16} {x2 : Vec Ideal S1024x512 .bf16} {x3 : Vec Ideal S8x1024 .bf16} {x4 : Vec Ideal S1x512 .f32} {x5 : Vec Ideal S8x1024 .f32} {x6 : Vec Ideal S1x512 .f32}

/-- The queries. -/
theorem queries (hc0 : cond0_0 i) (r : Fin 1024) (d : Fin 512) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix3 0 r d) = prod x0 x1 r (2048 + d.val) * qScale := by
  have hc := cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix3 0 r d)
  revert hc
  unfold out0_A_8 kernelRun0_A
  intro hc
  refine (View.read_writes_junk_apply_eq_canon _ _ _).trans ?_
  refine View.canon_append_of_piecesOf (fun i : S1x1024x512.Idx => (fun (r : Fin 1024) (m : ℕ) => prod x0 x1 r (2048 + m) * qScale) (i 1) (i 2).val) [] _ ?_ _ hc
  refine ⟨?_, ?_, trivial⟩
  · exact part_eq (c0 := 256) (fun (r : Fin 1024) (m : ℕ) => prod x0 x1 r (2048 + m) * qScale) (by decide) (fun r d _ => (pay_fq1 _ _ r d).trans ((congrArg (· * qScale) (prod_256 harg3 tok x1 _ r d (by omega))).trans (congrArg (fun n => prod x0 x1 r n * qScale) (Nat.add_assoc 2048 256 d.val))))
  · exact part_eq (c0 := 0) (fun (r : Fin 1024) (m : ℕ) => prod x0 x1 r (2048 + m) * qScale) (by decide) (fun r d _ => (pay_fq0 _ _ r d).trans ((congrArg (· * qScale) (prod_256 harg3 tok x1 _ r d (by omega))).trans (congrArg (fun n => prod x0 x1 r n * qScale) (show 2048 + d.val = 2048 + (0 + d.val) by omega))))

/-- The keys. -/
theorem keys (hc0 : cond0_0 i) (r : Fin 1024) (d : Fin 512) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix3 0 r d) = prod x0 x1 r (2560 + d.val) := by
  have hc := cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix3 0 r d)
  revert hc
  unfold out0_A_9 kernelRun0_A
  intro hc
  refine (View.read_writes_junk_apply_eq_canon _ _ _).trans ?_
  refine View.canon_append_of_piecesOf (fun i : S1x1024x512.Idx => (fun (r : Fin 1024) (m : ℕ) => prod x0 x1 r (2560 + m)) (i 1) (i 2).val) [] _ ?_ _ hc
  refine ⟨?_, ?_, trivial⟩
  · exact part_eq (c0 := 256) (fun (r : Fin 1024) (m : ℕ) => prod x0 x1 r (2560 + m)) (by decide) (fun r d _ => (pay_fk1 _ _ r d).trans ((prod_256 harg3 tok x1 _ r d (by omega)).trans (congrArg (fun n => prod x0 x1 r n) (Nat.add_assoc 2560 256 d.val))))
  · exact part_eq (c0 := 0) (fun (r : Fin 1024) (m : ℕ) => prod x0 x1 r (2560 + m)) (by decide) (fun r d _ => (pay_fk0 _ _ r d).trans ((prod_256 harg3 tok x1 _ r d (by omega)).trans (congrArg (fun n => prod x0 x1 r n) (show 2560 + d.val = 2560 + (0 + d.val) by omega))))

/-- The values. -/
theorem values (hc0 : cond0_0 i) (r : Fin 1024) (d : Fin 512) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix3 0 r d) = prod x0 x1 r (3072 + d.val) := by
  have hc := cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix3 0 r d)
  revert hc
  unfold out0_A_10 kernelRun0_A
  intro hc
  refine (View.read_writes_junk_apply_eq_canon _ _ _).trans ?_
  refine View.canon_append_of_piecesOf (fun i : S1x1024x512.Idx => (fun (r : Fin 1024) (m : ℕ) => prod x0 x1 r (3072 + m)) (i 1) (i 2).val) [] _ ?_ _ hc
  refine ⟨?_, ?_, trivial⟩
  · exact part_eq (c0 := 256) (fun (r : Fin 1024) (m : ℕ) => prod x0 x1 r (3072 + m)) (by decide) (fun r d _ => (pay_fv1 _ _ r d).trans ((prod_256 harg3 tok x1 _ r d (by omega)).trans (congrArg (fun n => prod x0 x1 r n) (Nat.add_assoc 3072 256 d.val))))
  · exact part_eq (c0 := 0) (fun (r : Fin 1024) (m : ℕ) => prod x0 x1 r (3072 + m)) (by decide) (fun r d _ => (pay_fv0 _ _ r d).trans ((prod_256 harg3 tok x1 _ r d (by omega)).trans (congrArg (fun n => prod x0 x1 r n) (show 3072 + d.val = 3072 + (0 + d.val) by omega))))

/-- The output gates. -/
theorem zgates (hc0 : cond0_0 i) (r : Fin 1024) (d : Fin 512) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix3 0 r d) = siluT (prodB x0 x2 r (0 + d.val)) := by
  have hc := cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix3 0 r d)
  revert hc
  unfold out0_A_11 kernelRun0_A
  intro hc
  refine (View.read_writes_junk_apply_eq_canon _ _ _).trans ?_
  refine View.canon_append_of_piecesOf (fun i : S1x1024x512.Idx => (fun (r : Fin 1024) (m : ℕ) => siluT (prodB x0 x2 r (0 + m))) (i 1) (i 2).val) [] _ ?_ _ hc
  refine ⟨?_, ?_, trivial⟩
  · exact part_eq (c0 := 256) (fun (r : Fin 1024) (m : ℕ) => siluT (prodB x0 x2 r (0 + m))) (by decide) (fun r d _ => (pay_fz1 _ _ r d).trans ((congrArg siluT (prodB_256 harg4 tok x2 _ r d (by omega))).trans (congrArg (fun n => siluT (prodB x0 x2 r n)) (Nat.add_assoc 0 256 d.val))))
  · exact part_eq (c0 := 0) (fun (r : Fin 1024) (m : ℕ) => siluT (prodB x0 x2 r (0 + m))) (by decide) (fun r d _ => (pay_fz0 _ _ r d).trans ((congrArg siluT (prodB_256 harg4 tok x2 _ r d (by omega))).trans (congrArg (fun n => siluT (prodB x0 x2 r n)) (show 0 + d.val = 0 + (0 + d.val) by omega))))

/-- The gates' logarithms. -/
theorem logs (g : Fin 8) (r : Fin 1024) : kernelRun0_A.sl.r (F := Ideal) c arg2 harg2 arg5 harg5 arg7 harg7 arg17 x0 x3 x5 (ix2 g r) = gateLog x0 x3 x5 g.val r.val := by
  unfold kernelRun0_A.sl.r
  rw [load_gates, load_gate_bias]
  exact gateLog_eq _ x0 tok x3 x5 g r

/-- The running sums. -/
theorem sums_run (g : Fin 8) (r : Fin 1024) :
    kernelRun0_A.sl.r_5 (F := Ideal) c arg2 harg2 arg5 harg5 arg7 harg7 arg15 arg17 x0 x3 x5 (ix2 g r) = ∑ n ∈ Finset.range (r.val + 1), gateLog x0 x3 x5 g.val n + 0 :=
  (sums_apply _ _ (gateLog x0 x3 x5) logs g r).trans (congrArg (_ + ·) (load_zero _ _ g))

/-- The block of running sums. -/
theorem gates (hc0 : cond0_0 i) (j : Fin 4) (g : Fin 8) (l : Fin 256) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix4 0 j g l) = ∑ n ∈ Finset.range (256 * j.val + l.val + 1), gateLog x0 x3 x5 g.val n + 0 := by
  have hc := cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix4 0 j g l)
  revert hc
  unfold out0_A_12 kernelRun0_A
  intro hc
  refine (View.read_writes_junk_apply_eq_canon _ _ _).trans ?_
  refine View.canon_append_of_piecesOf (fun i : S1x4x8x256.Idx => (fun (g : Fin 8) (m : ℕ) => ∑ n ∈ Finset.range (m + 1), gateLog x0 x3 x5 g.val n + 0) (i 2) (256 * (i 1).val + (i 3).val)) [] _ ?_ _ hc
  refine ⟨?_, ?_, ?_, ?_, trivial⟩
  · exact quarter_eq (j := 3) (fun (g : Fin 8) (m : ℕ) => ∑ n ∈ Finset.range (m + 1), gateLog x0 x3 x5 g.val n + 0) (by decide)
      (fun g l _ => (pay_c3 _ g l).trans (sums_run g _))
  · exact quarter_eq (j := 2) (fun (g : Fin 8) (m : ℕ) => ∑ n ∈ Finset.range (m + 1), gateLog x0 x3 x5 g.val n + 0) (by decide)
      (fun g l _ => (pay_c2 _ g l).trans (sums_run g _))
  · exact quarter_eq (j := 1) (fun (g : Fin 8) (m : ℕ) => ∑ n ∈ Finset.range (m + 1), gateLog x0 x3 x5 g.val n + 0) (by decide)
      (fun g l _ => (pay_c1 _ _ g l).trans (sums_run g _))
  · exact quarter_eq (j := 0) (fun (g : Fin 8) (m : ℕ) => ∑ n ∈ Finset.range (m + 1), gateLog x0 x3 x5 g.val n + 0) (by decide)
      (fun g l _ => (pay_c0 _ _ g l).trans (sums_run g _))

/-- The sums kept for the next tile. -/
theorem carry (hc0 : cond0_0 i) (g : Fin 8) (l : Fin 128) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 (ix2 g l) = ∑ n ∈ Finset.range 1024, gateLog x0 x3 x5 g.val n + 0 := by
  unfold sout0_A_0 kernelRun0_A
  refine (View.read_writes_junk_apply_eq_canon _ _ _).trans ?_
  refine (congrFun (carry_eq _) _).trans ?_
  exact (pay_carry _ g l).trans (sums_run g _)

end Cert.Hgrn.RunA
-- ==== Proof.Hgrn.RunB.lean ====
/-
  What the body leaves in its outputs and in its scratch buffers, in a later tile of 1024
  rows: the state it keeps and the rows of the recurrence.
-/
module

public import proofs.«01_k».proof.Proof.Hgrn.Tile
public import proofs.«01_k».proof.Proof.Hgrn.State

@[expose] public section

set_option maxRecDepth 16384

noncomputable section

open Idealize.ShloMosaic
open Cert.Kernel5Ideal Cert.Kernel5Ideal.Gen
open Cert.Inproj (dot half siluT sigmoidT)

namespace Cert.Hgrn.RunB

variable {c : Dev nD} {i : grid0.Coords} {ℓ Q K V : ℕ → ℕ → ℝ} {N : ℕ}
  {arg2 : Memref sig .tc .vmem S1x1024x1024 .f32} {harg2 : arg2.IsWhole}
  {arg3 : Memref sig .tc .vmem S1024x3584 .bf16} {harg3 : arg3.IsWhole}
  {arg4 : Memref sig .tc .vmem S1024x512 .bf16} {harg4 : arg4.IsWhole}
  {arg5 : Memref sig .tc .vmem S8x1024 .bf16} {harg5 : arg5.IsWhole}
  {arg6 : Memref sig .tc .vmem S1x512 .f32} {harg6 : arg6.IsWhole}
  {arg7 : Memref sig .tc .vmem S8x1024 .f32} {harg7 : arg7.IsWhole}
  {arg8 : Memref sig .tc .vmem S1x512 .f32} {harg8 : arg8.IsWhole}
  {arg9 : Memref sig .tc .vmem S1x1024x512 .bf16} {harg9 : arg9.IsWhole}
  {arg10 : Memref sig .tc .vmem S1x1024x512 .bf16} {harg10 : arg10.IsWhole}
  {arg11 : Memref sig .tc .vmem S1x1024x512 .bf16} {harg11 : arg11.IsWhole}
  {arg12 : Memref sig .tc .vmem S1x1024x512 .bf16} {harg12 : arg12.IsWhole}
  {arg13 : Memref sig .tc .vmem S1x1024x512 .bf16} {harg13 : arg13.IsWhole}
  {arg14 : Memref sig .tc .vmem S1x4x8x256 .f32} {harg14 : arg14.IsWhole}
  {arg15 : Memref sig .tc .vmem S8x128 .f32} {harg15 : arg15.IsWhole}
  {arg16 : Memref sig .tc .vmem S4x128x128 .f32} {harg16 : arg16.IsWhole}
  {arg17 : Memref sig .tc .vmem S1024x1024 .bf16} {harg17 : arg17.IsWhole}
  {arg18 : Memref sig .tc .vmem S1x1024x512 .bf16} {harg18 : arg18.IsWhole}
  {arg19 : Memref sig .tc .vmem S1x1024x512 .f32} {harg19 : arg19.IsWhole}
  {arg20 : Memref sig .tc .vmem S1x1024x512 .bf16} {harg20 : arg20.IsWhole}
  {arg21 : Memref sig .tc .vmem S1x1024x512 .bf16} {harg21 : arg21.IsWhole}
  {arg22 : Memref sig .tc .vmem S1x1024x512 .bf16} {harg22 : arg22.IsWhole}
  {x0 : Vec Ideal S1x1024x1024 .f32} {x1 : Vec Ideal S1024x3584 .bf16} {x2 : Vec Ideal S1024x512 .bf16} {x3 : Vec Ideal S8x1024 .bf16} {x4 : Vec Ideal S1x512 .f32} {x5 : Vec Ideal S8x1024 .f32} {x6 : Vec Ideal S1x512 .f32} {xs0 : Vec Ideal S8x128 .f32} {xs1 : Vec Ideal S4x128x128 .f32}

/-- The tokens the scratch buffer holds. -/
theorem tok (r e : Fin 1024) : kernelRun0_B.sl.v6 (F := Ideal) c arg2 harg2 arg17 x0 (ix2 r e) = (show EReal from x0 (ix3 0 r e)) :=
  load_kept harg2 x0 _ _ _ r e

section
variable {o1 o2 : ℕ} (inb : ∀ a, (![0, o1, o2] : Fin 3 → ℕ) a + S1x256x128.size a ≤ S1x1024x512.size a) (r : Fin 256) (d : Fin 128)

/-- The queries of a head's 256 rows. -/
theorem qs (H : Tile x0 x1 x4 ℓ Q K V N) :
    arg18.view.readCov (kernelRun0_B.sl.HS3_1 c arg2 harg2 arg3 harg3 arg17 x0 x1) (Rect.unit (s := S1x1024x512) ![0, o1, o2] S1x256x128.size inb).toLoadRect (ix3 0 r d) = ((Q (N + o1 + r.val) (o2 + d.val) : ℝ) : EReal) := by
  have h1 : o1 + 256 ≤ 1024 := inb 1
  have h2 : o2 + 128 ≤ 512 := inb 2
  have hr := r.isLt
  have hd := d.isLt
  refine (load_head _ [] _ inb r d (by omega) (by omega)).trans ?_
  refine (pay_q _ _ ⟨o1 + r.val, by omega⟩ ⟨o2 + d.val, by omega⟩).trans ?_
  exact (prod_512 harg3 tok x1 _ ⟨o1 + r.val, by omega⟩ ⟨o2 + d.val, by omega⟩ (by show 0 + (o2 + d.val) < 3584; omega)).trans ((congrArg (prod x0 x1 ⟨o1 + r.val, by omega⟩) (Nat.zero_add _)).trans ((H.q ⟨o1 + r.val, by omega⟩ ⟨o2 + d.val, by omega⟩).trans (by rw [Nat.add_assoc])))

/-- The values of a head's 256 rows. -/
theorem vs (H : Tile x0 x1 x4 ℓ Q K V N) :
    arg21.view.readCov (kernelRun0_B.sl.HS6_1 c arg2 harg2 arg3 harg3 arg17 x0 x1) (Rect.unit (s := S1x1024x512) ![0, o1, o2] S1x256x128.size inb).toLoadRect (ix3 0 r d) = ((V (N + o1 + r.val) (o2 + d.val) : ℝ) : EReal) := by
  have h1 : o1 + 256 ≤ 1024 := inb 1
  have h2 : o2 + 128 ≤ 512 := inb 2
  have hr := r.isLt
  have hd := d.isLt
  refine (load_head _ [] _ inb r d (by omega) (by omega)).trans ?_
  refine (pay_v _ _ ⟨o1 + r.val, by omega⟩ ⟨o2 + d.val, by omega⟩).trans ?_
  exact (prod_512 harg3 tok x1 _ ⟨o1 + r.val, by omega⟩ ⟨o2 + d.val, by omega⟩ (by show 1024 + (o2 + d.val) < 3584; omega)).trans ((H.v ⟨o1 + r.val, by omega⟩ ⟨o2 + d.val, by omega⟩).trans (by rw [Nat.add_assoc]))

/-- The output gates of a head's 256 rows. -/
theorem zs :
    arg22.view.readCov (kernelRun0_B.sl.HS7_1 c arg2 harg2 arg3 harg3 arg17 x0 x1) (Rect.unit (s := S1x1024x512) ![0, o1, o2] S1x256x128.size inb).toLoadRect (ix3 0 r d) = siluT (prod x0 x1 ⟨(o1 + r.val) % 1024, Nat.mod_lt _ (by decide)⟩ (1536 + (o2 + d.val))) := by
  have h1 : o1 + 256 ≤ 1024 := inb 1
  have h2 : o2 + 128 ≤ 512 := inb 2
  have hr := r.isLt
  have hd := d.isLt
  refine (load_head _ [] _ inb r d (by omega) (by omega)).trans ?_
  refine (pay_z _ _ ⟨o1 + r.val, by omega⟩ ⟨o2 + d.val, by omega⟩).trans ?_
  have e : (⟨(o1 + r.val) % 1024, Nat.mod_lt _ (by decide)⟩ : Fin 1024) = ⟨o1 + r.val, by omega⟩ := Fin.ext (Nat.mod_eq_of_lt (by omega))
  rw [e]
  exact congrArg siluT (prod_512 harg3 tok x1 _ ⟨o1 + r.val, by omega⟩ ⟨o2 + d.val, by omega⟩ (by show 1536 + (o2 + d.val) < 3584; omega))

/-- The keys of a head's 256 rows. -/
theorem ks (H : Tile x0 x1 x4 ℓ Q K V N) (n : ¬x4 (ix2 0 ⟨o2 + d.val, lt_of_lt_of_le (Nat.add_lt_add_left d.isLt o2) (inb 2)⟩) = ⊤) :
    arg20.view.readCov (kernelRun0_B.sl.HS5_1 c arg2 harg2 arg3 harg3 arg6 harg6 arg17 x0 x1 x4) (Rect.unit (s := S1x1024x512) ![0, o1, o2] S1x256x128.size inb).toLoadRect (ix3 0 r d) = ((K (N + o1 + r.val) (o2 + d.val) : ℝ) : EReal) := by
  have h1 : o1 + 256 ≤ 1024 := inb 1
  have h2 : o2 + 128 ≤ 512 := inb 2
  have hr := r.isLt
  have hd := d.isLt
  refine (load_head _ [] _ inb r d (by omega) (by omega)).trans ?_
  refine (pay_k _ _ ⟨o1 + r.val, by omega⟩ _ ⟨o2 + d.val, by omega⟩).trans ?_
  unfold kernelRun0_B.sl.r_7
  rw [load_bound]
  exact (congrArg (fun z => 1 - (x4 (ix2 0 ⟨o2 + d.val, by omega⟩) + (1 - x4 (ix2 0 ⟨o2 + d.val, by omega⟩)) * sigmoidT z)) (prod_512 harg3 tok x1 _ ⟨o1 + r.val, by omega⟩ ⟨o2 + d.val, by omega⟩ (by show 512 + (o2 + d.val) < 3584; omega))).trans ((H.k ⟨o1 + r.val, by omega⟩ ⟨o2 + d.val, by omega⟩ n).trans (by rw [Nat.add_assoc]))

end

/-- The logarithms of the forget gates of 256 rows. -/
theorem ls (H : Tile x0 x1 x4 ℓ Q K V N) {o1 : ℕ} (inb : ∀ a, (![0, o1, 0] : Fin 3 → ℕ) a + S1x256x512.size a ≤ S1x1024x512.size a) (r : Fin 256) (d : Fin 512) :
    Lg (x4 (ix2 0 d) = ⊤) (arg19.view.readCov (kernelRun0_B.sl.HS4_1 c arg2 harg2 arg3 harg3 arg6 harg6 arg17 x0 x1 x4) (Rect.unit (s := S1x1024x512) ![0, o1, 0] S1x256x512.size inb).toLoadRect (ix3 0 r d)) (ℓ (N + o1 + r.val) d.val) := by
  have h1 : o1 + 256 ≤ 1024 := inb 1
  have hr := r.isLt
  have hd := d.isLt
  have e : arg19.view.readCov (kernelRun0_B.sl.HS4_1 c arg2 harg2 arg3 harg3 arg6 harg6 arg17 x0 x1 x4) (Rect.unit (s := S1x1024x512) ![0, o1, 0] S1x256x512.size inb).toLoadRect (ix3 0 r d) = Ideal.log (forget x0 x1 x4 ⟨o1 + r.val, by omega⟩ ⟨0 + d.val, by omega⟩) := by
    refine (load_rows _ [] _ inb r d (by omega) (by omega)).trans ?_
    refine (pay_l _ _ ⟨o1 + r.val, by omega⟩ _ ⟨0 + d.val, by omega⟩).trans ?_
    unfold kernelRun0_B.sl.r_7
    rw [load_bound]
    exact congrArg (fun z => Ideal.log (x4 (ix2 0 ⟨0 + d.val, by omega⟩) + (1 - x4 (ix2 0 ⟨0 + d.val, by omega⟩)) * sigmoidT z)) (prod_512 harg3 tok x1 _ ⟨o1 + r.val, by omega⟩ ⟨0 + d.val, by omega⟩ (by show 512 + (0 + d.val) < 3584; omega))
  rw [e]
  simpa only [Nat.add_assoc, Nat.zero_add] using H.l ⟨o1 + r.val, by omega⟩ ⟨0 + d.val, by omega⟩

/-- The first head's state after 256 rows, when the next rows read it. -/
theorem at_0_0 (H : Tile x0 x1 x4 ℓ Q K V N) (hs : Held ℓ K V N xs1) :
    At ℓ K V (kernelRun0_B.sl.HS1_4 (F := Ideal) c arg2 harg2 arg3 harg3 arg6 harg6 arg16 harg16 arg17 arg19 arg20 arg21 x0 x1 x4 xs1) 0 (N + 256) :=
  at_skip (h' := 3) (by decide) (at_skip (h' := 2) (by decide) (at_skip (h' := 1) (by decide) (at_store 0 rfl (fun j x => (headState_apply _ _ _ _ ℓ K V 0 (N + 0) (by decide) (by decide) (ls H _) H.z (ks _ · · H) (vs _ · · H) (at_start harg16 0 rfl hs) j x)))))

/-- The second head's state after 256 rows, when the next rows read it. -/
theorem at_0_1 (H : Tile x0 x1 x4 ℓ Q K V N) (hs : Held ℓ K V N xs1) :
    At ℓ K V (kernelRun0_B.sl.HS1_5 (F := Ideal) c arg2 harg2 arg3 harg3 arg6 harg6 arg16 harg16 arg17 arg19 arg20 arg21 x0 x1 x4 xs1) 1 (N + 256) :=
  at_skip (h' := 0) (by decide) (at_skip (h' := 3) (by decide) (at_skip (h' := 2) (by decide) (at_store 1 rfl (fun j x => (headState_apply _ _ _ _ ℓ K V 1 (N + 0) (by decide) (by decide) (ls H _) H.z (ks _ · · H) (vs _ · · H) (at_start harg16 1 rfl hs) j x)))))

/-- The third head's state after 256 rows, when the next rows read it. -/
theorem at_0_2 (H : Tile x0 x1 x4 ℓ Q K V N) (hs : Held ℓ K V N xs1) :
    At ℓ K V (kernelRun0_B.sl.HS1_6 (F := Ideal) c arg2 harg2 arg3 harg3 arg6 harg6 arg16 harg16 arg17 arg19 arg20 arg21 x0 x1 x4 xs1) 2 (N + 256) :=
  at_skip (h' := 1) (by decide) (at_skip (h' := 0) (by decide) (at_skip (h' := 3) (by decide) (at_store 2 rfl (fun j x => (headState_apply _ _ _ _ ℓ K V 2 (N + 0) (by decide) (by decide) (ls H _) H.z (ks _ · · H) (vs _ · · H) (at_start harg16 2 rfl hs) j x)))))

/-- The fourth head's state after 256 rows, when the next rows read it. -/
theorem at_0_3 (H : Tile x0 x1 x4 ℓ Q K V N) (hs : Held ℓ K V N xs1) :
    At ℓ K V (kernelRun0_B.sl.HS1_7 (F := Ideal) c arg2 harg2 arg3 harg3 arg6 harg6 arg16 harg16 arg17 arg19 arg20 arg21 x0 x1 x4 xs1) 3 (N + 256) :=
  at_skip (h' := 2) (by decide) (at_skip (h' := 1) (by decide) (at_skip (h' := 0) (by decide) (at_store 3 rfl (fun j x => (headState_apply _ _ _ _ ℓ K V 3 (N + 0) (by decide) (by decide) (ls H _) H.z (ks _ · · H) (vs _ · · H) (at_start harg16 3 rfl hs) j x)))))

/-- The first head's state after 512 rows, when the next rows read it. -/
theorem at_1_0 (H : Tile x0 x1 x4 ℓ Q K V N) (hs : Held ℓ K V N xs1) :
    At ℓ K V (kernelRun0_B.sl.HS1_8 (F := Ideal) c arg2 harg2 arg3 harg3 arg6 harg6 arg16 harg16 arg17 arg19 arg20 arg21 x0 x1 x4 xs1) 0 (N + 512) :=
  at_skip (h' := 3) (by decide) (at_skip (h' := 2) (by decide) (at_skip (h' := 1) (by decide) (at_store 0 rfl (fun j x => (headState_apply _ _ _ _ ℓ K V 0 (N + 256) (by decide) (by decide) (ls H _) H.z (ks _ · · H) (vs _ · · H) (at_load 0 rfl (at_0_0 H hs)) j x)))))

/-- The second head's state after 512 rows, when the next rows read it. -/
theorem at_1_1 (H : Tile x0 x1 x4 ℓ Q K V N) (hs : Held ℓ K V N xs1) :
    At ℓ K V (kernelRun0_B.sl.HS1_9 (F := Ideal) c arg2 harg2 arg3 harg3 arg6 harg6 arg16 harg16 arg17 arg19 arg20 arg21 x0 x1 x4 xs1) 1 (N + 512) :=
  at_skip (h' := 0) (by decide) (at_skip (h' := 3) (by decide) (at_skip (h' := 2) (by decide) (at_store 1 rfl (fun j x => (headState_apply _ _ _ _ ℓ K V 1 (N + 256) (by decide) (by decide) (ls H _) H.z (ks _ · · H) (vs _ · · H) (at_load 1 rfl (at_0_1 H hs)) j x)))))

/-- The third head's state after 512 rows, when the next rows read it. -/
theorem at_1_2 (H : Tile x0 x1 x4 ℓ Q K V N) (hs : Held ℓ K V N xs1) :
    At ℓ K V (kernelRun0_B.sl.HS1_10 (F := Ideal) c arg2 harg2 arg3 harg3 arg6 harg6 arg16 harg16 arg17 arg19 arg20 arg21 x0 x1 x4 xs1) 2 (N + 512) :=
  at_skip (h' := 1) (by decide) (at_skip (h' := 0) (by decide) (at_skip (h' := 3) (by decide) (at_store 2 rfl (fun j x => (headState_apply _ _ _ _ ℓ K V 2 (N + 256) (by decide) (by decide) (ls H _) H.z (ks _ · · H) (vs _ · · H) (at_load 2 rfl (at_0_2 H hs)) j x)))))

/-- The fourth head's state after 512 rows, when the next rows read it. -/
theorem at_1_3 (H : Tile x0 x1 x4 ℓ Q K V N) (hs : Held ℓ K V N xs1) :
    At ℓ K V (kernelRun0_B.sl.HS1_11 (F := Ideal) c arg2 harg2 arg3 harg3 arg6 harg6 arg16 harg16 arg17 arg19 arg20 arg21 x0 x1 x4 xs1) 3 (N + 512) :=
  at_skip (h' := 2) (by decide) (at_skip (h' := 1) (by decide) (at_skip (h' := 0) (by decide) (at_store 3 rfl (fun j x => (headState_apply _ _ _ _ ℓ K V 3 (N + 256) (by decide) (by decide) (ls H _) H.z (ks _ · · H) (vs _ · · H) (at_load 3 rfl (at_0_3 H hs)) j x)))))

/-- The first head's state after 768 rows, when the next rows read it. -/
theorem at_2_0 (H : Tile x0 x1 x4 ℓ Q K V N) (hs : Held ℓ K V N xs1) :
    At ℓ K V (kernelRun0_B.sl.HS1_12 (F := Ideal) c arg2 harg2 arg3 harg3 arg6 harg6 arg16 harg16 arg17 arg19 arg20 arg21 x0 x1 x4 xs1) 0 (N + 768) :=
  at_skip (h' := 3) (by decide) (at_skip (h' := 2) (by decide) (at_skip (h' := 1) (by decide) (at_store 0 rfl (fun j x => (headState_apply _ _ _ _ ℓ K V 0 (N + 512) (by decide) (by decide) (ls H _) H.z (ks _ · · H) (vs _ · · H) (at_load 0 rfl (at_1_0 H hs)) j x)))))

/-- The second head's state after 768 rows, when the next rows read it. -/
theorem at_2_1 (H : Tile x0 x1 x4 ℓ Q K V N) (hs : Held ℓ K V N xs1) :
    At ℓ K V (kernelRun0_B.sl.HS1_13 (F := Ideal) c arg2 harg2 arg3 harg3 arg6 harg6 arg16 harg16 arg17 arg19 arg20 arg21 x0 x1 x4 xs1) 1 (N + 768) :=
  at_skip (h' := 0) (by decide) (at_skip (h' := 3) (by decide) (at_skip (h' := 2) (by decide) (at_store 1 rfl (fun j x => (headState_apply _ _ _ _ ℓ K V 1 (N + 512) (by decide) (by decide) (ls H _) H.z (ks _ · · H) (vs _ · · H) (at_load 1 rfl (at_1_1 H hs)) j x)))))

/-- The third head's state after 768 rows, when the next rows read it. -/
theorem at_2_2 (H : Tile x0 x1 x4 ℓ Q K V N) (hs : Held ℓ K V N xs1) :
    At ℓ K V (kernelRun0_B.sl.HS1_14 (F := Ideal) c arg2 harg2 arg3 harg3 arg6 harg6 arg16 harg16 arg17 arg19 arg20 arg21 x0 x1 x4 xs1) 2 (N + 768) :=
  at_skip (h' := 1) (by decide) (at_skip (h' := 0) (by decide) (at_skip (h' := 3) (by decide) (at_store 2 rfl (fun j x => (headState_apply _ _ _ _ ℓ K V 2 (N + 512) (by decide) (by decide) (ls H _) H.z (ks _ · · H) (vs _ · · H) (at_load 2 rfl (at_1_2 H hs)) j x)))))

/-- The fourth head's state after 768 rows, when the next rows read it. -/
theorem at_2_3 (H : Tile x0 x1 x4 ℓ Q K V N) (hs : Held ℓ K V N xs1) :
    At ℓ K V (kernelRun0_B.sl.HS1_15 (F := Ideal) c arg2 harg2 arg3 harg3 arg6 harg6 arg16 harg16 arg17 arg19 arg20 arg21 x0 x1 x4 xs1) 3 (N + 768) :=
  at_skip (h' := 2) (by decide) (at_skip (h' := 1) (by decide) (at_skip (h' := 0) (by decide) (at_store 3 rfl (fun j x => (headState_apply _ _ _ _ ℓ K V 3 (N + 512) (by decide) (by decide) (ls H _) H.z (ks _ · · H) (vs _ · · H) (at_load 3 rfl (at_1_3 H hs)) j x)))))

/-- The first head's state after all 1024 rows. -/
theorem at_3_0 (H : Tile x0 x1 x4 ℓ Q K V N) (hs : Held ℓ K V N xs1) :
    At ℓ K V (⟨Rect.unit ![3, 0, 0] S1x128x128.size inb_S4x128x128_S1x128x128_3_0_0, k0_pay486 (F := Ideal) (kernelRun0_B.sl.r_252 c arg2 harg2 arg3 harg3 arg17 arg21 x0 x1) (kernelRun0_B.sl.r_254 c arg2 harg2 arg3 harg3 arg6 harg6 arg17 arg19 arg20 x0 x1 x4) (kernelRun0_B.sl.r_255 c arg2 harg2 arg3 harg3 arg6 harg6 arg17 arg19 x0 x1 x4) (kernelRun0_B.sl.v2434 c arg2 harg2 arg3 harg3 arg6 harg6 arg16 harg16 arg17 arg19 arg20 arg21 x0 x1 x4 xs1)⟩
      :: kernelRun0_B.sl.HS1_15 (F := Ideal) c arg2 harg2 arg3 harg3 arg6 harg6 arg16 harg16 arg17 arg19 arg20 arg21 x0 x1 x4 xs1) 0 (N + 1024) :=
  at_skip (h' := 3) (by decide) (at_skip (h' := 2) (by decide) (at_skip (h' := 1) (by decide) (at_store 0 rfl (fun j x => (headState_apply _ _ _ _ ℓ K V 0 (N + 768) (by decide) (by decide) (ls H _) H.z (ks _ · · H) (vs _ · · H) (at_load 0 rfl (at_2_0 H hs)) j x)))))

/-- The second head's state after all 1024 rows. -/
theorem at_3_1 (H : Tile x0 x1 x4 ℓ Q K V N) (hs : Held ℓ K V N xs1) :
    At ℓ K V (⟨Rect.unit ![3, 0, 0] S1x128x128.size inb_S4x128x128_S1x128x128_3_0_0, k0_pay486 (F := Ideal) (kernelRun0_B.sl.r_252 c arg2 harg2 arg3 harg3 arg17 arg21 x0 x1) (kernelRun0_B.sl.r_254 c arg2 harg2 arg3 harg3 arg6 harg6 arg17 arg19 arg20 x0 x1 x4) (kernelRun0_B.sl.r_255 c arg2 harg2 arg3 harg3 arg6 harg6 arg17 arg19 x0 x1 x4) (kernelRun0_B.sl.v2434 c arg2 harg2 arg3 harg3 arg6 harg6 arg16 harg16 arg17 arg19 arg20 arg21 x0 x1 x4 xs1)⟩
      :: kernelRun0_B.sl.HS1_15 (F := Ideal) c arg2 harg2 arg3 harg3 arg6 harg6 arg16 harg16 arg17 arg19 arg20 arg21 x0 x1 x4 xs1) 1 (N + 1024) :=
  at_skip (h' := 3) (by decide) (at_skip (h' := 2) (by decide) (at_store 1 rfl (fun j x => (headState_apply _ _ _ _ ℓ K V 1 (N + 768) (by decide) (by decide) (ls H _) H.z (ks _ · · H) (vs _ · · H) (at_load 1 rfl (at_2_1 H hs)) j x))))

/-- The third head's state after all 1024 rows. -/
theorem at_3_2 (H : Tile x0 x1 x4 ℓ Q K V N) (hs : Held ℓ K V N xs1) :
    At ℓ K V (⟨Rect.unit ![3, 0, 0] S1x128x128.size inb_S4x128x128_S1x128x128_3_0_0, k0_pay486 (F := Ideal) (kernelRun0_B.sl.r_252 c arg2 harg2 arg3 harg3 arg17 arg21 x0 x1) (kernelRun0_B.sl.r_254 c arg2 harg2 arg3 harg3 arg6 harg6 arg17 arg19 arg20 x0 x1 x4) (kernelRun0_B.sl.r_255 c arg2 harg2 arg3 harg3 arg6 harg6 arg17 arg19 x0 x1 x4) (kernelRun0_B.sl.v2434 c arg2 harg2 arg3 harg3 arg6 harg6 arg16 harg16 arg17 arg19 arg20 arg21 x0 x1 x4 xs1)⟩
      :: kernelRun0_B.sl.HS1_15 (F := Ideal) c arg2 harg2 arg3 harg3 arg6 harg6 arg16 harg16 arg17 arg19 arg20 arg21 x0 x1 x4 xs1) 2 (N + 1024) :=
  at_skip (h' := 3) (by decide) (at_store 2 rfl (fun j x => (headState_apply _ _ _ _ ℓ K V 2 (N + 768) (by decide) (by decide) (ls H _) H.z (ks _ · · H) (vs _ · · H) (at_load 2 rfl (at_2_2 H hs)) j x)))

/-- The fourth head's state after all 1024 rows. -/
theorem at_3_3 (H : Tile x0 x1 x4 ℓ Q K V N) (hs : Held ℓ K V N xs1) :
    At ℓ K V (⟨Rect.unit ![3, 0, 0] S1x128x128.size inb_S4x128x128_S1x128x128_3_0_0, k0_pay486 (F := Ideal) (kernelRun0_B.sl.r_252 c arg2 harg2 arg3 harg3 arg17 arg21 x0 x1) (kernelRun0_B.sl.r_254 c arg2 harg2 arg3 harg3 arg6 harg6 arg17 arg19 arg20 x0 x1 x4) (kernelRun0_B.sl.r_255 c arg2 harg2 arg3 harg3 arg6 harg6 arg17 arg19 x0 x1 x4) (kernelRun0_B.sl.v2434 c arg2 harg2 arg3 harg3 arg6 harg6 arg16 harg16 arg17 arg19 arg20 arg21 x0 x1 x4 xs1)⟩
      :: kernelRun0_B.sl.HS1_15 (F := Ideal) c arg2 harg2 arg3 harg3 arg6 harg6 arg16 harg16 arg17 arg19 arg20 arg21 x0 x1 x4 xs1) 3 (N + 1024) :=
  at_store 3 rfl (fun j x => (headState_apply _ _ _ _ ℓ K V 3 (N + 768) (by decide) (by decide) (ls H _) H.z (ks _ · · H) (vs _ · · H) (at_load 3 rfl (at_2_3 H hs)) j x))

/-- The four heads' states after the tile. -/
theorem states (hc0 : ¬cond0_0 i) (H : Tile x0 x1 x4 ℓ Q K V N) (hs : Held ℓ K V N xs1) (h : Fin 4) (j x : Fin 128) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix3 h j x) = ((stateW ℓ K V h.val (N + 1024) j.val x.val : ℝ) : EReal) := by
  unfold sout0_B_1 kernelRun0_B
  refine (View.read_writes_junk_apply_eq_canon _ _ _).trans ?_
  exact at_four (at_3_0 H hs) (at_3_1 H hs) (at_3_2 H hs) (at_3_3 H hs) h j x

set_option maxHeartbeats 4000000 in
/-- The block of the first layer's output. -/
theorem rows (hc0 : ¬cond0_0 i) (H : Tile x0 x1 x4 ℓ Q K V N) (hs : Held ℓ K V N xs1) (r : Fin 1024) (d : Fin 512) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix3 0 r d) = hgRow x0 x1 x6 ℓ Q K V N r d := by
  have hc := cover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix3 0 r d)
  revert hc
  unfold out0_B_7 kernelRun0_B
  intro hc
  refine (View.read_writes_junk_apply_eq_canon _ _ _).trans ?_
  refine View.canon_append_of_piecesOf (fun i : S1x1024x512.Idx => hgRow x0 x1 x6 ℓ Q K V N (i 1) (i 2)) [] _ ?_ _ hc
  refine ⟨?_, ?_, ?_, ?_, ?_, ?_, ?_, ?_, ?_, ?_, ?_, ?_, ?_, ?_, ?_, ?_, trivial⟩
  · exact hgRow_eq (o1 := 768) (o2 := 384) 3 rfl (by decide) (fun r j => (headOut_apply _ _ _ _ _ _ _ ℓ Q K V 3 (N + 768) (by decide) (by decide) (ls H _) H.z (qs _ · · H) (ks _ · · H) (vs _ · · H) (at_load 3 rfl (at_2_3 H hs)) r j))
      (load_norm harg8 x6 _) (fun r j hr _ => row_zs hr (zs _ r j))
  · exact hgRow_eq (o1 := 768) (o2 := 256) 2 rfl (by decide) (fun r j => (headOut_apply _ _ _ _ _ _ _ ℓ Q K V 2 (N + 768) (by decide) (by decide) (ls H _) H.z (qs _ · · H) (ks _ · · H) (vs _ · · H) (at_load 2 rfl (at_2_2 H hs)) r j))
      (load_norm harg8 x6 _) (fun r j hr _ => row_zs hr (zs _ r j))
  · exact hgRow_eq (o1 := 768) (o2 := 128) 1 rfl (by decide) (fun r j => (headOut_apply _ _ _ _ _ _ _ ℓ Q K V 1 (N + 768) (by decide) (by decide) (ls H _) H.z (qs _ · · H) (ks _ · · H) (vs _ · · H) (at_load 1 rfl (at_2_1 H hs)) r j))
      (load_norm harg8 x6 _) (fun r j hr _ => row_zs hr (zs _ r j))
  · exact hgRow_eq (o1 := 768) (o2 := 0) 0 rfl (by decide) (fun r j => (headOut_apply _ _ _ _ _ _ _ ℓ Q K V 0 (N + 768) (by decide) (by decide) (ls H _) H.z (qs _ · · H) (ks _ · · H) (vs _ · · H) (at_load 0 rfl (at_2_0 H hs)) r j))
      (load_norm harg8 x6 _) (fun r j hr _ => row_zs hr (zs _ r j))
  · exact hgRow_eq (o1 := 512) (o2 := 384) 3 rfl (by decide) (fun r j => (headOut_apply _ _ _ _ _ _ _ ℓ Q K V 3 (N + 512) (by decide) (by decide) (ls H _) H.z (qs _ · · H) (ks _ · · H) (vs _ · · H) (at_load 3 rfl (at_1_3 H hs)) r j))
      (load_norm harg8 x6 _) (fun r j hr _ => row_zs hr (zs _ r j))
  · exact hgRow_eq (o1 := 512) (o2 := 256) 2 rfl (by decide) (fun r j => (headOut_apply _ _ _ _ _ _ _ ℓ Q K V 2 (N + 512) (by decide) (by decide) (ls H _) H.z (qs _ · · H) (ks _ · · H) (vs _ · · H) (at_load 2 rfl (at_1_2 H hs)) r j))
      (load_norm harg8 x6 _) (fun r j hr _ => row_zs hr (zs _ r j))
  · exact hgRow_eq (o1 := 512) (o2 := 128) 1 rfl (by decide) (fun r j => (headOut_apply _ _ _ _ _ _ _ ℓ Q K V 1 (N + 512) (by decide) (by decide) (ls H _) H.z (qs _ · · H) (ks _ · · H) (vs _ · · H) (at_load 1 rfl (at_1_1 H hs)) r j))
      (load_norm harg8 x6 _) (fun r j hr _ => row_zs hr (zs _ r j))
  · exact hgRow_eq (o1 := 512) (o2 := 0) 0 rfl (by decide) (fun r j => (headOut_apply _ _ _ _ _ _ _ ℓ Q K V 0 (N + 512) (by decide) (by decide) (ls H _) H.z (qs _ · · H) (ks _ · · H) (vs _ · · H) (at_load 0 rfl (at_1_0 H hs)) r j))
      (load_norm harg8 x6 _) (fun r j hr _ => row_zs hr (zs _ r j))
  · exact hgRow_eq (o1 := 256) (o2 := 384) 3 rfl (by decide) (fun r j => (headOut_apply _ _ _ _ _ _ _ ℓ Q K V 3 (N + 256) (by decide) (by decide) (ls H _) H.z (qs _ · · H) (ks _ · · H) (vs _ · · H) (at_load 3 rfl (at_0_3 H hs)) r j))
      (load_norm harg8 x6 _) (fun r j hr _ => row_zs hr (zs _ r j))
  · exact hgRow_eq (o1 := 256) (o2 := 256) 2 rfl (by decide) (fun r j => (headOut_apply _ _ _ _ _ _ _ ℓ Q K V 2 (N + 256) (by decide) (by decide) (ls H _) H.z (qs _ · · H) (ks _ · · H) (vs _ · · H) (at_load 2 rfl (at_0_2 H hs)) r j))
      (load_norm harg8 x6 _) (fun r j hr _ => row_zs hr (zs _ r j))
  · exact hgRow_eq (o1 := 256) (o2 := 128) 1 rfl (by decide) (fun r j => (headOut_apply _ _ _ _ _ _ _ ℓ Q K V 1 (N + 256) (by decide) (by decide) (ls H _) H.z (qs _ · · H) (ks _ · · H) (vs _ · · H) (at_load 1 rfl (at_0_1 H hs)) r j))
      (load_norm harg8 x6 _) (fun r j hr _ => row_zs hr (zs _ r j))
  · exact hgRow_eq (o1 := 256) (o2 := 0) 0 rfl (by decide) (fun r j => (headOut_apply _ _ _ _ _ _ _ ℓ Q K V 0 (N + 256) (by decide) (by decide) (ls H _) H.z (qs _ · · H) (ks _ · · H) (vs _ · · H) (at_load 0 rfl (at_0_0 H hs)) r j))
      (load_norm harg8 x6 _) (fun r j hr _ => row_zs hr (zs _ r j))
  · exact hgRow_eq (o1 := 0) (o2 := 384) 3 rfl (by decide) (fun r j => (headOut_apply _ _ _ _ _ _ _ ℓ Q K V 3 (N + 0) (by decide) (by decide) (ls H _) H.z (qs _ · · H) (ks _ · · H) (vs _ · · H) (at_start harg16 3 rfl hs) r j))
      (load_norm harg8 x6 _) (fun r j hr _ => row_zs hr (zs _ r j))
  · exact hgRow_eq (o1 := 0) (o2 := 256) 2 rfl (by decide) (fun r j => (headOut_apply _ _ _ _ _ _ _ ℓ Q K V 2 (N + 0) (by decide) (by decide) (ls H _) H.z (qs _ · · H) (ks _ · · H) (vs _ · · H) (at_start harg16 2 rfl hs) r j))
      (load_norm harg8 x6 _) (fun r j hr _ => row_zs hr (zs _ r j))
  · exact hgRow_eq (o1 := 0) (o2 := 128) 1 rfl (by decide) (fun r j => (headOut_apply _ _ _ _ _ _ _ ℓ Q K V 1 (N + 0) (by decide) (by decide) (ls H _) H.z (qs _ · · H) (ks _ · · H) (vs _ · · H) (at_start harg16 1 rfl hs) r j))
      (load_norm harg8 x6 _) (fun r j hr _ => row_zs hr (zs _ r j))
  · exact hgRow_eq (o1 := 0) (o2 := 0) 0 rfl (by decide) (fun r j => (headOut_apply _ _ _ _ _ _ _ ℓ Q K V 0 (N + 0) (by decide) (by decide) (ls H _) H.z (qs _ · · H) (ks _ · · H) (vs _ · · H) (at_start harg16 0 rfl hs) r j))
      (load_norm harg8 x6 _) (fun r j hr _ => row_zs hr (zs _ r j))

end Cert.Hgrn.RunB
-- ==== Proof.Hgrn.OutB.lean ====
/-
  What the body leaves in its outputs, in a later tile of 1024 rows: the attention's queries, keys,
  values and gate, and the forget gates' running sums.
-/
module

public import proofs.«01_k».proof.Proof.Hgrn.RunB
public import proofs.«01_k».proof.Proof.Hgrn.Pieces

@[expose] public section

set_option maxRecDepth 16384

noncomputable section

open Idealize.ShloMosaic
open Cert.Kernel5Ideal Cert.Kernel5Ideal.Gen
open Cert.Inproj (dot half siluT sigmoidT)

namespace Cert.Hgrn.RunB

variable {c : Dev nD} {i : grid0.Coords}
  {arg2 : Memref sig .tc .vmem S1x1024x1024 .f32} {harg2 : arg2.IsWhole}
  {arg3 : Memref sig .tc .vmem S1024x3584 .bf16} {harg3 : arg3.IsWhole}
  {arg4 : Memref sig .tc .vmem S1024x512 .bf16} {harg4 : arg4.IsWhole}
  {arg5 : Memref sig .tc .vmem S8x1024 .bf16} {harg5 : arg5.IsWhole}
  {arg6 : Memref sig .tc .vmem S1x512 .f32} {harg6 : arg6.IsWhole}
  {arg7 : Memref sig .tc .vmem S8x1024 .f32} {harg7 : arg7.IsWhole}
  {arg8 : Memref sig .tc .vmem S1x512 .f32} {harg8 : arg8.IsWhole}
  {arg9 : Memref sig .tc .vmem S1x1024x512 .bf16} {harg9 : arg9.IsWhole}
  {arg10 : Memref sig .tc .vmem S1x1024x512 .bf16} {harg10 : arg10.IsWhole}
  {arg11 : Memref sig .tc .vmem S1x1024x512 .bf16} {harg11 : arg11.IsWhole}
  {arg12 : Memref sig .tc .vmem S1x1024x512 .bf16} {harg12 : arg12.IsWhole}
  {arg13 : Memref sig .tc .vmem S1x1024x512 .bf16} {harg13 : arg13.IsWhole}
  {arg14 : Memref sig .tc .vmem S1x4x8x256 .f32} {harg14 : arg14.IsWhole}
  {arg15 : Memref sig .tc .vmem S8x128 .f32} {harg15 : arg15.IsWhole}
  {arg16 : Memref sig .tc .vmem S4x128x128 .f32} {harg16 : arg16.IsWhole}
  {arg17 : Memref sig .tc .vmem S1024x1024 .bf16} {harg17 : arg17.IsWhole}
  {arg18 : Memref sig .tc .vmem S1x1024x512 .bf16} {harg18 : arg18.IsWhole}
  {arg19 : Memref sig .tc .vmem S1x1024x512 .f32} {harg19 : arg19.IsWhole}
  {arg20 : Memref sig .tc .vmem S1x1024x512 .bf16} {harg20 : arg20.IsWhole}
  {arg21 : Memref sig .tc .vmem S1x1024x512 .bf16} {harg21 : arg21.IsWhole}
  {arg22 : Memref sig .tc .vmem S1x1024x512 .bf16} {harg22 : arg22.IsWhole}
  {x0 : Vec Ideal S1x1024x1024 .f32} {x1 : Vec Ideal S1024x3584 .bf16} {x2 : Vec Ideal S1024x512 .bf16} {x3 : Vec Ideal S8x1024 .bf16} {x4 : Vec Ideal S1x512 .f32} {x5 : Vec Ideal S8x1024 .f32} {x6 : Vec Ideal S1x512 .f32} {xs0 : Vec Ideal S8x128 .f32} {xs1 : Vec Ideal S4x128x128 .f32}

/-- The queries. -/
theorem queries (hc0 : ¬cond0_0 i) (r : Fin 1024) (d : Fin 512) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix3 0 r d) = prod x0 x1 r (2048 + d.val) * qScale := by
  have hc := cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix3 0 r d)
  revert hc
  unfold out0_B_8 kernelRun0_B
  intro hc
  refine (View.read_writes_junk_apply_eq_canon _ _ _).trans ?_
  refine View.canon_append_of_piecesOf (fun i : S1x1024x512.Idx => (fun (r : Fin 1024) (m : ℕ) => prod x0 x1 r (2048 + m) * qScale) (i 1) (i 2).val) [] _ ?_ _ hc
  refine ⟨?_, ?_, trivial⟩
  · exact part_eq (c0 := 256) (fun (r : Fin 1024) (m : ℕ) => prod x0 x1 r (2048 + m) * qScale) (by decide) (fun r d _ => (pay_fq1 _ _ r d).trans ((congrArg (· * qScale) (prod_256 harg3 tok x1 _ r d (by omega))).trans (congrArg (fun n => prod x0 x1 r n * qScale) (Nat.add_assoc 2048 256 d.val))))
  · exact part_eq (c0 := 0) (fun (r : Fin 1024) (m : ℕ) => prod x0 x1 r (2048 + m) * qScale) (by decide) (fun r d _ => (pay_fq0 _ _ r d).trans ((congrArg (· * qScale) (prod_256 harg3 tok x1 _ r d (by omega))).trans (congrArg (fun n => prod x0 x1 r n * qScale) (show 2048 + d.val = 2048 + (0 + d.val) by omega))))

/-- The keys. -/
theorem keys (hc0 : ¬cond0_0 i) (r : Fin 1024) (d : Fin 512) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix3 0 r d) = prod x0 x1 r (2560 + d.val) := by
  have hc := cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix3 0 r d)
  revert hc
  unfold out0_B_9 kernelRun0_B
  intro hc
  refine (View.read_writes_junk_apply_eq_canon _ _ _).trans ?_
  refine View.canon_append_of_piecesOf (fun i : S1x1024x512.Idx => (fun (r : Fin 1024) (m : ℕ) => prod x0 x1 r (2560 + m)) (i 1) (i 2).val) [] _ ?_ _ hc
  refine ⟨?_, ?_, trivial⟩
  · exact part_eq (c0 := 256) (fun (r : Fin 1024) (m : ℕ) => prod x0 x1 r (2560 + m)) (by decide) (fun r d _ => (pay_fk1 _ _ r d).trans ((prod_256 harg3 tok x1 _ r d (by omega)).trans (congrArg (fun n => prod x0 x1 r n) (Nat.add_assoc 2560 256 d.val))))
  · exact part_eq (c0 := 0) (fun (r : Fin 1024) (m : ℕ) => prod x0 x1 r (2560 + m)) (by decide) (fun r d _ => (pay_fk0 _ _ r d).trans ((prod_256 harg3 tok x1 _ r d (by omega)).trans (congrArg (fun n => prod x0 x1 r n) (show 2560 + d.val = 2560 + (0 + d.val) by omega))))

/-- The values. -/
theorem values (hc0 : ¬cond0_0 i) (r : Fin 1024) (d : Fin 512) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix3 0 r d) = prod x0 x1 r (3072 + d.val) := by
  have hc := cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix3 0 r d)
  revert hc
  unfold out0_B_10 kernelRun0_B
  intro hc
  refine (View.read_writes_junk_apply_eq_canon _ _ _).trans ?_
  refine View.canon_append_of_piecesOf (fun i : S1x1024x512.Idx => (fun (r : Fin 1024) (m : ℕ) => prod x0 x1 r (3072 + m)) (i 1) (i 2).val) [] _ ?_ _ hc
  refine ⟨?_, ?_, trivial⟩
  · exact part_eq (c0 := 256) (fun (r : Fin 1024) (m : ℕ) => prod x0 x1 r (3072 + m)) (by decide) (fun r d _ => (pay_fv1 _ _ r d).trans ((prod_256 harg3 tok x1 _ r d (by omega)).trans (congrArg (fun n => prod x0 x1 r n) (Nat.add_assoc 3072 256 d.val))))
  · exact part_eq (c0 := 0) (fun (r : Fin 1024) (m : ℕ) => prod x0 x1 r (3072 + m)) (by decide) (fun r d _ => (pay_fv0 _ _ r d).trans ((prod_256 harg3 tok x1 _ r d (by omega)).trans (congrArg (fun n => prod x0 x1 r n) (show 3072 + d.val = 3072 + (0 + d.val) by omega))))

/-- The output gates. -/
theorem zgates (hc0 : ¬cond0_0 i) (r : Fin 1024) (d : Fin 512) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix3 0 r d) = siluT (prodB x0 x2 r (0 + d.val)) := by
  have hc := cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix3 0 r d)
  revert hc
  unfold out0_B_11 kernelRun0_B
  intro hc
  refine (View.read_writes_junk_apply_eq_canon _ _ _).trans ?_
  refine View.canon_append_of_piecesOf (fun i : S1x1024x512.Idx => (fun (r : Fin 1024) (m : ℕ) => siluT (prodB x0 x2 r (0 + m))) (i 1) (i 2).val) [] _ ?_ _ hc
  refine ⟨?_, ?_, trivial⟩
  · exact part_eq (c0 := 256) (fun (r : Fin 1024) (m : ℕ) => siluT (prodB x0 x2 r (0 + m))) (by decide) (fun r d _ => (pay_fz1 _ _ r d).trans ((congrArg siluT (prodB_256 harg4 tok x2 _ r d (by omega))).trans (congrArg (fun n => siluT (prodB x0 x2 r n)) (Nat.add_assoc 0 256 d.val))))
  · exact part_eq (c0 := 0) (fun (r : Fin 1024) (m : ℕ) => siluT (prodB x0 x2 r (0 + m))) (by decide) (fun r d _ => (pay_fz0 _ _ r d).trans ((congrArg siluT (prodB_256 harg4 tok x2 _ r d (by omega))).trans (congrArg (fun n => siluT (prodB x0 x2 r n)) (show 0 + d.val = 0 + (0 + d.val) by omega))))

/-- The gates' logarithms. -/
theorem logs (g : Fin 8) (r : Fin 1024) : kernelRun0_B.sl.r (F := Ideal) c arg2 harg2 arg5 harg5 arg7 harg7 arg17 x0 x3 x5 (ix2 g r) = gateLog x0 x3 x5 g.val r.val := by
  unfold kernelRun0_B.sl.r
  rw [load_gates, load_gate_bias]
  exact gateLog_eq _ x0 tok x3 x5 g r

/-- The running sums. -/
theorem sums_run (g : Fin 8) (r : Fin 1024) :
    kernelRun0_B.sl.r_5 (F := Ideal) c arg2 harg2 arg5 harg5 arg7 harg7 arg15 harg15 arg17 x0 x3 x5 xs0 (ix2 g r) = ∑ n ∈ Finset.range (r.val + 1), gateLog x0 x3 x5 g.val n + xs0 (ix2 g 0) :=
  (sums_apply _ _ (gateLog x0 x3 x5) logs g r).trans (congrArg (_ + ·) (load_carry harg15 xs0 _ g))

/-- The block of running sums. -/
theorem gates (hc0 : ¬cond0_0 i) (j : Fin 4) (g : Fin 8) (l : Fin 256) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix4 0 j g l) = ∑ n ∈ Finset.range (256 * j.val + l.val + 1), gateLog x0 x3 x5 g.val n + xs0 (ix2 g 0) := by
  have hc := cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix4 0 j g l)
  revert hc
  unfold out0_B_12 kernelRun0_B
  intro hc
  refine (View.read_writes_junk_apply_eq_canon _ _ _).trans ?_
  refine View.canon_append_of_piecesOf (fun i : S1x4x8x256.Idx => (fun (g : Fin 8) (m : ℕ) => ∑ n ∈ Finset.range (m + 1), gateLog x0 x3 x5 g.val n + xs0 (ix2 g 0)) (i 2) (256 * (i 1).val + (i 3).val)) [] _ ?_ _ hc
  refine ⟨?_, ?_, ?_, ?_, trivial⟩
  · exact quarter_eq (j := 3) (fun (g : Fin 8) (m : ℕ) => ∑ n ∈ Finset.range (m + 1), gateLog x0 x3 x5 g.val n + xs0 (ix2 g 0)) (by decide)
      (fun g l _ => (pay_c3 _ g l).trans (sums_run g _))
  · exact quarter_eq (j := 2) (fun (g : Fin 8) (m : ℕ) => ∑ n ∈ Finset.range (m + 1), gateLog x0 x3 x5 g.val n + xs0 (ix2 g 0)) (by decide)
      (fun g l _ => (pay_c2 _ g l).trans (sums_run g _))
  · exact quarter_eq (j := 1) (fun (g : Fin 8) (m : ℕ) => ∑ n ∈ Finset.range (m + 1), gateLog x0 x3 x5 g.val n + xs0 (ix2 g 0)) (by decide)
      (fun g l _ => (pay_c1 _ _ g l).trans (sums_run g _))
  · exact quarter_eq (j := 0) (fun (g : Fin 8) (m : ℕ) => ∑ n ∈ Finset.range (m + 1), gateLog x0 x3 x5 g.val n + xs0 (ix2 g 0)) (by decide)
      (fun g l _ => (pay_c0 _ _ g l).trans (sums_run g _))

/-- The sums kept for the next tile. -/
theorem carry (hc0 : ¬cond0_0 i) (g : Fin 8) (l : Fin 128) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 xs0 xs1 (ix2 g l) = ∑ n ∈ Finset.range 1024, gateLog x0 x3 x5 g.val n + xs0 (ix2 g 0) := by
  unfold sout0_B_0 kernelRun0_B
  refine (View.read_writes_junk_apply_eq_canon _ _ _).trans ?_
  refine (congrFun (carry_eq _) _).trans ?_
  exact (pay_carry _ g l).trans (sums_run g _)

end Cert.Hgrn.RunB
-- ==== Proof.Hgrn.Arrays.lean ====
/-
  The first layer's input projection, all tiles: what each result array holds after the run.
-/
module

public import proofs.«01_k».proof.Proof.Hgrn.Place
public import proofs.«01_k».proof.Proof.Hgrn.OutA
public import proofs.«01_k».proof.Proof.Hgrn.OutB

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen
open Cert.Inproj (dot siluT sigmoidT logSig IsReal)

namespace Cert.Hgrn

variable (m : (ℓ : Loc nD τ sig) → Buf (Elt Ideal) ℓ)

/-- The tokens. -/
abbrev a0 (c : Dev nD) := m ((c : Thread nD τ).loc main_arg0)

/-- The weights. -/
abbrev a1 (c : Dev nD) := m ((c : Thread nD τ).loc main_arg1)

/-- The output gates' weights. -/
abbrev a2 (c : Dev nD) := m ((c : Thread nD τ).loc main_arg2)

/-- The gates' weights. -/
abbrev a3 (c : Dev nD) := m ((c : Thread nD τ).loc main_arg3)

/-- The forget gates' lower bounds. -/
abbrev a4 (c : Dev nD) := m ((c : Thread nD τ).loc main_arg4)

/-- The gates' biases. -/
abbrev a5 (c : Dev nD) := m ((c : Thread nD τ).loc main_arg5)

/-- The norm's weights. -/
abbrev a6 (c : Dev nD) := m ((c : Thread nD τ).loc main_arg6)

/-- What the recurrence needs of the arguments. -/
abbrev Args (c : Dev nD) := RealArgs (a0 m c) (a1 m c) (a4 m c)

/-- The logarithms of the forget gates, the queries, keys and values of the recurrence. -/
abbrev sL (c : Dev nD) := seqL (a0 m c) (a1 m c) (a4 m c)
abbrev sQ (c : Dev nD) := seqQ (a0 m c) (a1 m c)
abbrev sK (c : Dev nD) := seqK (a0 m c) (a1 m c) (a4 m c)
abbrev sV (c : Dev nD) := seqV (a0 m c) (a1 m c)

/-- The first layer's output and the attention's queries, keys and values. -/
abbrev rH (c : Dev nD) := resultH (a0 m c) (a1 m c) (a4 m c) (a6 m c)
abbrev rQ (c : Dev nD) := resultQ (a0 m c) (a1 m c)
abbrev rK (c : Dev nD) := resultK (a0 m c) (a1 m c)
abbrev rV (c : Dev nD) := resultV (a0 m c) (a1 m c)

/-- A place of a block is its row and its column. -/
theorem row_ix (y : S1x1024x512.Idx) : y = ix3 0 (y 1) (y 2) :=
  (eq_ix3 y).trans (congrArg (fun k : Fin 1 => ix3 k (y 1) (y 2)) (Subsingleton.elim _ _))

/-- A tile's projection is the array's. -/
theorem prod_place (c : Dev nD) (t : Fin cfg0.N) (r : Fin 1024) (d : ℕ) :
    prod (iblk m c 0 t) (iblk m c 1 t) r d = proj (a0 m c) (a1 m c) (batch t) (place t r) d :=
  congrArg₂ dot (funext fun e => block0 m c t r e) (funext fun e => block1 m c t e _)

/-- A tile's projection onto the output gates is the array's. -/
theorem prodB_place (c : Dev nD) (t : Fin cfg0.N) (r : Fin 1024) (d : ℕ) :
    prodB (iblk m c 0 t) (iblk m c 2 t) r d = projB (a0 m c) (a2 m c) (batch t) (place t r) d :=
  congrArg₂ dot (funext fun e => block0 m c t r e) (funext fun e => block2 m c t e _)

/-- A tile's forget gates are the array's. -/
theorem forget_place (c : Dev nD) (t : Fin cfg0.N) (r : Fin 1024) (d : Fin 512) :
    forget (iblk m c 0 t) (iblk m c 1 t) (iblk m c 4 t) r d = fgate (a0 m c) (a1 m c) (a4 m c) (batch t) (place t r) d := by
  unfold forget fgate
  rw [block4 m c t 0 d, prod_place]

/-- With real arguments a tile holds the recurrence's rows from its first on. -/
theorem tile (c : Dev nD) (t : Fin cfg0.N) (H : Args m c) :
    Tile (iblk m c 0 t) (iblk m c 1 t) (iblk m c 4 t) (sL m c (batch t)) (sQ m c (batch t))
      (sK m c (batch t)) (sV m c (batch t)) (1024 * (t.val % 8)) where
  q r d := (prod_place m c t r _).trans (seq_coe (f := fun s d => proj (a0 m c) (a1 m c) (batch t) s d.val) (H.q _ (place t r) d))
  l r d := by rw [block4 m c t 0 d, forget_place]; exact H.l _ (place t r) d
  z n d e := H.z _ n d ((block4 m c t 0 d).symm.trans e)
  k r d n := by rw [forget_place]; exact H.k _ (place t r) d fun e => n ((block4 m c t 0 d).trans e)
  v r d := (prod_place m c t r _).trans (seq_coe (f := fun s d => proj (a0 m c) (a1 m c) (batch t) s (1024 + d.val)) (H.v _ (place t r) d))

/-- A batch's first tile starts at its first row. -/
theorem tile_zero (c : Dev nD) (t : Fin cfg0.N) (h0 : t.val % 8 = 0) (H : Args m c) :
    Tile (iblk m c 0 t) (iblk m c 1 t) (iblk m c 4 t) (sL m c (batch t)) (sQ m c (batch t))
      (sK m c (batch t)) (sV m c (batch t)) 0 := by
  have h := tile m c t H
  rw [h0] at h
  exact h

/-- A tile's gates are the array's. -/
theorem gateLog_place (c : Dev nD) (t : Fin cfg0.N) (g : Fin 8) (n : ℕ) (hn : n < 1024) :
    gateLog (iblk m c 0 t) (iblk m c 3 t) (iblk m c 5 t) g.val n = gateSeq (a0 m c) (batch t) (a3 m c) (a5 m c) g (1024 * (t.val % 8) + n) := by
  have hN : t.val < 32 := t.isLt.trans_eq N_0
  have hg : (⟨g.val % 8, Nat.mod_lt _ (by decide)⟩ : Fin 8) = g := Fin.ext (Nat.mod_eq_of_lt g.isLt)
  have hp : place t ⟨n % 1024, Nat.mod_lt _ (by decide)⟩ = ⟨(1024 * (t.val % 8) + n) % 8192, Nat.mod_lt _ (by decide)⟩ := Fin.ext
    (show 1024 * (t.val % 8) + n % 1024 = (1024 * (t.val % 8) + n) % 8192 by omega)
  unfold gateLog gateSeq
  rw [hg, ← hp]
  exact congrArg logSig (congrArg₂ (· + ·) (Finset.sum_congr rfl fun e _ => congrArg₂ (· * ·) (block3 m c t g e) (block0 m c t _ e)) (block5 m c t g _))

/-- A tile's running sums, with those of the tiles before, are the array's. -/
theorem gates_place (c : Dev nD) (t : Fin cfg0.N) (g : Fin 8) (k : ℕ) (hk : k ≤ 1024) :
    ∑ n ∈ Finset.range k, gateLog (iblk m c 0 t) (iblk m c 3 t) (iblk m c 5 t) g.val n + ∑ n ∈ Finset.range (1024 * (t.val % 8)), gateSeq (a0 m c) (batch t) (a3 m c) (a5 m c) g n
      = ∑ n ∈ Finset.range (1024 * (t.val % 8) + k), gateSeq (a0 m c) (batch t) (a3 m c) (a5 m c) g n := by
  rw [Finset.sum_range_add, add_comm]
  refine congrArg _ (Finset.sum_congr rfl fun n hn => gateLog_place m c t g n ?_)
  have := Finset.mem_range.mp hn
  omega

/-- The running sums of a batch's first tile are the array's. -/
theorem gates_place_zero (c : Dev nD) (t : Fin cfg0.N) (h0 : t.val % 8 = 0) (g : Fin 8) (k : ℕ) (hk : k ≤ 1024) :
    ∑ n ∈ Finset.range k, gateLog (iblk m c 0 t) (iblk m c 3 t) (iblk m c 5 t) g.val n + 0
      = ∑ n ∈ Finset.range (1024 * (t.val % 8) + k), gateSeq (a0 m c) (batch t) (a3 m c) (a5 m c) g n := by
  rw [← gates_place m c t g k hk, h0]
  rfl

/-- The point before. -/
def before (t : Fin cfg0.N) : Fin cfg0.N := ⟨t.val - 1, Nat.lt_of_le_of_lt (Nat.sub_le _ _) t.isLt⟩

theorem batch_before (t : Fin cfg0.N) (h0 : ¬t.val % 8 = 0) : batch (before t) = batch t :=
  Fin.ext (show (t.val - 1) / 8 = t.val / 8 by omega)

theorem tile_before (t : Fin cfg0.N) (h0 : ¬t.val % 8 = 0) : 1024 * ((before t).val % 8) + 1024 = 1024 * (t.val % 8) :=
  show 1024 * ((t.val - 1) % 8) + 1024 = 1024 * (t.val % 8) by omega

/-- The sums carried over after point `t`. -/
theorem carried (c : Dev nD) (n : ℕ) : ∀ (hn : n < cfg0.N) (g : Fin 8) (l : Fin 128),
    (outsAt0 m c n hn).2.2.2.2.2.2.1 (ix2 g l)
      = ∑ k ∈ Finset.range (1024 * (n % 8) + 1024), gateSeq (a0 m c) (batch ⟨n, hn⟩) (a3 m c) (a5 m c) g k := by
  induction n with
  | zero =>
    intro hn g l
    rw [outsAt0_A m c ⟨0, hn⟩ rfl]
    dsimp only
    exact (RunA.carry ((hcond0_0 ⟨0, hn⟩).mpr rfl) g l).trans (gates_place_zero m c ⟨0, hn⟩ rfl g 1024 le_rfl)
  | succ n ih =>
    intro hn g l
    by_cases h0 : (n + 1) % 8 = 0
    · rw [outsAt0_A m c ⟨n + 1, hn⟩ h0]
      dsimp only
      exact (RunA.carry ((hcond0_0 ⟨n + 1, hn⟩).mpr h0) g l).trans (gates_place_zero m c ⟨n + 1, hn⟩ h0 g 1024 le_rfl)
    · rw [outsAt0_B m c ⟨n + 1, hn⟩ h0]
      dsimp only
      refine (RunB.carry (fun h => h0 ((hcond0_0 ⟨n + 1, hn⟩).mp h)) g l).trans ?_
      refine Eq.trans (congrArg (_ + ·) ((ih (Nat.lt_of_succ_lt hn) g 0).trans ?_)) (gates_place m c ⟨n + 1, hn⟩ g 1024 le_rfl)
      exact congrArg₂ (fun b N => ∑ k ∈ Finset.range N, gateSeq (a0 m c) b (a3 m c) (a5 m c) g k) (batch_before ⟨n + 1, hn⟩ h0) (tile_before ⟨n + 1, hn⟩ h0)

/-- The sums carried into a later tile. -/
theorem carried_in (c : Dev nD) (t : Fin cfg0.N) (h0 : ¬t.val % 8 = 0) (g : Fin 8) :
    (outsAt0 m c (t.val - 1) (before t).isLt).2.2.2.2.2.2.1 (ix2 g 0)
      = ∑ k ∈ Finset.range (1024 * (t.val % 8)), gateSeq (a0 m c) (batch t) (a3 m c) (a5 m c) g k :=
  (carried m c (t.val - 1) (before t).isLt g 0).trans
    (congrArg₂ (fun b N => ∑ k ∈ Finset.range N, gateSeq (a0 m c) b (a3 m c) (a5 m c) g k) (batch_before t h0) (tile_before t h0))

/-- The heads' states after point `n`. -/
theorem held_after (c : Dev nD) (H : Args m c) (n : ℕ) : ∀ (hn : n < cfg0.N) (h : Fin 4) (j x : Fin 128),
    (outsAt0 m c n hn).2.2.2.2.2.2.2 (ix3 h j x)
      = ((stateW (sL m c (batch ⟨n, hn⟩)) (sK m c (batch ⟨n, hn⟩)) (sV m c (batch ⟨n, hn⟩)) h.val (1024 * (n % 8) + 1024) j.val x.val : ℝ) : EReal) := by
  induction n with
  | zero =>
    intro hn h j x
    rw [outsAt0_A m c ⟨0, hn⟩ rfl]
    dsimp only
    exact RunA.states ((hcond0_0 ⟨0, hn⟩).mpr rfl) (tile_zero m c ⟨0, hn⟩ rfl H) h j x
  | succ n ih =>
    intro hn h j x
    by_cases h0 : (n + 1) % 8 = 0
    · rw [outsAt0_A m c ⟨n + 1, hn⟩ h0]
      dsimp only
      exact (RunA.states ((hcond0_0 ⟨n + 1, hn⟩).mpr h0) (tile_zero m c ⟨n + 1, hn⟩ h0 H) h j x).trans
        (congrArg (fun N => ((stateW (sL m c (batch ⟨n + 1, hn⟩)) (sK m c (batch ⟨n + 1, hn⟩)) (sV m c (batch ⟨n + 1, hn⟩)) h.val N j.val x.val : ℝ) : EReal)) (show 1024 * 0 + 1024 = 1024 * ((n + 1) % 8) + 1024 by omega))
    · rw [outsAt0_B m c ⟨n + 1, hn⟩ h0]
      dsimp only
      refine RunB.states (fun h => h0 ((hcond0_0 ⟨n + 1, hn⟩).mp h)) (tile m c ⟨n + 1, hn⟩ H) (fun h j x => (ih (Nat.lt_of_succ_lt hn) h j x).trans ?_) h j x
      exact congrArg₂ (fun b N => ((stateW (sL m c b) (sK m c b) (sV m c b) h.val N j.val x.val : ℝ) : EReal))
        (batch_before ⟨n + 1, hn⟩ h0) (tile_before ⟨n + 1, hn⟩ h0)

/-- The heads' states before a later tile. -/
theorem held_before (c : Dev nD) (H : Args m c) (t : Fin cfg0.N) (h0 : ¬t.val % 8 = 0) (h : Fin 4) (j x : Fin 128) :
    (outsAt0 m c (t.val - 1) (before t).isLt).2.2.2.2.2.2.2 (ix3 h j x)
      = ((stateW (sL m c (batch t)) (sK m c (batch t)) (sV m c (batch t)) h.val (1024 * (t.val % 8)) j.val x.val : ℝ) : EReal) :=
  (held_after m c H (t.val - 1) (before t).isLt h j x).trans
    (congrArg₂ (fun b N => ((stateW (sL m c b) (sK m c b) (sV m c b) h.val N j.val x.val : ℝ) : EReal)) (batch_before t h0) (tile_before t h0))

/-- A tile's rows of the first layer's output are the array's. -/
theorem hgRow_place (c : Dev nD) (t : Fin cfg0.N) (r : Fin 1024) (d : Fin 512) :
    hgRow (iblk m c 0 t) (iblk m c 1 t) (iblk m c 6 t) (sL m c (batch t)) (sQ m c (batch t))
      (sK m c (batch t)) (sV m c (batch t)) (1024 * (t.val % 8)) r d
      = rH m c (ix3 (batch t) (place t r) d) := by
  unfold hgRow
  rw [block6 m c t 0 d, prod_place]
  rfl

/-- The point and the row of an entry of a result array. -/
theorem point_of (i : S4x8192x512.Idx) : ∃ (t : Fin cfg0.N) (r : Fin 1024), ix3 (batch t) (place t r) (i 2) = i := by
  have h0 : (i 0).val < 4 := (i 0).isLt
  have hS : (i 1).val < 8192 := (i 1).isLt
  have hN : cfg0.N = 32 := N_0
  refine ⟨⟨(i 0).val * 8 + (i 1).val / 1024, lt_of_lt_of_eq (by omega) hN.symm⟩, ⟨(i 1).val % 1024, by omega⟩, ?_⟩
  funext a; apply Fin.ext
  match a with
  | ⟨0, _⟩ => show ((i 0).val * 8 + (i 1).val / 1024) / 8 = (i 0).val; omega
  | ⟨1, _⟩ => show 1024 * (((i 0).val * 8 + (i 1).val / 1024) % 8) + (i 1).val % 1024 = (i 1).val; omega
  | ⟨2, _⟩ => rfl

/-- The first layer's output of point `t`. -/
theorem point7 (c : Dev nD) (H : Args m c) (t : Fin cfg0.N) (r : Fin 1024) (d : Fin 512) :
    (outsAt0 m c t.val t.isLt).1 (ix3 0 r d) = rH m c (ix3 (batch t) (place t r) d) := by
  by_cases h0 : t.val % 8 = 0
  · rw [outsAt0_A m c t h0]
    dsimp only
    exact (by have e := hgRow_place m c t r d; rw [h0] at e; exact (RunA.rows ((hcond0_0 t).mpr h0) (tile_zero m c t h0 H) r d).trans e)
  · rw [outsAt0_B m c t h0]
    dsimp only
    exact (RunB.rows (fun h => h0 ((hcond0_0 t).mp h)) (tile m c t H) (held_before m c H t h0) r d).trans (hgRow_place m c t r d)

/-- What point `t` writes of the first layer's output is its block of the result. -/
theorem flushed7 (c : Dev nD) (H : Args m c) (t : Fin cfg0.N) :
    (dats m 0 c).flushed 7 t = ((cfg0.win 7).blk t).view.read (Elt Ideal) (rH m c) := by
  rw [Value.flushed7]
  funext y
  have hy := row_ix y
  refine Eq.trans ?_ (congrArg (rH m c) ((congrArg _ hy).trans (emb7 t (y 1) (y 2)))).symm
  exact (congrArg ((outsAt0 m c t.val t.isLt).1) hy).trans (point7 m c H t (y 1) (y 2))

/-- Every entry of the first layer's output is in some point's block. -/
theorem covered7 (i : S4x8192x512.Idx) : ∃ t : Fin cfg0.N, (cfg0.win 7).flush t = true ∧ i ∈ ((cfg0.win 7).blk t).view.set := by
  obtain ⟨t, r, e⟩ := point_of i
  exact ⟨t, flush0_7 _, Eq.mp (congrArg (· ∈ _) ((emb7 t r (i 2)).trans e)) (((cfg0.win 7).blk t).view.emb_mem_set (ix3 0 r (i 2)))⟩

/-- The first layer's output after the run. -/
theorem final7 (c : Dev nD) (H : Args m c) : (dats m 0 c).arrAt 7 cfg0.N = rH m c :=
  (dats m 0 c).arrAt_eq_of_cover 7 _ (fun t _ => flushed7 m c H t) covered7

/-- The queries of point `t`. -/
theorem point8 (c : Dev nD) (t : Fin cfg0.N) (r : Fin 1024) (d : Fin 512) :
    (outsAt0 m c t.val t.isLt).2.1 (ix3 0 r d) = rQ m c (ix3 (batch t) (place t r) d) := by
  by_cases h0 : t.val % 8 = 0
  · rw [outsAt0_A m c t h0]
    dsimp only
    exact (RunA.queries ((hcond0_0 t).mpr h0) r d).trans (congrArg (· * qScale) (prod_place m c t r _))
  · rw [outsAt0_B m c t h0]
    dsimp only
    exact (RunB.queries (fun h => h0 ((hcond0_0 t).mp h)) r d).trans (congrArg (· * qScale) (prod_place m c t r _))

/-- What point `t` writes of the queries is its block of the result. -/
theorem flushed8 (c : Dev nD) (t : Fin cfg0.N) :
    (dats m 0 c).flushed 8 t = ((cfg0.win 8).blk t).view.read (Elt Ideal) (rQ m c) := by
  rw [Value.flushed8]
  funext y
  have hy := row_ix y
  refine Eq.trans ?_ (congrArg (rQ m c) ((congrArg _ hy).trans (emb8 t (y 1) (y 2)))).symm
  exact (congrArg ((outsAt0 m c t.val t.isLt).2.1) hy).trans (point8 m c t (y 1) (y 2))

/-- Every entry of the queries is in some point's block. -/
theorem covered8 (i : S4x8192x512.Idx) : ∃ t : Fin cfg0.N, (cfg0.win 8).flush t = true ∧ i ∈ ((cfg0.win 8).blk t).view.set := by
  obtain ⟨t, r, e⟩ := point_of i
  exact ⟨t, flush0_8 _, Eq.mp (congrArg (· ∈ _) ((emb8 t r (i 2)).trans e)) (((cfg0.win 8).blk t).view.emb_mem_set (ix3 0 r (i 2)))⟩

/-- The queries after the run. -/
theorem final8 (c : Dev nD) : (dats m 0 c).arrAt 8 cfg0.N = rQ m c :=
  (dats m 0 c).arrAt_eq_of_cover 8 _ (fun t _ => flushed8 m c t) covered8

/-- The keys of point `t`. -/
theorem point9 (c : Dev nD) (t : Fin cfg0.N) (r : Fin 1024) (d : Fin 512) :
    (outsAt0 m c t.val t.isLt).2.2.1 (ix3 0 r d) = rK m c (ix3 (batch t) (place t r) d) := by
  by_cases h0 : t.val % 8 = 0
  · rw [outsAt0_A m c t h0]
    dsimp only
    exact (RunA.keys ((hcond0_0 t).mpr h0) r d).trans (prod_place m c t r _)
  · rw [outsAt0_B m c t h0]
    dsimp only
    exact (RunB.keys (fun h => h0 ((hcond0_0 t).mp h)) r d).trans (prod_place m c t r _)

/-- What point `t` writes of the keys is its block of the result. -/
theorem flushed9 (c : Dev nD) (t : Fin cfg0.N) :
    (dats m 0 c).flushed 9 t = ((cfg0.win 9).blk t).view.read (Elt Ideal) (rK m c) := by
  rw [Value.flushed9]
  funext y
  have hy := row_ix y
  refine Eq.trans ?_ (congrArg (rK m c) ((congrArg _ hy).trans (emb9 t (y 1) (y 2)))).symm
  exact (congrArg ((outsAt0 m c t.val t.isLt).2.2.1) hy).trans (point9 m c t (y 1) (y 2))

/-- Every entry of the keys is in some point's block. -/
theorem covered9 (i : S4x8192x512.Idx) : ∃ t : Fin cfg0.N, (cfg0.win 9).flush t = true ∧ i ∈ ((cfg0.win 9).blk t).view.set := by
  obtain ⟨t, r, e⟩ := point_of i
  exact ⟨t, flush0_9 _, Eq.mp (congrArg (· ∈ _) ((emb9 t r (i 2)).trans e)) (((cfg0.win 9).blk t).view.emb_mem_set (ix3 0 r (i 2)))⟩

/-- The keys after the run. -/
theorem final9 (c : Dev nD) : (dats m 0 c).arrAt 9 cfg0.N = rK m c :=
  (dats m 0 c).arrAt_eq_of_cover 9 _ (fun t _ => flushed9 m c t) covered9

/-- The values of point `t`. -/
theorem point10 (c : Dev nD) (t : Fin cfg0.N) (r : Fin 1024) (d : Fin 512) :
    (outsAt0 m c t.val t.isLt).2.2.2.1 (ix3 0 r d) = rV m c (ix3 (batch t) (place t r) d) := by
  by_cases h0 : t.val % 8 = 0
  · rw [outsAt0_A m c t h0]
    dsimp only
    exact (RunA.values ((hcond0_0 t).mpr h0) r d).trans (prod_place m c t r _)
  · rw [outsAt0_B m c t h0]
    dsimp only
    exact (RunB.values (fun h => h0 ((hcond0_0 t).mp h)) r d).trans (prod_place m c t r _)

/-- What point `t` writes of the values is its block of the result. -/
theorem flushed10 (c : Dev nD) (t : Fin cfg0.N) :
    (dats m 0 c).flushed 10 t = ((cfg0.win 10).blk t).view.read (Elt Ideal) (rV m c) := by
  rw [Value.flushed10]
  funext y
  have hy := row_ix y
  refine Eq.trans ?_ (congrArg (rV m c) ((congrArg _ hy).trans (emb10 t (y 1) (y 2)))).symm
  exact (congrArg ((outsAt0 m c t.val t.isLt).2.2.2.1) hy).trans (point10 m c t (y 1) (y 2))

/-- Every entry of the values is in some point's block. -/
theorem covered10 (i : S4x8192x512.Idx) : ∃ t : Fin cfg0.N, (cfg0.win 10).flush t = true ∧ i ∈ ((cfg0.win 10).blk t).view.set := by
  obtain ⟨t, r, e⟩ := point_of i
  exact ⟨t, flush0_10 _, Eq.mp (congrArg (· ∈ _) ((emb10 t r (i 2)).trans e)) (((cfg0.win 10).blk t).view.emb_mem_set (ix3 0 r (i 2)))⟩

/-- The values after the run. -/
theorem final10 (c : Dev nD) : (dats m 0 c).arrAt 10 cfg0.N = rV m c :=
  (dats m 0 c).arrAt_eq_of_cover 10 _ (fun t _ => flushed10 m c t) covered10

/-- The output gates of point `t`. -/
theorem point11 (c : Dev nD) (t : Fin cfg0.N) (r : Fin 1024) (d : Fin 512) :
    (outsAt0 m c t.val t.isLt).2.2.2.2.1 (ix3 0 r d) = resultZ (a0 m c) (a2 m c) (ix3 (batch t) (place t r) d) := by
  by_cases h0 : t.val % 8 = 0
  · rw [outsAt0_A m c t h0]
    dsimp only
    exact (RunA.zgates ((hcond0_0 t).mpr h0) r d).trans (congrArg siluT (prodB_place m c t r _))
  · rw [outsAt0_B m c t h0]
    dsimp only
    exact (RunB.zgates (fun h => h0 ((hcond0_0 t).mp h)) r d).trans (congrArg siluT (prodB_place m c t r _))

/-- What point `t` writes of the output gates is its block of the result. -/
theorem flushed11 (c : Dev nD) (t : Fin cfg0.N) :
    (dats m 0 c).flushed 11 t = ((cfg0.win 11).blk t).view.read (Elt Ideal) (resultZ (a0 m c) (a2 m c)) := by
  rw [Value.flushed11]
  funext y
  have hy := row_ix y
  refine Eq.trans ?_ (congrArg (resultZ (a0 m c) (a2 m c)) ((congrArg _ hy).trans (emb11 t (y 1) (y 2)))).symm
  exact (congrArg ((outsAt0 m c t.val t.isLt).2.2.2.2.1) hy).trans (point11 m c t (y 1) (y 2))

/-- Every entry of the output gates is in some point's block. -/
theorem covered11 (i : S4x8192x512.Idx) : ∃ t : Fin cfg0.N, (cfg0.win 11).flush t = true ∧ i ∈ ((cfg0.win 11).blk t).view.set := by
  obtain ⟨t, r, e⟩ := point_of i
  exact ⟨t, flush0_11 _, Eq.mp (congrArg (· ∈ _) ((emb11 t r (i 2)).trans e)) (((cfg0.win 11).blk t).view.emb_mem_set (ix3 0 r (i 2)))⟩

/-- The output gates after the run. -/
theorem final11 (c : Dev nD) : (dats m 0 c).arrAt 11 cfg0.N = resultZ (a0 m c) (a2 m c) :=
  (dats m 0 c).arrAt_eq_of_cover 11 _ (fun t _ => flushed11 m c t) covered11

/-- The running sums of point `t`. -/
theorem point12 (c : Dev nD) (t : Fin cfg0.N) (j : Fin 4) (g : Fin 8) (l : Fin 256) :
    (outsAt0 m c t.val t.isLt).2.2.2.2.2.1 (ix4 0 j g l) = resultC (a0 m c) (a3 m c) (a5 m c) (ix4 (batch t) ⟨4 * (t.val % 8) + j.val, by omega⟩ g l) := by
  have hj := j.isLt
  have hl := l.isLt
  have e : ∑ n ∈ Finset.range (1024 * (t.val % 8) + (256 * j.val + l.val + 1)), gateSeq (a0 m c) (batch t) (a3 m c) (a5 m c) g n
      = resultC (a0 m c) (a3 m c) (a5 m c) (ix4 (batch t) ⟨4 * (t.val % 8) + j.val, by omega⟩ g l) := by
    refine congrArg (fun N => ∑ n ∈ Finset.range N, gateSeq (a0 m c) (batch t) (a3 m c) (a5 m c) g n) ?_
    show 1024 * (t.val % 8) + (256 * j.val + l.val + 1) = 256 * (4 * (t.val % 8) + j.val) + l.val + 1
    omega
  rw [← e]
  by_cases h0 : t.val % 8 = 0
  · rw [outsAt0_A m c t h0]
    dsimp only
    exact (RunA.gates ((hcond0_0 t).mpr h0) j g l).trans (gates_place_zero m c t h0 g _ (by omega))
  · rw [outsAt0_B m c t h0]
    dsimp only
    refine (RunB.gates (fun h => h0 ((hcond0_0 t).mp h)) j g l).trans ?_
    exact Eq.trans (congrArg (_ + ·) (carried_in m c t h0 g)) (gates_place m c t g _ (by omega))

/-- What point `t` writes of the running sums is its block of the result. -/
theorem flushed12 (c : Dev nD) (t : Fin cfg0.N) :
    (dats m 0 c).flushed 12 t = ((cfg0.win 12).blk t).view.read (Elt Ideal) (resultC (a0 m c) (a3 m c) (a5 m c)) := by
  rw [Value.flushed12]
  funext y
  have hy : (y : S1x4x8x256.Idx) = ix4 0 (y 1) (y 2) (y 3) := (eq_ix4 y).trans (congrArg (fun k : Fin 1 => ix4 k (y 1) (y 2) (y 3)) (Subsingleton.elim _ _))
  refine Eq.trans ?_ (congrArg (resultC (a0 m c) (a3 m c) (a5 m c)) ((congrArg _ hy).trans (emb12 t (y 1) (y 2) (y 3)))).symm
  exact (congrArg ((outsAt0 m c t.val t.isLt).2.2.2.2.2.1) hy).trans (point12 m c t (y 1) (y 2) (y 3))

/-- Every entry of the running sums is in some point's block. -/
theorem covered12 (i : S4x32x8x256.Idx) : ∃ t : Fin cfg0.N, (cfg0.win 12).flush t = true ∧ i ∈ ((cfg0.win 12).blk t).view.set := by
  have h0 : (i 0).val < 4 := (i 0).isLt
  have hS : (i 1).val < 32 := (i 1).isLt
  have hN : cfg0.N = 32 := N_0
  have ht : (i 0).val * 8 + (i 1).val / 4 < cfg0.N := lt_of_lt_of_eq (by omega) hN.symm
  refine ⟨⟨(i 0).val * 8 + (i 1).val / 4, ht⟩, flush0_12 _, ?_⟩
  have h := ((cfg0.win 12).blk ⟨(i 0).val * 8 + (i 1).val / 4, ht⟩).view.emb_mem_set (ix4 0 ⟨(i 1).val % 4, by omega⟩ (i 2) (i 3))
  refine Eq.mp (congrArg (· ∈ _) ?_) h
  refine (emb12 _ _ _ _).trans ?_
  funext a; apply Fin.ext
  match a with
  | ⟨0, _⟩ => show ((i 0).val * 8 + (i 1).val / 4) / 8 = (i 0).val; omega
  | ⟨1, _⟩ => show 4 * (((i 0).val * 8 + (i 1).val / 4) % 8) + (i 1).val % 4 = (i 1).val; omega
  | ⟨2, _⟩ => rfl
  | ⟨3, _⟩ => rfl

/-- The running sums after the run. -/
theorem final12 (c : Dev nD) : (dats m 0 c).arrAt 12 cfg0.N = resultC (a0 m c) (a3 m c) (a5 m c) :=
  (dats m 0 c).arrAt_eq_of_cover 12 _ (fun t _ => flushed12 m c t) covered12

end Cert.Hgrn
-- ==== Proof.Hgrn.Window.lean ====
/-
  The host's running sums over a whole sequence.
-/
module

public import proofs.«01_k».proof.Proof.Gen.Reference5Ideal.Read
public import proofs.«01_k».proof.Proof.Inproj.Window

@[expose] public section

set_option maxRecDepth 16384

noncomputable section

open Idealize.ShloMosaic
open Cert.Reference5Ideal Cert.Reference5Ideal.Gen
open Cert.Inproj (foldl_add)

namespace Cert.Hgrn

/-- A window of 8192 entries that ends at `j`, with zeros before the first. -/
theorem window_total (f : ℕ → EReal) (j : ℕ) (hj : j < 8192) :
    (∑ n : Fin 8192, if 8191 ≤ j + n.val then f (j + n.val - 8191) else 0) = ∑ k ∈ Finset.range (j + 1), f k := by
  rw [← Finset.sum_range (fun n => if 8191 ≤ j + n then f (j + n - 8191) else 0), ← Finset.sum_filter]
  refine Finset.sum_nbij' (fun n => j + n - 8191) (fun k => k + 8191 - j) ?_ ?_ ?_ ?_ ?_
  · intro n hn
    have h := Finset.mem_filter.mp hn
    have h' := Finset.mem_range.mp h.1
    exact Finset.mem_range.mpr (by omega)
  · intro k hk
    have h := Finset.mem_range.mp hk
    exact Finset.mem_filter.mpr ⟨Finset.mem_range.mpr (by omega), by omega⟩
  · intro n hn
    have h := (Finset.mem_filter.mp hn).2
    show j + n - 8191 + 8191 - j = n
    omega
  · intro k hk
    have h := Finset.mem_range.mp hk
    show j + (k + 8191 - j) - 8191 = k
    omega
  · intro n _
    rfl

/-- The places in a window along the rows. -/
theorem rows_place (n : Fin (⟨3, ![1, 8192, 1]⟩ : Shape).numel) : ((⟨3, ![1, 8192, 1]⟩ : Shape).rowMajor.symm n 0).val = 0
    ∧ ((⟨3, ![1, 8192, 1]⟩ : Shape).rowMajor.symm n 1).val = n.val ∧ ((⟨3, ![1, 8192, 1]⟩ : Shape).rowMajor.symm n 2).val = 0 := by
  have e := congrArg Fin.val ((⟨3, ![1, 8192, 1]⟩ : Shape).rowMajor.apply_symm_apply n)
  generalize (⟨3, ![1, 8192, 1]⟩ : Shape).rowMajor.symm n = y at *
  rw [Shape.rowMajor_val_three] at e
  have h0 : (y 0).val < 1 := (y 0).isLt
  have h1 : (y 1).val < 8192 := (y 1).isLt
  have h2 : (y 2).val < 1 := (y 2).isLt
  change ((y 0).val * 8192 + (y 1).val) * 1 + (y 2).val = n.val at e
  omega

/-- The places in a window along the lanes. -/
theorem lanes_place (n : Fin (⟨3, ![1, 1, 8192]⟩ : Shape).numel) : ((⟨3, ![1, 1, 8192]⟩ : Shape).rowMajor.symm n 0).val = 0
    ∧ ((⟨3, ![1, 1, 8192]⟩ : Shape).rowMajor.symm n 1).val = 0 ∧ ((⟨3, ![1, 1, 8192]⟩ : Shape).rowMajor.symm n 2).val = n.val := by
  have e := congrArg Fin.val ((⟨3, ![1, 1, 8192]⟩ : Shape).rowMajor.apply_symm_apply n)
  generalize (⟨3, ![1, 1, 8192]⟩ : Shape).rowMajor.symm n = y at *
  rw [Shape.rowMajor_val_three] at e
  have h0 : (y 0).val < 1 := (y 0).isLt
  have h1 : (y 1).val < 1 := (y 1).isLt
  have h2 : (y 2).val < 8192 := (y 2).isLt
  change ((y 0).val * 1 + (y 1).val) * 8192 + (y 2).val = n.val at e
  omega

/-- The host's running sum along the rows. -/
theorem running_rows (x : FVec Ideal S4x8192x512 .f32) (init : FVec Ideal S_ .f32) (hinit : ∀ i, init i = (0 : EReal))
    (b : Fin 4) (d : Fin 512) (f : ℕ → EReal) (hx : ∀ s : Fin 8192, x (ix3 b s d) = f s.val) (s : Fin 8192) :
    Host.reduceWindowAdd ![1, 8192, 1] ![1, 1, 1] ![0, 8191, 0] ![0, 0, 0] x init
        reduceWindows_S4x8192x512_S4x8192x512_w1s1p0_0_w8192s1p8191_0_w1s1p0_0 h_S_ (ix3 b s d)
      = ∑ k ∈ Finset.range (s.val + 1), f k := by
  have hs := s.isLt
  unfold Host.reduceWindowAdd
  rw [Ideal.hostReduceWindowAdd_def, hinit]
  unfold Ideal.hostReduceWindowAdd Host.reduceWindow
  refine (foldl_add _).trans ((Finset.sum_congr rfl fun n _ => ?_).trans (window_total f s.val hs))
  obtain ⟨p0, p1, p2⟩ := rows_place n
  have hb := b.isLt
  have hd := d.isLt
  have hm : n.val < 8192 := n.isLt
  split
  · rename_i hin
    have h3 := hin 1
    change 8191 ≤ s.val * 1 + ((⟨3, ![1, 8192, 1]⟩ : Shape).rowMajor.symm n 1).val ∧ _ at h3
    rw [p1] at h3
    rw [if_pos (by omega)]
    refine (congrArg x (funext fun a => Fin.ext ?_)).trans (hx ⟨s.val + n.val - 8191, by omega⟩)
    match a with
    | ⟨0, _⟩ =>
      show b.val * 1 + ((⟨3, ![1, 8192, 1]⟩ : Shape).rowMajor.symm n 0).val - 0 = b.val
      rw [p0]; omega
    | ⟨1, _⟩ =>
      show s.val * 1 + ((⟨3, ![1, 8192, 1]⟩ : Shape).rowMajor.symm n 1).val - 8191 = s.val + n.val - 8191
      rw [p1]; omega
    | ⟨2, _⟩ =>
      show d.val * 1 + ((⟨3, ![1, 8192, 1]⟩ : Shape).rowMajor.symm n 2).val - 0 = d.val
      rw [p2]; omega
  · rename_i hin
    rw [if_neg fun hle => hin fun a => by
      match a with
      | ⟨0, _⟩ =>
        show 0 ≤ b.val * 1 + ((⟨3, ![1, 8192, 1]⟩ : Shape).rowMajor.symm n 0).val ∧ b.val * 1 + ((⟨3, ![1, 8192, 1]⟩ : Shape).rowMajor.symm n 0).val - 0 < 4
        rw [p0]; omega
      | ⟨1, _⟩ =>
        show 8191 ≤ s.val * 1 + ((⟨3, ![1, 8192, 1]⟩ : Shape).rowMajor.symm n 1).val ∧ s.val * 1 + ((⟨3, ![1, 8192, 1]⟩ : Shape).rowMajor.symm n 1).val - 8191 < 8192
        rw [p1]; omega
      | ⟨2, _⟩ =>
        show 0 ≤ d.val * 1 + ((⟨3, ![1, 8192, 1]⟩ : Shape).rowMajor.symm n 2).val ∧ d.val * 1 + ((⟨3, ![1, 8192, 1]⟩ : Shape).rowMajor.symm n 2).val - 0 < 512
        rw [p2]; omega]

/-- The host's running sum along the lanes. -/
theorem running_lanes (x : FVec Ideal S4x8x8192 .f32) (init : FVec Ideal S_ .f32) (hinit : ∀ i, init i = (0 : EReal))
    (b : Fin 4) (g : Fin 8) (f : ℕ → EReal) (hx : ∀ s : Fin 8192, x (ix3 b g s) = f s.val) (s : Fin 8192) :
    Host.reduceWindowAdd ![1, 1, 8192] ![1, 1, 1] ![0, 0, 8191] ![0, 0, 0] x init
        reduceWindows_S4x8x8192_S4x8x8192_w1s1p0_0_w1s1p0_0_w8192s1p8191_0 h_S_ (ix3 b g s)
      = ∑ k ∈ Finset.range (s.val + 1), f k := by
  have hs := s.isLt
  unfold Host.reduceWindowAdd
  rw [Ideal.hostReduceWindowAdd_def, hinit]
  unfold Ideal.hostReduceWindowAdd Host.reduceWindow
  refine (foldl_add _).trans ((Finset.sum_congr rfl fun n _ => ?_).trans (window_total f s.val hs))
  obtain ⟨p0, p1, p2⟩ := lanes_place n
  have hb := b.isLt
  have hg := g.isLt
  have hm : n.val < 8192 := n.isLt
  split
  · rename_i hin
    have h3 := hin 2
    change 8191 ≤ s.val * 1 + ((⟨3, ![1, 1, 8192]⟩ : Shape).rowMajor.symm n 2).val ∧ _ at h3
    rw [p2] at h3
    rw [if_pos (by omega)]
    refine (congrArg x (funext fun a => Fin.ext ?_)).trans (hx ⟨s.val + n.val - 8191, by omega⟩)
    match a with
    | ⟨0, _⟩ =>
      show b.val * 1 + ((⟨3, ![1, 1, 8192]⟩ : Shape).rowMajor.symm n 0).val - 0 = b.val
      rw [p0]; omega
    | ⟨1, _⟩ =>
      show g.val * 1 + ((⟨3, ![1, 1, 8192]⟩ : Shape).rowMajor.symm n 1).val - 0 = g.val
      rw [p1]; omega
    | ⟨2, _⟩ =>
      show s.val * 1 + ((⟨3, ![1, 1, 8192]⟩ : Shape).rowMajor.symm n 2).val - 8191 = s.val + n.val - 8191
      rw [p2]; omega
  · rename_i hin
    rw [if_neg fun hle => hin fun a => by
      match a with
      | ⟨0, _⟩ =>
        show 0 ≤ b.val * 1 + ((⟨3, ![1, 1, 8192]⟩ : Shape).rowMajor.symm n 0).val ∧ b.val * 1 + ((⟨3, ![1, 1, 8192]⟩ : Shape).rowMajor.symm n 0).val - 0 < 4
        rw [p0]; omega
      | ⟨1, _⟩ =>
        show 0 ≤ g.val * 1 + ((⟨3, ![1, 1, 8192]⟩ : Shape).rowMajor.symm n 1).val ∧ g.val * 1 + ((⟨3, ![1, 1, 8192]⟩ : Shape).rowMajor.symm n 1).val - 0 < 8
        rw [p1]; omega
      | ⟨2, _⟩ =>
        show 8191 ≤ s.val * 1 + ((⟨3, ![1, 1, 8192]⟩ : Shape).rowMajor.symm n 2).val ∧ s.val * 1 + ((⟨3, ![1, 1, 8192]⟩ : Shape).rowMajor.symm n 2).val - 8191 < 8192
        rw [p2]; omega]

end Cert.Hgrn
-- ==== Proof.Hgrn.RefScan.lean ====
/-
  The first layer's input projection as the reference writes it: the projections, the forget gates and the recurrence as
  one sum over the tokens before.
-/
module

public import proofs.«01_k».proof.Proof.Hgrn.Window
public import proofs.«01_k».proof.Proof.Hgrn.Place
public import proofs.«01_k».proof.Proof.Inproj.Scalars
public import Idealize.ShloMosaic.Lib.Pointwise

@[expose] public section

set_option maxRecDepth 16384

noncomputable section

open Idealize.ShloMosaic
open Cert.Reference5Ideal Cert.Reference5Ideal.Gen Cert.Reference5Ideal.Read
open Cert.Inproj (dot siluT sigmoidT sigmoidH sigmoid_eq silu_eq IsReal)

namespace Cert.Hgrn

section
variable (x0 : FVec Ideal S4x8192x1024 .f32) (x1 : FVec Ideal S1024x3584 .bf16) (b : Fin 4) (s : Fin 8192) (d : Fin 512)

/-- The reference's projection. -/
theorem ref_proj (d : Fin 3584) : val_main_v1 (F := Ideal) x0 x1 (ix3 b s d) = proj x0 x1 b s d.val := by
  pointwise [val_main_v0, val_main_v1]
  exact Finset.sum_congr rfl fun e _ => congrArg (fun k => x0 (ix3 b s e) * x1 (ix2 e k)) (Fin.ext (Nat.mod_eq_of_lt d.isLt).symm)

/-- The reference's queries of the recurrence. -/
theorem ref_q : val_main_v2 (F := Ideal) x0 x1 (ix3 b s d) = proj x0 x1 b s d.val := by
  have h : val_main_v2 (F := Ideal) x0 x1 (ix3 b s d) = val_main_v1 (F := Ideal) x0 x1 (ix3 b s ⟨0 + d.val, by omega⟩) := by
    unfold val_main_v2
    generalize val_main_v1 (F := Ideal) x0 x1 = y
    pointwise
  rw [h, ref_proj]
  exact congrArg (proj x0 x1 b s) (Nat.zero_add _)

/-- What the reference's forget gates read. -/
theorem ref_f : val_main_v3 (F := Ideal) x0 x1 (ix3 b s d) = proj x0 x1 b s (512 + d.val) := by
  have h : val_main_v3 (F := Ideal) x0 x1 (ix3 b s d) = val_main_v1 (F := Ideal) x0 x1 (ix3 b s ⟨512 + d.val, by omega⟩) := by
    unfold val_main_v3
    generalize val_main_v1 (F := Ideal) x0 x1 = y
    pointwise
  rw [h, ref_proj]

/-- The reference's values of the recurrence. -/
theorem ref_v : val_main_v4 (F := Ideal) x0 x1 (ix3 b s d) = proj x0 x1 b s (1024 + d.val) := by
  have h : val_main_v4 (F := Ideal) x0 x1 (ix3 b s d) = val_main_v1 (F := Ideal) x0 x1 (ix3 b s ⟨1024 + d.val, by omega⟩) := by
    unfold val_main_v4
    generalize val_main_v1 (F := Ideal) x0 x1 = y
    pointwise
  rw [h, ref_proj]

/-- The reference's gates of the first part. -/
theorem ref_z : val_main_v61 (F := Ideal) x0 x1 (ix3 b s d) = proj x0 x1 b s (1536 + d.val) * sigmoidH (proj x0 x1 b s (1536 + d.val)) := by
  have h : val_main_v61 (F := Ideal) x0 x1 (ix3 b s d) = val_main_v1 (F := Ideal) x0 x1 (ix3 b s ⟨1536 + d.val, by omega⟩) * sigmoidH (val_main_v1 (F := Ideal) x0 x1 (ix3 b s ⟨1536 + d.val, by omega⟩)) := by
    unfold val_main_v61 val_main_call2_v5 val_main_call2_v4 val_main_call2_cst_0 val_main_call2_v3 val_main_call2_v2 val_main_call2_cst val_main_call2_v1 val_main_call2_v0 val_main_v5
    generalize val_main_v1 (F := Ideal) x0 x1 = y
    pointwise
    rfl
  rw [h, ref_proj]

/-- The reference's forget gates. -/
theorem ref_forget (x4 : FVec Ideal S1x512 .f32) : val_main_v26 (F := Ideal) x0 x1 x4 (ix3 b s d) = fgate x0 x1 x4 b s d := by
  have h : ∀ u v : FVec Ideal S512 .f32, val_main_v11 (F := Ideal) x4 = u → val_main_v12 (F := Ideal) x4 = v →
      val_main_v26 (F := Ideal) x0 x1 x4 (ix3 b s d) = u (ix1 d) + (1 - v (ix1 d)) * sigmoidH (val_main_v3 (F := Ideal) x0 x1 (ix3 b s d)) := by
    intro u v hu hv
    unfold val_main_v26 val_main_v25 val_main_v24 val_main_v23 val_main_v22 val_main_v21 val_main_v20 val_main_v19 val_main_cst_1 val_main_v18 val_main_v17 val_main_cst_0 val_main_v16 val_main_v15 val_main_v14 val_main_v13 val_main_cst
    rw [hu, hv]
    generalize val_main_v3 (F := Ideal) x0 x1 = y
    pointwise
    rfl
  have e11 : val_main_v11 (F := Ideal) x4 (ix1 d) = x4 (ix2 0 d) := by
    rw [val_main_v11_apply]
    exact congrArg x4 (funext fun a => Fin.ext (by match a with | ⟨0, _⟩ => rfl | ⟨1, _⟩ => exact Nat.mod_eq_of_lt d.isLt))
  have e12 : val_main_v12 (F := Ideal) x4 (ix1 d) = x4 (ix2 0 d) := by
    rw [val_main_v12_apply]
    exact congrArg x4 (funext fun a => Fin.ext (by match a with | ⟨0, _⟩ => rfl | ⟨1, _⟩ => exact Nat.mod_eq_of_lt d.isLt))
  rw [h _ _ rfl rfl, e11, e12, ref_f, ← sigmoid_eq]
  rfl

end

section
variable (x0 : FVec Ideal S4x8192x1024 .f32) (x1 : FVec Ideal S1024x3584 .bf16) (x4 : FVec Ideal S1x512 .f32) (H : RealArgs x0 x1 x4) (b : Fin 4)
include H

/-- The reference's running sums of the logarithms. -/
theorem ref_decay (s : Fin 8192) (d : Fin 512) :
    Lg (x4 (ix2 0 d) = ⊤) (val_main_v28 (F := Ideal) x0 x1 x4 (ix3 b s d)) (∑ i ∈ Finset.range (s.val + 1), seqL x0 x1 x4 b i d.val) := by
  have h : ∀ f : ℕ → EReal, (∀ s : Fin 8192, Ideal.log (fgate x0 x1 x4 b s d) = f s.val) →
      val_main_v28 (F := Ideal) x0 x1 x4 (ix3 b s d) = ∑ k ∈ Finset.range (s.val + 1), f k := by
    intro f hf
    unfold val_main_v28
    refine running_rows _ _ (fun i => ?_) b d f (fun s => ?_) s
    · pointwise [val_main_call0_call0_v0, val_main_call0_call0_cst]
    · show Ideal.log (val_main_v26 (F := Ideal) x0 x1 x4 (ix3 b s d)) = _
      rw [ref_forget, hf]
  refine ⟨fun n => ?_, fun n => ?_⟩
  · rw [coe_sum]
    exact h _ fun s => (H.l b s d).1 n
  · rw [h (fun _ => ⊥) fun s => (H.l b s d).2 n, Finset.sum_range_succ, EReal.add_bot]

/-- The reference's queries times the exponentials of the running sums. -/
theorem ref_qexp (s : Fin 8192) (h : Fin 4) (k : Fin 128) :
    Zr (x4 (ix2 0 ⟨128 * h.val + k.val, by omega⟩) = ⊤) (val_main_v31 (F := Ideal) x0 x1 x4 (ix4 b s h k))
      (ofHead (seqQ x0 x1 b) h.val s.val k.val * Real.exp (decay (seqL x0 x1 x4 b) h.val (s.val + 1) k.val)) := by
  have hb := b.isLt
  have hs := s.isLt
  have hh := h.isLt
  have hk := k.isLt
  have hi : idx_main_v31 (ix4 b s h k) = ix3 b s ⟨128 * h.val + k.val, by omega⟩ := by
    funext a; apply Fin.ext
    match a with
    | ⟨0, _⟩ => show (((b.val * 8192 + s.val) * 4 + h.val) * 128 + k.val) / 4194304 = b.val; omega
    | ⟨1, _⟩ => show (((b.val * 8192 + s.val) * 4 + h.val) * 128 + k.val) / 512 % 8192 = s.val; omega
    | ⟨2, _⟩ => show (((b.val * 8192 + s.val) * 4 + h.val) * 128 + k.val) % 512 = 128 * h.val + k.val; omega
  have hv : ∀ i, val_main_v30 (F := Ideal) x0 x1 x4 i = val_main_v2 (F := Ideal) x0 x1 i * Ideal.exp (val_main_v28 (F := Ideal) x0 x1 x4 i) := by
    intro i
    unfold val_main_v30 val_main_v29
    generalize val_main_v2 (F := Ideal) x0 x1 = y
    generalize val_main_v28 (F := Ideal) x0 x1 x4 = z
    rw [eq_ix3 i]
    pointwise
  rw [val_main_v31_apply, hi, hv, ref_q, seq_coe (f := fun s d => proj x0 x1 b s d.val) (H.q b s _)]
  exact (ref_decay x0 x1 x4 H b s _).exp.coe_mul _

/-- The reference's keys over the exponentials of the running sums. -/
theorem ref_kexp (s : Fin 8192) (h : Fin 4) (k : Fin 128) (n : ¬x4 (ix2 0 ⟨128 * h.val + k.val, by omega⟩) = ⊤) :
    val_main_v37 (F := Ideal) x0 x1 x4 (ix4 b s h k)
      = ((ofHead (seqK x0 x1 x4 b) h.val s.val k.val * Real.exp (-decay (seqL x0 x1 x4 b) h.val (s.val + 1) k.val) : ℝ) : EReal) := by
  have hb := b.isLt
  have hs := s.isLt
  have hh := h.isLt
  have hk := k.isLt
  have hi : idx_main_v37 (ix4 b s h k) = ix3 b s ⟨128 * h.val + k.val, by omega⟩ := by
    funext a; apply Fin.ext
    match a with
    | ⟨0, _⟩ => show (((b.val * 8192 + s.val) * 4 + h.val) * 128 + k.val) / 4194304 = b.val; omega
    | ⟨1, _⟩ => show (((b.val * 8192 + s.val) * 4 + h.val) * 128 + k.val) / 512 % 8192 = s.val; omega
    | ⟨2, _⟩ => show (((b.val * 8192 + s.val) * 4 + h.val) * 128 + k.val) % 512 = 128 * h.val + k.val; omega
  have hv : ∀ i, val_main_v36 (F := Ideal) x0 x1 x4 i = (1 - val_main_v26 (F := Ideal) x0 x1 x4 i) * Ideal.exp (-val_main_v28 (F := Ideal) x0 x1 x4 i) := by
    intro i
    unfold val_main_v36 val_main_v35 val_main_v34 val_main_v33 val_main_v32 val_main_cst_2
    generalize val_main_v26 (F := Ideal) x0 x1 x4 = y
    generalize val_main_v28 (F := Ideal) x0 x1 x4 = z
    rw [eq_ix3 i]
    pointwise
  rw [val_main_v37_apply, hi, hv, ref_forget, (ref_decay x0 x1 x4 H b s _).1 n, ← EReal.coe_neg, Ideal.exp_coe, EReal.coe_mul]
  exact congrArg (· * _) (H.k b s _ n)

/-- The reference's products of the queries with the keys. -/
theorem ref_pair (h : Fin 4) (t s : Fin 8192) :
    val_main_v41 (F := Ideal) x0 x1 x4 (ix4 b h t s)
      = ((pairW (decay (seqL x0 x1 x4 b) h.val) (ofHead (seqQ x0 x1 b) h.val) (ofHead (seqK x0 x1 x4 b) h.val) t.val s.val : ℝ) : EReal) := by
  have el : ∀ k : Fin 128, lidx_main_v41 (ix4 b h t s) k = ix4 b t h k := fun k => by
    funext a; match a with | ⟨0, _⟩ => rfl | ⟨1, _⟩ => rfl | ⟨2, _⟩ => rfl | ⟨3, _⟩ => rfl
  have er : ∀ k : Fin 128, ridx_main_v41 (ix4 b h t s) k = ix4 b s h k := fun k => by
    funext a; match a with | ⟨0, _⟩ => rfl | ⟨1, _⟩ => rfl | ⟨2, _⟩ => rfl | ⟨3, _⟩ => rfl
  rw [val_main_v41_apply]
  unfold pairW
  rw [Finset.sum_range, coe_sum]
  refine Finset.sum_congr rfl fun k _ => ?_
  rw [el, er]
  by_cases n : x4 (ix2 0 ⟨128 * h.val + k.val, by omega⟩) = ⊤
  · rw [(ref_qexp x0 x1 x4 H b t h k).2 n, zero_mul, show ofHead (seqK x0 x1 x4 b) h.val s.val k.val = 0 from H.z b _ _ n, mul_zero, zero_mul, EReal.coe_zero]
  rw [(ref_qexp x0 x1 x4 H b t h k).1 n, ref_kexp x0 x1 x4 H b s h k n, ← EReal.coe_mul]
  refine congrArg (fun r : ℝ => (r : EReal)) ?_
  rw [sub_eq_add_neg, Real.exp_add]
  ring

end

end Cert.Hgrn
-- ==== Proof.Hgrn.RefOut.lean ====
/-
  The first layer's output as the reference writes it: what a token reads from the tokens up to it, normed over its head
  and gated.
-/
module

public import proofs.«01_k».proof.Proof.Hgrn.RefScan

@[expose] public section

set_option maxRecDepth 16384

noncomputable section

open Idealize.ShloMosaic
open Cert.Reference5Ideal Cert.Reference5Ideal.Gen Cert.Reference5Ideal.Read
open Cert.Inproj (dot siluT sigmoidT sigmoidH sigmoid_eq silu_eq IsReal)

namespace Cert.Hgrn

/-- The signed comparison of two places in a sequence. -/
theorem sle_places (t s : Fin 8192) : (BitVec.ofNat 32 s.val).sle (BitVec.ofNat 32 t.val) = decide (s.val ≤ t.val) := by
  have ht := t.isLt
  have hs := s.isLt
  have e : ∀ n : ℕ, n < 8192 → (BitVec.ofNat 32 n).toInt = (n : ℤ) := fun n hn => by
    rw [BitVec.toInt_eq_toNat_of_lt (by rw [BitVec.toNat_ofNat, Nat.mod_eq_of_lt (by omega)]; omega), BitVec.toNat_ofNat, Nat.mod_eq_of_lt (by omega)]
  rw [BitVec.sle_eq_decide, e _ hs, e _ ht]
  exact decide_eq_decide.mpr Int.ofNat_le

section
variable (x0 : FVec Ideal S4x8192x1024 .f32) (x1 : FVec Ideal S1024x3584 .bf16) (x4 : FVec Ideal S1x512 .f32) (b : Fin 4)

/-- The reference's products, with zeros where the key's token comes after the query's. -/
theorem ref_masked (h : Fin 4) (t s : Fin 8192) :
    val_main_v42 (F := Ideal) x0 x1 x4 (ix4 b h t s) = if s.val ≤ t.val then val_main_v41 (F := Ideal) x0 x1 x4 (ix4 b h t s) else 0 := by
  have hm : ∀ u : IVec S8192x8192 1, val_main_v40 (F := Ideal) = u →
      val_main_v42 (F := Ideal) x0 x1 x4 (ix4 b h t s) = if u (ix2 t s) = 1#1 then val_main_v41 (F := Ideal) x0 x1 x4 (ix4 b h t s) else 0 := by
    intro u hu
    unfold val_main_v42 val_main_call1_v2 val_main_call1_v1 val_main_call1_v0 val_main_cst_3
    rw [hu]
    generalize val_main_v41 (F := Ideal) x0 x1 x4 = y
    have z : constant (F := Ideal) S_ .f32 0x00000000#32 ix0 = (0 : EReal) := by pointwise
    pointwise
    exact congrArg (fun z : EReal => if u (ix2 t s) = 1#1 then y (ix4 b h t s) else z) z
  rw [hm _ rfl]
  have e : val_main_v40 (F := Ideal) (ix2 t s) = BitVec.ofBool (decide (s.val ≤ t.val)) := congrArg BitVec.ofBool (sle_places t s)
  rw [e]
  by_cases hle : s.val ≤ t.val
  · rw [decide_eq_true hle, if_pos hle]; rfl
  · rw [decide_eq_false hle, if_neg hle]; rfl

/-- The reference's values of the recurrence, by head. -/
theorem ref_vhead (s : Fin 8192) (h : Fin 4) (k : Fin 128) :
    val_main_v43 (F := Ideal) x0 x1 (ix4 b s h k) = proj x0 x1 b s (1024 + (128 * h.val + k.val)) := by
  have hb := b.isLt
  have hs := s.isLt
  have hh := h.isLt
  have hk := k.isLt
  have hi : idx_main_v43 (ix4 b s h k) = ix3 b s ⟨128 * h.val + k.val, by omega⟩ := by
    funext a; apply Fin.ext
    match a with
    | ⟨0, _⟩ => show (((b.val * 8192 + s.val) * 4 + h.val) * 128 + k.val) / 4194304 = b.val; omega
    | ⟨1, _⟩ => show (((b.val * 8192 + s.val) * 4 + h.val) * 128 + k.val) / 512 % 8192 = s.val; omega
    | ⟨2, _⟩ => show (((b.val * 8192 + s.val) * 4 + h.val) * 128 + k.val) % 512 = 128 * h.val + k.val; omega
  rw [val_main_v43_apply, hi, ref_v]

/-- What a token of the reference reads from the tokens up to it. -/
theorem ref_read (H : RealArgs x0 x1 x4) (h : Fin 4) (j : Fin 128) (t : Fin 8192) :
    val_main_v45 (F := Ideal) x0 x1 x4 (ix4 b t h j)
      = ((outW (seqL x0 x1 x4 b) (seqQ x0 x1 b) (seqK x0 x1 x4 b) (seqV x0 x1 b) h.val t.val j.val : ℝ) : EReal) := by
  have ht := t.isLt
  have e45 : val_main_v45 (F := Ideal) x0 x1 x4 (ix4 b t h j) = val_main_v44 (F := Ideal) x0 x1 x4 (ix4 b h j t) := by
    unfold val_main_v45
    generalize val_main_v44 (F := Ideal) x0 x1 x4 = y
    pointwise
  have el : ∀ k : Fin 8192, lidx_main_v44 (ix4 b h j t) k = ix4 b k h j := fun k => by
    funext a; match a with | ⟨0, _⟩ => rfl | ⟨1, _⟩ => rfl | ⟨2, _⟩ => rfl | ⟨3, _⟩ => rfl
  have er : ∀ k : Fin 8192, ridx_main_v44 (ix4 b h j t) k = ix4 b h t k := fun k => by
    funext a; match a with | ⟨0, _⟩ => rfl | ⟨1, _⟩ => rfl | ⟨2, _⟩ => rfl | ⟨3, _⟩ => rfl
  have hv : ∀ k : Fin 8192, proj x0 x1 b k (1024 + (128 * h.val + j.val)) = ((ofHead (seqV x0 x1 b) h.val k.val j.val : ℝ) : EReal) := fun k =>
    seq_coe (f := fun s d => proj x0 x1 b s (1024 + d.val)) (d := ⟨128 * h.val + j.val, by omega⟩) (H.v b k _)
  rw [e45, val_main_v44_apply]
  have hterm : ∀ k : Fin 8192, val_main_v43 (F := Ideal) x0 x1 (lidx_main_v44 (ix4 b h j t) k) * val_main_v42 (F := Ideal) x0 x1 x4 (ridx_main_v44 (ix4 b h j t) k)
      = (((if k.val ≤ t.val then pairW (decay (seqL x0 x1 x4 b) h.val) (ofHead (seqQ x0 x1 b) h.val) (ofHead (seqK x0 x1 x4 b) h.val) t.val k.val * ofHead (seqV x0 x1 b) h.val k.val j.val else 0 : ℝ)) : EReal) := fun k => by
    rw [el, er, ref_vhead, hv, ref_masked, ref_pair x0 x1 x4 H]
    by_cases hle : k.val ≤ t.val
    · rw [if_pos hle, if_pos hle, ← EReal.coe_mul, mul_comm]
    · rw [if_neg hle, if_neg hle, mul_zero, EReal.coe_zero]
  rw [Finset.sum_congr rfl fun k _ => hterm k, ← coe_sum]
  refine congrArg (fun r : ℝ => (r : EReal)) ?_
  unfold outW
  rw [← Finset.sum_range (fun k => if k ≤ t.val then pairW (decay (seqL x0 x1 x4 b) h.val) (ofHead (seqQ x0 x1 b) h.val) (ofHead (seqK x0 x1 x4 b) h.val) t.val k * ofHead (seqV x0 x1 b) h.val k j.val else 0),
    ← Finset.sum_filter]
  refine Finset.sum_congr (Finset.ext fun k => ?_) fun _ _ => rfl
  rw [Finset.mem_filter, Finset.mem_range, Finset.mem_range]
  omega

/-- The reference's rows over their root mean square. -/
theorem ref_norm (t : Fin 8192) (h : Fin 4) (j : Fin 128) (y : FVec Ideal S4x8192x4x128 .f32) (hy : val_main_v45 (F := Ideal) x0 x1 x4 = y) :
    val_main_v55 (F := Ideal) x0 x1 x4 (ix4 b t h j)
      = y (ix4 b t h j) * Ideal.rsqrt (Ideal.div (∑ x : Fin 128, y (ix4 b t h x) * y (ix4 b t h x)) (Ideal.ofBits FTy.f32 1124073472#32) + Ideal.ofBits FTy.f32 897988541#32) := by
  have hs : val_main_v47 (F := Ideal) x0 x1 x4 (ix3 b t h) = ∑ x : Fin 128, y (ix4 b t h x) * y (ix4 b t h x) := by
    rw [val_main_v47_apply]
    have e : ∀ k : Fin 128, idx_main_v47 (ix3 b t h) k = ix4 b t h k := fun k => by
      funext a; match a with | ⟨0, _⟩ => rfl | ⟨1, _⟩ => rfl | ⟨2, _⟩ => rfl | ⟨3, _⟩ => rfl
    have z : val_main_cst_4 (F := Ideal) (Shape.Idx.first h_S_) = 0 := by pointwise [val_main_cst_4]
    rw [z, zero_add]
    refine Finset.sum_congr rfl fun k _ => ?_
    unfold val_main_v46
    rw [hy, e]
    rfl
  have hn : ∀ u : FVec Ideal S4x8192x4 .f32, val_main_v47 (F := Ideal) x0 x1 x4 = u →
      val_main_v55 (F := Ideal) x0 x1 x4 (ix4 b t h j) = y (ix4 b t h j) * Ideal.rsqrt (Ideal.div (u (ix3 b t h)) (Ideal.ofBits FTy.f32 1124073472#32) + Ideal.ofBits FTy.f32 897988541#32) := by
    intro u hu
    unfold val_main_v55 val_main_v54 val_main_v53 val_main_v52 val_main_v51 val_main_cst_6 val_main_v50 val_main_v49 val_main_cst_5 val_main_v48
    rw [hu, hy]
    pointwise
  rw [hn _ rfl, hs]

/-- The reference's first result. -/
theorem ref_h (x6 : FVec Ideal S1x512 .f32) (H : RealArgs x0 x1 x4) (hz : ∀ s (d : Fin 512), IsReal (proj x0 x1 b s (1536 + d.val))) (s : Fin 8192) (d : Fin 512) :
    val_main_v74 (F := Ideal) x0 x1 x4 x6 (ix3 b s d) = resultH x0 x1 x4 x6 (ix3 b s d) := by
  have hb := b.isLt
  have hs := s.isLt
  have hd := d.isLt
  have h : ∀ u v w, val_main_v56 (F := Ideal) x0 x1 x4 = u → val_main_v57 (F := Ideal) x6 = v → val_main_v61 (F := Ideal) x0 x1 = w →
      val_main_v74 (F := Ideal) x0 x1 x4 x6 (ix3 b s d) = (show FVec Ideal S4x8192x512 .f32 from u) (ix3 b s d) * (show FVec Ideal S512 .f32 from v) (ix1 d) * (show FVec Ideal S4x8192x512 .f32 from w) (ix3 b s d) := by
    intro u v w hu hv hw
    unfold val_main_v74 val_main_v62 val_main_v60 val_main_v59 val_main_v58
    rw [hu, hv, hw]
    pointwise
  have e57 : val_main_v57 (F := Ideal) x6 (ix1 d) = x6 (ix2 0 d) := by
    rw [val_main_v57_apply]
    exact congrArg x6 (funext fun a => Fin.ext (by match a with | ⟨0, _⟩ => rfl | ⟨1, _⟩ => exact Nat.mod_eq_of_lt d.isLt))
  have hi : idx_main_v56 (ix3 b s d) = ix4 b s ⟨d.val / 128, by omega⟩ ⟨d.val % 128, Nat.mod_lt _ (by decide)⟩ := by
    funext a; apply Fin.ext
    match a with
    | ⟨0, _⟩ => show ((b.val * 8192 + s.val) * 512 + d.val) / 4194304 = b.val; omega
    | ⟨1, _⟩ => show ((b.val * 8192 + s.val) * 512 + d.val) / 512 % 8192 = s.val; omega
    | ⟨2, _⟩ => show ((b.val * 8192 + s.val) * 512 + d.val) / 128 % 4 = d.val / 128; omega
    | ⟨3, _⟩ => show ((b.val * 8192 + s.val) * 512 + d.val) % 128 = d.val % 128; omega
  refine (h _ _ _ rfl rfl rfl).trans ?_
  show val_main_v56 (F := Ideal) x0 x1 x4 (ix3 b s d) * val_main_v57 (F := Ideal) x6 (ix1 d) * val_main_v61 (F := Ideal) x0 x1 (ix3 b s d) = _
  rw [e57, ref_z, val_main_v56_apply, hi, ref_norm x0 x1 x4 b s _ _ _ rfl, ← silu_eq (hz s d).ne.1 (hz s d).ne.2, ref_read x0 x1 x4 b H]
  unfold resultH normed
  refine congrArg (fun z => _ * Ideal.rsqrt (Ideal.div z _ + _) * _ * _) (Finset.sum_congr rfl fun x _ => ?_)
  rw [ref_read x0 x1 x4 b H]
  rfl

end

end Cert.Hgrn
-- ==== Proof.Hgrn.RefGates.lean ====
/-
  The second part's projections and gates as the reference writes them, and the running sums of the gates' logarithms.
-/
module

public import proofs.«01_k».proof.Proof.Hgrn.RefScan

@[expose] public section

set_option maxRecDepth 16384

noncomputable section

open Idealize.ShloMosaic
open Cert.Reference5Ideal Cert.Reference5Ideal.Gen Cert.Reference5Ideal.Read
open Cert.Inproj (dot siluT sigmoidT sigmoidH sigmoid_eq silu_eq IsReal logSig logSigH logSig_eq)

namespace Cert.Hgrn

variable (x0 : FVec Ideal S4x8192x1024 .f32) (x1 : FVec Ideal S1024x3584 .bf16) (x2 : FVec Ideal S1024x512 .bf16)
  (x3 : FVec Ideal S8x1024 .bf16) (x5 : FVec Ideal S4 .f32) (b : Fin 4) (s : Fin 8192)

/-- The reference's queries. -/
theorem ref_queries (d : Fin 512) : val_main_v77 (F := Ideal) x0 x1 (ix3 b s d) = resultQ x0 x1 (ix3 b s d) := by
  have h : val_main_v77 (F := Ideal) x0 x1 (ix3 b s d) = val_main_v1 (F := Ideal) x0 x1 (ix3 b s ⟨2048 + d.val, by omega⟩) * qScale := by
    unfold val_main_v77 val_main_v76 val_main_v75 val_main_cst_7 val_main_v6
    generalize val_main_v1 (F := Ideal) x0 x1 = y
    pointwise
    rfl
  rw [h, ref_proj]
  rfl

/-- The reference's keys. -/
theorem ref_keys (d : Fin 512) : val_main_v78 (F := Ideal) x0 x1 (ix3 b s d) = resultK x0 x1 (ix3 b s d) := by
  have h : val_main_v78 (F := Ideal) x0 x1 (ix3 b s d) = val_main_v1 (F := Ideal) x0 x1 (ix3 b s ⟨2560 + d.val, by omega⟩) := by
    unfold val_main_v78 val_main_v7
    generalize val_main_v1 (F := Ideal) x0 x1 = y
    pointwise
  rw [h, ref_proj]
  rfl

/-- The reference's values. -/
theorem ref_values (d : Fin 512) : val_main_v79 (F := Ideal) x0 x1 (ix3 b s d) = resultV x0 x1 (ix3 b s d) := by
  have h : val_main_v79 (F := Ideal) x0 x1 (ix3 b s d) = val_main_v1 (F := Ideal) x0 x1 (ix3 b s ⟨3072 + d.val, by omega⟩) := by
    unfold val_main_v79 val_main_v8
    generalize val_main_v1 (F := Ideal) x0 x1 = y
    pointwise
  rw [h, ref_proj]
  rfl

/-- The reference's projection onto the output gates. -/
theorem ref_proj_b (d : Fin 512) : val_main_v10 (F := Ideal) x0 x2 (ix3 b s d) = projB x0 x2 b s (0 + d.val) := by
  rw [Nat.zero_add]
  pointwise [val_main_v9, val_main_v10]
  refine Finset.sum_congr rfl fun e _ => congrArg (fun k => x0 (ix3 b s e) * x2 (ix2 e k)) (Fin.ext ?_)
  exact (Nat.mod_eq_of_lt d.isLt).symm

/-- The reference's output gates. -/
theorem ref_ogates (hz : ∀ d : Fin 512, IsReal (projB x0 x2 b s (0 + d.val))) (d : Fin 512) :
    val_main_v81 (F := Ideal) x0 x2 (ix3 b s d) = resultZ x0 x2 (ix3 b s d) := by
  have h : val_main_v81 (F := Ideal) x0 x2 (ix3 b s d) = val_main_v10 (F := Ideal) x0 x2 (ix3 b s d) * sigmoidH (val_main_v10 (F := Ideal) x0 x2 (ix3 b s d)) := by
    unfold val_main_v81 val_main_v80 val_main_call6_v5 val_main_call6_v4 val_main_call6_cst_0 val_main_call6_v3 val_main_call6_v2 val_main_call6_cst val_main_call6_v1 val_main_call6_v0
    generalize val_main_v10 (F := Ideal) x0 x2 = y
    pointwise
    rfl
  rw [h, ref_proj_b, ← silu_eq (hz d).ne.1 (hz d).ne.2]
  rfl

/-- The reference's gates. -/
theorem ref_gate (g : Fin 8) : val_main_v68 (F := Ideal) x0 x3 x5 (ix3 b s g) = (∑ e, x3 (ix2 g e) * x0 (ix3 b s e)) + bias x5 g := by
  have h : ∀ u : FVec Ideal S8 .f32, val_main_v65 (F := Ideal) x5 = u →
      val_main_v68 (F := Ideal) x0 x3 x5 (ix3 b s g) = (∑ e, x0 (ix3 b s e) * x3 (ix2 g e)) + u (ix1 g) := by
    intro u hu
    unfold val_main_v68 val_main_v67 val_main_v66
    rw [hu]
    pointwise [val_main_v64, val_main_v63]
  have hp : val_main_v65 (F := Ideal) x5 (ix1 g) = bias x5 g := by
    pointwise [val_main_v65, val_main_call3_v0, val_main_c]
    unfold bias
    by_cases h4 : g.val < 4
    · rw [dif_pos h4, dif_pos h4]
    · rw [dif_neg h4, dif_neg h4]
      show (((0#32).toInt : ℝ) : EReal) = 0
      simp
  rw [h _ rfl, hp]
  exact congrArg (· + _) (Finset.sum_congr rfl fun e _ => mul_comm _ _)

/-- The reference's logarithms of the gates' sigmoids. -/
theorem ref_log (g : Fin 8) : val_main_v70 (F := Ideal) x0 x3 x5 (ix3 b g s) = gateSeq x0 b x3 x5 g s.val := by
  have h : val_main_v70 (F := Ideal) x0 x3 x5 (ix3 b g s) = logSigH (val_main_v68 (F := Ideal) x0 x3 x5 (ix3 b s g)) := by
    unfold val_main_v70 val_main_v69 val_main_call4_v1 val_main_call4_call0_v11 val_main_call4_call0_v10 val_main_call4_call0_v9 val_main_call4_call0_v8 val_main_call4_call0_v7 val_main_call4_call0_v6 val_main_call4_call0_v5 val_main_call4_call0_v4 val_main_call4_call0_v3 val_main_call4_call0_v2 val_main_call4_call0_v1 val_main_call4_call0_v0 val_main_call4_call0_cst val_main_call4_v0
    generalize val_main_v68 (F := Ideal) x0 x3 x5 = y
    pointwise
    rw [if_neg (not_not.mpr rfl)]
    rfl
  rw [h, ref_gate, ← logSig_eq]
  unfold gateSeq
  have e : (⟨s.val % 8192, Nat.mod_lt _ (by decide)⟩ : Fin 8192) = s := Fin.ext (Nat.mod_eq_of_lt s.isLt)
  rw [e]

/-- The reference's running sums of the gates. -/
theorem ref_sums (h : Fin 32) (g : Fin 8) (j : Fin 256) :
    val_main_v73 (F := Ideal) x0 x3 x5 (ix4 b h g j) = resultC x0 x3 x5 (ix4 b h g j) := by
  have hb := b.isLt
  have hh := h.isLt
  have hg := g.isLt
  have hj := j.isLt
  have e : val_main_v73 (F := Ideal) x0 x3 x5 (ix4 b h g j) = val_main_v72 (F := Ideal) x0 x3 x5 (ix4 b g h j) := by
    unfold val_main_v73
    generalize val_main_v72 (F := Ideal) x0 x3 x5 = y
    pointwise
  have hi : idx_main_v72 (ix4 b g h j) = ix3 b g ⟨256 * h.val + j.val, by omega⟩ := by
    funext a; apply Fin.ext
    match a with
    | ⟨0, _⟩ => show (((b.val * 8 + g.val) * 32 + h.val) * 256 + j.val) / 65536 = b.val; omega
    | ⟨1, _⟩ => show (((b.val * 8 + g.val) * 32 + h.val) * 256 + j.val) / 8192 % 8 = g.val; omega
    | ⟨2, _⟩ => show (((b.val * 8 + g.val) * 32 + h.val) * 256 + j.val) % 8192 = 256 * h.val + j.val; omega
  rw [e, val_main_v72_apply, hi]
  unfold val_main_v71
  refine (running_lanes _ _ (fun i => ?_) b g (gateSeq x0 b x3 x5 g) (fun s => ref_log x0 x3 x5 b s g) _).trans rfl
  pointwise [val_main_call5_call0_v0, val_main_call5_call0_cst]

end Cert.Hgrn
-- ==== Proof.Hgrn.Value.lean ====
/-
  The first layer's input projection and recurrence: its value claim.
-/
module

public import proofs.«01_k».proof.Proof.Hgrn.Finite
public import proofs.«01_k».proof.Proof.Hgrn.Arrays
public import proofs.«01_k».proof.Proof.Hgrn.RefOut
public import proofs.«01_k».proof.Proof.Hgrn.RefGates
public import proofs.«01_k».proof.Proof.Gen.Reference5Ideal.Run

@[expose] public section

set_option maxRecDepth 16384

noncomputable section

open Idealize.ShloMosaic Idealize.ShloMosaic.TcCoe Idealize.SL.Sem
open Cert.Reference5Ideal.Read
open Cert.Inproj (IsReal)

namespace Cert.Hgrn

/-- The precondition, of the kernel's arguments. -/
theorem pre_real {m : (ℓ : Loc Cert.Kernel5Ideal.nD Cert.Kernel5Ideal.τ Cert.Kernel5Ideal.sig) → Buf (Elt Ideal) ℓ} (hpre : Cert.Pre_Kernel5Ideal_finite5 m) (c : Dev Cert.Kernel5Ideal.nD) :
    RealArgs (a0 m c) (a1 m c) (a4 m c) ∧ (∀ b s (d : Fin 512), IsReal (proj (a0 m c) (a1 m c) b s (1536 + d.val)))
      ∧ (∀ b s (d : Fin 512), IsReal (projB (a0 m c) (a2 m c) b s (0 + d.val))) := by
  obtain ⟨p0, p1, p2, p4⟩ := hpre c
  have r0 := tokens_real _ _ _ _ _ _ _ p0
  have r1 := weights_real _ _ _ _ _ _ _ p1
  exact ⟨realArgs r0 r1 (bounds_nonneg _ _ _ _ _ _ _ p4), fun b s d => proj_real r0 r1 b s _ (by omega),
    fun b s d => projB_real r0 (gate_weights_real _ _ _ _ _ _ _ p2) b s _⟩

/-- With real tokens and weights and with lower bounds that are not negative, the kernel's six results are the reference's. -/
theorem value : Cert.algebraic_Kernel5Ideal_Reference5Ideal_pre_finite5 := by
  intro m g m' g' hpre hargs
  refine ⟨fun c => resultH (a0 m c) (a1 m c) (a4 m c) (a6 m c), fun c => resultQ (a0 m c) (a1 m c), fun c => resultK (a0 m c) (a1 m c),
    fun c => resultV (a0 m c) (a1 m c), fun c => resultZ (a0 m c) (a2 m c), fun c => resultC (a0 m c) (a3 m c) (a5 m c), ?_, ?_⟩
  · refine (θ_run Cert.Kernel5Ideal.defs _ _).mono (fun r h c => ?_) (Cert.Kernel5Ideal.Value.run_blocks m g)
    obtain ⟨o, q, k, v, z, w, rest⟩ := h c
    exact ⟨o.trans (final7 m c (pre_real hpre c).1), q.trans (final8 m c), k.trans (final9 m c), v.trans (final10 m c), z.trans (final11 m c), w.trans (final12 m c), rest⟩
  · refine (θ_run Cert.Reference5Ideal.defs _ _).mono (fun r h c => ?_) (Cert.Reference5Ideal.Value.run m' g')
    obtain ⟨o, q, k, v, z, w, rest⟩ := h c
    obtain ⟨h0, h1, h2, h3, h4, h5, h6⟩ := hargs c
    obtain ⟨H, hz, hb⟩ := pre_real hpre c
    refine ⟨o.trans ((val_main_v74_eq m' c).trans ?_), q.trans ((val_main_v77_eq _ _).trans ?_), k.trans ((val_main_v78_eq _ _).trans ?_),
      v.trans ((val_main_v79_eq _ _).trans ?_), z.trans ((val_main_v81_eq _ _).trans ?_), w.trans ((val_main_v73_eq _ _ _).trans ?_), rest⟩
    · rw [h0, h1, h4, h6]
      funext i
      obtain ⟨b, s, d, rfl⟩ : ∃ (b : Fin 4) (s : Fin 8192) (d : Fin 512), i = ix3 b s d := ⟨i 0, i 1, i 2, eq_ix3 i⟩
      exact ref_h _ _ _ b _ H (hz b) s d
    · rw [h0, h1]
      funext i
      obtain ⟨b, s, d, rfl⟩ : ∃ (b : Fin 4) (s : Fin 8192) (d : Fin 512), i = ix3 b s d := ⟨i 0, i 1, i 2, eq_ix3 i⟩
      exact ref_queries _ _ b s d
    · rw [h0, h1]
      funext i
      obtain ⟨b, s, d, rfl⟩ : ∃ (b : Fin 4) (s : Fin 8192) (d : Fin 512), i = ix3 b s d := ⟨i 0, i 1, i 2, eq_ix3 i⟩
      exact ref_keys _ _ b s d
    · rw [h0, h1]
      funext i
      obtain ⟨b, s, d, rfl⟩ : ∃ (b : Fin 4) (s : Fin 8192) (d : Fin 512), i = ix3 b s d := ⟨i 0, i 1, i 2, eq_ix3 i⟩
      exact ref_values _ _ b s d
    · rw [h0, h2]
      funext i
      obtain ⟨b, s, d, rfl⟩ : ∃ (b : Fin 4) (s : Fin 8192) (d : Fin 512), i = ix3 b s d := ⟨i 0, i 1, i 2, eq_ix3 i⟩
      exact ref_ogates _ _ b s (hb b s) d
    · rw [h0, h3, h5]
      funext i
      obtain ⟨b, h, g, j, rfl⟩ : ∃ (b : Fin 4) (h : Fin 32) (g : Fin 8) (j : Fin 256), i = ix4 b h g j := ⟨i 0, i 1, i 2, i 3, eq_ix4 i⟩
      exact ref_sums _ _ _ b h g j

end Cert.Hgrn
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Fox.Value
public import proofs.«01_k».proof.Proof.Norm.Out2
public import proofs.«01_k».proof.Proof.Norm.Out3
public import proofs.«01_k».proof.Proof.Inproj.Value
public import proofs.«01_k».proof.Proof.Hgrn.Value
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Fox.finite_facts, Cert.Inproj.finite_facts, Cert.Hgrn.finite_facts,
    fun m g _ => Cert.Kernel.Gen.frame m g,
    fun m g _ => Cert.KernelIdeal.Gen.frame m g,
    fun m g _ => Cert.KernelIdeal.Gen.frame m g,
    fun m g _ => (θ_run Cert.ReferenceIdeal.defs _ _).mono
      (fun _ h => ⟨fun c => (h c).2, sem_eq_zero_of_no_sems rfl _⟩) (Cert.ReferenceIdeal.Value.run m g),
    fun m g _ => (θ_run Cert.ReferenceIdeal.defs _ _).mono
      (fun _ h => ⟨fun c => (h c).2, sem_eq_zero_of_no_sems rfl _⟩) (Cert.ReferenceIdeal.Value.run m g),
    fun m g _ => Cert.Kernel2.Gen.frame m g,
    fun m g _ => Cert.Kernel2Ideal.Gen.frame m g,
    fun m g _ => (θ_run Cert.Reference2Ideal.defs _ _).mono
      (fun _ h => ⟨fun c => (h c).2, sem_eq_zero_of_no_sems rfl _⟩) (Cert.Reference2Ideal.Value.run m g),
    fun m g _ => Cert.Kernel3.Gen.frame m g,
    fun m g _ => Cert.Kernel3Ideal.Gen.frame m g,
    fun m g _ => (θ_run Cert.Reference3Ideal.defs _ _).mono
      (fun _ h => ⟨fun c => (h c).2, sem_eq_zero_of_no_sems rfl _⟩) (Cert.Reference3Ideal.Value.run m g),
    fun m g _ => Cert.Kernel4.Gen.frame m g,
    fun m g _ => Cert.Kernel4Ideal.Gen.frame m g,
    fun m g _ => Cert.Kernel4Ideal.Gen.frame m g,
    fun m g _ => (θ_run Cert.Reference4Ideal.defs _ _).mono
      (fun _ h => ⟨fun c => (h c).2.2.2.2.2.2, sem_eq_zero_of_no_sems rfl _⟩) (Cert.Reference4Ideal.Value.run m g),
    fun m g _ => (θ_run Cert.Reference4Ideal.defs _ _).mono
      (fun _ h => ⟨fun c => (h c).2.2.2.2.2.2, sem_eq_zero_of_no_sems rfl _⟩) (Cert.Reference4Ideal.Value.run m g),
    fun m g _ => Cert.Kernel5.Gen.frame m g,
    fun m g _ => Cert.Kernel5Ideal.Gen.frame m g,
    fun m g _ => Cert.Kernel5Ideal.Gen.frame m g,
    fun m g _ => (θ_run Cert.Reference5Ideal.defs _ _).mono
      (fun _ h => ⟨fun c => (h c).2.2.2.2.2.2, sem_eq_zero_of_no_sems rfl _⟩) (Cert.Reference5Ideal.Value.run m g),
    fun m g _ => (θ_run Cert.Reference5Ideal.defs _ _).mono
      (fun _ h => ⟨fun c => (h c).2.2.2.2.2.2, sem_eq_zero_of_no_sems rfl _⟩) (Cert.Reference5Ideal.Value.run m g),
    IdealRules.named_const.statement Cert.KernelIdeal.κ "log2e" .f32 0x3FB8AA3B#32 (((Real.log 2)⁻¹ : ℝ) : EReal) rfl,
    Cert.Fox.value,
    trivial, Cert.Norm.Out2.value,
    trivial, Cert.Norm.Out3.value,
    trivial, Cert.Inproj.value,
    trivial, Cert.Hgrn.value⟩

end Cert.Proof

end
